-- ==== Defs.lean ====
def Pre_Kernel [hPre_addressable : Cert.Pre_addressable.Facts] (m : (ℓ : Loc Cert.Kernel.nD Cert.Kernel.τ Cert.Kernel.sig) → Buf (Elt Bits) ℓ) : Prop :=
  ∀ c : Dev Cert.Kernel.nD,
    (Cert.Pre_addressable.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).1 = (fun _ => 1#1)
    ∧ (Cert.Pre_addressable.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2 = (fun _ => 1#1)

def Pre_KernelIdeal [hPre_addressable : Cert.Pre_addressable.Facts] (m : (ℓ : Loc Cert.KernelIdeal.nD Cert.KernelIdeal.τ Cert.KernelIdeal.sig) → Buf (Elt Ideal) ℓ) : Prop :=
  ∀ c : Dev Cert.KernelIdeal.nD,
    (Cert.Pre_addressable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_addressable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_addressable [hPre_addressable : Cert.Pre_addressable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_addressable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_addressable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2 = (fun _ => 1#1)

def quiescent_Kernel [hKernel : Cert.Kernel.Facts] [hPre_addressable : Cert.Pre_addressable.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_addressable : Cert.Pre_addressable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_addressable [hReferenceIdeal : Cert.ReferenceIdeal.Facts] [hPre_addressable : Cert.Pre_addressable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_addressable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_addressable : Cert.Pre_addressable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_addressable : Cert.Pre_addressable.Facts),
    quiescent_Kernel (hKernel := hKernel) (hPre_addressable := hPre_addressable)
    ∧ quiescent_KernelIdeal (hKernelIdeal := hKernelIdeal) (hPre_addressable := hPre_addressable)
    ∧ quiescent_ReferenceIdeal (hReferenceIdeal := hReferenceIdeal)
    ∧ quiescent_ReferenceIdeal_pre_addressable (hReferenceIdeal := hReferenceIdeal) (hPre_addressable := hPre_addressable)
    ∧ preserves_Kernel_KernelIdeal
    ∧ algebraic_KernelIdeal_ReferenceIdeal (hKernelIdeal := hKernelIdeal) (hReferenceIdeal := hReferenceIdeal) (hPre_addressable := hPre_addressable)
-- ==== Pre_addressable.lean ====
abbrev S64x1x32x512 : Shape := ⟨4, ![64, 1, 32, 512]⟩
abbrev S64x1x32x64 : Shape := ⟨4, ![64, 1, 32, 64]⟩
abbrev S2560x64x512 : Shape := ⟨3, ![2560, 64, 512]⟩
abbrev S2560x64 : Shape := ⟨2, ![2560, 64]⟩
abbrev S2560x64x64 : Shape := ⟨3, ![2560, 64, 64]⟩
abbrev S64x32 : Shape := ⟨2, ![64, 32]⟩
abbrev S64 : Shape := ⟨1, ![64]⟩
abbrev S64x1x512 : Shape := ⟨3, ![64, 1, 512]⟩
abbrev S64x1 : Shape := ⟨2, ![64, 1]⟩
abbrev S64x1x64 : Shape := ⟨3, ![64, 1, 64]⟩
abbrev S_ : Shape := ⟨0, ![]⟩

class Facts : Prop where
  bcast_S_S64x32 : S_.BroadcastsInDim S64x32 (![] : Fin 0 → Fin S64x32.rank)
  bcast_S_S64 : S_.BroadcastsInDim S64 (![] : Fin 0 → Fin S64.rank)

variable [Facts]

def fn {F : FTy → Type} [FloatOps F] (main_arg0 : FVec F S64x1x32x512 .bf16) (main_arg1 : FVec F S64x1x32x64 .bf16) (main_arg2 : FVec F S2560x64x512 .fp8e4m3) (main_arg3 : FVec F S2560x64 .f32) (main_arg4 : FVec F S2560x64x64 .bf16) (main_arg5 : IVec S64x32 32) (main_arg6 : IVec S64 32) (main_arg7 : FVec F S64x1x512 .fp8e4m3) (main_arg8 : FVec F S64x1 .f32) (main_arg9 : FVec F S64x1x64 .bf16) : IVec S64x32 1 × IVec S64 1 :=
  let main_c : IVec S_ 32 := constantI S_ 32 0#32
  let main_v0 : IVec S64x32 32 := broadcastInDim S64x32 ![] bcast_S_S64x32 main_c
  let main_v1 : IVec S64x32 1 := cmpi .sge main_arg5 main_v0
  let main_c_0 : IVec S_ 32 := constantI S_ 32 2560#32
  let main_v2 : IVec S64x32 32 := broadcastInDim S64x32 ![] bcast_S_S64x32 main_c_0
  let main_v3 : IVec S64x32 1 := cmpi .slt main_arg5 main_v2
  let main_v4 : IVec S64x32 1 := andi main_v1 main_v3
  let main_c_1 : IVec S_ 32 := constantI S_ 32 2048#32
  let main_v5 : IVec S64 32 := broadcastInDim S64 ![] bcast_S_S64 main_c_1
  let main_v6 : IVec S64 1 := cmpi .sle main_arg6 main_v5
  (main_v4, main_v6)
-- ==== Kernel.lean ====
abbrev S64x1x32x512 : Shape := ⟨4, ![64, 1, 32, 512]⟩
abbrev S64x1x32x64 : Shape := ⟨4, ![64, 1, 32, 64]⟩
abbrev S2560x64x512 : Shape := ⟨3, ![2560, 64, 512]⟩
abbrev S2560x64 : Shape := ⟨2, ![2560, 64]⟩
abbrev S2560x64x64 : Shape := ⟨3, ![2560, 64, 64]⟩
abbrev S64x32 : Shape := ⟨2, ![64, 32]⟩
abbrev S64 : Shape := ⟨1, ![64]⟩
abbrev S64x1x512 : Shape := ⟨3, ![64, 1, 512]⟩
abbrev S64x1 : Shape := ⟨2, ![64, 1]⟩
abbrev S64x1x64 : Shape := ⟨3, ![64, 1, 64]⟩
abbrev S64x32x512 : Shape := ⟨3, ![64, 32, 512]⟩
abbrev S64x32x64 : Shape := ⟨3, ![64, 32, 64]⟩
abbrev S64x1x32 : Shape := ⟨3, ![64, 1, 32]⟩
abbrev S32x256x512 : Shape := ⟨3, ![32, 256, 512]⟩
abbrev S32x256x64 : Shape := ⟨3, ![32, 256, 64]⟩
abbrev S32x128 : Shape := ⟨2, ![32, 128]⟩
abbrev S32x512 : Shape := ⟨2, ![32, 512]⟩
abbrev S32 : Shape := ⟨1, ![32]⟩
abbrev S3 : Shape := ⟨1, ![3]⟩
abbrev S_ : Shape := ⟨0, ![]⟩
abbrev S1 : Shape := ⟨1, ![1]⟩
abbrev S1x1 : Shape := ⟨2, ![1, 1]⟩
abbrev S1x64x512 : Shape := ⟨3, ![1, 64, 512]⟩
abbrev S64x512 : Shape := ⟨2, ![64, 512]⟩
abbrev S1x64x64 : Shape := ⟨3, ![1, 64, 64]⟩
abbrev S64x64 : Shape := ⟨2, ![64, 64]⟩
abbrev S1x32x512 : Shape := ⟨3, ![1, 32, 512]⟩
abbrev S1x32x64 : Shape := ⟨3, ![1, 32, 64]⟩
abbrev S32x64 : Shape := ⟨2, ![32, 64]⟩
abbrev S1x1x512 : Shape := ⟨3, ![1, 1, 512]⟩
abbrev S1x512 : Shape := ⟨2, ![1, 512]⟩
abbrev S32x1 : Shape := ⟨2, ![32, 1]⟩
abbrev S1x1x64 : Shape := ⟨3, ![1, 1, 64]⟩
abbrev S1x64 : Shape := ⟨2, ![1, 64]⟩
abbrev S1x256x512 : Shape := ⟨3, ![1, 256, 512]⟩
abbrev S256x512 : Shape := ⟨2, ![256, 512]⟩
abbrev S32x256 : Shape := ⟨2, ![32, 256]⟩
abbrev S1x256x64 : Shape := ⟨3, ![1, 256, 64]⟩
abbrev S256x64 : Shape := ⟨2, ![256, 64]⟩
abbrev S1x256 : Shape := ⟨2, ![1, 256]⟩
abbrev S1x32 : Shape := ⟨2, ![1, 32]⟩
abbrev S1x1x32 : Shape := ⟨3, ![1, 1, 32]⟩

abbrev nBuf : Space → Nat
  | .hbm => 14
  | .vmem => 12
  | .smem => 3
  | _ => 0

abbrev bufTy : (tb : Table) → Fin (tcTables nBuf tb) → BufTy
  | .hbm, ⟨0, _⟩ => ⟨S64x1x32x512, .bf16⟩
  | .hbm, ⟨1, _⟩ => ⟨S64x1x32x64, .bf16⟩
  | .hbm, ⟨2, _⟩ => ⟨S2560x64x512, .fp8e4m3⟩
  | .hbm, ⟨3, _⟩ => ⟨S2560x64, .f32⟩
  | .hbm, ⟨4, _⟩ => ⟨S2560x64x64, .bf16⟩
  | .hbm, ⟨5, _⟩ => ⟨S64x32, .i32⟩
  | .hbm, ⟨6, _⟩ => ⟨S64, .i32⟩
  | .hbm, ⟨7, _⟩ => ⟨S64x1x512, .fp8e4m3⟩
  | .hbm, ⟨8, _⟩ => ⟨S64x1, .f32⟩
  | .hbm, ⟨9, _⟩ => ⟨S64x1x64, .bf16⟩
  | .hbm, ⟨10, _⟩ => ⟨S64x32x512, .bf16⟩
  | .hbm, ⟨11, _⟩ => ⟨S64x32x64, .bf16⟩
  | .hbm, ⟨12, _⟩ => ⟨S64x1x32x512, .bf16⟩
  | .hbm, ⟨13, _⟩ => ⟨S64x1x32, .f32⟩
  | .local _ .vmem, ⟨0, _⟩ => ⟨S64x1x512, .fp8e4m3⟩
  | .local _ .vmem, ⟨1, _⟩ => ⟨S64x1x64, .bf16⟩
  | .local _ .vmem, ⟨2, _⟩ => ⟨S64x1x32, .f32⟩
  | .local _ .vmem, ⟨3, _⟩ => ⟨S64x32x512, .bf16⟩
  | .local _ .vmem, ⟨4, _⟩ => ⟨S64x32x64, .bf16⟩
  | .local _ .vmem, ⟨5, _⟩ => ⟨S2560x64, .f32⟩
  | .local _ .vmem, ⟨6, _⟩ => ⟨S32x256x512, .fp8e4m3⟩
  | .local _ .vmem, ⟨7, _⟩ => ⟨S32x256x64, .bf16⟩
  | .local _ .vmem, ⟨8, _⟩ => ⟨S64x32x512, .bf16⟩
  | .local _ .vmem, ⟨9, _⟩ => ⟨S32x128, .f32⟩
  | .local _ .vmem, ⟨10, _⟩ => ⟨S32x128, .f32⟩
  | .local _ .vmem, ⟨11, _⟩ => ⟨S32x512, .f32⟩
  | .local _ .smem, ⟨0, _⟩ => ⟨S64x32, .i32⟩
  | .local _ .smem, ⟨1, _⟩ => ⟨S64, .i32⟩
  | .local _ .smem, ⟨2, _⟩ => ⟨S64x1, .f32⟩
  | _, _ => ⟨S64x1x32x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32_2 : BitVec 32 := 0#32
  let c32_i32 : BitVec 32 := 32#32
  let v6 : BitVec 32 := Scalar.addi c0_i32_2 c32_i32
  let c1_i32_3 : BitVec 32 := 1#32
  ⟨c0_i32_2, v6, c1_i32_3⟩
def k0_off1 (arg26 : BitVec 32) : Fin 1 → Nat :=
  let v37 : Index := Scalar.indexCast arg26
  ![v37.toNat]
def k0_cond1 (arg26 : BitVec 32) : BitVec 1 :=
  let c64_i32 : BitVec 32 := 64#32
  let v19 : BitVec 1 := Scalar.cmpi .slt arg26 c64_i32
  let v20 : BitVec 32 := Scalar.extui v19
  let c0_i32_19 : BitVec 32 := 0#32
  let v21 : BitVec 1 := Scalar.cmpi .ne v20 c0_i32_19
  v21

def k0_off2 (arg26 : BitVec 32) (arg27 : BitVec 32) : Fin 2 → Nat :=
  let v76 : Index := Scalar.indexCast arg26
  let c4_i32_43 : BitVec 32 := 4#32
  let v74 : BitVec 32 := Scalar.muli arg27 c4_i32_43
  let c0_i32_44 : BitVec 32 := 0#32
  let v75 : BitVec 32 := Scalar.addi v74 c0_i32_44
  let v77 : Index := Scalar.indexCast v75
  ![v76.toNat, v77.toNat]
def k0_cond2 (k0_t1 : Fin k0_t1_loop.trips) (arg27 : BitVec 32) (v38 : BitVec 32) : BitVec 1 :=
  let c4_i32 : BitVec 32 := 4#32
  let v34 : BitVec 32 := Scalar.muli arg27 c4_i32
  let c0_i32_25 : BitVec 32 := 0#32
  let v35 : BitVec 32 := Scalar.addi v34 c0_i32_25
  let c64_i32_26 : BitVec 32 := 64#32
  let v36 : BitVec 32 := Scalar.muli v35 c64_i32_26
  let v39 : BitVec 1 := Scalar.cmpi .slt v36 v38
  let c0_i32_2 : BitVec 32 := 0#32
  let c1_i32_3 : BitVec 32 := 1#32
  let arg25 : BitVec 32 := Scf.iv c0_i32_2 c1_i32_3 k0_t1
  let c32_i32_27 : BitVec 32 := 32#32
  let v40 : BitVec 1 := Scalar.cmpi .slt arg25 c32_i32_27
  let v41 : BitVec 1 := Scalar.ori v39 v40
  let v42 : BitVec 32 := Scalar.extui v41
  let c0_i32_28 : BitVec 32 := 0#32
  let v43 : BitVec 1 := Scalar.cmpi .ne v42 c0_i32_28
  v43

def k0_chk2 (k0_t1 : Fin k0_t1_loop.trips) (arg26 : BitVec 32) (arg27 : BitVec 32) (v38 : BitVec 32) : Prop :=
  (∀ (k0_h1 : k0_cond1 arg26 = 1#1), ∀ (k0_h2 : k0_cond2 k0_t1 arg27 v38 = 1#1), ∀ a, (k0_off2 arg26 arg27) a + S1x1.size a ≤ S64x32.size a)
theorem k0_off2_inb : ∀ (k0_t1 : Fin k0_t1_loop.trips) (arg26 : BitVec 32) (arg27 : BitVec 32) (v38 : BitVec 32) (k0_hw2 : k0_chk2 k0_t1 arg26 arg27 v38), ∀ (k0_h1 : k0_cond1 arg26 = 1#1), ∀ (k0_h2 : k0_cond2 k0_t1 arg27 v38 = 1#1), ∀ a, (k0_off2 arg26 arg27) a + S1x1.size a ≤ S64x32.size a := fun k0_t1 arg26 arg27 v38 k0_hw2 k0_h1 k0_h2 => k0_hw2 k0_h1 k0_h2

def k0_off3 (k0_t1 : Fin k0_t1_loop.trips) : Fin 1 → Nat :=
  let c0_i32_2 : BitVec 32 := 0#32
  let c1_i32_3 : BitVec 32 := 1#32
  let arg25 : BitVec 32 := Scf.iv c0_i32_2 c1_i32_3 k0_t1
  let c32_i32_24 : BitVec 32 := 32#32
  let v33 : BitVec 32 := Scalar.remsi arg25 c32_i32_24
  ![v33.toNat]
def k0_off4 (k0_t1 : Fin k0_t1_loop.trips) : Fin 3 → Nat :=
  let c0_i32_2 : BitVec 32 := 0#32
  let c1_i32_3 : BitVec 32 := 1#32
  let arg25 : BitVec 32 := Scf.iv c0_i32_2 c1_i32_3 k0_t1
  let c32_i32_24 : BitVec 32 := 32#32
  let v33 : BitVec 32 := Scalar.remsi arg25 c32_i32_24
  let c0_i32_45 : BitVec 32 := 0#32
  let c0_i32_46 : BitVec 32 := 0#32
  ![v33.toNat, 0, 0]
def k0_off5 (v78 : BitVec 32) : Fin 3 → Nat :=
  let c0_i32_47 : BitVec 32 := 0#32
  let c0_i32_48 : BitVec 32 := 0#32
  ![v78.toNat, 0, 0]

def k0_off6 (k0_t1 : Fin k0_t1_loop.trips) : Fin 1 → Nat :=
  let c0_i32_2 : BitVec 32 := 0#32
  let c1_i32_3 : BitVec 32 := 1#32
  let arg25 : BitVec 32 := Scf.iv c0_i32_2 c1_i32_3 k0_t1
  let c32_i32_24 : BitVec 32 := 32#32
  let v33 : BitVec 32 := Scalar.remsi arg25 c32_i32_24
  ![v33.toNat]
def k0_off7 (k0_t1 : Fin k0_t1_loop.trips) : Fin 3 → Nat :=
  let c0_i32_2 : BitVec 32 := 0#32
  let c1_i32_3 : BitVec 32 := 1#32
  let arg25 : BitVec 32 := Scf.iv c0_i32_2 c1_i32_3 k0_t1
  let c32_i32_24 : BitVec 32 := 32#32
  let v33 : BitVec 32 := Scalar.remsi arg25 c32_i32_24
  let c0_i32_49 : BitVec 32 := 0#32
  let c0_i32_50 : BitVec 32 := 0#32
  ![v33.toNat, 0, 0]
def k0_off8 (v78 : BitVec 32) : Fin 3 → Nat :=
  let c0_i32_51 : BitVec 32 := 0#32
  let c0_i32_52 : BitVec 32 := 0#32
  ![v78.toNat, 0, 0]

def k0_chk3 (k0_t1 : Fin k0_t1_loop.trips) (arg26 : BitVec 32) (arg27 : BitVec 32) (v38 : BitVec 32) (v78 : BitVec 32) : Prop :=
  (∀ (k0_h1 : k0_cond1 arg26 = 1#1), ∀ (k0_h2 : k0_cond2 k0_t1 arg27 v38 = 1#1), ∀ a, (k0_off5 v78) a + S1x64x512.size a ≤ S2560x64x512.size a) ∧
  (∀ (k0_h1 : k0_cond1 arg26 = 1#1), ∀ (k0_h2 : k0_cond2 k0_t1 arg27 v38 = 1#1), ∀ (hinb : ∀ a, (k0_off5 v78) a + S1x64x512.size a ≤ S2560x64x512.size a), (Rect.unit (s := S2560x64x512) (k0_off5 v78) S1x64x512.size hinb).WholeWords (EltTy.packing .fp8e4m3)) ∧
  (∀ (k0_h1 : k0_cond1 arg26 = 1#1), ∀ (k0_h2 : k0_cond2 k0_t1 arg27 v38 = 1#1), ∀ a, (k0_off8 v78) a + S1x64x64.size a ≤ S2560x64x64.size a) ∧
  (∀ (k0_h1 : k0_cond1 arg26 = 1#1), ∀ (k0_h2 : k0_cond2 k0_t1 arg27 v38 = 1#1), ∀ (hinb : ∀ a, (k0_off8 v78) a + S1x64x64.size a ≤ S2560x64x64.size a), (Rect.unit (s := S2560x64x64) (k0_off8 v78) S1x64x64.size hinb).WholeWords (EltTy.packing .bf16))
theorem k0_off5_inb : ∀ (k0_t1 : Fin k0_t1_loop.trips) (arg26 : BitVec 32) (arg27 : BitVec 32) (v38 : BitVec 32) (v78 : BitVec 32) (k0_hw3 : k0_chk3 k0_t1 arg26 arg27 v38 v78), ∀ (k0_h1 : k0_cond1 arg26 = 1#1), ∀ (k0_h2 : k0_cond2 k0_t1 arg27 v38 = 1#1), ∀ a, (k0_off5 v78) a + S1x64x512.size a ≤ S2560x64x512.size a := fun k0_t1 arg26 arg27 v38 v78 k0_hw3 k0_h1 k0_h2 => k0_hw3.1 k0_h1 k0_h2
theorem k0_off5_wordsfp8e4m3 : ∀ (k0_t1 : Fin k0_t1_loop.trips) (arg26 : BitVec 32) (arg27 : BitVec 32) (v38 : BitVec 32) (v78 : BitVec 32) (k0_hw3 : k0_chk3 k0_t1 arg26 arg27 v38 v78), ∀ (k0_h1 : k0_cond1 arg26 = 1#1), ∀ (k0_h2 : k0_cond2 k0_t1 arg27 v38 = 1#1), (Rect.unit (s := S2560x64x512) (k0_off5 v78) S1x64x512.size (k0_off5_inb k0_t1 arg26 arg27 v38 v78 k0_hw3 k0_h1 k0_h2)).WholeWords (EltTy.packing .fp8e4m3) := fun k0_t1 arg26 arg27 v38 v78 k0_hw3 k0_h1 k0_h2 => k0_hw3.2.1 k0_h1 k0_h2 (k0_off5_inb k0_t1 arg26 arg27 v38 v78 k0_hw3 k0_h1 k0_h2)
theorem k0_off8_inb : ∀ (k0_t1 : Fin k0_t1_loop.trips) (arg26 : BitVec 32) (arg27 : BitVec 32) (v38 : BitVec 32) (v78 : BitVec 32) (k0_hw3 : k0_chk3 k0_t1 arg26 arg27 v38 v78), ∀ (k0_h1 : k0_cond1 arg26 = 1#1), ∀ (k0_h2 : k0_cond2 k0_t1 arg27 v38 = 1#1), ∀ a, (k0_off8 v78) a + S1x64x64.size a ≤ S2560x64x64.size a := fun k0_t1 arg26 arg27 v38 v78 k0_hw3 k0_h1 k0_h2 => k0_hw3.2.2.1 k0_h1 k0_h2
theorem k0_off8_wordsbf16 : ∀ (k0_t1 : Fin k0_t1_loop.trips) (arg26 : BitVec 32) (arg27 : BitVec 32) (v38 : BitVec 32) (v78 : BitVec 32) (k0_hw3 : k0_chk3 k0_t1 arg26 arg27 v38 v78), ∀ (k0_h1 : k0_cond1 arg26 = 1#1), ∀ (k0_h2 : k0_cond2 k0_t1 arg27 v38 = 1#1), (Rect.unit (s := S2560x64x64) (k0_off8 v78) S1x64x64.size (k0_off8_inb k0_t1 arg26 arg27 v38 v78 k0_hw3 k0_h1 k0_h2)).WholeWords (EltTy.packing .bf16) := fun k0_t1 arg26 arg27 v38 v78 k0_hw3 k0_h1 k0_h2 => k0_hw3.2.2.2 k0_h1 k0_h2 (k0_off8_inb k0_t1 arg26 arg27 v38 v78 k0_hw3 k0_h1 k0_h2)

def k0_off9 (arg26 : BitVec 32) : Fin 1 → Nat :=
  let v47 : Index := Scalar.indexCast arg26
  ![v47.toNat]
def k0_off10 (arg26 : BitVec 32) (arg27 : BitVec 32) : Fin 2 → Nat :=
  let v76 : Index := Scalar.indexCast arg26
  let c4_i32_43 : BitVec 32 := 4#32
  let v74 : BitVec 32 := Scalar.muli arg27 c4_i32_43
  let c1_i32_44 : BitVec 32 := 1#32
  let v75 : BitVec 32 := Scalar.addi v74 c1_i32_44
  let v77 : Index := Scalar.indexCast v75
  ![v76.toNat, v77.toNat]
def k0_cond3 (k0_t1 : Fin k0_t1_loop.trips) (arg27 : BitVec 32) (v48 : BitVec 32) : BitVec 1 :=
  let c4_i32_29 : BitVec 32 := 4#32
  let v44 : BitVec 32 := Scalar.muli arg27 c4_i32_29
  let c1_i32_30 : BitVec 32 := 1#32
  let v45 : BitVec 32 := Scalar.addi v44 c1_i32_30
  let c64_i32_31 : BitVec 32 := 64#32
  let v46 : BitVec 32 := Scalar.muli v45 c64_i32_31
  let v49 : BitVec 1 := Scalar.cmpi .slt v46 v48
  let c0_i32_2 : BitVec 32 := 0#32
  let c1_i32_3 : BitVec 32 := 1#32
  let arg25 : BitVec 32 := Scf.iv c0_i32_2 c1_i32_3 k0_t1
  let c32_i32_32 : BitVec 32 := 32#32
  let v50 : BitVec 1 := Scalar.cmpi .slt arg25 c32_i32_32
  let v51 : BitVec 1 := Scalar.ori v49 v50
  let v52 : BitVec 32 := Scalar.extui v51
  let c0_i32_33 : BitVec 32 := 0#32
  let v53 : BitVec 1 := Scalar.cmpi .ne v52 c0_i32_33
  v53

def k0_chk4 (k0_t1 : Fin k0_t1_loop.trips) (arg26 : BitVec 32) (arg27 : BitVec 32) (v48 : BitVec 32) : Prop :=
  (∀ (k0_h1 : k0_cond1 arg26 = 1#1), ∀ (k0_h3 : k0_cond3 k0_t1 arg27 v48 = 1#1), ∀ a, (k0_off10 arg26 arg27) a + S1x1.size a ≤ S64x32.size a)
theorem k0_off10_inb : ∀ (k0_t1 : Fin k0_t1_loop.trips) (arg26 : BitVec 32) (arg27 : BitVec 32) (v48 : BitVec 32) (k0_hw4 : k0_chk4 k0_t1 arg26 arg27 v48), ∀ (k0_h1 : k0_cond1 arg26 = 1#1), ∀ (k0_h3 : k0_cond3 k0_t1 arg27 v48 = 1#1), ∀ a, (k0_off10 arg26 arg27) a + S1x1.size a ≤ S64x32.size a := fun k0_t1 arg26 arg27 v48 k0_hw4 k0_h1 k0_h3 => k0_hw4 k0_h1 k0_h3

def k0_off11 (k0_t1 : Fin k0_t1_loop.trips) : Fin 1 → Nat :=
  let c0_i32_2 : BitVec 32 := 0#32
  let c1_i32_3 : BitVec 32 := 1#32
  let arg25 : BitVec 32 := Scf.iv c0_i32_2 c1_i32_3 k0_t1
  let c32_i32_24 : BitVec 32 := 32#32
  let v33 : BitVec 32 := Scalar.remsi arg25 c32_i32_24
  ![v33.toNat]
def k0_off12 (k0_t1 : Fin k0_t1_loop.trips) : Fin 3 → Nat :=
  let c0_i32_2 : BitVec 32 := 0#32
  let c1_i32_3 : BitVec 32 := 1#32
  let arg25 : BitVec 32 := Scf.iv c0_i32_2 c1_i32_3 k0_t1
  let c32_i32_24 : BitVec 32 := 32#32
  let v33 : BitVec 32 := Scalar.remsi arg25 c32_i32_24
  let c64_i32_45 : BitVec 32 := 64#32
  let c0_i32_46 : BitVec 32 := 0#32
  ![v33.toNat, 64, 0]
def k0_off13 (v78 : BitVec 32) : Fin 3 → Nat :=
  let c0_i32_47 : BitVec 32 := 0#32
  let c0_i32_48 : BitVec 32 := 0#32
  ![v78.toNat, 0, 0]

def k0_off14 (k0_t1 : Fin k0_t1_loop.trips) : Fin 1 → Nat :=
  let c0_i32_2 : BitVec 32 := 0#32
  let c1_i32_3 : BitVec 32 := 1#32
  let arg25 : BitVec 32 := Scf.iv c0_i32_2 c1_i32_3 k0_t1
  let c32_i32_24 : BitVec 32 := 32#32
  let v33 : BitVec 32 := Scalar.remsi arg25 c32_i32_24
  ![v33.toNat]
def k0_off15 (k0_t1 : Fin k0_t1_loop.trips) : Fin 3 → Nat :=
  let c0_i32_2 : BitVec 32 := 0#32
  let c1_i32_3 : BitVec 32 := 1#32
  let arg25 : BitVec 32 := Scf.iv c0_i32_2 c1_i32_3 k0_t1
  let c32_i32_24 : BitVec 32 := 32#32
  let v33 : BitVec 32 := Scalar.remsi arg25 c32_i32_24
  let c64_i32_49 : BitVec 32 := 64#32
  let c0_i32_50 : BitVec 32 := 0#32
  ![v33.toNat, 64, 0]
def k0_off16 (v78 : BitVec 32) : Fin 3 → Nat :=
  let c0_i32_51 : BitVec 32 := 0#32
  let c0_i32_52 : BitVec 32 := 0#32
  ![v78.toNat, 0, 0]

def k0_chk5 (k0_t1 : Fin k0_t1_loop.trips) (arg26 : BitVec 32) (arg27 : BitVec 32) (v48 : BitVec 32) (v78 : BitVec 32) : Prop :=
  (∀ (k0_h1 : k0_cond1 arg26 = 1#1), ∀ (k0_h3 : k0_cond3 k0_t1 arg27 v48 = 1#1), ∀ a, (k0_off13 v78) a + S1x64x512.size a ≤ S2560x64x512.size a) ∧
  (∀ (k0_h1 : k0_cond1 arg26 = 1#1), ∀ (k0_h3 : k0_cond3 k0_t1 arg27 v48 = 1#1), ∀ (hinb : ∀ a, (k0_off13 v78) a + S1x64x512.size a ≤ S2560x64x512.size a), (Rect.unit (s := S2560x64x512) (k0_off13 v78) S1x64x512.size hinb).WholeWords (EltTy.packing .fp8e4m3)) ∧
  (∀ (k0_h1 : k0_cond1 arg26 = 1#1), ∀ (k0_h3 : k0_cond3 k0_t1 arg27 v48 = 1#1), ∀ a, (k0_off16 v78) a + S1x64x64.size a ≤ S2560x64x64.size a) ∧
  (∀ (k0_h1 : k0_cond1 arg26 = 1#1), ∀ (k0_h3 : k0_cond3 k0_t1 arg27 v48 = 1#1), ∀ (hinb : ∀ a, (k0_off16 v78) a + S1x64x64.size a ≤ S2560x64x64.size a), (Rect.unit (s := S2560x64x64) (k0_off16 v78) S1x64x64.size hinb).WholeWords (EltTy.packing .bf16))
theorem k0_off13_inb : ∀ (k0_t1 : Fin k0_t1_loop.trips) (arg26 : BitVec 32) (arg27 : BitVec 32) (v48 : BitVec 32) (v78 : BitVec 32) (k0_hw5 : k0_chk5 k0_t1 arg26 arg27 v48 v78), ∀ (k0_h1 : k0_cond1 arg26 = 1#1), ∀ (k0_h3 : k0_cond3 k0_t1 arg27 v48 = 1#1), ∀ a, (k0_off13 v78) a + S1x64x512.size a ≤ S2560x64x512.size a := fun k0_t1 arg26 arg27 v48 v78 k0_hw5 k0_h1 k0_h3 => k0_hw5.1 k0_h1 k0_h3
theorem k0_off13_wordsfp8e4m3 : ∀ (k0_t1 : Fin k0_t1_loop.trips) (arg26 : BitVec 32) (arg27 : BitVec 32) (v48 : BitVec 32) (v78 : BitVec 32) (k0_hw5 : k0_chk5 k0_t1 arg26 arg27 v48 v78), ∀ (k0_h1 : k0_cond1 arg26 = 1#1), ∀ (k0_h3 : k0_cond3 k0_t1 arg27 v48 = 1#1), (Rect.unit (s := S2560x64x512) (k0_off13 v78) S1x64x512.size (k0_off13_inb k0_t1 arg26 arg27 v48 v78 k0_hw5 k0_h1 k0_h3)).WholeWords (EltTy.packing .fp8e4m3) := fun k0_t1 arg26 arg27 v48 v78 k0_hw5 k0_h1 k0_h3 => k0_hw5.2.1 k0_h1 k0_h3 (k0_off13_inb k0_t1 arg26 arg27 v48 v78 k0_hw5 k0_h1 k0_h3)
theorem k0_off16_inb : ∀ (k0_t1 : Fin k0_t1_loop.trips) (arg26 : BitVec 32) (arg27 : BitVec 32) (v48 : BitVec 32) (v78 : BitVec 32) (k0_hw5 : k0_chk5 k0_t1 arg26 arg27 v48 v78), ∀ (k0_h1 : k0_cond1 arg26 = 1#1), ∀ (k0_h3 : k0_cond3 k0_t1 arg27 v48 = 1#1), ∀ a, (k0_off16 v78) a + S1x64x64.size a ≤ S2560x64x64.size a := fun k0_t1 arg26 arg27 v48 v78 k0_hw5 k0_h1 k0_h3 => k0_hw5.2.2.1 k0_h1 k0_h3
theorem k0_off16_wordsbf16 : ∀ (k0_t1 : Fin k0_t1_loop.trips) (arg26 : BitVec 32) (arg27 : BitVec 32) (v48 : BitVec 32) (v78 : BitVec 32) (k0_hw5 : k0_chk5 k0_t1 arg26 arg27 v48 v78), ∀ (k0_h1 : k0_cond1 arg26 = 1#1), ∀ (k0_h3 : k0_cond3 k0_t1 arg27 v48 = 1#1), (Rect.unit (s := S2560x64x64) (k0_off16 v78) S1x64x64.size (k0_off16_inb k0_t1 arg26 arg27 v48 v78 k0_hw5 k0_h1 k0_h3)).WholeWords (EltTy.packing .bf16) := fun k0_t1 arg26 arg27 v48 v78 k0_hw5 k0_h1 k0_h3 => k0_hw5.2.2.2 k0_h1 k0_h3 (k0_off16_inb k0_t1 arg26 arg27 v48 v78 k0_hw5 k0_h1 k0_h3)

def k0_off17 (arg26 : BitVec 32) : Fin 1 → Nat :=
  let v57 : Index := Scalar.indexCast arg26
  ![v57.toNat]
def k0_off18 (arg26 : BitVec 32) (arg27 : BitVec 32) : Fin 2 → Nat :=
  let v76 : Index := Scalar.indexCast arg26
  let c4_i32_43 : BitVec 32 := 4#32
  let v74 : BitVec 32 := Scalar.muli arg27 c4_i32_43
  let c2_i32_44 : BitVec 32 := 2#32
  let v75 : BitVec 32 := Scalar.addi v74 c2_i32_44
  let v77 : Index := Scalar.indexCast v75
  ![v76.toNat, v77.toNat]
def k0_cond4 (k0_t1 : Fin k0_t1_loop.trips) (arg27 : BitVec 32) (v58 : BitVec 32) : BitVec 1 :=
  let c4_i32_34 : BitVec 32 := 4#32
  let v54 : BitVec 32 := Scalar.muli arg27 c4_i32_34
  let c2_i32_35 : BitVec 32 := 2#32
  let v55 : BitVec 32 := Scalar.addi v54 c2_i32_35
  let c64_i32_36 : BitVec 32 := 64#32
  let v56 : BitVec 32 := Scalar.muli v55 c64_i32_36
  let v59 : BitVec 1 := Scalar.cmpi .slt v56 v58
  let c0_i32_2 : BitVec 32 := 0#32
  let c1_i32_3 : BitVec 32 := 1#32
  let arg25 : BitVec 32 := Scf.iv c0_i32_2 c1_i32_3 k0_t1
  let c32_i32_37 : BitVec 32 := 32#32
  let v60 : BitVec 1 := Scalar.cmpi .slt arg25 c32_i32_37
  let v61 : BitVec 1 := Scalar.ori v59 v60
  let v62 : BitVec 32 := Scalar.extui v61
  let c0_i32_38 : BitVec 32 := 0#32
  let v63 : BitVec 1 := Scalar.cmpi .ne v62 c0_i32_38
  v63

def k0_chk6 (k0_t1 : Fin k0_t1_loop.trips) (arg26 : BitVec 32) (arg27 : BitVec 32) (v58 : BitVec 32) : Prop :=
  (∀ (k0_h1 : k0_cond1 arg26 = 1#1), ∀ (k0_h4 : k0_cond4 k0_t1 arg27 v58 = 1#1), ∀ a, (k0_off18 arg26 arg27) a + S1x1.size a ≤ S64x32.size a)
theorem k0_off18_inb : ∀ (k0_t1 : Fin k0_t1_loop.trips) (arg26 : BitVec 32) (arg27 : BitVec 32) (v58 : BitVec 32) (k0_hw6 : k0_chk6 k0_t1 arg26 arg27 v58), ∀ (k0_h1 : k0_cond1 arg26 = 1#1), ∀ (k0_h4 : k0_cond4 k0_t1 arg27 v58 = 1#1), ∀ a, (k0_off18 arg26 arg27) a + S1x1.size a ≤ S64x32.size a := fun k0_t1 arg26 arg27 v58 k0_hw6 k0_h1 k0_h4 => k0_hw6 k0_h1 k0_h4

def k0_off19 (k0_t1 : Fin k0_t1_loop.trips) : Fin 1 → Nat :=
  let c0_i32_2 : BitVec 32 := 0#32
  let c1_i32_3 : BitVec 32 := 1#32
  let arg25 : BitVec 32 := Scf.iv c0_i32_2 c1_i32_3 k0_t1
  let c32_i32_24 : BitVec 32 := 32#32
  let v33 : BitVec 32 := Scalar.remsi arg25 c32_i32_24
  ![v33.toNat]
def k0_off20 (k0_t1 : Fin k0_t1_loop.trips) : Fin 3 → Nat :=
  let c0_i32_2 : BitVec 32 := 0#32
  let c1_i32_3 : BitVec 32 := 1#32
  let arg25 : BitVec 32 := Scf.iv c0_i32_2 c1_i32_3 k0_t1
  let c32_i32_24 : BitVec 32 := 32#32
  let v33 : BitVec 32 := Scalar.remsi arg25 c32_i32_24
  let c128_i32 : BitVec 32 := 128#32
  let c0_i32_45 : BitVec 32 := 0#32
  ![v33.toNat, 128, 0]
def k0_off21 (v78 : BitVec 32) : Fin 3 → Nat :=
  let c0_i32_46 : BitVec 32 := 0#32
  let c0_i32_47 : BitVec 32 := 0#32
  ![v78.toNat, 0, 0]

def k0_off22 (k0_t1 : Fin k0_t1_loop.trips) : Fin 1 → Nat :=
  let c0_i32_2 : BitVec 32 := 0#32
  let c1_i32_3 : BitVec 32 := 1#32
  let arg25 : BitVec 32 := Scf.iv c0_i32_2 c1_i32_3 k0_t1
  let c32_i32_24 : BitVec 32 := 32#32
  let v33 : BitVec 32 := Scalar.remsi arg25 c32_i32_24
  ![v33.toNat]
def k0_off23 (k0_t1 : Fin k0_t1_loop.trips) : Fin 3 → Nat :=
  let c0_i32_2 : BitVec 32 := 0#32
  let c1_i32_3 : BitVec 32 := 1#32
  let arg25 : BitVec 32 := Scf.iv c0_i32_2 c1_i32_3 k0_t1
  let c32_i32_24 : BitVec 32 := 32#32
  let v33 : BitVec 32 := Scalar.remsi arg25 c32_i32_24
  let c128_i32_48 : BitVec 32 := 128#32
  let c0_i32_49 : BitVec 32 := 0#32
  ![v33.toNat, 128, 0]
def k0_off24 (v78 : BitVec 32) : Fin 3 → Nat :=
  let c0_i32_50 : BitVec 32 := 0#32
  let c0_i32_51 : BitVec 32 := 0#32
  ![v78.toNat, 0, 0]

def k0_chk7 (k0_t1 : Fin k0_t1_loop.trips) (arg26 : BitVec 32) (arg27 : BitVec 32) (v58 : BitVec 32) (v78 : BitVec 32) : Prop :=
  (∀ (k0_h1 : k0_cond1 arg26 = 1#1), ∀ (k0_h4 : k0_cond4 k0_t1 arg27 v58 = 1#1), ∀ a, (k0_off21 v78) a + S1x64x512.size a ≤ S2560x64x512.size a) ∧
  (∀ (k0_h1 : k0_cond1 arg26 = 1#1), ∀ (k0_h4 : k0_cond4 k0_t1 arg27 v58 = 1#1), ∀ (hinb : ∀ a, (k0_off21 v78) a + S1x64x512.size a ≤ S2560x64x512.size a), (Rect.unit (s := S2560x64x512) (k0_off21 v78) S1x64x512.size hinb).WholeWords (EltTy.packing .fp8e4m3)) ∧
  (∀ (k0_h1 : k0_cond1 arg26 = 1#1), ∀ (k0_h4 : k0_cond4 k0_t1 arg27 v58 = 1#1), ∀ a, (k0_off24 v78) a + S1x64x64.size a ≤ S2560x64x64.size a) ∧
  (∀ (k0_h1 : k0_cond1 arg26 = 1#1), ∀ (k0_h4 : k0_cond4 k0_t1 arg27 v58 = 1#1), ∀ (hinb : ∀ a, (k0_off24 v78) a + S1x64x64.size a ≤ S2560x64x64.size a), (Rect.unit (s := S2560x64x64) (k0_off24 v78) S1x64x64.size hinb).WholeWords (EltTy.packing .bf16))
theorem k0_off21_inb : ∀ (k0_t1 : Fin k0_t1_loop.trips) (arg26 : BitVec 32) (arg27 : BitVec 32) (v58 : BitVec 32) (v78 : BitVec 32) (k0_hw7 : k0_chk7 k0_t1 arg26 arg27 v58 v78), ∀ (k0_h1 : k0_cond1 arg26 = 1#1), ∀ (k0_h4 : k0_cond4 k0_t1 arg27 v58 = 1#1), ∀ a, (k0_off21 v78) a + S1x64x512.size a ≤ S2560x64x512.size a := fun k0_t1 arg26 arg27 v58 v78 k0_hw7 k0_h1 k0_h4 => k0_hw7.1 k0_h1 k0_h4
theorem k0_off21_wordsfp8e4m3 : ∀ (k0_t1 : Fin k0_t1_loop.trips) (arg26 : BitVec 32) (arg27 : BitVec 32) (v58 : BitVec 32) (v78 : BitVec 32) (k0_hw7 : k0_chk7 k0_t1 arg26 arg27 v58 v78), ∀ (k0_h1 : k0_cond1 arg26 = 1#1), ∀ (k0_h4 : k0_cond4 k0_t1 arg27 v58 = 1#1), (Rect.unit (s := S2560x64x512) (k0_off21 v78) S1x64x512.size (k0_off21_inb k0_t1 arg26 arg27 v58 v78 k0_hw7 k0_h1 k0_h4)).WholeWords (EltTy.packing .fp8e4m3) := fun k0_t1 arg26 arg27 v58 v78 k0_hw7 k0_h1 k0_h4 => k0_hw7.2.1 k0_h1 k0_h4 (k0_off21_inb k0_t1 arg26 arg27 v58 v78 k0_hw7 k0_h1 k0_h4)
theorem k0_off24_inb : ∀ (k0_t1 : Fin k0_t1_loop.trips) (arg26 : BitVec 32) (arg27 : BitVec 32) (v58 : BitVec 32) (v78 : BitVec 32) (k0_hw7 : k0_chk7 k0_t1 arg26 arg27 v58 v78), ∀ (k0_h1 : k0_cond1 arg26 = 1#1), ∀ (k0_h4 : k0_cond4 k0_t1 arg27 v58 = 1#1), ∀ a, (k0_off24 v78) a + S1x64x64.size a ≤ S2560x64x64.size a := fun k0_t1 arg26 arg27 v58 v78 k0_hw7 k0_h1 k0_h4 => k0_hw7.2.2.1 k0_h1 k0_h4
theorem k0_off24_wordsbf16 : ∀ (k0_t1 : Fin k0_t1_loop.trips) (arg26 : BitVec 32) (arg27 : BitVec 32) (v58 : BitVec 32) (v78 : BitVec 32) (k0_hw7 : k0_chk7 k0_t1 arg26 arg27 v58 v78), ∀ (k0_h1 : k0_cond1 arg26 = 1#1), ∀ (k0_h4 : k0_cond4 k0_t1 arg27 v58 = 1#1), (Rect.unit (s := S2560x64x64) (k0_off24 v78) S1x64x64.size (k0_off24_inb k0_t1 arg26 arg27 v58 v78 k0_hw7 k0_h1 k0_h4)).WholeWords (EltTy.packing .bf16) := fun k0_t1 arg26 arg27 v58 v78 k0_hw7 k0_h1 k0_h4 => k0_hw7.2.2.2 k0_h1 k0_h4 (k0_off24_inb k0_t1 arg26 arg27 v58 v78 k0_hw7 k0_h1 k0_h4)

def k0_off25 (arg26 : BitVec 32) : Fin 1 → Nat :=
  let v67 : Index := Scalar.indexCast arg26
  ![v67.toNat]
def k0_off26 (arg26 : BitVec 32) (arg27 : BitVec 32) : Fin 2 → Nat :=
  let v76 : Index := Scalar.indexCast arg26
  let c4_i32_43 : BitVec 32 := 4#32
  let v74 : BitVec 32 := Scalar.muli arg27 c4_i32_43
  let c3_i32_44 : BitVec 32 := 3#32
  let v75 : BitVec 32 := Scalar.addi v74 c3_i32_44
  let v77 : Index := Scalar.indexCast v75
  ![v76.toNat, v77.toNat]
def k0_cond5 (k0_t1 : Fin k0_t1_loop.trips) (arg27 : BitVec 32) (v68 : BitVec 32) : BitVec 1 :=
  let c4_i32_39 : BitVec 32 := 4#32
  let v64 : BitVec 32 := Scalar.muli arg27 c4_i32_39
  let c3_i32 : BitVec 32 := 3#32
  let v65 : BitVec 32 := Scalar.addi v64 c3_i32
  let c64_i32_40 : BitVec 32 := 64#32
  let v66 : BitVec 32 := Scalar.muli v65 c64_i32_40
  let v69 : BitVec 1 := Scalar.cmpi .slt v66 v68
  let c0_i32_2 : BitVec 32 := 0#32
  let c1_i32_3 : BitVec 32 := 1#32
  let arg25 : BitVec 32 := Scf.iv c0_i32_2 c1_i32_3 k0_t1
  let c32_i32_41 : BitVec 32 := 32#32
  let v70 : BitVec 1 := Scalar.cmpi .slt arg25 c32_i32_41
  let v71 : BitVec 1 := Scalar.ori v69 v70
  let v72 : BitVec 32 := Scalar.extui v71
  let c0_i32_42 : BitVec 32 := 0#32
  let v73 : BitVec 1 := Scalar.cmpi .ne v72 c0_i32_42
  v73

def k0_chk8 (k0_t1 : Fin k0_t1_loop.trips) (arg26 : BitVec 32) (arg27 : BitVec 32) (v68 : BitVec 32) : Prop :=
  (∀ (k0_h1 : k0_cond1 arg26 = 1#1), ∀ (k0_h5 : k0_cond5 k0_t1 arg27 v68 = 1#1), ∀ a, (k0_off26 arg26 arg27) a + S1x1.size a ≤ S64x32.size a)
theorem k0_off26_inb : ∀ (k0_t1 : Fin k0_t1_loop.trips) (arg26 : BitVec 32) (arg27 : BitVec 32) (v68 : BitVec 32) (k0_hw8 : k0_chk8 k0_t1 arg26 arg27 v68), ∀ (k0_h1 : k0_cond1 arg26 = 1#1), ∀ (k0_h5 : k0_cond5 k0_t1 arg27 v68 = 1#1), ∀ a, (k0_off26 arg26 arg27) a + S1x1.size a ≤ S64x32.size a := fun k0_t1 arg26 arg27 v68 k0_hw8 k0_h1 k0_h5 => k0_hw8 k0_h1 k0_h5

def k0_off27 (k0_t1 : Fin k0_t1_loop.trips) : Fin 1 → Nat :=
  let c0_i32_2 : BitVec 32 := 0#32
  let c1_i32_3 : BitVec 32 := 1#32
  let arg25 : BitVec 32 := Scf.iv c0_i32_2 c1_i32_3 k0_t1
  let c32_i32_24 : BitVec 32 := 32#32
  let v33 : BitVec 32 := Scalar.remsi arg25 c32_i32_24
  ![v33.toNat]
def k0_off28 (k0_t1 : Fin k0_t1_loop.trips) : Fin 3 → Nat :=
  let c0_i32_2 : BitVec 32 := 0#32
  let c1_i32_3 : BitVec 32 := 1#32
  let arg25 : BitVec 32 := Scf.iv c0_i32_2 c1_i32_3 k0_t1
  let c32_i32_24 : BitVec 32 := 32#32
  let v33 : BitVec 32 := Scalar.remsi arg25 c32_i32_24
  let c192_i32 : BitVec 32 := 192#32
  let c0_i32_45 : BitVec 32 := 0#32
  ![v33.toNat, 192, 0]
def k0_off29 (v78 : BitVec 32) : Fin 3 → Nat :=
  let c0_i32_46 : BitVec 32 := 0#32
  let c0_i32_47 : BitVec 32 := 0#32
  ![v78.toNat, 0, 0]

def k0_off30 (k0_t1 : Fin k0_t1_loop.trips) : Fin 1 → Nat :=
  let c0_i32_2 : BitVec 32 := 0#32
  let c1_i32_3 : BitVec 32 := 1#32
  let arg25 : BitVec 32 := Scf.iv c0_i32_2 c1_i32_3 k0_t1
  let c32_i32_24 : BitVec 32 := 32#32
  let v33 : BitVec 32 := Scalar.remsi arg25 c32_i32_24
  ![v33.toNat]
def k0_off31 (k0_t1 : Fin k0_t1_loop.trips) : Fin 3 → Nat :=
  let c0_i32_2 : BitVec 32 := 0#32
  let c1_i32_3 : BitVec 32 := 1#32
  let arg25 : BitVec 32 := Scf.iv c0_i32_2 c1_i32_3 k0_t1
  let c32_i32_24 : BitVec 32 := 32#32
  let v33 : BitVec 32 := Scalar.remsi arg25 c32_i32_24
  let c192_i32_48 : BitVec 32 := 192#32
  let c0_i32_49 : BitVec 32 := 0#32
  ![v33.toNat, 192, 0]
def k0_off32 (v78 : BitVec 32) : Fin 3 → Nat :=
  let c0_i32_50 : BitVec 32 := 0#32
  let c0_i32_51 : BitVec 32 := 0#32
  ![v78.toNat, 0, 0]

def k0_chk9 (k0_t1 : Fin k0_t1_loop.trips) (arg26 : BitVec 32) (arg27 : BitVec 32) (v68 : BitVec 32) (v78 : BitVec 32) : Prop :=
  (∀ (k0_h1 : k0_cond1 arg26 = 1#1), ∀ (k0_h5 : k0_cond5 k0_t1 arg27 v68 = 1#1), ∀ a, (k0_off29 v78) a + S1x64x512.size a ≤ S2560x64x512.size a) ∧
  (∀ (k0_h1 : k0_cond1 arg26 = 1#1), ∀ (k0_h5 : k0_cond5 k0_t1 arg27 v68 = 1#1), ∀ (hinb : ∀ a, (k0_off29 v78) a + S1x64x512.size a ≤ S2560x64x512.size a), (Rect.unit (s := S2560x64x512) (k0_off29 v78) S1x64x512.size hinb).WholeWords (EltTy.packing .fp8e4m3)) ∧
  (∀ (k0_h1 : k0_cond1 arg26 = 1#1), ∀ (k0_h5 : k0_cond5 k0_t1 arg27 v68 = 1#1), ∀ a, (k0_off32 v78) a + S1x64x64.size a ≤ S2560x64x64.size a) ∧
  (∀ (k0_h1 : k0_cond1 arg26 = 1#1), ∀ (k0_h5 : k0_cond5 k0_t1 arg27 v68 = 1#1), ∀ (hinb : ∀ a, (k0_off32 v78) a + S1x64x64.size a ≤ S2560x64x64.size a), (Rect.unit (s := S2560x64x64) (k0_off32 v78) S1x64x64.size hinb).WholeWords (EltTy.packing .bf16))
theorem k0_off29_inb : ∀ (k0_t1 : Fin k0_t1_loop.trips) (arg26 : BitVec 32) (arg27 : BitVec 32) (v68 : BitVec 32) (v78 : BitVec 32) (k0_hw9 : k0_chk9 k0_t1 arg26 arg27 v68 v78), ∀ (k0_h1 : k0_cond1 arg26 = 1#1), ∀ (k0_h5 : k0_cond5 k0_t1 arg27 v68 = 1#1), ∀ a, (k0_off29 v78) a + S1x64x512.size a ≤ S2560x64x512.size a := fun k0_t1 arg26 arg27 v68 v78 k0_hw9 k0_h1 k0_h5 => k0_hw9.1 k0_h1 k0_h5
theorem k0_off29_wordsfp8e4m3 : ∀ (k0_t1 : Fin k0_t1_loop.trips) (arg26 : BitVec 32) (arg27 : BitVec 32) (v68 : BitVec 32) (v78 : BitVec 32) (k0_hw9 : k0_chk9 k0_t1 arg26 arg27 v68 v78), ∀ (k0_h1 : k0_cond1 arg26 = 1#1), ∀ (k0_h5 : k0_cond5 k0_t1 arg27 v68 = 1#1), (Rect.unit (s := S2560x64x512) (k0_off29 v78) S1x64x512.size (k0_off29_inb k0_t1 arg26 arg27 v68 v78 k0_hw9 k0_h1 k0_h5)).WholeWords (EltTy.packing .fp8e4m3) := fun k0_t1 arg26 arg27 v68 v78 k0_hw9 k0_h1 k0_h5 => k0_hw9.2.1 k0_h1 k0_h5 (k0_off29_inb k0_t1 arg26 arg27 v68 v78 k0_hw9 k0_h1 k0_h5)
theorem k0_off32_inb : ∀ (k0_t1 : Fin k0_t1_loop.trips) (arg26 : BitVec 32) (arg27 : BitVec 32) (v68 : BitVec 32) (v78 : BitVec 32) (k0_hw9 : k0_chk9 k0_t1 arg26 arg27 v68 v78), ∀ (k0_h1 : k0_cond1 arg26 = 1#1), ∀ (k0_h5 : k0_cond5 k0_t1 arg27 v68 = 1#1), ∀ a, (k0_off32 v78) a + S1x64x64.size a ≤ S2560x64x64.size a := fun k0_t1 arg26 arg27 v68 v78 k0_hw9 k0_h1 k0_h5 => k0_hw9.2.2.1 k0_h1 k0_h5
theorem k0_off32_wordsbf16 : ∀ (k0_t1 : Fin k0_t1_loop.trips) (arg26 : BitVec 32) (arg27 : BitVec 32) (v68 : BitVec 32) (v78 : BitVec 32) (k0_hw9 : k0_chk9 k0_t1 arg26 arg27 v68 v78), ∀ (k0_h1 : k0_cond1 arg26 = 1#1), ∀ (k0_h5 : k0_cond5 k0_t1 arg27 v68 = 1#1), (Rect.unit (s := S2560x64x64) (k0_off32 v78) S1x64x64.size (k0_off32_inb k0_t1 arg26 arg27 v68 v78 k0_hw9 k0_h1 k0_h5)).WholeWords (EltTy.packing .bf16) := fun k0_t1 arg26 arg27 v68 v78 k0_hw9 k0_h1 k0_h5 => k0_hw9.2.2.2 k0_h1 k0_h5 (k0_off32_inb k0_t1 arg26 arg27 v68 v78 k0_hw9 k0_h1 k0_h5)

def k0_off33 (arg26 : BitVec 32) : Fin 1 → Nat :=
  let c63_i32 : BitVec 32 := 63#32
  let v23 : BitVec 32 := Scalar.minsi arg26 c63_i32
  let v24 : Index := Scalar.indexCast v23
  ![v24.toNat]

def k0_chk1 (arg26 : BitVec 32) : Prop :=
  (∀ (k0_h1 : k0_cond1 arg26 = 1#1), ∀ a, (k0_off1 arg26) a + S1.size a ≤ S64.size a) ∧
  (∀ (k0_h1 : k0_cond1 arg26 = 1#1), ∀ a, (k0_off9 arg26) a + S1.size a ≤ S64.size a) ∧
  (∀ (k0_h1 : k0_cond1 arg26 = 1#1), ∀ a, (k0_off17 arg26) a + S1.size a ≤ S64.size a) ∧
  (∀ (k0_h1 : k0_cond1 arg26 = 1#1), ∀ a, (k0_off25 arg26) a + S1.size a ≤ S64.size a) ∧
  (∀ a, (k0_off33 arg26) a + S1.size a ≤ S64.size a)
theorem k0_off1_inb : ∀ (arg26 : BitVec 32) (k0_hw1 : k0_chk1 arg26), ∀ (k0_h1 : k0_cond1 arg26 = 1#1), ∀ a, (k0_off1 arg26) a + S1.size a ≤ S64.size a := fun arg26 k0_hw1 k0_h1 => k0_hw1.1 k0_h1
theorem k0_off9_inb : ∀ (arg26 : BitVec 32) (k0_hw1 : k0_chk1 arg26), ∀ (k0_h1 : k0_cond1 arg26 = 1#1), ∀ a, (k0_off9 arg26) a + S1.size a ≤ S64.size a := fun arg26 k0_hw1 k0_h1 => k0_hw1.2.1 k0_h1
theorem k0_off17_inb : ∀ (arg26 : BitVec 32) (k0_hw1 : k0_chk1 arg26), ∀ (k0_h1 : k0_cond1 arg26 = 1#1), ∀ a, (k0_off17 arg26) a + S1.size a ≤ S64.size a := fun arg26 k0_hw1 k0_h1 => k0_hw1.2.2.1 k0_h1
theorem k0_off25_inb : ∀ (arg26 : BitVec 32) (k0_hw1 : k0_chk1 arg26), ∀ (k0_h1 : k0_cond1 arg26 = 1#1), ∀ a, (k0_off25 arg26) a + S1.size a ≤ S64.size a := fun arg26 k0_hw1 k0_h1 => k0_hw1.2.2.2.1 k0_h1
theorem k0_off33_inb : ∀ (arg26 : BitVec 32) (k0_hw1 : k0_chk1 arg26), ∀ a, (k0_off33 arg26) a + S1.size a ≤ S64.size a := fun arg26 k0_hw1 => k0_hw1.2.2.2.2

def k0_off34 (arg26 : BitVec 32) : Fin 1 → Nat :=
  let v24 : Index := Scalar.indexCast arg26
  ![v24.toNat]

def k0_off35 (arg26 : BitVec 32) (arg27 : BitVec 32) : Fin 2 → Nat :=
  let v193 : Index := Scalar.indexCast arg26
  let c4_i32_98 : BitVec 32 := 4#32
  let v191 : BitVec 32 := Scalar.muli arg27 c4_i32_98
  let c0_i32_99 : BitVec 32 := 0#32
  let v192 : BitVec 32 := Scalar.addi v191 c0_i32_99
  let v194 : Index := Scalar.indexCast v192
  ![v193.toNat, v194.toNat]
def k0_cond6 (arg25 : BitVec 32) (arg27 : BitVec 32) (v25 : BitVec 32) : BitVec 1 :=
  let c4_i32 : BitVec 32 := 4#32
  let v21 : BitVec 32 := Scalar.muli arg27 c4_i32
  let c0_i32_21 : BitVec 32 := 0#32
  let v22 : BitVec 32 := Scalar.addi v21 c0_i32_21
  let c64_i32 : BitVec 32 := 64#32
  let v23 : BitVec 32 := Scalar.muli v22 c64_i32
  let v26 : BitVec 1 := Scalar.cmpi .slt v23 v25
  let c32_i32_22 : BitVec 32 := 32#32
  let v27 : BitVec 1 := Scalar.cmpi .slt arg25 c32_i32_22
  let v28 : BitVec 1 := Scalar.ori v26 v27
  let v29 : BitVec 32 := Scalar.extui v28
  let c0_i32_23 : BitVec 32 := 0#32
  let v30 : BitVec 1 := Scalar.cmpi .ne v29 c0_i32_23
  v30

def k0_off36 (arg25 : BitVec 32) : Fin 1 → Nat :=
  let c32_i32_20 : BitVec 32 := 32#32
  let v20 : BitVec 32 := Scalar.remsi arg25 c32_i32_20
  ![v20.toNat]
def k0_off37 (arg25 : BitVec 32) : Fin 3 → Nat :=
  let c32_i32_20 : BitVec 32 := 32#32
  let v20 : BitVec 32 := Scalar.remsi arg25 c32_i32_20
  let c0_i32_100 : BitVec 32 := 0#32
  let c0_i32_101 : BitVec 32 := 0#32
  ![v20.toNat, 0, 0]
def k0_off38 (v195 : BitVec 32) : Fin 3 → Nat :=
  let c0_i32_102 : BitVec 32 := 0#32
  let c0_i32_103 : BitVec 32 := 0#32
  ![v195.toNat, 0, 0]

def k0_off39 (arg25 : BitVec 32) : Fin 1 → Nat :=
  let c32_i32_20 : BitVec 32 := 32#32
  let v20 : BitVec 32 := Scalar.remsi arg25 c32_i32_20
  ![v20.toNat]
def k0_off40 (arg25 : BitVec 32) : Fin 3 → Nat :=
  let c32_i32_20 : BitVec 32 := 32#32
  let v20 : BitVec 32 := Scalar.remsi arg25 c32_i32_20
  let c0_i32_104 : BitVec 32 := 0#32
  let c0_i32_105 : BitVec 32 := 0#32
  ![v20.toNat, 0, 0]
def k0_off41 (v195 : BitVec 32) : Fin 3 → Nat :=
  let c0_i32_106 : BitVec 32 := 0#32
  let c0_i32_107 : BitVec 32 := 0#32
  ![v195.toNat, 0, 0]

def k0_chk12 (arg25 : BitVec 32) (arg27 : BitVec 32) (v25 : BitVec 32) (v195 : BitVec 32) : Prop :=
  (∀ (k0_h6 : k0_cond6 arg25 arg27 v25 = 1#1), ∀ a, (k0_off38 v195) a + S1x64x512.size a ≤ S2560x64x512.size a) ∧
  (∀ (k0_h6 : k0_cond6 arg25 arg27 v25 = 1#1), ∀ (hinb : ∀ a, (k0_off38 v195) a + S1x64x512.size a ≤ S2560x64x512.size a), (Rect.unit (s := S2560x64x512) (k0_off38 v195) S1x64x512.size hinb).WholeWords (EltTy.packing .fp8e4m3)) ∧
  (∀ (k0_h6 : k0_cond6 arg25 arg27 v25 = 1#1), ∀ a, (k0_off41 v195) a + S1x64x64.size a ≤ S2560x64x64.size a) ∧
  (∀ (k0_h6 : k0_cond6 arg25 arg27 v25 = 1#1), ∀ (hinb : ∀ a, (k0_off41 v195) a + S1x64x64.size a ≤ S2560x64x64.size a), (Rect.unit (s := S2560x64x64) (k0_off41 v195) S1x64x64.size hinb).WholeWords (EltTy.packing .bf16))
theorem k0_off38_inb : ∀ (arg25 : BitVec 32) (arg27 : BitVec 32) (v25 : BitVec 32) (v195 : BitVec 32) (k0_hw12 : k0_chk12 arg25 arg27 v25 v195), ∀ (k0_h6 : k0_cond6 arg25 arg27 v25 = 1#1), ∀ a, (k0_off38 v195) a + S1x64x512.size a ≤ S2560x64x512.size a := fun arg25 arg27 v25 v195 k0_hw12 k0_h6 => k0_hw12.1 k0_h6
theorem k0_off38_wordsfp8e4m3 : ∀ (arg25 : BitVec 32) (arg27 : BitVec 32) (v25 : BitVec 32) (v195 : BitVec 32) (k0_hw12 : k0_chk12 arg25 arg27 v25 v195), ∀ (k0_h6 : k0_cond6 arg25 arg27 v25 = 1#1), (Rect.unit (s := S2560x64x512) (k0_off38 v195) S1x64x512.size (k0_off38_inb arg25 arg27 v25 v195 k0_hw12 k0_h6)).WholeWords (EltTy.packing .fp8e4m3) := fun arg25 arg27 v25 v195 k0_hw12 k0_h6 => k0_hw12.2.1 k0_h6 (k0_off38_inb arg25 arg27 v25 v195 k0_hw12 k0_h6)
theorem k0_off41_inb : ∀ (arg25 : BitVec 32) (arg27 : BitVec 32) (v25 : BitVec 32) (v195 : BitVec 32) (k0_hw12 : k0_chk12 arg25 arg27 v25 v195), ∀ (k0_h6 : k0_cond6 arg25 arg27 v25 = 1#1), ∀ a, (k0_off41 v195) a + S1x64x64.size a ≤ S2560x64x64.size a := fun arg25 arg27 v25 v195 k0_hw12 k0_h6 => k0_hw12.2.2.1 k0_h6
theorem k0_off41_wordsbf16 : ∀ (arg25 : BitVec 32) (arg27 : BitVec 32) (v25 : BitVec 32) (v195 : BitVec 32) (k0_hw12 : k0_chk12 arg25 arg27 v25 v195), ∀ (k0_h6 : k0_cond6 arg25 arg27 v25 = 1#1), (Rect.unit (s := S2560x64x64) (k0_off41 v195) S1x64x64.size (k0_off41_inb arg25 arg27 v25 v195 k0_hw12 k0_h6)).WholeWords (EltTy.packing .bf16) := fun arg25 arg27 v25 v195 k0_hw12 k0_h6 => k0_hw12.2.2.2 k0_h6 (k0_off41_inb arg25 arg27 v25 v195 k0_hw12 k0_h6)

def k0_chk11 (arg25 : BitVec 32) (arg26 : BitVec 32) (arg27 : BitVec 32) (v25 : BitVec 32) : Prop :=
  (∀ (k0_h6 : k0_cond6 arg25 arg27 v25 = 1#1), ∀ a, (k0_off35 arg26 arg27) a + S1x1.size a ≤ S64x32.size a) ∧
  (∀ (k0_h6 : k0_cond6 arg25 arg27 v25 = 1#1), ∀ a, (k0_off36 arg25) a + S1.size a ≤ S32.size a) ∧
  (∀ (k0_h6 : k0_cond6 arg25 arg27 v25 = 1#1), ∀ a, (k0_off37 arg25) a + S1x64x512.size a ≤ S32x256x512.size a) ∧
  (∀ (k0_h6 : k0_cond6 arg25 arg27 v25 = 1#1), ∀ (hinb : ∀ a, (k0_off37 arg25) a + S1x64x512.size a ≤ S32x256x512.size a), (Rect.unit (s := S32x256x512) (k0_off37 arg25) S1x64x512.size hinb).WholeWords (EltTy.packing .fp8e4m3)) ∧
  (∀ (k0_h6 : k0_cond6 arg25 arg27 v25 = 1#1), ∀ a, (k0_off39 arg25) a + S1.size a ≤ S32.size a) ∧
  (∀ (k0_h6 : k0_cond6 arg25 arg27 v25 = 1#1), ∀ a, (k0_off40 arg25) a + S1x64x64.size a ≤ S32x256x64.size a) ∧
  (∀ (k0_h6 : k0_cond6 arg25 arg27 v25 = 1#1), ∀ (hinb : ∀ a, (k0_off40 arg25) a + S1x64x64.size a ≤ S32x256x64.size a), (Rect.unit (s := S32x256x64) (k0_off40 arg25) S1x64x64.size hinb).WholeWords (EltTy.packing .bf16))
theorem k0_off35_inb : ∀ (arg25 : BitVec 32) (arg26 : BitVec 32) (arg27 : BitVec 32) (v25 : BitVec 32) (k0_hw11 : k0_chk11 arg25 arg26 arg27 v25), ∀ (k0_h6 : k0_cond6 arg25 arg27 v25 = 1#1), ∀ a, (k0_off35 arg26 arg27) a + S1x1.size a ≤ S64x32.size a := fun arg25 arg26 arg27 v25 k0_hw11 k0_h6 => k0_hw11.1 k0_h6
theorem k0_off36_inb : ∀ (arg25 : BitVec 32) (arg26 : BitVec 32) (arg27 : BitVec 32) (v25 : BitVec 32) (k0_hw11 : k0_chk11 arg25 arg26 arg27 v25), ∀ (k0_h6 : k0_cond6 arg25 arg27 v25 = 1#1), ∀ a, (k0_off36 arg25) a + S1.size a ≤ S32.size a := fun arg25 arg26 arg27 v25 k0_hw11 k0_h6 => k0_hw11.2.1 k0_h6
theorem k0_off37_inb : ∀ (arg25 : BitVec 32) (arg26 : BitVec 32) (arg27 : BitVec 32) (v25 : BitVec 32) (k0_hw11 : k0_chk11 arg25 arg26 arg27 v25), ∀ (k0_h6 : k0_cond6 arg25 arg27 v25 = 1#1), ∀ a, (k0_off37 arg25) a + S1x64x512.size a ≤ S32x256x512.size a := fun arg25 arg26 arg27 v25 k0_hw11 k0_h6 => k0_hw11.2.2.1 k0_h6
theorem k0_off37_wordsfp8e4m3 : ∀ (arg25 : BitVec 32) (arg26 : BitVec 32) (arg27 : BitVec 32) (v25 : BitVec 32) (k0_hw11 : k0_chk11 arg25 arg26 arg27 v25), ∀ (k0_h6 : k0_cond6 arg25 arg27 v25 = 1#1), (Rect.unit (s := S32x256x512) (k0_off37 arg25) S1x64x512.size (k0_off37_inb arg25 arg26 arg27 v25 k0_hw11 k0_h6)).WholeWords (EltTy.packing .fp8e4m3) := fun arg25 arg26 arg27 v25 k0_hw11 k0_h6 => k0_hw11.2.2.2.1 k0_h6 (k0_off37_inb arg25 arg26 arg27 v25 k0_hw11 k0_h6)
theorem k0_off39_inb : ∀ (arg25 : BitVec 32) (arg26 : BitVec 32) (arg27 : BitVec 32) (v25 : BitVec 32) (k0_hw11 : k0_chk11 arg25 arg26 arg27 v25), ∀ (k0_h6 : k0_cond6 arg25 arg27 v25 = 1#1), ∀ a, (k0_off39 arg25) a + S1.size a ≤ S32.size a := fun arg25 arg26 arg27 v25 k0_hw11 k0_h6 => k0_hw11.2.2.2.2.1 k0_h6
theorem k0_off40_inb : ∀ (arg25 : BitVec 32) (arg26 : BitVec 32) (arg27 : BitVec 32) (v25 : BitVec 32) (k0_hw11 : k0_chk11 arg25 arg26 arg27 v25), ∀ (k0_h6 : k0_cond6 arg25 arg27 v25 = 1#1), ∀ a, (k0_off40 arg25) a + S1x64x64.size a ≤ S32x256x64.size a := fun arg25 arg26 arg27 v25 k0_hw11 k0_h6 => k0_hw11.2.2.2.2.2.1 k0_h6
theorem k0_off40_wordsbf16 : ∀ (arg25 : BitVec 32) (arg26 : BitVec 32) (arg27 : BitVec 32) (v25 : BitVec 32) (k0_hw11 : k0_chk11 arg25 arg26 arg27 v25), ∀ (k0_h6 : k0_cond6 arg25 arg27 v25 = 1#1), (Rect.unit (s := S32x256x64) (k0_off40 arg25) S1x64x64.size (k0_off40_inb arg25 arg26 arg27 v25 k0_hw11 k0_h6)).WholeWords (EltTy.packing .bf16) := fun arg25 arg26 arg27 v25 k0_hw11 k0_h6 => k0_hw11.2.2.2.2.2.2 k0_h6 (k0_off40_inb arg25 arg26 arg27 v25 k0_hw11 k0_h6)

def k0_off42 (arg26 : BitVec 32) : Fin 1 → Nat :=
  let v34 : Index := Scalar.indexCast arg26
  ![v34.toNat]
def k0_off43 (arg26 : BitVec 32) (arg27 : BitVec 32) : Fin 2 → Nat :=
  let v193 : Index := Scalar.indexCast arg26
  let c4_i32_98 : BitVec 32 := 4#32
  let v191 : BitVec 32 := Scalar.muli arg27 c4_i32_98
  let c1_i32_99 : BitVec 32 := 1#32
  let v192 : BitVec 32 := Scalar.addi v191 c1_i32_99
  let v194 : Index := Scalar.indexCast v192
  ![v193.toNat, v194.toNat]
def k0_cond7 (arg25 : BitVec 32) (arg27 : BitVec 32) (v35 : BitVec 32) : BitVec 1 :=
  let c4_i32_24 : BitVec 32 := 4#32
  let v31 : BitVec 32 := Scalar.muli arg27 c4_i32_24
  let c1_i32_25 : BitVec 32 := 1#32
  let v32 : BitVec 32 := Scalar.addi v31 c1_i32_25
  let c64_i32_26 : BitVec 32 := 64#32
  let v33 : BitVec 32 := Scalar.muli v32 c64_i32_26
  let v36 : BitVec 1 := Scalar.cmpi .slt v33 v35
  let c32_i32_27 : BitVec 32 := 32#32
  let v37 : BitVec 1 := Scalar.cmpi .slt arg25 c32_i32_27
  let v38 : BitVec 1 := Scalar.ori v36 v37
  let v39 : BitVec 32 := Scalar.extui v38
  let c0_i32_28 : BitVec 32 := 0#32
  let v40 : BitVec 1 := Scalar.cmpi .ne v39 c0_i32_28
  v40

def k0_off44 (arg25 : BitVec 32) : Fin 1 → Nat :=
  let c32_i32_20 : BitVec 32 := 32#32
  let v20 : BitVec 32 := Scalar.remsi arg25 c32_i32_20
  ![v20.toNat]
def k0_off45 (arg25 : BitVec 32) : Fin 3 → Nat :=
  let c32_i32_20 : BitVec 32 := 32#32
  let v20 : BitVec 32 := Scalar.remsi arg25 c32_i32_20
  let c64_i32_100 : BitVec 32 := 64#32
  let c0_i32_101 : BitVec 32 := 0#32
  ![v20.toNat, 64, 0]
def k0_off46 (v195 : BitVec 32) : Fin 3 → Nat :=
  let c0_i32_102 : BitVec 32 := 0#32
  let c0_i32_103 : BitVec 32 := 0#32
  ![v195.toNat, 0, 0]

def k0_off47 (arg25 : BitVec 32) : Fin 1 → Nat :=
  let c32_i32_20 : BitVec 32 := 32#32
  let v20 : BitVec 32 := Scalar.remsi arg25 c32_i32_20
  ![v20.toNat]
def k0_off48 (arg25 : BitVec 32) : Fin 3 → Nat :=
  let c32_i32_20 : BitVec 32 := 32#32
  let v20 : BitVec 32 := Scalar.remsi arg25 c32_i32_20
  let c64_i32_104 : BitVec 32 := 64#32
  let c0_i32_105 : BitVec 32 := 0#32
  ![v20.toNat, 64, 0]
def k0_off49 (v195 : BitVec 32) : Fin 3 → Nat :=
  let c0_i32_106 : BitVec 32 := 0#32
  let c0_i32_107 : BitVec 32 := 0#32
  ![v195.toNat, 0, 0]

def k0_chk14 (arg25 : BitVec 32) (arg27 : BitVec 32) (v35 : BitVec 32) (v195 : BitVec 32) : Prop :=
  (∀ (k0_h7 : k0_cond7 arg25 arg27 v35 = 1#1), ∀ a, (k0_off46 v195) a + S1x64x512.size a ≤ S2560x64x512.size a) ∧
  (∀ (k0_h7 : k0_cond7 arg25 arg27 v35 = 1#1), ∀ (hinb : ∀ a, (k0_off46 v195) a + S1x64x512.size a ≤ S2560x64x512.size a), (Rect.unit (s := S2560x64x512) (k0_off46 v195) S1x64x512.size hinb).WholeWords (EltTy.packing .fp8e4m3)) ∧
  (∀ (k0_h7 : k0_cond7 arg25 arg27 v35 = 1#1), ∀ a, (k0_off49 v195) a + S1x64x64.size a ≤ S2560x64x64.size a) ∧
  (∀ (k0_h7 : k0_cond7 arg25 arg27 v35 = 1#1), ∀ (hinb : ∀ a, (k0_off49 v195) a + S1x64x64.size a ≤ S2560x64x64.size a), (Rect.unit (s := S2560x64x64) (k0_off49 v195) S1x64x64.size hinb).WholeWords (EltTy.packing .bf16))
theorem k0_off46_inb : ∀ (arg25 : BitVec 32) (arg27 : BitVec 32) (v35 : BitVec 32) (v195 : BitVec 32) (k0_hw14 : k0_chk14 arg25 arg27 v35 v195), ∀ (k0_h7 : k0_cond7 arg25 arg27 v35 = 1#1), ∀ a, (k0_off46 v195) a + S1x64x512.size a ≤ S2560x64x512.size a := fun arg25 arg27 v35 v195 k0_hw14 k0_h7 => k0_hw14.1 k0_h7
theorem k0_off46_wordsfp8e4m3 : ∀ (arg25 : BitVec 32) (arg27 : BitVec 32) (v35 : BitVec 32) (v195 : BitVec 32) (k0_hw14 : k0_chk14 arg25 arg27 v35 v195), ∀ (k0_h7 : k0_cond7 arg25 arg27 v35 = 1#1), (Rect.unit (s := S2560x64x512) (k0_off46 v195) S1x64x512.size (k0_off46_inb arg25 arg27 v35 v195 k0_hw14 k0_h7)).WholeWords (EltTy.packing .fp8e4m3) := fun arg25 arg27 v35 v195 k0_hw14 k0_h7 => k0_hw14.2.1 k0_h7 (k0_off46_inb arg25 arg27 v35 v195 k0_hw14 k0_h7)
theorem k0_off49_inb : ∀ (arg25 : BitVec 32) (arg27 : BitVec 32) (v35 : BitVec 32) (v195 : BitVec 32) (k0_hw14 : k0_chk14 arg25 arg27 v35 v195), ∀ (k0_h7 : k0_cond7 arg25 arg27 v35 = 1#1), ∀ a, (k0_off49 v195) a + S1x64x64.size a ≤ S2560x64x64.size a := fun arg25 arg27 v35 v195 k0_hw14 k0_h7 => k0_hw14.2.2.1 k0_h7
theorem k0_off49_wordsbf16 : ∀ (arg25 : BitVec 32) (arg27 : BitVec 32) (v35 : BitVec 32) (v195 : BitVec 32) (k0_hw14 : k0_chk14 arg25 arg27 v35 v195), ∀ (k0_h7 : k0_cond7 arg25 arg27 v35 = 1#1), (Rect.unit (s := S2560x64x64) (k0_off49 v195) S1x64x64.size (k0_off49_inb arg25 arg27 v35 v195 k0_hw14 k0_h7)).WholeWords (EltTy.packing .bf16) := fun arg25 arg27 v35 v195 k0_hw14 k0_h7 => k0_hw14.2.2.2 k0_h7 (k0_off49_inb arg25 arg27 v35 v195 k0_hw14 k0_h7)

def k0_chk13 (arg25 : BitVec 32) (arg26 : BitVec 32) (arg27 : BitVec 32) (v35 : BitVec 32) : Prop :=
  (∀ (k0_h7 : k0_cond7 arg25 arg27 v35 = 1#1), ∀ a, (k0_off43 arg26 arg27) a + S1x1.size a ≤ S64x32.size a) ∧
  (∀ (k0_h7 : k0_cond7 arg25 arg27 v35 = 1#1), ∀ a, (k0_off44 arg25) a + S1.size a ≤ S32.size a) ∧
  (∀ (k0_h7 : k0_cond7 arg25 arg27 v35 = 1#1), ∀ a, (k0_off45 arg25) a + S1x64x512.size a ≤ S32x256x512.size a) ∧
  (∀ (k0_h7 : k0_cond7 arg25 arg27 v35 = 1#1), ∀ (hinb : ∀ a, (k0_off45 arg25) a + S1x64x512.size a ≤ S32x256x512.size a), (Rect.unit (s := S32x256x512) (k0_off45 arg25) S1x64x512.size hinb).WholeWords (EltTy.packing .fp8e4m3)) ∧
  (∀ (k0_h7 : k0_cond7 arg25 arg27 v35 = 1#1), ∀ a, (k0_off47 arg25) a + S1.size a ≤ S32.size a) ∧
  (∀ (k0_h7 : k0_cond7 arg25 arg27 v35 = 1#1), ∀ a, (k0_off48 arg25) a + S1x64x64.size a ≤ S32x256x64.size a) ∧
  (∀ (k0_h7 : k0_cond7 arg25 arg27 v35 = 1#1), ∀ (hinb : ∀ a, (k0_off48 arg25) a + S1x64x64.size a ≤ S32x256x64.size a), (Rect.unit (s := S32x256x64) (k0_off48 arg25) S1x64x64.size hinb).WholeWords (EltTy.packing .bf16))
theorem k0_off43_inb : ∀ (arg25 : BitVec 32) (arg26 : BitVec 32) (arg27 : BitVec 32) (v35 : BitVec 32) (k0_hw13 : k0_chk13 arg25 arg26 arg27 v35), ∀ (k0_h7 : k0_cond7 arg25 arg27 v35 = 1#1), ∀ a, (k0_off43 arg26 arg27) a + S1x1.size a ≤ S64x32.size a := fun arg25 arg26 arg27 v35 k0_hw13 k0_h7 => k0_hw13.1 k0_h7
theorem k0_off44_inb : ∀ (arg25 : BitVec 32) (arg26 : BitVec 32) (arg27 : BitVec 32) (v35 : BitVec 32) (k0_hw13 : k0_chk13 arg25 arg26 arg27 v35), ∀ (k0_h7 : k0_cond7 arg25 arg27 v35 = 1#1), ∀ a, (k0_off44 arg25) a + S1.size a ≤ S32.size a := fun arg25 arg26 arg27 v35 k0_hw13 k0_h7 => k0_hw13.2.1 k0_h7
theorem k0_off45_inb : ∀ (arg25 : BitVec 32) (arg26 : BitVec 32) (arg27 : BitVec 32) (v35 : BitVec 32) (k0_hw13 : k0_chk13 arg25 arg26 arg27 v35), ∀ (k0_h7 : k0_cond7 arg25 arg27 v35 = 1#1), ∀ a, (k0_off45 arg25) a + S1x64x512.size a ≤ S32x256x512.size a := fun arg25 arg26 arg27 v35 k0_hw13 k0_h7 => k0_hw13.2.2.1 k0_h7
theorem k0_off45_wordsfp8e4m3 : ∀ (arg25 : BitVec 32) (arg26 : BitVec 32) (arg27 : BitVec 32) (v35 : BitVec 32) (k0_hw13 : k0_chk13 arg25 arg26 arg27 v35), ∀ (k0_h7 : k0_cond7 arg25 arg27 v35 = 1#1), (Rect.unit (s := S32x256x512) (k0_off45 arg25) S1x64x512.size (k0_off45_inb arg25 arg26 arg27 v35 k0_hw13 k0_h7)).WholeWords (EltTy.packing .fp8e4m3) := fun arg25 arg26 arg27 v35 k0_hw13 k0_h7 => k0_hw13.2.2.2.1 k0_h7 (k0_off45_inb arg25 arg26 arg27 v35 k0_hw13 k0_h7)
theorem k0_off47_inb : ∀ (arg25 : BitVec 32) (arg26 : BitVec 32) (arg27 : BitVec 32) (v35 : BitVec 32) (k0_hw13 : k0_chk13 arg25 arg26 arg27 v35), ∀ (k0_h7 : k0_cond7 arg25 arg27 v35 = 1#1), ∀ a, (k0_off47 arg25) a + S1.size a ≤ S32.size a := fun arg25 arg26 arg27 v35 k0_hw13 k0_h7 => k0_hw13.2.2.2.2.1 k0_h7
theorem k0_off48_inb : ∀ (arg25 : BitVec 32) (arg26 : BitVec 32) (arg27 : BitVec 32) (v35 : BitVec 32) (k0_hw13 : k0_chk13 arg25 arg26 arg27 v35), ∀ (k0_h7 : k0_cond7 arg25 arg27 v35 = 1#1), ∀ a, (k0_off48 arg25) a + S1x64x64.size a ≤ S32x256x64.size a := fun arg25 arg26 arg27 v35 k0_hw13 k0_h7 => k0_hw13.2.2.2.2.2.1 k0_h7
theorem k0_off48_wordsbf16 : ∀ (arg25 : BitVec 32) (arg26 : BitVec 32) (arg27 : BitVec 32) (v35 : BitVec 32) (k0_hw13 : k0_chk13 arg25 arg26 arg27 v35), ∀ (k0_h7 : k0_cond7 arg25 arg27 v35 = 1#1), (Rect.unit (s := S32x256x64) (k0_off48 arg25) S1x64x64.size (k0_off48_inb arg25 arg26 arg27 v35 k0_hw13 k0_h7)).WholeWords (EltTy.packing .bf16) := fun arg25 arg26 arg27 v35 k0_hw13 k0_h7 => k0_hw13.2.2.2.2.2.2 k0_h7 (k0_off48_inb arg25 arg26 arg27 v35 k0_hw13 k0_h7)

def k0_off50 (arg26 : BitVec 32) : Fin 1 → Nat :=
  let v44 : Index := Scalar.indexCast arg26
  ![v44.toNat]
def k0_off51 (arg26 : BitVec 32) (arg27 : BitVec 32) : Fin 2 → Nat :=
  let v193 : Index := Scalar.indexCast arg26
  let c4_i32_98 : BitVec 32 := 4#32
  let v191 : BitVec 32 := Scalar.muli arg27 c4_i32_98
  let c2_i32_99 : BitVec 32 := 2#32
  let v192 : BitVec 32 := Scalar.addi v191 c2_i32_99
  let v194 : Index := Scalar.indexCast v192
  ![v193.toNat, v194.toNat]
def k0_cond8 (arg25 : BitVec 32) (arg27 : BitVec 32) (v45 : BitVec 32) : BitVec 1 :=
  let c4_i32_29 : BitVec 32 := 4#32
  let v41 : BitVec 32 := Scalar.muli arg27 c4_i32_29
  let c2_i32_30 : BitVec 32 := 2#32
  let v42 : BitVec 32 := Scalar.addi v41 c2_i32_30
  let c64_i32_31 : BitVec 32 := 64#32
  let v43 : BitVec 32 := Scalar.muli v42 c64_i32_31
  let v46 : BitVec 1 := Scalar.cmpi .slt v43 v45
  let c32_i32_32 : BitVec 32 := 32#32
  let v47 : BitVec 1 := Scalar.cmpi .slt arg25 c32_i32_32
  let v48 : BitVec 1 := Scalar.ori v46 v47
  let v49 : BitVec 32 := Scalar.extui v48
  let c0_i32_33 : BitVec 32 := 0#32
  let v50 : BitVec 1 := Scalar.cmpi .ne v49 c0_i32_33
  v50

def k0_off52 (arg25 : BitVec 32) : Fin 1 → Nat :=
  let c32_i32_20 : BitVec 32 := 32#32
  let v20 : BitVec 32 := Scalar.remsi arg25 c32_i32_20
  ![v20.toNat]
def k0_off53 (arg25 : BitVec 32) : Fin 3 → Nat :=
  let c32_i32_20 : BitVec 32 := 32#32
  let v20 : BitVec 32 := Scalar.remsi arg25 c32_i32_20
  let c128_i32 : BitVec 32 := 128#32
  let c0_i32_100 : BitVec 32 := 0#32
  ![v20.toNat, 128, 0]
def k0_off54 (v195 : BitVec 32) : Fin 3 → Nat :=
  let c0_i32_101 : BitVec 32 := 0#32
  let c0_i32_102 : BitVec 32 := 0#32
  ![v195.toNat, 0, 0]

def k0_off55 (arg25 : BitVec 32) : Fin 1 → Nat :=
  let c32_i32_20 : BitVec 32 := 32#32
  let v20 : BitVec 32 := Scalar.remsi arg25 c32_i32_20
  ![v20.toNat]
def k0_off56 (arg25 : BitVec 32) : Fin 3 → Nat :=
  let c32_i32_20 : BitVec 32 := 32#32
  let v20 : BitVec 32 := Scalar.remsi arg25 c32_i32_20
  let c128_i32_103 : BitVec 32 := 128#32
  let c0_i32_104 : BitVec 32 := 0#32
  ![v20.toNat, 128, 0]
def k0_off57 (v195 : BitVec 32) : Fin 3 → Nat :=
  let c0_i32_105 : BitVec 32 := 0#32
  let c0_i32_106 : BitVec 32 := 0#32
  ![v195.toNat, 0, 0]

def k0_chk16 (arg25 : BitVec 32) (arg27 : BitVec 32) (v45 : BitVec 32) (v195 : BitVec 32) : Prop :=
  (∀ (k0_h8 : k0_cond8 arg25 arg27 v45 = 1#1), ∀ a, (k0_off54 v195) a + S1x64x512.size a ≤ S2560x64x512.size a) ∧
  (∀ (k0_h8 : k0_cond8 arg25 arg27 v45 = 1#1), ∀ (hinb : ∀ a, (k0_off54 v195) a + S1x64x512.size a ≤ S2560x64x512.size a), (Rect.unit (s := S2560x64x512) (k0_off54 v195) S1x64x512.size hinb).WholeWords (EltTy.packing .fp8e4m3)) ∧
  (∀ (k0_h8 : k0_cond8 arg25 arg27 v45 = 1#1), ∀ a, (k0_off57 v195) a + S1x64x64.size a ≤ S2560x64x64.size a) ∧
  (∀ (k0_h8 : k0_cond8 arg25 arg27 v45 = 1#1), ∀ (hinb : ∀ a, (k0_off57 v195) a + S1x64x64.size a ≤ S2560x64x64.size a), (Rect.unit (s := S2560x64x64) (k0_off57 v195) S1x64x64.size hinb).WholeWords (EltTy.packing .bf16))
theorem k0_off54_inb : ∀ (arg25 : BitVec 32) (arg27 : BitVec 32) (v45 : BitVec 32) (v195 : BitVec 32) (k0_hw16 : k0_chk16 arg25 arg27 v45 v195), ∀ (k0_h8 : k0_cond8 arg25 arg27 v45 = 1#1), ∀ a, (k0_off54 v195) a + S1x64x512.size a ≤ S2560x64x512.size a := fun arg25 arg27 v45 v195 k0_hw16 k0_h8 => k0_hw16.1 k0_h8
theorem k0_off54_wordsfp8e4m3 : ∀ (arg25 : BitVec 32) (arg27 : BitVec 32) (v45 : BitVec 32) (v195 : BitVec 32) (k0_hw16 : k0_chk16 arg25 arg27 v45 v195), ∀ (k0_h8 : k0_cond8 arg25 arg27 v45 = 1#1), (Rect.unit (s := S2560x64x512) (k0_off54 v195) S1x64x512.size (k0_off54_inb arg25 arg27 v45 v195 k0_hw16 k0_h8)).WholeWords (EltTy.packing .fp8e4m3) := fun arg25 arg27 v45 v195 k0_hw16 k0_h8 => k0_hw16.2.1 k0_h8 (k0_off54_inb arg25 arg27 v45 v195 k0_hw16 k0_h8)
theorem k0_off57_inb : ∀ (arg25 : BitVec 32) (arg27 : BitVec 32) (v45 : BitVec 32) (v195 : BitVec 32) (k0_hw16 : k0_chk16 arg25 arg27 v45 v195), ∀ (k0_h8 : k0_cond8 arg25 arg27 v45 = 1#1), ∀ a, (k0_off57 v195) a + S1x64x64.size a ≤ S2560x64x64.size a := fun arg25 arg27 v45 v195 k0_hw16 k0_h8 => k0_hw16.2.2.1 k0_h8
theorem k0_off57_wordsbf16 : ∀ (arg25 : BitVec 32) (arg27 : BitVec 32) (v45 : BitVec 32) (v195 : BitVec 32) (k0_hw16 : k0_chk16 arg25 arg27 v45 v195), ∀ (k0_h8 : k0_cond8 arg25 arg27 v45 = 1#1), (Rect.unit (s := S2560x64x64) (k0_off57 v195) S1x64x64.size (k0_off57_inb arg25 arg27 v45 v195 k0_hw16 k0_h8)).WholeWords (EltTy.packing .bf16) := fun arg25 arg27 v45 v195 k0_hw16 k0_h8 => k0_hw16.2.2.2 k0_h8 (k0_off57_inb arg25 arg27 v45 v195 k0_hw16 k0_h8)

def k0_chk15 (arg25 : BitVec 32) (arg26 : BitVec 32) (arg27 : BitVec 32) (v45 : BitVec 32) : Prop :=
  (∀ (k0_h8 : k0_cond8 arg25 arg27 v45 = 1#1), ∀ a, (k0_off51 arg26 arg27) a + S1x1.size a ≤ S64x32.size a) ∧
  (∀ (k0_h8 : k0_cond8 arg25 arg27 v45 = 1#1), ∀ a, (k0_off52 arg25) a + S1.size a ≤ S32.size a) ∧
  (∀ (k0_h8 : k0_cond8 arg25 arg27 v45 = 1#1), ∀ a, (k0_off53 arg25) a + S1x64x512.size a ≤ S32x256x512.size a) ∧
  (∀ (k0_h8 : k0_cond8 arg25 arg27 v45 = 1#1), ∀ (hinb : ∀ a, (k0_off53 arg25) a + S1x64x512.size a ≤ S32x256x512.size a), (Rect.unit (s := S32x256x512) (k0_off53 arg25) S1x64x512.size hinb).WholeWords (EltTy.packing .fp8e4m3)) ∧
  (∀ (k0_h8 : k0_cond8 arg25 arg27 v45 = 1#1), ∀ a, (k0_off55 arg25) a + S1.size a ≤ S32.size a) ∧
  (∀ (k0_h8 : k0_cond8 arg25 arg27 v45 = 1#1), ∀ a, (k0_off56 arg25) a + S1x64x64.size a ≤ S32x256x64.size a) ∧
  (∀ (k0_h8 : k0_cond8 arg25 arg27 v45 = 1#1), ∀ (hinb : ∀ a, (k0_off56 arg25) a + S1x64x64.size a ≤ S32x256x64.size a), (Rect.unit (s := S32x256x64) (k0_off56 arg25) S1x64x64.size hinb).WholeWords (EltTy.packing .bf16))
theorem k0_off51_inb : ∀ (arg25 : BitVec 32) (arg26 : BitVec 32) (arg27 : BitVec 32) (v45 : BitVec 32) (k0_hw15 : k0_chk15 arg25 arg26 arg27 v45), ∀ (k0_h8 : k0_cond8 arg25 arg27 v45 = 1#1), ∀ a, (k0_off51 arg26 arg27) a + S1x1.size a ≤ S64x32.size a := fun arg25 arg26 arg27 v45 k0_hw15 k0_h8 => k0_hw15.1 k0_h8
theorem k0_off52_inb : ∀ (arg25 : BitVec 32) (arg26 : BitVec 32) (arg27 : BitVec 32) (v45 : BitVec 32) (k0_hw15 : k0_chk15 arg25 arg26 arg27 v45), ∀ (k0_h8 : k0_cond8 arg25 arg27 v45 = 1#1), ∀ a, (k0_off52 arg25) a + S1.size a ≤ S32.size a := fun arg25 arg26 arg27 v45 k0_hw15 k0_h8 => k0_hw15.2.1 k0_h8
theorem k0_off53_inb : ∀ (arg25 : BitVec 32) (arg26 : BitVec 32) (arg27 : BitVec 32) (v45 : BitVec 32) (k0_hw15 : k0_chk15 arg25 arg26 arg27 v45), ∀ (k0_h8 : k0_cond8 arg25 arg27 v45 = 1#1), ∀ a, (k0_off53 arg25) a + S1x64x512.size a ≤ S32x256x512.size a := fun arg25 arg26 arg27 v45 k0_hw15 k0_h8 => k0_hw15.2.2.1 k0_h8
theorem k0_off53_wordsfp8e4m3 : ∀ (arg25 : BitVec 32) (arg26 : BitVec 32) (arg27 : BitVec 32) (v45 : BitVec 32) (k0_hw15 : k0_chk15 arg25 arg26 arg27 v45), ∀ (k0_h8 : k0_cond8 arg25 arg27 v45 = 1#1), (Rect.unit (s := S32x256x512) (k0_off53 arg25) S1x64x512.size (k0_off53_inb arg25 arg26 arg27 v45 k0_hw15 k0_h8)).WholeWords (EltTy.packing .fp8e4m3) := fun arg25 arg26 arg27 v45 k0_hw15 k0_h8 => k0_hw15.2.2.2.1 k0_h8 (k0_off53_inb arg25 arg26 arg27 v45 k0_hw15 k0_h8)
theorem k0_off55_inb : ∀ (arg25 : BitVec 32) (arg26 : BitVec 32) (arg27 : BitVec 32) (v45 : BitVec 32) (k0_hw15 : k0_chk15 arg25 arg26 arg27 v45), ∀ (k0_h8 : k0_cond8 arg25 arg27 v45 = 1#1), ∀ a, (k0_off55 arg25) a + S1.size a ≤ S32.size a := fun arg25 arg26 arg27 v45 k0_hw15 k0_h8 => k0_hw15.2.2.2.2.1 k0_h8
theorem k0_off56_inb : ∀ (arg25 : BitVec 32) (arg26 : BitVec 32) (arg27 : BitVec 32) (v45 : BitVec 32) (k0_hw15 : k0_chk15 arg25 arg26 arg27 v45), ∀ (k0_h8 : k0_cond8 arg25 arg27 v45 = 1#1), ∀ a, (k0_off56 arg25) a + S1x64x64.size a ≤ S32x256x64.size a := fun arg25 arg26 arg27 v45 k0_hw15 k0_h8 => k0_hw15.2.2.2.2.2.1 k0_h8
theorem k0_off56_wordsbf16 : ∀ (arg25 : BitVec 32) (arg26 : BitVec 32) (arg27 : BitVec 32) (v45 : BitVec 32) (k0_hw15 : k0_chk15 arg25 arg26 arg27 v45), ∀ (k0_h8 : k0_cond8 arg25 arg27 v45 = 1#1), (Rect.unit (s := S32x256x64) (k0_off56 arg25) S1x64x64.size (k0_off56_inb arg25 arg26 arg27 v45 k0_hw15 k0_h8)).WholeWords (EltTy.packing .bf16) := fun arg25 arg26 arg27 v45 k0_hw15 k0_h8 => k0_hw15.2.2.2.2.2.2 k0_h8 (k0_off56_inb arg25 arg26 arg27 v45 k0_hw15 k0_h8)

def k0_off58 (arg26 : BitVec 32) : Fin 1 → Nat :=
  let v54 : Index := Scalar.indexCast arg26
  ![v54.toNat]
def k0_off59 (arg26 : BitVec 32) (arg27 : BitVec 32) : Fin 2 → Nat :=
  let v193 : Index := Scalar.indexCast arg26
  let c4_i32_98 : BitVec 32 := 4#32
  let v191 : BitVec 32 := Scalar.muli arg27 c4_i32_98
  let c3_i32_99 : BitVec 32 := 3#32
  let v192 : BitVec 32 := Scalar.addi v191 c3_i32_99
  let v194 : Index := Scalar.indexCast v192
  ![v193.toNat, v194.toNat]
def k0_cond9 (arg25 : BitVec 32) (arg27 : BitVec 32) (v55 : BitVec 32) : BitVec 1 :=
  let c4_i32_34 : BitVec 32 := 4#32
  let v51 : BitVec 32 := Scalar.muli arg27 c4_i32_34
  let c3_i32 : BitVec 32 := 3#32
  let v52 : BitVec 32 := Scalar.addi v51 c3_i32
  let c64_i32_35 : BitVec 32 := 64#32
  let v53 : BitVec 32 := Scalar.muli v52 c64_i32_35
  let v56 : BitVec 1 := Scalar.cmpi .slt v53 v55
  let c32_i32_36 : BitVec 32 := 32#32
  let v57 : BitVec 1 := Scalar.cmpi .slt arg25 c32_i32_36
  let v58 : BitVec 1 := Scalar.ori v56 v57
  let v59 : BitVec 32 := Scalar.extui v58
  let c0_i32_37 : BitVec 32 := 0#32
  let v60 : BitVec 1 := Scalar.cmpi .ne v59 c0_i32_37
  v60

def k0_off60 (arg25 : BitVec 32) : Fin 1 → Nat :=
  let c32_i32_20 : BitVec 32 := 32#32
  let v20 : BitVec 32 := Scalar.remsi arg25 c32_i32_20
  ![v20.toNat]
def k0_off61 (arg25 : BitVec 32) : Fin 3 → Nat :=
  let c32_i32_20 : BitVec 32 := 32#32
  let v20 : BitVec 32 := Scalar.remsi arg25 c32_i32_20
  let c192_i32 : BitVec 32 := 192#32
  let c0_i32_100 : BitVec 32 := 0#32
  ![v20.toNat, 192, 0]
def k0_off62 (v195 : BitVec 32) : Fin 3 → Nat :=
  let c0_i32_101 : BitVec 32 := 0#32
  let c0_i32_102 : BitVec 32 := 0#32
  ![v195.toNat, 0, 0]

def k0_off63 (arg25 : BitVec 32) : Fin 1 → Nat :=
  let c32_i32_20 : BitVec 32 := 32#32
  let v20 : BitVec 32 := Scalar.remsi arg25 c32_i32_20
  ![v20.toNat]
def k0_off64 (arg25 : BitVec 32) : Fin 3 → Nat :=
  let c32_i32_20 : BitVec 32 := 32#32
  let v20 : BitVec 32 := Scalar.remsi arg25 c32_i32_20
  let c192_i32_103 : BitVec 32 := 192#32
  let c0_i32_104 : BitVec 32 := 0#32
  ![v20.toNat, 192, 0]
def k0_off65 (v195 : BitVec 32) : Fin 3 → Nat :=
  let c0_i32_105 : BitVec 32 := 0#32
  let c0_i32_106 : BitVec 32 := 0#32
  ![v195.toNat, 0, 0]

def k0_chk18 (arg25 : BitVec 32) (arg27 : BitVec 32) (v55 : BitVec 32) (v195 : BitVec 32) : Prop :=
  (∀ (k0_h9 : k0_cond9 arg25 arg27 v55 = 1#1), ∀ a, (k0_off62 v195) a + S1x64x512.size a ≤ S2560x64x512.size a) ∧
  (∀ (k0_h9 : k0_cond9 arg25 arg27 v55 = 1#1), ∀ (hinb : ∀ a, (k0_off62 v195) a + S1x64x512.size a ≤ S2560x64x512.size a), (Rect.unit (s := S2560x64x512) (k0_off62 v195) S1x64x512.size hinb).WholeWords (EltTy.packing .fp8e4m3)) ∧
  (∀ (k0_h9 : k0_cond9 arg25 arg27 v55 = 1#1), ∀ a, (k0_off65 v195) a + S1x64x64.size a ≤ S2560x64x64.size a) ∧
  (∀ (k0_h9 : k0_cond9 arg25 arg27 v55 = 1#1), ∀ (hinb : ∀ a, (k0_off65 v195) a + S1x64x64.size a ≤ S2560x64x64.size a), (Rect.unit (s := S2560x64x64) (k0_off65 v195) S1x64x64.size hinb).WholeWords (EltTy.packing .bf16))
theorem k0_off62_inb : ∀ (arg25 : BitVec 32) (arg27 : BitVec 32) (v55 : BitVec 32) (v195 : BitVec 32) (k0_hw18 : k0_chk18 arg25 arg27 v55 v195), ∀ (k0_h9 : k0_cond9 arg25 arg27 v55 = 1#1), ∀ a, (k0_off62 v195) a + S1x64x512.size a ≤ S2560x64x512.size a := fun arg25 arg27 v55 v195 k0_hw18 k0_h9 => k0_hw18.1 k0_h9
theorem k0_off62_wordsfp8e4m3 : ∀ (arg25 : BitVec 32) (arg27 : BitVec 32) (v55 : BitVec 32) (v195 : BitVec 32) (k0_hw18 : k0_chk18 arg25 arg27 v55 v195), ∀ (k0_h9 : k0_cond9 arg25 arg27 v55 = 1#1), (Rect.unit (s := S2560x64x512) (k0_off62 v195) S1x64x512.size (k0_off62_inb arg25 arg27 v55 v195 k0_hw18 k0_h9)).WholeWords (EltTy.packing .fp8e4m3) := fun arg25 arg27 v55 v195 k0_hw18 k0_h9 => k0_hw18.2.1 k0_h9 (k0_off62_inb arg25 arg27 v55 v195 k0_hw18 k0_h9)
theorem k0_off65_inb : ∀ (arg25 : BitVec 32) (arg27 : BitVec 32) (v55 : BitVec 32) (v195 : BitVec 32) (k0_hw18 : k0_chk18 arg25 arg27 v55 v195), ∀ (k0_h9 : k0_cond9 arg25 arg27 v55 = 1#1), ∀ a, (k0_off65 v195) a + S1x64x64.size a ≤ S2560x64x64.size a := fun arg25 arg27 v55 v195 k0_hw18 k0_h9 => k0_hw18.2.2.1 k0_h9
theorem k0_off65_wordsbf16 : ∀ (arg25 : BitVec 32) (arg27 : BitVec 32) (v55 : BitVec 32) (v195 : BitVec 32) (k0_hw18 : k0_chk18 arg25 arg27 v55 v195), ∀ (k0_h9 : k0_cond9 arg25 arg27 v55 = 1#1), (Rect.unit (s := S2560x64x64) (k0_off65 v195) S1x64x64.size (k0_off65_inb arg25 arg27 v55 v195 k0_hw18 k0_h9)).WholeWords (EltTy.packing .bf16) := fun arg25 arg27 v55 v195 k0_hw18 k0_h9 => k0_hw18.2.2.2 k0_h9 (k0_off65_inb arg25 arg27 v55 v195 k0_hw18 k0_h9)

def k0_chk17 (arg25 : BitVec 32) (arg26 : BitVec 32) (arg27 : BitVec 32) (v55 : BitVec 32) : Prop :=
  (∀ (k0_h9 : k0_cond9 arg25 arg27 v55 = 1#1), ∀ a, (k0_off59 arg26 arg27) a + S1x1.size a ≤ S64x32.size a) ∧
  (∀ (k0_h9 : k0_cond9 arg25 arg27 v55 = 1#1), ∀ a, (k0_off60 arg25) a + S1.size a ≤ S32.size a) ∧
  (∀ (k0_h9 : k0_cond9 arg25 arg27 v55 = 1#1), ∀ a, (k0_off61 arg25) a + S1x64x512.size a ≤ S32x256x512.size a) ∧
  (∀ (k0_h9 : k0_cond9 arg25 arg27 v55 = 1#1), ∀ (hinb : ∀ a, (k0_off61 arg25) a + S1x64x512.size a ≤ S32x256x512.size a), (Rect.unit (s := S32x256x512) (k0_off61 arg25) S1x64x512.size hinb).WholeWords (EltTy.packing .fp8e4m3)) ∧
  (∀ (k0_h9 : k0_cond9 arg25 arg27 v55 = 1#1), ∀ a, (k0_off63 arg25) a + S1.size a ≤ S32.size a) ∧
  (∀ (k0_h9 : k0_cond9 arg25 arg27 v55 = 1#1), ∀ a, (k0_off64 arg25) a + S1x64x64.size a ≤ S32x256x64.size a) ∧
  (∀ (k0_h9 : k0_cond9 arg25 arg27 v55 = 1#1), ∀ (hinb : ∀ a, (k0_off64 arg25) a + S1x64x64.size a ≤ S32x256x64.size a), (Rect.unit (s := S32x256x64) (k0_off64 arg25) S1x64x64.size hinb).WholeWords (EltTy.packing .bf16))
theorem k0_off59_inb : ∀ (arg25 : BitVec 32) (arg26 : BitVec 32) (arg27 : BitVec 32) (v55 : BitVec 32) (k0_hw17 : k0_chk17 arg25 arg26 arg27 v55), ∀ (k0_h9 : k0_cond9 arg25 arg27 v55 = 1#1), ∀ a, (k0_off59 arg26 arg27) a + S1x1.size a ≤ S64x32.size a := fun arg25 arg26 arg27 v55 k0_hw17 k0_h9 => k0_hw17.1 k0_h9
theorem k0_off60_inb : ∀ (arg25 : BitVec 32) (arg26 : BitVec 32) (arg27 : BitVec 32) (v55 : BitVec 32) (k0_hw17 : k0_chk17 arg25 arg26 arg27 v55), ∀ (k0_h9 : k0_cond9 arg25 arg27 v55 = 1#1), ∀ a, (k0_off60 arg25) a + S1.size a ≤ S32.size a := fun arg25 arg26 arg27 v55 k0_hw17 k0_h9 => k0_hw17.2.1 k0_h9
theorem k0_off61_inb : ∀ (arg25 : BitVec 32) (arg26 : BitVec 32) (arg27 : BitVec 32) (v55 : BitVec 32) (k0_hw17 : k0_chk17 arg25 arg26 arg27 v55), ∀ (k0_h9 : k0_cond9 arg25 arg27 v55 = 1#1), ∀ a, (k0_off61 arg25) a + S1x64x512.size a ≤ S32x256x512.size a := fun arg25 arg26 arg27 v55 k0_hw17 k0_h9 => k0_hw17.2.2.1 k0_h9
theorem k0_off61_wordsfp8e4m3 : ∀ (arg25 : BitVec 32) (arg26 : BitVec 32) (arg27 : BitVec 32) (v55 : BitVec 32) (k0_hw17 : k0_chk17 arg25 arg26 arg27 v55), ∀ (k0_h9 : k0_cond9 arg25 arg27 v55 = 1#1), (Rect.unit (s := S32x256x512) (k0_off61 arg25) S1x64x512.size (k0_off61_inb arg25 arg26 arg27 v55 k0_hw17 k0_h9)).WholeWords (EltTy.packing .fp8e4m3) := fun arg25 arg26 arg27 v55 k0_hw17 k0_h9 => k0_hw17.2.2.2.1 k0_h9 (k0_off61_inb arg25 arg26 arg27 v55 k0_hw17 k0_h9)
theorem k0_off63_inb : ∀ (arg25 : BitVec 32) (arg26 : BitVec 32) (arg27 : BitVec 32) (v55 : BitVec 32) (k0_hw17 : k0_chk17 arg25 arg26 arg27 v55), ∀ (k0_h9 : k0_cond9 arg25 arg27 v55 = 1#1), ∀ a, (k0_off63 arg25) a + S1.size a ≤ S32.size a := fun arg25 arg26 arg27 v55 k0_hw17 k0_h9 => k0_hw17.2.2.2.2.1 k0_h9
theorem k0_off64_inb : ∀ (arg25 : BitVec 32) (arg26 : BitVec 32) (arg27 : BitVec 32) (v55 : BitVec 32) (k0_hw17 : k0_chk17 arg25 arg26 arg27 v55), ∀ (k0_h9 : k0_cond9 arg25 arg27 v55 = 1#1), ∀ a, (k0_off64 arg25) a + S1x64x64.size a ≤ S32x256x64.size a := fun arg25 arg26 arg27 v55 k0_hw17 k0_h9 => k0_hw17.2.2.2.2.2.1 k0_h9
theorem k0_off64_wordsbf16 : ∀ (arg25 : BitVec 32) (arg26 : BitVec 32) (arg27 : BitVec 32) (v55 : BitVec 32) (k0_hw17 : k0_chk17 arg25 arg26 arg27 v55), ∀ (k0_h9 : k0_cond9 arg25 arg27 v55 = 1#1), (Rect.unit (s := S32x256x64) (k0_off64 arg25) S1x64x64.size (k0_off64_inb arg25 arg26 arg27 v55 k0_hw17 k0_h9)).WholeWords (EltTy.packing .bf16) := fun arg25 arg26 arg27 v55 k0_hw17 k0_h9 => k0_hw17.2.2.2.2.2.2 k0_h9 (k0_off64_inb arg25 arg26 arg27 v55 k0_hw17 k0_h9)

def k0_off66 (arg26 : BitVec 32) : Fin 3 → Nat :=
  let v61 : Index := Scalar.indexCast arg26
  let c0 : Index := 0#32
  let c0_38 : Index := 0#32
  ![v61.toNat, 0, 0]
def k0_off67 (arg26 : BitVec 32) : Fin 3 → Nat :=
  let v64 : Index := Scalar.indexCast arg26
  let c0_39 : Index := 0#32
  let c0_40 : Index := 0#32
  ![v64.toNat, 0, 0]
def k0_off68 (arg26 : BitVec 32) : Fin 3 → Nat :=
  let v191 : Index := Scalar.indexCast arg26
  let c0_98 : Index := 0#32
  let c0_99 : Index := 0#32
  ![v191.toNat, 0, 0]
def k0_cond10 (arg27 : BitVec 32) : BitVec 1 :=
  let c0_i32_41 : BitVec 32 := 0#32
  let v67 : BitVec 1 := Scalar.cmpi .eq arg27 c0_i32_41
  let v68 : BitVec 32 := Scalar.extui v67
  let c0_i32_42 : BitVec 32 := 0#32
  let v69 : BitVec 1 := Scalar.cmpi .ne v68 c0_i32_42
  v69

def k0_off69 (arg26 : BitVec 32) : Fin 2 → Nat :=
  let v200 : Index := Scalar.indexCast arg26
  let c0_101 : Index := 0#32
  ![v200.toNat, 0]
def k0_off70 (arg26 : BitVec 32) : Fin 3 → Nat :=
  let v205 : Index := Scalar.indexCast arg26
  let c0_102 : Index := 0#32
  let c0_103 : Index := 0#32
  ![v205.toNat, 0, 0]
def k0_off71 (arg25 : BitVec 32) : Fin 3 → Nat :=
  let c32_i32_19 : BitVec 32 := 32#32
  let v19 : BitVec 32 := Scalar.remsi arg25 c32_i32_19
  let v70 : Index := Scalar.indexCast v19
  let c0_43 : Index := 0#32
  let c0_44 : Index := 0#32
  ![v70.toNat, 0, 0]

def k0_off72 (arg25 : BitVec 32) : Fin 3 → Nat :=
  let c32_i32_19 : BitVec 32 := 32#32
  let v19 : BitVec 32 := Scalar.remsi arg25 c32_i32_19
  let v74 : Index := Scalar.indexCast v19
  let c0_45 : Index := 0#32
  let c0_46 : Index := 0#32
  ![v74.toNat, 0, 0]

def k0_chk20 (arg25 : BitVec 32) : Prop :=
  (∀ a, (k0_off71 arg25) a + S1x256x512.size a ≤ S32x256x512.size a) ∧
  (∀ a, (k0_off72 arg25) a + S1x256x64.size a ≤ S32x256x64.size a)
theorem k0_off71_inb : ∀ (arg25 : BitVec 32) (k0_hw20 : k0_chk20 arg25), ∀ a, (k0_off71 arg25) a + S1x256x512.size a ≤ S32x256x512.size a := fun arg25 k0_hw20 => k0_hw20.1
theorem k0_off72_inb : ∀ (arg25 : BitVec 32) (k0_hw20 : k0_chk20 arg25), ∀ a, (k0_off72 arg25) a + S1x256x64.size a ≤ S32x256x64.size a := fun arg25 k0_hw20 => k0_hw20.2

def k0_off73 (arg26 : BitVec 32) (arg27 : BitVec 32) : Fin 2 → Nat :=
  let v80 : Index := Scalar.indexCast arg26
  let c4_i32_48 : BitVec 32 := 4#32
  let v78 : BitVec 32 := Scalar.muli arg27 c4_i32_48
  let c0_i32_49 : BitVec 32 := 0#32
  let v79 : BitVec 32 := Scalar.addi v78 c0_i32_49
  let v81 : Index := Scalar.indexCast v79
  ![v80.toNat, v81.toNat]
def k0_off74 (v82 : BitVec 32) : Fin 2 → Nat :=
  let v83 : Index := Scalar.indexCast v82
  let c0_50 : Index := 0#32
  ![v83.toNat, 0]

def k0_chk21 (v82 : BitVec 32) : Prop :=
  (∀ a, (k0_off74 v82) a + S1x64.size a ≤ S2560x64.size a)
theorem k0_off74_inb : ∀ (v82 : BitVec 32) (k0_hw21 : k0_chk21 v82), ∀ a, (k0_off74 v82) a + S1x64.size a ≤ S2560x64.size a := fun v82 k0_hw21 => k0_hw21

def k0_off75 (arg26 : BitVec 32) (arg27 : BitVec 32) : Fin 2 → Nat :=
  let v87 : Index := Scalar.indexCast arg26
  let c4_i32_51 : BitVec 32 := 4#32
  let v85 : BitVec 32 := Scalar.muli arg27 c4_i32_51
  let c1_i32_52 : BitVec 32 := 1#32
  let v86 : BitVec 32 := Scalar.addi v85 c1_i32_52
  let v88 : Index := Scalar.indexCast v86
  ![v87.toNat, v88.toNat]
def k0_off76 (v89 : BitVec 32) : Fin 2 → Nat :=
  let v90 : Index := Scalar.indexCast v89
  let c0_53 : Index := 0#32
  ![v90.toNat, 0]

def k0_chk22 (v89 : BitVec 32) : Prop :=
  (∀ a, (k0_off76 v89) a + S1x64.size a ≤ S2560x64.size a)
theorem k0_off76_inb : ∀ (v89 : BitVec 32) (k0_hw22 : k0_chk22 v89), ∀ a, (k0_off76 v89) a + S1x64.size a ≤ S2560x64.size a := fun v89 k0_hw22 => k0_hw22

def k0_off77 (arg26 : BitVec 32) (arg27 : BitVec 32) : Fin 2 → Nat :=
  let v94 : Index := Scalar.indexCast arg26
  let c4_i32_54 : BitVec 32 := 4#32
  let v92 : BitVec 32 := Scalar.muli arg27 c4_i32_54
  let c2_i32_55 : BitVec 32 := 2#32
  let v93 : BitVec 32 := Scalar.addi v92 c2_i32_55
  let v95 : Index := Scalar.indexCast v93
  ![v94.toNat, v95.toNat]
def k0_off78 (v96 : BitVec 32) : Fin 2 → Nat :=
  let v97 : Index := Scalar.indexCast v96
  let c0_56 : Index := 0#32
  ![v97.toNat, 0]

def k0_chk23 (v96 : BitVec 32) : Prop :=
  (∀ a, (k0_off78 v96) a + S1x64.size a ≤ S2560x64.size a)
theorem k0_off78_inb : ∀ (v96 : BitVec 32) (k0_hw23 : k0_chk23 v96), ∀ a, (k0_off78 v96) a + S1x64.size a ≤ S2560x64.size a := fun v96 k0_hw23 => k0_hw23

def k0_off79 (arg26 : BitVec 32) (arg27 : BitVec 32) : Fin 2 → Nat :=
  let v101 : Index := Scalar.indexCast arg26
  let c4_i32_57 : BitVec 32 := 4#32
  let v99 : BitVec 32 := Scalar.muli arg27 c4_i32_57
  let c3_i32_58 : BitVec 32 := 3#32
  let v100 : BitVec 32 := Scalar.addi v99 c3_i32_58
  let v102 : Index := Scalar.indexCast v100
  ![v101.toNat, v102.toNat]

def k0_chk19 (arg26 : BitVec 32) (arg27 : BitVec 32) : Prop :=
  (∀ (k0_h10 : k0_cond10 arg27 = 1#1), ∀ a, (k0_off68 arg26) a + S1x1x512.size a ≤ S64x1x512.size a) ∧
  (∀ (k0_h10 : k0_cond10 arg27 = 1#1), ∀ a, (k0_off69 arg26) a + S1x1.size a ≤ S64x1.size a) ∧
  (∀ (k0_h10 : k0_cond10 arg27 = 1#1), ∀ a, (k0_off70 arg26) a + S1x1x64.size a ≤ S64x1x64.size a) ∧
  (∀ a, (k0_off73 arg26 arg27) a + S1x1.size a ≤ S64x32.size a) ∧
  (∀ a, (k0_off75 arg26 arg27) a + S1x1.size a ≤ S64x32.size a) ∧
  (∀ a, (k0_off77 arg26 arg27) a + S1x1.size a ≤ S64x32.size a) ∧
  (∀ a, (k0_off79 arg26 arg27) a + S1x1.size a ≤ S64x32.size a)
theorem k0_off68_inb : ∀ (arg26 : BitVec 32) (arg27 : BitVec 32) (k0_hw19 : k0_chk19 arg26 arg27), ∀ (k0_h10 : k0_cond10 arg27 = 1#1), ∀ a, (k0_off68 arg26) a + S1x1x512.size a ≤ S64x1x512.size a := fun arg26 arg27 k0_hw19 k0_h10 => k0_hw19.1 k0_h10
theorem k0_off69_inb : ∀ (arg26 : BitVec 32) (arg27 : BitVec 32) (k0_hw19 : k0_chk19 arg26 arg27), ∀ (k0_h10 : k0_cond10 arg27 = 1#1), ∀ a, (k0_off69 arg26) a + S1x1.size a ≤ S64x1.size a := fun arg26 arg27 k0_hw19 k0_h10 => k0_hw19.2.1 k0_h10
theorem k0_off70_inb : ∀ (arg26 : BitVec 32) (arg27 : BitVec 32) (k0_hw19 : k0_chk19 arg26 arg27), ∀ (k0_h10 : k0_cond10 arg27 = 1#1), ∀ a, (k0_off70 arg26) a + S1x1x64.size a ≤ S64x1x64.size a := fun arg26 arg27 k0_hw19 k0_h10 => k0_hw19.2.2.1 k0_h10
theorem k0_off73_inb : ∀ (arg26 : BitVec 32) (arg27 : BitVec 32) (k0_hw19 : k0_chk19 arg26 arg27), ∀ a, (k0_off73 arg26 arg27) a + S1x1.size a ≤ S64x32.size a := fun arg26 arg27 k0_hw19 => k0_hw19.2.2.2.1
theorem k0_off75_inb : ∀ (arg26 : BitVec 32) (arg27 : BitVec 32) (k0_hw19 : k0_chk19 arg26 arg27), ∀ a, (k0_off75 arg26 arg27) a + S1x1.size a ≤ S64x32.size a := fun arg26 arg27 k0_hw19 => k0_hw19.2.2.2.2.1
theorem k0_off77_inb : ∀ (arg26 : BitVec 32) (arg27 : BitVec 32) (k0_hw19 : k0_chk19 arg26 arg27), ∀ a, (k0_off77 arg26 arg27) a + S1x1.size a ≤ S64x32.size a := fun arg26 arg27 k0_hw19 => k0_hw19.2.2.2.2.2.1
theorem k0_off79_inb : ∀ (arg26 : BitVec 32) (arg27 : BitVec 32) (k0_hw19 : k0_chk19 arg26 arg27), ∀ a, (k0_off79 arg26 arg27) a + S1x1.size a ≤ S64x32.size a := fun arg26 arg27 k0_hw19 => k0_hw19.2.2.2.2.2.2

def k0_off80 (v103 : BitVec 32) : Fin 2 → Nat :=
  let v104 : Index := Scalar.indexCast v103
  let c0_59 : Index := 0#32
  ![v104.toNat, 0]

def k0_chk24 (v103 : BitVec 32) : Prop :=
  (∀ a, (k0_off80 v103) a + S1x64.size a ≤ S2560x64.size a)
theorem k0_off80_inb : ∀ (v103 : BitVec 32) (k0_hw24 : k0_chk24 v103), ∀ a, (k0_off80 v103) a + S1x64.size a ≤ S2560x64.size a := fun v103 k0_hw24 => k0_hw24

def k0_off81 (arg26 : BitVec 32) : Fin 1 → Nat :=
  let v116 : Index := Scalar.indexCast arg26
  ![v116.toNat]
def k0_off82 (arg26 : BitVec 32) : Fin 1 → Nat :=
  let c63_i32 : BitVec 32 := 63#32
  let v156 : BitVec 32 := Scalar.minsi arg26 c63_i32
  let v157 : Index := Scalar.indexCast v156
  ![v157.toNat]
def k0_off83 (arg26 : BitVec 32) : Fin 3 → Nat :=
  let v196 : Index := Scalar.indexCast arg26
  let c0_102 : Index := 0#32
  let c0_103 : Index := 0#32
  ![v196.toNat, 0, 0]
def k0_cond11 (arg27 : BitVec 32) (v158 : BitVec 32) : BitVec 1 :=
  let c1_i32_77 : BitVec 32 := 1#32
  let v155 : BitVec 32 := Scalar.addi arg27 c1_i32_77
  let c255_i32 : BitVec 32 := 255#32
  let v159 : BitVec 32 := Scalar.addi v158 c255_i32
  let c256_i32_78 : BitVec 32 := 256#32
  let v160 : BitVec 32 := Scalar.divsi v159 c256_i32_78
  let v161 : BitVec 1 := Scalar.cmpi .sge v155 v160
  let v162 : BitVec 32 := Scalar.extui v161
  let c0_i32_79 : BitVec 32 := 0#32
  let v163 : BitVec 1 := Scalar.cmpi .ne v162 c0_i32_79
  v163

def k0_off84 (arg26 : BitVec 32) : Fin 3 → Nat :=
  let v206 : Index := Scalar.indexCast arg26
  let c0_106 : Index := 0#32
  let c0_107 : Index := 0#32
  ![v206.toNat, 0, 0]

def k0_chk25 (arg26 : BitVec 32) (arg27 : BitVec 32) (v158 : BitVec 32) : Prop :=
  (∀ (k0_h11 : k0_cond11 arg27 v158 = 1#1), ∀ a, (k0_off83 arg26) a + S1x32x512.size a ≤ S64x32x512.size a) ∧
  (∀ (k0_h11 : k0_cond11 arg27 v158 = 1#1), ∀ (hinb : ∀ a, (k0_off83 arg26) a + S1x32x512.size a ≤ S64x32x512.size a), (Rect.unit (s := S64x32x512) (k0_off83 arg26) S1x32x512.size hinb).PackedRows (EltTy.packing .bf16)) ∧
  (∀ (k0_h11 : k0_cond11 arg27 v158 = 1#1), ∀ a, (k0_off84 arg26) a + S1x1x32.size a ≤ S64x1x32.size a)
theorem k0_off83_inb : ∀ (arg26 : BitVec 32) (arg27 : BitVec 32) (v158 : BitVec 32) (k0_hw25 : k0_chk25 arg26 arg27 v158), ∀ (k0_h11 : k0_cond11 arg27 v158 = 1#1), ∀ a, (k0_off83 arg26) a + S1x32x512.size a ≤ S64x32x512.size a := fun arg26 arg27 v158 k0_hw25 k0_h11 => k0_hw25.1 k0_h11
theorem k0_off83_packedbf16 : ∀ (arg26 : BitVec 32) (arg27 : BitVec 32) (v158 : BitVec 32) (k0_hw25 : k0_chk25 arg26 arg27 v158), ∀ (k0_h11 : k0_cond11 arg27 v158 = 1#1), (Rect.unit (s := S64x32x512) (k0_off83 arg26) S1x32x512.size (k0_off83_inb arg26 arg27 v158 k0_hw25 k0_h11)).PackedRows (EltTy.packing .bf16) := fun arg26 arg27 v158 k0_hw25 k0_h11 => k0_hw25.2.1 k0_h11 (k0_off83_inb arg26 arg27 v158 k0_hw25 k0_h11)
theorem k0_off84_inb : ∀ (arg26 : BitVec 32) (arg27 : BitVec 32) (v158 : BitVec 32) (k0_hw25 : k0_chk25 arg26 arg27 v158), ∀ (k0_h11 : k0_cond11 arg27 v158 = 1#1), ∀ a, (k0_off84 arg26) a + S1x1x32.size a ≤ S64x1x32.size a := fun arg26 arg27 v158 k0_hw25 k0_h11 => k0_hw25.2.2 k0_h11

def k0_off85 (arg28 : BitVec 32) : Fin 1 → Nat :=
  let v195 : Index := Scalar.indexCast arg28
  ![v195.toNat]
def k0_cond12 (arg28 : BitVec 32) : BitVec 1 :=
  let c64_i32_81 : BitVec 32 := 64#32
  let v165 : BitVec 1 := Scalar.cmpi .slt arg28 c64_i32_81
  let v166 : BitVec 32 := Scalar.extui v165
  let c0_i32_82 : BitVec 32 := 0#32
  let v167 : BitVec 1 := Scalar.cmpi .ne v166 c0_i32_82
  v167

def k0_off86 (arg28 : BitVec 32) (arg29 : BitVec 32) : Fin 2 → Nat :=
  let v234 : Index := Scalar.indexCast arg28
  let c4_i32_119 : BitVec 32 := 4#32
  let v232 : BitVec 32 := Scalar.muli arg29 c4_i32_119
  let c0_i32_120 : BitVec 32 := 0#32
  let v233 : BitVec 32 := Scalar.addi v232 c0_i32_120
  let v235 : Index := Scalar.indexCast v233
  ![v234.toNat, v235.toNat]
def k0_cond13 (arg25 : BitVec 32) (arg29 : BitVec 32) (v196 : BitVec 32) : BitVec 1 :=
  let c4_i32_99 : BitVec 32 := 4#32
  let v192 : BitVec 32 := Scalar.muli arg29 c4_i32_99
  let c0_i32_100 : BitVec 32 := 0#32
  let v193 : BitVec 32 := Scalar.addi v192 c0_i32_100
  let c64_i32_101 : BitVec 32 := 64#32
  let v194 : BitVec 32 := Scalar.muli v193 c64_i32_101
  let v197 : BitVec 1 := Scalar.cmpi .slt v194 v196
  let c32_i32_80 : BitVec 32 := 32#32
  let v164 : BitVec 32 := Scalar.addi arg25 c32_i32_80
  let c32_i32_102 : BitVec 32 := 32#32
  let v198 : BitVec 1 := Scalar.cmpi .slt v164 c32_i32_102
  let v199 : BitVec 1 := Scalar.ori v197 v198
  let v200 : BitVec 32 := Scalar.extui v199
  let c0_i32_103 : BitVec 32 := 0#32
  let v201 : BitVec 1 := Scalar.cmpi .ne v200 c0_i32_103
  v201

def k0_off87 (arg25 : BitVec 32) : Fin 1 → Nat :=
  let c32_i32_80 : BitVec 32 := 32#32
  let v164 : BitVec 32 := Scalar.addi arg25 c32_i32_80
  let c32_i32_98 : BitVec 32 := 32#32
  let v191 : BitVec 32 := Scalar.remsi v164 c32_i32_98
  ![v191.toNat]
def k0_off88 (arg25 : BitVec 32) : Fin 3 → Nat :=
  let c32_i32_80 : BitVec 32 := 32#32
  let v164 : BitVec 32 := Scalar.addi arg25 c32_i32_80
  let c32_i32_98 : BitVec 32 := 32#32
  let v191 : BitVec 32 := Scalar.remsi v164 c32_i32_98
  let c0_i32_121 : BitVec 32 := 0#32
  let c0_i32_122 : BitVec 32 := 0#32
  ![v191.toNat, 0, 0]
def k0_off89 (v236 : BitVec 32) : Fin 3 → Nat :=
  let c0_i32_123 : BitVec 32 := 0#32
  let c0_i32_124 : BitVec 32 := 0#32
  ![v236.toNat, 0, 0]

def k0_off90 (arg25 : BitVec 32) : Fin 1 → Nat :=
  let c32_i32_80 : BitVec 32 := 32#32
  let v164 : BitVec 32 := Scalar.addi arg25 c32_i32_80
  let c32_i32_98 : BitVec 32 := 32#32
  let v191 : BitVec 32 := Scalar.remsi v164 c32_i32_98
  ![v191.toNat]
def k0_off91 (arg25 : BitVec 32) : Fin 3 → Nat :=
  let c32_i32_80 : BitVec 32 := 32#32
  let v164 : BitVec 32 := Scalar.addi arg25 c32_i32_80
  let c32_i32_98 : BitVec 32 := 32#32
  let v191 : BitVec 32 := Scalar.remsi v164 c32_i32_98
  let c0_i32_125 : BitVec 32 := 0#32
  let c0_i32_126 : BitVec 32 := 0#32
  ![v191.toNat, 0, 0]
def k0_off92 (v236 : BitVec 32) : Fin 3 → Nat :=
  let c0_i32_127 : BitVec 32 := 0#32
  let c0_i32_128 : BitVec 32 := 0#32
  ![v236.toNat, 0, 0]

def k0_chk28 (arg25 : BitVec 32) (arg28 : BitVec 32) (arg29 : BitVec 32) (v196 : BitVec 32) (v236 : BitVec 32) : Prop :=
  (∀ (k0_h12 : k0_cond12 arg28 = 1#1), ∀ (k0_h13 : k0_cond13 arg25 arg29 v196 = 1#1), ∀ a, (k0_off89 v236) a + S1x64x512.size a ≤ S2560x64x512.size a) ∧
  (∀ (k0_h12 : k0_cond12 arg28 = 1#1), ∀ (k0_h13 : k0_cond13 arg25 arg29 v196 = 1#1), ∀ (hinb : ∀ a, (k0_off89 v236) a + S1x64x512.size a ≤ S2560x64x512.size a), (Rect.unit (s := S2560x64x512) (k0_off89 v236) S1x64x512.size hinb).WholeWords (EltTy.packing .fp8e4m3)) ∧
  (∀ (k0_h12 : k0_cond12 arg28 = 1#1), ∀ (k0_h13 : k0_cond13 arg25 arg29 v196 = 1#1), ∀ a, (k0_off92 v236) a + S1x64x64.size a ≤ S2560x64x64.size a) ∧
  (∀ (k0_h12 : k0_cond12 arg28 = 1#1), ∀ (k0_h13 : k0_cond13 arg25 arg29 v196 = 1#1), ∀ (hinb : ∀ a, (k0_off92 v236) a + S1x64x64.size a ≤ S2560x64x64.size a), (Rect.unit (s := S2560x64x64) (k0_off92 v236) S1x64x64.size hinb).WholeWords (EltTy.packing .bf16))
theorem k0_off89_inb : ∀ (arg25 : BitVec 32) (arg28 : BitVec 32) (arg29 : BitVec 32) (v196 : BitVec 32) (v236 : BitVec 32) (k0_hw28 : k0_chk28 arg25 arg28 arg29 v196 v236), ∀ (k0_h12 : k0_cond12 arg28 = 1#1), ∀ (k0_h13 : k0_cond13 arg25 arg29 v196 = 1#1), ∀ a, (k0_off89 v236) a + S1x64x512.size a ≤ S2560x64x512.size a := fun arg25 arg28 arg29 v196 v236 k0_hw28 k0_h12 k0_h13 => k0_hw28.1 k0_h12 k0_h13
theorem k0_off89_wordsfp8e4m3 : ∀ (arg25 : BitVec 32) (arg28 : BitVec 32) (arg29 : BitVec 32) (v196 : BitVec 32) (v236 : BitVec 32) (k0_hw28 : k0_chk28 arg25 arg28 arg29 v196 v236), ∀ (k0_h12 : k0_cond12 arg28 = 1#1), ∀ (k0_h13 : k0_cond13 arg25 arg29 v196 = 1#1), (Rect.unit (s := S2560x64x512) (k0_off89 v236) S1x64x512.size (k0_off89_inb arg25 arg28 arg29 v196 v236 k0_hw28 k0_h12 k0_h13)).WholeWords (EltTy.packing .fp8e4m3) := fun arg25 arg28 arg29 v196 v236 k0_hw28 k0_h12 k0_h13 => k0_hw28.2.1 k0_h12 k0_h13 (k0_off89_inb arg25 arg28 arg29 v196 v236 k0_hw28 k0_h12 k0_h13)
theorem k0_off92_inb : ∀ (arg25 : BitVec 32) (arg28 : BitVec 32) (arg29 : BitVec 32) (v196 : BitVec 32) (v236 : BitVec 32) (k0_hw28 : k0_chk28 arg25 arg28 arg29 v196 v236), ∀ (k0_h12 : k0_cond12 arg28 = 1#1), ∀ (k0_h13 : k0_cond13 arg25 arg29 v196 = 1#1), ∀ a, (k0_off92 v236) a + S1x64x64.size a ≤ S2560x64x64.size a := fun arg25 arg28 arg29 v196 v236 k0_hw28 k0_h12 k0_h13 => k0_hw28.2.2.1 k0_h12 k0_h13
theorem k0_off92_wordsbf16 : ∀ (arg25 : BitVec 32) (arg28 : BitVec 32) (arg29 : BitVec 32) (v196 : BitVec 32) (v236 : BitVec 32) (k0_hw28 : k0_chk28 arg25 arg28 arg29 v196 v236), ∀ (k0_h12 : k0_cond12 arg28 = 1#1), ∀ (k0_h13 : k0_cond13 arg25 arg29 v196 = 1#1), (Rect.unit (s := S2560x64x64) (k0_off92 v236) S1x64x64.size (k0_off92_inb arg25 arg28 arg29 v196 v236 k0_hw28 k0_h12 k0_h13)).WholeWords (EltTy.packing .bf16) := fun arg25 arg28 arg29 v196 v236 k0_hw28 k0_h12 k0_h13 => k0_hw28.2.2.2 k0_h12 k0_h13 (k0_off92_inb arg25 arg28 arg29 v196 v236 k0_hw28 k0_h12 k0_h13)

def k0_chk27 (arg25 : BitVec 32) (arg28 : BitVec 32) (arg29 : BitVec 32) (v196 : BitVec 32) : Prop :=
  (∀ (k0_h12 : k0_cond12 arg28 = 1#1), ∀ (k0_h13 : k0_cond13 arg25 arg29 v196 = 1#1), ∀ a, (k0_off86 arg28 arg29) a + S1x1.size a ≤ S64x32.size a) ∧
  (∀ (k0_h12 : k0_cond12 arg28 = 1#1), ∀ (k0_h13 : k0_cond13 arg25 arg29 v196 = 1#1), ∀ a, (k0_off87 arg25) a + S1.size a ≤ S32.size a) ∧
  (∀ (k0_h12 : k0_cond12 arg28 = 1#1), ∀ (k0_h13 : k0_cond13 arg25 arg29 v196 = 1#1), ∀ a, (k0_off88 arg25) a + S1x64x512.size a ≤ S32x256x512.size a) ∧
  (∀ (k0_h12 : k0_cond12 arg28 = 1#1), ∀ (k0_h13 : k0_cond13 arg25 arg29 v196 = 1#1), ∀ (hinb : ∀ a, (k0_off88 arg25) a + S1x64x512.size a ≤ S32x256x512.size a), (Rect.unit (s := S32x256x512) (k0_off88 arg25) S1x64x512.size hinb).WholeWords (EltTy.packing .fp8e4m3)) ∧
  (∀ (k0_h12 : k0_cond12 arg28 = 1#1), ∀ (k0_h13 : k0_cond13 arg25 arg29 v196 = 1#1), ∀ a, (k0_off90 arg25) a + S1.size a ≤ S32.size a) ∧
  (∀ (k0_h12 : k0_cond12 arg28 = 1#1), ∀ (k0_h13 : k0_cond13 arg25 arg29 v196 = 1#1), ∀ a, (k0_off91 arg25) a + S1x64x64.size a ≤ S32x256x64.size a) ∧
  (∀ (k0_h12 : k0_cond12 arg28 = 1#1), ∀ (k0_h13 : k0_cond13 arg25 arg29 v196 = 1#1), ∀ (hinb : ∀ a, (k0_off91 arg25) a + S1x64x64.size a ≤ S32x256x64.size a), (Rect.unit (s := S32x256x64) (k0_off91 arg25) S1x64x64.size hinb).WholeWords (EltTy.packing .bf16))
theorem k0_off86_inb : ∀ (arg25 : BitVec 32) (arg28 : BitVec 32) (arg29 : BitVec 32) (v196 : BitVec 32) (k0_hw27 : k0_chk27 arg25 arg28 arg29 v196), ∀ (k0_h12 : k0_cond12 arg28 = 1#1), ∀ (k0_h13 : k0_cond13 arg25 arg29 v196 = 1#1), ∀ a, (k0_off86 arg28 arg29) a + S1x1.size a ≤ S64x32.size a := fun arg25 arg28 arg29 v196 k0_hw27 k0_h12 k0_h13 => k0_hw27.1 k0_h12 k0_h13
theorem k0_off87_inb : ∀ (arg25 : BitVec 32) (arg28 : BitVec 32) (arg29 : BitVec 32) (v196 : BitVec 32) (k0_hw27 : k0_chk27 arg25 arg28 arg29 v196), ∀ (k0_h12 : k0_cond12 arg28 = 1#1), ∀ (k0_h13 : k0_cond13 arg25 arg29 v196 = 1#1), ∀ a, (k0_off87 arg25) a + S1.size a ≤ S32.size a := fun arg25 arg28 arg29 v196 k0_hw27 k0_h12 k0_h13 => k0_hw27.2.1 k0_h12 k0_h13
theorem k0_off88_inb : ∀ (arg25 : BitVec 32) (arg28 : BitVec 32) (arg29 : BitVec 32) (v196 : BitVec 32) (k0_hw27 : k0_chk27 arg25 arg28 arg29 v196), ∀ (k0_h12 : k0_cond12 arg28 = 1#1), ∀ (k0_h13 : k0_cond13 arg25 arg29 v196 = 1#1), ∀ a, (k0_off88 arg25) a + S1x64x512.size a ≤ S32x256x512.size a := fun arg25 arg28 arg29 v196 k0_hw27 k0_h12 k0_h13 => k0_hw27.2.2.1 k0_h12 k0_h13
theorem k0_off88_wordsfp8e4m3 : ∀ (arg25 : BitVec 32) (arg28 : BitVec 32) (arg29 : BitVec 32) (v196 : BitVec 32) (k0_hw27 : k0_chk27 arg25 arg28 arg29 v196), ∀ (k0_h12 : k0_cond12 arg28 = 1#1), ∀ (k0_h13 : k0_cond13 arg25 arg29 v196 = 1#1), (Rect.unit (s := S32x256x512) (k0_off88 arg25) S1x64x512.size (k0_off88_inb arg25 arg28 arg29 v196 k0_hw27 k0_h12 k0_h13)).WholeWords (EltTy.packing .fp8e4m3) := fun arg25 arg28 arg29 v196 k0_hw27 k0_h12 k0_h13 => k0_hw27.2.2.2.1 k0_h12 k0_h13 (k0_off88_inb arg25 arg28 arg29 v196 k0_hw27 k0_h12 k0_h13)
theorem k0_off90_inb : ∀ (arg25 : BitVec 32) (arg28 : BitVec 32) (arg29 : BitVec 32) (v196 : BitVec 32) (k0_hw27 : k0_chk27 arg25 arg28 arg29 v196), ∀ (k0_h12 : k0_cond12 arg28 = 1#1), ∀ (k0_h13 : k0_cond13 arg25 arg29 v196 = 1#1), ∀ a, (k0_off90 arg25) a + S1.size a ≤ S32.size a := fun arg25 arg28 arg29 v196 k0_hw27 k0_h12 k0_h13 => k0_hw27.2.2.2.2.1 k0_h12 k0_h13
theorem k0_off91_inb : ∀ (arg25 : BitVec 32) (arg28 : BitVec 32) (arg29 : BitVec 32) (v196 : BitVec 32) (k0_hw27 : k0_chk27 arg25 arg28 arg29 v196), ∀ (k0_h12 : k0_cond12 arg28 = 1#1), ∀ (k0_h13 : k0_cond13 arg25 arg29 v196 = 1#1), ∀ a, (k0_off91 arg25) a + S1x64x64.size a ≤ S32x256x64.size a := fun arg25 arg28 arg29 v196 k0_hw27 k0_h12 k0_h13 => k0_hw27.2.2.2.2.2.1 k0_h12 k0_h13
theorem k0_off91_wordsbf16 : ∀ (arg25 : BitVec 32) (arg28 : BitVec 32) (arg29 : BitVec 32) (v196 : BitVec 32) (k0_hw27 : k0_chk27 arg25 arg28 arg29 v196), ∀ (k0_h12 : k0_cond12 arg28 = 1#1), ∀ (k0_h13 : k0_cond13 arg25 arg29 v196 = 1#1), (Rect.unit (s := S32x256x64) (k0_off91 arg25) S1x64x64.size (k0_off91_inb arg25 arg28 arg29 v196 k0_hw27 k0_h12 k0_h13)).WholeWords (EltTy.packing .bf16) := fun arg25 arg28 arg29 v196 k0_hw27 k0_h12 k0_h13 => k0_hw27.2.2.2.2.2.2 k0_h12 k0_h13 (k0_off91_inb arg25 arg28 arg29 v196 k0_hw27 k0_h12 k0_h13)

def k0_off93 (arg28 : BitVec 32) : Fin 1 → Nat :=
  let v205 : Index := Scalar.indexCast arg28
  ![v205.toNat]
def k0_off94 (arg28 : BitVec 32) (arg29 : BitVec 32) : Fin 2 → Nat :=
  let v234 : Index := Scalar.indexCast arg28
  let c4_i32_119 : BitVec 32 := 4#32
  let v232 : BitVec 32 := Scalar.muli arg29 c4_i32_119
  let c1_i32_120 : BitVec 32 := 1#32
  let v233 : BitVec 32 := Scalar.addi v232 c1_i32_120
  let v235 : Index := Scalar.indexCast v233
  ![v234.toNat, v235.toNat]
def k0_cond14 (arg25 : BitVec 32) (arg29 : BitVec 32) (v206 : BitVec 32) : BitVec 1 :=
  let c4_i32_104 : BitVec 32 := 4#32
  let v202 : BitVec 32 := Scalar.muli arg29 c4_i32_104
  let c1_i32_105 : BitVec 32 := 1#32
  let v203 : BitVec 32 := Scalar.addi v202 c1_i32_105
  let c64_i32_106 : BitVec 32 := 64#32
  let v204 : BitVec 32 := Scalar.muli v203 c64_i32_106
  let v207 : BitVec 1 := Scalar.cmpi .slt v204 v206
  let c32_i32_80 : BitVec 32 := 32#32
  let v164 : BitVec 32 := Scalar.addi arg25 c32_i32_80
  let c32_i32_107 : BitVec 32 := 32#32
  let v208 : BitVec 1 := Scalar.cmpi .slt v164 c32_i32_107
  let v209 : BitVec 1 := Scalar.ori v207 v208
  let v210 : BitVec 32 := Scalar.extui v209
  let c0_i32_108 : BitVec 32 := 0#32
  let v211 : BitVec 1 := Scalar.cmpi .ne v210 c0_i32_108
  v211

def k0_off95 (arg25 : BitVec 32) : Fin 1 → Nat :=
  let c32_i32_80 : BitVec 32 := 32#32
  let v164 : BitVec 32 := Scalar.addi arg25 c32_i32_80
  let c32_i32_98 : BitVec 32 := 32#32
  let v191 : BitVec 32 := Scalar.remsi v164 c32_i32_98
  ![v191.toNat]
def k0_off96 (arg25 : BitVec 32) : Fin 3 → Nat :=
  let c32_i32_80 : BitVec 32 := 32#32
  let v164 : BitVec 32 := Scalar.addi arg25 c32_i32_80
  let c32_i32_98 : BitVec 32 := 32#32
  let v191 : BitVec 32 := Scalar.remsi v164 c32_i32_98
  let c64_i32_121 : BitVec 32 := 64#32
  let c0_i32_122 : BitVec 32 := 0#32
  ![v191.toNat, 64, 0]
def k0_off97 (v236 : BitVec 32) : Fin 3 → Nat :=
  let c0_i32_123 : BitVec 32 := 0#32
  let c0_i32_124 : BitVec 32 := 0#32
  ![v236.toNat, 0, 0]

def k0_off98 (arg25 : BitVec 32) : Fin 1 → Nat :=
  let c32_i32_80 : BitVec 32 := 32#32
  let v164 : BitVec 32 := Scalar.addi arg25 c32_i32_80
  let c32_i32_98 : BitVec 32 := 32#32
  let v191 : BitVec 32 := Scalar.remsi v164 c32_i32_98
  ![v191.toNat]
def k0_off99 (arg25 : BitVec 32) : Fin 3 → Nat :=
  let c32_i32_80 : BitVec 32 := 32#32
  let v164 : BitVec 32 := Scalar.addi arg25 c32_i32_80
  let c32_i32_98 : BitVec 32 := 32#32
  let v191 : BitVec 32 := Scalar.remsi v164 c32_i32_98
  let c64_i32_125 : BitVec 32 := 64#32
  let c0_i32_126 : BitVec 32 := 0#32
  ![v191.toNat, 64, 0]
def k0_off100 (v236 : BitVec 32) : Fin 3 → Nat :=
  let c0_i32_127 : BitVec 32 := 0#32
  let c0_i32_128 : BitVec 32 := 0#32
  ![v236.toNat, 0, 0]

def k0_chk30 (arg25 : BitVec 32) (arg28 : BitVec 32) (arg29 : BitVec 32) (v206 : BitVec 32) (v236 : BitVec 32) : Prop :=
  (∀ (k0_h12 : k0_cond12 arg28 = 1#1), ∀ (k0_h14 : k0_cond14 arg25 arg29 v206 = 1#1), ∀ a, (k0_off97 v236) a + S1x64x512.size a ≤ S2560x64x512.size a) ∧
  (∀ (k0_h12 : k0_cond12 arg28 = 1#1), ∀ (k0_h14 : k0_cond14 arg25 arg29 v206 = 1#1), ∀ (hinb : ∀ a, (k0_off97 v236) a + S1x64x512.size a ≤ S2560x64x512.size a), (Rect.unit (s := S2560x64x512) (k0_off97 v236) S1x64x512.size hinb).WholeWords (EltTy.packing .fp8e4m3)) ∧
  (∀ (k0_h12 : k0_cond12 arg28 = 1#1), ∀ (k0_h14 : k0_cond14 arg25 arg29 v206 = 1#1), ∀ a, (k0_off100 v236) a + S1x64x64.size a ≤ S2560x64x64.size a) ∧
  (∀ (k0_h12 : k0_cond12 arg28 = 1#1), ∀ (k0_h14 : k0_cond14 arg25 arg29 v206 = 1#1), ∀ (hinb : ∀ a, (k0_off100 v236) a + S1x64x64.size a ≤ S2560x64x64.size a), (Rect.unit (s := S2560x64x64) (k0_off100 v236) S1x64x64.size hinb).WholeWords (EltTy.packing .bf16))
theorem k0_off97_inb : ∀ (arg25 : BitVec 32) (arg28 : BitVec 32) (arg29 : BitVec 32) (v206 : BitVec 32) (v236 : BitVec 32) (k0_hw30 : k0_chk30 arg25 arg28 arg29 v206 v236), ∀ (k0_h12 : k0_cond12 arg28 = 1#1), ∀ (k0_h14 : k0_cond14 arg25 arg29 v206 = 1#1), ∀ a, (k0_off97 v236) a + S1x64x512.size a ≤ S2560x64x512.size a := fun arg25 arg28 arg29 v206 v236 k0_hw30 k0_h12 k0_h14 => k0_hw30.1 k0_h12 k0_h14
theorem k0_off97_wordsfp8e4m3 : ∀ (arg25 : BitVec 32) (arg28 : BitVec 32) (arg29 : BitVec 32) (v206 : BitVec 32) (v236 : BitVec 32) (k0_hw30 : k0_chk30 arg25 arg28 arg29 v206 v236), ∀ (k0_h12 : k0_cond12 arg28 = 1#1), ∀ (k0_h14 : k0_cond14 arg25 arg29 v206 = 1#1), (Rect.unit (s := S2560x64x512) (k0_off97 v236) S1x64x512.size (k0_off97_inb arg25 arg28 arg29 v206 v236 k0_hw30 k0_h12 k0_h14)).WholeWords (EltTy.packing .fp8e4m3) := fun arg25 arg28 arg29 v206 v236 k0_hw30 k0_h12 k0_h14 => k0_hw30.2.1 k0_h12 k0_h14 (k0_off97_inb arg25 arg28 arg29 v206 v236 k0_hw30 k0_h12 k0_h14)
theorem k0_off100_inb : ∀ (arg25 : BitVec 32) (arg28 : BitVec 32) (arg29 : BitVec 32) (v206 : BitVec 32) (v236 : BitVec 32) (k0_hw30 : k0_chk30 arg25 arg28 arg29 v206 v236), ∀ (k0_h12 : k0_cond12 arg28 = 1#1), ∀ (k0_h14 : k0_cond14 arg25 arg29 v206 = 1#1), ∀ a, (k0_off100 v236) a + S1x64x64.size a ≤ S2560x64x64.size a := fun arg25 arg28 arg29 v206 v236 k0_hw30 k0_h12 k0_h14 => k0_hw30.2.2.1 k0_h12 k0_h14
theorem k0_off100_wordsbf16 : ∀ (arg25 : BitVec 32) (arg28 : BitVec 32) (arg29 : BitVec 32) (v206 : BitVec 32) (v236 : BitVec 32) (k0_hw30 : k0_chk30 arg25 arg28 arg29 v206 v236), ∀ (k0_h12 : k0_cond12 arg28 = 1#1), ∀ (k0_h14 : k0_cond14 arg25 arg29 v206 = 1#1), (Rect.unit (s := S2560x64x64) (k0_off100 v236) S1x64x64.size (k0_off100_inb arg25 arg28 arg29 v206 v236 k0_hw30 k0_h12 k0_h14)).WholeWords (EltTy.packing .bf16) := fun arg25 arg28 arg29 v206 v236 k0_hw30 k0_h12 k0_h14 => k0_hw30.2.2.2 k0_h12 k0_h14 (k0_off100_inb arg25 arg28 arg29 v206 v236 k0_hw30 k0_h12 k0_h14)

def k0_chk29 (arg25 : BitVec 32) (arg28 : BitVec 32) (arg29 : BitVec 32) (v206 : BitVec 32) : Prop :=
  (∀ (k0_h12 : k0_cond12 arg28 = 1#1), ∀ (k0_h14 : k0_cond14 arg25 arg29 v206 = 1#1), ∀ a, (k0_off94 arg28 arg29) a + S1x1.size a ≤ S64x32.size a) ∧
  (∀ (k0_h12 : k0_cond12 arg28 = 1#1), ∀ (k0_h14 : k0_cond14 arg25 arg29 v206 = 1#1), ∀ a, (k0_off95 arg25) a + S1.size a ≤ S32.size a) ∧
  (∀ (k0_h12 : k0_cond12 arg28 = 1#1), ∀ (k0_h14 : k0_cond14 arg25 arg29 v206 = 1#1), ∀ a, (k0_off96 arg25) a + S1x64x512.size a ≤ S32x256x512.size a) ∧
  (∀ (k0_h12 : k0_cond12 arg28 = 1#1), ∀ (k0_h14 : k0_cond14 arg25 arg29 v206 = 1#1), ∀ (hinb : ∀ a, (k0_off96 arg25) a + S1x64x512.size a ≤ S32x256x512.size a), (Rect.unit (s := S32x256x512) (k0_off96 arg25) S1x64x512.size hinb).WholeWords (EltTy.packing .fp8e4m3)) ∧
  (∀ (k0_h12 : k0_cond12 arg28 = 1#1), ∀ (k0_h14 : k0_cond14 arg25 arg29 v206 = 1#1), ∀ a, (k0_off98 arg25) a + S1.size a ≤ S32.size a) ∧
  (∀ (k0_h12 : k0_cond12 arg28 = 1#1), ∀ (k0_h14 : k0_cond14 arg25 arg29 v206 = 1#1), ∀ a, (k0_off99 arg25) a + S1x64x64.size a ≤ S32x256x64.size a) ∧
  (∀ (k0_h12 : k0_cond12 arg28 = 1#1), ∀ (k0_h14 : k0_cond14 arg25 arg29 v206 = 1#1), ∀ (hinb : ∀ a, (k0_off99 arg25) a + S1x64x64.size a ≤ S32x256x64.size a), (Rect.unit (s := S32x256x64) (k0_off99 arg25) S1x64x64.size hinb).WholeWords (EltTy.packing .bf16))
theorem k0_off94_inb : ∀ (arg25 : BitVec 32) (arg28 : BitVec 32) (arg29 : BitVec 32) (v206 : BitVec 32) (k0_hw29 : k0_chk29 arg25 arg28 arg29 v206), ∀ (k0_h12 : k0_cond12 arg28 = 1#1), ∀ (k0_h14 : k0_cond14 arg25 arg29 v206 = 1#1), ∀ a, (k0_off94 arg28 arg29) a + S1x1.size a ≤ S64x32.size a := fun arg25 arg28 arg29 v206 k0_hw29 k0_h12 k0_h14 => k0_hw29.1 k0_h12 k0_h14
theorem k0_off95_inb : ∀ (arg25 : BitVec 32) (arg28 : BitVec 32) (arg29 : BitVec 32) (v206 : BitVec 32) (k0_hw29 : k0_chk29 arg25 arg28 arg29 v206), ∀ (k0_h12 : k0_cond12 arg28 = 1#1), ∀ (k0_h14 : k0_cond14 arg25 arg29 v206 = 1#1), ∀ a, (k0_off95 arg25) a + S1.size a ≤ S32.size a := fun arg25 arg28 arg29 v206 k0_hw29 k0_h12 k0_h14 => k0_hw29.2.1 k0_h12 k0_h14
theorem k0_off96_inb : ∀ (arg25 : BitVec 32) (arg28 : BitVec 32) (arg29 : BitVec 32) (v206 : BitVec 32) (k0_hw29 : k0_chk29 arg25 arg28 arg29 v206), ∀ (k0_h12 : k0_cond12 arg28 = 1#1), ∀ (k0_h14 : k0_cond14 arg25 arg29 v206 = 1#1), ∀ a, (k0_off96 arg25) a + S1x64x512.size a ≤ S32x256x512.size a := fun arg25 arg28 arg29 v206 k0_hw29 k0_h12 k0_h14 => k0_hw29.2.2.1 k0_h12 k0_h14
theorem k0_off96_wordsfp8e4m3 : ∀ (arg25 : BitVec 32) (arg28 : BitVec 32) (arg29 : BitVec 32) (v206 : BitVec 32) (k0_hw29 : k0_chk29 arg25 arg28 arg29 v206), ∀ (k0_h12 : k0_cond12 arg28 = 1#1), ∀ (k0_h14 : k0_cond14 arg25 arg29 v206 = 1#1), (Rect.unit (s := S32x256x512) (k0_off96 arg25) S1x64x512.size (k0_off96_inb arg25 arg28 arg29 v206 k0_hw29 k0_h12 k0_h14)).WholeWords (EltTy.packing .fp8e4m3) := fun arg25 arg28 arg29 v206 k0_hw29 k0_h12 k0_h14 => k0_hw29.2.2.2.1 k0_h12 k0_h14 (k0_off96_inb arg25 arg28 arg29 v206 k0_hw29 k0_h12 k0_h14)
theorem k0_off98_inb : ∀ (arg25 : BitVec 32) (arg28 : BitVec 32) (arg29 : BitVec 32) (v206 : BitVec 32) (k0_hw29 : k0_chk29 arg25 arg28 arg29 v206), ∀ (k0_h12 : k0_cond12 arg28 = 1#1), ∀ (k0_h14 : k0_cond14 arg25 arg29 v206 = 1#1), ∀ a, (k0_off98 arg25) a + S1.size a ≤ S32.size a := fun arg25 arg28 arg29 v206 k0_hw29 k0_h12 k0_h14 => k0_hw29.2.2.2.2.1 k0_h12 k0_h14
theorem k0_off99_inb : ∀ (arg25 : BitVec 32) (arg28 : BitVec 32) (arg29 : BitVec 32) (v206 : BitVec 32) (k0_hw29 : k0_chk29 arg25 arg28 arg29 v206), ∀ (k0_h12 : k0_cond12 arg28 = 1#1), ∀ (k0_h14 : k0_cond14 arg25 arg29 v206 = 1#1), ∀ a, (k0_off99 arg25) a + S1x64x64.size a ≤ S32x256x64.size a := fun arg25 arg28 arg29 v206 k0_hw29 k0_h12 k0_h14 => k0_hw29.2.2.2.2.2.1 k0_h12 k0_h14
theorem k0_off99_wordsbf16 : ∀ (arg25 : BitVec 32) (arg28 : BitVec 32) (arg29 : BitVec 32) (v206 : BitVec 32) (k0_hw29 : k0_chk29 arg25 arg28 arg29 v206), ∀ (k0_h12 : k0_cond12 arg28 = 1#1), ∀ (k0_h14 : k0_cond14 arg25 arg29 v206 = 1#1), (Rect.unit (s := S32x256x64) (k0_off99 arg25) S1x64x64.size (k0_off99_inb arg25 arg28 arg29 v206 k0_hw29 k0_h12 k0_h14)).WholeWords (EltTy.packing .bf16) := fun arg25 arg28 arg29 v206 k0_hw29 k0_h12 k0_h14 => k0_hw29.2.2.2.2.2.2 k0_h12 k0_h14 (k0_off99_inb arg25 arg28 arg29 v206 k0_hw29 k0_h12 k0_h14)

def k0_off101 (arg28 : BitVec 32) : Fin 1 → Nat :=
  let v215 : Index := Scalar.indexCast arg28
  ![v215.toNat]
def k0_off102 (arg28 : BitVec 32) (arg29 : BitVec 32) : Fin 2 → Nat :=
  let v234 : Index := Scalar.indexCast arg28
  let c4_i32_119 : BitVec 32 := 4#32
  let v232 : BitVec 32 := Scalar.muli arg29 c4_i32_119
  let c2_i32_120 : BitVec 32 := 2#32
  let v233 : BitVec 32 := Scalar.addi v232 c2_i32_120
  let v235 : Index := Scalar.indexCast v233
  ![v234.toNat, v235.toNat]
def k0_cond15 (arg25 : BitVec 32) (arg29 : BitVec 32) (v216 : BitVec 32) : BitVec 1 :=
  let c4_i32_109 : BitVec 32 := 4#32
  let v212 : BitVec 32 := Scalar.muli arg29 c4_i32_109
  let c2_i32_110 : BitVec 32 := 2#32
  let v213 : BitVec 32 := Scalar.addi v212 c2_i32_110
  let c64_i32_111 : BitVec 32 := 64#32
  let v214 : BitVec 32 := Scalar.muli v213 c64_i32_111
  let v217 : BitVec 1 := Scalar.cmpi .slt v214 v216
  let c32_i32_80 : BitVec 32 := 32#32
  let v164 : BitVec 32 := Scalar.addi arg25 c32_i32_80
  let c32_i32_112 : BitVec 32 := 32#32
  let v218 : BitVec 1 := Scalar.cmpi .slt v164 c32_i32_112
  let v219 : BitVec 1 := Scalar.ori v217 v218
  let v220 : BitVec 32 := Scalar.extui v219
  let c0_i32_113 : BitVec 32 := 0#32
  let v221 : BitVec 1 := Scalar.cmpi .ne v220 c0_i32_113
  v221

def k0_off103 (arg25 : BitVec 32) : Fin 1 → Nat :=
  let c32_i32_80 : BitVec 32 := 32#32
  let v164 : BitVec 32 := Scalar.addi arg25 c32_i32_80
  let c32_i32_98 : BitVec 32 := 32#32
  let v191 : BitVec 32 := Scalar.remsi v164 c32_i32_98
  ![v191.toNat]
def k0_off104 (arg25 : BitVec 32) : Fin 3 → Nat :=
  let c32_i32_80 : BitVec 32 := 32#32
  let v164 : BitVec 32 := Scalar.addi arg25 c32_i32_80
  let c32_i32_98 : BitVec 32 := 32#32
  let v191 : BitVec 32 := Scalar.remsi v164 c32_i32_98
  let c128_i32 : BitVec 32 := 128#32
  let c0_i32_121 : BitVec 32 := 0#32
  ![v191.toNat, 128, 0]
def k0_off105 (v236 : BitVec 32) : Fin 3 → Nat :=
  let c0_i32_122 : BitVec 32 := 0#32
  let c0_i32_123 : BitVec 32 := 0#32
  ![v236.toNat, 0, 0]

def k0_off106 (arg25 : BitVec 32) : Fin 1 → Nat :=
  let c32_i32_80 : BitVec 32 := 32#32
  let v164 : BitVec 32 := Scalar.addi arg25 c32_i32_80
  let c32_i32_98 : BitVec 32 := 32#32
  let v191 : BitVec 32 := Scalar.remsi v164 c32_i32_98
  ![v191.toNat]
def k0_off107 (arg25 : BitVec 32) : Fin 3 → Nat :=
  let c32_i32_80 : BitVec 32 := 32#32
  let v164 : BitVec 32 := Scalar.addi arg25 c32_i32_80
  let c32_i32_98 : BitVec 32 := 32#32
  let v191 : BitVec 32 := Scalar.remsi v164 c32_i32_98
  let c128_i32_124 : BitVec 32 := 128#32
  let c0_i32_125 : BitVec 32 := 0#32
  ![v191.toNat, 128, 0]
def k0_off108 (v236 : BitVec 32) : Fin 3 → Nat :=
  let c0_i32_126 : BitVec 32 := 0#32
  let c0_i32_127 : BitVec 32 := 0#32
  ![v236.toNat, 0, 0]

def k0_chk32 (arg25 : BitVec 32) (arg28 : BitVec 32) (arg29 : BitVec 32) (v216 : BitVec 32) (v236 : BitVec 32) : Prop :=
  (∀ (k0_h12 : k0_cond12 arg28 = 1#1), ∀ (k0_h15 : k0_cond15 arg25 arg29 v216 = 1#1), ∀ a, (k0_off105 v236) a + S1x64x512.size a ≤ S2560x64x512.size a) ∧
  (∀ (k0_h12 : k0_cond12 arg28 = 1#1), ∀ (k0_h15 : k0_cond15 arg25 arg29 v216 = 1#1), ∀ (hinb : ∀ a, (k0_off105 v236) a + S1x64x512.size a ≤ S2560x64x512.size a), (Rect.unit (s := S2560x64x512) (k0_off105 v236) S1x64x512.size hinb).WholeWords (EltTy.packing .fp8e4m3)) ∧
  (∀ (k0_h12 : k0_cond12 arg28 = 1#1), ∀ (k0_h15 : k0_cond15 arg25 arg29 v216 = 1#1), ∀ a, (k0_off108 v236) a + S1x64x64.size a ≤ S2560x64x64.size a) ∧
  (∀ (k0_h12 : k0_cond12 arg28 = 1#1), ∀ (k0_h15 : k0_cond15 arg25 arg29 v216 = 1#1), ∀ (hinb : ∀ a, (k0_off108 v236) a + S1x64x64.size a ≤ S2560x64x64.size a), (Rect.unit (s := S2560x64x64) (k0_off108 v236) S1x64x64.size hinb).WholeWords (EltTy.packing .bf16))
theorem k0_off105_inb : ∀ (arg25 : BitVec 32) (arg28 : BitVec 32) (arg29 : BitVec 32) (v216 : BitVec 32) (v236 : BitVec 32) (k0_hw32 : k0_chk32 arg25 arg28 arg29 v216 v236), ∀ (k0_h12 : k0_cond12 arg28 = 1#1), ∀ (k0_h15 : k0_cond15 arg25 arg29 v216 = 1#1), ∀ a, (k0_off105 v236) a + S1x64x512.size a ≤ S2560x64x512.size a := fun arg25 arg28 arg29 v216 v236 k0_hw32 k0_h12 k0_h15 => k0_hw32.1 k0_h12 k0_h15
theorem k0_off105_wordsfp8e4m3 : ∀ (arg25 : BitVec 32) (arg28 : BitVec 32) (arg29 : BitVec 32) (v216 : BitVec 32) (v236 : BitVec 32) (k0_hw32 : k0_chk32 arg25 arg28 arg29 v216 v236), ∀ (k0_h12 : k0_cond12 arg28 = 1#1), ∀ (k0_h15 : k0_cond15 arg25 arg29 v216 = 1#1), (Rect.unit (s := S2560x64x512) (k0_off105 v236) S1x64x512.size (k0_off105_inb arg25 arg28 arg29 v216 v236 k0_hw32 k0_h12 k0_h15)).WholeWords (EltTy.packing .fp8e4m3) := fun arg25 arg28 arg29 v216 v236 k0_hw32 k0_h12 k0_h15 => k0_hw32.2.1 k0_h12 k0_h15 (k0_off105_inb arg25 arg28 arg29 v216 v236 k0_hw32 k0_h12 k0_h15)
theorem k0_off108_inb : ∀ (arg25 : BitVec 32) (arg28 : BitVec 32) (arg29 : BitVec 32) (v216 : BitVec 32) (v236 : BitVec 32) (k0_hw32 : k0_chk32 arg25 arg28 arg29 v216 v236), ∀ (k0_h12 : k0_cond12 arg28 = 1#1), ∀ (k0_h15 : k0_cond15 arg25 arg29 v216 = 1#1), ∀ a, (k0_off108 v236) a + S1x64x64.size a ≤ S2560x64x64.size a := fun arg25 arg28 arg29 v216 v236 k0_hw32 k0_h12 k0_h15 => k0_hw32.2.2.1 k0_h12 k0_h15
theorem k0_off108_wordsbf16 : ∀ (arg25 : BitVec 32) (arg28 : BitVec 32) (arg29 : BitVec 32) (v216 : BitVec 32) (v236 : BitVec 32) (k0_hw32 : k0_chk32 arg25 arg28 arg29 v216 v236), ∀ (k0_h12 : k0_cond12 arg28 = 1#1), ∀ (k0_h15 : k0_cond15 arg25 arg29 v216 = 1#1), (Rect.unit (s := S2560x64x64) (k0_off108 v236) S1x64x64.size (k0_off108_inb arg25 arg28 arg29 v216 v236 k0_hw32 k0_h12 k0_h15)).WholeWords (EltTy.packing .bf16) := fun arg25 arg28 arg29 v216 v236 k0_hw32 k0_h12 k0_h15 => k0_hw32.2.2.2 k0_h12 k0_h15 (k0_off108_inb arg25 arg28 arg29 v216 v236 k0_hw32 k0_h12 k0_h15)

def k0_chk31 (arg25 : BitVec 32) (arg28 : BitVec 32) (arg29 : BitVec 32) (v216 : BitVec 32) : Prop :=
  (∀ (k0_h12 : k0_cond12 arg28 = 1#1), ∀ (k0_h15 : k0_cond15 arg25 arg29 v216 = 1#1), ∀ a, (k0_off102 arg28 arg29) a + S1x1.size a ≤ S64x32.size a) ∧
  (∀ (k0_h12 : k0_cond12 arg28 = 1#1), ∀ (k0_h15 : k0_cond15 arg25 arg29 v216 = 1#1), ∀ a, (k0_off103 arg25) a + S1.size a ≤ S32.size a) ∧
  (∀ (k0_h12 : k0_cond12 arg28 = 1#1), ∀ (k0_h15 : k0_cond15 arg25 arg29 v216 = 1#1), ∀ a, (k0_off104 arg25) a + S1x64x512.size a ≤ S32x256x512.size a) ∧
  (∀ (k0_h12 : k0_cond12 arg28 = 1#1), ∀ (k0_h15 : k0_cond15 arg25 arg29 v216 = 1#1), ∀ (hinb : ∀ a, (k0_off104 arg25) a + S1x64x512.size a ≤ S32x256x512.size a), (Rect.unit (s := S32x256x512) (k0_off104 arg25) S1x64x512.size hinb).WholeWords (EltTy.packing .fp8e4m3)) ∧
  (∀ (k0_h12 : k0_cond12 arg28 = 1#1), ∀ (k0_h15 : k0_cond15 arg25 arg29 v216 = 1#1), ∀ a, (k0_off106 arg25) a + S1.size a ≤ S32.size a) ∧
  (∀ (k0_h12 : k0_cond12 arg28 = 1#1), ∀ (k0_h15 : k0_cond15 arg25 arg29 v216 = 1#1), ∀ a, (k0_off107 arg25) a + S1x64x64.size a ≤ S32x256x64.size a) ∧
  (∀ (k0_h12 : k0_cond12 arg28 = 1#1), ∀ (k0_h15 : k0_cond15 arg25 arg29 v216 = 1#1), ∀ (hinb : ∀ a, (k0_off107 arg25) a + S1x64x64.size a ≤ S32x256x64.size a), (Rect.unit (s := S32x256x64) (k0_off107 arg25) S1x64x64.size hinb).WholeWords (EltTy.packing .bf16))
theorem k0_off102_inb : ∀ (arg25 : BitVec 32) (arg28 : BitVec 32) (arg29 : BitVec 32) (v216 : BitVec 32) (k0_hw31 : k0_chk31 arg25 arg28 arg29 v216), ∀ (k0_h12 : k0_cond12 arg28 = 1#1), ∀ (k0_h15 : k0_cond15 arg25 arg29 v216 = 1#1), ∀ a, (k0_off102 arg28 arg29) a + S1x1.size a ≤ S64x32.size a := fun arg25 arg28 arg29 v216 k0_hw31 k0_h12 k0_h15 => k0_hw31.1 k0_h12 k0_h15
theorem k0_off103_inb : ∀ (arg25 : BitVec 32) (arg28 : BitVec 32) (arg29 : BitVec 32) (v216 : BitVec 32) (k0_hw31 : k0_chk31 arg25 arg28 arg29 v216), ∀ (k0_h12 : k0_cond12 arg28 = 1#1), ∀ (k0_h15 : k0_cond15 arg25 arg29 v216 = 1#1), ∀ a, (k0_off103 arg25) a + S1.size a ≤ S32.size a := fun arg25 arg28 arg29 v216 k0_hw31 k0_h12 k0_h15 => k0_hw31.2.1 k0_h12 k0_h15
theorem k0_off104_inb : ∀ (arg25 : BitVec 32) (arg28 : BitVec 32) (arg29 : BitVec 32) (v216 : BitVec 32) (k0_hw31 : k0_chk31 arg25 arg28 arg29 v216), ∀ (k0_h12 : k0_cond12 arg28 = 1#1), ∀ (k0_h15 : k0_cond15 arg25 arg29 v216 = 1#1), ∀ a, (k0_off104 arg25) a + S1x64x512.size a ≤ S32x256x512.size a := fun arg25 arg28 arg29 v216 k0_hw31 k0_h12 k0_h15 => k0_hw31.2.2.1 k0_h12 k0_h15
theorem k0_off104_wordsfp8e4m3 : ∀ (arg25 : BitVec 32) (arg28 : BitVec 32) (arg29 : BitVec 32) (v216 : BitVec 32) (k0_hw31 : k0_chk31 arg25 arg28 arg29 v216), ∀ (k0_h12 : k0_cond12 arg28 = 1#1), ∀ (k0_h15 : k0_cond15 arg25 arg29 v216 = 1#1), (Rect.unit (s := S32x256x512) (k0_off104 arg25) S1x64x512.size (k0_off104_inb arg25 arg28 arg29 v216 k0_hw31 k0_h12 k0_h15)).WholeWords (EltTy.packing .fp8e4m3) := fun arg25 arg28 arg29 v216 k0_hw31 k0_h12 k0_h15 => k0_hw31.2.2.2.1 k0_h12 k0_h15 (k0_off104_inb arg25 arg28 arg29 v216 k0_hw31 k0_h12 k0_h15)
theorem k0_off106_inb : ∀ (arg25 : BitVec 32) (arg28 : BitVec 32) (arg29 : BitVec 32) (v216 : BitVec 32) (k0_hw31 : k0_chk31 arg25 arg28 arg29 v216), ∀ (k0_h12 : k0_cond12 arg28 = 1#1), ∀ (k0_h15 : k0_cond15 arg25 arg29 v216 = 1#1), ∀ a, (k0_off106 arg25) a + S1.size a ≤ S32.size a := fun arg25 arg28 arg29 v216 k0_hw31 k0_h12 k0_h15 => k0_hw31.2.2.2.2.1 k0_h12 k0_h15
theorem k0_off107_inb : ∀ (arg25 : BitVec 32) (arg28 : BitVec 32) (arg29 : BitVec 32) (v216 : BitVec 32) (k0_hw31 : k0_chk31 arg25 arg28 arg29 v216), ∀ (k0_h12 : k0_cond12 arg28 = 1#1), ∀ (k0_h15 : k0_cond15 arg25 arg29 v216 = 1#1), ∀ a, (k0_off107 arg25) a + S1x64x64.size a ≤ S32x256x64.size a := fun arg25 arg28 arg29 v216 k0_hw31 k0_h12 k0_h15 => k0_hw31.2.2.2.2.2.1 k0_h12 k0_h15
theorem k0_off107_wordsbf16 : ∀ (arg25 : BitVec 32) (arg28 : BitVec 32) (arg29 : BitVec 32) (v216 : BitVec 32) (k0_hw31 : k0_chk31 arg25 arg28 arg29 v216), ∀ (k0_h12 : k0_cond12 arg28 = 1#1), ∀ (k0_h15 : k0_cond15 arg25 arg29 v216 = 1#1), (Rect.unit (s := S32x256x64) (k0_off107 arg25) S1x64x64.size (k0_off107_inb arg25 arg28 arg29 v216 k0_hw31 k0_h12 k0_h15)).WholeWords (EltTy.packing .bf16) := fun arg25 arg28 arg29 v216 k0_hw31 k0_h12 k0_h15 => k0_hw31.2.2.2.2.2.2 k0_h12 k0_h15 (k0_off107_inb arg25 arg28 arg29 v216 k0_hw31 k0_h12 k0_h15)

def k0_off109 (arg28 : BitVec 32) : Fin 1 → Nat :=
  let v225 : Index := Scalar.indexCast arg28
  ![v225.toNat]
def k0_off110 (arg28 : BitVec 32) (arg29 : BitVec 32) : Fin 2 → Nat :=
  let v234 : Index := Scalar.indexCast arg28
  let c4_i32_119 : BitVec 32 := 4#32
  let v232 : BitVec 32 := Scalar.muli arg29 c4_i32_119
  let c3_i32_120 : BitVec 32 := 3#32
  let v233 : BitVec 32 := Scalar.addi v232 c3_i32_120
  let v235 : Index := Scalar.indexCast v233
  ![v234.toNat, v235.toNat]
def k0_cond16 (arg25 : BitVec 32) (arg29 : BitVec 32) (v226 : BitVec 32) : BitVec 1 :=
  let c4_i32_114 : BitVec 32 := 4#32
  let v222 : BitVec 32 := Scalar.muli arg29 c4_i32_114
  let c3_i32_115 : BitVec 32 := 3#32
  let v223 : BitVec 32 := Scalar.addi v222 c3_i32_115
  let c64_i32_116 : BitVec 32 := 64#32
  let v224 : BitVec 32 := Scalar.muli v223 c64_i32_116
  let v227 : BitVec 1 := Scalar.cmpi .slt v224 v226
  let c32_i32_80 : BitVec 32 := 32#32
  let v164 : BitVec 32 := Scalar.addi arg25 c32_i32_80
  let c32_i32_117 : BitVec 32 := 32#32
  let v228 : BitVec 1 := Scalar.cmpi .slt v164 c32_i32_117
  let v229 : BitVec 1 := Scalar.ori v227 v228
  let v230 : BitVec 32 := Scalar.extui v229
  let c0_i32_118 : BitVec 32 := 0#32
  let v231 : BitVec 1 := Scalar.cmpi .ne v230 c0_i32_118
  v231

def k0_off111 (arg25 : BitVec 32) : Fin 1 → Nat :=
  let c32_i32_80 : BitVec 32 := 32#32
  let v164 : BitVec 32 := Scalar.addi arg25 c32_i32_80
  let c32_i32_98 : BitVec 32 := 32#32
  let v191 : BitVec 32 := Scalar.remsi v164 c32_i32_98
  ![v191.toNat]
def k0_off112 (arg25 : BitVec 32) : Fin 3 → Nat :=
  let c32_i32_80 : BitVec 32 := 32#32
  let v164 : BitVec 32 := Scalar.addi arg25 c32_i32_80
  let c32_i32_98 : BitVec 32 := 32#32
  let v191 : BitVec 32 := Scalar.remsi v164 c32_i32_98
  let c192_i32 : BitVec 32 := 192#32
  let c0_i32_121 : BitVec 32 := 0#32
  ![v191.toNat, 192, 0]
def k0_off113 (v236 : BitVec 32) : Fin 3 → Nat :=
  let c0_i32_122 : BitVec 32 := 0#32
  let c0_i32_123 : BitVec 32 := 0#32
  ![v236.toNat, 0, 0]

def k0_off114 (arg25 : BitVec 32) : Fin 1 → Nat :=
  let c32_i32_80 : BitVec 32 := 32#32
  let v164 : BitVec 32 := Scalar.addi arg25 c32_i32_80
  let c32_i32_98 : BitVec 32 := 32#32
  let v191 : BitVec 32 := Scalar.remsi v164 c32_i32_98
  ![v191.toNat]
def k0_off115 (arg25 : BitVec 32) : Fin 3 → Nat :=
  let c32_i32_80 : BitVec 32 := 32#32
  let v164 : BitVec 32 := Scalar.addi arg25 c32_i32_80
  let c32_i32_98 : BitVec 32 := 32#32
  let v191 : BitVec 32 := Scalar.remsi v164 c32_i32_98
  let c192_i32_124 : BitVec 32 := 192#32
  let c0_i32_125 : BitVec 32 := 0#32
  ![v191.toNat, 192, 0]
def k0_off116 (v236 : BitVec 32) : Fin 3 → Nat :=
  let c0_i32_126 : BitVec 32 := 0#32
  let c0_i32_127 : BitVec 32 := 0#32
  ![v236.toNat, 0, 0]

def k0_chk34 (arg25 : BitVec 32) (arg28 : BitVec 32) (arg29 : BitVec 32) (v226 : BitVec 32) (v236 : BitVec 32) : Prop :=
  (∀ (k0_h12 : k0_cond12 arg28 = 1#1), ∀ (k0_h16 : k0_cond16 arg25 arg29 v226 = 1#1), ∀ a, (k0_off113 v236) a + S1x64x512.size a ≤ S2560x64x512.size a) ∧
  (∀ (k0_h12 : k0_cond12 arg28 = 1#1), ∀ (k0_h16 : k0_cond16 arg25 arg29 v226 = 1#1), ∀ (hinb : ∀ a, (k0_off113 v236) a + S1x64x512.size a ≤ S2560x64x512.size a), (Rect.unit (s := S2560x64x512) (k0_off113 v236) S1x64x512.size hinb).WholeWords (EltTy.packing .fp8e4m3)) ∧
  (∀ (k0_h12 : k0_cond12 arg28 = 1#1), ∀ (k0_h16 : k0_cond16 arg25 arg29 v226 = 1#1), ∀ a, (k0_off116 v236) a + S1x64x64.size a ≤ S2560x64x64.size a) ∧
  (∀ (k0_h12 : k0_cond12 arg28 = 1#1), ∀ (k0_h16 : k0_cond16 arg25 arg29 v226 = 1#1), ∀ (hinb : ∀ a, (k0_off116 v236) a + S1x64x64.size a ≤ S2560x64x64.size a), (Rect.unit (s := S2560x64x64) (k0_off116 v236) S1x64x64.size hinb).WholeWords (EltTy.packing .bf16))
theorem k0_off113_inb : ∀ (arg25 : BitVec 32) (arg28 : BitVec 32) (arg29 : BitVec 32) (v226 : BitVec 32) (v236 : BitVec 32) (k0_hw34 : k0_chk34 arg25 arg28 arg29 v226 v236), ∀ (k0_h12 : k0_cond12 arg28 = 1#1), ∀ (k0_h16 : k0_cond16 arg25 arg29 v226 = 1#1), ∀ a, (k0_off113 v236) a + S1x64x512.size a ≤ S2560x64x512.size a := fun arg25 arg28 arg29 v226 v236 k0_hw34 k0_h12 k0_h16 => k0_hw34.1 k0_h12 k0_h16
theorem k0_off113_wordsfp8e4m3 : ∀ (arg25 : BitVec 32) (arg28 : BitVec 32) (arg29 : BitVec 32) (v226 : BitVec 32) (v236 : BitVec 32) (k0_hw34 : k0_chk34 arg25 arg28 arg29 v226 v236), ∀ (k0_h12 : k0_cond12 arg28 = 1#1), ∀ (k0_h16 : k0_cond16 arg25 arg29 v226 = 1#1), (Rect.unit (s := S2560x64x512) (k0_off113 v236) S1x64x512.size (k0_off113_inb arg25 arg28 arg29 v226 v236 k0_hw34 k0_h12 k0_h16)).WholeWords (EltTy.packing .fp8e4m3) := fun arg25 arg28 arg29 v226 v236 k0_hw34 k0_h12 k0_h16 => k0_hw34.2.1 k0_h12 k0_h16 (k0_off113_inb arg25 arg28 arg29 v226 v236 k0_hw34 k0_h12 k0_h16)
theorem k0_off116_inb : ∀ (arg25 : BitVec 32) (arg28 : BitVec 32) (arg29 : BitVec 32) (v226 : BitVec 32) (v236 : BitVec 32) (k0_hw34 : k0_chk34 arg25 arg28 arg29 v226 v236), ∀ (k0_h12 : k0_cond12 arg28 = 1#1), ∀ (k0_h16 : k0_cond16 arg25 arg29 v226 = 1#1), ∀ a, (k0_off116 v236) a + S1x64x64.size a ≤ S2560x64x64.size a := fun arg25 arg28 arg29 v226 v236 k0_hw34 k0_h12 k0_h16 => k0_hw34.2.2.1 k0_h12 k0_h16
theorem k0_off116_wordsbf16 : ∀ (arg25 : BitVec 32) (arg28 : BitVec 32) (arg29 : BitVec 32) (v226 : BitVec 32) (v236 : BitVec 32) (k0_hw34 : k0_chk34 arg25 arg28 arg29 v226 v236), ∀ (k0_h12 : k0_cond12 arg28 = 1#1), ∀ (k0_h16 : k0_cond16 arg25 arg29 v226 = 1#1), (Rect.unit (s := S2560x64x64) (k0_off116 v236) S1x64x64.size (k0_off116_inb arg25 arg28 arg29 v226 v236 k0_hw34 k0_h12 k0_h16)).WholeWords (EltTy.packing .bf16) := fun arg25 arg28 arg29 v226 v236 k0_hw34 k0_h12 k0_h16 => k0_hw34.2.2.2 k0_h12 k0_h16 (k0_off116_inb arg25 arg28 arg29 v226 v236 k0_hw34 k0_h12 k0_h16)

def k0_chk33 (arg25 : BitVec 32) (arg28 : BitVec 32) (arg29 : BitVec 32) (v226 : BitVec 32) : Prop :=
  (∀ (k0_h12 : k0_cond12 arg28 = 1#1), ∀ (k0_h16 : k0_cond16 arg25 arg29 v226 = 1#1), ∀ a, (k0_off110 arg28 arg29) a + S1x1.size a ≤ S64x32.size a) ∧
  (∀ (k0_h12 : k0_cond12 arg28 = 1#1), ∀ (k0_h16 : k0_cond16 arg25 arg29 v226 = 1#1), ∀ a, (k0_off111 arg25) a + S1.size a ≤ S32.size a) ∧
  (∀ (k0_h12 : k0_cond12 arg28 = 1#1), ∀ (k0_h16 : k0_cond16 arg25 arg29 v226 = 1#1), ∀ a, (k0_off112 arg25) a + S1x64x512.size a ≤ S32x256x512.size a) ∧
  (∀ (k0_h12 : k0_cond12 arg28 = 1#1), ∀ (k0_h16 : k0_cond16 arg25 arg29 v226 = 1#1), ∀ (hinb : ∀ a, (k0_off112 arg25) a + S1x64x512.size a ≤ S32x256x512.size a), (Rect.unit (s := S32x256x512) (k0_off112 arg25) S1x64x512.size hinb).WholeWords (EltTy.packing .fp8e4m3)) ∧
  (∀ (k0_h12 : k0_cond12 arg28 = 1#1), ∀ (k0_h16 : k0_cond16 arg25 arg29 v226 = 1#1), ∀ a, (k0_off114 arg25) a + S1.size a ≤ S32.size a) ∧
  (∀ (k0_h12 : k0_cond12 arg28 = 1#1), ∀ (k0_h16 : k0_cond16 arg25 arg29 v226 = 1#1), ∀ a, (k0_off115 arg25) a + S1x64x64.size a ≤ S32x256x64.size a) ∧
  (∀ (k0_h12 : k0_cond12 arg28 = 1#1), ∀ (k0_h16 : k0_cond16 arg25 arg29 v226 = 1#1), ∀ (hinb : ∀ a, (k0_off115 arg25) a + S1x64x64.size a ≤ S32x256x64.size a), (Rect.unit (s := S32x256x64) (k0_off115 arg25) S1x64x64.size hinb).WholeWords (EltTy.packing .bf16))
theorem k0_off110_inb : ∀ (arg25 : BitVec 32) (arg28 : BitVec 32) (arg29 : BitVec 32) (v226 : BitVec 32) (k0_hw33 : k0_chk33 arg25 arg28 arg29 v226), ∀ (k0_h12 : k0_cond12 arg28 = 1#1), ∀ (k0_h16 : k0_cond16 arg25 arg29 v226 = 1#1), ∀ a, (k0_off110 arg28 arg29) a + S1x1.size a ≤ S64x32.size a := fun arg25 arg28 arg29 v226 k0_hw33 k0_h12 k0_h16 => k0_hw33.1 k0_h12 k0_h16
theorem k0_off111_inb : ∀ (arg25 : BitVec 32) (arg28 : BitVec 32) (arg29 : BitVec 32) (v226 : BitVec 32) (k0_hw33 : k0_chk33 arg25 arg28 arg29 v226), ∀ (k0_h12 : k0_cond12 arg28 = 1#1), ∀ (k0_h16 : k0_cond16 arg25 arg29 v226 = 1#1), ∀ a, (k0_off111 arg25) a + S1.size a ≤ S32.size a := fun arg25 arg28 arg29 v226 k0_hw33 k0_h12 k0_h16 => k0_hw33.2.1 k0_h12 k0_h16
theorem k0_off112_inb : ∀ (arg25 : BitVec 32) (arg28 : BitVec 32) (arg29 : BitVec 32) (v226 : BitVec 32) (k0_hw33 : k0_chk33 arg25 arg28 arg29 v226), ∀ (k0_h12 : k0_cond12 arg28 = 1#1), ∀ (k0_h16 : k0_cond16 arg25 arg29 v226 = 1#1), ∀ a, (k0_off112 arg25) a + S1x64x512.size a ≤ S32x256x512.size a := fun arg25 arg28 arg29 v226 k0_hw33 k0_h12 k0_h16 => k0_hw33.2.2.1 k0_h12 k0_h16
theorem k0_off112_wordsfp8e4m3 : ∀ (arg25 : BitVec 32) (arg28 : BitVec 32) (arg29 : BitVec 32) (v226 : BitVec 32) (k0_hw33 : k0_chk33 arg25 arg28 arg29 v226), ∀ (k0_h12 : k0_cond12 arg28 = 1#1), ∀ (k0_h16 : k0_cond16 arg25 arg29 v226 = 1#1), (Rect.unit (s := S32x256x512) (k0_off112 arg25) S1x64x512.size (k0_off112_inb arg25 arg28 arg29 v226 k0_hw33 k0_h12 k0_h16)).WholeWords (EltTy.packing .fp8e4m3) := fun arg25 arg28 arg29 v226 k0_hw33 k0_h12 k0_h16 => k0_hw33.2.2.2.1 k0_h12 k0_h16 (k0_off112_inb arg25 arg28 arg29 v226 k0_hw33 k0_h12 k0_h16)
theorem k0_off114_inb : ∀ (arg25 : BitVec 32) (arg28 : BitVec 32) (arg29 : BitVec 32) (v226 : BitVec 32) (k0_hw33 : k0_chk33 arg25 arg28 arg29 v226), ∀ (k0_h12 : k0_cond12 arg28 = 1#1), ∀ (k0_h16 : k0_cond16 arg25 arg29 v226 = 1#1), ∀ a, (k0_off114 arg25) a + S1.size a ≤ S32.size a := fun arg25 arg28 arg29 v226 k0_hw33 k0_h12 k0_h16 => k0_hw33.2.2.2.2.1 k0_h12 k0_h16
theorem k0_off115_inb : ∀ (arg25 : BitVec 32) (arg28 : BitVec 32) (arg29 : BitVec 32) (v226 : BitVec 32) (k0_hw33 : k0_chk33 arg25 arg28 arg29 v226), ∀ (k0_h12 : k0_cond12 arg28 = 1#1), ∀ (k0_h16 : k0_cond16 arg25 arg29 v226 = 1#1), ∀ a, (k0_off115 arg25) a + S1x64x64.size a ≤ S32x256x64.size a := fun arg25 arg28 arg29 v226 k0_hw33 k0_h12 k0_h16 => k0_hw33.2.2.2.2.2.1 k0_h12 k0_h16
theorem k0_off115_wordsbf16 : ∀ (arg25 : BitVec 32) (arg28 : BitVec 32) (arg29 : BitVec 32) (v226 : BitVec 32) (k0_hw33 : k0_chk33 arg25 arg28 arg29 v226), ∀ (k0_h12 : k0_cond12 arg28 = 1#1), ∀ (k0_h16 : k0_cond16 arg25 arg29 v226 = 1#1), (Rect.unit (s := S32x256x64) (k0_off115 arg25) S1x64x64.size (k0_off115_inb arg25 arg28 arg29 v226 k0_hw33 k0_h12 k0_h16)).WholeWords (EltTy.packing .bf16) := fun arg25 arg28 arg29 v226 k0_hw33 k0_h12 k0_h16 => k0_hw33.2.2.2.2.2.2 k0_h12 k0_h16 (k0_off115_inb arg25 arg28 arg29 v226 k0_hw33 k0_h12 k0_h16)

def k0_off117 (arg28 : BitVec 32) : Fin 1 → Nat :=
  let c63_i32_84 : BitVec 32 := 63#32
  let v169 : BitVec 32 := Scalar.minsi arg28 c63_i32_84
  let v170 : Index := Scalar.indexCast v169
  ![v170.toNat]

def k0_chk26 (arg28 : BitVec 32) : Prop :=
  (∀ (k0_h12 : k0_cond12 arg28 = 1#1), ∀ a, (k0_off85 arg28) a + S1.size a ≤ S64.size a) ∧
  (∀ (k0_h12 : k0_cond12 arg28 = 1#1), ∀ a, (k0_off93 arg28) a + S1.size a ≤ S64.size a) ∧
  (∀ (k0_h12 : k0_cond12 arg28 = 1#1), ∀ a, (k0_off101 arg28) a + S1.size a ≤ S64.size a) ∧
  (∀ (k0_h12 : k0_cond12 arg28 = 1#1), ∀ a, (k0_off109 arg28) a + S1.size a ≤ S64.size a) ∧
  (∀ a, (k0_off117 arg28) a + S1.size a ≤ S64.size a)
theorem k0_off85_inb : ∀ (arg28 : BitVec 32) (k0_hw26 : k0_chk26 arg28), ∀ (k0_h12 : k0_cond12 arg28 = 1#1), ∀ a, (k0_off85 arg28) a + S1.size a ≤ S64.size a := fun arg28 k0_hw26 k0_h12 => k0_hw26.1 k0_h12
theorem k0_off93_inb : ∀ (arg28 : BitVec 32) (k0_hw26 : k0_chk26 arg28), ∀ (k0_h12 : k0_cond12 arg28 = 1#1), ∀ a, (k0_off93 arg28) a + S1.size a ≤ S64.size a := fun arg28 k0_hw26 k0_h12 => k0_hw26.2.1 k0_h12
theorem k0_off101_inb : ∀ (arg28 : BitVec 32) (k0_hw26 : k0_chk26 arg28), ∀ (k0_h12 : k0_cond12 arg28 = 1#1), ∀ a, (k0_off101 arg28) a + S1.size a ≤ S64.size a := fun arg28 k0_hw26 k0_h12 => k0_hw26.2.2.1 k0_h12
theorem k0_off109_inb : ∀ (arg28 : BitVec 32) (k0_hw26 : k0_chk26 arg28), ∀ (k0_h12 : k0_cond12 arg28 = 1#1), ∀ a, (k0_off109 arg28) a + S1.size a ≤ S64.size a := fun arg28 k0_hw26 k0_h12 => k0_hw26.2.2.2.1 k0_h12
theorem k0_off117_inb : ∀ (arg28 : BitVec 32) (k0_hw26 : k0_chk26 arg28), ∀ a, (k0_off117 arg28) a + S1.size a ≤ S64.size a := fun arg28 k0_hw26 => k0_hw26.2.2.2.2

def k0_off118 (arg26 : BitVec 32) : Fin 1 → Nat :=
  let c63_i32_91 : BitVec 32 := 63#32
  let v180 : BitVec 32 := Scalar.minsi arg26 c63_i32_91
  let v181 : Index := Scalar.indexCast v180
  ![v181.toNat]

def k0_chk10 (arg26 : BitVec 32) : Prop :=
  (∀ a, (k0_off34 arg26) a + S1.size a ≤ S64.size a) ∧
  (∀ a, (k0_off42 arg26) a + S1.size a ≤ S64.size a) ∧
  (∀ a, (k0_off50 arg26) a + S1.size a ≤ S64.size a) ∧
  (∀ a, (k0_off58 arg26) a + S1.size a ≤ S64.size a) ∧
  (∀ a, (k0_off66 arg26) a + S1x32x512.size a ≤ S64x32x512.size a) ∧
  (∀ a, (k0_off67 arg26) a + S1x32x64.size a ≤ S64x32x64.size a) ∧
  (∀ a, (k0_off81 arg26) a + S1.size a ≤ S64.size a) ∧
  (∀ a, (k0_off82 arg26) a + S1.size a ≤ S64.size a) ∧
  (∀ a, (k0_off118 arg26) a + S1.size a ≤ S64.size a)
theorem k0_off34_inb : ∀ (arg26 : BitVec 32) (k0_hw10 : k0_chk10 arg26), ∀ a, (k0_off34 arg26) a + S1.size a ≤ S64.size a := fun arg26 k0_hw10 => k0_hw10.1
theorem k0_off42_inb : ∀ (arg26 : BitVec 32) (k0_hw10 : k0_chk10 arg26), ∀ a, (k0_off42 arg26) a + S1.size a ≤ S64.size a := fun arg26 k0_hw10 => k0_hw10.2.1
theorem k0_off50_inb : ∀ (arg26 : BitVec 32) (k0_hw10 : k0_chk10 arg26), ∀ a, (k0_off50 arg26) a + S1.size a ≤ S64.size a := fun arg26 k0_hw10 => k0_hw10.2.2.1
theorem k0_off58_inb : ∀ (arg26 : BitVec 32) (k0_hw10 : k0_chk10 arg26), ∀ a, (k0_off58 arg26) a + S1.size a ≤ S64.size a := fun arg26 k0_hw10 => k0_hw10.2.2.2.1
theorem k0_off66_inb : ∀ (arg26 : BitVec 32) (k0_hw10 : k0_chk10 arg26), ∀ a, (k0_off66 arg26) a + S1x32x512.size a ≤ S64x32x512.size a := fun arg26 k0_hw10 => k0_hw10.2.2.2.2.1
theorem k0_off67_inb : ∀ (arg26 : BitVec 32) (k0_hw10 : k0_chk10 arg26), ∀ a, (k0_off67 arg26) a + S1x32x64.size a ≤ S64x32x64.size a := fun arg26 k0_hw10 => k0_hw10.2.2.2.2.2.1
theorem k0_off81_inb : ∀ (arg26 : BitVec 32) (k0_hw10 : k0_chk10 arg26), ∀ a, (k0_off81 arg26) a + S1.size a ≤ S64.size a := fun arg26 k0_hw10 => k0_hw10.2.2.2.2.2.2.1
theorem k0_off82_inb : ∀ (arg26 : BitVec 32) (k0_hw10 : k0_chk10 arg26), ∀ a, (k0_off82 arg26) a + S1.size a ≤ S64.size a := fun arg26 k0_hw10 => k0_hw10.2.2.2.2.2.2.2.1
theorem k0_off118_inb : ∀ (arg26 : BitVec 32) (k0_hw10 : k0_chk10 arg26), ∀ a, (k0_off118 arg26) a + S1.size a ≤ S64.size a := fun arg26 k0_hw10 => k0_hw10.2.2.2.2.2.2.2.2

abbrev stage0_0 : Fin 1 → Memref sig .tc .smem S64x32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S64x1x32x512 : Shape := ⟨4, ![64, 1, 32, 512]⟩
abbrev S64x1x32x64 : Shape := ⟨4, ![64, 1, 32, 64]⟩
abbrev S2560x64x512 : Shape := ⟨3, ![2560, 64, 512]⟩
abbrev S2560x64 : Shape := ⟨2, ![2560, 64]⟩
abbrev S2560x64x64 : Shape := ⟨3, ![2560, 64, 64]⟩
abbrev S64x32 : Shape := ⟨2, ![64, 32]⟩
abbrev S64 : Shape := ⟨1, ![64]⟩
abbrev S64x1x512 : Shape := ⟨3, ![64, 1, 512]⟩
abbrev S64x1 : Shape := ⟨2, ![64, 1]⟩
abbrev S64x1x64 : Shape := ⟨3, ![64, 1, 64]⟩
abbrev S_ : Shape := ⟨0, ![]⟩
abbrev S64x32x1 : Shape := ⟨3, ![64, 32, 1]⟩
abbrev S64x32x64x512 : Shape := ⟨4, ![64, 32, 64, 512]⟩
abbrev S64x2048x512 : Shape := ⟨3, ![64, 2048, 512]⟩
abbrev S64x32x64 : Shape := ⟨3, ![64, 32, 64]⟩
abbrev S64x2048 : Shape := ⟨2, ![64, 2048]⟩
abbrev S64x32x64x64 : Shape := ⟨4, ![64, 32, 64, 64]⟩
abbrev S64x2048x64 : Shape := ⟨3, ![64, 2048, 64]⟩
abbrev S64x1x32x2048 : Shape := ⟨4, ![64, 1, 32, 2048]⟩
abbrev S64x1x1x2048 : Shape := ⟨4, ![64, 1, 1, 2048]⟩
abbrev S2048 : Shape := ⟨1, ![2048]⟩
abbrev S1x2048 : Shape := ⟨2, ![1, 2048]⟩
abbrev S64x1x32x1 : Shape := ⟨4, ![64, 1, 32, 1]⟩
abbrev S64x1x1x1 : Shape := ⟨4, ![64, 1, 1, 1]⟩
abbrev S1 : Shape := ⟨1, ![1]⟩
abbrev S1x1 : Shape := ⟨2, ![1, 1]⟩
abbrev S1x1x1x1 : Shape := ⟨4, ![1, 1, 1, 1]⟩
abbrev S64x1x32 : Shape := ⟨3, ![64, 1, 32]⟩

abbrev nBuf : Space → Nat
  | .hbm => 124
  | .vmem => 4
  | .smem => 0
  | _ => 0

abbrev bufTy : (tb : Table) → Fin (tcTables nBuf tb) → BufTy
  | .hbm, ⟨0, _⟩ => ⟨S64x1x32x512, .bf16⟩
  | .hbm, ⟨1, _⟩ => ⟨S64x1x32x64, .bf16⟩
  | .hbm, ⟨2, _⟩ => ⟨S2560x64x512, .fp8e4m3⟩
  | .hbm, ⟨3, _⟩ => ⟨S2560x64, .f32⟩
  | .hbm, ⟨4, _⟩ => ⟨S2560x64x64, .bf16⟩
  | .hbm, ⟨5, _⟩ => ⟨S64x32, .i32⟩
  | .hbm, ⟨6, _⟩ => ⟨S64, .i32⟩
  | .hbm, ⟨7, _⟩ => ⟨S64x1x512, .fp8e4m3⟩
  | .hbm, ⟨8, _⟩ => ⟨S64x1, .f32⟩
  | .hbm, ⟨9, _⟩ => ⟨S64x1x64, .bf16⟩
  | .hbm, ⟨10, _⟩ => ⟨S2560x64x512, .bf16⟩
  | .hbm, ⟨11, _⟩ => ⟨S64x1x512, .bf16⟩
  | .hbm, ⟨12, _⟩ => ⟨S_, .i32⟩
  | .hbm, ⟨13, _⟩ => ⟨S64x32, .i32⟩
  | .hbm, ⟨14, _⟩ => ⟨S64x32, .i1⟩
  | .hbm, ⟨15, _⟩ => ⟨S_, .i32⟩
  | .hbm, ⟨16, _⟩ => ⟨S64x32, .i32⟩
  | .hbm, ⟨17, _⟩ => ⟨S64x32, .i32⟩
  | .hbm, ⟨18, _⟩ => ⟨S64x32, .i32⟩
  | .hbm, ⟨19, _⟩ => ⟨S64x32x1, .i32⟩
  | .hbm, ⟨20, _⟩ => ⟨S64x32x64x512, .bf16⟩
  | .hbm, ⟨21, _⟩ => ⟨S64x2048x512, .bf16⟩
  | .hbm, ⟨22, _⟩ => ⟨S_, .i32⟩
  | .hbm, ⟨23, _⟩ => ⟨S64x32, .i32⟩
  | .hbm, ⟨24, _⟩ => ⟨S64x32, .i1⟩
  | .hbm, ⟨25, _⟩ => ⟨S_, .i32⟩
  | .hbm, ⟨26, _⟩ => ⟨S64x32, .i32⟩
  | .hbm, ⟨27, _⟩ => ⟨S64x32, .i32⟩
  | .hbm, ⟨28, _⟩ => ⟨S64x32, .i32⟩
  | .hbm, ⟨29, _⟩ => ⟨S64x32x1, .i32⟩
  | .hbm, ⟨30, _⟩ => ⟨S64x32x64, .f32⟩
  | .hbm, ⟨31, _⟩ => ⟨S64x2048, .f32⟩
  | .hbm, ⟨32, _⟩ => ⟨S_, .i32⟩
  | .hbm, ⟨33, _⟩ => ⟨S64x32, .i32⟩
  | .hbm, ⟨34, _⟩ => ⟨S64x32, .i1⟩
  | .hbm, ⟨35, _⟩ => ⟨S_, .i32⟩
  | .hbm, ⟨36, _⟩ => ⟨S64x32, .i32⟩
  | .hbm, ⟨37, _⟩ => ⟨S64x32, .i32⟩
  | .hbm, ⟨38, _⟩ => ⟨S64x32, .i32⟩
  | .hbm, ⟨39, _⟩ => ⟨S64x32x1, .i32⟩
  | .hbm, ⟨40, _⟩ => ⟨S64x32x64x64, .bf16⟩
  | .hbm, ⟨41, _⟩ => ⟨S64x2048x64, .bf16⟩
  | .hbm, ⟨42, _⟩ => ⟨S64x1x32x2048, .f32⟩
  | .hbm, ⟨43, _⟩ => ⟨S64x1x32x2048, .f32⟩
  | .hbm, ⟨44, _⟩ => ⟨S64x1x1x2048, .f32⟩
  | .hbm, ⟨45, _⟩ => ⟨S64x1x32x2048, .f32⟩
  | .hbm, ⟨46, _⟩ => ⟨S64x1x32x2048, .f32⟩
  | .hbm, ⟨47, _⟩ => ⟨S64x1x32x2048, .f32⟩
  | .hbm, ⟨48, _⟩ => ⟨S_, .f32⟩
  | .hbm, ⟨49, _⟩ => ⟨S64x1x32x2048, .f32⟩
  | .hbm, ⟨50, _⟩ => ⟨S64x1x32x2048, .f32⟩
  | .hbm, ⟨51, _⟩ => ⟨S2048, .i32⟩
  | .hbm, ⟨52, _⟩ => ⟨S1x2048, .i32⟩
  | .hbm, ⟨53, _⟩ => ⟨S64x1, .i32⟩
  | .hbm, ⟨54, _⟩ => ⟨S64x2048, .i32⟩
  | .hbm, ⟨55, _⟩ => ⟨S64x2048, .i32⟩
  | .hbm, ⟨56, _⟩ => ⟨S64x2048, .i1⟩
  | .hbm, ⟨57, _⟩ => ⟨S64x1x1x2048, .i1⟩
  | .hbm, ⟨58, _⟩ => ⟨S_, .f32⟩
  | .hbm, ⟨59, _⟩ => ⟨S_, .f32⟩
  | .hbm, ⟨60, _⟩ => ⟨S64x1x32x2048, .i1⟩
  | .hbm, ⟨61, _⟩ => ⟨S64x1x32x2048, .f32⟩
  | .hbm, ⟨62, _⟩ => ⟨S64x1x32x2048, .f32⟩
  | .hbm, ⟨63, _⟩ => ⟨S64x1x32x1, .f32⟩
  | .hbm, ⟨64, _⟩ => ⟨S64x1x32x1, .f32⟩
  | .hbm, ⟨65, _⟩ => ⟨S64x1x1x1, .f32⟩
  | .hbm, ⟨66, _⟩ => ⟨S64x1x32x1, .f32⟩
  | .hbm, ⟨67, _⟩ => ⟨S64x1x32x1, .f32⟩
  | .hbm, ⟨68, _⟩ => ⟨S64x1x32x1, .f32⟩
  | .hbm, ⟨69, _⟩ => ⟨S_, .f32⟩
  | .hbm, ⟨70, _⟩ => ⟨S64x1x32x1, .f32⟩
  | .hbm, ⟨71, _⟩ => ⟨S64x1x32x1, .f32⟩
  | .hbm, ⟨72, _⟩ => ⟨S1, .i32⟩
  | .hbm, ⟨73, _⟩ => ⟨S1x1, .i32⟩
  | .hbm, ⟨74, _⟩ => ⟨S1, .i32⟩
  | .hbm, ⟨75, _⟩ => ⟨S1x1, .i32⟩
  | .hbm, ⟨76, _⟩ => ⟨S1x1, .i1⟩
  | .hbm, ⟨77, _⟩ => ⟨S1x1x1x1, .i1⟩
  | .hbm, ⟨78, _⟩ => ⟨S_, .f32⟩
  | .hbm, ⟨79, _⟩ => ⟨S_, .f32⟩
  | .hbm, ⟨80, _⟩ => ⟨S64x1x32x1, .i1⟩
  | .hbm, ⟨81, _⟩ => ⟨S64x1x32x1, .f32⟩
  | .hbm, ⟨82, _⟩ => ⟨S64x1x32x1, .f32⟩
  | .hbm, ⟨83, _⟩ => ⟨S_, .f32⟩
  | .hbm, ⟨84, _⟩ => ⟨S64x1x32, .f32⟩
  | .hbm, ⟨85, _⟩ => ⟨S_, .f32⟩
  | .hbm, ⟨86, _⟩ => ⟨S64x1x32, .f32⟩
  | .hbm, ⟨87, _⟩ => ⟨S64x1x32, .f32⟩
  | .hbm, ⟨88, _⟩ => ⟨S64x1x32x1, .f32⟩
  | .hbm, ⟨89, _⟩ => ⟨S64x1x32x2048, .f32⟩
  | .hbm, ⟨90, _⟩ => ⟨S64x1x32x2048, .f32⟩
  | .hbm, ⟨91, _⟩ => ⟨S64x1x32x2048, .f32⟩
  | .hbm, ⟨92, _⟩ => ⟨S_, .f32⟩
  | .hbm, ⟨93, _⟩ => ⟨S64x1x32, .f32⟩
  | .hbm, ⟨94, _⟩ => ⟨S64x1x32x1, .f32⟩
  | .hbm, ⟨95, _⟩ => ⟨S64x1x32x1, .f32⟩
  | .hbm, ⟨96, _⟩ => ⟨S64x1x32x1, .f32⟩
  | .hbm, ⟨97, _⟩ => ⟨S_, .f32⟩
  | .hbm, ⟨98, _⟩ => ⟨S64x1x32, .f32⟩
  | .hbm, ⟨99, _⟩ => ⟨S64x1x32, .f32⟩
  | .hbm, ⟨100, _⟩ => ⟨S64x1x32, .f32⟩
  | .hbm, ⟨101, _⟩ => ⟨S64x1x32, .f32⟩
  | .hbm, ⟨102, _⟩ => ⟨S64x1x32x1, .f32⟩
  | .hbm, ⟨103, _⟩ => ⟨S64x1x32x2048, .f32⟩
  | .hbm, ⟨104, _⟩ => ⟨S64x1x32x2048, .f32⟩
  | .hbm, ⟨105, _⟩ => ⟨S64x1x32x2048, .f32⟩
  | .hbm, ⟨106, _⟩ => ⟨S64x1x1x2048, .f32⟩
  | .hbm, ⟨107, _⟩ => ⟨S64x1x32x2048, .f32⟩
  | .hbm, ⟨108, _⟩ => ⟨S64x1x32x2048, .f32⟩
  | .hbm, ⟨109, _⟩ => ⟨S64x1x32x2048, .bf16⟩
  | .hbm, ⟨110, _⟩ => ⟨S64x1x32x1, .f32⟩
  | .hbm, ⟨111, _⟩ => ⟨S64x1x32x1, .f32⟩
  | .hbm, ⟨112, _⟩ => ⟨S64x1x32x1, .f32⟩
  | .hbm, ⟨113, _⟩ => ⟨S64x1x1x1, .f32⟩
  | .hbm, ⟨114, _⟩ => ⟨S64x1x32x1, .f32⟩
  | .hbm, ⟨115, _⟩ => ⟨S64x1x32x1, .f32⟩
  | .hbm, ⟨116, _⟩ => ⟨S64x1x32x1, .bf16⟩
  | .hbm, ⟨117, _⟩ => ⟨S64x1x32x512, .f32⟩
  | .hbm, ⟨118, _⟩ => ⟨S64x1x32x512, .f32⟩
  | .hbm, ⟨119, _⟩ => ⟨S64x1x32x512, .f32⟩
  | .hbm, ⟨120, _⟩ => ⟨S64x1x32x1, .f32⟩
  | .hbm, ⟨121, _⟩ => ⟨S64x1x32x512, .f32⟩
  | .hbm, ⟨122, _⟩ => ⟨S64x1x32x512, .f32⟩
  | .hbm, ⟨123, _⟩ => ⟨S64x1x32x512, .bf16⟩
  | .local _ .vmem, ⟨0, _⟩ => ⟨S2560x64x512, .fp8e4m3⟩
  | .local _ .vmem, ⟨1, _⟩ => ⟨S64x1x512, .fp8e4m3⟩
  | .local _ .vmem, ⟨2, _⟩ => ⟨S2560x64x512, .bf16⟩
  | .local _ .vmem, ⟨3, _⟩ => ⟨S64x1x512, .bf16⟩
  | _, _ => ⟨S64x1x32x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v55 : Ref sig .tc := ⟨.hbm, 82, rfl⟩
abbrev main_cst_8 : Ref sig .tc := ⟨.hbm, 83, rfl⟩
abbrev main_v56 : Ref sig .tc := ⟨.hbm, 84, rfl⟩
abbrev main_cst_9 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_10 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_11 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2560x64x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Sched.lean ====
/-
  The schedule of the decode loop, as arithmetic: which (sequence, chunk) pair each iteration visits, how many
  of the chunk's four pages it fetches, and the words of the program that compute these.
-/
module

public import Idealize.ShloMosaic.Lib.WordCmp
public import Idealize.ShloMosaic.Lib.WordArith
public import Idealize.ShloMosaic.Lib.Routing.Words
public import Idealize.ShloMosaic.Lib.PlanTiles.Rows

@[expose] public section

namespace Decode

open Idealize.ShloMosaic Idealize.ShloMosaic.WordCmp

/-- The 32-bit word of a natural number. -/
abbrev W (n : ℕ) : BitVec 32 := BitVec.ofNat 32 n

theorem W_toNat {n : ℕ} (h : n < 2 ^ 31) : (W n).toNat = n := by
  simp only [W, BitVec.toNat_ofNat]; omega

theorem W_toInt {n : ℕ} (h : n < 2 ^ 31) : (W n).toInt = n := by
  exact toInt_ofNat_of_lt (w := 32) h

theorem W_add (a b : ℕ) : Scalar.addi (W a) (W b) = W (a + b) := by
  simp only [Scalar.addi, IntOp.addi, W, BitVec.ofNat_add]

theorem W_mul (a b : ℕ) : Scalar.muli (W a) (W b) = W (a * b) := by
  simp only [Scalar.muli, IntOp.muli, W, BitVec.ofNat_mul]

theorem slt_iff (x y : BitVec 32) : Scalar.cmpi .slt x y = 1#1 ↔ x.toInt < y.toInt := by
  unfold Scalar.cmpi; rw [cmpi_slt_eq, ofBool_decide_eq_one_iff]

theorem sge_iff (x y : BitVec 32) : Scalar.cmpi .sge x y = 1#1 ↔ y.toInt ≤ x.toInt := by
  unfold Scalar.cmpi; rw [cmpi_sge_eq, ofBool_decide_eq_one_iff]

theorem one_bit (x : BitVec 1) : x = 0#1 ∨ x = 1#1 := by
  rcases x with ⟨⟨n, hn⟩⟩
  have : n = 0 ∨ n = 1 := by omega
  rcases this with rfl | rfl
  · exact .inl rfl
  · exact .inr rfl

/-- A one-bit word widened and compared with zero is itself. -/
theorem wide_iff (x : BitVec 1) : Scalar.cmpi .ne (Scalar.extui x) 0#32 = 1#1 ↔ x = 1#1 := by
  rcases one_bit x with rfl | rfl <;> decide

theorem or_iff (x y : BitVec 1) : Scalar.ori x y = 1#1 ↔ x = 1#1 ∨ y = 1#1 := by
  rcases one_bit x with rfl | rfl <;> rcases one_bit y with rfl | rfl <;> decide

/-- The condition under which page `p` of chunk `c` is fetched at iteration `it`, the sequence's length being `v`. -/
def pcond (it c : BitVec 32) (p : ℕ) (v : BitVec 32) : BitVec 1 :=
  Scalar.cmpi .ne (Scalar.extui (Scalar.ori
    (Scalar.cmpi .slt (Scalar.muli (Scalar.addi (Scalar.muli c 4#32) (BitVec.ofNat 32 p)) 64#32) v)
    (Scalar.cmpi .slt it 32#32))) 0#32

theorem pcond_iff {n c p : ℕ} (hn : n < 2 ^ 20) (hc : c ≤ 7) (hp : p < 4) (v : BitVec 32) :
    pcond (W n) (W c) p v = 1#1 ↔ (((c * 4 + p) * 64 : ℕ) : ℤ) < v.toInt ∨ n < 32 := by
  unfold pcond
  rw [wide_iff, or_iff, slt_iff, slt_iff]
  have e : Scalar.muli (Scalar.addi (Scalar.muli (W c) 4#32) (BitVec.ofNat 32 p)) 64#32 = W ((c * 4 + p) * 64) := by
    rw [show (4#32 : BitVec 32) = W 4 from rfl, show (64#32 : BitVec 32) = W 64 from rfl, W_mul, W_add, W_mul]
  rw [e, W_toInt (by omega), W_toInt (by omega), show (32#32 : BitVec 32) = W 32 from rfl, W_toInt (by omega)]
  omega

/-- `b < 64`, as the program asks it. -/
theorem lt64_iff {b : ℕ} (hb : b < 2 ^ 31) : Scalar.cmpi .slt (W b) 64#32 = 1#1 ↔ b < 64 := by
  rw [slt_iff, W_toInt hb, show (64#32 : BitVec 32) = W 64 from rfl, W_toInt (by omega)]; omega

/-- The word of an iteration's slot. -/
theorem slot_toNat {n : ℕ} (hn : n < 2 ^ 31) : (Scalar.remsi (W n) 32#32).toNat = n % 32 := by
  unfold Scalar.remsi
  rw [show (32#32 : BitVec 32) = BitVec.ofNat 32 32 from rfl, Routing.remsi_word .scalar hn (by omega) (by omega)]
  exact W_toNat (n := n % 32) (by omega)

/-- The sequence index clamped to the last sequence. -/
theorem min63_toNat {b : ℕ} (hb : b < 2 ^ 31) : (Scalar.minsi (W b) 63#32).toNat = min b 63 := by
  unfold Scalar.minsi IntOp.minsi
  have h : ((W b).slt 63#32) = decide (b < 63) := by
    rw [BitVec.slt_eq_decide, W_toInt hb]
    rw [show (63#32 : BitVec 32) = W 63 from rfl, W_toInt (by omega)]
    simp
  rw [h]
  by_cases h' : b < 63
  · simp only [h', decide_true, if_true]; rw [W_toNat hb]; omega
  · simp only [h', decide_false]
    show (63#32 : BitVec 32).toNat = _
    rw [show (63#32 : BitVec 32).toNat = 63 from rfl]; omega

/-- Whether the chunk just handled is the sequence's last one, as the program computes it from the length `v`. -/
def lastW (c v : BitVec 32) : BitVec 1 :=
  Scalar.cmpi .sge (Scalar.addi c 1#32) (Scalar.divsi (Scalar.addi v 255#32) 256#32)

theorem toInt_div256 (x : BitVec 32) : (Scalar.divsi x 256#32).toInt = x.toInt.tdiv 256 := by
  unfold Scalar.divsi IntOp.divsi
  have h : ¬ IntOp.SDivCorner x 256#32 := by
    unfold IntOp.SDivCorner
    rintro (h | ⟨-, h⟩) <;> exact absurd h (by decide)
  rw [if_neg h, BitVec.toInt_sdiv_of_ne_or_ne _ _ (.inr (by decide))]
  rfl

theorem lastW_iff {c : ℕ} (hc : c ≤ 7) {v : BitVec 32} (hv : v.toInt ≤ 2048) :
    lastW (W c) v = 1#1 ↔ v.toInt ≤ 256 * ((c : ℤ) + 1) := by
  unfold lastW
  rw [sge_iff, toInt_div256, show (1#32 : BitVec 32) = W 1 from rfl, W_add, W_toInt (by omega)]
  have hlow : -(2 ^ 31 : ℤ) ≤ v.toInt := by have := BitVec.le_toInt v; simpa using this
  have e : (Scalar.addi v 255#32).toInt = v.toInt + 255 := by
    unfold Scalar.addi IntOp.addi
    rw [BitVec.toInt_add, show (255#32 : BitVec 32).toInt = 255 from by decide]
    rw [Int.bmod_def]; split <;> omega
  rw [e]
  by_cases h0 : 0 ≤ v.toInt + 255
  · rw [Int.tdiv_eq_ediv_of_nonneg h0]; push_cast; omega
  · have : (v.toInt + 255).tdiv 256 ≤ 0 := by
      have h1 : 0 ≤ -(v.toInt + 255) := by omega
      have h2 := Int.tdiv_nonneg h1 (show (0 : ℤ) ≤ 256 by omega)
      rw [Int.neg_tdiv] at h2; omega
    push_cast; omega

/-- One step of the schedule on (sequence, chunk). -/
def adv (L : ℕ → BitVec 32) (s : ℕ × ℕ) : ℕ × ℕ :=
  if (L (min s.1 63)).toInt ≤ 256 * ((s.2 : ℤ) + 1) then (s.1 + 1, 0) else (s.1, s.2 + 1)

/-- What iteration `n` visits. -/
def sch (L : ℕ → BitVec 32) : ℕ → ℕ × ℕ
  | 0 => (0, 0)
  | n + 1 => adv L (sch L n)

/-- The program's step on the two words is the schedule's step. -/
theorem adv_words (L : ℕ → BitVec 32) {b c : ℕ} (hc : c ≤ 7) (hL : (L (min b 63)).toInt ≤ 2048) :
    (Scalar.select (lastW (W c) (L (min b 63))) (Scalar.addi (W b) 1#32) (W b) = W (adv L (b, c)).1)
    ∧ (Scalar.select (lastW (W c) (L (min b 63))) 0#32 (Scalar.addi (W c) 1#32) = W (adv L (b, c)).2) := by
  have h := lastW_iff hc hL
  unfold adv Scalar.select
  by_cases hl : (L (min b 63)).toInt ≤ 256 * ((c : ℤ) + 1)
  · have h1 : lastW (W c) (L (min b 63)) = 1 := h.2 hl
    simp only [h1, if_true, hl, show (1#32 : BitVec 32) = W 1 from rfl, W_add, and_self]
  · have h1 : ¬ lastW (W c) (L (min b 63)) = 1 := fun e => hl (h.1 e)
    simp only [h1, hl, if_false, show (1#32 : BitVec 32) = W 1 from rfl, W_add, and_self]

section

variable {L : ℕ → BitVec 32} (hL : ∀ i, i < 64 → (L i).toInt ≤ 2048)
include hL

/-- A chunk index never exceeds 7, and a chunk after the first is one its sequence reaches. -/
theorem sch_c (n : ℕ) : (sch L n).2 ≤ 7 ∧ (0 < (sch L n).2 → ((sch L n).2 * 256 : ℤ) < (L (min (sch L n).1 63)).toInt) := by
  induction n with
  | zero => exact ⟨by simp [sch], by simp [sch]⟩
  | succ n ih =>
    have hb := hL (min (sch L n).1 63) (by omega)
    simp only [sch, adv]
    split
    · exact ⟨by simp, by simp⟩
    · next h => simp only; refine ⟨by omega, fun _ => by push_cast; omega⟩

theorem sch_c7 (n : ℕ) : (sch L n).2 ≤ 7 := (sch_c hL n).1

omit hL in
theorem sch_mono1 (n : ℕ) : (sch L n).1 ≤ (sch L (n + 1)).1 ∧ (sch L (n + 1)).1 ≤ (sch L n).1 + 1 := by
  simp only [sch, adv]; split <;> simp

omit hL in
theorem sch_mono {n k : ℕ} (h : n ≤ k) : (sch L n).1 ≤ (sch L k).1 := by
  induction h with
  | refl => exact le_rfl
  | step _ ih => exact ih.trans (sch_mono1 _).1

omit hL in
/-- A sequence index never exceeds the iteration's. -/
theorem sch_le (n : ℕ) : (sch L n).1 ≤ n := by
  induction n with
  | zero => simp [sch]
  | succ n ih => have := (sch_mono1 (L := L) n).2; omega

/-- Eight chunks at most to a sequence: what bounds the loop. -/
theorem sch_rank (n : ℕ) : n ≤ 8 * (sch L n).1 + (sch L n).2 := by
  induction n with
  | zero => simp
  | succ n ih =>
    have h7 := sch_c7 hL n
    simp only [sch, adv]; split <;> simp only <;> omega

theorem lt_512 {n : ℕ} (h : (sch L n).1 < 64) : n < 512 := by
  have := sch_rank hL n; have := sch_c7 hL n; omega

end

/-- How many of its chunk's four pages iteration `n` fetches. -/
def cnt (L : ℕ → BitVec 32) (n : ℕ) : ℕ :=
  if n < 32 then 4 else min 4 (((L (min (sch L n).1 63)).toInt.toNat + 63) / 64 - 4 * (sch L n).2)

theorem cnt_le (L : ℕ → BitVec 32) (n : ℕ) : cnt L n ≤ 4 := by
  unfold cnt; split <;> omega

/-- The first chunk of a page count: page `p` is fetched exactly when `p` is below the count. -/
theorem lt_cnt (L : ℕ → BitVec 32) (n p : ℕ) (hp : p < 4) :
    p < cnt L n ↔ ((((sch L n).2 * 4 + p) * 64 : ℕ) : ℤ) < (L (min (sch L n).1 63)).toInt ∨ n < 32 := by
  unfold cnt; split
  · next h => simp [h, hp]
  · next h => push_cast; omega

end Decode

end
-- ==== Proof.KI.Prog.lean ====
/-
  The two pieces of program the kernel repeats for each page of a chunk: starting the page's two copies into a ring slot,
  and waiting for them. The printed body writes each out four or eight times; here each is one definition, and the
  printed parts are shown to be their sequences.
-/
module

public import proofs.«01_k».proof.Proof.Sched
public import proofs.«01_k».proof.Proof.Gen.KernelIdeal.Skeleton
public import Idealize.ShloMosaic.Lib.Exec

@[expose] public section

set_option maxRecDepth 16384

noncomputable section

namespace Cert.KernelIdeal.Hand

open Cert.KernelIdeal Cert.KernelIdeal.Gen Decode
open Idealize.ShloMosaic Idealize.ShloMosaic.TcCoe
open Idealize.SL Idealize.SL.Sem

variable {F : FTy → Type} [FloatOps F] [Named F]

/-- A buffer of the kernel. -/
abbrev Mref := Memref sig .tc

/-- Where page `p` of slot word `s` sits in the ring. -/
abbrev dOff (s : BitVec 32) (p : ℕ) : Fin 3 → ℕ := ![s.toNat, 64 * p, 0]
/-- Where the page named by word `w` sits in the pool. -/
abbrev pOff (w : BitVec 32) : Fin 3 → ℕ := ![w.toNat, 0, 0]
/-- Where a sequence's length sits. -/
abbrev lOff (b : BitVec 32) : Fin 1 → ℕ := ![(Scalar.indexCast b).toNat]
/-- Where the number of page `p` of chunk `c` of sequence `b` sits in the page table. -/
abbrev tOff (b c : BitVec 32) (p : ℕ) : Fin 2 → ℕ :=
  ![(Scalar.indexCast b).toNat, (Scalar.indexCast (Scalar.addi (Scalar.muli c 4#32) (BitVec.ofNat 32 p))).toNat]

section
variable (arg1 : Mref .smem S64 .i32) (harg1 : arg1.IsWhole) (arg0 : Mref .smem S64x32 .i32) (harg0 : arg0.IsWhole)
  (arg21 : DmaSems sig S32) (arg15 : Mref .vmem S32x256x512 .fp8e4m3) (harg15 : arg15.IsWhole)
  (arg5 : Mref .hbm S2560x64x512 .fp8e4m3) (harg5 : arg5.IsWhole) (arg22 : DmaSems sig S32)
  (arg16 : Mref .vmem S32x256x64 .bf16) (harg16 : arg16.IsWhole) (arg7 : Mref .hbm S2560x64x64 .bf16) (harg7 : arg7.IsWhole)

/-- The side conditions of one page's two copies: the slot's cell and windows, and the pool's page, in bounds and whole words. -/
structure PageOk (oS : Fin 1 → ℕ) (oD oP : Fin 3 → ℕ) : Prop where
  sem : ∀ a, oS a + S1.size a ≤ S32.size a
  kvD : ∀ a, oD a + S1x64x512.size a ≤ S32x256x512.size a
  kvDw : (Rect.unit (s := S32x256x512) oD S1x64x512.size kvD).WholeWords (EltTy.packing .fp8e4m3)
  kvS : ∀ a, oP a + S1x64x512.size a ≤ S2560x64x512.size a
  kvSw : (Rect.unit (s := S2560x64x512) oP S1x64x512.size kvS).WholeWords (EltTy.packing .fp8e4m3)
  rpD : ∀ a, oD a + S1x64x64.size a ≤ S32x256x64.size a
  rpDw : (Rect.unit (s := S32x256x64) oD S1x64x64.size rpD).WholeWords (EltTy.packing .bf16)
  rpS : ∀ a, oP a + S1x64x64.size a ≤ S2560x64x64.size a
  rpSw : (Rect.unit (s := S2560x64x64) oP S1x64x64.size rpS).WholeWords (EltTy.packing .bf16)

/-- Start the two copies of one page. -/
def issueTwo (oS : Fin 1 → ℕ) (oD oP : Fin 3 → ℕ) (h : PageOk oS oD oP) : Prog (TpuEff nD τ sig (Elt F) (Λ₀ F) .tc) PUnit := do
  Prog.lift (.enqueueDma ((arg5.slice (Rect.unit (s := S2560x64x512) oP S1x64x512.size h.kvS) (fun _ => rfl)).squeeze S64x512 squeezes_S1x64x512_S64x512)
    (.here ((arg15.slice (Rect.unit (s := S32x256x512) oD S1x64x512.size h.kvD) (fun _ => rfl)).squeeze S64x512 squeezes_S1x64x512_S64x512))
    (.dma ((arg21.slice (Rect.unit (s := S32) oS S1.size h.sem)).squeeze S_ squeezes_S1_S_).sem)
    ((harg5.wordExact_slice rfl _ h.kvSw).reshape _ _) ((harg15.wordExact_slice rfl _ h.kvDw).reshape _ _) ⟨Or.inl rfl, trivial⟩)
  Prog.lift (.enqueueDma ((arg7.slice (Rect.unit (s := S2560x64x64) oP S1x64x64.size h.rpS) (fun _ => rfl)).squeeze S64x64 squeezes_S1x64x64_S64x64)
    (.here ((arg16.slice (Rect.unit (s := S32x256x64) oD S1x64x64.size h.rpD) (fun _ => rfl)).squeeze S64x64 squeezes_S1x64x64_S64x64))
    (.dma ((arg22.slice (Rect.unit (s := S32) oS S1.size h.sem)).squeeze S_ squeezes_S1_S_).sem)
    ((harg7.wordExact_slice rfl _ h.rpSw).reshape _ _) ((harg16.wordExact_slice rfl _ h.rpDw).reshape _ _) ⟨Or.inl rfl, trivial⟩)
  pure ⟨⟩

/-- Wait for the two copies of one page. -/
def waitTwo (oS : Fin 1 → ℕ) (oD oP : Fin 3 → ℕ) (h : PageOk oS oD oP) : Prog (TpuEff nD τ sig (Elt F) (Λ₀ F) .tc) PUnit := do
  Prog.lift (.waitDma2 ((arg21.slice (Rect.unit (s := S32) oS S1.size h.sem)).squeeze S_ squeezes_S1_S_).sem
    ((arg5.slice (Rect.unit (s := S2560x64x512) oP S1x64x512.size h.kvS) (fun _ => rfl)).squeeze S64x512 squeezes_S1x64x512_S64x512)
    ((arg15.slice (Rect.unit (s := S32x256x512) oD S1x64x512.size h.kvD) (fun _ => rfl)).squeeze S64x512 squeezes_S1x64x512_S64x512)
    ((harg5.wordExact_slice rfl _ h.kvSw).reshape _ _) ((harg15.wordExact_slice rfl _ h.kvDw).reshape _ _))
  Prog.lift (.waitDma2 ((arg22.slice (Rect.unit (s := S32) oS S1.size h.sem)).squeeze S_ squeezes_S1_S_).sem
    ((arg7.slice (Rect.unit (s := S2560x64x64) oP S1x64x64.size h.rpS) (fun _ => rfl)).squeeze S64x64 squeezes_S1x64x64_S64x64)
    ((arg16.slice (Rect.unit (s := S32x256x64) oD S1x64x64.size h.rpD) (fun _ => rfl)).squeeze S64x64 squeezes_S1x64x64_S64x64)
    ((harg7.wordExact_slice rfl _ h.rpSw).reshape _ _) ((harg16.wordExact_slice rfl _ h.rpDw).reshape _ _))
  pure ⟨⟩

/-- One page: read the length, and under `pcond` read the page's number and do `two` (start, or wait for, its copies);
    then `k`. `A` and `B` are the two side conditions the printed body assumes on the way. -/
def pageSite (two : (oS : Fin 1 → ℕ) → (oD oP : Fin 3 → ℕ) → PageOk oS oD oP → Prog (TpuEff nD τ sig (Elt F) (Λ₀ F) .tc) PUnit)
    (it b c : BitVec 32) (p : ℕ) (inbL : ∀ a, lOff b a + S1.size a ≤ S64.size a)
    (A : BitVec 32 → Prop) (dA : ∀ v, Decidable (A v))
    (inbT : ∀ v, A v → pcond it c p v = 1#1 → ∀ a, tOff b c p a + S1x1.size a ≤ S64x32.size a)
    (B : BitVec 32 → BitVec 32 → Prop) (dB : ∀ v w, Decidable (B v w))
    (ok : ∀ v w, A v → B v w → pcond it c p v = 1#1 → PageOk ![(Scalar.remsi it 32#32).toNat] (dOff (Scalar.remsi it 32#32) p) (pOff w))
    {α : Type} (k : PUnit → Prog (TpuEff nD τ sig (Elt F) (Λ₀ F) .tc) α) :
    Prog (TpuEff nD τ sig (Elt F) (Λ₀ F) .tc) α :=
  (smemLoad arg1 (Rect.unit (s := S64) (lOff b) S1.size inbL) numel1_S1 rfl : Prog (TpuEff nD τ sig (Elt F) (Λ₀ F) .tc) (Elt F .i32)) >>= fun v =>
  Prog.lift (TpuEff.assume (A v) (dA v)) >>= fun hA =>
  if h : pcond it c p v = 1#1 then
    (smemLoad arg0 (Rect.unit (s := S64x32) (tOff b c p) S1x1.size (inbT v hA.down h)) numel1_S1x1 rfl : Prog (TpuEff nD τ sig (Elt F) (Λ₀ F) .tc) (Elt F .i32)) >>= fun w =>
    Prog.lift (TpuEff.assume (B v w) (dB v w)) >>= fun hB =>
    two ![(Scalar.remsi it 32#32).toNat] (dOff (Scalar.remsi it 32#32) p) (pOff w) (ok v w hA.down hB.down h) >>= k
  else k ⟨⟩

end

end Cert.KernelIdeal.Hand

end
-- ==== Proof.KI.Res.lean ====
/-
  What the kernel holds about its ring: the window of a slot that one page's copy writes, the page of the pool it reads,
  and the resources of a slot that is free, in flight, and landed.
-/
module

public import proofs.«01_k».proof.Proof.KI.Prog
public import proofs.«01_k».proof.Proof.Gen.KernelIdeal.Launch
public import Idealize.ShloMosaic.Lib.Pipeline.FrameBody
public import Idealize.ShloMosaic.Lib.Ring
public import Idealize.ShloMosaic.Lib.Batch
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The transfers' counters inside the proof's algebra. -/
abbrev EC : UEmb Counters 𝕄 := countersEmb (U := Pipeline.UD sig nD τ)

theorem kvInb (s : Fin 32) (p : Fin 4) : ∀ a, (![s.val, 64 * p.val, 0] : Fin 3 → ℕ) a + S1x64x512.size a ≤ S32x256x512.size a := by
  intro a; fin_cases a <;> simp [S1x64x512, S32x256x512] <;> omega
theorem rpInb (s : Fin 32) (p : Fin 4) : ∀ a, (![s.val, 64 * p.val, 0] : Fin 3 → ℕ) a + S1x64x64.size a ≤ S32x256x64.size a := by
  intro a; fin_cases a <;> simp [S1x64x64, S32x256x64] <;> omega
theorem kvSInb (g : Fin 2560) : ∀ a, (![g.val, 0, 0] : Fin 3 → ℕ) a + S1x64x512.size a ≤ S2560x64x512.size a := by
  intro a; fin_cases a <;> simp [S1x64x512, S2560x64x512] <;> omega
theorem rpSInb (g : Fin 2560) : ∀ a, (![g.val, 0, 0] : Fin 3 → ℕ) a + S1x64x64.size a ≤ S2560x64x64.size a := by
  intro a; fin_cases a <;> simp [S1x64x64, S2560x64x64] <;> omega
theorem semInb (s : Fin 32) : ∀ a, (![s.val] : Fin 1 → ℕ) a + S1.size a ≤ S32.size a := by
  intro a; fin_cases a; simp [S1, S32]

/-- Page `p` of slot `s` of the key/value ring. -/
abbrev kvD (s : Fin 32) (p : Fin 4) : Mref .vmem S64x512 .fp8e4m3 :=
  ((Memref.whole cc0_scratch3).slice (Rect.unit (s := S32x256x512) ![s.val, 64 * p.val, 0] S1x64x512.size (kvInb s p)) (fun _ => rfl)).squeeze S64x512 squeezes_S1x64x512_S64x512
/-- Page `p` of slot `s` of the position-key ring. -/
abbrev rpD (s : Fin 32) (p : Fin 4) : Mref .vmem S64x64 .bf16 :=
  ((Memref.whole cc0_scratch4).slice (Rect.unit (s := S32x256x64) ![s.val, 64 * p.val, 0] S1x64x64.size (rpInb s p)) (fun _ => rfl)).squeeze S64x64 squeezes_S1x64x64_S64x64
/-- Page `g` of the key/value pool. -/
abbrev kvS (g : Fin 2560) : Mref .hbm S64x512 .fp8e4m3 :=
  ((Memref.whole main_arg2).slice (Rect.unit (s := S2560x64x512) ![g.val, 0, 0] S1x64x512.size (kvSInb g)) (fun _ => rfl)).squeeze S64x512 squeezes_S1x64x512_S64x512
/-- Page `g` of the position-key pool. -/
abbrev rpS (g : Fin 2560) : Mref .hbm S64x64 .bf16 :=
  ((Memref.whole main_arg4).slice (Rect.unit (s := S2560x64x64) ![g.val, 0, 0] S1x64x64.size (rpSInb g)) (fun _ => rfl)).squeeze S64x64 squeezes_S1x64x64_S64x64
/-- Slot `s`'s cell for the key/value copies. -/
abbrev kvC (s : Fin 32) : DmaSem sig := ((cc0_scratch9.slice (Rect.unit (s := S32) ![s.val] S1.size (semInb s))).squeeze S_ squeezes_S1_S_).sem
/-- Slot `s`'s cell for the position-key copies. -/
abbrev rpC (s : Fin 32) : DmaSem sig := ((cc0_scratch10.slice (Rect.unit (s := S32) ![s.val] S1.size (semInb s))).squeeze S_ squeezes_S1_S_).sem

/-- What one page's copy credits its cell with. -/
def NK : ℕ := (kvD 0 0).view.dmaCredit
def NR : ℕ := (rpD 0 0).view.dmaCredit
theorem NK_pos : 0 < NK := View.dmaCredit_pos _ (by decide)
theorem NR_pos : 0 < NR := View.dmaCredit_pos _ (by decide)

variable (c : Dev nD)

/-- The contents the kernel runs over that never change: the lengths, the page table, the two pools. -/
structure Env (F : FTy → Type) (c : Dev nD) [FloatOps F] where
  L : ℕ → BitVec 32
  PT : ℕ → ℕ → BitVec 32
  PK : Buf (Elt F) ((Memref.whole main_arg2).view.loc (c : Thread nD τ))
  PR : Buf (Elt F) ((Memref.whole main_arg4).view.loc (c : Thread nD τ))

variable {c} (e : Env F c)

/-- The pool page that page `p` of the `n`th chunk is. -/
def Env.pg (n : ℕ) (p : ℕ) : Fin 2560 := ⟨(e.PT (sch e.L n).1 ((sch e.L n).2 * 4 + p)).toNat % 2560, Nat.mod_lt _ (by norm_num)⟩

/-- The slot of the `n`th chunk. -/
def slot (n : ℕ) : Fin 32 := ⟨n % 32, Nat.mod_lt _ (by norm_num)⟩

/-- The share of a pool that page `p` of slot `s` reads through. -/
abbrev tk (s : Fin 32) (p : Fin 4) : PosShare TreeShare := Transfers.shareTokN fullShare (4 * s.val + p.val)

/-- The ring page holds the pool page. -/
def AgK (s : Fin 32) (p : Fin 4) (g : Fin 2560) (f : Buf (Elt F) ((kvD s p).view.loc (c : Thread nD τ))) : Prop :=
  (kvD s p).view.read (Elt F) f = (kvS g).view.read (Elt F) e.PK
def AgR (s : Fin 32) (p : Fin 4) (g : Fin 2560) (f : Buf (Elt F) ((rpD s p).view.loc (c : Thread nD τ))) : Prop :=
  (rpD s p).view.read (Elt F) f = (rpS g).view.read (Elt F) e.PR

/-- What a page's key/value copy delivers: the ring page written, and the pool page's share back. -/
def DK (n : ℕ) (p : ℕ) (hp : p < 4) : sProp 𝕄 :=
  iprop((∃ f, ⌜AgK e (slot n) ⟨p, hp⟩ (e.pg n p) f⌝ ∗ ((kvD (slot n) ⟨p, hp⟩).view.loc (c : Thread nD τ) ↦[(kvD (slot n) ⟨p, hp⟩).view.set]{fullShare} f))
    ∗ ((kvS (e.pg n p)).view.loc (c : Thread nD τ) ↦[(kvS (e.pg n p)).view.set]{tk (slot n) ⟨p, hp⟩} e.PK))
def DR (n : ℕ) (p : ℕ) (hp : p < 4) : sProp 𝕄 :=
  iprop((∃ f, ⌜AgR e (slot n) ⟨p, hp⟩ (e.pg n p) f⌝ ∗ ((rpD (slot n) ⟨p, hp⟩).view.loc (c : Thread nD τ) ↦[(rpD (slot n) ⟨p, hp⟩).view.set]{fullShare} f))
    ∗ ((rpS (e.pg n p)).view.loc (c : Thread nD τ) ↦[(rpS (e.pg n p)).view.set]{tk (slot n) ⟨p, hp⟩} e.PR))

set_option synthInstance.maxHeartbeats 0 in
instance DK_storable (n p : ℕ) (hp : p < 4) : Storable (upEmb : UEmb _ 𝕄) (DK e n p hp) := by unfold DK; infer_instance
set_option synthInstance.maxHeartbeats 0 in
instance DR_storable (n p : ℕ) (hp : p < 4) : Storable (upEmb : UEmb _ 𝕄) (DR e n p hp) := by unfold DR; infer_instance

/-- A page of the ring with nothing in flight; when `h` holds it holds pool page `g`. -/
def Pg (h : Prop) (s : Fin 32) (p : Fin 4) (g : Fin 2560) : sProp 𝕄 :=
  iprop((∃ f, ⌜h → AgK e s p g f⌝ ∗ ((kvD s p).view.loc (c : Thread nD τ) ↦[(kvD s p).view.set]{fullShare} f))
    ∗ (∃ f, ⌜h → AgR e s p g f⌝ ∗ ((rpD s p).view.loc (c : Thread nD τ) ↦[(rpD s p).view.set]{fullShare} f))
    ∗ ((Memref.whole main_arg2).view.loc (c : Thread nD τ) ↦[Finset.univ]{tk s p} e.PK)
    ∗ ((Memref.whole main_arg4).view.loc (c : Thread nD τ) ↦[Finset.univ]{tk s p} e.PR))

/-- A page of the ring, free. -/
abbrev PgFree (s : Fin 32) (p : Fin 4) : sProp 𝕄 := Pg e False s p 0

/-- What stays behind of a page whose copies are in flight. -/
def PgRest (n : ℕ) (p : Fin 4) : sProp 𝕄 :=
  iprop(((Memref.whole main_arg2).view.loc (c : Thread nD τ) ↦[Finset.univ \ (kvS (e.pg n p)).view.set]{tk (slot n) p} e.PK)
    ∗ ((Memref.whole main_arg4).view.loc (c : Thread nD τ) ↦[Finset.univ \ (rpS (e.pg n p)).view.set]{tk (slot n) p} e.PR))

/-- Page `p` of slot `n % 32` when the first `j` of its pages have been started. -/
def PgAt (n j : ℕ) (p : Fin 4) : sProp 𝕄 := if p.val < j then PgRest e n p else PgFree e (slot n) p

/-- The `n`th chunk's slot with the first `j` of the chunk's copies started and `u` of them waited for. -/
def Flying (n j u : ℕ) : sProp 𝕄 :=
  iprop(Transfers.Batch EC (c : Thread nD τ) (.dma (kvC (slot n))) () NK (fun t : Fin (cnt e.L n) => DK e n t.val (t.isLt.trans_le (cnt_le e.L n))) j (NK * u)
    ∗ Transfers.Batch EC (c : Thread nD τ) (.dma (rpC (slot n))) () NR (fun t : Fin (cnt e.L n) => DR e n t.val (t.isLt.trans_le (cnt_le e.L n))) j (NR * u)
    ∗ PgAt e n j 0 ∗ PgAt e n j 1 ∗ PgAt e n j 2 ∗ PgAt e n j 3)

/-- A slot with nothing in flight. -/
def Free (s : Fin 32) : sProp 𝕄 :=
  iprop(semVal ((c : Thread nD τ), SemLoc.dma (kvC s)) 0 ∗ semVal ((c : Thread nD τ), SemLoc.dma (rpC s)) 0
    ∗ PgFree e s 0 ∗ PgFree e s 1 ∗ PgFree e s 2 ∗ PgFree e s 3)

/-- The `n`th chunk's slot when its copies have landed: each page the chunk needs holds its pool page. -/
def Landed (n : ℕ) : sProp 𝕄 :=
  iprop(semVal ((c : Thread nD τ), SemLoc.dma (kvC (slot n))) 0 ∗ semVal ((c : Thread nD τ), SemLoc.dma (rpC (slot n))) 0
    ∗ Pg e (0 < cnt e.L n) (slot n) 0 (e.pg n 0) ∗ Pg e (1 < cnt e.L n) (slot n) 1 (e.pg n 1)
    ∗ Pg e (2 < cnt e.L n) (slot n) 2 (e.pg n 2) ∗ Pg e (3 < cnt e.L n) (slot n) 3 (e.pg n 3))

/-- A free slot starts flying with nothing started. -/
theorem Free_flying (n : ℕ) : Free e (slot n) ⊢ iprop(|={Set.univ}=> Flying e n 0 0 : sProp 𝕄) := by
  unfold Free Flying PgAt
  iintro ⟨H1, H2, H3, H4, H5, H6⟩
  imod (Transfers.batch_alloc' EC (c : Thread nD τ) () NK (fun t : Fin (cnt e.L n) => DK e n t.val (t.isLt.trans_le (cnt_le e.L n))) (E := Set.univ)) $$ H1 with H1
  imod (Transfers.batch_alloc' EC (c : Thread nD τ) () NR (fun t : Fin (cnt e.L n) => DR e n t.val (t.isLt.trans_le (cnt_le e.L n))) (E := Set.univ)) $$ H2 with H2
  imodintro
  rw [Nat.mul_zero, Nat.mul_zero]
  simp only [Nat.not_lt_zero, if_false]
  isplitl [H1]; · iexact H1
  isplitl [H2]; · iexact H2
  isplitl [H3]; · iexact H3
  isplitl [H4]; · iexact H4
  isplitl [H5]; · iexact H5
  iexact H6

/-- One page's delivery and what stayed behind make the page, holding its pool page. -/
theorem Pg_join (n : ℕ) (p : Fin 4) (h : Prop) :
    iprop(DK e n p.val p.isLt ∗ DR e n p.val p.isLt ∗ PgRest e n p) ⊢ Pg e h (slot n) p (e.pg n p) := by
  unfold DK DR PgRest Pg
  iintro ⟨⟨⟨%f, %hf, H1⟩, H2⟩, ⟨⟨%f', %hf', H3⟩, H4⟩, H5, H6⟩
  isplitl [H1]
  · iexists f; isplitr; · ipureintro; exact fun _ => hf
    iexact H1
  isplitl [H3]
  · iexists f'; isplitr; · ipureintro; exact fun _ => hf'
    iexact H3
  isplitl [H2 H5]
  · iapply (pointsTo_split_subset (Finset.subset_univ _)).2 $$ [H2 H5]
    isplitl [H2]; · iexact H2
    iexact H5
  · iapply (pointsTo_split_subset (Finset.subset_univ _)).2 $$ [H4 H6]
    isplitl [H4]; · iexact H4
    iexact H6

theorem Pg_mono (h h' : Prop) (s : Fin 32) (p : Fin 4) (g g' : Fin 2560) (hh : ¬ h') : Pg e h s p g ⊢ Pg e h' s p g' := by
  unfold Pg
  iintro ⟨⟨%f, -, H1⟩, ⟨%f', -, H2⟩, H3, H4⟩
  isplitl [H1]
  · iexists f; isplitr; · ipureintro; exact fun x => absurd x hh
    iexact H1
  isplitl [H2]
  · iexists f'; isplitr; · ipureintro; exact fun x => absurd x hh
    iexact H2
  isplitl [H3] <;> iassumption

/-- A page's share of the two batches' deliveries. -/
def Del (n j : ℕ) (p : Fin 4) : sProp 𝕄 := if p.val < j then iprop(DK e n p.val p.isLt ∗ DR e n p.val p.isLt) else BI.emp

theorem Del_join (n j : ℕ) (p : Fin 4) : iprop(Del e n j p ∗ PgAt e n j p) ⊢ Pg e (p.val < j) (slot n) p (e.pg n p) := by
  unfold Del PgAt
  by_cases h : p.val < j
  · rw [if_pos h, if_pos h]
    iintro ⟨⟨H1, H2⟩, H3⟩
    iapply (Pg_join e n p _)
    isplitl [H1]; · iexact H1
    isplitl [H2]; · iexact H2
    iexact H3
  · rw [if_neg h, if_neg h]
    iintro ⟨-, H⟩
    iapply (Pg_mono e _ _ _ _ _ _ h) $$ H

/-- The deliveries of at most four pages, page by page. -/
theorem bigSep_pages (k : ℕ) (hk : k ≤ 4) (D : (p : ℕ) → p < 4 → sProp 𝕄) :
    bigSep (Finset.univ : Finset (Fin k)) (fun t => D t.val (t.isLt.trans_le hk))
      ⊢ iprop((if 0 < k then D 0 (by norm_num) else BI.emp) ∗ (if 1 < k then D 1 (by norm_num) else BI.emp)
          ∗ (if 2 < k then D 2 (by norm_num) else BI.emp) ∗ (if 3 < k then D 3 (by norm_num) else BI.emp)) := by
  interval_cases k
  · rw [show (Finset.univ : Finset (Fin 0)) = ∅ by decide, bigSep_empty]
    simp only [Nat.not_lt_zero, lt_irrefl, if_false, show ¬ (1 : ℕ) < 0 by norm_num]
    iintro -
    isplitr; · iempintro
    isplitr; · iempintro
    isplitr <;> iempintro
  · rw [show (Finset.univ : Finset (Fin 1)) = {0} by decide, bigSep_singleton]
    simp only [show (0 : ℕ) < 1 by norm_num, show ¬ (1 : ℕ) < 1 by norm_num, show ¬ (2 : ℕ) < 1 by norm_num, show ¬ (3 : ℕ) < 1 by norm_num, if_true, if_false]
    show D 0 (by norm_num) ⊢ _
    iintro H
    isplitl [H]; · iexact H
    isplitr; · iempintro
    isplitr <;> iempintro
  · rw [show (Finset.univ : Finset (Fin 2)) = {0, 1} by decide, bigSep_insert (by decide), bigSep_singleton]
    simp only [show (0 : ℕ) < 2 by norm_num, show (1 : ℕ) < 2 by norm_num, show ¬ (2 : ℕ) < 2 by norm_num, show ¬ (3 : ℕ) < 2 by norm_num, if_true, if_false]
    show iprop(D 0 (by norm_num) ∗ D 1 (by norm_num)) ⊢ _
    iintro ⟨H, H'⟩
    isplitl [H]; · iexact H
    isplitl [H']; · iexact H'
    isplitr <;> iempintro
  · rw [show (Finset.univ : Finset (Fin 3)) = {0, 1, 2} by decide, bigSep_insert (by decide), bigSep_insert (by decide), bigSep_singleton]
    simp only [show (0 : ℕ) < 3 by norm_num, show (1 : ℕ) < 3 by norm_num, show (2 : ℕ) < 3 by norm_num, show ¬ (3 : ℕ) < 3 by norm_num, if_true, if_false]
    show iprop(D 0 (by norm_num) ∗ D 1 (by norm_num) ∗ D 2 (by norm_num)) ⊢ _
    iintro ⟨H, H', H''⟩
    isplitl [H]; · iexact H
    isplitl [H']; · iexact H'
    isplitl [H'']; · iexact H''
    iempintro
  · rw [show (Finset.univ : Finset (Fin 4)) = {0, 1, 2, 3} by decide, bigSep_insert (by decide), bigSep_insert (by decide), bigSep_insert (by decide), bigSep_singleton]
    simp only [show (0 : ℕ) < 4 by norm_num, show (1 : ℕ) < 4 by norm_num, show (2 : ℕ) < 4 by norm_num, show (3 : ℕ) < 4 by norm_num, if_true]
    exact .rfl

/-- A slot whose every started copy has been waited for has landed. -/
theorem Flying_landed (n : ℕ) : Flying e n (cnt e.L n) (cnt e.L n) ⊢ iprop(|={Set.univ}=> Landed e n : sProp 𝕄) := by
  unfold Flying Landed
  iintro ⟨H1, H2, H3, H4, H5, H6⟩
  imod (Transfers.batch_collect' EC (c : Thread nD τ) NK_pos) $$ H1 with ⟨D1, H1⟩
  imod (Transfers.batch_collect' EC (c : Thread nD τ) NR_pos) $$ H2 with ⟨D2, H2⟩
  imodintro
  isplitl [H1]; · iexact H1
  isplitl [H2]; · iexact H2
  ihave D1' := (bigSep_pages (cnt e.L n) (cnt_le e.L n) (DK e n)) $$ D1
  ihave D2' := (bigSep_pages (cnt e.L n) (cnt_le e.L n) (DR e n)) $$ D2
  icases D1' with ⟨A0, A1, A2, A3⟩
  icases D2' with ⟨B0, B1, B2, B3⟩
  have key : ∀ (p : Fin 4), iprop((if p.val < cnt e.L n then DK e n p.val p.isLt else BI.emp) ∗ (if p.val < cnt e.L n then DR e n p.val p.isLt else BI.emp)
      ∗ PgAt e n (cnt e.L n) p) ⊢ Pg e (p.val < cnt e.L n) (slot n) p (e.pg n p) := by
    intro p
    refine BIBase.Entails.trans ?_ (Del_join e n (cnt e.L n) p)
    unfold Del
    by_cases h : p.val < cnt e.L n
    · simp only [if_pos h]
      iintro ⟨H1, H2, H3⟩
      isplitl [H1 H2]
      · isplitl [H1] <;> iassumption
      iexact H3
    · simp only [if_neg h]
      iintro ⟨-, -, H3⟩
      isplitr; · iempintro
      iexact H3
  isplitl [A0 B0 H3]
  · iapply (key 0); isplitl [A0]; · iexact A0
    isplitl [B0]; · iexact B0
    iexact H3
  isplitl [A1 B1 H4]
  · iapply (key 1); isplitl [A1]; · iexact A1
    isplitl [B1]; · iexact B1
    iexact H4
  isplitl [A2 B2 H5]
  · iapply (key 2); isplitl [A2]; · iexact A2
    isplitl [B2]; · iexact B2
    iexact H5
  · iapply (key 3); isplitl [A3]; · iexact A3
    isplitl [B3]; · iexact B3
    iexact H6

end Cert.KernelIdeal.Hand

end
-- ==== Proof.KI.Sites.lean ====
/-
  One page's two copies, started and waited for: what the program piece does to the slot's resources.
-/
module

public import proofs.«01_k».proof.Proof.KI.Res

@[expose] public section

set_option maxRecDepth 16384

noncomputable section

namespace Cert.KernelIdeal.Hand

open Cert.KernelIdeal Cert.KernelIdeal.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable {c : Dev nD} (e : Env F c) (bd : Option Variants.nat.V)

/-- Core `c` owes nothing. -/
def Ow (c : Dev nD) : sProp 𝕄 := iprop(∃ W, owes (c : Thread nD τ) 0 W)

/-- The weakest precondition of a program on core `c`. -/

theorem PgAt_ne (n j : ℕ) (p : Fin 4) (h : p.val ≠ j) : PgAt e n (j + 1) p = PgAt e n j p := by
  unfold PgAt
  by_cases hj : p.val < j
  · rw [if_pos hj, if_pos (by omega)]
  · rw [if_neg hj, if_neg (by omega)]

theorem PgAt_self (n : ℕ) (p : Fin 4) : PgAt e n p.val p = PgFree e (slot n) p := by
  unfold PgAt; rw [if_neg (lt_irrefl _)]
theorem PgAt_next (n : ℕ) (p : Fin 4) : PgAt e n (p.val + 1) p = PgRest e n p := by
  unfold PgAt; rw [if_pos (Nat.lt_succ_self _)]

/-- Of the four pages, the next one to start comes out free and goes back with its copies in flight. -/
theorem pages_next (n : ℕ) (p : Fin 4) :
    iprop(PgAt e n p.val 0 ∗ PgAt e n p.val 1 ∗ PgAt e n p.val 2 ∗ PgAt e n p.val 3)
      ⊢ iprop(PgFree e (slot n) p ∗ (PgRest e n p -∗
          iprop(PgAt e n (p.val + 1) 0 ∗ PgAt e n (p.val + 1) 1 ∗ PgAt e n (p.val + 1) 2 ∗ PgAt e n (p.val + 1) 3))) := by
  rw [← PgAt_self e n p, ← PgAt_next e n p]
  obtain rfl | rfl | rfl | rfl : p = 0 ∨ p = 1 ∨ p = 2 ∨ p = 3 := by omega
  · rw [PgAt_ne e n (0 : Fin 4).val 1 (by decide), PgAt_ne e n (0 : Fin 4).val 2 (by decide), PgAt_ne e n (0 : Fin 4).val 3 (by decide)]
    iintro ⟨H0, H1, H2, H3⟩
    isplitl [H0]; · iexact H0
    iintro H0
    isplitl [H0]; · iexact H0
    isplitl [H1]; · iexact H1
    isplitl [H2]; · iexact H2
    iexact H3
  · rw [PgAt_ne e n (1 : Fin 4).val 0 (by decide), PgAt_ne e n (1 : Fin 4).val 2 (by decide), PgAt_ne e n (1 : Fin 4).val 3 (by decide)]
    iintro ⟨H0, H1, H2, H3⟩
    isplitl [H1]; · iexact H1
    iintro H1
    isplitl [H0]; · iexact H0
    isplitl [H1]; · iexact H1
    isplitl [H2]; · iexact H2
    iexact H3
  · rw [PgAt_ne e n (2 : Fin 4).val 0 (by decide), PgAt_ne e n (2 : Fin 4).val 1 (by decide), PgAt_ne e n (2 : Fin 4).val 3 (by decide)]
    iintro ⟨H0, H1, H2, H3⟩
    isplitl [H2]; · iexact H2
    iintro H2
    isplitl [H0]; · iexact H0
    isplitl [H1]; · iexact H1
    isplitl [H2]; · iexact H2
    iexact H3
  · rw [PgAt_ne e n (3 : Fin 4).val 0 (by decide), PgAt_ne e n (3 : Fin 4).val 1 (by decide), PgAt_ne e n (3 : Fin 4).val 2 (by decide)]
    iintro ⟨H0, H1, H2, H3⟩
    isplitl [H3]; · iexact H3
    iintro H3
    isplitl [H0]; · iexact H0
    isplitl [H1]; · iexact H1
    isplitl [H2]; · iexact H2
    iexact H3

section
variable (harg5 : (Memref.whole main_arg2).IsWhole) (harg7 : (Memref.whole main_arg4).IsWhole)
  (harg15 : (Memref.whole cc0_scratch3).IsWhole) (harg16 : (Memref.whole cc0_scratch4).IsWhole)

/-- Starting the copies of the next page of the `n`th chunk, at any spelling of the offsets. -/
theorem issue_core {Q : PUnit → sProp 𝕄} (n : ℕ) (p : Fin 4) (hp : p.val < cnt e.L n) {oS : Fin 1 → ℕ} {oD oP : Fin 3 → ℕ}
    (eS : oS = ![(slot n).val]) (eD : oD = ![(slot n).val, 64 * p.val, 0]) (eP : oP = ![(e.pg n p.val).val, 0, 0]) (h : PageOk oS oD oP) :
    Flying e n p.val 0
      ⊢ iprop((Flying e n (p.val + 1) 0 -∗ Q ⟨⟩)
          -∗ wp frame (wpE (defs₀ (F := F)) Variants.nat (c : Thread nD τ) bd) Set.univ (issueTwo (F := F) cc0_scratch9 (Memref.whole cc0_scratch3) harg15 (Memref.whole main_arg2) harg5 cc0_scratch10
              (Memref.whole cc0_scratch4) harg16 (Memref.whole main_arg4) harg7 oS oD oP h) Q) := by
  obtain ⟨h1, h2, h3, h4, h5, h6, h7, h8, h9⟩ := h
  unfold issueTwo
  dsimp only
  subst eS eD eP
  unfold Flying
  iintro ⟨HK, HR, HP⟩ Hk
  ihave HP := (pages_next e n p) $$ HP
  icases HP with ⟨HF, Hback⟩
  unfold PgFree Pg
  icases HF with ⟨⟨%f, -, Hd⟩, ⟨%f', -, Hd'⟩, Hs, Hs'⟩
  ihave Hs := (pointsTo_split_subset (Finset.subset_univ (kvS (e.pg n p.val)).view.set)).1 $$ Hs
  icases Hs with ⟨Hs, Hr⟩
  ihave Hs' := (pointsTo_split_subset (Finset.subset_univ (rpS (e.pg n p.val)).view.set)).1 $$ Hs'
  icases Hs' with ⟨Hs', Hr'⟩
  iapply (Transfers.wp_dmaBatch EC Variants.nat (c : Thread nD τ) bd (D := fun t : Fin (cnt e.L n) => DK e n t.val (t.isLt.trans_le (cnt_le e.L n)))
    (src := kvS (e.pg n p.val)) (via := .same) (dst := kvD (slot n) p) (sm := .dma (kvC (slot n))) (fs := e.PK) (fd := f) (q := tk (slot n) p) (u := NK * 0)
    () NK rfl (Finset.Subset.refl _) hp (by rw [Nat.mul_zero]; exact Nat.zero_le _) ?_) $$ [Hs Hd HK]
  · show _ ⊢ DK e n p.val p.isLt
    unfold DK
    iintro ⟨H1, H2⟩
    isplitl [H1]
    · iexists (kvD (slot n) p).view.write (Elt F) f ((kvS (e.pg n p.val)).view.read (Elt F) e.PK) Finset.univ
      isplitr
      · ipureintro; exact View.read_write_univ _ _
      iexact H1
    iexact H2
  · isplitl [Hs]; · iexact Hs
    isplitl [Hd]; · iexact Hd
    iexact HK
  iintro HK
  iapply (Transfers.wp_dmaBatch EC Variants.nat (c : Thread nD τ) bd (D := fun t : Fin (cnt e.L n) => DR e n t.val (t.isLt.trans_le (cnt_le e.L n)))
    (src := rpS (e.pg n p.val)) (via := .same) (dst := rpD (slot n) p) (sm := .dma (rpC (slot n))) (fs := e.PR) (fd := f') (q := tk (slot n) p) (u := NR * 0)
    () NR rfl (Finset.Subset.refl _) hp (by rw [Nat.mul_zero]; exact Nat.zero_le _) ?_) $$ [Hs' Hd' HR]
  · show _ ⊢ DR e n p.val p.isLt
    unfold DR
    iintro ⟨H1, H2⟩
    isplitl [H1]
    · iexists (rpD (slot n) p).view.write (Elt F) f' ((rpS (e.pg n p.val)).view.read (Elt F) e.PR) Finset.univ
      isplitr
      · ipureintro; exact View.read_write_univ _ _
      iexact H1
    iexact H2
  · isplitl [Hs']; · iexact Hs'
    isplitl [Hd']; · iexact Hd'
    iexact HR
  iintro HR
  rw [show ((Prog.ret PUnit.unit).bind fun _ => Pure.pure PUnit.unit : Prog (TpuEff nD τ sig (Elt F) (Λ₀ F) .tc) PUnit) = Prog.ret ⟨⟩ from rfl, wp_ret]
  imodintro
  iapply Hk
  isplitl [HK]; · iexact HK
  isplitl [HR]; · iexact HR
  iapply Hback
  unfold PgRest
  isplitl [Hr] <;> iassumption

/-- Waiting for the copies of the next page of the `n`th chunk, all of whose copies have been started. -/
theorem wait_core {Q : PUnit → sProp 𝕄} (n : ℕ) (p : Fin 4) (hp : p.val < cnt e.L n) {oS : Fin 1 → ℕ} {oD oP : Fin 3 → ℕ}
    (eS : oS = ![(slot n).val]) (eD : oD = ![(slot n).val, 64 * p.val, 0]) (eP : oP = ![(e.pg n p.val).val, 0, 0]) (h : PageOk oS oD oP) :
    iprop(Flying e n (cnt e.L n) p.val ∗ Ow c)
      ⊢ iprop((iprop(Flying e n (cnt e.L n) (p.val + 1) ∗ Ow c) -∗ Q ⟨⟩)
          -∗ wp frame (wpE (defs₀ (F := F)) Variants.nat (c : Thread nD τ) bd) Set.univ (waitTwo (F := F) cc0_scratch9 (Memref.whole cc0_scratch3) harg15 (Memref.whole main_arg2) harg5 cc0_scratch10
              (Memref.whole cc0_scratch4) harg16 (Memref.whole main_arg4) harg7 oS oD oP h) Q) := by
  obtain ⟨h1, h2, h3, h4, h5, h6, h7, h8, h9⟩ := h
  unfold waitTwo
  dsimp only
  subst eS eD eP
  unfold Flying Ow
  iintro ⟨⟨HK, HR, HP⟩, ⟨%W, HO⟩⟩ Hk
  iapply (Transfers.wp_waitBatchMul EC Variants.nat (c : Thread nD τ) bd (D := fun t : Fin (cnt e.L n) => DK e n t.val (t.isLt.trans_le (cnt_le e.L n)))
    (srcw := kvS (e.pg n p.val)) (dstw := kvD (slot n) p) (sem := kvC (slot n)) (j := cnt e.L n) (u := NK * p.val) () (N := NK) 1 ((Nat.one_mul _).symm)
    (by rw [Nat.one_mul, ← Nat.mul_succ]; exact Nat.mul_le_mul_left _ hp)) $$ [HK HO]
  · isplitl [HK]; · iexact HK
    iexact HO
  iintro ⟨HK, HO⟩
  iapply (Transfers.wp_waitBatchMul EC Variants.nat (c : Thread nD τ) bd (D := fun t : Fin (cnt e.L n) => DR e n t.val (t.isLt.trans_le (cnt_le e.L n)))
    (srcw := rpS (e.pg n p.val)) (dstw := rpD (slot n) p) (sem := rpC (slot n)) (j := cnt e.L n) (u := NR * p.val) () (N := NR) 1 ((Nat.one_mul _).symm)
    (by rw [Nat.one_mul, ← Nat.mul_succ]; exact Nat.mul_le_mul_left _ hp)) $$ [HR HO]
  · isplitl [HR]; · iexact HR
    iexact HO
  iintro ⟨HR, HO⟩
  rw [show ((Prog.ret PUnit.unit).bind fun _ => Pure.pure PUnit.unit : Prog (TpuEff nD τ sig (Elt F) (Λ₀ F) .tc) PUnit) = Prog.ret ⟨⟩ from rfl, wp_ret]
  imodintro
  iapply Hk
  rw [Nat.one_mul, Nat.one_mul, ← Nat.mul_succ, ← Nat.mul_succ]
  isplitr [HO]
  · isplitl [HK]; · iexact HK
    isplitl [HR]; · iexact HR
    iexact HP
  · iexists _; iexact HO

section
variable (arg1 : Mref .smem S64 .i32) (harg1 : arg1.IsWhole) (arg0 : Mref .smem S64x32 .i32) (harg0 : arg0.IsWhole)
  (fL : Buf (Elt F) (arg1.view.loc (c : Thread nD τ))) (fT : Buf (Elt F) (arg0.view.loc (c : Thread nD τ)))

/-- A word read from scalar memory, held whole. -/
theorem wp_smem {sh : Shape} {et : EltTy} (m : Mref .smem sh et) (r : Rect sh) (h1 : r.shape.numel = 1) (hp : et.packing = 1)
    (f : Buf (Elt F) (m.view.loc (c : Thread nD τ))) {α : Type} (k : Elt F et → Prog (TpuEff nD τ sig (Elt F) (Λ₀ F) .tc) α) {Q : α → sProp 𝕄}
    (v : Elt F et) (hv : ∀ x, (m.access r).read (Elt F) f x = v) :
    (m.view.loc (c : Thread nD τ) ↦[Finset.univ]{fullShare} f)
      ⊢ iprop(((m.view.loc (c : Thread nD τ) ↦[Finset.univ]{fullShare} f) -∗ wp frame (wpE (defs₀ (F := F)) Variants.nat (c : Thread nD τ) bd) Set.univ (k v) Q) -∗ wp frame (wpE (defs₀ (F := F)) Variants.nat (c : Thread nD τ) bd) Set.univ (smemLoad m r h1 hp >>= k) Q) := by
  rw [← hv (Shape.Idx.first (h1.symm ▸ Nat.one_pos))]
  exact wp_smemLoadElt Variants.nat (c : Thread nD τ) bd Set.univ (m := m) (r := r) (hw := View.loads_smem_one hp h1) (k := k) (Finset.subset_univ _)

/-- An assumed side condition that holds. -/
theorem wp_assumed {P : Prop} (d : Decidable P) (h : P) {α : Type} (k : PLift P → Prog (TpuEff nD τ sig (Elt F) (Λ₀ F) .tc) α) {Q : α → sProp 𝕄} :
    wp frame (wpE (defs₀ (F := F)) Variants.nat (c : Thread nD τ) bd) Set.univ (k ⟨h⟩) Q ⊢ wp frame (wpE (defs₀ (F := F)) Variants.nat (c : Thread nD τ) bd) Set.univ (Prog.lift (TpuEff.assume P d) >>= k) Q :=
  wp_assume Variants.nat (c : Thread nD τ) bd Set.univ h

/-- One page's site: whatever `two` does to `R` when its condition holds, the site does, and where the condition fails `R` is already as wanted. -/
theorem site_wp (two : (oS : Fin 1 → ℕ) → (oD oP : Fin 3 → ℕ) → PageOk oS oD oP → Prog (TpuEff nD τ sig (Elt F) (Λ₀ F) .tc) PUnit)
    (it b k : BitVec 32) (p : ℕ) (inbL : ∀ a, lOff b a + S1.size a ≤ S64.size a)
    (A : BitVec 32 → Prop) (dA : ∀ v, Decidable (A v))
    (inbT : ∀ v, A v → pcond it k p v = 1#1 → ∀ a, tOff b k p a + S1x1.size a ≤ S64x32.size a)
    (B : BitVec 32 → BitVec 32 → Prop) (dB : ∀ v w, Decidable (B v w))
    (ok : ∀ v w, A v → B v w → pcond it k p v = 1#1 → PageOk ![(Scalar.remsi it 32#32).toNat] (dOff (Scalar.remsi it 32#32) p) (pOff w))
    {α : Type} (K : PUnit → Prog (TpuEff nD τ sig (Elt F) (Λ₀ F) .tc) α) {Q : α → sProp 𝕄} {R R' : sProp 𝕄} (v w : BitVec 32)
    (hL : ∀ x, (arg1.access (Rect.unit (s := S64) (lOff b) S1.size inbL)).read (Elt F) fL x = v)
    (hT : ∀ i x, (arg0.access (Rect.unit (s := S64x32) (tOff b k p) S1x1.size i)).read (Elt F) fT x = w)
    (hA : A v) (hB : pcond it k p v = 1#1 → B v w)
    (hyes : pcond it k p v = 1#1 → ∀ o (Q' : PUnit → sProp 𝕄), R ⊢ iprop((R' -∗ Q' ⟨⟩) -∗ wp frame (wpE (defs₀ (F := F)) Variants.nat (c : Thread nD τ) bd) Set.univ (two ![(Scalar.remsi it 32#32).toNat] (dOff (Scalar.remsi it 32#32) p) (pOff w) o) Q'))
    (hno : ¬ pcond it k p v = 1#1 → R ⊢ R') :
    iprop((arg1.view.loc (c : Thread nD τ) ↦[Finset.univ]{fullShare} fL) ∗ (arg0.view.loc (c : Thread nD τ) ↦[Finset.univ]{fullShare} fT) ∗ R)
      ⊢ iprop((iprop((arg1.view.loc (c : Thread nD τ) ↦[Finset.univ]{fullShare} fL) ∗ (arg0.view.loc (c : Thread nD τ) ↦[Finset.univ]{fullShare} fT) ∗ R') -∗ wp frame (wpE (defs₀ (F := F)) Variants.nat (c : Thread nD τ) bd) Set.univ (K ⟨⟩) Q)
          -∗ wp frame (wpE (defs₀ (F := F)) Variants.nat (c : Thread nD τ) bd) Set.univ (pageSite (F := F) arg1 arg0 two it b k p inbL A dA inbT B dB ok K) Q) := by
  unfold pageSite
  iintro ⟨H1, H0, HR⟩ Hk
  iapply (wp_smem bd arg1 _ _ _ fL _ v hL) $$ H1
  iintro H1
  iapply (wp_assumed bd _ hA _)
  by_cases h : pcond it k p v = 1#1
  · rw [dif_pos h]
    iapply (wp_smem bd arg0 _ _ _ fT _ w (hT _)) $$ H0
    iintro H0
    iapply (wp_assumed bd _ (hB h) _)
    rw [wp_bind]
    iapply (hyes h _ _) $$ HR
    iintro HR
    iapply Hk
    isplitl [H1]; · iexact H1
    isplitl [H0]; · iexact H0
    iexact HR
  · rw [dif_neg h]
    iapply Hk
    isplitl [H1]; · iexact H1
    isplitl [H0]; · iexact H0
    iapply (hno h) $$ HR
end

end

end Cert.KernelIdeal.Hand

end
-- ==== Proof.KI.Pages4.lean ====
/-
  A page site's side conditions, and what a site does to the slot's resources.
-/
module

public import proofs.«01_k».proof.Proof.KI.Sites

@[expose] public section

set_option maxRecDepth 16384

noncomputable section

namespace Cert.KernelIdeal.Hand

open Cert.KernelIdeal Cert.KernelIdeal.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable {c : Dev nD} (e : Env F c) (bd : Option Variants.nat.V)

/-! ## Side conditions -/

theorem W_idx {n : ℕ} (h : n < 2 ^ 31) : (Scalar.indexCast (W n)).toNat = n := by
  unfold Scalar.indexCast
  exact W_toNat (by omega)

theorem lOff_inb {b : BitVec 32} {m : ℕ} (hb : b = W m) (h : m < 64) : ∀ a, lOff b a + S1.size a ≤ S64.size a := by
  subst hb
  intro a; fin_cases a
  show (Scalar.indexCast (W m)).toNat + 1 ≤ 64
  rw [W_idx (by omega)]; omega

/-- The word of page `p` of chunk `k`. -/
theorem W_page {k p : ℕ} : Scalar.addi (Scalar.muli (W k) 4#32) (BitVec.ofNat 32 p) = W (k * 4 + p) := by
  rw [show (4#32 : BitVec 32) = W 4 from rfl, show BitVec.ofNat 32 p = W p from rfl, W_mul, W_add]

theorem tOff_inb {b k : BitVec 32} {m j : ℕ} (hb : b = W m) (hk : k = W j) (h : m < 64) (hj : j ≤ 7) (p : ℕ) (hp : p < 4) :
    ∀ a, tOff b k p a + S1x1.size a ≤ S64x32.size a := by
  subst hb hk
  intro a; fin_cases a
  · show (Scalar.indexCast (W m)).toNat + 1 ≤ 64
    rw [W_idx (by omega)]; omega
  · show (Scalar.indexCast (Scalar.addi (Scalar.muli (W j) 4#32) (BitVec.ofNat 32 p))).toNat + 1 ≤ 32
    rw [W_page, W_idx (by omega)]; omega

theorem sem_inb {it : BitVec 32} {n : ℕ} (h : it = W n) (hn : n < 2 ^ 20) : ∀ a, ![(Scalar.remsi it 32#32).toNat] a + S1.size a ≤ S32.size a := by
  subst h
  intro a; fin_cases a
  show (Scalar.remsi (W n) 32#32).toNat + 1 ≤ 32
  rw [slot_toNat (by omega)]; omega

theorem kD_inb {it : BitVec 32} {n : ℕ} (h : it = W n) (hn : n < 2 ^ 20) (p : ℕ) (hp : p < 4) :
    ∀ a, dOff (Scalar.remsi it 32#32) p a + S1x64x512.size a ≤ S32x256x512.size a := by
  subst h
  intro a; fin_cases a
  · show (Scalar.remsi (W n) 32#32).toNat + 1 ≤ 32
    rw [slot_toNat (by omega)]; omega
  · show 64 * p + 64 ≤ 256
    omega
  · show 0 + 512 ≤ 512
    omega
theorem rD_inb {it : BitVec 32} {n : ℕ} (h : it = W n) (hn : n < 2 ^ 20) (p : ℕ) (hp : p < 4) :
    ∀ a, dOff (Scalar.remsi it 32#32) p a + S1x64x64.size a ≤ S32x256x64.size a := by
  subst h
  intro a; fin_cases a
  · show (Scalar.remsi (W n) 32#32).toNat + 1 ≤ 32
    rw [slot_toNat (by omega)]; omega
  · show 64 * p + 64 ≤ 256
    omega
  · show 0 + 64 ≤ 64
    omega
theorem kD_words {s : BitVec 32} {p : ℕ} (i : ∀ a, dOff s p a + S1x64x512.size a ≤ S32x256x512.size a) :
    (Rect.unit (s := S32x256x512) (dOff s p) S1x64x512.size i).WholeWords (EltTy.packing .fp8e4m3) :=
  Or.inl (Or.inr ⟨Nat.le_succ 2, rfl, Or.inl ⟨show 4 ∣ 64 * p from ⟨16 * p, by omega⟩, show 4 ∣ 64 from ⟨16, rfl⟩⟩⟩)
theorem rD_words {s : BitVec 32} {p : ℕ} (i : ∀ a, dOff s p a + S1x64x64.size a ≤ S32x256x64.size a) :
    (Rect.unit (s := S32x256x64) (dOff s p) S1x64x64.size i).WholeWords (EltTy.packing .bf16) :=
  Or.inl (Or.inr ⟨Nat.le_succ 2, rfl, Or.inl ⟨show 2 ∣ 64 * p from ⟨32 * p, by omega⟩, show 2 ∣ 64 from ⟨32, rfl⟩⟩⟩)
theorem kS_inb {w : BitVec 32} (h : w.toNat < 2560) : ∀ a, pOff w a + S1x64x512.size a ≤ S2560x64x512.size a := by
  intro a; fin_cases a
  · show w.toNat + 1 ≤ 2560
    omega
  · show 0 + 64 ≤ 64
    omega
  · show 0 + 512 ≤ 512
    omega
theorem rS_inb {w : BitVec 32} (h : w.toNat < 2560) : ∀ a, pOff w a + S1x64x64.size a ≤ S2560x64x64.size a := by
  intro a; fin_cases a
  · show w.toNat + 1 ≤ 2560
    omega
  · show 0 + 64 ≤ 64
    omega
  · show 0 + 64 ≤ 64
    omega
theorem kS_words {w : BitVec 32} (i : ∀ a, pOff w a + S1x64x512.size a ≤ S2560x64x512.size a) :
    (Rect.unit (s := S2560x64x512) (pOff w) S1x64x512.size i).WholeWords (EltTy.packing .fp8e4m3) :=
  Or.inl (Or.inr ⟨Nat.le_succ 2, rfl, Or.inl ⟨show 4 ∣ 0 from ⟨0, rfl⟩, show 4 ∣ 64 from ⟨16, rfl⟩⟩⟩)
theorem rS_words {w : BitVec 32} (i : ∀ a, pOff w a + S1x64x64.size a ≤ S2560x64x64.size a) :
    (Rect.unit (s := S2560x64x64) (pOff w) S1x64x64.size i).WholeWords (EltTy.packing .bf16) :=
  Or.inl (Or.inr ⟨Nat.le_succ 2, rfl, Or.inl ⟨show 2 ∣ 0 from ⟨0, rfl⟩, show 2 ∣ 64 from ⟨32, rfl⟩⟩⟩)

/-! ## The sites -/

/-- What the scalar memories say: the lengths and the page table, each in range. -/
structure Env.Reads (arg1 : Mref .smem S64 .i32) (arg0 : Mref .smem S64x32 .i32)
    (fL : Buf (Elt F) (arg1.view.loc (c : Thread nD τ))) (fT : Buf (Elt F) (arg0.view.loc (c : Thread nD τ))) : Prop where
  hL : ∀ (b : BitVec 32) (m : ℕ) (_ : b = W m) (_ : m < 64) (i : ∀ a, lOff b a + S1.size a ≤ S64.size a) (x),
    (arg1.access (Rect.unit (s := S64) (lOff b) S1.size i)).read (Elt F) fL x = e.L m
  hT : ∀ (b k : BitVec 32) (m j p : ℕ) (_ : b = W m) (_ : k = W j) (_ : m < 64) (_ : j ≤ 7) (_ : p < 4) (i : ∀ a, tOff b k p a + S1x1.size a ≤ S64x32.size a) (x),
    (arg0.access (Rect.unit (s := S64x32) (tOff b k p) S1x1.size i)).read (Elt F) fT x = e.PT m (j * 4 + p)
  lens : ∀ m, m < 64 → (e.L m).toInt ≤ 2048
  pages : ∀ m j, m < 64 → j < 32 → (e.PT m j).toNat < 2560

section
variable {arg1 : Mref .smem S64 .i32} {arg0 : Mref .smem S64x32 .i32}
  {fL : Buf (Elt F) (arg1.view.loc (c : Thread nD τ))} {fT : Buf (Elt F) (arg0.view.loc (c : Thread nD τ))}
  (h : e.Reads arg1 arg0 fL fT)
  {harg5 : (Memref.whole main_arg2).IsWhole} {harg7 : (Memref.whole main_arg4).IsWhole} {harg15 : (Memref.whole cc0_scratch3).IsWhole} {harg16 : (Memref.whole cc0_scratch4).IsWhole}

/-- The scalar memories. -/
abbrev Sc (arg1 : Mref .smem S64 .i32) (arg0 : Mref .smem S64x32 .i32)
    (fL : Buf (Elt F) (arg1.view.loc (c : Thread nD τ))) (fT : Buf (Elt F) (arg0.view.loc (c : Thread nD τ))) (R : sProp 𝕄) : sProp 𝕄 :=
  iprop((arg1.view.loc (c : Thread nD τ) ↦[Finset.univ]{fullShare} fL) ∗ (arg0.view.loc (c : Thread nD τ) ↦[Finset.univ]{fullShare} fT) ∗ R)

include h in
/-- A site that starts page `p` of the `n`th chunk. -/
theorem issue_site (n : ℕ) (hn : n < 2 ^ 20) (hb : (sch e.L n).1 < 64) (p : ℕ) (hp : p < 4)
    {it b k : BitVec 32} (eit : it = W n) (eb : b = W (sch e.L n).1) (ek : k = W (sch e.L n).2) (inbL)
    {A : BitVec 32 → Prop} {dA : ∀ v, Decidable (A v)} {inbT} {B : BitVec 32 → BitVec 32 → Prop} {dB : ∀ v w, Decidable (B v w)} {ok}
    {α : Type} {K : PUnit → Prog (TpuEff nD τ sig (Elt F) (Λ₀ F) .tc) α} {Q : α → sProp 𝕄}
    (hA : ∀ v, A v) (hB : ∀ v w, w.toNat < 2560 → B v w) :
    Sc arg1 arg0 fL fT (Flying e n (min p (cnt e.L n)) 0)
      ⊢ iprop((Sc arg1 arg0 fL fT (Flying e n (min (p + 1) (cnt e.L n)) 0) -∗ wp frame (wpE (defs₀ (F := F)) Variants.nat (c : Thread nD τ) bd) Set.univ (K ⟨⟩) Q)
          -∗ wp frame (wpE (defs₀ (F := F)) Variants.nat (c : Thread nD τ) bd) Set.univ (pageSite (F := F) arg1 arg0 (issueTwo (F := F) cc0_scratch9 (Memref.whole cc0_scratch3) harg15 (Memref.whole main_arg2) harg5 cc0_scratch10
              (Memref.whole cc0_scratch4) harg16 (Memref.whole main_arg4) harg7) it b k p inbL A dA inbT B dB ok K) Q) := by
  have hc7 : (sch e.L n).2 ≤ 7 := sch_c7 h.lens n
  have hpg : (e.PT (sch e.L n).1 ((sch e.L n).2 * 4 + p)).toNat < 2560 := h.pages _ _ hb (by omega)
  have hc : pcond it k p (e.L (sch e.L n).1) = 1#1 ↔ p < cnt e.L n := by
    rw [eit, ek, pcond_iff hn hc7 hp, lt_cnt _ _ _ hp, Nat.min_eq_left (by omega)]
  refine site_wp bd arg1 arg0 fL fT _ it b k p inbL A dA inbT B dB ok K (e.L (sch e.L n).1) (e.PT (sch e.L n).1 ((sch e.L n).2 * 4 + p))
    (fun x => h.hL b _ eb hb inbL x) (fun i x => h.hT b k _ _ p eb ek hb hc7 hp i x) (hA _) (fun _ => hB _ _ hpg) ?_ ?_
  · intro hy o Q'
    have hlt := hc.mp hy
    rw [Nat.min_eq_left hlt.le, Nat.min_eq_left hlt]
    refine issue_core (e := e) (bd := bd) (harg5 := harg5) (harg7 := harg7) (harg15 := harg15) (harg16 := harg16) n ⟨p, hp⟩ hlt ?_ ?_ ?_ o
    · rw [eit, slot_toNat (by omega)]; rfl
    · unfold dOff; rw [eit, slot_toNat (by omega)]; rfl
    · unfold pOff Env.pg; simp only [Nat.mod_eq_of_lt hpg]
  · intro hy
    have hge : cnt e.L n ≤ p := Nat.le_of_not_lt fun hlt => hy (hc.mpr hlt)
    rw [Nat.min_eq_right hge, Nat.min_eq_right (by omega)]

include h in
/-- A site that waits for page `p` of the `n`th chunk. -/
theorem wait_site (n : ℕ) (hn : n < 2 ^ 20) (hb : (sch e.L n).1 < 64) (p : ℕ) (hp : p < 4)
    {it b k : BitVec 32} (eit : it = W n) (eb : b = W (sch e.L n).1) (ek : k = W (sch e.L n).2) (inbL)
    {A : BitVec 32 → Prop} {dA : ∀ v, Decidable (A v)} {inbT} {B : BitVec 32 → BitVec 32 → Prop} {dB : ∀ v w, Decidable (B v w)} {ok}
    {α : Type} {K : PUnit → Prog (TpuEff nD τ sig (Elt F) (Λ₀ F) .tc) α} {Q : α → sProp 𝕄}
    (hA : ∀ v, A v) (hB : ∀ v w, w.toNat < 2560 → B v w) :
    Sc arg1 arg0 fL fT iprop(Flying e n (cnt e.L n) (min p (cnt e.L n)) ∗ Ow c)
      ⊢ iprop((Sc arg1 arg0 fL fT iprop(Flying e n (cnt e.L n) (min (p + 1) (cnt e.L n)) ∗ Ow c) -∗ wp frame (wpE (defs₀ (F := F)) Variants.nat (c : Thread nD τ) bd) Set.univ (K ⟨⟩) Q)
          -∗ wp frame (wpE (defs₀ (F := F)) Variants.nat (c : Thread nD τ) bd) Set.univ (pageSite (F := F) arg1 arg0 (waitTwo (F := F) cc0_scratch9 (Memref.whole cc0_scratch3) harg15 (Memref.whole main_arg2) harg5 cc0_scratch10
              (Memref.whole cc0_scratch4) harg16 (Memref.whole main_arg4) harg7) it b k p inbL A dA inbT B dB ok K) Q) := by
  have hc7 : (sch e.L n).2 ≤ 7 := sch_c7 h.lens n
  have hpg : (e.PT (sch e.L n).1 ((sch e.L n).2 * 4 + p)).toNat < 2560 := h.pages _ _ hb (by omega)
  have hc : pcond it k p (e.L (sch e.L n).1) = 1#1 ↔ p < cnt e.L n := by
    rw [eit, ek, pcond_iff hn hc7 hp, lt_cnt _ _ _ hp, Nat.min_eq_left (by omega)]
  refine site_wp bd arg1 arg0 fL fT _ it b k p inbL A dA inbT B dB ok K (e.L (sch e.L n).1) (e.PT (sch e.L n).1 ((sch e.L n).2 * 4 + p))
    (fun x => h.hL b _ eb hb inbL x) (fun i x => h.hT b k _ _ p eb ek hb hc7 hp i x) (hA _) (fun _ => hB _ _ hpg) ?_ ?_
  · intro hy o Q'
    have hlt := hc.mp hy
    rw [Nat.min_eq_left hlt.le, Nat.min_eq_left hlt]
    refine wait_core (e := e) (bd := bd) (harg5 := harg5) (harg7 := harg7) (harg15 := harg15) (harg16 := harg16) n ⟨p, hp⟩ hlt ?_ ?_ ?_ o
    · rw [eit, slot_toNat (by omega)]; rfl
    · unfold dOff; rw [eit, slot_toNat (by omega)]; rfl
    · unfold pOff Env.pg; simp only [Nat.mod_eq_of_lt hpg]
  · intro hy
    have hge : cnt e.L n ≤ p := Nat.le_of_not_lt fun hlt => hy (hc.mpr hlt)
    rw [Nat.min_eq_right hge, Nat.min_eq_right (by omega)]

end

end Cert.KernelIdeal.Hand

end
-- ==== Proof.KI.Slot.lean ====
/-
  A landed slot, read as one buffer.
-/
module

public import proofs.«01_k».proof.Proof.KI.Pages4

@[expose] public section

set_option maxRecDepth 16384

noncomputable section

namespace Cert.KernelIdeal.Hand

open Cert.KernelIdeal Cert.KernelIdeal.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable {c : Dev nD}

/-- Four disjoint pieces of one buffer, each with a property of the piece alone, are one piece with all four properties. -/
theorem join4 {ℓ : Loc nD τ sig} (K : Fin 4 → Finset (Idx ℓ)) (P : Fin 4 → Buf (Elt F) ℓ → Prop)
    (hd : ∀ p q, p ≠ q → Disjoint (K p) (K q)) (hP : ∀ p f g, (∀ i ∈ K p, g i = f i) → P p f → P p g) :
    iprop((∃ f, ⌜P 0 f⌝ ∗ (ℓ ↦[K 0]{fullShare} f)) ∗ (∃ f, ⌜P 1 f⌝ ∗ (ℓ ↦[K 1]{fullShare} f))
        ∗ (∃ f, ⌜P 2 f⌝ ∗ (ℓ ↦[K 2]{fullShare} f)) ∗ (∃ f, ⌜P 3 f⌝ ∗ (ℓ ↦[K 3]{fullShare} f)))
      ⊢ (iprop(∃ g, ⌜∀ p, P p g⌝ ∗ (ℓ ↦[Finset.univ.biUnion K]{fullShare} g)) : sProp 𝕄) := by
  have key (f0 f1 f2 f3 : Buf (Elt F) ℓ) : (bigSep (Finset.univ : Finset (Fin 4)) (fun t => (ℓ ↦[K t]{fullShare} (![f0, f1, f2, f3] : Fin 4 → Buf (Elt F) ℓ) t : sProp 𝕄)))
      = iprop((ℓ ↦[K 0]{fullShare} f0) ∗ (ℓ ↦[K 1]{fullShare} f1) ∗ (ℓ ↦[K 2]{fullShare} f2) ∗ (ℓ ↦[K 3]{fullShare} f3)) := by
    rw [show (Finset.univ : Finset (Fin 4)) = {0, 1, 2, 3} by decide, bigSep_insert (by decide), bigSep_insert (by decide), bigSep_insert (by decide), bigSep_singleton]
    rfl
  iintro ⟨⟨%f0, %h0, H0⟩, ⟨%f1, %h1, H1⟩, ⟨%f2, %h2, H2⟩, ⟨%f3, %h3, H3⟩⟩
  ihave H := (pointsTo_biUnion_join (q := fullShare) (Finset.univ : Finset (Fin 4)) K ![f0, f1, f2, f3] f0 (fun t _ t' _ h => hd t t' h)) $$ [H0 H1 H2 H3]
  · rw [key f0 f1 f2 f3]
    isplitl [H0]; · iexact H0
    isplitl [H1]; · iexact H1
    isplitl [H2]; · iexact H2
    iexact H3
  icases H with ⟨%g, %hg, H⟩
  iexists g
  isplitr
  · ipureintro
    intro p
    have hp := hg p (Finset.mem_univ p)
    fin_cases p
    · exact hP 0 f0 g hp h0
    · exact hP 1 f1 g hp h1
    · exact hP 2 f2 g hp h2
    · exact hP 3 f3 g hp h3
  iexact H

/-- And back. -/
theorem split4 {ℓ : Loc nD τ sig} (K : Fin 4 → Finset (Idx ℓ)) (hd : ∀ p q, p ≠ q → Disjoint (K p) (K q)) (g : Buf (Elt F) ℓ) :
    (ℓ ↦[Finset.univ.biUnion K]{fullShare} g)
      ⊢ (iprop((ℓ ↦[K 0]{fullShare} g) ∗ (ℓ ↦[K 1]{fullShare} g) ∗ (ℓ ↦[K 2]{fullShare} g) ∗ (ℓ ↦[K 3]{fullShare} g)) : sProp 𝕄) := by
  rw [pointsTo_biUnion _ _ (fun t _ t' _ h => hd t t' h), show (Finset.univ : Finset (Fin 4)) = {0, 1, 2, 3} by decide,
    bigSep_insert (by decide), bigSep_insert (by decide), bigSep_insert (by decide), bigSep_singleton]
  exact .rfl

/-- A piece with a property under a condition that fails. -/
theorem forget1 {ℓ : Loc nD τ sig} (K : Finset (Idx ℓ)) (P : Buf (Elt F) ℓ → Prop) (g : Buf (Elt F) ℓ) :
    (ℓ ↦[K]{fullShare} g) ⊢ (iprop(∃ f, ⌜False → P f⌝ ∗ (ℓ ↦[K]{fullShare} f)) : sProp 𝕄) := by
  iintro H
  iexists g
  isplitr; · ipureintro; exact False.elim
  iexact H

theorem mem_kvD (s : Fin 32) (p : Fin 4) (i : S32x256x512.Idx) :
    i ∈ ((kvD s p).view.set : Finset S32x256x512.Idx) ↔ (i 0).val = s.val ∧ 64 * p.val ≤ (i 1).val ∧ (i 1).val < 64 * p.val + 64 := by
  rw [show ((kvD s p).view.set : Finset S32x256x512.Idx) = (Rect.unit (s := S32x256x512) ![s.val, 64 * p.val, 0] S1x64x512.size (kvInb s p)).set from
    (View.set_reshape _ _).trans (View.set_slice_whole _ _), Rect.mem_set_unit]
  have h2 : (i 2).val < 512 := (i 2).isLt
  constructor
  · intro h
    have h0 := h 0; have h1 := h 1
    change s.val ≤ (i 0).val ∧ (i 0).val < s.val + 1 at h0
    change 64 * p.val ≤ (i 1).val ∧ (i 1).val < 64 * p.val + 64 at h1
    omega
  · rintro ⟨h0, h1⟩ a
    fin_cases a
    · change s.val ≤ (i 0).val ∧ (i 0).val < s.val + 1
      omega
    · exact h1
    · change 0 ≤ (i 2).val ∧ (i 2).val < 0 + 512
      omega

theorem mem_rpD (s : Fin 32) (p : Fin 4) (i : S32x256x64.Idx) :
    i ∈ ((rpD s p).view.set : Finset S32x256x64.Idx) ↔ (i 0).val = s.val ∧ 64 * p.val ≤ (i 1).val ∧ (i 1).val < 64 * p.val + 64 := by
  rw [show ((rpD s p).view.set : Finset S32x256x64.Idx) = (Rect.unit (s := S32x256x64) ![s.val, 64 * p.val, 0] S1x64x64.size (rpInb s p)).set from
    (View.set_reshape _ _).trans (View.set_slice_whole _ _), Rect.mem_set_unit]
  have h2 : (i 2).val < 64 := (i 2).isLt
  constructor
  · intro h
    have h0 := h 0; have h1 := h 1
    change s.val ≤ (i 0).val ∧ (i 0).val < s.val + 1 at h0
    change 64 * p.val ≤ (i 1).val ∧ (i 1).val < 64 * p.val + 64 at h1
    omega
  · rintro ⟨h0, h1⟩ a
    fin_cases a
    · change s.val ≤ (i 0).val ∧ (i 0).val < s.val + 1
      omega
    · exact h1
    · change 0 ≤ (i 2).val ∧ (i 2).val < 0 + 64
      omega

variable (e : Env F c)

/-- Slot `s` of the key/value ring, all four pages. -/
def kvSlot (s : Fin 32) : Finset S32x256x512.Idx := Finset.univ.biUnion fun p : Fin 4 => ((kvD s p).view.set : Finset S32x256x512.Idx)
def rpSlot (s : Fin 32) : Finset S32x256x64.Idx := Finset.univ.biUnion fun p : Fin 4 => ((rpD s p).view.set : Finset S32x256x64.Idx)

theorem mem_kvSlot (s : Fin 32) (i : S32x256x512.Idx) (h : (i 0).val = s.val) : i ∈ kvSlot s := by
  have h1 : (i 1).val < 256 := (i 1).isLt
  have hp : (i 1).val / 64 < 4 := by omega
  refine Finset.mem_biUnion.mpr ⟨⟨(i 1).val / 64, hp⟩, Finset.mem_univ _, (mem_kvD s ⟨(i 1).val / 64, hp⟩ i).mpr ⟨h, ?_, ?_⟩⟩
  · show 64 * ((i 1).val / 64) ≤ (i 1).val
    omega
  · show (i 1).val < 64 * ((i 1).val / 64) + 64
    omega
theorem mem_rpSlot (s : Fin 32) (i : S32x256x64.Idx) (h : (i 0).val = s.val) : i ∈ rpSlot s := by
  have h1 : (i 1).val < 256 := (i 1).isLt
  have hp : (i 1).val / 64 < 4 := by omega
  refine Finset.mem_biUnion.mpr ⟨⟨(i 1).val / 64, hp⟩, Finset.mem_univ _, (mem_rpD s ⟨(i 1).val / 64, hp⟩ i).mpr ⟨h, ?_, ?_⟩⟩
  · show 64 * ((i 1).val / 64) ≤ (i 1).val
    omega
  · show (i 1).val < 64 * ((i 1).val / 64) + 64
    omega

theorem kvD_disj (s : Fin 32) (p q : Fin 4) (h : p ≠ q) : Disjoint ((kvD s p).view.set : Finset S32x256x512.Idx) ((kvD s q).view.set : Finset S32x256x512.Idx) := by
  rw [Finset.disjoint_left]
  intro i hi hj
  have h1 := (mem_kvD s p i).mp hi
  have h2 := (mem_kvD s q i).mp hj
  exact h (Fin.ext (by omega))
theorem rpD_disj (s : Fin 32) (p q : Fin 4) (h : p ≠ q) : Disjoint ((rpD s p).view.set : Finset S32x256x64.Idx) ((rpD s q).view.set : Finset S32x256x64.Idx) := by
  rw [Finset.disjoint_left]
  intro i hi hj
  have h1 := (mem_rpD s p i).mp hi
  have h2 := (mem_rpD s q i).mp hj
  exact h (Fin.ext (by omega))

theorem AgK_congr {s : Fin 32} {p : Fin 4} {g : Fin 2560} {f f' : Buf (Elt F) ((kvD s p).view.loc (c : Thread nD τ))}
    (h : ∀ i ∈ (kvD s p).view.set, f' i = f i) (hf : AgK e s p g f) : AgK e s p g f' := by
  unfold AgK at hf ⊢
  rw [← hf]
  exact View.read_congr h
theorem AgR_congr {s : Fin 32} {p : Fin 4} {g : Fin 2560} {f f' : Buf (Elt F) ((rpD s p).view.loc (c : Thread nD τ))}
    (h : ∀ i ∈ (rpD s p).view.set, f' i = f i) (hf : AgR e s p g f) : AgR e s p g f' := by
  unfold AgR at hf ⊢
  rw [← hf]
  exact View.read_congr h

/-- A landed slot is one piece of each ring whose needed pages hold their pool pages; given back, it is free. -/
theorem Landed_open (n : ℕ) :
    Landed e n ⊢ iprop(∃ (fK : Buf (Elt F) ((Memref.whole cc0_scratch3).view.loc (c : Thread nD τ))) (fR : Buf (Elt F) ((Memref.whole cc0_scratch4).view.loc (c : Thread nD τ))),
      ⌜∀ p : Fin 4, p.val < cnt e.L n → AgK e (slot n) p (e.pg n p.val) fK ∧ AgR e (slot n) p (e.pg n p.val) fR⌝
      ∗ ((Memref.whole cc0_scratch3).view.loc (c : Thread nD τ) ↦[kvSlot (slot n)]{fullShare} fK)
      ∗ ((Memref.whole cc0_scratch4).view.loc (c : Thread nD τ) ↦[rpSlot (slot n)]{fullShare} fR)
      ∗ (((Memref.whole cc0_scratch3).view.loc (c : Thread nD τ) ↦[kvSlot (slot n)]{fullShare} fK)
        -∗ ((Memref.whole cc0_scratch4).view.loc (c : Thread nD τ) ↦[rpSlot (slot n)]{fullShare} fR) -∗ Free e (slot n))) := by
  unfold Landed Free PgFree Pg
  iintro ⟨Hs, Hs', ⟨K0, R0, A0, B0⟩, ⟨K1, R1, A1, B1⟩, ⟨K2, R2, A2, B2⟩, ⟨K3, R3, A3, B3⟩⟩
  ihave HK := (join4 (F := F) (ℓ := (Memref.whole cc0_scratch3).view.loc (c : Thread nD τ)) (fun p => ((kvD (slot n) p).view.set : Finset S32x256x512.Idx))
    (fun p f => p.val < cnt e.L n → AgK e (slot n) p (e.pg n p.val) f) (kvD_disj _) (fun p f g h hf hp => AgK_congr e h (hf hp))) $$ [K0 K1 K2 K3]
  · isplitl [K0]; · iexact K0
    isplitl [K1]; · iexact K1
    isplitl [K2]; · iexact K2
    iexact K3
  ihave HR := (join4 (F := F) (ℓ := (Memref.whole cc0_scratch4).view.loc (c : Thread nD τ)) (fun p => ((rpD (slot n) p).view.set : Finset S32x256x64.Idx))
    (fun p f => p.val < cnt e.L n → AgR e (slot n) p (e.pg n p.val) f) (rpD_disj _) (fun p f g h hf hp => AgR_congr e h (hf hp))) $$ [R0 R1 R2 R3]
  · isplitl [R0]; · iexact R0
    isplitl [R1]; · iexact R1
    isplitl [R2]; · iexact R2
    iexact R3
  icases HK with ⟨%fK, %hK, HK⟩
  icases HR with ⟨%fR, %hR, HR⟩
  iexists fK, fR
  isplitr; · ipureintro; exact fun p hp => ⟨hK p hp, hR p hp⟩
  isplitl [HK]; · iexact HK
  isplitl [HR]; · iexact HR
  iintro HK HR
  ihave HK := (split4 (F := F) (ℓ := (Memref.whole cc0_scratch3).view.loc (c : Thread nD τ)) (fun p => ((kvD (slot n) p).view.set : Finset S32x256x512.Idx)) (kvD_disj _) fK) $$ [HK]
  · iexact HK
  ihave HR := (split4 (F := F) (ℓ := (Memref.whole cc0_scratch4).view.loc (c : Thread nD τ)) (fun p => ((rpD (slot n) p).view.set : Finset S32x256x64.Idx)) (rpD_disj _) fR) $$ [HR]
  · iexact HR
  icases HK with ⟨K0, K1, K2, K3⟩
  icases HR with ⟨R0, R1, R2, R3⟩
  isplitl [Hs]; · iexact Hs
  isplitl [Hs']; · iexact Hs'
  isplitl [K0 R0 A0 B0]
  · isplitl [K0]; · iapply (forget1 (F := F) _ _ _) $$ K0
    isplitl [R0]; · iapply (forget1 (F := F) _ _ _) $$ R0
    isplitl [A0]; · iexact A0
    iexact B0
  isplitl [K1 R1 A1 B1]
  · isplitl [K1]; · iapply (forget1 (F := F) _ _ _) $$ K1
    isplitl [R1]; · iapply (forget1 (F := F) _ _ _) $$ R1
    isplitl [A1]; · iexact A1
    iexact B1
  isplitl [K2 R2 A2 B2]
  · isplitl [K2]; · iapply (forget1 (F := F) _ _ _) $$ K2
    isplitl [R2]; · iapply (forget1 (F := F) _ _ _) $$ R2
    isplitl [A2]; · iexact A2
    iexact B2
  isplitl [K3]; · iapply (forget1 (F := F) _ _ _) $$ K3
  isplitl [R3]; · iapply (forget1 (F := F) _ _ _) $$ R3
  isplitl [A3]; · iexact A3
  iexact B3

end Cert.KernelIdeal.Hand

end
-- ==== Proof.KI.Step.lean ====
/-
  Loads and stores on what a memref holds, and what one chunk does to the running state.
-/
module

public import proofs.«01_k».proof.Proof.KI.Slot
public import Idealize.ShloMosaic.Lib.VecWindow

@[expose] public section

set_option maxRecDepth 16384

noncomputable section

namespace Cert.KernelIdeal.Hand

open Cert.KernelIdeal Cert.KernelIdeal.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable {c : Dev nD} (bd : Option Variants.nat.V)

/-! ## Loads and stores -/

/-- The memref's buffer, held whole, reads `v`. -/
def Hv {sp : Space} {sh : Shape} {et : EltTy} (m : Mref sp sh et) (v : sh.Idx → Elt F et) : sProp 𝕄 :=
  iprop(∃ f, ⌜m.view.read (Elt F) f = v⌝ ∗ (m.view.loc (c : Thread nD τ) ↦[Finset.univ]{fullShare} f))

section
variable {sh : Shape} {et : EltTy} {cs : CoreSpace} (m : Mref cs sh et) (v : sh.Idx → Elt F et) {α : Type}

theorem Hv_load {Q : α → sProp 𝕄} {off off' size : Fin sh.rank → ℕ} {inb : ∀ a, off a + size a ≤ sh.size a} (h : off = off') (inb' : ∀ a, off' a + size a ≤ sh.size a)
    {hl : m.view.LoadsAt (Rect.unit off size inb).toLoadRect} (k : ((Rect.unit off size inb).shape.Idx → Elt F et) → Prog (TpuEff nD τ sig (Elt F) (Λ₀ F) .tc) α) :
    (Hv (c := c) m v)
      ⊢ iprop(((Hv (c := c) m v) -∗ wp frame (wpE (defs₀ (F := F)) Variants.nat (c : Thread nD τ) bd) Set.univ (k (VecWindow.window v off' size inb')) Q) -∗ wp frame (wpE (defs₀ (F := F)) Variants.nat (c : Thread nD τ) bd) Set.univ ((Prog.lift (TpuEff.load m (Rect.unit off size inb).toLoadRect hl) : Prog (TpuEff nD τ sig (Elt F) (Λ₀ F) .tc) _) >>= k) Q) := by
  subst h
  unfold Hv
  iintro ⟨%f, %hf, H⟩ Hk
  iapply (wp_load_rect Variants.nat (c : Thread nD τ) bd Set.univ (m := m) (r := Rect.unit off size inb) (hl := hl) (k := k) (f := f) (Finset.subset_univ _)) $$ H
  iintro H
  rw [show (m.access (Rect.unit off size inb)).read (Elt F) f = VecWindow.window v off size inb' from by rw [← hf]; rfl]
  iapply Hk
  iexists f
  isplitr; · ipureintro; exact hf
  iexact H

theorem Hv_load_full {Q : α → sProp 𝕄} {off : Fin sh.rank → ℕ} {inb : ∀ a, off a + sh.size a ≤ sh.size a}
    {hl : m.view.LoadsAt (Rect.unit off sh.size inb).toLoadRect} (k : ((Rect.unit off sh.size inb).shape.Idx → Elt F et) → Prog (TpuEff nD τ sig (Elt F) (Λ₀ F) .tc) α) :
    (Hv (c := c) m v)
      ⊢ iprop(((Hv (c := c) m v) -∗ wp frame (wpE (defs₀ (F := F)) Variants.nat (c : Thread nD τ) bd) Set.univ (k v) Q) -∗ wp frame (wpE (defs₀ (F := F)) Variants.nat (c : Thread nD τ) bd) Set.univ ((Prog.lift (TpuEff.load m (Rect.unit off sh.size inb).toLoadRect hl) : Prog (TpuEff nD τ sig (Elt F) (Λ₀ F) .tc) _) >>= k) Q) := by
  have e : VecWindow.window v off sh.size inb = v := by
    funext y
    exact congrArg v (funext fun a => Fin.ext (by
      show off a + 1 * (y a).val = (y a).val
      have := inb a; omega))
  have := Hv_load (c := c) bd m v (Q := Q) (rfl : off = off) inb (hl := hl) k
  rwa [e] at this

theorem Hv_store {Q : α → sProp 𝕄} {off off' size : Fin sh.rank → ℕ} {inb : ∀ a, off a + size a ≤ sh.size a} (h : off = off')
    {w : (Rect.unit off size inb).shape.Idx → Elt F et} {hx : (m.access (Rect.unit off size inb)).Stores Finset.univ}
    {hm : Finset.univ = Finset.univ ∨ ∀ a, (Rect.unit off size inb).stride a = 1} (k : PUnit → Prog (TpuEff nD τ sig (Elt F) (Λ₀ F) .tc) α) :
    (Hv (c := c) m v)
      ⊢ iprop(((Hv (c := c) m (VecWindow.put v off' size w)) -∗ wp frame (wpE (defs₀ (F := F)) Variants.nat (c : Thread nD τ) bd) Set.univ (k ⟨⟩) Q) -∗ wp frame (wpE (defs₀ (F := F)) Variants.nat (c : Thread nD τ) bd) Set.univ ((Prog.lift (TpuEff.store m (Rect.unit off size inb) w Finset.univ hx hm) : Prog (TpuEff nD τ sig (Elt F) (Λ₀ F) .tc) _) >>= k) Q) := by
  subst h
  unfold Hv
  iintro ⟨%f, %hf, H⟩ Hk
  iapply (wp_store Variants.nat (c : Thread nD τ) bd Set.univ (m := m) (r := Rect.unit off size inb) (w := w) (Mk := Finset.univ) (hx := hx) (hm := hm) (k := k) (f := f) (Finset.subset_univ _)) $$ H
  iintro H
  iapply Hk
  iexists _
  isplitr
  swap; · iexact H
  ipureintro
  rw [← hf]
  exact View.read_writes_cons_put m.view f inb w [] rfl

theorem Hv_store_full {Q : α → sProp 𝕄} {off : Fin sh.rank → ℕ} {inb : ∀ a, off a + sh.size a ≤ sh.size a}
    {w : (Rect.unit off sh.size inb).shape.Idx → Elt F et} {hx : (m.access (Rect.unit off sh.size inb)).Stores Finset.univ}
    {hm : Finset.univ = Finset.univ ∨ ∀ a, (Rect.unit off sh.size inb).stride a = 1} (k : PUnit → Prog (TpuEff nD τ sig (Elt F) (Λ₀ F) .tc) α) :
    (Hv (c := c) m v)
      ⊢ iprop(((Hv (c := c) m w) -∗ wp frame (wpE (defs₀ (F := F)) Variants.nat (c : Thread nD τ) bd) Set.univ (k ⟨⟩) Q) -∗ wp frame (wpE (defs₀ (F := F)) Variants.nat (c : Thread nD τ) bd) Set.univ ((Prog.lift (TpuEff.store m (Rect.unit off sh.size inb) w Finset.univ hx hm) : Prog (TpuEff nD τ sig (Elt F) (Λ₀ F) .tc) _) >>= k) Q) := by
  unfold Hv
  iintro ⟨%f, %hf, H⟩ Hk
  iapply (wp_store Variants.nat (c : Thread nD τ) bd Set.univ (m := m) (r := Rect.unit off sh.size inb) (w := w) (Mk := Finset.univ) (hx := hx) (hm := hm) (k := k) (f := f) (Finset.subset_univ _)) $$ H
  iintro H
  iapply Hk
  iexists _
  isplitr
  swap; · iexact H
  ipureintro
  exact View.read_writes_full m.view f inb w []
end

/-- A scalar load. -/
theorem Hv_smem {sh : Shape} {et : EltTy} (m : Mref .smem sh et) (v : sh.Idx → Elt F et) {off off' size : Fin sh.rank → ℕ} {inb : ∀ a, off a + size a ≤ sh.size a}
    (h : off = off') (inb' : ∀ a, off' a + size a ≤ sh.size a) (h1 : (Rect.unit off size inb).shape.numel = 1) (hp : et.packing = 1) {α : Type}
    (k : Elt F et → Prog (TpuEff nD τ sig (Elt F) (Λ₀ F) .tc) α) {Q : α → sProp 𝕄} (y : Elt F et) (hy : ∀ x, VecWindow.window v off' size inb' x = y) :
    (Hv (c := c) m v)
      ⊢ iprop(((Hv (c := c) m v) -∗ wp frame (wpE (defs₀ (F := F)) Variants.nat (c : Thread nD τ) bd) Set.univ (k y) Q) -∗ wp frame (wpE (defs₀ (F := F)) Variants.nat (c : Thread nD τ) bd) Set.univ (smemLoad m (Rect.unit off size inb) h1 hp >>= k) Q) := by
  subst h
  unfold Hv
  iintro ⟨%f, %hf, H⟩ Hk
  iapply (wp_smem bd m _ h1 hp f k y (fun x => (hy x ▸ (by rw [← hf]; rfl)))) $$ H
  iintro H
  iapply Hk
  iexists f
  isplitr; · ipureintro; exact hf
  iexact H

/-! ## The state and the step -/

/-- What the computation reads besides the rings: the queries, the page scales, and the fresh token. -/
structure Ins (F : FTy → Type) [FloatOps F] where
  x : Vec F S64x32x512 .bf16
  q : Vec F S64x32x64 .bf16
  sc : Vec F S2560x64 .f32
  cn : Vec F S64x1x512 .fp8e4m3
  cs : Vec F S64x1 .f32
  kr : Vec F S64x1x64 .bf16

/-- What it keeps: the running maximum, the running sum, the running output, and the two results. -/
structure St (F : FTy → Type) [FloatOps F] where
  m : Vec F S32x128 .f32
  l : Vec F S32x128 .f32
  a : Vec F S32x512 .f32
  o : Vec F S64x32x512 .bf16
  s : Vec F S64x1x32 .f32

theorem inb_x (b : Fin 64) : ∀ a, (![b.val, 0, 0] : Fin 3 → ℕ) a + S1x32x512.size a ≤ S64x32x512.size a := by
  intro a; have := b.isLt; fin_cases a <;> simp <;> omega
theorem inb_q (b : Fin 64) : ∀ a, (![b.val, 0, 0] : Fin 3 → ℕ) a + S1x32x64.size a ≤ S64x32x64.size a := by
  intro a; have := b.isLt; fin_cases a <;> simp <;> omega
theorem inb_cn (b : Fin 64) : ∀ a, (![b.val, 0, 0] : Fin 3 → ℕ) a + S1x1x512.size a ≤ S64x1x512.size a := by
  intro a; have := b.isLt; fin_cases a <;> simp <;> omega
theorem inb_cs (b : Fin 64) : ∀ a, (![b.val, 0] : Fin 2 → ℕ) a + S1x1.size a ≤ S64x1.size a := by
  intro a; have := b.isLt; fin_cases a <;> simp <;> omega
theorem inb_kr (b : Fin 64) : ∀ a, (![b.val, 0, 0] : Fin 3 → ℕ) a + S1x1x64.size a ≤ S64x1x64.size a := by
  intro a; have := b.isLt; fin_cases a <;> simp <;> omega
theorem inb_ls (b : Fin 64) : ∀ a, (![b.val, 0, 0] : Fin 3 → ℕ) a + S1x1x32.size a ≤ S64x1x32.size a := by
  intro a; have := b.isLt; fin_cases a <;> simp <;> omega
theorem inb_sc (g : Fin 2560) : ∀ a, (![g.val, 0] : Fin 2 → ℕ) a + S1x64.size a ≤ S2560x64.size a := by
  intro a; have := g.isLt; fin_cases a <;> simp <;> omega
theorem inb_vk (s : Fin 32) : ∀ a, (![s.val, 0, 0] : Fin 3 → ℕ) a + S1x256x512.size a ≤ S32x256x512.size a := by
  intro a; have := s.isLt; fin_cases a <;> simp <;> omega
theorem inb_vr (s : Fin 32) : ∀ a, (![s.val, 0, 0] : Fin 3 → ℕ) a + S1x256x64.size a ≤ S32x256x64.size a := by
  intro a; have := s.isLt; fin_cases a <;> simp <;> omega

namespace Ins
variable (I : Ins F) (b : Fin 64)
/-- Sequence `b`'s queries, fresh latent, fresh scale, fresh position key; and page `g`'s scales. -/
def xb : Vec F S1x32x512 .bf16 := VecWindow.window I.x ![b.val, 0, 0] S1x32x512.size (inb_x b)
def qb : Vec F S1x32x64 .bf16 := VecWindow.window I.q ![b.val, 0, 0] S1x32x64.size (inb_q b)
def cnb : Vec F S1x1x512 .fp8e4m3 := VecWindow.window I.cn ![b.val, 0, 0] S1x1x512.size (inb_cn b)
def csb : Elt F .f32 := VecWindow.window I.cs ![b.val, 0] S1x1.size (inb_cs b) (show S1x1.Idx from fun a => ⟨0, by fin_cases a <;> decide⟩)
theorem csb_eq (x : S1x1.Idx) : VecWindow.window I.cs ![b.val, 0] S1x1.size (inb_cs b) x = I.csb b := by
  unfold csb
  congr 1
  funext a
  have h : (x a).val < 1 := by have := (x a).isLt; fin_cases a <;> exact this
  exact Fin.ext (by dsimp only; omega)
def krb : Vec F S1x1x64 .bf16 := VecWindow.window I.kr ![b.val, 0, 0] S1x1x64.size (inb_kr b)
def scg (g : Fin 2560) : Vec F S1x64 .f32 := VecWindow.window I.sc ![g.val, 0] S1x64.size (inb_sc g)
end Ins

/-- On a sequence's first chunk the state starts from the fresh token. -/
def start (I : Ins F) (b : Fin 64) (k : ℕ) (S : St F) : St F :=
  if k = 0 then
    { S with m := k0_pay2 (k0_pay5 (I.xb b)) (k0_pay6 (I.qb b)) (I.cnb b) (I.csb b) (I.krb b)
             l := k0_pay3 (F := F)
             a := k0_pay7 (k0_pay4 (I.cnb b) (I.csb b)) }
  else S

/-- A chunk's keys `vk`, position keys `vr` and page scales folded into the state. -/
def fold (I : Ins F) (b : Fin 64) (k : ℕ) (Lw : BitVec 32) (g : Fin 4 → Fin 2560) (vk : Vec F S1x256x512 .fp8e4m3) (vr : Vec F S1x256x64 .bf16) (S : St F) : St F :=
  { S with
    m := k0_pay18 (k0_pay13 (W k) (k0_pay9 (I.xb b) vk) (k0_pay10 (I.qb b) vr) (I.scg (g 0)) (I.scg (g 1)) (I.scg (g 2)) (I.scg (g 3)) Lw S.m)
    l := k0_pay17 (k0_pay12 (W k) (k0_pay9 (I.xb b) vk) (k0_pay10 (I.qb b) vr) (I.scg (g 0)) (I.scg (g 1)) (I.scg (g 2)) (I.scg (g 3)) Lw)
        (k0_pay14 (W k) (k0_pay9 (I.xb b) vk) (k0_pay10 (I.qb b) vr) (I.scg (g 0)) (I.scg (g 1)) (I.scg (g 2)) (I.scg (g 3)) Lw S.m)
        (k0_pay15 (W k) (k0_pay9 (I.xb b) vk) (k0_pay10 (I.qb b) vr) (I.scg (g 0)) (I.scg (g 1)) (I.scg (g 2)) (I.scg (g 3)) Lw S.m) S.l
    a := k0_pay19 (k0_pay8 vk) (k0_pay11 (I.scg (g 0)) (I.scg (g 1)) (I.scg (g 2)) (I.scg (g 3)))
        (k0_pay12 (W k) (k0_pay9 (I.xb b) vk) (k0_pay10 (I.qb b) vr) (I.scg (g 0)) (I.scg (g 1)) (I.scg (g 2)) (I.scg (g 3)) Lw)
        (k0_pay14 (W k) (k0_pay9 (I.xb b) vk) (k0_pay10 (I.qb b) vr) (I.scg (g 0)) (I.scg (g 1)) (I.scg (g 2)) (I.scg (g 3)) Lw S.m)
        (k0_pay15 (W k) (k0_pay9 (I.xb b) vk) (k0_pay10 (I.qb b) vr) (I.scg (g 0)) (I.scg (g 1)) (I.scg (g 2)) (I.scg (g 3)) Lw S.m) S.a }

/-- After a sequence's last chunk its results are written. -/
def finish (b : Fin 64) (k : ℕ) (Lw : BitVec 32) (S : St F) : St F :=
  if k0_cond11 (W k) Lw = 1#1 then
    { S with o := VecWindow.put S.o ![b.val, 0, 0] S1x32x512.size (k0_pay20 S.l S.a)
             s := VecWindow.put S.s ![b.val, 0, 0] S1x1x32.size (k0_pay21 S.l S.m) }
  else S

/-- One chunk. -/
def step (I : Ins F) (b : Fin 64) (k : ℕ) (Lw : BitVec 32) (g : Fin 4 → Fin 2560) (vk : Vec F S1x256x512 .fp8e4m3) (vr : Vec F S1x256x64 .bf16) (S : St F) : St F :=
  finish b k Lw (fold I b k Lw g vk vr (start I b k S))

end Cert.KernelIdeal.Hand

end
-- ==== Proof.KI.Match.lean ====
/-
  The printed parts of the kernel's body are sequences of page sites.
-/
module

public import proofs.«01_k».proof.Proof.KI.Prog

@[expose] public section

set_option maxRecDepth 65536

noncomputable section

namespace Cert.KernelIdeal.Hand

open Cert.KernelIdeal Cert.KernelIdeal.Gen Decode
open Idealize.ShloMosaic Idealize.ShloMosaic.TcCoe
open Idealize.SL Idealize.SL.Sem

variable {F : FTy → Type} [FloatOps F] [Named F]

section
variable (arg0 : Mref .smem S64x32 .i32) (harg0 : arg0.IsWhole) (arg1 : Mref .smem S64 .i32) (harg1 : arg1.IsWhole) (arg2 : Mref .smem S64x1 .f32) (harg2 : arg2.IsWhole) (arg3 : Mref .hbm S64x32x512 .bf16) (harg3 : arg3.IsWhole) (arg4 : Mref .hbm S64x32x64 .bf16) (harg4 : arg4.IsWhole) (arg5 : Mref .hbm S2560x64x512 .fp8e4m3) (harg5 : arg5.IsWhole) (arg6 : Mref .hbm S2560x64 .f32) (harg6 : arg6.IsWhole) (arg7 : Mref .hbm S2560x64x64 .bf16) (harg7 : arg7.IsWhole) (arg8 : Mref .vmem S64x1x512 .fp8e4m3) (harg8 : arg8.IsWhole) (arg9 : Mref .vmem S64x1x64 .bf16) (harg9 : arg9.IsWhole) (arg10 : Mref .hbm S64x1x32x512 .bf16) (harg10 : arg10.IsWhole) (arg11 : Mref .vmem S64x1x32 .f32) (harg11 : arg11.IsWhole) (arg12 : Mref .vmem S64x32x512 .bf16) (harg12 : arg12.IsWhole) (arg13 : Mref .vmem S64x32x64 .bf16) (harg13 : arg13.IsWhole) (arg14 : Mref .vmem S2560x64 .f32) (harg14 : arg14.IsWhole) (arg15 : Mref .vmem S32x256x512 .fp8e4m3) (harg15 : arg15.IsWhole) (arg16 : Mref .vmem S32x256x64 .bf16) (harg16 : arg16.IsWhole) (arg17 : Mref .vmem S64x32x512 .bf16) (harg17 : arg17.IsWhole) (arg18 : Mref .vmem S32x128 .f32) (harg18 : arg18.IsWhole) (arg19 : Mref .vmem S32x128 .f32) (harg19 : arg19.IsWhole) (arg20 : Mref .vmem S32x512 .f32) (harg20 : arg20.IsWhole) (arg21 : DmaSems sig S32) (arg22 : DmaSems sig S32) (arg23 : DmaSems sig S3) (arg24 : DmaSems sig S_)

/-- The first three pages of trip `k0_t1`. -/
def pro3 (arg0 : Mref .smem S64x32 .i32) (harg0 : arg0.IsWhole) (arg1 : Mref .smem S64 .i32) (harg1 : arg1.IsWhole) (arg2 : Mref .smem S64x1 .f32) (harg2 : arg2.IsWhole) (arg3 : Mref .hbm S64x32x512 .bf16) (harg3 : arg3.IsWhole) (arg4 : Mref .hbm S64x32x64 .bf16) (harg4 : arg4.IsWhole) (arg5 : Mref .hbm S2560x64x512 .fp8e4m3) (harg5 : arg5.IsWhole) (arg6 : Mref .hbm S2560x64 .f32) (harg6 : arg6.IsWhole) (arg7 : Mref .hbm S2560x64x64 .bf16) (harg7 : arg7.IsWhole) (arg8 : Mref .vmem S64x1x512 .fp8e4m3) (harg8 : arg8.IsWhole) (arg9 : Mref .vmem S64x1x64 .bf16) (harg9 : arg9.IsWhole) (arg10 : Mref .hbm S64x1x32x512 .bf16) (harg10 : arg10.IsWhole) (arg11 : Mref .vmem S64x1x32 .f32) (harg11 : arg11.IsWhole) (arg12 : Mref .vmem S64x32x512 .bf16) (harg12 : arg12.IsWhole) (arg13 : Mref .vmem S64x32x64 .bf16) (harg13 : arg13.IsWhole) (arg14 : Mref .vmem S2560x64 .f32) (harg14 : arg14.IsWhole) (arg15 : Mref .vmem S32x256x512 .fp8e4m3) (harg15 : arg15.IsWhole) (arg16 : Mref .vmem S32x256x64 .bf16) (harg16 : arg16.IsWhole) (arg17 : Mref .vmem S64x32x512 .bf16) (harg17 : arg17.IsWhole) (arg18 : Mref .vmem S32x128 .f32) (harg18 : arg18.IsWhole) (arg19 : Mref .vmem S32x128 .f32) (harg19 : arg19.IsWhole) (arg20 : Mref .vmem S32x512 .f32) (harg20 : arg20.IsWhole) (arg21 : DmaSems sig S32) (arg22 : DmaSems sig S32) (arg23 : DmaSems sig S3) (arg24 : DmaSems sig S_) (k0_t1 : Fin k0_t1_loop.trips) (arg26 arg27 : BitVec 32) (k0_hw1 : k0_chk1 arg26) (k0_h1 : k0_cond1 arg26 = 1#1) : Prog (TpuEff nD τ sig (Elt F) (Λ₀ F) .tc) (BitVec 32) :=
  pageSite (F := F) arg1 arg0 (issueTwo (F := F) arg21 arg15 harg15 arg5 harg5 arg22 arg16 harg16 arg7 harg7) (Scf.iv 0#32 1#32 k0_t1) arg26 arg27 0 (k0_off1_inb arg26 k0_hw1 k0_h1)
      (k0_chk2 k0_t1 arg26 arg27) (k0_chk2.dec k0_t1 arg26 arg27) (fun v hA h => k0_off2_inb k0_t1 arg26 arg27 v hA k0_h1 h)
      (k0_chk3 k0_t1 arg26 arg27) (k0_chk3.dec k0_t1 arg26 arg27)
      (fun v w hA hB h => ⟨k0_off3_inb k0_t1, k0_off4_inb k0_t1, k0_off4_wordsfp8e4m3 k0_t1, k0_off5_inb k0_t1 arg26 arg27 v w hB k0_h1 h, k0_off5_wordsfp8e4m3 k0_t1 arg26 arg27 v w hB k0_h1 h,
        k0_off7_inb k0_t1, k0_off7_wordsbf16 k0_t1, k0_off8_inb k0_t1 arg26 arg27 v w hB k0_h1 h, k0_off8_wordsbf16 k0_t1 arg26 arg27 v w hB k0_h1 h⟩) fun _ =>
  pageSite (F := F) arg1 arg0 (issueTwo (F := F) arg21 arg15 harg15 arg5 harg5 arg22 arg16 harg16 arg7 harg7) (Scf.iv 0#32 1#32 k0_t1) arg26 arg27 1 (k0_off9_inb arg26 k0_hw1 k0_h1)
      (k0_chk4 k0_t1 arg26 arg27) (k0_chk4.dec k0_t1 arg26 arg27) (fun v hA h => k0_off10_inb k0_t1 arg26 arg27 v hA k0_h1 h)
      (k0_chk5 k0_t1 arg26 arg27) (k0_chk5.dec k0_t1 arg26 arg27)
      (fun v w hA hB h => ⟨k0_off11_inb k0_t1, k0_off12_inb k0_t1, k0_off12_wordsfp8e4m3 k0_t1, k0_off13_inb k0_t1 arg26 arg27 v w hB k0_h1 h, k0_off13_wordsfp8e4m3 k0_t1 arg26 arg27 v w hB k0_h1 h,
        k0_off15_inb k0_t1, k0_off15_wordsbf16 k0_t1, k0_off16_inb k0_t1 arg26 arg27 v w hB k0_h1 h, k0_off16_wordsbf16 k0_t1 arg26 arg27 v w hB k0_h1 h⟩) fun _ =>
  pageSite (F := F) arg1 arg0 (issueTwo (F := F) arg21 arg15 harg15 arg5 harg5 arg22 arg16 harg16 arg7 harg7) (Scf.iv 0#32 1#32 k0_t1) arg26 arg27 2 (k0_off17_inb arg26 k0_hw1 k0_h1)
      (k0_chk6 k0_t1 arg26 arg27) (k0_chk6.dec k0_t1 arg26 arg27) (fun v hA h => k0_off18_inb k0_t1 arg26 arg27 v hA k0_h1 h)
      (k0_chk7 k0_t1 arg26 arg27) (k0_chk7.dec k0_t1 arg26 arg27)
      (fun v w hA hB h => ⟨k0_off19_inb k0_t1, k0_off20_inb k0_t1, k0_off20_wordsfp8e4m3 k0_t1, k0_off21_inb k0_t1 arg26 arg27 v w hB k0_h1 h, k0_off21_wordsfp8e4m3 k0_t1 arg26 arg27 v w hB k0_h1 h,
        k0_off23_inb k0_t1, k0_off23_wordsbf16 k0_t1, k0_off24_inb k0_t1 arg26 arg27 v w hB k0_h1 h, k0_off24_wordsbf16 k0_t1 arg26 arg27 v w hB k0_h1 h⟩) fun _ =>
  pure (Scalar.muli (Scalar.addi (Scalar.muli arg27 4#32) 3#32) 64#32)

/-- What ends a trip of the first loop: the pointer's step. -/
def proRest (arg0 : Mref .smem S64x32 .i32) (harg0 : arg0.IsWhole) (arg1 : Mref .smem S64 .i32) (harg1 : arg1.IsWhole) (arg2 : Mref .smem S64x1 .f32) (harg2 : arg2.IsWhole) (arg3 : Mref .hbm S64x32x512 .bf16) (harg3 : arg3.IsWhole) (arg4 : Mref .hbm S64x32x64 .bf16) (harg4 : arg4.IsWhole) (arg5 : Mref .hbm S2560x64x512 .fp8e4m3) (harg5 : arg5.IsWhole) (arg6 : Mref .hbm S2560x64 .f32) (harg6 : arg6.IsWhole) (arg7 : Mref .hbm S2560x64x64 .bf16) (harg7 : arg7.IsWhole) (arg8 : Mref .vmem S64x1x512 .fp8e4m3) (harg8 : arg8.IsWhole) (arg9 : Mref .vmem S64x1x64 .bf16) (harg9 : arg9.IsWhole) (arg10 : Mref .hbm S64x1x32x512 .bf16) (harg10 : arg10.IsWhole) (arg11 : Mref .vmem S64x1x32 .f32) (harg11 : arg11.IsWhole) (arg12 : Mref .vmem S64x32x512 .bf16) (harg12 : arg12.IsWhole) (arg13 : Mref .vmem S64x32x64 .bf16) (harg13 : arg13.IsWhole) (arg14 : Mref .vmem S2560x64 .f32) (harg14 : arg14.IsWhole) (arg15 : Mref .vmem S32x256x512 .fp8e4m3) (harg15 : arg15.IsWhole) (arg16 : Mref .vmem S32x256x64 .bf16) (harg16 : arg16.IsWhole) (arg17 : Mref .vmem S64x32x512 .bf16) (harg17 : arg17.IsWhole) (arg18 : Mref .vmem S32x128 .f32) (harg18 : arg18.IsWhole) (arg19 : Mref .vmem S32x128 .f32) (harg19 : arg19.IsWhole) (arg20 : Mref .vmem S32x512 .f32) (harg20 : arg20.IsWhole) (arg21 : DmaSems sig S32) (arg22 : DmaSems sig S32) (arg23 : DmaSems sig S3) (arg24 : DmaSems sig S_) (arg26 arg27 : BitVec 32) (k0_hw1 : k0_chk1 arg26) : Prog (TpuEff nD τ sig (Elt F) (Λ₀ F) .tc) (BitVec 32 × BitVec 32) :=
  (smemLoad arg1 (Rect.unit (s := S64) (k0_off33 arg26) S1.size (k0_off33_inb arg26 k0_hw1)) numel1_S1 rfl : Prog (TpuEff nD τ sig (Elt F) (Λ₀ F) .tc) (Elt F .i32)) >>= fun v25 =>
  pure (Scalar.select (lastW arg27 v25) (Scalar.addi arg26 1#32) arg26, Scalar.select (lastW arg27 v25) 0#32 (Scalar.addi arg27 1#32))

/-- What a trip of the first loop does: start the pages, step the pointer. -/
def proBody (arg0 : Mref .smem S64x32 .i32) (harg0 : arg0.IsWhole) (arg1 : Mref .smem S64 .i32) (harg1 : arg1.IsWhole) (arg2 : Mref .smem S64x1 .f32) (harg2 : arg2.IsWhole) (arg3 : Mref .hbm S64x32x512 .bf16) (harg3 : arg3.IsWhole) (arg4 : Mref .hbm S64x32x64 .bf16) (harg4 : arg4.IsWhole) (arg5 : Mref .hbm S2560x64x512 .fp8e4m3) (harg5 : arg5.IsWhole) (arg6 : Mref .hbm S2560x64 .f32) (harg6 : arg6.IsWhole) (arg7 : Mref .hbm S2560x64x64 .bf16) (harg7 : arg7.IsWhole) (arg8 : Mref .vmem S64x1x512 .fp8e4m3) (harg8 : arg8.IsWhole) (arg9 : Mref .vmem S64x1x64 .bf16) (harg9 : arg9.IsWhole) (arg10 : Mref .hbm S64x1x32x512 .bf16) (harg10 : arg10.IsWhole) (arg11 : Mref .vmem S64x1x32 .f32) (harg11 : arg11.IsWhole) (arg12 : Mref .vmem S64x32x512 .bf16) (harg12 : arg12.IsWhole) (arg13 : Mref .vmem S64x32x64 .bf16) (harg13 : arg13.IsWhole) (arg14 : Mref .vmem S2560x64 .f32) (harg14 : arg14.IsWhole) (arg15 : Mref .vmem S32x256x512 .fp8e4m3) (harg15 : arg15.IsWhole) (arg16 : Mref .vmem S32x256x64 .bf16) (harg16 : arg16.IsWhole) (arg17 : Mref .vmem S64x32x512 .bf16) (harg17 : arg17.IsWhole) (arg18 : Mref .vmem S32x128 .f32) (harg18 : arg18.IsWhole) (arg19 : Mref .vmem S32x128 .f32) (harg19 : arg19.IsWhole) (arg20 : Mref .vmem S32x512 .f32) (harg20 : arg20.IsWhole) (arg21 : DmaSems sig S32) (arg22 : DmaSems sig S32) (arg23 : DmaSems sig S3) (arg24 : DmaSems sig S_) (k0_t1 : Fin k0_t1_loop.trips) (arg26 arg27 : BitVec 32) : Prog (TpuEff nD τ sig (Elt F) (Λ₀ F) .tc) (BitVec 32 × BitVec 32) :=
  Prog.lift (TpuEff.assume (k0_chk1 arg26) (k0_chk1.dec arg26)) >>= fun k0_hw =>
  have k0_hw1 := k0_hw.down
  if k0_h1 : k0_cond1 arg26 = 1#1 then
    pro3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 k0_t1 arg26 arg27 k0_hw1 k0_h1 >>= fun _ =>
    pageSite (F := F) arg1 arg0 (issueTwo (F := F) arg21 arg15 harg15 arg5 harg5 arg22 arg16 harg16 arg7 harg7) (Scf.iv 0#32 1#32 k0_t1) arg26 arg27 3 (k0_off25_inb arg26 k0_hw1 k0_h1)
      (k0_chk8 k0_t1 arg26 arg27) (k0_chk8.dec k0_t1 arg26 arg27) (fun v hA h => k0_off26_inb k0_t1 arg26 arg27 v hA k0_h1 h)
      (k0_chk9 k0_t1 arg26 arg27) (k0_chk9.dec k0_t1 arg26 arg27)
      (fun v w hA hB h => ⟨k0_off27_inb k0_t1, k0_off28_inb k0_t1, k0_off28_wordsfp8e4m3 k0_t1, k0_off29_inb k0_t1 arg26 arg27 v w hB k0_h1 h, k0_off29_wordsfp8e4m3 k0_t1 arg26 arg27 v w hB k0_h1 h,
        k0_off31_inb k0_t1, k0_off31_wordsbf16 k0_t1, k0_off32_inb k0_t1 arg26 arg27 v w hB k0_h1 h, k0_off32_wordsbf16 k0_t1 arg26 arg27 v w hB k0_h1 h⟩) fun _ =>
    proRest arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg26 arg27 k0_hw1
  else proRest arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg26 arg27 k0_hw1

theorem proBody_eq (k0_t1 : Fin k0_t1_loop.trips) (arg26 arg27 : BitVec 32) :
    k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 k0_t1 (arg26, arg27) = proBody arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 k0_t1 arg26 arg27 := rfl
end

section
variable (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 arg28 arg29 : BitVec 32)

/-- The first three waits of one chunk. -/
def wait3 (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 : BitVec 32) (k0_hw10 : k0_chk10 arg26) {α : Type} (r : α) : Prog (TpuEff nD τ sig (Elt F) (Λ₀ F) .tc) α :=
  pageSite (F := F) arg1 arg0 (waitTwo (F := F) arg21 arg15 harg15 arg5 harg5 arg22 arg16 harg16 arg7 harg7) arg25 arg26 arg27 0 (k0_off34_inb arg26 k0_hw10)
      (k0_chk11 arg25 arg26 arg27) (k0_chk11.dec arg25 arg26 arg27) (fun v hA h => k0_off35_inb arg25 arg26 arg27 v hA h)
      (k0_chk12 arg25 arg27) (k0_chk12.dec arg25 arg27)
      (fun v w hA hB h => ⟨k0_off36_inb arg25 arg26 arg27 v hA h, k0_off37_inb arg25 arg26 arg27 v hA h, k0_off37_wordsfp8e4m3 arg25 arg26 arg27 v hA h, k0_off38_inb arg25 arg27 v w hB h, k0_off38_wordsfp8e4m3 arg25 arg27 v w hB h,
        k0_off40_inb arg25 arg26 arg27 v hA h, k0_off40_wordsbf16 arg25 arg26 arg27 v hA h, k0_off41_inb arg25 arg27 v w hB h, k0_off41_wordsbf16 arg25 arg27 v w hB h⟩) fun _ =>
  pageSite (F := F) arg1 arg0 (waitTwo (F := F) arg21 arg15 harg15 arg5 harg5 arg22 arg16 harg16 arg7 harg7) arg25 arg26 arg27 1 (k0_off42_inb arg26 k0_hw10)
      (k0_chk13 arg25 arg26 arg27) (k0_chk13.dec arg25 arg26 arg27) (fun v hA h => k0_off43_inb arg25 arg26 arg27 v hA h)
      (k0_chk14 arg25 arg27) (k0_chk14.dec arg25 arg27)
      (fun v w hA hB h => ⟨k0_off44_inb arg25 arg26 arg27 v hA h, k0_off45_inb arg25 arg26 arg27 v hA h, k0_off45_wordsfp8e4m3 arg25 arg26 arg27 v hA h, k0_off46_inb arg25 arg27 v w hB h, k0_off46_wordsfp8e4m3 arg25 arg27 v w hB h,
        k0_off48_inb arg25 arg26 arg27 v hA h, k0_off48_wordsbf16 arg25 arg26 arg27 v hA h, k0_off49_inb arg25 arg27 v w hB h, k0_off49_wordsbf16 arg25 arg27 v w hB h⟩) fun _ =>
  pageSite (F := F) arg1 arg0 (waitTwo (F := F) arg21 arg15 harg15 arg5 harg5 arg22 arg16 harg16 arg7 harg7) arg25 arg26 arg27 2 (k0_off50_inb arg26 k0_hw10)
      (k0_chk15 arg25 arg26 arg27) (k0_chk15.dec arg25 arg26 arg27) (fun v hA h => k0_off51_inb arg25 arg26 arg27 v hA h)
      (k0_chk16 arg25 arg27) (k0_chk16.dec arg25 arg27)
      (fun v w hA hB h => ⟨k0_off52_inb arg25 arg26 arg27 v hA h, k0_off53_inb arg25 arg26 arg27 v hA h, k0_off53_wordsfp8e4m3 arg25 arg26 arg27 v hA h, k0_off54_inb arg25 arg27 v w hB h, k0_off54_wordsfp8e4m3 arg25 arg27 v w hB h,
        k0_off56_inb arg25 arg26 arg27 v hA h, k0_off56_wordsbf16 arg25 arg26 arg27 v hA h, k0_off57_inb arg25 arg27 v w hB h, k0_off57_wordsbf16 arg25 arg27 v w hB h⟩) fun _ =>
  pure r

/-- What follows a chunk's last wait: the queries, on a sequence's first chunk the fresh token's state, and the chunk's keys. -/
def rest5 (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 arg28 arg29 : BitVec 32) (k0_hw20 : k0_chk20 arg25) (k0_hw19 : k0_chk19 arg26 arg27) (k0_hw10 : k0_chk10 arg26) : Prog (TpuEff nD τ sig (Elt F) (Λ₀ F) .tc) (Σ' (v72 : FVec F S256x512 .fp8e4m3) (v73 : FVec F S32x256 .f32) (v77 : FVec F S32x256 .f32) (v84 : Vec F S1x64 .f32) (v85 : BitVec 32), BitVec 32) := do
  let v62 : Vec F S1x32x512 .bf16 ← Prog.lift (.load arg12 (Rect.unit (s := S64x32x512) (k0_off66 arg26) S1x32x512.size (k0_off66_inb arg26 k0_hw10)).toLoadRect (View.loadsAt_vmem h_S1x32x512)) -- %62 = vector.load %arg12[%61, %c0, %c0_38] : memref<64x32x512xbf16, #tpu.memory_space<vmem>>, vector<1x32x512xbf16>  @ test_k:71
  -- %64 = arith.index_cast %arg26 : i32 to index  @ test_k:72  — not in the skeleton
  let v65 : Vec F S1x32x64 .bf16 ← Prog.lift (.load arg13 (Rect.unit (s := S64x32x64) (k0_off67 arg26) S1x32x64.size (k0_off67_inb arg26 k0_hw10)).toLoadRect (View.loadsAt_vmem h_S1x32x64)) -- %65 = vector.load %arg13[%64, %c0_39, %c0_40] : memref<64x32x64xbf16, #tpu.memory_space<vmem>>, vector<1x32x64xbf16>  @ test_k:72
  -- %67 = arith.cmpi eq, %arg27, %c0_i32_41 : i32  @ test_k:74  — not in the skeleton
  -- %68 = arith.extui %67 : i1 to i32  @ test_k:49  — not in the skeleton
  -- %69 = arith.cmpi ne, %68, %c0_i32_42 : i32  @ test_k:74  — not in the skeleton
  if k0_h10 : k0_cond10 arg27 = 1#1 then do
    let v232 : FVec F S32x512 .f32 ← k0_part2 arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw19 (k0_pay5 v62) (k0_pay6 v65) k0_h10 -- statements 1–60 of 65: their part
    let v233 : Vec F S32x512 .f32 ← Prog.lift (.load arg20 (Rect.unit (s := S32x512) ![0, 0] S32x512.size inb_S32x512_S32x512_0_0).toLoadRect (View.loadsAt_vmem h_S32x512)) -- %233 = vector.load %arg20[%c0_112, %c0_113] : memref<32x512xf32, #tpu.memory_space<vmem>>, vector<32x512xf32>  @ test_k:82
    -- %234 = vector.shape_cast %233 : vector<32x512xf32> to vector<32x512xf32>  @ test_k:82  — not in the skeleton
    Prog.lift (.store arg20 (Rect.unit (s := S32x512) ![0, 0] S32x512.size inb_S32x512_S32x512_0_0) (k0_pay7 v232) Finset.univ (View.stores_vmem_bits_univ h_S32x512 rfl) (.inl rfl)) -- tpu.vector_store %arg20[%c0_112, %c0_113], %235 {strides = array<i32>} : memref<32x512xf32, #tpu.memory_space<vmem>>, vector<32x512xf32>,  @ test_k:82
    pure ⟨⟩
  else do
    pure ⟨⟩
  -- %70 = arith.index_cast %19 : i32 to index  @ test_k:84  — not in the skeleton
  let v71 : Vec F S1x256x512 .fp8e4m3 ← Prog.lift (.load arg15 (Rect.unit (s := S32x256x512) (k0_off71 arg25) S1x256x512.size (k0_off71_inb arg25 k0_hw20)).toLoadRect (View.loadsAt_vmem h_S1x256x512)) -- %71 = vector.load %arg15[%70, %c0_43, %c0_44] : memref<32x256x512xf8E4M3FN, #tpu.memory_space<vmem>>, vector<1x256x512xf8E4M3FN>  @ test_k:84
  -- %74 = arith.index_cast %19 : i32 to index  @ test_k:86  — not in the skeleton
  let v75 : Vec F S1x256x64 .bf16 ← Prog.lift (.load arg16 (Rect.unit (s := S32x256x64) (k0_off72 arg25) S1x256x64.size (k0_off72_inb arg25 k0_hw20)).toLoadRect (View.loadsAt_vmem h_S1x256x64)) -- %75 = vector.load %arg16[%74, %c0_45, %c0_46] : memref<32x256x64xbf16, #tpu.memory_space<vmem>>, vector<1x256x64xbf16>  @ test_k:86
  -- %78 = arith.muli %arg27, %c4_i32_48 : i32  @ test_k:87  — not in the skeleton
  -- %79 = arith.addi %78, %c0_i32_49 : i32  @ test_k:87  — not in the skeleton
  -- %80 = arith.index_cast %arg26 : i32 to index  @ test_k:29  — not in the skeleton
  -- %81 = arith.index_cast %79 : i32 to index  @ test_k:29  — not in the skeleton
  let v82 : Elt F .i32 ← smemLoad arg0 (Rect.unit (s := S64x32) (k0_off73 arg26 arg27) S1x1.size (k0_off73_inb arg26 arg27 k0_hw19)) numel1_S1x1 rfl -- %82 = memref.load %arg0[%80, %81] : memref<64x32xi32, #tpu.memory_space<smem>>  @ test_k:29
  have k0_hw21 : k0_chk21 v82 := (← Prog.lift (TpuEff.assume (k0_chk21 v82) (k0_chk21.dec v82))).down -- ASSUME the side condition of the facts computed from v82 (the machine's `assume` effect: the proof owes it here and the machine has no step past a false one; not an operation of the kernel)
  -- %83 = arith.index_cast %82 : i32 to index  @ test_k:87  — not in the skeleton
  let v84 : Vec F S1x64 .f32 ← Prog.lift (.load arg14 (Rect.unit (s := S2560x64) (k0_off74 v82) S1x64.size (k0_off74_inb v82 k0_hw21)).toLoadRect (View.loadsAt_vmem h_S1x64)) -- %84 = vector.load %arg14[%83, %c0_50] : memref<2560x64xf32, #tpu.memory_space<vmem>>, vector<1x64xf32>  @ test_k:87
  let v85 : BitVec 32 := Scalar.muli arg27 4#32
  pure ⟨k0_pay8 v71, k0_pay9 v62 v71, k0_pay10 v65 v75, v84, v85, 1#32⟩

/-- The copies started for the chunk 32 ahead, the first three pages. -/
def fetch3 (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg28 arg29 : BitVec 32) (k0_hw26 : k0_chk26 arg28) (k0_h12 : k0_cond12 arg28 = 1#1) : Prog (TpuEff nD τ sig (Elt F) (Λ₀ F) .tc) (BitVec 32) :=
  pageSite (F := F) arg1 arg0 (issueTwo (F := F) arg21 arg15 harg15 arg5 harg5 arg22 arg16 harg16 arg7 harg7) (Scalar.addi arg25 32#32) arg28 arg29 0 (k0_off85_inb arg28 k0_hw26 k0_h12)
      (k0_chk27 arg25 arg28 arg29) (k0_chk27.dec arg25 arg28 arg29) (fun v hA h => k0_off86_inb arg25 arg28 arg29 v hA k0_h12 h)
      (k0_chk28 arg25 arg28 arg29) (k0_chk28.dec arg25 arg28 arg29)
      (fun v w hA hB h => ⟨k0_off87_inb arg25 arg28 arg29 v hA k0_h12 h, k0_off88_inb arg25 arg28 arg29 v hA k0_h12 h, k0_off88_wordsfp8e4m3 arg25 arg28 arg29 v hA k0_h12 h, k0_off89_inb arg25 arg28 arg29 v w hB k0_h12 h, k0_off89_wordsfp8e4m3 arg25 arg28 arg29 v w hB k0_h12 h,
        k0_off91_inb arg25 arg28 arg29 v hA k0_h12 h, k0_off91_wordsbf16 arg25 arg28 arg29 v hA k0_h12 h, k0_off92_inb arg25 arg28 arg29 v w hB k0_h12 h, k0_off92_wordsbf16 arg25 arg28 arg29 v w hB k0_h12 h⟩) fun _ =>
  pageSite (F := F) arg1 arg0 (issueTwo (F := F) arg21 arg15 harg15 arg5 harg5 arg22 arg16 harg16 arg7 harg7) (Scalar.addi arg25 32#32) arg28 arg29 1 (k0_off93_inb arg28 k0_hw26 k0_h12)
      (k0_chk29 arg25 arg28 arg29) (k0_chk29.dec arg25 arg28 arg29) (fun v hA h => k0_off94_inb arg25 arg28 arg29 v hA k0_h12 h)
      (k0_chk30 arg25 arg28 arg29) (k0_chk30.dec arg25 arg28 arg29)
      (fun v w hA hB h => ⟨k0_off95_inb arg25 arg28 arg29 v hA k0_h12 h, k0_off96_inb arg25 arg28 arg29 v hA k0_h12 h, k0_off96_wordsfp8e4m3 arg25 arg28 arg29 v hA k0_h12 h, k0_off97_inb arg25 arg28 arg29 v w hB k0_h12 h, k0_off97_wordsfp8e4m3 arg25 arg28 arg29 v w hB k0_h12 h,
        k0_off99_inb arg25 arg28 arg29 v hA k0_h12 h, k0_off99_wordsbf16 arg25 arg28 arg29 v hA k0_h12 h, k0_off100_inb arg25 arg28 arg29 v w hB k0_h12 h, k0_off100_wordsbf16 arg25 arg28 arg29 v w hB k0_h12 h⟩) fun _ =>
  pageSite (F := F) arg1 arg0 (issueTwo (F := F) arg21 arg15 harg15 arg5 harg5 arg22 arg16 harg16 arg7 harg7) (Scalar.addi arg25 32#32) arg28 arg29 2 (k0_off101_inb arg28 k0_hw26 k0_h12)
      (k0_chk31 arg25 arg28 arg29) (k0_chk31.dec arg25 arg28 arg29) (fun v hA h => k0_off102_inb arg25 arg28 arg29 v hA k0_h12 h)
      (k0_chk32 arg25 arg28 arg29) (k0_chk32.dec arg25 arg28 arg29)
      (fun v w hA hB h => ⟨k0_off103_inb arg25 arg28 arg29 v hA k0_h12 h, k0_off104_inb arg25 arg28 arg29 v hA k0_h12 h, k0_off104_wordsfp8e4m3 arg25 arg28 arg29 v hA k0_h12 h, k0_off105_inb arg25 arg28 arg29 v w hB k0_h12 h, k0_off105_wordsfp8e4m3 arg25 arg28 arg29 v w hB k0_h12 h,
        k0_off107_inb arg25 arg28 arg29 v hA k0_h12 h, k0_off107_wordsbf16 arg25 arg28 arg29 v hA k0_h12 h, k0_off108_inb arg25 arg28 arg29 v w hB k0_h12 h, k0_off108_wordsbf16 arg25 arg28 arg29 v w hB k0_h12 h⟩) fun _ =>
  pure (Scalar.muli (Scalar.addi (Scalar.muli arg29 4#32) 3#32) 64#32)

/-- A chunk's side conditions and its first three waits. -/
def part4' (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 arg28 arg29 : BitVec 32) : Prog (TpuEff nD τ sig (Elt F) (Λ₀ F) .tc) (Σ' (k0_hw26 : k0_chk26 arg28) (k0_hw20 : k0_chk20 arg25) (k0_hw19 : k0_chk19 arg26 arg27) (k0_hw10 : k0_chk10 arg26) (v19 : BitVec 32), BitVec 32) := do
  have k0_hw26 : k0_chk26 arg28 := (← Prog.lift (TpuEff.assume (k0_chk26 arg28) (k0_chk26.dec arg28))).down
  have k0_hw20 : k0_chk20 arg25 := (← Prog.lift (TpuEff.assume (k0_chk20 arg25) (k0_chk20.dec arg25))).down
  have k0_hw19 : k0_chk19 arg26 arg27 := (← Prog.lift (TpuEff.assume (k0_chk19 arg26 arg27) (k0_chk19.dec arg26 arg27))).down
  have k0_hw10 : k0_chk10 arg26 := (← Prog.lift (TpuEff.assume (k0_chk10 arg26) (k0_chk10.dec arg26))).down
  wait3 arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 k0_hw10 ⟨k0_hw26, k0_hw20, k0_hw19, k0_hw10, Scalar.remsi arg25 32#32, 4#32⟩

/-- A chunk's last wait and the start of its computation. -/
def part5' (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 arg28 arg29 : BitVec 32) (k0_hw20 : k0_chk20 arg25) (k0_hw19 : k0_chk19 arg26 arg27) (k0_hw10 : k0_chk10 arg26) : Prog (TpuEff nD τ sig (Elt F) (Λ₀ F) .tc) (Σ' (v72 : FVec F S256x512 .fp8e4m3) (v73 : FVec F S32x256 .f32) (v77 : FVec F S32x256 .f32) (v84 : Vec F S1x64 .f32) (v85 : BitVec 32), BitVec 32) :=
  pageSite (F := F) arg1 arg0 (waitTwo (F := F) arg21 arg15 harg15 arg5 harg5 arg22 arg16 harg16 arg7 harg7) arg25 arg26 arg27 3 (k0_off58_inb arg26 k0_hw10)
      (k0_chk17 arg25 arg26 arg27) (k0_chk17.dec arg25 arg26 arg27) (fun v hA h => k0_off59_inb arg25 arg26 arg27 v hA h)
      (k0_chk18 arg25 arg27) (k0_chk18.dec arg25 arg27)
      (fun v w hA hB h => ⟨k0_off60_inb arg25 arg26 arg27 v hA h, k0_off61_inb arg25 arg26 arg27 v hA h, k0_off61_wordsfp8e4m3 arg25 arg26 arg27 v hA h, k0_off62_inb arg25 arg27 v w hB h, k0_off62_wordsfp8e4m3 arg25 arg27 v w hB h,
        k0_off64_inb arg25 arg26 arg27 v hA h, k0_off64_wordsbf16 arg25 arg26 arg27 v hA h, k0_off65_inb arg25 arg27 v w hB h, k0_off65_wordsbf16 arg25 arg27 v w hB h⟩) fun _ =>
  rest5 arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw20 k0_hw19 k0_hw10

/-- The step of both pointers and the next trip. -/
def tail (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 arg28 arg29 : BitVec 32) (k0_hw26 : k0_chk26 arg28) (k0_hw10 : k0_chk10 arg26) : Prog (TpuEff nD τ sig (Elt F) (Λ₀ F) .tc) (BitVec 32 × BitVec 32 × BitVec 32 × BitVec 32 × BitVec 32) := do
  let v171 : Elt F .i32 ← smemLoad arg1 (Rect.unit (s := S64) (k0_off117 arg28) S1.size (k0_off117_inb arg28 k0_hw26)) numel1_S1 rfl
  let v182 : Elt F .i32 ← smemLoad arg1 (Rect.unit (s := S64) (k0_off118 arg26) S1.size (k0_off118_inb arg26 k0_hw10)) numel1_S1 rfl
  Prog.lift (.call (1 : (Λ₀ F).Label) ⟨arg1, harg1, arg0, harg0, arg21, arg15, harg15, arg5, harg5, arg22, arg16, harg16, arg7, harg7, arg12, harg12, arg13, harg13, arg8, harg8, arg2, harg2, arg9, harg9, arg18, harg18, arg19, harg19, arg20, harg20, arg14, harg14, arg17, harg17, arg11, harg11, Scalar.addi arg25 1#32,
    Scalar.select (lastW arg27 v182) (Scalar.addi arg26 1#32) arg26, Scalar.select (lastW arg27 v182) 0#32 (Scalar.addi arg27 1#32),
    Scalar.select (lastW arg29 v171) (Scalar.addi arg28 1#32) arg28, Scalar.select (lastW arg29 v171) 0#32 (Scalar.addi arg29 1#32)⟩)

/-- The copies started for the chunk 32 ahead, then the step. -/
def fetchTail (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 arg28 arg29 : BitVec 32) (k0_hw26 : k0_chk26 arg28) (k0_hw10 : k0_chk10 arg26) : Prog (TpuEff nD τ sig (Elt F) (Λ₀ F) .tc) (BitVec 32 × BitVec 32 × BitVec 32 × BitVec 32 × BitVec 32) :=
  if k0_h12 : k0_cond12 arg28 = 1#1 then
    fetch3 arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg28 arg29 k0_hw26 k0_h12 >>= fun _ =>
    pageSite (F := F) arg1 arg0 (issueTwo (F := F) arg21 arg15 harg15 arg5 harg5 arg22 arg16 harg16 arg7 harg7) (Scalar.addi arg25 32#32) arg28 arg29 3 (k0_off109_inb arg28 k0_hw26 k0_h12)
      (k0_chk33 arg25 arg28 arg29) (k0_chk33.dec arg25 arg28 arg29) (fun v hA h => k0_off110_inb arg25 arg28 arg29 v hA k0_h12 h)
      (k0_chk34 arg25 arg28 arg29) (k0_chk34.dec arg25 arg28 arg29)
      (fun v w hA hB h => ⟨k0_off111_inb arg25 arg28 arg29 v hA k0_h12 h, k0_off112_inb arg25 arg28 arg29 v hA k0_h12 h, k0_off112_wordsfp8e4m3 arg25 arg28 arg29 v hA k0_h12 h, k0_off113_inb arg25 arg28 arg29 v w hB k0_h12 h, k0_off113_wordsfp8e4m3 arg25 arg28 arg29 v w hB k0_h12 h,
        k0_off115_inb arg25 arg28 arg29 v hA k0_h12 h, k0_off115_wordsbf16 arg25 arg28 arg29 v hA k0_h12 h, k0_off116_inb arg25 arg28 arg29 v w hB k0_h12 h, k0_off116_wordsbf16 arg25 arg28 arg29 v w hB k0_h12 h⟩) fun _ =>
    tail arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw26 k0_hw10
  else tail arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw26 k0_hw10

/-- One trip of the main loop. -/
def whileBody (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 arg28 arg29 : BitVec 32) : Prog (TpuEff nD τ sig (Elt F) (Λ₀ F) .tc) (BitVec 32 × BitVec 32 × BitVec 32 × BitVec 32 × BitVec 32) :=
  if Scalar.cmpi .slt arg26 64#32 = 1#1 then do
    let ⟨k0_hw26, k0_hw20, k0_hw19, k0_hw10, _, _⟩ ← part4' arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29
    let ⟨v72, v73, v77, v84, v85, c1⟩ ← part5' arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw20 k0_hw19 k0_hw10
    let ⟨v106, v121, v126, v128, v129⟩ ← k0_part6_skel (F := F) arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw19 k0_hw10 v73 v77 v84 v85 c1
    let ⟨_, _⟩ ← k0_part7_skel (F := F) arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw10 v72 v106 v121 v126 v128 v129
    fetchTail arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw26 k0_hw10
  else pure (arg25, arg26, arg27, arg28, arg29)

end

end Cert.KernelIdeal.Hand

end
-- ==== Proof.KI.Compute.lean ====
/-
  What the computing parts of one chunk do to the running state.
-/
module

public import proofs.«01_k».proof.Proof.KI.Step
public import proofs.«01_k».proof.Proof.KI.Match

@[expose] public section

set_option maxRecDepth 16384

noncomputable section

namespace Cert.KernelIdeal.Hand

open Cert.KernelIdeal Cert.KernelIdeal.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable {c : Dev nD} (e : Env F c) (bd : Option Variants.nat.V)

theorem off3_eq {w : BitVec 32} {n : ℕ} (h : (Scalar.indexCast w).toNat = n) : (![(Scalar.indexCast w).toNat, 0, 0] : Fin 3 → ℕ) = ![n, 0, 0] := by rw [h]
theorem off2_eq {w : BitVec 32} {n : ℕ} (h : (Scalar.indexCast w).toNat = n) : (![(Scalar.indexCast w).toNat, 0] : Fin 2 → ℕ) = ![n, 0] := by rw [h]

theorem idx_word {w : BitVec 32} (h : w.toNat < 2 ^ 31) : (Scalar.indexCast w).toNat = w.toNat := by
  have e := W_idx h
  rwa [show W w.toNat = w from BitVec.eq_of_toNat_eq (by rw [W_toNat]; omega)] at e

theorem slot_idx {n : ℕ} (hn : n < 2 ^ 20) : (Scalar.indexCast (Scalar.remsi (W n) 32#32)).toNat = (slot n).val := by
  have e : (Scalar.remsi (W n) 32#32).toNat = n % 32 := slot_toNat (by omega)
  rw [idx_word (by omega), e]; rfl

theorem sc_inb {w : BitVec 32} (h : w.toNat < 2560) : ∀ a, (![(Scalar.indexCast w).toNat, 0] : Fin 2 → ℕ) a + S1x64.size a ≤ S2560x64.size a := by
  intro a; fin_cases a
  · show (Scalar.indexCast w).toNat + 1 ≤ 2560
    rw [idx_word (by omega)]; omega
  · show 0 + 64 ≤ 64
    omega

theorem cond10_iff {k : ℕ} (hk : k ≤ 7) : k0_cond10 (W k) = 1#1 ↔ k = 0 := by
  interval_cases k <;> decide

/-- Slot `s` of the rings, as one vector each. -/
def vK (s : Fin 32) (fK : S32x256x512.Idx → Elt F .fp8e4m3) : Vec F S1x256x512 .fp8e4m3 := VecWindow.window fK ![s.val, 0, 0] S1x256x512.size (inb_vk s)
def vR (s : Fin 32) (fR : S32x256x64.Idx → Elt F .bf16) : Vec F S1x256x64 .bf16 := VecWindow.window fR ![s.val, 0, 0] S1x256x64.size (inb_vr s)

/-- A load whose value has a name. -/
theorem Hv_load' {sh : Shape} {et : EltTy} {cs : CoreSpace} (m : Mref cs sh et) (v : sh.Idx → Elt F et) {α : Type} {Q : α → sProp 𝕄} {off off' size : Fin sh.rank → ℕ} {inb : ∀ a, off a + size a ≤ sh.size a} (h : off = off') (inb' : ∀ a, off' a + size a ≤ sh.size a)
    {hl : m.view.LoadsAt (Rect.unit off size inb).toLoadRect} (k : ((Rect.unit off size inb).shape.Idx → Elt F et) → Prog (TpuEff nD τ sig (Elt F) (Λ₀ F) .tc) α)
    (w : (Rect.unit off size inb).shape.Idx → Elt F et) (hw : VecWindow.window v off' size inb' = w) :
    (Hv (c := c) m v)
      ⊢ iprop(((Hv (c := c) m v) -∗ wp frame (wpE (defs₀ (F := F)) Variants.nat (c : Thread nD τ) bd) Set.univ (k w) Q) -∗ wp frame (wpE (defs₀ (F := F)) Variants.nat (c : Thread nD τ) bd) Set.univ ((Prog.lift (TpuEff.load m (Rect.unit off size inb).toLoadRect hl) : Prog (TpuEff nD τ sig (Elt F) (Λ₀ F) .tc) _) >>= k) Q) :=
  hw ▸ Hv_load bd m v h inb' k

theorem kv_load (s : Fin 32) (fK : Buf (Elt F) ((Memref.whole cc0_scratch3).view.loc (c : Thread nD τ))) {α : Type} {Q : α → sProp 𝕄}
    {off : Fin 3 → ℕ} {inb : ∀ a, off a + S1x256x512.size a ≤ S32x256x512.size a} (h : off = ![s.val, 0, 0])
    {hl : (Memref.whole cc0_scratch3).view.LoadsAt (Rect.unit (s := S32x256x512) off S1x256x512.size inb).toLoadRect}
    (k : (S1x256x512.Idx → Elt F .fp8e4m3) → Prog (TpuEff nD τ sig (Elt F) (Λ₀ F) .tc) α) :
    ((Memref.whole cc0_scratch3).view.loc (c : Thread nD τ) ↦[kvSlot s]{fullShare} fK)
      ⊢ iprop((((Memref.whole cc0_scratch3).view.loc (c : Thread nD τ) ↦[kvSlot s]{fullShare} fK) -∗ wp frame (wpE (defs₀ (F := F)) Variants.nat (c : Thread nD τ) bd) Set.univ (k (vK s fK)) Q)
        -∗ wp frame (wpE (defs₀ (F := F)) Variants.nat (c : Thread nD τ) bd) Set.univ ((Prog.lift (TpuEff.load (Memref.whole cc0_scratch3) (Rect.unit (s := S32x256x512) off S1x256x512.size inb).toLoadRect hl) : Prog (TpuEff nD τ sig (Elt F) (Λ₀ F) .tc) _) >>= k) Q) := by
  subst h
  refine wp_load_rect Variants.nat (c : Thread nD τ) bd Set.univ (m := Memref.whole cc0_scratch3) (r := Rect.unit (s := S32x256x512) ![s.val, 0, 0] S1x256x512.size inb) (hl := hl) (k := k) (f := fK) ?_
  intro i hi
  have hi' : i ∈ (Rect.unit (s := S32x256x512) ![s.val, 0, 0] S1x256x512.size inb).set := (View.set_slice_whole cc0_scratch3 _) ▸ hi
  rw [Rect.mem_set_unit] at hi'
  have h0 := hi' 0
  change s.val ≤ (i 0).val ∧ (i 0).val < s.val + 1 at h0
  exact mem_kvSlot s i (by omega)

theorem rp_load (s : Fin 32) (fR : Buf (Elt F) ((Memref.whole cc0_scratch4).view.loc (c : Thread nD τ))) {α : Type} {Q : α → sProp 𝕄}
    {off : Fin 3 → ℕ} {inb : ∀ a, off a + S1x256x64.size a ≤ S32x256x64.size a} (h : off = ![s.val, 0, 0])
    {hl : (Memref.whole cc0_scratch4).view.LoadsAt (Rect.unit (s := S32x256x64) off S1x256x64.size inb).toLoadRect}
    (k : (S1x256x64.Idx → Elt F .bf16) → Prog (TpuEff nD τ sig (Elt F) (Λ₀ F) .tc) α) :
    ((Memref.whole cc0_scratch4).view.loc (c : Thread nD τ) ↦[rpSlot s]{fullShare} fR)
      ⊢ iprop((((Memref.whole cc0_scratch4).view.loc (c : Thread nD τ) ↦[rpSlot s]{fullShare} fR) -∗ wp frame (wpE (defs₀ (F := F)) Variants.nat (c : Thread nD τ) bd) Set.univ (k (vR s fR)) Q)
        -∗ wp frame (wpE (defs₀ (F := F)) Variants.nat (c : Thread nD τ) bd) Set.univ ((Prog.lift (TpuEff.load (Memref.whole cc0_scratch4) (Rect.unit (s := S32x256x64) off S1x256x64.size inb).toLoadRect hl) : Prog (TpuEff nD τ sig (Elt F) (Λ₀ F) .tc) _) >>= k) Q) := by
  subst h
  refine wp_load_rect Variants.nat (c : Thread nD τ) bd Set.univ (m := Memref.whole cc0_scratch4) (r := Rect.unit (s := S32x256x64) ![s.val, 0, 0] S1x256x64.size inb) (hl := hl) (k := k) (f := fR) ?_
  intro i hi
  have hi' : i ∈ (Rect.unit (s := S32x256x64) ![s.val, 0, 0] S1x256x64.size inb).set := (View.set_slice_whole cc0_scratch4 _) ▸ hi
  rw [Rect.mem_set_unit] at hi'
  have h0 := hi' 0
  change s.val ≤ (i 0).val ∧ (i 0).val < s.val + 1 at h0
  exact mem_rpSlot s i (by omega)

/-- The end of the start of a chunk's computation: the chunk's keys. -/
def rest5b (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 arg28 arg29 : BitVec 32) (k0_hw20 : k0_chk20 arg25) (k0_hw19 : k0_chk19 arg26 arg27) (k0_hw10 : k0_chk10 arg26) (v62 : Vec F S1x32x512 .bf16) (v65 : Vec F S1x32x64 .bf16) : Prog (TpuEff nD τ sig (Elt F) (Λ₀ F) .tc) (Σ' (v72 : FVec F S256x512 .fp8e4m3) (v73 : FVec F S32x256 .f32) (v77 : FVec F S32x256 .f32) (v84 : Vec F S1x64 .f32) (v85 : BitVec 32), BitVec 32) := do
  let v71 : Vec F S1x256x512 .fp8e4m3 ← Prog.lift (.load arg15 (Rect.unit (s := S32x256x512) (k0_off71 arg25) S1x256x512.size (k0_off71_inb arg25 k0_hw20)).toLoadRect (View.loadsAt_vmem h_S1x256x512))
  let v75 : Vec F S1x256x64 .bf16 ← Prog.lift (.load arg16 (Rect.unit (s := S32x256x64) (k0_off72 arg25) S1x256x64.size (k0_off72_inb arg25 k0_hw20)).toLoadRect (View.loadsAt_vmem h_S1x256x64))
  let v82 : Elt F .i32 ← smemLoad arg0 (Rect.unit (s := S64x32) (k0_off73 arg26 arg27) S1x1.size (k0_off73_inb arg26 arg27 k0_hw19)) numel1_S1x1 rfl
  have k0_hw21 : k0_chk21 v82 := (← Prog.lift (TpuEff.assume (k0_chk21 v82) (k0_chk21.dec v82))).down
  let v84 : Vec F S1x64 .f32 ← Prog.lift (.load arg14 (Rect.unit (s := S2560x64) (k0_off74 v82) S1x64.size (k0_off74_inb v82 k0_hw21)).toLoadRect (View.loadsAt_vmem h_S1x64))
  let v85 : BitVec 32 := Scalar.muli arg27 4#32
  pure ⟨k0_pay8 v71, k0_pay9 v62 v71, k0_pay10 v65 v75, v84, v85, 1#32⟩

/-- The start of a chunk's computation, its one branch continued on both sides. -/
theorem rest5_eq (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 arg28 arg29 : BitVec 32) (k0_hw20 : k0_chk20 arg25) (k0_hw19 : k0_chk19 arg26 arg27) (k0_hw10 : k0_chk10 arg26) :
    rest5 (F := F) arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw20 k0_hw19 k0_hw10 =
      (((Prog.lift (.load arg12 (Rect.unit (s := S64x32x512) (k0_off66 arg26) S1x32x512.size (k0_off66_inb arg26 k0_hw10)).toLoadRect (View.loadsAt_vmem h_S1x32x512)) : Prog (TpuEff nD τ sig (Elt F) (Λ₀ F) .tc) (Vec F S1x32x512 .bf16)) >>= fun v62 =>
       (Prog.lift (.load arg13 (Rect.unit (s := S64x32x64) (k0_off67 arg26) S1x32x64.size (k0_off67_inb arg26 k0_hw10)).toLoadRect (View.loadsAt_vmem h_S1x32x64)) : Prog (TpuEff nD τ sig (Elt F) (Λ₀ F) .tc) (Vec F S1x32x64 .bf16)) >>= fun v65 =>
       if k0_h10 : k0_cond10 arg27 = 1#1 then
         k0_part2 arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw19 (k0_pay5 v62) (k0_pay6 v65) k0_h10 >>= fun v232 =>
         (Prog.lift (.load arg20 (Rect.unit (s := S32x512) ![0, 0] S32x512.size inb_S32x512_S32x512_0_0).toLoadRect (View.loadsAt_vmem h_S32x512)) : Prog (TpuEff nD τ sig (Elt F) (Λ₀ F) .tc) (Vec F S32x512 .f32)) >>= fun _ =>
         Prog.lift (.store arg20 (Rect.unit (s := S32x512) ![0, 0] S32x512.size inb_S32x512_S32x512_0_0) (k0_pay7 v232) Finset.univ (View.stores_vmem_bits_univ h_S32x512 rfl) (.inl rfl)) >>= fun _ =>
         rest5b arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw20 k0_hw19 k0_hw10 v62 v65
       else rest5b arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw20 k0_hw19 k0_hw10 v62 v65) : Prog (TpuEff nD τ sig (Elt F) (Λ₀ F) .tc) (Σ' (v72 : FVec F S256x512 .fp8e4m3) (v73 : FVec F S32x256 .f32) (v77 : FVec F S32x256 .f32) (v84 : Vec F S1x64 .f32) (v85 : BitVec 32), BitVec 32)) := rfl

section
variable {arg1 : Mref .smem S64 .i32} {harg1 : arg1.IsWhole} {arg0 : Mref .smem S64x32 .i32} {harg0 : arg0.IsWhole} {harg15 : (Memref.whole cc0_scratch3).IsWhole} {harg5 : (Memref.whole main_arg2).IsWhole} {harg16 : (Memref.whole cc0_scratch4).IsWhole} {harg7 : (Memref.whole main_arg4).IsWhole} {arg12 : Mref .vmem S64x32x512 .bf16} {harg12 : arg12.IsWhole} {arg13 : Mref .vmem S64x32x64 .bf16} {harg13 : arg13.IsWhole} {arg8 : Mref .vmem S64x1x512 .fp8e4m3} {harg8 : arg8.IsWhole} {arg2 : Mref .smem S64x1 .f32} {harg2 : arg2.IsWhole} {arg9 : Mref .vmem S64x1x64 .bf16} {harg9 : arg9.IsWhole} {arg18 : Mref .vmem S32x128 .f32} {harg18 : arg18.IsWhole} {arg19 : Mref .vmem S32x128 .f32} {harg19 : arg19.IsWhole} {arg20 : Mref .vmem S32x512 .f32} {harg20 : arg20.IsWhole} {arg14 : Mref .vmem S2560x64 .f32} {harg14 : arg14.IsWhole} {arg17 : Mref .vmem S64x32x512 .bf16} {harg17 : arg17.IsWhole} {arg11 : Mref .vmem S64x1x32 .f32} {harg11 : arg11.IsWhole}

/-- What the computation reads. -/
def Cst (arg12 : Mref .vmem S64x32x512 .bf16) (arg13 : Mref .vmem S64x32x64 .bf16) (arg14 : Mref .vmem S2560x64 .f32)
    (arg8 : Mref .vmem S64x1x512 .fp8e4m3) (arg2 : Mref .smem S64x1 .f32) (arg9 : Mref .vmem S64x1x64 .bf16) (I : Ins F) : sProp 𝕄 :=
  iprop(Hv (c := c) arg12 I.x ∗ Hv (c := c) arg13 I.q ∗ Hv (c := c) arg14 I.sc ∗ Hv (c := c) arg8 I.cn ∗ Hv (c := c) arg2 I.cs ∗ Hv (c := c) arg9 I.kr)
/-- What it keeps. -/
def Stt (arg18 : Mref .vmem S32x128 .f32) (arg19 : Mref .vmem S32x128 .f32) (arg20 : Mref .vmem S32x512 .f32)
    (arg17 : Mref .vmem S64x32x512 .bf16) (arg11 : Mref .vmem S64x1x32 .f32) (S : St F) : sProp 𝕄 :=
  iprop(Hv (c := c) arg18 S.m ∗ Hv (c := c) arg19 S.l ∗ Hv (c := c) arg20 S.a ∗ Hv (c := c) arg17 S.o ∗ Hv (c := c) arg11 S.s)

variable {fL : Buf (Elt F) (arg1.view.loc (c : Thread nD τ))} {fT : Buf (Elt F) (arg0.view.loc (c : Thread nD τ))}
  (h : e.Reads arg1 arg0 fL fT) (I : Ins F)

/-- The fresh token's part. -/
theorem part2_wp (n : ℕ) (b : Fin 64) (k : ℕ) (w28 w29 : BitVec 32) (hw19 : k0_chk19 (W b.val) (W k)) (hk : k0_cond10 (W k) = 1#1) (S : St F)
    {Q : FVec F S32x512 .f32 → sProp 𝕄} :
    iprop((Cst (c := c) arg12 arg13 arg14 arg8 arg2 arg9 I) ∗ (Stt (c := c) arg18 arg19 arg20 arg17 arg11) S)
      ⊢ iprop((iprop((Cst (c := c) arg12 arg13 arg14 arg8 arg2 arg9 I) ∗ (Stt (c := c) arg18 arg19 arg20 arg17 arg11) { S with m := k0_pay2 (k0_pay5 (I.xb b)) (k0_pay6 (I.qb b)) (I.cnb b) (I.csb b) (I.krb b), l := k0_pay3 (F := F) })
            -∗ Q (k0_pay4 (I.cnb b) (I.csb b)))
        -∗ wp frame (wpE (defs₀ (F := F)) Variants.nat (c : Thread nD τ) bd) Set.univ (k0_part2 (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 (W n) (W b.val) (W k) w28 w29 hw19 (k0_pay5 (I.xb b)) (k0_pay6 (I.qb b)) hk) Q) := by
  rw [k0_part2_eq_skeleton]
  unfold k0_part2_skel Cst Stt
  have hb : (Scalar.indexCast (W b.val)).toNat = b.val := W_idx (by have := b.isLt; omega)
  iintro ⟨⟨Hx, Hq, Hsc, Hcn, Hcs, Hkr⟩, ⟨Hm, Hl, Ha, Ho, Hs⟩⟩ Hk
  iapply (Hv_load' bd arg8 I.cn (off3_eq hb) (inb_cn b) _ (I.cnb b) rfl) $$ Hcn
  iintro Hcn
  iapply (Hv_smem bd arg2 I.cs (off2_eq hb) (inb_cs b) _ _ _ (I.csb b) (I.csb_eq b)) $$ Hcs
  iintro Hcs
  iapply (Hv_load' bd arg9 I.kr (off3_eq hb) (inb_kr b) _ (I.krb b) rfl) $$ Hkr
  iintro Hkr
  iapply (Hv_load_full bd arg18 S.m _) $$ Hm
  iintro Hm
  iapply (Hv_store_full bd arg18 S.m _) $$ Hm
  iintro Hm
  iapply (Hv_load_full bd arg19 S.l _) $$ Hl
  iintro Hl
  iapply (Hv_store_full bd arg19 S.l _) $$ Hl
  iintro Hl
  iapply (Hv_smem bd arg2 I.cs (off2_eq hb) (inb_cs b) _ _ _ (I.csb b) (I.csb_eq b)) $$ Hcs
  iintro Hcs
  rw [show (pure (k0_pay4 (I.cnb b) (I.csb b)) : Prog (TpuEff nD τ sig (Elt F) (Λ₀ F) .tc) _) = Prog.ret _ from rfl, wp_ret]
  imodintro
  iapply Hk
  isplitl [Hx Hq Hsc Hcn Hcs Hkr]
  · isplitl [Hx]; · iexact Hx
    isplitl [Hq]; · iexact Hq
    isplitl [Hsc]; · iexact Hsc
    isplitl [Hcn]; · iexact Hcn
    isplitl [Hcs]; · iexact Hcs
    iexact Hkr
  isplitl [Hm]; · iexact Hm
  isplitl [Hl]; · iexact Hl
  isplitl [Ha]; · iexact Ha
  isplitl [Ho]; · iexact Ho
  iexact Hs

/-- The rings' slot. -/
def Rg (s : Fin 32) (fK : Buf (Elt F) ((Memref.whole cc0_scratch3).view.loc (c : Thread nD τ))) (fR : Buf (Elt F) ((Memref.whole cc0_scratch4).view.loc (c : Thread nD τ))) : sProp 𝕄 :=
  iprop(((Memref.whole cc0_scratch3).view.loc (c : Thread nD τ) ↦[kvSlot s]{fullShare} fK) ∗ ((Memref.whole cc0_scratch4).view.loc (c : Thread nD τ) ↦[rpSlot s]{fullShare} fR))

include h in
/-- The start of the computation. -/
theorem rest5_wp (n : ℕ) (hn : n < 2 ^ 20) (b : Fin 64) (k : ℕ) (hk : k ≤ 7) (w28 w29 : BitVec 32) (hw20 : k0_chk20 (W n)) (hw19 : k0_chk19 (W b.val) (W k)) (hw10 : k0_chk10 (W b.val)) (S : St F)
    (g : Fin 4 → Fin 2560) (hg : ∀ p : Fin 4, (e.PT b.val (k * 4 + p.val)).toNat = (g p).val) (fK fR) {Q : (Σ' (v72 : FVec F S256x512 .fp8e4m3) (v73 : FVec F S32x256 .f32) (v77 : FVec F S32x256 .f32) (v84 : Vec F S1x64 .f32) (v85 : BitVec 32), BitVec 32) → sProp 𝕄} :
    Sc arg1 arg0 fL fT iprop((Cst (c := c) arg12 arg13 arg14 arg8 arg2 arg9 I) ∗ (Stt (c := c) arg18 arg19 arg20 arg17 arg11) S ∗ (Rg (c := c)) (slot n) fK fR)
      ⊢ iprop((Sc arg1 arg0 fL fT iprop((Cst (c := c) arg12 arg13 arg14 arg8 arg2 arg9 I) ∗ (Stt (c := c) arg18 arg19 arg20 arg17 arg11) (start I b k S) ∗ (Rg (c := c)) (slot n) fK fR)
            -∗ Q ⟨k0_pay8 (vK (slot n) fK), k0_pay9 (I.xb b) (vK (slot n) fK), k0_pay10 (I.qb b) (vR (slot n) fR), I.scg (g 0), Scalar.muli (W k) 4#32, 1#32⟩)
        -∗ wp frame (wpE (defs₀ (F := F)) Variants.nat (c : Thread nD τ) bd) Set.univ (rest5 (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 (W n) (W b.val) (W k) w28 w29 hw20 hw19 hw10) Q) := by
  have hb : (Scalar.indexCast (W b.val)).toNat = b.val := W_idx (by have := b.isLt; omega)
  have main (S' : St F) {Q : (Σ' (v72 : FVec F S256x512 .fp8e4m3) (v73 : FVec F S32x256 .f32) (v77 : FVec F S32x256 .f32) (v84 : Vec F S1x64 .f32) (v85 : BitVec 32), BitVec 32) → sProp 𝕄} (hx : Vec F S1x32x512 .bf16) (hq : Vec F S1x32x64 .bf16) :
      Sc arg1 arg0 fL fT iprop((Cst (c := c) arg12 arg13 arg14 arg8 arg2 arg9 I) ∗ (Stt (c := c) arg18 arg19 arg20 arg17 arg11) S' ∗ (Rg (c := c)) (slot n) fK fR)
      ⊢ iprop((Sc arg1 arg0 fL fT iprop((Cst (c := c) arg12 arg13 arg14 arg8 arg2 arg9 I) ∗ (Stt (c := c) arg18 arg19 arg20 arg17 arg11) S' ∗ (Rg (c := c)) (slot n) fK fR)
            -∗ Q ⟨k0_pay8 (vK (slot n) fK), k0_pay9 hx (vK (slot n) fK), k0_pay10 hq (vR (slot n) fR), I.scg (g 0), Scalar.muli (W k) 4#32, 1#32⟩)
        -∗ wp frame (wpE (defs₀ (F := F)) Variants.nat (c : Thread nD τ) bd) Set.univ (rest5b (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 (W n) (W b.val) (W k) w28 w29 hw20 hw19 hw10 hx hq) Q) := by
    unfold rest5b Cst Rg
    have hp := h.pages b.val (k * 4 + 0) b.isLt (by omega)
    iintro ⟨H1, H0, ⟨Hx, Hq, Hsc, Hcn, Hcs, Hkr⟩, HS, HK, HR⟩ Hk
    iapply (kv_load bd (slot n) fK (off3_eq (slot_idx hn)) _) $$ HK
    iintro HK
    iapply (rp_load bd (slot n) fR (off3_eq (slot_idx hn)) _) $$ HR
    iintro HR
    iapply (wp_smem bd arg0 _ _ _ fT _ _ (h.hT (W b.val) (W k) b.val k 0 rfl rfl b.isLt hk (by omega) _)) $$ H0
    iintro H0
    iapply (wp_assumed bd _ (sc_inb hp) _)
    iapply (Hv_load' bd arg14 I.sc (off2_eq ((idx_word (Nat.lt_trans hp (by norm_num))).trans (hg 0))) (inb_sc (g 0)) _ (I.scg (g 0)) rfl) $$ Hsc
    iintro Hsc
    rw [show ∀ x, (pure x : Prog (TpuEff nD τ sig (Elt F) (Λ₀ F) .tc) (Σ' (v72 : FVec F S256x512 .fp8e4m3) (v73 : FVec F S32x256 .f32) (v77 : FVec F S32x256 .f32) (v84 : Vec F S1x64 .f32) (v85 : BitVec 32), BitVec 32)) = Prog.ret x from fun _ => rfl, wp_ret]
    imodintro
    iapply Hk
    isplitl [H1]; · iexact H1
    isplitl [H0]; · iexact H0
    isplitl [Hx Hq Hsc Hcn Hcs Hkr]
    · isplitl [Hx]; · iexact Hx
      isplitl [Hq]; · iexact Hq
      isplitl [Hsc]; · iexact Hsc
      isplitl [Hcn]; · iexact Hcn
      isplitl [Hcs]; · iexact Hcs
      iexact Hkr
    isplitl [HS]; · iexact HS
    isplitl [HK]; · iexact HK
    iexact HR
  rw [rest5_eq]
  unfold Cst
  iintro ⟨H1, H0, ⟨Hx, Hq, Hsc, Hcn, Hcs, Hkr⟩, HS, HG⟩ Hk
  iapply (Hv_load' bd arg12 I.x (off3_eq hb) (inb_x b) _ (I.xb b) rfl) $$ Hx
  iintro Hx
  iapply (Hv_load' bd arg13 I.q (off3_eq hb) (inb_q b) _ (I.qb b) rfl) $$ Hq
  iintro Hq
  by_cases h0 : k = 0
  · rw [dif_pos ((cond10_iff hk).mpr h0), wp_bind]
    iapply (part2_wp bd I n b k w28 w29 hw19 ((cond10_iff hk).mpr h0) S) $$ [Hx Hq Hsc Hcn Hcs Hkr HS]
    · unfold Cst
      isplitr [HS]
      · isplitl [Hx]; · iexact Hx
        isplitl [Hq]; · iexact Hq
        isplitl [Hsc]; · iexact Hsc
        isplitl [Hcn]; · iexact Hcn
        isplitl [Hcs]; · iexact Hcs
        iexact Hkr
      iexact HS
    unfold Stt
    iintro ⟨HC, ⟨Hm, Hl, Ha, Ho, Hs⟩⟩
    iapply (Hv_load_full bd arg20 S.a _) $$ Ha
    iintro Ha
    iapply (Hv_store_full bd arg20 S.a _) $$ Ha
    iintro Ha
    iapply (main (start I b k S) (I.xb b) (I.qb b)) $$ [H1 H0 HC Hm Hl Ha Ho Hs HG]
    · unfold Stt start
      rw [if_pos h0]
      isplitl [H1]; · iexact H1
      isplitl [H0]; · iexact H0
      isplitl [HC]; · iexact HC
      isplitr [HG]
      · isplitl [Hm]; · iexact Hm
        isplitl [Hl]; · iexact Hl
        isplitl [Ha]; · iexact Ha
        isplitl [Ho]; · iexact Ho
        iexact Hs
      iexact HG
    unfold Stt
    iexact Hk
  · rw [dif_neg (fun h' => h0 ((cond10_iff hk).mp h'))]
    iapply (main S (I.xb b) (I.qb b)) $$ [H1 H0 Hx Hq Hsc Hcn Hcs Hkr HS HG]
    · unfold Cst
      isplitl [H1]; · iexact H1
      isplitl [H0]; · iexact H0
      isplitr [HS HG]
      · isplitl [Hx]; · iexact Hx
        isplitl [Hq]; · iexact Hq
        isplitl [Hsc]; · iexact Hsc
        isplitl [Hcn]; · iexact Hcn
        isplitl [Hcs]; · iexact Hcs
        iexact Hkr
      isplitl [HS]; · iexact HS
      iexact HG
    unfold Cst start
    rw [if_neg h0]
    iexact Hk

end

end Cert.KernelIdeal.Hand

end
-- ==== Proof.KI.Compute2.lean ====
/-
  What folding a chunk into the running state does, operation by operation.
-/
module

public import proofs.«01_k».proof.Proof.KI.Compute

@[expose] public section

set_option maxRecDepth 16384

noncomputable section

namespace Cert.KernelIdeal.Hand

open Cert.KernelIdeal Cert.KernelIdeal.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The end of a chunk's computation: the last chunk of a sequence writes its results. -/
def part7b (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 arg28 : BitVec 32) (v158 : BitVec 32) (k0_hw25 : k0_chk25 arg26 arg27 v158) : Prog (TpuEff nD τ sig (Elt F) (Λ₀ F) .tc) (Σ' (v164 : BitVec 32), BitVec 1) :=
  if k0_h11 : k0_cond11 arg27 v158 = 1#1 then
    (Prog.lift (.load arg19 (Rect.unit (s := S32x128) ![0, 0] S32x128.size inb_S32x128_S32x128_0_0).toLoadRect (View.loadsAt_vmem h_S32x128)) : Prog (TpuEff nD τ sig (Elt F) (Λ₀ F) .tc) (Vec F S32x128 .f32)) >>= fun v191 =>
    (Prog.lift (.load arg20 (Rect.unit (s := S32x512) ![0, 0] S32x512.size inb_S32x512_S32x512_0_0).toLoadRect (View.loadsAt_vmem h_S32x512)) : Prog (TpuEff nD τ sig (Elt F) (Λ₀ F) .tc) (Vec F S32x512 .f32)) >>= fun v192 =>
    (Prog.lift (.load arg17 (Rect.unit (s := S64x32x512) (k0_off83 arg26) S1x32x512.size (k0_off83_inb arg26 arg27 v158 k0_hw25 k0_h11)).toLoadRect (View.loadsAt_vmem h_S1x32x512)) : Prog (TpuEff nD τ sig (Elt F) (Λ₀ F) .tc) (Vec F S1x32x512 .bf16)) >>= fun v197 =>
    Prog.lift (.store arg17 (Rect.unit (s := S64x32x512) (k0_off83 arg26) S1x32x512.size (k0_off83_inb arg26 arg27 v158 k0_hw25 k0_h11)) (k0_pay20 v191 v192) Finset.univ (View.stores_vmem h_S1x32x512 (harg17.storeExact_slice rfl _ (k0_off83_packedbf16 arg26 arg27 v158 k0_hw25 k0_h11)) (fun _ => rfl)) (.inl rfl)) >>= fun _ =>
    (Prog.lift (.load arg18 (Rect.unit (s := S32x128) ![0, 0] S32x128.size inb_S32x128_S32x128_0_0).toLoadRect (View.loadsAt_vmem h_S32x128)) : Prog (TpuEff nD τ sig (Elt F) (Λ₀ F) .tc) (Vec F S32x128 .f32)) >>= fun v200 =>
    (Prog.lift (.load arg11 (Rect.unit (s := S64x1x32) (k0_off84 arg26) S1x1x32.size (k0_off84_inb arg26 arg27 v158 k0_hw25 k0_h11)).toLoadRect (View.loadsAt_vmem h_S1x1x32)) : Prog (TpuEff nD τ sig (Elt F) (Λ₀ F) .tc) (Vec F S1x1x32 .f32)) >>= fun v207 =>
    Prog.lift (.store arg11 (Rect.unit (s := S64x1x32) (k0_off84 arg26) S1x1x32.size (k0_off84_inb arg26 arg27 v158 k0_hw25 k0_h11)) (k0_pay21 v191 v200) Finset.univ (View.stores_vmem_bits_univ h_S1x1x32 rfl) (.inl rfl)) >>= fun _ =>
    pure ⟨Scalar.addi arg25 32#32, Scalar.cmpi .slt arg28 64#32⟩
  else pure ⟨Scalar.addi arg25 32#32, Scalar.cmpi .slt arg28 64#32⟩

theorem part7_eq (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 : BitVec 32) (arg26 : BitVec 32) (arg27 : BitVec 32) (arg28 : BitVec 32) (arg29 : BitVec 32) (k0_hw10 : k0_chk10 arg26) (v72 : FVec F S256x512 .fp8e4m3) (v106 : FVec F S1x256 .f32) (v121 : FVec F S32x256 .f32) (v126 : FVec F S32x128 .f32) (v128 : FVec F S32x128 .f32) (v129 : FVec F S32x256 .f32) :
    k0_part7 (F := F) arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw10 v72 v106 v121 v126 v128 v129 = ((
    (Prog.lift (.load arg19 (Rect.unit (s := S32x128) ![0, 0] S32x128.size inb_S32x128_S32x128_0_0).toLoadRect (View.loadsAt_vmem h_S32x128)) : Prog (TpuEff nD τ sig (Elt F) (Λ₀ F) .tc) (Vec F S32x128 .f32)) >>= fun v132 =>
    (Prog.lift (.load arg19 (Rect.unit (s := S32x128) ![0, 0] S32x128.size inb_S32x128_S32x128_0_0).toLoadRect (View.loadsAt_vmem h_S32x128)) : Prog (TpuEff nD τ sig (Elt F) (Λ₀ F) .tc) (Vec F S32x128 .f32)) >>= fun v138 =>
    Prog.lift (.store arg19 (Rect.unit (s := S32x128) ![0, 0] S32x128.size inb_S32x128_S32x128_0_0) (k0_pay17 v121 v128 v129 v132) Finset.univ (View.stores_vmem_bits_univ h_S32x128 rfl) (.inl rfl)) >>= fun _ =>
    (Prog.lift (.load arg18 (Rect.unit (s := S32x128) ![0, 0] S32x128.size inb_S32x128_S32x128_0_0).toLoadRect (View.loadsAt_vmem h_S32x128)) : Prog (TpuEff nD τ sig (Elt F) (Λ₀ F) .tc) (Vec F S32x128 .f32)) >>= fun v141 =>
    Prog.lift (.store arg18 (Rect.unit (s := S32x128) ![0, 0] S32x128.size inb_S32x128_S32x128_0_0) (k0_pay18 v126) Finset.univ (View.stores_vmem_bits_univ h_S32x128 rfl) (.inl rfl)) >>= fun _ =>
    (Prog.lift (.load arg20 (Rect.unit (s := S32x512) ![0, 0] S32x512.size inb_S32x512_S32x512_0_0).toLoadRect (View.loadsAt_vmem h_S32x512)) : Prog (TpuEff nD τ sig (Elt F) (Λ₀ F) .tc) (Vec F S32x512 .f32)) >>= fun v148 =>
    (Prog.lift (.load arg20 (Rect.unit (s := S32x512) ![0, 0] S32x512.size inb_S32x512_S32x512_0_0).toLoadRect (View.loadsAt_vmem h_S32x512)) : Prog (TpuEff nD τ sig (Elt F) (Λ₀ F) .tc) (Vec F S32x512 .f32)) >>= fun v152 =>
    Prog.lift (.store arg20 (Rect.unit (s := S32x512) ![0, 0] S32x512.size inb_S32x512_S32x512_0_0) (k0_pay19 v72 v106 v121 v128 v129 v148) Finset.univ (View.stores_vmem_bits_univ h_S32x512 rfl) (.inl rfl)) >>= fun _ =>
    (smemLoad arg1 (Rect.unit (s := S64) (k0_off82 arg26) S1.size (k0_off82_inb arg26 k0_hw10)) numel1_S1 rfl : Prog (TpuEff nD τ sig (Elt F) (Λ₀ F) .tc) (Elt F .i32)) >>= fun v158 =>
    Prog.lift (TpuEff.assume (k0_chk25 arg26 arg27 v158) (k0_chk25.dec arg26 arg27 v158)) >>= fun k0_hw =>
    part7b arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 v158 k0_hw.down) : Prog (TpuEff nD τ sig (Elt F) (Λ₀ F) .tc) (Σ' (v164 : BitVec 32), BitVec 1)) := rfl

variable {c : Dev nD} (e : Env F c) (bd : Option Variants.nat.V)

theorem off83_packed (b : Fin 64) (i : ∀ a, (![b.val, 0, 0] : Fin 3 → ℕ) a + S1x32x512.size a ≤ S64x32x512.size a) :
    (Rect.unit (s := S64x32x512) ![b.val, 0, 0] S1x32x512.size i).PackedRows (EltTy.packing .bf16) :=
  Or.inr ⟨Nat.le_succ 2, rfl, Or.inl ⟨show 2 ∣ 0 from ⟨0, rfl⟩, show 2 ∣ 32 from ⟨16, rfl⟩⟩⟩

theorem chk25 (b : Fin 64) (k v : BitVec 32) : k0_chk25 (W b.val) k v := by
  have hb : (Scalar.indexCast (W b.val)).toNat = b.val := W_idx (by have := b.isLt; omega)
  have h3 : k0_off83 (W b.val) = ![b.val, 0, 0] := off3_eq hb
  have h4 : k0_off84 (W b.val) = ![b.val, 0, 0] := off3_eq hb
  unfold k0_chk25
  rw [h3, h4]
  exact ⟨fun _ => fun a => inb_x b a, fun _ i => off83_packed b i, fun _ => inb_ls b⟩

section
variable {arg1 : Mref .smem S64 .i32} {harg1 : arg1.IsWhole} {arg0 : Mref .smem S64x32 .i32} {harg0 : arg0.IsWhole} {harg15 : (Memref.whole cc0_scratch3).IsWhole} {harg5 : (Memref.whole main_arg2).IsWhole} {harg16 : (Memref.whole cc0_scratch4).IsWhole} {harg7 : (Memref.whole main_arg4).IsWhole} {arg12 : Mref .vmem S64x32x512 .bf16} {harg12 : arg12.IsWhole} {arg13 : Mref .vmem S64x32x64 .bf16} {harg13 : arg13.IsWhole} {arg8 : Mref .vmem S64x1x512 .fp8e4m3} {harg8 : arg8.IsWhole} {arg2 : Mref .smem S64x1 .f32} {harg2 : arg2.IsWhole} {arg9 : Mref .vmem S64x1x64 .bf16} {harg9 : arg9.IsWhole} {arg18 : Mref .vmem S32x128 .f32} {harg18 : arg18.IsWhole} {arg19 : Mref .vmem S32x128 .f32} {harg19 : arg19.IsWhole} {arg20 : Mref .vmem S32x512 .f32} {harg20 : arg20.IsWhole} {arg14 : Mref .vmem S2560x64 .f32} {harg14 : arg14.IsWhole} {arg17 : Mref .vmem S64x32x512 .bf16} {harg17 : arg17.IsWhole} {arg11 : Mref .vmem S64x1x32 .f32} {harg11 : arg11.IsWhole}
variable {fL : Buf (Elt F) (arg1.view.loc (c : Thread nD τ))} {fT : Buf (Elt F) (arg0.view.loc (c : Thread nD τ))}
  (h : e.Reads arg1 arg0 fL fT) (I : Ins F)

theorem lastIndex (b : Fin 64) : Scalar.minsi (W b.val) 63#32 = W b.val := by
  have hb := b.isLt
  apply BitVec.eq_of_toNat_eq
  have e : (Scalar.minsi (W b.val) 63#32).toNat = min b.val 63 := min63_toNat (by omega)
  rw [e, W_toNat (by omega)]; omega

set_option maxHeartbeats 4000000 in
include h in
/-- The three further page scales, the sequence's length and the running maximum read, and the payloads of them. -/
theorem part6_wp (b : Fin 64) (k : ℕ) (hk : k ≤ 7) (w25 w28 w29 : BitVec 32) (hw19 : k0_chk19 (W b.val) (W k)) (hw10 : k0_chk10 (W b.val)) (S : St F)
    (g : Fin 4 → Fin 2560) (hg : ∀ p : Fin 4, (e.PT b.val (k * 4 + p.val)).toNat = (g p).val)
    (v73 v77 : FVec F S32x256 .f32) (v84 : Vec F S1x64 .f32) (v85 v1 : BitVec 32) {R : sProp 𝕄} {Q : (Σ' (v106 : FVec F S1x256 .f32) (v121 : FVec F S32x256 .f32) (v126 : FVec F S32x128 .f32) (v128 : FVec F S32x128 .f32), FVec F S32x256 .f32) → sProp 𝕄} :
    Sc arg1 arg0 fL fT iprop((Cst (c := c) arg12 arg13 arg14 arg8 arg2 arg9 I) ∗ (Stt (c := c) arg18 arg19 arg20 arg17 arg11) S ∗ R)
      ⊢ iprop((Sc arg1 arg0 fL fT iprop((Cst (c := c) arg12 arg13 arg14 arg8 arg2 arg9 I) ∗ (Stt (c := c) arg18 arg19 arg20 arg17 arg11) S ∗ R)
            -∗ Q ⟨k0_pay11 v84 (I.scg (g 1)) (I.scg (g 2)) (I.scg (g 3)), k0_pay12 (W k) v73 v77 v84 (I.scg (g 1)) (I.scg (g 2)) (I.scg (g 3)) (e.L b.val),
                k0_pay13 (W k) v73 v77 v84 (I.scg (g 1)) (I.scg (g 2)) (I.scg (g 3)) (e.L b.val) S.m, k0_pay14 (W k) v73 v77 v84 (I.scg (g 1)) (I.scg (g 2)) (I.scg (g 3)) (e.L b.val) S.m,
                k0_pay15 (W k) v73 v77 v84 (I.scg (g 1)) (I.scg (g 2)) (I.scg (g 3)) (e.L b.val) S.m⟩)
        -∗ wp frame (wpE (defs₀ (F := F)) Variants.nat (c : Thread nD τ) bd) Set.univ (k0_part6 (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 w25 (W b.val) (W k) w28 w29 hw19 hw10 v73 v77 v84 v85 v1) Q) := by
  rw [k0_part6_eq_skeleton]
  unfold k0_part6_skel Cst Stt
  have hp (p : ℕ) (hp : p < 4) := h.pages b.val (k * 4 + p) b.isLt (by omega)
  iintro ⟨H1, H0, ⟨Hx, Hq, Hsc, Hcn, Hcs, Hkr⟩, ⟨Hm, Hl, Ha, Ho, Hs⟩, HR⟩ Hk
  iapply (wp_smem bd arg0 _ _ _ fT _ _ (h.hT (W b.val) (W k) b.val k 1 rfl rfl b.isLt hk (by omega) _)) $$ H0
  iintro H0
  iapply (wp_assumed bd _ (sc_inb (hp 1 (by omega))) _)
  iapply (Hv_load' bd arg14 I.sc (off2_eq ((idx_word (Nat.lt_trans (hp 1 (by omega)) (by norm_num))).trans (hg 1))) (inb_sc (g 1)) _ (I.scg (g 1)) rfl) $$ Hsc
  iintro Hsc
  iapply (wp_smem bd arg0 _ _ _ fT _ _ (h.hT (W b.val) (W k) b.val k 2 rfl rfl b.isLt hk (by omega) _)) $$ H0
  iintro H0
  iapply (wp_assumed bd _ (sc_inb (hp 2 (by omega))) _)
  iapply (Hv_load' bd arg14 I.sc (off2_eq ((idx_word (Nat.lt_trans (hp 2 (by omega)) (by norm_num))).trans (hg 2))) (inb_sc (g 2)) _ (I.scg (g 2)) rfl) $$ Hsc
  iintro Hsc
  iapply (wp_smem bd arg0 _ _ _ fT _ _ (h.hT (W b.val) (W k) b.val k 3 rfl rfl b.isLt hk (by omega) _)) $$ H0
  iintro H0
  iapply (wp_assumed bd _ (sc_inb (hp 3 (by omega))) _)
  iapply (Hv_load' bd arg14 I.sc (off2_eq ((idx_word (Nat.lt_trans (hp 3 (by omega)) (by norm_num))).trans (hg 3))) (inb_sc (g 3)) _ (I.scg (g 3)) rfl) $$ Hsc
  iintro Hsc
  iapply (wp_smem bd arg1 _ _ _ fL _ _ (h.hL (W b.val) b.val rfl b.isLt _)) $$ H1
  iintro H1
  iapply (Hv_load_full bd arg18 S.m _) $$ Hm
  iintro Hm
  rw [show ∀ x, (pure x : Prog (TpuEff nD τ sig (Elt F) (Λ₀ F) .tc) (Σ' (v106 : FVec F S1x256 .f32) (v121 : FVec F S32x256 .f32) (v126 : FVec F S32x128 .f32) (v128 : FVec F S32x128 .f32), FVec F S32x256 .f32)) = Prog.ret x from fun _ => rfl, wp_ret]
  imodintro
  iapply Hk
  isplitl [H1]; · iexact H1
  isplitl [H0]; · iexact H0
  isplitr [Hm Hl Ha Ho Hs HR]
  · isplitl [Hx]; · iexact Hx
    isplitl [Hq]; · iexact Hq
    isplitl [Hsc]; · iexact Hsc
    isplitl [Hcn]; · iexact Hcn
    isplitl [Hcs]; · iexact Hcs
    iexact Hkr
  isplitr [HR]
  · isplitl [Hm]; · iexact Hm
    isplitl [Hl]; · iexact Hl
    isplitl [Ha]; · iexact Ha
    isplitl [Ho]; · iexact Ho
    iexact Hs
  iexact HR

set_option maxHeartbeats 4000000 in
include h in
/-- The state after the chunk. -/
theorem part7_wp (b : Fin 64) (k : ℕ) (w25 w28 w29 : BitVec 32) (hw10 : k0_chk10 (W b.val)) (S : St F)
    (v72 : FVec F S256x512 .fp8e4m3) (v106 : FVec F S1x256 .f32) (v121 : FVec F S32x256 .f32) (v126 v128 : FVec F S32x128 .f32) (v129 : FVec F S32x256 .f32) {R : sProp 𝕄} {Q : (Σ' (v164 : BitVec 32), BitVec 1) → sProp 𝕄} :
    Sc arg1 arg0 fL fT iprop((Cst (c := c) arg12 arg13 arg14 arg8 arg2 arg9 I) ∗ (Stt (c := c) arg18 arg19 arg20 arg17 arg11) S ∗ R)
      ⊢ iprop((Sc arg1 arg0 fL fT iprop((Cst (c := c) arg12 arg13 arg14 arg8 arg2 arg9 I) ∗ (Stt (c := c) arg18 arg19 arg20 arg17 arg11) (finish b k (e.L b.val) { S with m := k0_pay18 v126, l := k0_pay17 v121 v128 v129 S.l, a := k0_pay19 v72 v106 v121 v128 v129 S.a }) ∗ R)
            -∗ Q ⟨Scalar.addi w25 32#32, Scalar.cmpi .slt w28 64#32⟩)
        -∗ wp frame (wpE (defs₀ (F := F)) Variants.nat (c : Thread nD τ) bd) Set.univ (k0_part7 (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 w25 (W b.val) (W k) w28 w29 hw10 v72 v106 v121 v126 v128 v129) Q) := by
  have hb : (Scalar.indexCast (W b.val)).toNat = b.val := W_idx (by have := b.isLt; omega)
  have h3 : k0_off83 (W b.val) = ![b.val, 0, 0] := off3_eq hb
  have h4 : k0_off84 (W b.val) = ![b.val, 0, 0] := off3_eq hb
  rw [part7_eq]
  unfold Stt
  iintro ⟨H1, H0, HC, ⟨Hm, Hl, Ha, Ho, Hs⟩, HR⟩ Hk
  iapply (Hv_load_full bd arg19 S.l _) $$ Hl
  iintro Hl
  iapply (Hv_load_full bd arg19 S.l _) $$ Hl
  iintro Hl
  iapply (Hv_store_full bd arg19 S.l _) $$ Hl
  iintro Hl
  iapply (Hv_load_full bd arg18 S.m _) $$ Hm
  iintro Hm
  iapply (Hv_store_full bd arg18 S.m _) $$ Hm
  iintro Hm
  iapply (Hv_load_full bd arg20 S.a _) $$ Ha
  iintro Ha
  iapply (Hv_load_full bd arg20 S.a _) $$ Ha
  iintro Ha
  iapply (Hv_store_full bd arg20 S.a _) $$ Ha
  iintro Ha
  iapply (wp_smem bd arg1 _ _ _ fL _ _ (h.hL (Scalar.minsi (W b.val) 63#32) b.val (lastIndex b) b.isLt _)) $$ H1
  iintro H1
  iapply (wp_assumed bd _ (chk25 b (W k) (e.L b.val)) _)
  unfold part7b finish
  by_cases hl : k0_cond11 (W k) (e.L b.val) = 1#1
  · rw [dif_pos hl, if_pos hl]
    iapply (Hv_load_full bd arg19 _ _) $$ Hl
    iintro Hl
    iapply (Hv_load_full bd arg20 _ _) $$ Ha
    iintro Ha
    iapply (Hv_load bd arg17 S.o h3 (inb_x b) _) $$ Ho
    iintro Ho
    iapply (Hv_store bd arg17 S.o h3 _) $$ Ho
    iintro Ho
    iapply (Hv_load_full bd arg18 _ _) $$ Hm
    iintro Hm
    iapply (Hv_load bd arg11 S.s h4 (inb_ls b) _) $$ Hs
    iintro Hs
    iapply (Hv_store bd arg11 S.s h4 _) $$ Hs
    iintro Hs
    rw [show ∀ x, (pure x : Prog (TpuEff nD τ sig (Elt F) (Λ₀ F) .tc) (Σ' (v164 : BitVec 32), BitVec 1)) = Prog.ret x from fun _ => rfl, wp_ret]
    imodintro
    iapply Hk
    isplitl [H1]; · iexact H1
    isplitl [H0]; · iexact H0
    isplitl [HC]; · iexact HC
    isplitr [HR]
    · isplitl [Hm]; · iexact Hm
      isplitl [Hl]; · iexact Hl
      isplitl [Ha]; · iexact Ha
      isplitl [Ho]; · iexact Ho
      iexact Hs
    iexact HR
  · rw [dif_neg hl, if_neg hl]
    rw [show ∀ x, (pure x : Prog (TpuEff nD τ sig (Elt F) (Λ₀ F) .tc) (Σ' (v164 : BitVec 32), BitVec 1)) = Prog.ret x from fun _ => rfl, wp_ret]
    imodintro
    iapply Hk
    isplitl [H1]; · iexact H1
    isplitl [H0]; · iexact H0
    isplitl [HC]; · iexact HC
    isplitr [HR]
    · isplitl [Hm]; · iexact Hm
      isplitl [Hl]; · iexact Hl
      isplitl [Ha]; · iexact Ha
      isplitl [Ho]; · iexact Ho
      iexact Hs
    iexact HR

end

end Cert.KernelIdeal.Hand

end
-- ==== Proof.KI.Checks.lean ====
/-
  The side conditions of every site, from the state words being small numbers.
-/
module

public import proofs.«01_k».proof.Proof.KI.Compute2

@[expose] public section

set_option maxRecDepth 16384

noncomputable section

namespace Cert.KernelIdeal.Hand

open Cert.KernelIdeal Cert.KernelIdeal.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

theorem minW (m : ℕ) (hm : m < 2 ^ 20) : Scalar.minsi (W m) 63#32 = W (min m 63) := by
  apply BitVec.eq_of_toNat_eq
  have e : (Scalar.minsi (W m) 63#32).toNat = min m 63 := min63_toNat (by omega)
  rw [e, W_toNat (by omega)]

/-! ## The sites' -/

section
variable {it b k : BitVec 32} {n m j : ℕ} (eit : it = W n) (hn : n < 2 ^ 20) (eb : b = W m) (h : m < 64) (ek : k = W j) (hj : j ≤ 7)

include eit hn eb h ek hj in
theorem wA0 (v : BitVec 32) : k0_chk11 it b k v := ⟨fun _ => tOff_inb eb ek h hj 0 (by omega), fun _ => sem_inb eit hn, fun _ => kD_inb eit hn 0 (by omega), fun _ i => kD_words (p := 0) i, fun _ => sem_inb eit hn, fun _ => rD_inb eit hn 0 (by omega), fun _ i => rD_words (p := 0) i⟩
theorem wB0 (v w : BitVec 32) (hw : w.toNat < 2560) : k0_chk12 it k v w := ⟨fun _ => kS_inb hw, fun _ i => kS_words i, fun _ => rS_inb hw, fun _ i => rS_words i⟩
include eit hn eb h ek hj in
theorem wA1 (v : BitVec 32) : k0_chk13 it b k v := ⟨fun _ => tOff_inb eb ek h hj 1 (by omega), fun _ => sem_inb eit hn, fun _ => kD_inb eit hn 1 (by omega), fun _ i => kD_words (p := 1) i, fun _ => sem_inb eit hn, fun _ => rD_inb eit hn 1 (by omega), fun _ i => rD_words (p := 1) i⟩
theorem wB1 (v w : BitVec 32) (hw : w.toNat < 2560) : k0_chk14 it k v w := ⟨fun _ => kS_inb hw, fun _ i => kS_words i, fun _ => rS_inb hw, fun _ i => rS_words i⟩
include eit hn eb h ek hj in
theorem wA2 (v : BitVec 32) : k0_chk15 it b k v := ⟨fun _ => tOff_inb eb ek h hj 2 (by omega), fun _ => sem_inb eit hn, fun _ => kD_inb eit hn 2 (by omega), fun _ i => kD_words (p := 2) i, fun _ => sem_inb eit hn, fun _ => rD_inb eit hn 2 (by omega), fun _ i => rD_words (p := 2) i⟩
theorem wB2 (v w : BitVec 32) (hw : w.toNat < 2560) : k0_chk16 it k v w := ⟨fun _ => kS_inb hw, fun _ i => kS_words i, fun _ => rS_inb hw, fun _ i => rS_words i⟩
include eit hn eb h ek hj in
theorem wA3 (v : BitVec 32) : k0_chk17 it b k v := ⟨fun _ => tOff_inb eb ek h hj 3 (by omega), fun _ => sem_inb eit hn, fun _ => kD_inb eit hn 3 (by omega), fun _ i => kD_words (p := 3) i, fun _ => sem_inb eit hn, fun _ => rD_inb eit hn 3 (by omega), fun _ i => rD_words (p := 3) i⟩
theorem wB3 (v w : BitVec 32) (hw : w.toNat < 2560) : k0_chk18 it k v w := ⟨fun _ => kS_inb hw, fun _ i => kS_words i, fun _ => rS_inb hw, fun _ i => rS_words i⟩
end

section
variable {it b k : BitVec 32} {n m j : ℕ} (eit : Scalar.addi it 32#32 = W n) (hn : n < 2 ^ 20) (eb : b = W m) (h : m < 64) (ek : k = W j) (hj : j ≤ 7)

include eit hn eb h ek hj in
theorem fA0 (v : BitVec 32) : k0_chk27 it b k v := ⟨fun _ _ => tOff_inb eb ek h hj 0 (by omega), fun _ _ => sem_inb eit hn, fun _ _ => kD_inb eit hn 0 (by omega), fun _ _ i => kD_words (p := 0) i, fun _ _ => sem_inb eit hn, fun _ _ => rD_inb eit hn 0 (by omega), fun _ _ i => rD_words (p := 0) i⟩
theorem fB0 (v w : BitVec 32) (hw : w.toNat < 2560) : k0_chk28 it b k v w := ⟨fun _ _ => kS_inb hw, fun _ _ i => kS_words i, fun _ _ => rS_inb hw, fun _ _ i => rS_words i⟩
include eit hn eb h ek hj in
theorem fA1 (v : BitVec 32) : k0_chk29 it b k v := ⟨fun _ _ => tOff_inb eb ek h hj 1 (by omega), fun _ _ => sem_inb eit hn, fun _ _ => kD_inb eit hn 1 (by omega), fun _ _ i => kD_words (p := 1) i, fun _ _ => sem_inb eit hn, fun _ _ => rD_inb eit hn 1 (by omega), fun _ _ i => rD_words (p := 1) i⟩
theorem fB1 (v w : BitVec 32) (hw : w.toNat < 2560) : k0_chk30 it b k v w := ⟨fun _ _ => kS_inb hw, fun _ _ i => kS_words i, fun _ _ => rS_inb hw, fun _ _ i => rS_words i⟩
include eit hn eb h ek hj in
theorem fA2 (v : BitVec 32) : k0_chk31 it b k v := ⟨fun _ _ => tOff_inb eb ek h hj 2 (by omega), fun _ _ => sem_inb eit hn, fun _ _ => kD_inb eit hn 2 (by omega), fun _ _ i => kD_words (p := 2) i, fun _ _ => sem_inb eit hn, fun _ _ => rD_inb eit hn 2 (by omega), fun _ _ i => rD_words (p := 2) i⟩
theorem fB2 (v w : BitVec 32) (hw : w.toNat < 2560) : k0_chk32 it b k v w := ⟨fun _ _ => kS_inb hw, fun _ _ i => kS_words i, fun _ _ => rS_inb hw, fun _ _ i => rS_words i⟩
include eit hn eb h ek hj in
theorem fA3 (v : BitVec 32) : k0_chk33 it b k v := ⟨fun _ _ => tOff_inb eb ek h hj 3 (by omega), fun _ _ => sem_inb eit hn, fun _ _ => kD_inb eit hn 3 (by omega), fun _ _ i => kD_words (p := 3) i, fun _ _ => sem_inb eit hn, fun _ _ => rD_inb eit hn 3 (by omega), fun _ _ i => rD_words (p := 3) i⟩
theorem fB3 (v w : BitVec 32) (hw : w.toNat < 2560) : k0_chk34 it b k v w := ⟨fun _ _ => kS_inb hw, fun _ _ i => kS_words i, fun _ _ => rS_inb hw, fun _ _ i => rS_words i⟩
include eb h ek hj in
theorem pA0 (t : Fin k0_t1_loop.trips) (v : BitVec 32) : k0_chk2 t b k v := fun _ _ => tOff_inb eb ek h hj 0 (by omega)
theorem pB0 (t : Fin k0_t1_loop.trips) (v w : BitVec 32) (hw : w.toNat < 2560) : k0_chk3 t b k v w := ⟨fun _ _ => kS_inb hw, fun _ _ i => kS_words i, fun _ _ => rS_inb hw, fun _ _ i => rS_words i⟩
include eb h ek hj in
theorem pA1 (t : Fin k0_t1_loop.trips) (v : BitVec 32) : k0_chk4 t b k v := fun _ _ => tOff_inb eb ek h hj 1 (by omega)
theorem pB1 (t : Fin k0_t1_loop.trips) (v w : BitVec 32) (hw : w.toNat < 2560) : k0_chk5 t b k v w := ⟨fun _ _ => kS_inb hw, fun _ _ i => kS_words i, fun _ _ => rS_inb hw, fun _ _ i => rS_words i⟩
include eb h ek hj in
theorem pA2 (t : Fin k0_t1_loop.trips) (v : BitVec 32) : k0_chk6 t b k v := fun _ _ => tOff_inb eb ek h hj 2 (by omega)
theorem pB2 (t : Fin k0_t1_loop.trips) (v w : BitVec 32) (hw : w.toNat < 2560) : k0_chk7 t b k v w := ⟨fun _ _ => kS_inb hw, fun _ _ i => kS_words i, fun _ _ => rS_inb hw, fun _ _ i => rS_words i⟩
include eb h ek hj in
theorem pA3 (t : Fin k0_t1_loop.trips) (v : BitVec 32) : k0_chk8 t b k v := fun _ _ => tOff_inb eb ek h hj 3 (by omega)
theorem pB3 (t : Fin k0_t1_loop.trips) (v w : BitVec 32) (hw : w.toNat < 2560) : k0_chk9 t b k v w := ⟨fun _ _ => kS_inb hw, fun _ _ i => kS_words i, fun _ _ => rS_inb hw, fun _ _ i => rS_words i⟩
end

/-! ## A trip's -/

theorem cond12_iff {m : ℕ} (hm : m < 2 ^ 20) : k0_cond12 (W m) = 1#1 ↔ m < 64 := by
  rw [← lt64_iff (by omega)]
  exact wide_iff _

theorem cond1_iff {m : ℕ} (hm : m < 2 ^ 20) : k0_cond1 (W m) = 1#1 ↔ m < 64 := cond12_iff hm

theorem lmin_inb {m : ℕ} (hm : m < 2 ^ 20) : ∀ a, lOff (Scalar.minsi (W m) 63#32) a + S1.size a ≤ S64.size a :=
  lOff_inb (minW m hm) (by omega)

theorem chk26 {m : ℕ} (hm : m < 2 ^ 20) : k0_chk26 (W m) :=
  ⟨fun h => lOff_inb rfl ((cond12_iff hm).mp h), fun h => lOff_inb rfl ((cond12_iff hm).mp h), fun h => lOff_inb rfl ((cond12_iff hm).mp h), fun h => lOff_inb rfl ((cond12_iff hm).mp h), lmin_inb hm⟩

theorem chk1 {m : ℕ} (hm : m < 2 ^ 20) : k0_chk1 (W m) :=
  ⟨fun h => lOff_inb rfl ((cond1_iff hm).mp h), fun h => lOff_inb rfl ((cond1_iff hm).mp h), fun h => lOff_inb rfl ((cond1_iff hm).mp h), fun h => lOff_inb rfl ((cond1_iff hm).mp h), lmin_inb hm⟩

theorem chk20 {n : ℕ} (hn : n < 2 ^ 20) : k0_chk20 (W n) := by
  have h1 : k0_off71 (W n) = ![(slot n).val, 0, 0] := off3_eq (slot_idx hn)
  have h2 : k0_off72 (W n) = ![(slot n).val, 0, 0] := off3_eq (slot_idx hn)
  unfold k0_chk20
  rw [h1, h2]
  exact ⟨inb_vk _, inb_vr _⟩

theorem chk10 (b : Fin 64) : k0_chk10 (W b.val) := by
  have hb : (Scalar.indexCast (W b.val)).toNat = b.val := W_idx (by have := b.isLt; omega)
  have h1 : k0_off66 (W b.val) = ![b.val, 0, 0] := off3_eq hb
  have h2 : k0_off67 (W b.val) = ![b.val, 0, 0] := off3_eq hb
  have hl := lOff_inb (b := W b.val) rfl b.isLt
  have hm := lmin_inb (m := b.val) (by have := b.isLt; omega)
  unfold k0_chk10
  rw [h1, h2]
  exact ⟨hl, hl, hl, hl, inb_x b, inb_q b, hl, hm, hm⟩

theorem chk19 (b : Fin 64) {k : ℕ} (hk : k ≤ 7) : k0_chk19 (W b.val) (W k) := by
  have hb : (Scalar.indexCast (W b.val)).toNat = b.val := W_idx (by have := b.isLt; omega)
  have h1 : k0_off68 (W b.val) = ![b.val, 0, 0] := off3_eq hb
  have h2 : k0_off69 (W b.val) = ![b.val, 0] := off2_eq hb
  have h3 : k0_off70 (W b.val) = ![b.val, 0, 0] := off3_eq hb
  have ht (p : ℕ) (hp : p < 4) := tOff_inb (b := W b.val) (k := W k) rfl rfl b.isLt hk p hp
  unfold k0_chk19
  rw [h1, h2, h3]
  exact ⟨fun _ => inb_cn b, fun _ => inb_cs b, fun _ => inb_kr b, ht 0 (by omega), ht 1 (by omega), ht 2 (by omega), ht 3 (by omega)⟩

end Cert.KernelIdeal.Hand

end
-- ==== Proof.KI.Trip.lean ====
/-
  One trip of the main loop: wait for the chunk's pages, fold them, start the pages of the chunk 32 ahead.
-/
module

public import proofs.«01_k».proof.Proof.KI.Checks
public import Idealize.SL.BI.BigOpNat

@[expose] public section

set_option maxRecDepth 16384

noncomputable section

namespace Cert.KernelIdeal.Hand

open Cert.KernelIdeal Cert.KernelIdeal.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable {c : Dev nD} (e : Env F c) (bd : Option Variants.nat.V)

/-- An update before a program. -/
theorem upd {α : Type} {Q : α → sProp 𝕄} {P R : sProp 𝕄} (p : Prog (TpuEff nD τ sig (Elt F) (Λ₀ F) .tc) α) (h : P ⊢ iprop(|={Set.univ}=> R : sProp 𝕄)) : P ⊢ iprop((R -∗ wp frame (wpE (defs₀ (F := F)) Variants.nat (c : Thread nD τ) bd) Set.univ p Q) -∗ wp frame (wpE (defs₀ (F := F)) Variants.nat (c : Thread nD τ) bd) Set.univ p Q) := by
  iintro HP Hk
  iapply (fupd_wp frame (wpE (defs₀ (F := F)) Variants.nat (c : Thread nD τ) bd) Set.univ _ _)
  imod h $$ HP with HR
  imodintro
  iapply Hk $$ HR

/-- What the ring holds of the `k`th chunk before its trip: its pages under way, or a free slot past the last chunk. -/
def Ready (k : ℕ) : sProp 𝕄 := if (sch e.L k).1 < 64 then Flying e k (cnt e.L k) 0 else Free e (slot k)

theorem slot_add (n : ℕ) : slot (n + 32) = slot n := Fin.ext (Nat.add_mod_right n 32)

section
variable {arg1 : Mref .smem S64 .i32} {harg1 : arg1.IsWhole} {arg0 : Mref .smem S64x32 .i32} {harg0 : arg0.IsWhole} {harg15 : (Memref.whole cc0_scratch3).IsWhole} {harg5 : (Memref.whole main_arg2).IsWhole} {harg16 : (Memref.whole cc0_scratch4).IsWhole} {harg7 : (Memref.whole main_arg4).IsWhole} {arg12 : Mref .vmem S64x32x512 .bf16} {harg12 : arg12.IsWhole} {arg13 : Mref .vmem S64x32x64 .bf16} {harg13 : arg13.IsWhole} {arg8 : Mref .vmem S64x1x512 .fp8e4m3} {harg8 : arg8.IsWhole} {arg2 : Mref .smem S64x1 .f32} {harg2 : arg2.IsWhole} {arg9 : Mref .vmem S64x1x64 .bf16} {harg9 : arg9.IsWhole} {arg18 : Mref .vmem S32x128 .f32} {harg18 : arg18.IsWhole} {arg19 : Mref .vmem S32x128 .f32} {harg19 : arg19.IsWhole} {arg20 : Mref .vmem S32x512 .f32} {harg20 : arg20.IsWhole} {arg14 : Mref .vmem S2560x64 .f32} {harg14 : arg14.IsWhole} {arg17 : Mref .vmem S64x32x512 .bf16} {harg17 : arg17.IsWhole} {arg11 : Mref .vmem S64x1x32 .f32} {harg11 : arg11.IsWhole}
variable {fL : Buf (Elt F) (arg1.view.loc (c : Thread nD τ))} {fT : Buf (Elt F) (arg0.view.loc (c : Thread nD τ))}
  (h : e.Reads arg1 arg0 fL fT) (I : Ins F)

/-- A free slot given to a later chunk. -/
theorem free_upd (n : ℕ) : Free e (slot n) ⊢ iprop(|={Set.univ}=> Flying e n (min 0 (cnt e.L n)) 0 : sProp 𝕄) := by
  rw [Nat.zero_min]; exact Free_flying e n

theorem min4 (n : ℕ) : min 4 (cnt e.L n) = cnt e.L n := Nat.min_eq_right (cnt_le _ _)

include h in
/-- The first three waits. -/
theorem part4_wp (n : ℕ) (hn : n < 2 ^ 20) (hb : (sch e.L n).1 < 64) (w28 w29 : BitVec 32) (h28 : k0_chk26 w28) {Q : (Σ' (_ : k0_chk26 w28) (_ : k0_chk20 (W n)) (_ : k0_chk19 (W (sch e.L n).1) (W (sch e.L n).2)) (_ : k0_chk10 (W (sch e.L n).1)) (v19 : BitVec 32), BitVec 32) → sProp 𝕄} :
    Sc arg1 arg0 fL fT iprop(Flying e n (cnt e.L n) 0 ∗ Ow c)
      ⊢ iprop((Sc arg1 arg0 fL fT iprop(Flying e n (cnt e.L n) (min 3 (cnt e.L n)) ∗ Ow c)
          -∗ Q ⟨h28, chk20 hn, chk19 ⟨_, hb⟩ (sch_c7 h.lens n), chk10 ⟨_, hb⟩, Scalar.remsi (W n) 32#32, 4#32⟩)
        -∗ wp frame (wpE (defs₀ (F := F)) Variants.nat (c : Thread nD τ) bd) Set.univ (part4' (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 (W n) (W (sch e.L n).1) (W (sch e.L n).2) w28 w29) Q) := by
  have hc7 : (sch e.L n).2 ≤ 7 := sch_c7 h.lens n
  unfold part4'
  iintro ⟨H1, H0, HF, HO⟩ Hk
  iapply (wp_assumed bd _ h28 _)
  iapply (wp_assumed bd _ (chk20 hn) _)
  iapply (wp_assumed bd _ (chk19 ⟨_, hb⟩ hc7) _)
  iapply (wp_assumed bd _ (chk10 ⟨_, hb⟩) _)
  unfold wait3
  ihave HF := (show Flying e n (cnt e.L n) 0 ⊢ Flying e n (cnt e.L n) (min 0 (cnt e.L n)) from by rw [Nat.zero_min]) $$ HF
  iapply (wait_site e bd h n hn hb 0 (by omega) rfl rfl rfl _ (wA0 rfl hn rfl hb rfl hc7) (wB0 (it := W n) (k := W (sch e.L n).2))) $$ [H1 H0 HF HO]
  · isplitl [H1]; · iexact H1
    isplitl [H0]; · iexact H0
    isplitl [HF]; · iexact HF
    iexact HO
  iintro ⟨H1, H0, HF, HO⟩
  iapply (wait_site e bd h n hn hb 1 (by omega) rfl rfl rfl _ (wA1 rfl hn rfl hb rfl hc7) (wB1 (it := W n) (k := W (sch e.L n).2))) $$ [H1 H0 HF HO]
  · isplitl [H1]; · iexact H1
    isplitl [H0]; · iexact H0
    isplitl [HF]; · iexact HF
    iexact HO
  iintro ⟨H1, H0, HF, HO⟩
  iapply (wait_site e bd h n hn hb 2 (by omega) rfl rfl rfl _ (wA2 rfl hn rfl hb rfl hc7) (wB2 (it := W n) (k := W (sch e.L n).2))) $$ [H1 H0 HF HO]
  · isplitl [H1]; · iexact H1
    isplitl [H0]; · iexact H0
    isplitl [HF]; · iexact HF
    iexact HO
  iintro ⟨H1, H0, HF, HO⟩
  rw [show ∀ x, (pure x : Prog (TpuEff nD τ sig (Elt F) (Λ₀ F) .tc) (Σ' (_ : k0_chk26 w28) (_ : k0_chk20 (W n)) (_ : k0_chk19 (W (sch e.L n).1) (W (sch e.L n).2)) (_ : k0_chk10 (W (sch e.L n).1)) (v19 : BitVec 32), BitVec 32)) = Prog.ret x from fun _ => rfl, wp_ret]
  imodintro
  iapply Hk
  isplitl [H1]; · iexact H1
  isplitl [H0]; · iexact H0
  isplitl [HF]; · iexact HF
  iexact HO

/-- A chunk's keys are what its pages hold. -/
def Agrees (n : ℕ) (fK : Buf (Elt F) ((Memref.whole cc0_scratch3).view.loc (c : Thread nD τ))) (fR : Buf (Elt F) ((Memref.whole cc0_scratch4).view.loc (c : Thread nD τ))) : Prop :=
  ∀ p : Fin 4, p.val < cnt e.L n → AgK e (slot n) p (e.pg n p.val) fK ∧ AgR e (slot n) p (e.pg n p.val) fR

include h in
/-- A trip up to the fetch: the state steps, the slot is free. -/
theorem trip_wp (n : ℕ) (hn : n < 2 ^ 20) (hb : (sch e.L n).1 < 64) (w28 w29 : BitVec 32) (h28 : k0_chk26 w28) (S : St F) {Q : (BitVec 32 × BitVec 32 × BitVec 32 × BitVec 32 × BitVec 32) → sProp 𝕄} :
    Sc arg1 arg0 fL fT iprop((Cst (c := c) arg12 arg13 arg14 arg8 arg2 arg9 I) ∗ (Stt (c := c) arg18 arg19 arg20 arg17 arg11) S ∗ Flying e n (cnt e.L n) 0 ∗ Ow c)
      ⊢ iprop((∀ fK fR, ⌜Agrees e n fK fR⌝ -∗ Sc arg1 arg0 fL fT iprop((Cst (c := c) arg12 arg13 arg14 arg8 arg2 arg9 I) ∗ (Stt (c := c) arg18 arg19 arg20 arg17 arg11) (step I ⟨_, hb⟩ (sch e.L n).2 (e.L (sch e.L n).1) (fun p => e.pg n p.val) (vK (slot n) fK) (vR (slot n) fR) S) ∗ Free e (slot n) ∗ Ow c)
          -∗ wp frame (wpE (defs₀ (F := F)) Variants.nat (c : Thread nD τ) bd) Set.univ (fetchTail (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 (W n) (W (sch e.L n).1) (W (sch e.L n).2) w28 w29 h28 (chk10 ⟨_, hb⟩)) Q)
        -∗ wp frame (wpE (defs₀ (F := F)) Variants.nat (c : Thread nD τ) bd) Set.univ (whileBody (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 (W n) (W (sch e.L n).1) (W (sch e.L n).2) w28 w29) Q) := by
  have hc7 : (sch e.L n).2 ≤ 7 := sch_c7 h.lens n
  have hg : ∀ p : Fin 4, (e.PT (sch e.L n).1 ((sch e.L n).2 * 4 + p.val)).toNat = (e.pg n p.val).val := fun p =>
    (Nat.mod_eq_of_lt (h.pages _ _ hb (by have := p.isLt; omega))).symm
  unfold whileBody
  rw [if_pos ((lt64_iff (by omega)).mpr hb)]
  iintro ⟨H1, H0, HC, HS, HF, HO⟩ Hk
  rw [wp_bind]
  iapply (part4_wp e bd h n hn hb w28 w29 h28) $$ [H1 H0 HF HO]
  · isplitl [H1]; · iexact H1
    isplitl [H0]; · iexact H0
    isplitl [HF]; · iexact HF
    iexact HO
  iintro ⟨H1, H0, HF, HO⟩
  dsimp only
  rw [wp_bind]
  unfold part5'
  iapply (wait_site e bd h n hn hb 3 (by omega) rfl rfl rfl _ (wA3 rfl hn rfl hb rfl hc7) (wB3 (it := W n) (k := W (sch e.L n).2))) $$ [H1 H0 HF HO]
  · isplitl [H1]; · iexact H1
    isplitl [H0]; · iexact H0
    isplitl [HF]; · iexact HF
    iexact HO
  iintro ⟨H1, H0, HF, HO⟩
  rw [min4]
  iapply (upd bd _ (Flying_landed e n)) $$ HF
  iintro HL
  ihave HL := (Landed_open e n) $$ HL
  icases HL with ⟨%fK, %fR, %hag, HK, HR, Hfree⟩
  iapply (rest5_wp e bd h I n hn ⟨_, hb⟩ (sch e.L n).2 hc7 w28 w29 _ _ _ S (fun p => e.pg n p.val) hg fK fR) $$ [H1 H0 HC HS HK HR]
  · isplitl [H1]; · iexact H1
    isplitl [H0]; · iexact H0
    isplitl [HC]; · iexact HC
    isplitl [HS]; · iexact HS
    unfold Rg
    isplitl [HK]; · iexact HK
    iexact HR
  iintro HH
  dsimp only
  rw [wp_bind, ← k0_part6_eq_skeleton]
  iapply (part6_wp e bd h I ⟨_, hb⟩ (sch e.L n).2 hc7 (W n) w28 w29 _ _ (start I ⟨_, hb⟩ (sch e.L n).2 S) (fun p => e.pg n p.val) hg) $$ HH
  iintro HH
  dsimp only
  rw [wp_bind, ← k0_part7_eq_skeleton]
  iapply (part7_wp e bd h I ⟨_, hb⟩ (sch e.L n).2 (W n) w28 w29 _ (start I ⟨_, hb⟩ (sch e.L n).2 S)) $$ HH
  unfold Rg
  iintro ⟨H1, H0, HC, HS, HK, HR⟩
  dsimp only
  iapply Hk $$ %fK %fR %hag
  isplitl [H1]; · iexact H1
  isplitl [H0]; · iexact H0
  isplitl [HC]; · iexact HC
  isplitl [HS]; · iexact HS
  isplitr [HO]
  · ihave Hfree := Hfree $$ HK
    iapply Hfree $$ HR
  iexact HO

include h in
/-- The pages of the chunk 32 ahead are started into the slot just freed. -/
theorem fetch_wp (n n' : ℕ) (hN : n + 32 = n') (hn : n < 512) (w26 w27 : BitVec 32) (h26 h10) {Q : (BitVec 32 × BitVec 32 × BitVec 32 × BitVec 32 × BitVec 32) → sProp 𝕄} :
    Sc arg1 arg0 fL fT (Free e (slot n))
      ⊢ iprop((Sc arg1 arg0 fL fT (Ready e n') -∗ wp frame (wpE (defs₀ (F := F)) Variants.nat (c : Thread nD τ) bd) Set.univ (tail (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 (W n) w26 w27 (W (sch e.L n').1) (W (sch e.L n').2) h26 h10) Q)
        -∗ wp frame (wpE (defs₀ (F := F)) Variants.nat (c : Thread nD τ) bd) Set.univ (fetchTail (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 (W n) w26 w27 (W (sch e.L n').1) (W (sch e.L n').2) h26 h10) Q) := by
  have hn' : n' < 2 ^ 20 := by omega
  have hlt : (sch e.L n').1 < 2 ^ 20 := lt_of_le_of_lt (sch_le n') hn'
  have hc7 : (sch e.L n').2 ≤ 7 := sch_c7 h.lens n'
  have eit : Scalar.addi (W n) 32#32 = W n' := by
    rw [← hN]; exact W_add n 32
  rw [show slot n = slot n' from by rw [← hN, slot_add]]
  unfold fetchTail Ready
  by_cases hb' : (sch e.L n').1 < 64
  · rw [dif_pos ((cond12_iff hlt).mpr hb'), if_pos hb']
    iintro ⟨H1, H0, HF⟩ Hk
    iapply (upd bd _ (free_upd e n')) $$ HF
    iintro HF
    rw [wp_bind]
    unfold fetch3
    iapply (issue_site e bd h n' hn' hb' 0 (by omega) eit rfl rfl _ (fA0 eit hn' rfl hb' rfl hc7) (fB0 (it := W n) (b := W (sch e.L n').1) (k := W (sch e.L n').2))) $$ [H1 H0 HF]
    · isplitl [H1]; · iexact H1
      isplitl [H0]; · iexact H0
      iexact HF
    iintro ⟨H1, H0, HF⟩
    iapply (issue_site e bd h n' hn' hb' 1 (by omega) eit rfl rfl _ (fA1 eit hn' rfl hb' rfl hc7) (fB1 (it := W n) (b := W (sch e.L n').1) (k := W (sch e.L n').2))) $$ [H1 H0 HF]
    · isplitl [H1]; · iexact H1
      isplitl [H0]; · iexact H0
      iexact HF
    iintro ⟨H1, H0, HF⟩
    iapply (issue_site e bd h n' hn' hb' 2 (by omega) eit rfl rfl _ (fA2 eit hn' rfl hb' rfl hc7) (fB2 (it := W n) (b := W (sch e.L n').1) (k := W (sch e.L n').2))) $$ [H1 H0 HF]
    · isplitl [H1]; · iexact H1
      isplitl [H0]; · iexact H0
      iexact HF
    iintro ⟨H1, H0, HF⟩
    rw [show ∀ x, (pure x : Prog (TpuEff nD τ sig (Elt F) (Λ₀ F) .tc) (BitVec 32)) = Prog.ret x from fun _ => rfl, wp_ret]
    imodintro
    iapply (issue_site e bd h n' hn' hb' 3 (by omega) eit rfl rfl _ (fA3 eit hn' rfl hb' rfl hc7) (fB3 (it := W n) (b := W (sch e.L n').1) (k := W (sch e.L n').2))) $$ [H1 H0 HF]
    · isplitl [H1]; · iexact H1
      isplitl [H0]; · iexact H0
      iexact HF
    iintro ⟨H1, H0, HF⟩
    rw [min4]
    iapply Hk
    isplitl [H1]; · iexact H1
    isplitl [H0]; · iexact H0
    iexact HF
  · rw [dif_neg (fun h' => hb' ((cond12_iff hlt).mp h')), if_neg hb']
    iintro HH Hk
    iapply Hk $$ HH

/-- The states a run may be in before its `n`th trip: each trip folds keys that are what the chunk's pages hold. -/
inductive Reach : ℕ → St F → Prop
  | zero (S : St F) : Reach 0 S
  | succ (n : ℕ) (S : St F) (hb : (sch e.L n).1 < 64) (fK fR) (hag : Agrees e n fK fR) (hr : Reach n S) :
      Reach (n + 1) (step I ⟨_, hb⟩ (sch e.L n).2 (e.L (sch e.L n).1) (fun p => e.pg n p.val) (vK (slot n) fK) (vR (slot n) fR) S)

/-- What the loop holds before its `n`th trip. -/
def LoopInv (arg1 : Mref .smem S64 .i32) (arg0 : Mref .smem S64x32 .i32) (fL : Buf (Elt F) (arg1.view.loc (c : Thread nD τ))) (fT : Buf (Elt F) (arg0.view.loc (c : Thread nD τ))) (C T : sProp 𝕄) (n : ℕ) : sProp 𝕄 :=
  Sc arg1 arg0 fL fT iprop(C ∗ T ∗ bigSep (Finset.Ico n (n + 32)) (Ready e) ∗ Ow c)

include h in
/-- The main loop, from its `n`th trip, at a variant that bounds the trips left. -/
theorem loop_wp (v : ℕ) : ∀ (n : ℕ) (S : St F), 512 ≤ n + v → n ≤ 512 → Reach e I n S → ∀ {Q : (BitVec 32 × BitVec 32 × BitVec 32 × BitVec 32 × BitVec 32) → sProp 𝕄},
    LoopInv e arg1 arg0 fL fT (Cst (c := c) arg12 arg13 arg14 arg8 arg2 arg9 I) ((Stt (c := c) arg18 arg19 arg20 arg17 arg11) S) n
      ⊢ iprop((∀ N S' r, ⌜Reach e I N S' ∧ N ≤ 512 ∧ 64 ≤ (sch e.L N).1⌝ -∗ LoopInv e arg1 arg0 fL fT (Cst (c := c) arg12 arg13 arg14 arg8 arg2 arg9 I) ((Stt (c := c) arg18 arg19 arg20 arg17 arg11) S') N -∗ Q r)
        -∗ wp frame (wpE (defs₀ (F := F)) Variants.nat (c : Thread nD τ) (some v)) Set.univ
            (whileBody (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 (W n) (W (sch e.L n).1) (W (sch e.L n).2) (W (sch e.L (n + 32)).1) (W (sch e.L (n + 32)).2)) Q) := by
  induction v with
  | zero => ?_
  | succ v ih => ?_
  all_goals
    intro n S hnv hn hr Q
    by_cases hb : (sch e.L n).1 < 64
    swap
    · unfold whileBody
      rw [if_neg (fun h' => hb ((lt64_iff (lt_of_le_of_lt (sch_le n) (by omega))).mp h'))]
      iintro HH Hk
      rw [show ∀ x, (pure x : Prog (TpuEff nD τ sig (Elt F) (Λ₀ F) .tc) (BitVec 32 × BitVec 32 × BitVec 32 × BitVec 32 × BitVec 32)) = Prog.ret x from fun _ => rfl, wp_ret]
      imodintro
      iapply Hk $$ %n %S %_ %⟨hr, hn, Nat.le_of_not_lt hb⟩ HH
  · exact absurd (lt_512 h.lens hb) (by omega)
  have hlt := lt_512 h.lens hb
  have hn20 : n < 2 ^ 20 := by omega
  have h32 : (sch e.L (n + 32)).1 < 2 ^ 20 := lt_of_le_of_lt (sch_le _) (by omega)
  unfold LoopInv
  rw [show bigSep (Finset.Ico n (n + 32)) (Ready e) = iprop(Flying e n (cnt e.L n) 0 ∗ bigSep (Finset.Ico (n + 1) (n + 32)) (Ready e)) from by
    rw [bigSep_Ico_succ_bot (by omega), show Ready e n = Flying e n (cnt e.L n) 0 from if_pos hb]]
  iintro ⟨H1, H0, HC, HS, ⟨HF, Hring⟩, HO⟩ Hk
  iapply (trip_wp e (some (v + 1)) h I n hn20 hb _ _ (chk26 h32) S) $$ [H1 H0 HC HS HF HO]
  · isplitl [H1]; · iexact H1
    isplitl [H0]; · iexact H0
    isplitl [HC]; · iexact HC
    isplitl [HS]; · iexact HS
    isplitl [HF]; · iexact HF
    iexact HO
  iintro %fK %fR %hag ⟨H1, H0, HC, HS, HF, HO⟩
  iapply (fetch_wp e (some (v + 1)) h n (n + 32) rfl hlt _ _ _ _) $$ [H1 H0 HF]
  · isplitl [H1]; · iexact H1
    isplitl [H0]; · iexact H0
    iexact HF
  iintro ⟨H1, H0, HF⟩
  unfold tail
  have hl1 := adv_words e.L (b := (sch e.L n).1) (c := (sch e.L n).2) (sch_c7 h.lens n) (h.lens _ (by omega))
  have hl2 := adv_words e.L (b := (sch e.L (n + 32)).1) (c := (sch e.L (n + 32)).2) (sch_c7 h.lens (n + 32)) (h.lens _ (by omega))
  iapply (wp_smem (some (v + 1)) arg1 _ _ _ fL _ _ (h.hL (Scalar.minsi (W (sch e.L (n + 32)).1) 63#32) (min (sch e.L (n + 32)).1 63) (minW _ h32) (by omega) _)) $$ H1
  iintro H1
  iapply (wp_smem (some (v + 1)) arg1 _ _ _ fL _ _ (h.hL (Scalar.minsi (W (sch e.L n).1) 63#32) (min (sch e.L n).1 63) (minW _ (by omega)) (by omega) _)) $$ H1
  iintro H1
  rw [hl1.1, hl1.2, hl2.1, hl2.2, show Scalar.addi (W n) 1#32 = W (n + 1) from W_add n 1]
  iapply (wp_call Variants.nat (c : Thread nD τ) _ Set.univ v (fun u hu => by cases hu; exact Nat.lt_succ_self v))
  iapply (ih (n + 1) _ (by omega) (by omega) (Reach.succ n S hb fK fR hag hr)) $$ [H1 H0 HC HS HF HO Hring]
  · unfold LoopInv
    rw [show bigSep (Finset.Ico (n + 1) (n + 1 + 32)) (Ready e) = iprop(Ready e (n + 32) ∗ bigSep (Finset.Ico (n + 1) (n + 32)) (Ready e)) from by
      rw [show n + 1 + 32 = n + 32 + 1 from by omega, bigSep_Ico_succ_top (by omega)]]
    isplitl [H1]; · iexact H1
    isplitl [H0]; · iexact H0
    isplitl [HC]; · iexact HC
    isplitl [HS]; · iexact HS
    isplitr [HO]
    · isplitl [HF]; · iexact HF
      iexact Hring
    iexact HO
  unfold LoopInv
  iintro %N %S' %r %hN HH
  rw [wp_ret]
  imodintro
  iapply Hk $$ %N %S' %r %hN HH

end

end Cert.KernelIdeal.Hand

end
-- ==== Proof.KI.Ring.lean ====
/-
  The ring taken apart from the two scratch buffers and the two pools, and put together again.
-/
module

public import proofs.«01_k».proof.Proof.KI.Slot
public import Idealize.SL.ProofMode.BigOp

@[expose] public section

set_option maxRecDepth 16384

noncomputable section

namespace Cert.KernelIdeal.Hand

open Cert.KernelIdeal Cert.KernelIdeal.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable {c : Dev nD}

/-- The ring's pages do not overlap. -/
theorem kvPages_disj (x y : Fin 32 × Fin 4) (h : x ≠ y) : Disjoint ((kvD x.1 x.2).view.set : Finset S32x256x512.Idx) (kvD y.1 y.2).view.set := by
  rw [Finset.disjoint_left]
  intro i hi hj
  have h1 := (mem_kvD x.1 x.2 i).mp hi
  have h2 := (mem_kvD y.1 y.2 i).mp hj
  exact h (Prod.ext (Fin.ext (by omega)) (Fin.ext (by omega)))
theorem rpPages_disj (x y : Fin 32 × Fin 4) (h : x ≠ y) : Disjoint ((rpD x.1 x.2).view.set : Finset S32x256x64.Idx) (rpD y.1 y.2).view.set := by
  rw [Finset.disjoint_left]
  intro i hi hj
  have h1 := (mem_rpD x.1 x.2 i).mp hi
  have h2 := (mem_rpD y.1 y.2 i).mp hj
  exact h (Prod.ext (Fin.ext (by omega)) (Fin.ext (by omega)))

/-- The ring's pages are the whole buffer. -/
theorem kvD_cover : (Finset.univ : Finset S32x256x512.Idx) = (Finset.univ : Finset (Fin 32 × Fin 4)).biUnion fun x => ((kvD x.1 x.2).view.set : Finset S32x256x512.Idx) := by
  refine (Finset.eq_univ_iff_forall.mpr fun i => ?_).symm
  have h0 : (i 0).val < 32 := (i 0).isLt
  have hm := mem_kvSlot ⟨(i 0).val, h0⟩ i rfl
  obtain ⟨p, -, hp⟩ := Finset.mem_biUnion.mp hm
  exact Finset.mem_biUnion.mpr ⟨(⟨(i 0).val, h0⟩, p), Finset.mem_univ _, hp⟩
theorem rpD_cover : (Finset.univ : Finset S32x256x64.Idx) = (Finset.univ : Finset (Fin 32 × Fin 4)).biUnion fun x => ((rpD x.1 x.2).view.set : Finset S32x256x64.Idx) := by
  refine (Finset.eq_univ_iff_forall.mpr fun i => ?_).symm
  have h0 : (i 0).val < 32 := (i 0).isLt
  have hm := mem_rpSlot ⟨(i 0).val, h0⟩ i rfl
  obtain ⟨p, -, hp⟩ := Finset.mem_biUnion.mp hm
  exact Finset.mem_biUnion.mpr ⟨(⟨(i 0).val, h0⟩, p), Finset.mem_univ _, hp⟩

/-- A buffer cut into disjoint pieces that cover it. -/
theorem cut_all {T : Type} [Fintype T] {ℓ : Loc nD τ sig} (K : T → Finset (Idx ℓ)) (hd : ∀ x y, x ≠ y → Disjoint (K x) (K y))
    (hc : (Finset.univ : Finset (Idx ℓ)) = Finset.univ.biUnion K) (P : T → Buf (Elt F) ℓ → Prop) (f : Buf (Elt F) ℓ) :
    (ℓ ↦[Finset.univ]{fullShare} f) ⊢ (bigSep Finset.univ fun x => iprop(∃ f, ⌜False → P x f⌝ ∗ (ℓ ↦[K x]{fullShare} f)) : sProp 𝕄) := by
  rw [hc, pointsTo_biUnion _ _ (fun t _ t' _ h => hd t t' h)]
  exact bigSep_mono fun x _ => forget1 (K x) (P x) f

/-- The pieces put together again. -/
theorem glue_all {T : Type} [Fintype T] [DecidableEq T] {ℓ : Loc nD τ sig} [Nonempty (Buf (Elt F) ℓ)] (K : T → Finset (Idx ℓ)) (hd : ∀ x y, x ≠ y → Disjoint (K x) (K y))
    (hc : (Finset.univ : Finset (Idx ℓ)) = Finset.univ.biUnion K) (P : T → Buf (Elt F) ℓ → Prop) (f₀ : Buf (Elt F) ℓ) :
    (bigSep Finset.univ fun x => iprop(∃ f, ⌜False → P x f⌝ ∗ (ℓ ↦[K x]{fullShare} f)) : sProp 𝕄) ⊢ iprop(∃ f, (ℓ ↦[Finset.univ]{fullShare} f)) := by
  refine BIBase.Entails.trans (bigSep_mono (Ψ := fun x => iprop(∃ f, (ℓ ↦[K x]{fullShare} f))) fun x _ => ?_) ?_
  · show iprop(∃ f, ⌜False → P x f⌝ ∗ (ℓ ↦[K x]{fullShare} f)) ⊢ (iprop(∃ f, (ℓ ↦[K x]{fullShare} f)) : sProp 𝕄)
    iintro ⟨%f, -, H⟩
    iexists f
    iexact H
  refine BIBase.Entails.trans (bigSep_exists_pi Finset.univ fun x (f : Buf (Elt F) ℓ) => (iprop(ℓ ↦[K x]{fullShare} f) : sProp 𝕄)) ?_
  iintro ⟨%fs, H⟩
  ihave H := (pointsTo_biUnion_join Finset.univ K fs f₀ (fun t _ t' _ h => hd t t' h)) $$ H
  icases H with ⟨%g, -, H⟩
  iexists g
  rw [hc]
  iexact H

/-- The 128 read tokens, by slot and page. -/
theorem toks_pages (A : ℕ → sProp 𝕄) :
    bigSep (Finset.range 128) A = bigSep (Finset.univ : Finset (Fin 32 × Fin 4)) fun x => A (4 * x.1.val + x.2.val) := by
  have hr : Finset.range 128 = (Finset.univ : Finset (Fin 32 × Fin 4)).image fun x => 4 * x.1.val + x.2.val := by
    ext i
    rw [Finset.mem_range, Finset.mem_image]
    constructor
    · intro h
      exact ⟨(⟨i / 4, by omega⟩, ⟨i % 4, by omega⟩), Finset.mem_univ _, by show 4 * (i / 4) + i % 4 = i; omega⟩
    · rintro ⟨x, -, rfl⟩
      have := x.1.isLt; have := x.2.isLt; omega
  rw [hr, Idealize.SL.BI.bigSep_image_of_injOn]
  intro x _ y _ h
  have hx := x.2.isLt; have hy := y.2.isLt
  have h' : 4 * x.1.val + x.2.val = 4 * y.1.val + y.2.val := h
  exact Prod.ext (Fin.ext (by omega)) (Fin.ext (by omega))

variable (e : Env F c)

/-- The slots, by the turn each is used in. -/
theorem slots_turns (A : Fin 32 → sProp 𝕄) (n : ℕ) : bigSep (Finset.univ : Finset (Fin 32)) A = bigSep (Finset.Ico n (n + 32)) fun k => A (slot k) := by
  have hr : (Finset.univ : Finset (Fin 32)) = (Finset.Ico n (n + 32)).image slot := by
    refine (Finset.eq_univ_iff_forall.mpr fun i => ?_).symm
    refine Finset.mem_image.mpr ⟨n + (i.val + 32 - n % 32) % 32, Finset.mem_Ico.mpr ⟨by omega, ?_⟩, Fin.ext ?_⟩
    · have := Nat.mod_lt (i.val + 32 - n % 32) (show 0 < 32 by norm_num); omega
    · show (n + (i.val + 32 - n % 32) % 32) % 32 = i.val
      have := i.isLt; omega
  rw [hr, Idealize.SL.BI.bigSep_image_of_injOn]
  intro x hx y hy h
  have hx := Finset.mem_Ico.mp (Finset.mem_coe.mp hx); have hy := Finset.mem_Ico.mp (Finset.mem_coe.mp hy)
  have h' : x % 32 = y % 32 := congrArg Fin.val h
  omega

/-- The pages' pieces, apart. -/
def Pages : sProp 𝕄 :=
  iprop((bigSep (Finset.univ : Finset (Fin 32 × Fin 4)) fun x => iprop(∃ f, ⌜False → AgK e x.1 x.2 0 f⌝ ∗ ((kvD x.1 x.2).view.loc (c : Thread nD τ) ↦[(kvD x.1 x.2).view.set]{fullShare} f)))
    ∗ (bigSep (Finset.univ : Finset (Fin 32 × Fin 4)) fun x => iprop(∃ f, ⌜False → AgR e x.1 x.2 0 f⌝ ∗ ((rpD x.1 x.2).view.loc (c : Thread nD τ) ↦[(rpD x.1 x.2).view.set]{fullShare} f)))
    ∗ (bigSep (Finset.univ : Finset (Fin 32 × Fin 4)) fun x => iprop((Memref.whole main_arg2).view.loc (c : Thread nD τ) ↦[Finset.univ]{tk x.1 x.2} e.PK))
    ∗ (bigSep (Finset.univ : Finset (Fin 32 × Fin 4)) fun x => iprop((Memref.whole main_arg4).view.loc (c : Thread nD τ) ↦[Finset.univ]{tk x.1 x.2} e.PR)))

theorem pages_eq : (bigSep (Finset.univ : Finset (Fin 32 × Fin 4)) fun x => PgFree e x.1 x.2 : sProp 𝕄) = Pages e := by
  unfold Pages PgFree Pg
  rw [bigSep_sep', bigSep_sep', bigSep_sep']

/-- The free slots are the cells and the pages. -/
theorem free_all : (bigSep (Finset.univ : Finset (Fin 32)) (Free e) : sProp 𝕄)
    = iprop((bigSep (Finset.univ : Finset (Fin 32)) fun s => semVal ((c : Thread nD τ), SemLoc.dma (kvC s)) 0)
      ∗ (bigSep (Finset.univ : Finset (Fin 32)) fun s => semVal ((c : Thread nD τ), SemLoc.dma (rpC s)) 0) ∗ Pages e) := by
  rw [← pages_eq, bigSep_univ_prod, ← bigSep_sep', ← bigSep_sep']
  refine bigSep_congr fun s _ => ?_
  unfold Free
  rw [show (Finset.univ : Finset (Fin 4)) = {0, 1, 2, 3} by decide, bigSep_insert (by decide), bigSep_insert (by decide), bigSep_insert (by decide), bigSep_singleton]
  rfl

/-- What is left of the two pools while the ring holds its read tokens. -/
def Pools : sProp 𝕄 :=
  iprop(((Memref.whole main_arg2).view.loc (c : Thread nD τ) ↦[Finset.univ]{Transfers.shareDrop fullShare 128} e.PK)
    ∗ ((Memref.whole main_arg4).view.loc (c : Thread nD τ) ↦[Finset.univ]{Transfers.shareDrop fullShare 128} e.PR))

/-- The ring from the scratch buffers, the pools and the cells. -/
theorem ring_open :
    iprop((∃ f, ((Memref.whole cc0_scratch3).view.loc (c : Thread nD τ) ↦[Finset.univ]{fullShare} f)) ∗ (∃ f, ((Memref.whole cc0_scratch4).view.loc (c : Thread nD τ) ↦[Finset.univ]{fullShare} f))
      ∗ ((Memref.whole main_arg2).view.loc (c : Thread nD τ) ↦[Finset.univ]{fullShare} e.PK) ∗ ((Memref.whole main_arg4).view.loc (c : Thread nD τ) ↦[Finset.univ]{fullShare} e.PR)
      ∗ (bigSep (Finset.univ : Finset (Fin 32)) fun s => semVal ((c : Thread nD τ), SemLoc.dma (kvC s)) 0)
      ∗ (bigSep (Finset.univ : Finset (Fin 32)) fun s => semVal ((c : Thread nD τ), SemLoc.dma (rpC s)) 0))
      ⊢ (iprop(Pools e ∗ bigSep (Finset.univ : Finset (Fin 32)) (Free e)) : sProp 𝕄) := by
  rw [free_all]
  unfold Pools Pages
  iintro ⟨⟨%f3, H3⟩, ⟨%f4, H4⟩, HK, HR, HA, HB⟩
  ihave HK := (Transfers.pointsTo_toks_range fullShare 128).1 $$ HK
  ihave HR := (Transfers.pointsTo_toks_range fullShare 128).1 $$ HR
  icases HK with ⟨HK, HKs⟩
  icases HR with ⟨HR, HRs⟩
  isplitl [HK HR]; · isplitl [HK] <;> iassumption
  isplitl [HA]; · iexact HA
  isplitl [HB]; · iexact HB
  isplitl [H3]; · iapply (cut_all (ℓ := (Memref.whole cc0_scratch3).view.loc (c : Thread nD τ)) (fun x : Fin 32 × Fin 4 => (kvD x.1 x.2).view.set) kvPages_disj kvD_cover (fun x f => AgK e x.1 x.2 0 f) f3) $$ H3
  isplitl [H4]; · iapply (cut_all (ℓ := (Memref.whole cc0_scratch4).view.loc (c : Thread nD τ)) (fun x : Fin 32 × Fin 4 => (rpD x.1 x.2).view.set) rpPages_disj rpD_cover (fun x f => AgR e x.1 x.2 0 f) f4) $$ H4
  isplitl [HKs]
  · iapply (show _ ⊢ _ from BIBase.Entails.of_eq (toks_pages (F := F) fun i => iprop((Memref.whole main_arg2).view.loc (c : Thread nD τ) ↦[Finset.univ]{Transfers.shareTokN fullShare i} e.PK))) $$ HKs
  · iapply (show _ ⊢ _ from BIBase.Entails.of_eq (toks_pages (F := F) fun i => iprop((Memref.whole main_arg4).view.loc (c : Thread nD τ) ↦[Finset.univ]{Transfers.shareTokN fullShare i} e.PR))) $$ HRs

/-- And back. -/
theorem ring_close (f3 : Buf (Elt F) ((Memref.whole cc0_scratch3).view.loc (c : Thread nD τ))) (f4 : Buf (Elt F) ((Memref.whole cc0_scratch4).view.loc (c : Thread nD τ))) :
    iprop(Pools e ∗ bigSep (Finset.univ : Finset (Fin 32)) (Free e))
      ⊢ (iprop((∃ f, ((Memref.whole cc0_scratch3).view.loc (c : Thread nD τ) ↦[Finset.univ]{fullShare} f)) ∗ (∃ f, ((Memref.whole cc0_scratch4).view.loc (c : Thread nD τ) ↦[Finset.univ]{fullShare} f))
      ∗ ((Memref.whole main_arg2).view.loc (c : Thread nD τ) ↦[Finset.univ]{fullShare} e.PK) ∗ ((Memref.whole main_arg4).view.loc (c : Thread nD τ) ↦[Finset.univ]{fullShare} e.PR)
      ∗ (bigSep (Finset.univ : Finset (Fin 32)) fun s => semVal ((c : Thread nD τ), SemLoc.dma (kvC s)) 0)
      ∗ (bigSep (Finset.univ : Finset (Fin 32)) fun s => semVal ((c : Thread nD τ), SemLoc.dma (rpC s)) 0)) : sProp 𝕄) := by
  rw [free_all]
  unfold Pools Pages
  haveI : Nonempty (Buf (Elt F) ((Memref.whole cc0_scratch3).view.loc (c : Thread nD τ))) := ⟨f3⟩
  haveI : Nonempty (Buf (Elt F) ((Memref.whole cc0_scratch4).view.loc (c : Thread nD τ))) := ⟨f4⟩
  iintro ⟨⟨HK, HR⟩, HA, HB, H3, H4, HKs, HRs⟩
  isplitl [H3]; · iapply (glue_all (ℓ := (Memref.whole cc0_scratch3).view.loc (c : Thread nD τ)) (fun x : Fin 32 × Fin 4 => (kvD x.1 x.2).view.set) kvPages_disj kvD_cover (fun x f => AgK e x.1 x.2 0 f) f3) $$ H3
  isplitl [H4]; · iapply (glue_all (ℓ := (Memref.whole cc0_scratch4).view.loc (c : Thread nD τ)) (fun x : Fin 32 × Fin 4 => (rpD x.1 x.2).view.set) rpPages_disj rpD_cover (fun x f => AgR e x.1 x.2 0 f) f4) $$ H4
  isplitl [HK HKs]
  · iapply (Transfers.pointsTo_toks_range fullShare 128).2
    isplitl [HK]; · iexact HK
    iapply (show _ ⊢ _ from BIBase.Entails.of_eq (toks_pages (F := F) fun i => iprop((Memref.whole main_arg2).view.loc (c : Thread nD τ) ↦[Finset.univ]{Transfers.shareTokN fullShare i} e.PK)).symm) $$ HKs
  isplitl [HR HRs]
  · iapply (Transfers.pointsTo_toks_range fullShare 128).2
    isplitl [HR]; · iexact HR
    iapply (show _ ⊢ _ from BIBase.Entails.of_eq (toks_pages (F := F) fun i => iprop((Memref.whole main_arg4).view.loc (c : Thread nD τ) ↦[Finset.univ]{Transfers.shareTokN fullShare i} e.PR)).symm) $$ HRs
  isplitl [HA] <;> iassumption

end Cert.KernelIdeal.Hand
-- ==== Proof.KI.Prologue.lean ====
/-
  The first loop: start the pages of the first 32 chunks.
-/
module

public import proofs.«01_k».proof.Proof.KI.Trip
public import proofs.«01_k».proof.Proof.KI.Ring

@[expose] public section

set_option maxRecDepth 16384

noncomputable section

namespace Cert.KernelIdeal.Hand

open Cert.KernelIdeal Cert.KernelIdeal.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable {c : Dev nD} (e : Env F c) (bd : Option ℕ)

theorem iv_word (k : ℕ) : Scf.iv 0#32 1#32 k = W k := by
  unfold Scf.iv W
  simp

section
variable {arg0 : Mref .smem S64x32 .i32} {harg0 : arg0.IsWhole} {arg1 : Mref .smem S64 .i32} {harg1 : arg1.IsWhole} {arg2 : Mref .smem S64x1 .f32} {harg2 : arg2.IsWhole} {arg3 : Mref .hbm S64x32x512 .bf16} {harg3 : arg3.IsWhole} {arg4 : Mref .hbm S64x32x64 .bf16} {harg4 : arg4.IsWhole} {harg5 : (Memref.whole main_arg2).IsWhole} {arg6 : Mref .hbm S2560x64 .f32} {harg6 : arg6.IsWhole} {harg7 : (Memref.whole main_arg4).IsWhole} {arg8 : Mref .vmem S64x1x512 .fp8e4m3} {harg8 : arg8.IsWhole} {arg9 : Mref .vmem S64x1x64 .bf16} {harg9 : arg9.IsWhole} {arg10 : Mref .hbm S64x1x32x512 .bf16} {harg10 : arg10.IsWhole} {arg11 : Mref .vmem S64x1x32 .f32} {harg11 : arg11.IsWhole} {arg12 : Mref .vmem S64x32x512 .bf16} {harg12 : arg12.IsWhole} {arg13 : Mref .vmem S64x32x64 .bf16} {harg13 : arg13.IsWhole} {arg14 : Mref .vmem S2560x64 .f32} {harg14 : arg14.IsWhole} {harg15 : (Memref.whole cc0_scratch3).IsWhole} {harg16 : (Memref.whole cc0_scratch4).IsWhole} {arg17 : Mref .vmem S64x32x512 .bf16} {harg17 : arg17.IsWhole} {arg18 : Mref .vmem S32x128 .f32} {harg18 : arg18.IsWhole} {arg19 : Mref .vmem S32x128 .f32} {harg19 : arg19.IsWhole} {arg20 : Mref .vmem S32x512 .f32} {harg20 : arg20.IsWhole} {arg23 : DmaSems sig S3} {arg24 : DmaSems sig S_}
variable {fL : Buf (Elt F) (arg1.view.loc (c : Thread nD τ))} {fT : Buf (Elt F) (arg0.view.loc (c : Thread nD τ))}
  (h : e.Reads arg1 arg0 fL fT)

include h in
/-- The pointer's step at the end of a trip. -/
theorem proRest_wp (n : ℕ) (hn : n < 2 ^ 20) (hw) {Q : BitVec 32 × BitVec 32 → sProp 𝕄} (R : sProp 𝕄) :
    Sc arg1 arg0 fL fT R ⊢ iprop((Sc arg1 arg0 fL fT R -∗ Q (W (sch e.L (n + 1)).1, W (sch e.L (n + 1)).2)) -∗ wp frame (wpE (defs₀ (F := F)) Variants.nat (c : Thread nD τ) bd) Set.univ (proRest (F := F) arg0 harg0 arg1 harg1 arg2 harg2 arg3 harg3 arg4 harg4 (Memref.whole main_arg2) harg5 arg6 harg6 (Memref.whole main_arg4) harg7 arg8 harg8 arg9 harg9 arg10 harg10 arg11 harg11 arg12 harg12 arg13 harg13 arg14 harg14 (Memref.whole cc0_scratch3) harg15 (Memref.whole cc0_scratch4) harg16 arg17 harg17 arg18 harg18 arg19 harg19 arg20 harg20 cc0_scratch9 cc0_scratch10 arg23 arg24 (W (sch e.L n).1) (W (sch e.L n).2) hw) Q) := by
  have hlt : (sch e.L n).1 < 2 ^ 20 := lt_of_le_of_lt (sch_le n) hn
  obtain ⟨ha, hb⟩ := adv_words e.L (b := (sch e.L n).1) (c := (sch e.L n).2) (sch_c7 h.lens n) (h.lens _ (by omega))
  have ha : _ = W (sch e.L (n + 1)).1 := ha
  have hb : _ = W (sch e.L (n + 1)).2 := hb
  unfold proRest
  iintro ⟨H1, H0, HR⟩ Hk
  iapply (wp_smem bd arg1 _ _ _ fL _ _ (h.hL (Scalar.minsi (W (sch e.L n).1) 63#32) (min (sch e.L n).1 63) (minW _ hlt) (by omega) _)) $$ H1
  iintro H1
  rw [ha, hb, show ∀ x, (pure x : Prog (TpuEff nD τ sig (Elt F) (Λ₀ F) .tc) (BitVec 32 × BitVec 32)) = Prog.ret x from fun _ => rfl, wp_ret]
  imodintro
  iapply Hk
  isplitl [H1]; · iexact H1
  isplitl [H0]; · iexact H0
  iexact HR

include h in
/-- A trip starts one chunk's pages and steps the pointer. -/
theorem pro_wp (t : Fin k0_t1_loop.trips) (n : ℕ) (htn : t.val = n) (hn : n < 32) :
    Sc arg1 arg0 fL fT (Free e (slot n))
      ⊢ wp frame (wpE (defs₀ (F := F)) Variants.nat (c : Thread nD τ) bd) Set.univ (k0_t1_body (F := F) arg0 harg0 arg1 harg1 arg2 harg2 arg3 harg3 arg4 harg4 (Memref.whole main_arg2) harg5 arg6 harg6 (Memref.whole main_arg4) harg7 arg8 harg8 arg9 harg9 arg10 harg10 arg11 harg11 arg12 harg12 arg13 harg13 arg14 harg14 (Memref.whole cc0_scratch3) harg15 (Memref.whole cc0_scratch4) harg16 arg17 harg17 arg18 harg18 arg19 harg19 arg20 harg20 cc0_scratch9 cc0_scratch10 arg23 arg24 t (W (sch e.L n).1, W (sch e.L n).2))
          fun acc => iprop(⌜acc = (W (sch e.L (n + 1)).1, W (sch e.L (n + 1)).2)⌝ ∗ Sc arg1 arg0 fL fT (Ready e n)) := by
  have hn' : n < 2 ^ 20 := by omega
  have hlt : (sch e.L n).1 < 2 ^ 20 := lt_of_le_of_lt (sch_le n) hn'
  have hb' : (sch e.L n).1 < 64 := lt_of_le_of_lt (sch_le n) (by omega)
  have hc7 : (sch e.L n).2 ≤ 7 := sch_c7 h.lens n
  have eit : Scf.iv 0#32 1#32 t.val = W n := by rw [iv_word, htn]
  rw [proBody_eq]
  unfold proBody
  refine BIBase.Entails.trans ?_ (wp_assumed bd _ (chk1 hlt) _)
  dsimp only
  rw [dif_pos ((cond1_iff hlt).mpr hb')]
  iintro ⟨H1, H0, HF⟩
  iapply (upd bd _ (free_upd e n)) $$ HF
  iintro HF
  rw [wp_bind]
  unfold pro3
  iapply (issue_site e bd h n hn' hb' 0 (by omega) eit rfl rfl _ (pA0 rfl hb' rfl hc7 t) (pB0 (b := W (sch e.L n).1) (k := W (sch e.L n).2) t)) $$ [H1 H0 HF]
  · isplitl [H1]; · iexact H1
    isplitl [H0]; · iexact H0
    iexact HF
  iintro ⟨H1, H0, HF⟩
  iapply (issue_site e bd h n hn' hb' 1 (by omega) eit rfl rfl _ (pA1 rfl hb' rfl hc7 t) (pB1 (b := W (sch e.L n).1) (k := W (sch e.L n).2) t)) $$ [H1 H0 HF]
  · isplitl [H1]; · iexact H1
    isplitl [H0]; · iexact H0
    iexact HF
  iintro ⟨H1, H0, HF⟩
  iapply (issue_site e bd h n hn' hb' 2 (by omega) eit rfl rfl _ (pA2 rfl hb' rfl hc7 t) (pB2 (b := W (sch e.L n).1) (k := W (sch e.L n).2) t)) $$ [H1 H0 HF]
  · isplitl [H1]; · iexact H1
    isplitl [H0]; · iexact H0
    iexact HF
  iintro ⟨H1, H0, HF⟩
  rw [show ∀ x, (pure x : Prog (TpuEff nD τ sig (Elt F) (Λ₀ F) .tc) (BitVec 32)) = Prog.ret x from fun _ => rfl, wp_ret]
  imodintro
  iapply (issue_site e bd h n hn' hb' 3 (by omega) eit rfl rfl _ (pA3 rfl hb' rfl hc7 t) (pB3 (b := W (sch e.L n).1) (k := W (sch e.L n).2) t)) $$ [H1 H0 HF]
  · isplitl [H1]; · iexact H1
    isplitl [H0]; · iexact H0
    iexact HF
  iintro ⟨H1, H0, HF⟩
  rw [min4]
  iapply (proRest_wp e bd h n hn' _ (Ready e n)) $$ [H1 H0 HF]
  · unfold Ready
    rw [if_pos hb']
    isplitl [H1]; · iexact H1
    isplitl [H0]; · iexact H0
    iexact HF
  iintro HH
  isplitr; · ipureintro; rfl
  iexact HH

/-- The ring part way through the first loop. -/
def Filling (t : ℕ) : sProp 𝕄 := iprop(bigSep (Finset.Ico 0 t) (Ready e) ∗ bigSep (Finset.Ico t 32) fun k => Free e (slot k))

include h in
/-- The whole first loop. -/
theorem prologue_wp {β : Type} {kk : BitVec 32 × BitVec 32 → Prog (TpuEff nD τ sig (Elt F) (Λ₀ F) .tc) β} {Q : β → sProp 𝕄} :
    Sc arg1 arg0 fL fT (bigSep (Finset.univ : Finset (Fin 32)) (Free e))
      ⊢ iprop((Sc arg1 arg0 fL fT (bigSep (Finset.Ico 0 (0 + 32)) (Ready e)) -∗ wp frame (wpE (defs₀ (F := F)) Variants.nat (c : Thread nD τ) bd) Set.univ (kk (W (sch e.L (0 + 32)).1, W (sch e.L (0 + 32)).2)) Q)
        -∗ wp frame (wpE (defs₀ (F := F)) Variants.nat (c : Thread nD τ) bd) Set.univ (Scf.Loop.for k0_t1_loop k0_t1_ok (0#32, 0#32) (k0_t1_body (F := F) arg0 harg0 arg1 harg1 arg2 harg2 arg3 harg3 arg4 harg4 (Memref.whole main_arg2) harg5 arg6 harg6 (Memref.whole main_arg4) harg7 arg8 harg8 arg9 harg9 arg10 harg10 arg11 harg11 arg12 harg12 arg13 harg13 arg14 harg14 (Memref.whole cc0_scratch3) harg15 (Memref.whole cc0_scratch4) harg16 arg17 harg17 arg18 harg18 arg19 harg19 arg20 harg20 cc0_scratch9 cc0_scratch10 arg23 arg24) >>= kk) Q) := by
  have htr : k0_t1_loop.trips = 32 := by decide
  have body (t : Fin k0_t1_loop.trips) (acc : BitVec 32 × BitVec 32) :
      iprop(⌜acc = (W (sch e.L t.val).1, W (sch e.L t.val).2)⌝ ∗ Sc arg1 arg0 fL fT (Filling e t.val))
        ⊢ wp frame (wpE (defs₀ (F := F)) Variants.nat (c : Thread nD τ) bd) Set.univ (k0_t1_body (F := F) arg0 harg0 arg1 harg1 arg2 harg2 arg3 harg3 arg4 harg4 (Memref.whole main_arg2) harg5 arg6 harg6 (Memref.whole main_arg4) harg7 arg8 harg8 arg9 harg9 arg10 harg10 arg11 harg11 arg12 harg12 arg13 harg13 arg14 harg14 (Memref.whole cc0_scratch3) harg15 (Memref.whole cc0_scratch4) harg16 arg17 harg17 arg18 harg18 arg19 harg19 arg20 harg20 cc0_scratch9 cc0_scratch10 arg23 arg24 t acc)
            fun acc => iprop(⌜acc = (W (sch e.L (t.val + 1)).1, W (sch e.L (t.val + 1)).2)⌝ ∗ Sc arg1 arg0 fL fT (Filling e (t.val + 1))) := by
    have ht : t.val < 32 := lt_of_lt_of_eq t.isLt htr
    unfold Filling
    rw [bigSep_Ico_succ_bot ht, bigSep_Ico_succ_top (Nat.zero_le _)]
    iintro ⟨%hacc, H1, H0, HR, HF, HFs⟩
    subst hacc
    iapply (wp_wand_r frame (wpE (defs₀ (F := F)) Variants.nat (c : Thread nD τ) bd) Set.univ)
    isplitl [H1 H0 HF]
    · iapply (pro_wp e bd h t t.val rfl ht) $$ [H1 H0 HF]
      isplitl [H1]; · iexact H1
      isplitl [H0]; · iexact H0
      iexact HF
    iintro %acc ⟨%hacc, H1, H0, HF⟩
    isplitr; · ipureintro; exact hacc
    isplitl [H1]; · iexact H1
    isplitl [H0]; · iexact H0
    isplitl [HF HR]
    · isplitl [HF]; · iexact HF
      iexact HR
    iexact HFs
  have hw := Scf.wp_for_bind frame (wpE (defs₀ (F := F)) Variants.nat (c : Thread nD τ) bd) Set.univ k0_t1_loop.lb k0_t1_loop.ub k0_t1_loop.st k0_t1_ok (0#32, 0#32)
    (k0_t1_body (F := F) arg0 harg0 arg1 harg1 arg2 harg2 arg3 harg3 arg4 harg4 (Memref.whole main_arg2) harg5 arg6 harg6 (Memref.whole main_arg4) harg7 arg8 harg8 arg9 harg9 arg10 harg10 arg11 harg11 arg12 harg12 arg13 harg13 arg14 harg14 (Memref.whole cc0_scratch3) harg15 (Memref.whole cc0_scratch4) harg16 arg17 harg17 arg18 harg18 arg19 harg19 arg20 harg20 cc0_scratch9 cc0_scratch10 arg23 arg24) (fun t acc => iprop(⌜acc = (W (sch e.L t).1, W (sch e.L t).2)⌝ ∗ Sc arg1 arg0 fL fT (Filling e t))) body (kk := kk) (Q := Q)
  rw [slots_turns (Free e) 0]
  refine BIBase.Entails.trans ?_ (BIBase.Entails.trans hw ?_)
  · unfold Filling
    rw [Finset.Ico_self, bigSep_empty]
    iintro ⟨H1, H0, HF⟩
    isplitr; · ipureintro; rfl
    isplitl [H1]; · iexact H1
    isplitl [H0]; · iexact H0
    isplitr; · iempintro
    iexact HF
  · rw [show Scf.trips k0_t1_loop.lb k0_t1_loop.ub k0_t1_loop.st = 32 from htr]
    unfold Filling
    rw [Finset.Ico_self, bigSep_empty]
    iintro Hw Hk
    iapply Hw
    iintro %acc ⟨%hacc, H1, H0, HF, -⟩
    subst hacc
    iapply Hk
    isplitl [H1]; · iexact H1
    isplitl [H0]; · iexact H0
    iexact HF
end

end Cert.KernelIdeal.Hand

end
-- ==== Proof.KI.Body.lean ====
/-
  The kernel's body: load the queries and the scales, fill the ring, run the loop, write the output out.
-/
module

public import proofs.«01_k».proof.Proof.KI.Prologue

@[expose] public section

set_option maxRecDepth 16384

noncomputable section

namespace Cert.KernelIdeal.Hand

open Cert.KernelIdeal Cert.KernelIdeal.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable {c : Dev nD} (e : Env F c) (bd : Option ℕ)

section
variable {sp sp' : Space} {sh : Shape} {et : EltTy}

/-- What a whole copy delivers: the destination written and the source back. -/
def DL (src : Mref sp sh et) (dst : Mref sp' sh et) (fs : Buf (Elt F) (src.view.loc (c : Thread nD τ))) (fd : Buf (Elt F) (dst.view.loc (c : Thread nD τ))) : sProp 𝕄 :=
  iprop((dst.view.loc (c : Thread nD τ) ↦[Finset.univ]{fullShare} (dst.view.write (Elt F) fd (src.view.read (Elt F) fs) Finset.univ)) ∗ (src.view.loc (c : Thread nD τ) ↦[Finset.univ]{fullShare} fs))

/-- A whole copy started. -/
theorem start_wp (src : Mref sp sh et) (dst : Mref sp' sh et) (sm : DmaSem sig) (hs : src.view.set = Finset.univ) (hN0 : 0 < dst.view.dmaCredit)
    (h1 h2 h3) (fs : Buf (Elt F) (src.view.loc (c : Thread nD τ))) (fd : Buf (Elt F) (dst.view.loc (c : Thread nD τ))) {α : Type} (k : PUnit → Prog (TpuEff nD τ sig (Elt F) (Λ₀ F) .tc) α) {Q : α → sProp 𝕄} :
    iprop((src.view.loc (c : Thread nD τ) ↦[Finset.univ]{fullShare} fs) ∗ (dst.view.loc (c : Thread nD τ) ↦[Finset.univ]{fullShare} fd) ∗ semVal ((c : Thread nD τ), SemLoc.dma sm) 0)
      ⊢ iprop((Transfers.Flight EC (c : Thread nD τ) (.dma sm) () dst.view.dmaCredit (DL src dst fs fd) -∗ wp frame (wpE (defs₀ (F := F)) Variants.nat (c : Thread nD τ) bd) Set.univ (k ⟨⟩) Q)
        -∗ wp frame (wpE (defs₀ (F := F)) Variants.nat (c : Thread nD τ) bd) Set.univ ((Prog.lift (TpuEff.enqueueDma (nD := nD) src (.here dst) (.dma sm) h1 h2 h3) : Prog (TpuEff nD τ sig (Elt F) (Λ₀ F) .tc) _) >>= k) Q) := by
  have key := Transfers.wp_dmaLocal EC (defs := defs₀ (F := F)) Variants.nat (c : Thread nD τ) bd (Q := Q) (via := .same) (sm := SemLoc.dma sm) (hsrc := h1) (hdst := h2) (hsem := h3) (k := k) (q := fullShare) (fs := fs) (fd := fd)
    () dst.view.dmaCredit rfl hN0 (Finset.subset_univ _)
  rw [hs] at key
  exact key

/-- A whole copy waited for. -/
theorem land_wp {sp'' : Space} (src : Mref sp sh et) (srcw : Mref sp'' sh et) (dst : Mref sp' sh et) (sm : DmaSem sig)
    (h1 h2) (fs : Buf (Elt F) (src.view.loc (c : Thread nD τ))) (fd : Buf (Elt F) (dst.view.loc (c : Thread nD τ))) {α : Type} (k : PUnit → Prog (TpuEff nD τ sig (Elt F) (Λ₀ F) .tc) α) {Q : α → sProp 𝕄} :
    iprop(Transfers.Flight EC (c : Thread nD τ) (.dma sm) () dst.view.dmaCredit (DL src dst fs fd) ∗ Ow c)
      ⊢ iprop((iprop(Hv (c := c) dst (src.view.read (Elt F) fs) ∗ (src.view.loc (c : Thread nD τ) ↦[Finset.univ]{fullShare} fs) ∗ semVal ((c : Thread nD τ), SemLoc.dma sm) 0 ∗ Ow c) -∗ wp frame (wpE (defs₀ (F := F)) Variants.nat (c : Thread nD τ) bd) Set.univ (k ⟨⟩) Q)
        -∗ wp frame (wpE (defs₀ (F := F)) Variants.nat (c : Thread nD τ) bd) Set.univ ((Prog.lift (TpuEff.waitDma2 sm srcw dst h1 h2) : Prog (TpuEff nD τ sig (Elt F) (Λ₀ F) .tc) _) >>= k) Q) := by
  unfold Ow Hv
  iintro ⟨HF, %Wt, HO⟩ Hk
  iapply (Transfers.wp_waitLocal EC Variants.nat (c : Thread nD τ) bd () (hN := rfl) (W := Wt)) $$ [HF HO]
  · isplitl [HF]; · iexact HF
    iexact HO
  unfold DL
  iintro ⟨⟨Hd, Hs⟩, Hsem, HO⟩
  iapply Hk
  isplitl [Hd]
  · iexists _
    isplitr; swap; · iexact Hd
    ipureintro; exact View.read_write_univ _ _
  isplitl [Hs]; · iexact Hs
  isplitl [Hsem]; · iexact Hsem
  iexists _
  iexact HO
end

/-- A buffer whole at some contents is held at what is read of it. -/
theorem Hv_intro {sp : Space} {sh : Shape} {et : EltTy} (m : Mref sp sh et) (f : Buf (Elt F) (m.view.loc (c : Thread nD τ))) :
    (m.view.loc (c : Thread nD τ) ↦[Finset.univ]{fullShare} f) ⊢ (Hv (c := c) m (m.view.read (Elt F) f) : sProp 𝕄) := by
  unfold Hv
  iintro H
  iexists f
  isplitr; · ipureintro; rfl
  iexact H
theorem Hv_open {sp : Space} {sh : Shape} {et : EltTy} (m : Mref sp sh et) (v : sh.Idx → Elt F et) :
    (Hv (c := c) m v : sProp 𝕄) ⊢ iprop(∃ f, ⌜m.view.read (Elt F) f = v⌝ ∗ (m.view.loc (c : Thread nD τ) ↦[Finset.univ]{fullShare} f)) := .rfl
theorem Hv_elim {sp : Space} {sh : Shape} {et : EltTy} (m : Mref sp sh et) (v : sh.Idx → Elt F et) :
    (Hv (c := c) m v : sProp 𝕄) ⊢ iprop(∃ f, (m.view.loc (c : Thread nD τ) ↦[Finset.univ]{fullShare} f)) := by
  unfold Hv
  iintro ⟨%f, -, H⟩
  iexists f
  iexact H

/-- The result the kernel writes itself, as it is written. -/
abbrev outM : Mref .hbm S64x32x512 .bf16 := (((Memref.whole main_v2_0).slice (Rect.unit (s := S64x1x32x512) ![0, 0, 0, 0] S64x1x32x512.size inb_S64x1x32x512_S64x1x32x512_0_0_0_0) (fun _ => rfl)).squeeze S64x32x512 squeezes_S64x1x32x512_S64x32x512)
/-- The cells of the three loads. -/
abbrev ldC0 : DmaSem sig := ((cc0_scratch11.slice (Rect.unit (s := S3) ![0] S1.size inb_S3_S1_0)).squeeze S_ squeezes_S1_S_).sem
abbrev ldC1 : DmaSem sig := ((cc0_scratch11.slice (Rect.unit (s := S3) ![1] S1.size inb_S3_S1_1)).squeeze S_ squeezes_S1_S_).sem
abbrev ldC2 : DmaSem sig := ((cc0_scratch11.slice (Rect.unit (s := S3) ![2] S1.size inb_S3_S1_2)).squeeze S_ squeezes_S1_S_).sem

/-- The scratch buffers, at some contents. -/
def Scr (c : Dev nD) : sProp 𝕄 := iprop((∃ f, ((Memref.whole cc0_scratch0).view.loc (c : Thread nD τ) ↦[Finset.univ]{fullShare} f)) ∗ (∃ f, ((Memref.whole cc0_scratch1).view.loc (c : Thread nD τ) ↦[Finset.univ]{fullShare} f)) ∗ (∃ f, ((Memref.whole cc0_scratch2).view.loc (c : Thread nD τ) ↦[Finset.univ]{fullShare} f)) ∗ (∃ f, ((Memref.whole cc0_scratch3).view.loc (c : Thread nD τ) ↦[Finset.univ]{fullShare} f)) ∗ (∃ f, ((Memref.whole cc0_scratch4).view.loc (c : Thread nD τ) ↦[Finset.univ]{fullShare} f)) ∗ (∃ f, ((Memref.whole cc0_scratch5).view.loc (c : Thread nD τ) ↦[Finset.univ]{fullShare} f)) ∗ (∃ f, ((Memref.whole cc0_scratch6).view.loc (c : Thread nD τ) ↦[Finset.univ]{fullShare} f)) ∗ (∃ f, ((Memref.whole cc0_scratch7).view.loc (c : Thread nD τ) ↦[Finset.univ]{fullShare} f)) ∗ (∃ f, ((Memref.whole cc0_scratch8).view.loc (c : Thread nD τ) ↦[Finset.univ]{fullShare} f)))
/-- The cells, at zero. -/
def Sems (c : Dev nD) : sProp 𝕄 := iprop((bigSep (Finset.univ : Finset (Fin 32)) fun s => semVal ((c : Thread nD τ), SemLoc.dma (kvC s)) 0) ∗ (bigSep (Finset.univ : Finset (Fin 32)) fun s => semVal ((c : Thread nD τ), SemLoc.dma (rpC s)) 0) ∗ semVal ((c : Thread nD τ), SemLoc.dma ldC0) 0 ∗ semVal ((c : Thread nD τ), SemLoc.dma ldC1) 0 ∗ semVal ((c : Thread nD τ), SemLoc.dma ldC2) 0 ∗ semVal ((c : Thread nD τ), SemLoc.dma cc0_scratch12.sem) 0)
/-- The operands the kernel reads itself. -/
def Hbm (fx : Vec F S64x32x512 .bf16) (fq : Vec F S64x32x64 .bf16) (fsc : Vec F S2560x64 .f32) : sProp 𝕄 :=
  iprop(((Memref.whole main_v0).view.loc (c : Thread nD τ) ↦[Finset.univ]{fullShare} fx) ∗ ((Memref.whole main_v1).view.loc (c : Thread nD τ) ↦[Finset.univ]{fullShare} fq) ∗ ((Memref.whole main_arg2).view.loc (c : Thread nD τ) ↦[Finset.univ]{fullShare} e.PK) ∗ ((Memref.whole main_arg3).view.loc (c : Thread nD τ) ↦[Finset.univ]{fullShare} fsc) ∗ ((Memref.whole main_arg4).view.loc (c : Thread nD τ) ↦[Finset.univ]{fullShare} e.PR))

section
variable {arg0 : Mref .smem S64x32 .i32} {harg0 : arg0.IsWhole} {arg1 : Mref .smem S64 .i32} {harg1 : arg1.IsWhole} {arg2 : Mref .smem S64x1 .f32} {harg2 : arg2.IsWhole} {harg3 : (Memref.whole main_v0).IsWhole} {harg4 : (Memref.whole main_v1).IsWhole} {harg5 : (Memref.whole main_arg2).IsWhole} {harg6 : (Memref.whole main_arg3).IsWhole} {harg7 : (Memref.whole main_arg4).IsWhole} {arg8 : Mref .vmem S64x1x512 .fp8e4m3} {harg8 : arg8.IsWhole} {arg9 : Mref .vmem S64x1x64 .bf16} {harg9 : arg9.IsWhole} {harg10 : (Memref.whole main_v2_0).IsWhole} {arg11 : Mref .vmem S64x1x32 .f32} {harg11 : arg11.IsWhole} {harg12 : (Memref.whole cc0_scratch0).IsWhole} {harg13 : (Memref.whole cc0_scratch1).IsWhole} {harg14 : (Memref.whole cc0_scratch2).IsWhole} {harg15 : (Memref.whole cc0_scratch3).IsWhole} {harg16 : (Memref.whole cc0_scratch4).IsWhole} {harg17 : (Memref.whole cc0_scratch5).IsWhole} {harg18 : (Memref.whole cc0_scratch6).IsWhole} {harg19 : (Memref.whole cc0_scratch7).IsWhole} {harg20 : (Memref.whole cc0_scratch8).IsWhole}
variable {fL : Buf (Elt F) (arg1.view.loc (c : Thread nD τ))} {fT : Buf (Elt F) (arg0.view.loc (c : Thread nD τ))}
  (h : e.Reads arg1 arg0 fL fT)

set_option maxHeartbeats 1000000 in
include h in
/-- The body, from its operands: some run of the schedule ends past the last request, and the results are that run's. -/
theorem decode_wp (fx : Vec F S64x32x512 .bf16) (fq : Vec F S64x32x64 .bf16) (fsc : Vec F S2560x64 .f32) (cn : Vec F S64x1x512 .fp8e4m3) (cs : Vec F S64x1 .f32) (kr : Vec F S64x1x64 .bf16)
    {Q : PUnit → sProp 𝕄} :
    Sc arg1 arg0 fL fT iprop(Hbm e fx fq fsc ∗ (∃ f, ((Memref.whole main_v2_0).view.loc (c : Thread nD τ) ↦[Finset.univ]{fullShare} f)) ∗ Hv (c := c) arg2 cs ∗ Hv (c := c) arg8 cn ∗ Hv (c := c) arg9 kr ∗ (∃ f, (arg11.view.loc (c : Thread nD τ) ↦[Finset.univ]{fullShare} f)) ∗ Scr c ∗ Sems c ∗ Ow c)
      ⊢ iprop((∀ N S', ⌜Reach e ⟨fx, fq, fsc, cn, cs, kr⟩ N S' ∧ 64 ≤ (sch e.L N).1⌝
          -∗ Sc arg1 arg0 fL fT iprop(Hbm e fx fq fsc ∗ Hv (c := c) outM S'.o ∗ Hv (c := c) arg2 cs ∗ Hv (c := c) arg8 cn ∗ Hv (c := c) arg9 kr ∗ Hv (c := c) arg11 S'.s ∗ Scr c ∗ Sems c ∗ Ow c) -∗ Q ⟨⟩)
        -∗ wp frame (wpE (defs₀ (F := F)) Variants.nat (c : Thread nD τ) none) Set.univ (cc0_mla_decode (F := F) arg0 harg0 arg1 harg1 arg2 harg2 (Memref.whole main_v0) harg3 (Memref.whole main_v1) harg4 (Memref.whole main_arg2) harg5 (Memref.whole main_arg3) harg6 (Memref.whole main_arg4) harg7 arg8 harg8 arg9 harg9 (Memref.whole main_v2_0) harg10 arg11 harg11 (Memref.whole cc0_scratch0) harg12 (Memref.whole cc0_scratch1) harg13 (Memref.whole cc0_scratch2) harg14 (Memref.whole cc0_scratch3) harg15 (Memref.whole cc0_scratch4) harg16 (Memref.whole cc0_scratch5) harg17 (Memref.whole cc0_scratch6) harg18 (Memref.whole cc0_scratch7) harg19 (Memref.whole cc0_scratch8) harg20 cc0_scratch9 cc0_scratch10 cc0_scratch11 cc0_scratch12) Q) := by
  unfold Scr Sems Hbm
  rw [cc0_mla_decode_eq_skeleton]
  unfold cc0_mla_decode_skel
  iintro ⟨H1, H0, ⟨Hx, Hq, HK, Hsc, HR⟩, ⟨%fo, Ho⟩, H2, H8, H9, ⟨%f11, H11⟩, ⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩, ⟨CA, CB, C0, C1, C2, C3⟩, HO⟩ Hk
  iapply (start_wp none (Memref.whole main_v0) (Memref.whole cc0_scratch0) ldC0 (View.set_whole _) (View.dmaCredit_pos _ (by decide)) _ _ _ fx s0) $$ [Hx S0 C0]
  · isplitl [Hx]; · iexact Hx
    isplitl [S0] <;> iassumption
  iintro F0
  iapply (start_wp none (Memref.whole main_v1) (Memref.whole cc0_scratch1) ldC1 (View.set_whole _) (View.dmaCredit_pos _ (by decide)) _ _ _ fq s1) $$ [Hq S1 C1]
  · isplitl [Hq]; · iexact Hq
    isplitl [S1] <;> iassumption
  iintro F1
  iapply (start_wp none (Memref.whole main_arg3) (Memref.whole cc0_scratch2) ldC2 (View.set_whole _) (View.dmaCredit_pos _ (by decide)) _ _ _ fsc s2) $$ [Hsc S2 C2]
  · isplitl [Hsc]; · iexact Hsc
    isplitl [S2] <;> iassumption
  iintro F2
  ihave HP := (ring_open e) $$ [S3 S4 HK HR CA CB]
  · isplitl [S3]; · iexists s3; iexact S3
    isplitl [S4]; · iexists s4; iexact S4
    isplitl [HK]; · iexact HK
    isplitl [HR]; · iexact HR
    isplitl [CA] <;> iassumption
  icases HP with ⟨HP, HF⟩
  iapply (prologue_wp e none h) $$ [H1 H0 HF]
  · isplitl [H1]; · iexact H1
    isplitl [H0]; · iexact H0
    iexact HF
  iintro ⟨H1, H0, HF⟩
  dsimp only
  iapply (land_wp none (Memref.whole main_v0) (Memref.whole main_v0) (Memref.whole cc0_scratch0) ldC0 _ _ fx s0) $$ [F0 HO]
  · isplitl [F0] <;> iassumption
  iintro ⟨S0, Hx, C0, HO⟩
  iapply (land_wp none (Memref.whole main_v1) (Memref.whole main_v1) (Memref.whole cc0_scratch1) ldC1 _ _ fq s1) $$ [F1 HO]
  · isplitl [F1] <;> iassumption
  iintro ⟨S1, Hq, C1, HO⟩
  iapply (land_wp none (Memref.whole main_arg3) (Memref.whole main_arg3) (Memref.whole cc0_scratch2) ldC2 _ _ fsc s2) $$ [F2 HO]
  · isplitl [F2] <;> iassumption
  iintro ⟨S2, Hsc, C2, HO⟩
  rw [wp_bind]
  iapply (wp_call Variants.nat (c : Thread nD τ) _ Set.univ 512 (fun u hu => by cases hu))
  ihave S5 := (Hv_intro (c := c) (Memref.whole cc0_scratch5) s5) $$ S5
  ihave S6 := (Hv_intro (c := c) (Memref.whole cc0_scratch6) s6) $$ S6
  ihave S7 := (Hv_intro (c := c) (Memref.whole cc0_scratch7) s7) $$ S7
  ihave S8 := (Hv_intro (c := c) (Memref.whole cc0_scratch8) s8) $$ S8
  ihave H11 := (Hv_intro (c := c) arg11 f11) $$ H11
  iapply (loop_wp e h ⟨fx, fq, fsc, cn, cs, kr⟩ 512 0 ⟨s6, s7, s8, s5, arg11.view.read (Elt F) f11⟩ (by omega) (by omega) (Reach.zero _)) $$ [H1 H0 S0 S1 S2 H8 H2 H9 S6 S7 S8 S5 H11 HF HO]
  · unfold LoopInv Cst Stt
    isplitl [H1]; · iexact H1
    isplitl [H0]; · iexact H0
    isplitl [S0 S1 S2 H8 H2 H9]
    · isplitl [S0]; · iexact S0
      isplitl [S1]; · iexact S1
      isplitl [S2]; · iexact S2
      isplitl [H8]; · iexact H8
      isplitl [H2]; · iexact H2
      iexact H9
    isplitl [S6 S7 S8 S5 H11]
    · isplitl [S6]; · iexact S6
      isplitl [S7]; · iexact S7
      isplitl [S8]; · iexact S8
      isplitl [S5]; · iexact S5
      iexact H11
    isplitl [HF]; · iexact HF
    iexact HO
  unfold LoopInv Cst Stt
  iintro %N %S' %r %hN ⟨H1, H0, ⟨S0, S1, S2, H8, H2, H9⟩, ⟨S6, S7, S8, S5, H11⟩, HF, HO⟩
  obtain ⟨hr, hN512, h64⟩ := hN
  rw [wp_ret]
  imodintro
  ihave S5 := (Hv_open (c := c) (Memref.whole cc0_scratch5) S'.o) $$ S5
  icases S5 with ⟨%f5, %h5, S5⟩
  obtain ⟨r0, r1, r2, r3, r4⟩ := r
  dsimp only
  iapply (start_wp none (Memref.whole cc0_scratch5) outM cc0_scratch12.sem (View.set_whole _) (View.dmaCredit_pos _ (by decide)) _ _ _ f5 fo) $$ [S5 Ho C3]
  · isplitl [S5]; · iexact S5
    isplitl [Ho] <;> iassumption
  iintro F3
  iapply (land_wp none (Memref.whole cc0_scratch5) (Memref.whole cc0_scratch5) outM cc0_scratch12.sem _ _ f5 fo) $$ [F3 HO]
  · isplitl [F3] <;> iassumption
  rw [h5]
  iintro ⟨Ho, S5, C3, HO⟩
  rw [show ∀ x, (pure x : Prog (TpuEff nD τ sig (Elt F) (Λ₀ F) .tc) PUnit) = Prog.ret x from fun _ => rfl, wp_ret]
  imodintro
  have hfree : bigSep (Finset.Ico N (N + 32)) (Ready e) = bigSep (Finset.univ : Finset (Fin 32)) (Free e) := by
    rw [slots_turns (Free e) N]
    refine bigSep_congr fun k hk => ?_
    unfold Ready
    exact if_neg (by have := sch_mono (L := e.L) (Finset.mem_Ico.mp hk).1; omega)
  ihave HF := (show _ ⊢ _ from BIBase.Entails.of_eq hfree) $$ HF
  ihave HP := (ring_close e s3 s4) $$ [HP HF]
  · isplitl [HP] <;> iassumption
  icases HP with ⟨S3, S4, HK, HR, CA, CB⟩
  iapply Hk $$ %N %S' %⟨hr, h64⟩
  isplitl [H1]; · iexact H1
  isplitl [H0]; · iexact H0
  isplitl [Hx Hq HK Hsc HR]
  · isplitl [Hx]; · iexact Hx
    isplitl [Hq]; · iexact Hq
    isplitl [HK]; · iexact HK
    isplitl [Hsc]; · iexact Hsc
    iexact HR
  isplitl [Ho]; · iexact Ho
  isplitl [H2]; · iexact H2
  isplitl [H8]; · iexact H8
  isplitl [H9]; · iexact H9
  isplitl [H11]; · iexact H11
  isplitl [S0 S1 S2 S3 S4 S5 S6 S7 S8]
  · isplitl [S0]; · iapply (Hv_elim (c := c) (Memref.whole cc0_scratch0) fx) $$ S0
    isplitl [S1]; · iapply (Hv_elim (c := c) (Memref.whole cc0_scratch1) fq) $$ S1
    isplitl [S2]; · iapply (Hv_elim (c := c) (Memref.whole cc0_scratch2) fsc) $$ S2
    isplitl [S3]; · iexact S3
    isplitl [S4]; · iexact S4
    isplitl [S5]; · iexists f5; iexact S5
    isplitl [S6]; · iapply (Hv_elim (c := c) (Memref.whole cc0_scratch6) S'.m) $$ S6
    isplitl [S7]; · iapply (Hv_elim (c := c) (Memref.whole cc0_scratch7) S'.l) $$ S7
    iapply (Hv_elim (c := c) (Memref.whole cc0_scratch8) S'.a) $$ S8
  isplitl [CA CB C0 C1 C2 C3]
  · isplitl [CA]; · iexact CA
    isplitl [CB]; · iexact CB
    isplitl [C0]; · iexact C0
    isplitl [C1]; · iexact C1
    isplitl [C2]; · iexact C2
    iexact C3
  iexact HO
end

end Cert.KernelIdeal.Hand

end
-- ==== Proof.KI.Setup.lean ====
/-
  What the kernel is launched with: the buffers' contents after the two reshapes, the cells, and what of them the body reads.
-/
module

public import proofs.«01_k».proof.Proof.KI.Body
public import proofs.«01_k».proof.Proof.Gen.KernelIdeal.Points
public import Idealize.ShloMosaic.Lib.Pipeline.FrameBody
public import Idealize.ShloMosaic.Lib.ValueIdxCore

@[expose] public section

set_option maxRecDepth 16384

noncomputable section

namespace Cert.KernelIdeal.Hand

open Cert.KernelIdeal Cert.KernelIdeal.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The contents at the launch -/

/-- The unscoped buffers when the kernel starts: the two reshapes are done. -/
abbrev V (c : Dev nD) (b : Ref sig .tc) : Buf (Elt F) ((c : Thread nD τ).loc b) := StableHlo.after hostOps0 (fun b => m (c, b)) b

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub (by exact ⟨rfl, rfl⟩) main_chain

/-! ## The words the schedule is made of -/

/-- Word `i` of the cache lengths. -/
def lensW (f : Vec F S64 .i32) (i : ℕ) : BitVec 32 := if h : i < 64 then f (ValueIdx.ix1 ⟨i, h⟩) else 0#32
/-- Word `j` of row `i` of the page table. -/
def pageW (f : Vec F S64x32 .i32) (i j : ℕ) : BitVec 32 := if h : i < 64 ∧ j < 32 then f (ValueIdx.ix2 ⟨i, h.1⟩ ⟨j, h.2⟩) else 0#32

/-- The schedule's data on core `c`. -/
def envOf (c : Dev nD) : Env F c where
  L := lensW (F := F) (V m c main_arg6)
  PT := pageW (F := F) (V m c main_arg5)
  PK := V m c main_arg2
  PR := V m c main_arg4

/-- What the launch asks of the words: the pages lie in the pool and no length exceeds the table. -/
structure Addressable (m : (ℓ : Loc nD τ sig) → Buf (Elt F) ℓ) (c : Dev nD) : Prop where
  lens : ∀ i, i < 64 → (lensW (F := F) (m ((c.tc : Thread nD τ).loc main_arg6)) i).toInt ≤ 2048
  pages : ∀ i j, i < 64 → j < 32 → (pageW (F := F) (m ((c.tc : Thread nD τ).loc main_arg5)) i j).toNat < 2560

/-- What the body reads of the two tables, as the schedule's data. -/
theorem reads_of {c : Dev nD} (ha : Addressable m c) {arg1 : Mref .smem S64 .i32} {arg0 : Mref .smem S64x32 .i32}
    {fL : Buf (Elt F) (arg1.view.loc (c : Thread nD τ))} {fT : Buf (Elt F) (arg0.view.loc (c : Thread nD τ))}
    (h1 : arg1.view.read (Elt F) fL = (V m c main_arg6 : Vec F S64 .i32)) (h0 : arg0.view.read (Elt F) fT = (V m c main_arg5 : Vec F S64x32 .i32)) :
    (envOf m c).Reads arg1 arg0 fL fT where
  hL b k hb hk i x := by
    subst hb
    have hx : arg1.view.read (Elt F) fL ((Rect.unit (s := S64) (lOff (W k)) S1.size i).idx x) = lensW (F := F) (V m c main_arg6) k := by
      rw [h1]
      unfold lensW
      rw [dif_pos hk]
      refine congrArg (V m c main_arg6 : Vec F S64 .i32) (funext fun a => Fin.ext ?_)
      match a with
      | ⟨0, _⟩ =>
        have hx0 : (x 0).val < 1 := (x 0).isLt
        show (Scalar.indexCast (W k)).toNat + 1 * (x 0).val = k
        rw [W_idx (by omega)]; omega
    exact hx
  hT b k i j p hb hk hi hj hp inb x := by
    subst hb hk
    have hx : arg0.view.read (Elt F) fT ((Rect.unit (s := S64x32) (tOff (W i) (W j) p) S1x1.size inb).idx x) = pageW (F := F) (V m c main_arg5) i (j * 4 + p) := by
      rw [h0]
      unfold pageW
      rw [dif_pos ⟨hi, by omega⟩]
      refine congrArg (V m c main_arg5 : Vec F S64x32 .i32) (funext fun a => Fin.ext ?_)
      match a with
      | ⟨0, _⟩ =>
        have hx0 : (x 0).val < 1 := (x 0).isLt
        show (Scalar.indexCast (W i)).toNat + 1 * (x 0).val = i
        rw [W_idx (by omega)]; omega
      | ⟨1, _⟩ =>
        have hx0 : (x 1).val < 1 := (x 1).isLt
        show (Scalar.indexCast (Scalar.addi (Scalar.muli (W j) 4#32) (BitVec.ofNat 32 p))).toNat + 1 * (x 1).val = j * 4 + p
        rw [W_page, W_idx (by omega)]; omega
    exact hx
  lens i hi := ha.lens i hi
  pages i j hi hj := ha.pages i j hi hj

/-! ## The cells and the buffers the body takes itself -/

/-- The body's own cells: the two rings' and the four literal ones. -/
def osem0 : Fin 32 ⊕ (Fin 32 ⊕ Fin 4) → SemLoc sig :=
  Sum.elim (fun s => .dma (kvC s)) (Sum.elim (fun s => .dma (rpC s)) ![.dma ldC0, .dma ldC1, .dma ldC2, .dma cc0_scratch12.sem])
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄) = Sems c := by
  unfold Pipeline.ownSems0 Sems
  rw [bigSep_univ_sum, bigSep_univ_sum, bigSep_univ_eq_bigSepL [(0 : Fin 4), 1, 2, 3] (by decide) (by decide)]
  rfl

/-- The operands the body's transfers read. -/
def H0 : Finset (Ref sig .tc) := {main_v0, main_v1, main_arg2, main_arg3, main_arg4}
/-- The result the body's transfer writes. -/
def R0 : Finset (Ref sig .tc) := {main_v2_0}
theorem H0_sub : H0 ⊆ Pipeline.restRefs sig spec0 := by decide
theorem R0_sub : R0 ⊆ Pipeline.restRefs sig spec0 \ H0 := by decide

theorem hbmPts0_eq (c : Dev nD) :
    (bigSep H0 (fun b => ((c : Thread nD τ).loc b) ↦{fullShare} V m c b) : sProp 𝕄)
      = Hbm (envOf m c) (V m c main_v0) (V m c main_v1) (V m c main_arg3) := by
  rw [BI.bigSep_eq_bigSepL_of_eq [main_v0, main_v1, main_arg2, main_arg3, main_arg4] (by decide) (by decide)]; rfl

theorem ownedPts0_eq (c : Dev nD) :
    (Pipeline.owned R0 c : sProp 𝕄) = iprop(∃ f, ((Memref.whole main_v2_0).view.loc (c : Thread nD τ) ↦[Finset.univ]{fullShare} f)) := by
  unfold Pipeline.owned; rw [BI.bigSep_eq_bigSepL_of_eq [main_v2_0] (by decide) (by decide)]; rfl

theorem scoped0_eq (c : Dev nD) :
    (Pipeline.scopedRest (Ix := Unit) (Name := ℕ) (U := Pipeline.UD sig nD τ) (Lvl := ℕ) (Val := Elt F) spec0 c : sProp 𝕄) = Scr c := by
  rw [scopedRest0_eq]; rfl

/-- What the body is entered with, beside the windows. -/
theorem PhiDR0_eq (c : Dev nD) :
    (Pipeline.ΦDR osem0 spec0 H0 R0 (V m) c : sProp 𝕄)
      = iprop(Scr c ∗ (∃ r, prngReg c r) ∗ Sems c ∗ Hbm (envOf m c) (V m c main_v0) (V m c main_v1) (V m c main_arg3)
          ∗ (∃ f, ((Memref.whole main_v2_0).view.loc (c : Thread nD τ) ↦[Finset.univ]{fullShare} f))) := by
  rw [Pipeline.ΦDR_eq, scoped0_eq, ownSems00_eq, hbmPts0_eq, ownedPts0_eq]

end Cert.KernelIdeal.Hand

end
-- ==== Proof.KB.Prog.lean ====
/-
  The two pieces of program the kernel repeats for each page of a chunk: starting the page's two copies into a ring slot,
  and waiting for them. The printed body writes each out four or eight times; here each is one definition, and the
  printed parts are shown to be their sequences.
-/
module

public import proofs.«01_k».proof.Proof.Sched
public import proofs.«01_k».proof.Proof.Gen.Kernel.Skeleton
public import Idealize.ShloMosaic.Lib.Exec

@[expose] public section

set_option maxRecDepth 16384

noncomputable section

namespace Cert.Kernel.Hand

open Cert.Kernel Cert.Kernel.Gen Decode
open Idealize.ShloMosaic Idealize.ShloMosaic.TcCoe
open Idealize.SL Idealize.SL.Sem

variable {F : FTy → Type} [FloatOps F]

/-- A buffer of the kernel. -/
abbrev Mref := Memref sig .tc

/-- Where page `p` of slot word `s` sits in the ring. -/
abbrev dOff (s : BitVec 32) (p : ℕ) : Fin 3 → ℕ := ![s.toNat, 64 * p, 0]
/-- Where the page named by word `w` sits in the pool. -/
abbrev pOff (w : BitVec 32) : Fin 3 → ℕ := ![w.toNat, 0, 0]
/-- Where a sequence's length sits. -/
abbrev lOff (b : BitVec 32) : Fin 1 → ℕ := ![(Scalar.indexCast b).toNat]
/-- Where the number of page `p` of chunk `c` of sequence `b` sits in the page table. -/
abbrev tOff (b c : BitVec 32) (p : ℕ) : Fin 2 → ℕ :=
  ![(Scalar.indexCast b).toNat, (Scalar.indexCast (Scalar.addi (Scalar.muli c 4#32) (BitVec.ofNat 32 p))).toNat]

section
variable (arg1 : Mref .smem S64 .i32) (harg1 : arg1.IsWhole) (arg0 : Mref .smem S64x32 .i32) (harg0 : arg0.IsWhole)
  (arg21 : DmaSems sig S32) (arg15 : Mref .vmem S32x256x512 .fp8e4m3) (harg15 : arg15.IsWhole)
  (arg5 : Mref .hbm S2560x64x512 .fp8e4m3) (harg5 : arg5.IsWhole) (arg22 : DmaSems sig S32)
  (arg16 : Mref .vmem S32x256x64 .bf16) (harg16 : arg16.IsWhole) (arg7 : Mref .hbm S2560x64x64 .bf16) (harg7 : arg7.IsWhole)

/-- The side conditions of one page's two copies: the slot's cell and windows, and the pool's page, in bounds and whole words. -/
structure PageOk (oS : Fin 1 → ℕ) (oD oP : Fin 3 → ℕ) : Prop where
  sem : ∀ a, oS a + S1.size a ≤ S32.size a
  kvD : ∀ a, oD a + S1x64x512.size a ≤ S32x256x512.size a
  kvDw : (Rect.unit (s := S32x256x512) oD S1x64x512.size kvD).WholeWords (EltTy.packing .fp8e4m3)
  kvS : ∀ a, oP a + S1x64x512.size a ≤ S2560x64x512.size a
  kvSw : (Rect.unit (s := S2560x64x512) oP S1x64x512.size kvS).WholeWords (EltTy.packing .fp8e4m3)
  rpD : ∀ a, oD a + S1x64x64.size a ≤ S32x256x64.size a
  rpDw : (Rect.unit (s := S32x256x64) oD S1x64x64.size rpD).WholeWords (EltTy.packing .bf16)
  rpS : ∀ a, oP a + S1x64x64.size a ≤ S2560x64x64.size a
  rpSw : (Rect.unit (s := S2560x64x64) oP S1x64x64.size rpS).WholeWords (EltTy.packing .bf16)

/-- Start the two copies of one page. -/
def issueTwo (oS : Fin 1 → ℕ) (oD oP : Fin 3 → ℕ) (h : PageOk oS oD oP) : Prog (TpuEff nD τ sig (Elt F) (Λ₀ F) .tc) PUnit := do
  Prog.lift (.enqueueDma ((arg5.slice (Rect.unit (s := S2560x64x512) oP S1x64x512.size h.kvS) (fun _ => rfl)).squeeze S64x512 squeezes_S1x64x512_S64x512)
    (.here ((arg15.slice (Rect.unit (s := S32x256x512) oD S1x64x512.size h.kvD) (fun _ => rfl)).squeeze S64x512 squeezes_S1x64x512_S64x512))
    (.dma ((arg21.slice (Rect.unit (s := S32) oS S1.size h.sem)).squeeze S_ squeezes_S1_S_).sem)
    ((harg5.wordExact_slice rfl _ h.kvSw).reshape _ _) ((harg15.wordExact_slice rfl _ h.kvDw).reshape _ _) ⟨Or.inl rfl, trivial⟩)
  Prog.lift (.enqueueDma ((arg7.slice (Rect.unit (s := S2560x64x64) oP S1x64x64.size h.rpS) (fun _ => rfl)).squeeze S64x64 squeezes_S1x64x64_S64x64)
    (.here ((arg16.slice (Rect.unit (s := S32x256x64) oD S1x64x64.size h.rpD) (fun _ => rfl)).squeeze S64x64 squeezes_S1x64x64_S64x64))
    (.dma ((arg22.slice (Rect.unit (s := S32) oS S1.size h.sem)).squeeze S_ squeezes_S1_S_).sem)
    ((harg7.wordExact_slice rfl _ h.rpSw).reshape _ _) ((harg16.wordExact_slice rfl _ h.rpDw).reshape _ _) ⟨Or.inl rfl, trivial⟩)
  pure ⟨⟩

/-- Wait for the two copies of one page. -/
def waitTwo (oS : Fin 1 → ℕ) (oD oP : Fin 3 → ℕ) (h : PageOk oS oD oP) : Prog (TpuEff nD τ sig (Elt F) (Λ₀ F) .tc) PUnit := do
  Prog.lift (.waitDma2 ((arg21.slice (Rect.unit (s := S32) oS S1.size h.sem)).squeeze S_ squeezes_S1_S_).sem
    ((arg5.slice (Rect.unit (s := S2560x64x512) oP S1x64x512.size h.kvS) (fun _ => rfl)).squeeze S64x512 squeezes_S1x64x512_S64x512)
    ((arg15.slice (Rect.unit (s := S32x256x512) oD S1x64x512.size h.kvD) (fun _ => rfl)).squeeze S64x512 squeezes_S1x64x512_S64x512)
    ((harg5.wordExact_slice rfl _ h.kvSw).reshape _ _) ((harg15.wordExact_slice rfl _ h.kvDw).reshape _ _))
  Prog.lift (.waitDma2 ((arg22.slice (Rect.unit (s := S32) oS S1.size h.sem)).squeeze S_ squeezes_S1_S_).sem
    ((arg7.slice (Rect.unit (s := S2560x64x64) oP S1x64x64.size h.rpS) (fun _ => rfl)).squeeze S64x64 squeezes_S1x64x64_S64x64)
    ((arg16.slice (Rect.unit (s := S32x256x64) oD S1x64x64.size h.rpD) (fun _ => rfl)).squeeze S64x64 squeezes_S1x64x64_S64x64)
    ((harg7.wordExact_slice rfl _ h.rpSw).reshape _ _) ((harg16.wordExact_slice rfl _ h.rpDw).reshape _ _))
  pure ⟨⟩

/-- One page: read the length, and under `pcond` read the page's number and do `two` (start, or wait for, its copies);
    then `k`. `A` and `B` are the two side conditions the printed body assumes on the way. -/
def pageSite (two : (oS : Fin 1 → ℕ) → (oD oP : Fin 3 → ℕ) → PageOk oS oD oP → Prog (TpuEff nD τ sig (Elt F) (Λ₀ F) .tc) PUnit)
    (it b c : BitVec 32) (p : ℕ) (inbL : ∀ a, lOff b a + S1.size a ≤ S64.size a)
    (A : BitVec 32 → Prop) (dA : ∀ v, Decidable (A v))
    (inbT : ∀ v, A v → pcond it c p v = 1#1 → ∀ a, tOff b c p a + S1x1.size a ≤ S64x32.size a)
    (B : BitVec 32 → BitVec 32 → Prop) (dB : ∀ v w, Decidable (B v w))
    (ok : ∀ v w, A v → B v w → pcond it c p v = 1#1 → PageOk ![(Scalar.remsi it 32#32).toNat] (dOff (Scalar.remsi it 32#32) p) (pOff w))
    {α : Type} (k : PUnit → Prog (TpuEff nD τ sig (Elt F) (Λ₀ F) .tc) α) :
    Prog (TpuEff nD τ sig (Elt F) (Λ₀ F) .tc) α :=
  (smemLoad arg1 (Rect.unit (s := S64) (lOff b) S1.size inbL) numel1_S1 rfl : Prog (TpuEff nD τ sig (Elt F) (Λ₀ F) .tc) (Elt F .i32)) >>= fun v =>
  Prog.lift (TpuEff.assume (A v) (dA v)) >>= fun hA =>
  if h : pcond it c p v = 1#1 then
    (smemLoad arg0 (Rect.unit (s := S64x32) (tOff b c p) S1x1.size (inbT v hA.down h)) numel1_S1x1 rfl : Prog (TpuEff nD τ sig (Elt F) (Λ₀ F) .tc) (Elt F .i32)) >>= fun w =>
    Prog.lift (TpuEff.assume (B v w) (dB v w)) >>= fun hB =>
    two ![(Scalar.remsi it 32#32).toNat] (dOff (Scalar.remsi it 32#32) p) (pOff w) (ok v w hA.down hB.down h) >>= k
  else k ⟨⟩

end

end Cert.Kernel.Hand

end
-- ==== Proof.KB.Res.lean ====
/-
  What the kernel holds about its ring: the window of a slot that one page's copy writes, the page of the pool it reads,
  and the resources of a slot that is free, in flight, and landed.
-/
module

public import proofs.«01_k».proof.Proof.KB.Prog
public import proofs.«01_k».proof.Proof.Gen.Kernel.Launch
public import Idealize.ShloMosaic.Lib.Pipeline.FrameBody
public import Idealize.ShloMosaic.Lib.Ring
public import Idealize.ShloMosaic.Lib.Batch
public import Idealize.ShloMosaic.Lib.Tactic
public import Idealize.ShloMosaic.Lib.WordCmp

@[expose] public section

set_option maxRecDepth 16384

noncomputable section

namespace Cert.Kernel.Hand

open Cert.Kernel Cert.Kernel.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The transfers' counters inside the proof's algebra. -/
abbrev EC : UEmb Counters 𝕄 := countersEmb (U := Pipeline.UD sig nD τ)

theorem kvInb (s : Fin 32) (p : Fin 4) : ∀ a, (![s.val, 64 * p.val, 0] : Fin 3 → ℕ) a + S1x64x512.size a ≤ S32x256x512.size a := by
  intro a; fin_cases a <;> simp [S1x64x512, S32x256x512] <;> omega
theorem rpInb (s : Fin 32) (p : Fin 4) : ∀ a, (![s.val, 64 * p.val, 0] : Fin 3 → ℕ) a + S1x64x64.size a ≤ S32x256x64.size a := by
  intro a; fin_cases a <;> simp [S1x64x64, S32x256x64] <;> omega
theorem kvSInb (g : Fin 2560) : ∀ a, (![g.val, 0, 0] : Fin 3 → ℕ) a + S1x64x512.size a ≤ S2560x64x512.size a := by
  intro a; fin_cases a <;> simp [S1x64x512, S2560x64x512] <;> omega
theorem rpSInb (g : Fin 2560) : ∀ a, (![g.val, 0, 0] : Fin 3 → ℕ) a + S1x64x64.size a ≤ S2560x64x64.size a := by
  intro a; fin_cases a <;> simp [S1x64x64, S2560x64x64] <;> omega
theorem semInb (s : Fin 32) : ∀ a, (![s.val] : Fin 1 → ℕ) a + S1.size a ≤ S32.size a := by
  intro a; fin_cases a; simp [S1, S32]

/-- Page `p` of slot `s` of the key/value ring. -/
abbrev kvD (s : Fin 32) (p : Fin 4) : Mref .vmem S64x512 .fp8e4m3 :=
  ((Memref.whole cc0_scratch3).slice (Rect.unit (s := S32x256x512) ![s.val, 64 * p.val, 0] S1x64x512.size (kvInb s p)) (fun _ => rfl)).squeeze S64x512 squeezes_S1x64x512_S64x512
/-- Page `p` of slot `s` of the position-key ring. -/
abbrev rpD (s : Fin 32) (p : Fin 4) : Mref .vmem S64x64 .bf16 :=
  ((Memref.whole cc0_scratch4).slice (Rect.unit (s := S32x256x64) ![s.val, 64 * p.val, 0] S1x64x64.size (rpInb s p)) (fun _ => rfl)).squeeze S64x64 squeezes_S1x64x64_S64x64
/-- Page `g` of the key/value pool. -/
abbrev kvS (g : Fin 2560) : Mref .hbm S64x512 .fp8e4m3 :=
  ((Memref.whole main_arg2).slice (Rect.unit (s := S2560x64x512) ![g.val, 0, 0] S1x64x512.size (kvSInb g)) (fun _ => rfl)).squeeze S64x512 squeezes_S1x64x512_S64x512
/-- Page `g` of the position-key pool. -/
abbrev rpS (g : Fin 2560) : Mref .hbm S64x64 .bf16 :=
  ((Memref.whole main_arg4).slice (Rect.unit (s := S2560x64x64) ![g.val, 0, 0] S1x64x64.size (rpSInb g)) (fun _ => rfl)).squeeze S64x64 squeezes_S1x64x64_S64x64
/-- Slot `s`'s cell for the key/value copies. -/
abbrev kvC (s : Fin 32) : DmaSem sig := ((cc0_scratch9.slice (Rect.unit (s := S32) ![s.val] S1.size (semInb s))).squeeze S_ squeezes_S1_S_).sem
/-- Slot `s`'s cell for the position-key copies. -/
abbrev rpC (s : Fin 32) : DmaSem sig := ((cc0_scratch10.slice (Rect.unit (s := S32) ![s.val] S1.size (semInb s))).squeeze S_ squeezes_S1_S_).sem

/-- What one page's copy credits its cell with. -/
def NK : ℕ := (kvD 0 0).view.dmaCredit
def NR : ℕ := (rpD 0 0).view.dmaCredit
theorem NK_pos : 0 < NK := View.dmaCredit_pos _ (by decide)
theorem NR_pos : 0 < NR := View.dmaCredit_pos _ (by decide)

variable (c : Dev nD)

/-- The contents the kernel runs over that never change: the lengths, the page table, the two pools. -/
structure Env (F : FTy → Type) (c : Dev nD) [FloatOps F] where
  L : ℕ → BitVec 32
  PT : ℕ → ℕ → BitVec 32
  PK : Buf (Elt F) ((Memref.whole main_arg2).view.loc (c : Thread nD τ))
  PR : Buf (Elt F) ((Memref.whole main_arg4).view.loc (c : Thread nD τ))

variable {c} (e : Env F c)

/-- The pool page that page `p` of the `n`th chunk is. -/
def Env.pg (n : ℕ) (p : ℕ) : Fin 2560 := ⟨(e.PT (sch e.L n).1 ((sch e.L n).2 * 4 + p)).toNat % 2560, Nat.mod_lt _ (by norm_num)⟩

/-- The slot of the `n`th chunk. -/
def slot (n : ℕ) : Fin 32 := ⟨n % 32, Nat.mod_lt _ (by norm_num)⟩

/-- The share of a pool that page `p` of slot `s` reads through. -/
abbrev tk (s : Fin 32) (p : Fin 4) : PosShare TreeShare := Transfers.shareTokN fullShare (4 * s.val + p.val)

/-- The ring page holds the pool page. -/
def AgK (s : Fin 32) (p : Fin 4) (g : Fin 2560) (f : Buf (Elt F) ((kvD s p).view.loc (c : Thread nD τ))) : Prop :=
  (kvD s p).view.read (Elt F) f = (kvS g).view.read (Elt F) e.PK
def AgR (s : Fin 32) (p : Fin 4) (g : Fin 2560) (f : Buf (Elt F) ((rpD s p).view.loc (c : Thread nD τ))) : Prop :=
  (rpD s p).view.read (Elt F) f = (rpS g).view.read (Elt F) e.PR

/-- What a page's key/value copy delivers: the ring page written, and the pool page's share back. -/
def DK (n : ℕ) (p : ℕ) (hp : p < 4) : sProp 𝕄 :=
  iprop((∃ f, ⌜AgK e (slot n) ⟨p, hp⟩ (e.pg n p) f⌝ ∗ ((kvD (slot n) ⟨p, hp⟩).view.loc (c : Thread nD τ) ↦[(kvD (slot n) ⟨p, hp⟩).view.set]{fullShare} f))
    ∗ ((kvS (e.pg n p)).view.loc (c : Thread nD τ) ↦[(kvS (e.pg n p)).view.set]{tk (slot n) ⟨p, hp⟩} e.PK))
def DR (n : ℕ) (p : ℕ) (hp : p < 4) : sProp 𝕄 :=
  iprop((∃ f, ⌜AgR e (slot n) ⟨p, hp⟩ (e.pg n p) f⌝ ∗ ((rpD (slot n) ⟨p, hp⟩).view.loc (c : Thread nD τ) ↦[(rpD (slot n) ⟨p, hp⟩).view.set]{fullShare} f))
    ∗ ((rpS (e.pg n p)).view.loc (c : Thread nD τ) ↦[(rpS (e.pg n p)).view.set]{tk (slot n) ⟨p, hp⟩} e.PR))

set_option synthInstance.maxHeartbeats 0 in
instance DK_storable (n p : ℕ) (hp : p < 4) : Storable (upEmb : UEmb _ 𝕄) (DK e n p hp) := by unfold DK; infer_instance
set_option synthInstance.maxHeartbeats 0 in
instance DR_storable (n p : ℕ) (hp : p < 4) : Storable (upEmb : UEmb _ 𝕄) (DR e n p hp) := by unfold DR; infer_instance

/-- A page of the ring with nothing in flight; when `h` holds it holds pool page `g`. -/
def Pg (h : Prop) (s : Fin 32) (p : Fin 4) (g : Fin 2560) : sProp 𝕄 :=
  iprop((∃ f, ⌜h → AgK e s p g f⌝ ∗ ((kvD s p).view.loc (c : Thread nD τ) ↦[(kvD s p).view.set]{fullShare} f))
    ∗ (∃ f, ⌜h → AgR e s p g f⌝ ∗ ((rpD s p).view.loc (c : Thread nD τ) ↦[(rpD s p).view.set]{fullShare} f))
    ∗ ((Memref.whole main_arg2).view.loc (c : Thread nD τ) ↦[Finset.univ]{tk s p} e.PK)
    ∗ ((Memref.whole main_arg4).view.loc (c : Thread nD τ) ↦[Finset.univ]{tk s p} e.PR))

/-- A page of the ring, free. -/
abbrev PgFree (s : Fin 32) (p : Fin 4) : sProp 𝕄 := Pg e False s p 0

/-- What stays behind of a page whose copies are in flight. -/
def PgRest (n : ℕ) (p : Fin 4) : sProp 𝕄 :=
  iprop(((Memref.whole main_arg2).view.loc (c : Thread nD τ) ↦[Finset.univ \ (kvS (e.pg n p)).view.set]{tk (slot n) p} e.PK)
    ∗ ((Memref.whole main_arg4).view.loc (c : Thread nD τ) ↦[Finset.univ \ (rpS (e.pg n p)).view.set]{tk (slot n) p} e.PR))

/-- Page `p` of slot `n % 32` when the first `j` of its pages have been started. -/
def PgAt (n j : ℕ) (p : Fin 4) : sProp 𝕄 := if p.val < j then PgRest e n p else PgFree e (slot n) p

/-- The `n`th chunk's slot with the first `j` of the chunk's copies started and `u` of them waited for. -/
def Flying (n j u : ℕ) : sProp 𝕄 :=
  iprop(Transfers.Batch EC (c : Thread nD τ) (.dma (kvC (slot n))) () NK (fun t : Fin (cnt e.L n) => DK e n t.val (t.isLt.trans_le (cnt_le e.L n))) j (NK * u)
    ∗ Transfers.Batch EC (c : Thread nD τ) (.dma (rpC (slot n))) () NR (fun t : Fin (cnt e.L n) => DR e n t.val (t.isLt.trans_le (cnt_le e.L n))) j (NR * u)
    ∗ PgAt e n j 0 ∗ PgAt e n j 1 ∗ PgAt e n j 2 ∗ PgAt e n j 3)

/-- A slot with nothing in flight. -/
def Free (s : Fin 32) : sProp 𝕄 :=
  iprop(semVal ((c : Thread nD τ), SemLoc.dma (kvC s)) 0 ∗ semVal ((c : Thread nD τ), SemLoc.dma (rpC s)) 0
    ∗ PgFree e s 0 ∗ PgFree e s 1 ∗ PgFree e s 2 ∗ PgFree e s 3)

/-- The `n`th chunk's slot when its copies have landed: each page the chunk needs holds its pool page. -/
def Landed (n : ℕ) : sProp 𝕄 :=
  iprop(semVal ((c : Thread nD τ), SemLoc.dma (kvC (slot n))) 0 ∗ semVal ((c : Thread nD τ), SemLoc.dma (rpC (slot n))) 0
    ∗ Pg e (0 < cnt e.L n) (slot n) 0 (e.pg n 0) ∗ Pg e (1 < cnt e.L n) (slot n) 1 (e.pg n 1)
    ∗ Pg e (2 < cnt e.L n) (slot n) 2 (e.pg n 2) ∗ Pg e (3 < cnt e.L n) (slot n) 3 (e.pg n 3))

/-- A free slot starts flying with nothing started. -/
theorem Free_flying (n : ℕ) : Free e (slot n) ⊢ iprop(|={Set.univ}=> Flying e n 0 0 : sProp 𝕄) := by
  unfold Free Flying PgAt
  iintro ⟨H1, H2, H3, H4, H5, H6⟩
  imod (Transfers.batch_alloc' EC (c : Thread nD τ) () NK (fun t : Fin (cnt e.L n) => DK e n t.val (t.isLt.trans_le (cnt_le e.L n))) (E := Set.univ)) $$ H1 with H1
  imod (Transfers.batch_alloc' EC (c : Thread nD τ) () NR (fun t : Fin (cnt e.L n) => DR e n t.val (t.isLt.trans_le (cnt_le e.L n))) (E := Set.univ)) $$ H2 with H2
  imodintro
  rw [Nat.mul_zero, Nat.mul_zero]
  simp only [Nat.not_lt_zero, if_false]
  isplitl [H1]; · iexact H1
  isplitl [H2]; · iexact H2
  isplitl [H3]; · iexact H3
  isplitl [H4]; · iexact H4
  isplitl [H5]; · iexact H5
  iexact H6

/-- One page's delivery and what stayed behind make the page, holding its pool page. -/
theorem Pg_join (n : ℕ) (p : Fin 4) (h : Prop) :
    iprop(DK e n p.val p.isLt ∗ DR e n p.val p.isLt ∗ PgRest e n p) ⊢ Pg e h (slot n) p (e.pg n p) := by
  unfold DK DR PgRest Pg
  iintro ⟨⟨⟨%f, %hf, H1⟩, H2⟩, ⟨⟨%f', %hf', H3⟩, H4⟩, H5, H6⟩
  isplitl [H1]
  · iexists f; isplitr; · ipureintro; exact fun _ => hf
    iexact H1
  isplitl [H3]
  · iexists f'; isplitr; · ipureintro; exact fun _ => hf'
    iexact H3
  isplitl [H2 H5]
  · iapply (pointsTo_split_subset (Finset.subset_univ _)).2 $$ [H2 H5]
    isplitl [H2]; · iexact H2
    iexact H5
  · iapply (pointsTo_split_subset (Finset.subset_univ _)).2 $$ [H4 H6]
    isplitl [H4]; · iexact H4
    iexact H6

theorem Pg_mono (h h' : Prop) (s : Fin 32) (p : Fin 4) (g g' : Fin 2560) (hh : ¬ h') : Pg e h s p g ⊢ Pg e h' s p g' := by
  unfold Pg
  iintro ⟨⟨%f, -, H1⟩, ⟨%f', -, H2⟩, H3, H4⟩
  isplitl [H1]
  · iexists f; isplitr; · ipureintro; exact fun x => absurd x hh
    iexact H1
  isplitl [H2]
  · iexists f'; isplitr; · ipureintro; exact fun x => absurd x hh
    iexact H2
  isplitl [H3] <;> iassumption

/-- A page's share of the two batches' deliveries. -/
def Del (n j : ℕ) (p : Fin 4) : sProp 𝕄 := if p.val < j then iprop(DK e n p.val p.isLt ∗ DR e n p.val p.isLt) else BI.emp

theorem Del_join (n j : ℕ) (p : Fin 4) : iprop(Del e n j p ∗ PgAt e n j p) ⊢ Pg e (p.val < j) (slot n) p (e.pg n p) := by
  unfold Del PgAt
  by_cases h : p.val < j
  · rw [if_pos h, if_pos h]
    iintro ⟨⟨H1, H2⟩, H3⟩
    iapply (Pg_join e n p _)
    isplitl [H1]; · iexact H1
    isplitl [H2]; · iexact H2
    iexact H3
  · rw [if_neg h, if_neg h]
    iintro ⟨-, H⟩
    iapply (Pg_mono e _ _ _ _ _ _ h) $$ H

/-- The deliveries of at most four pages, page by page. -/
theorem bigSep_pages (k : ℕ) (hk : k ≤ 4) (D : (p : ℕ) → p < 4 → sProp 𝕄) :
    bigSep (Finset.univ : Finset (Fin k)) (fun t => D t.val (t.isLt.trans_le hk))
      ⊢ iprop((if 0 < k then D 0 (by norm_num) else BI.emp) ∗ (if 1 < k then D 1 (by norm_num) else BI.emp)
          ∗ (if 2 < k then D 2 (by norm_num) else BI.emp) ∗ (if 3 < k then D 3 (by norm_num) else BI.emp)) := by
  interval_cases k
  · rw [show (Finset.univ : Finset (Fin 0)) = ∅ by decide, bigSep_empty]
    simp only [Nat.not_lt_zero, lt_irrefl, if_false, show ¬ (1 : ℕ) < 0 by norm_num]
    iintro -
    isplitr; · iempintro
    isplitr; · iempintro
    isplitr <;> iempintro
  · rw [show (Finset.univ : Finset (Fin 1)) = {0} by decide, bigSep_singleton]
    simp only [show (0 : ℕ) < 1 by norm_num, show ¬ (1 : ℕ) < 1 by norm_num, show ¬ (2 : ℕ) < 1 by norm_num, show ¬ (3 : ℕ) < 1 by norm_num, if_true, if_false]
    show D 0 (by norm_num) ⊢ _
    iintro H
    isplitl [H]; · iexact H
    isplitr; · iempintro
    isplitr <;> iempintro
  · rw [show (Finset.univ : Finset (Fin 2)) = {0, 1} by decide, bigSep_insert (by decide), bigSep_singleton]
    simp only [show (0 : ℕ) < 2 by norm_num, show (1 : ℕ) < 2 by norm_num, show ¬ (2 : ℕ) < 2 by norm_num, show ¬ (3 : ℕ) < 2 by norm_num, if_true, if_false]
    show iprop(D 0 (by norm_num) ∗ D 1 (by norm_num)) ⊢ _
    iintro ⟨H, H'⟩
    isplitl [H]; · iexact H
    isplitl [H']; · iexact H'
    isplitr <;> iempintro
  · rw [show (Finset.univ : Finset (Fin 3)) = {0, 1, 2} by decide, bigSep_insert (by decide), bigSep_insert (by decide), bigSep_singleton]
    simp only [show (0 : ℕ) < 3 by norm_num, show (1 : ℕ) < 3 by norm_num, show (2 : ℕ) < 3 by norm_num, show ¬ (3 : ℕ) < 3 by norm_num, if_true, if_false]
    show iprop(D 0 (by norm_num) ∗ D 1 (by norm_num) ∗ D 2 (by norm_num)) ⊢ _
    iintro ⟨H, H', H''⟩
    isplitl [H]; · iexact H
    isplitl [H']; · iexact H'
    isplitl [H'']; · iexact H''
    iempintro
  · rw [show (Finset.univ : Finset (Fin 4)) = {0, 1, 2, 3} by decide, bigSep_insert (by decide), bigSep_insert (by decide), bigSep_insert (by decide), bigSep_singleton]
    simp only [show (0 : ℕ) < 4 by norm_num, show (1 : ℕ) < 4 by norm_num, show (2 : ℕ) < 4 by norm_num, show (3 : ℕ) < 4 by norm_num, if_true]
    exact .rfl

/-- A slot whose every started copy has been waited for has landed. -/
theorem Flying_landed (n : ℕ) : Flying e n (cnt e.L n) (cnt e.L n) ⊢ iprop(|={Set.univ}=> Landed e n : sProp 𝕄) := by
  unfold Flying Landed
  iintro ⟨H1, H2, H3, H4, H5, H6⟩
  imod (Transfers.batch_collect' EC (c : Thread nD τ) NK_pos) $$ H1 with ⟨D1, H1⟩
  imod (Transfers.batch_collect' EC (c : Thread nD τ) NR_pos) $$ H2 with ⟨D2, H2⟩
  imodintro
  isplitl [H1]; · iexact H1
  isplitl [H2]; · iexact H2
  ihave D1' := (bigSep_pages (cnt e.L n) (cnt_le e.L n) (DK e n)) $$ D1
  ihave D2' := (bigSep_pages (cnt e.L n) (cnt_le e.L n) (DR e n)) $$ D2
  icases D1' with ⟨A0, A1, A2, A3⟩
  icases D2' with ⟨B0, B1, B2, B3⟩
  have key : ∀ (p : Fin 4), iprop((if p.val < cnt e.L n then DK e n p.val p.isLt else BI.emp) ∗ (if p.val < cnt e.L n then DR e n p.val p.isLt else BI.emp)
      ∗ PgAt e n (cnt e.L n) p) ⊢ Pg e (p.val < cnt e.L n) (slot n) p (e.pg n p) := by
    intro p
    refine BIBase.Entails.trans ?_ (Del_join e n (cnt e.L n) p)
    unfold Del
    by_cases h : p.val < cnt e.L n
    · simp only [if_pos h]
      iintro ⟨H1, H2, H3⟩
      isplitl [H1 H2]
      · isplitl [H1] <;> iassumption
      iexact H3
    · simp only [if_neg h]
      iintro ⟨-, -, H3⟩
      isplitr; · iempintro
      iexact H3
  isplitl [A0 B0 H3]
  · iapply (key 0); isplitl [A0]; · iexact A0
    isplitl [B0]; · iexact B0
    iexact H3
  isplitl [A1 B1 H4]
  · iapply (key 1); isplitl [A1]; · iexact A1
    isplitl [B1]; · iexact B1
    iexact H4
  isplitl [A2 B2 H5]
  · iapply (key 2); isplitl [A2]; · iexact A2
    isplitl [B2]; · iexact B2
    iexact H5
  · iapply (key 3); isplitl [A3]; · iexact A3
    isplitl [B3]; · iexact B3
    iexact H6

end Cert.Kernel.Hand

end
-- ==== Proof.KB.Sites.lean ====
/-
  One page's two copies, started and waited for: what the program piece does to the slot's resources.
-/
module

public import proofs.«01_k».proof.Proof.KB.Res

@[expose] public section

set_option maxRecDepth 16384

noncomputable section

namespace Cert.Kernel.Hand

open Cert.Kernel Cert.Kernel.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {c : Dev nD} (e : Env F c) (bd : Option Variants.nat.V)

/-- Core `c` owes nothing. -/
def Ow (c : Dev nD) : sProp 𝕄 := iprop(∃ W, owes (c : Thread nD τ) 0 W)

/-- The weakest precondition of a program on core `c`. -/

theorem PgAt_ne (n j : ℕ) (p : Fin 4) (h : p.val ≠ j) : PgAt e n (j + 1) p = PgAt e n j p := by
  unfold PgAt
  by_cases hj : p.val < j
  · rw [if_pos hj, if_pos (by omega)]
  · rw [if_neg hj, if_neg (by omega)]

theorem PgAt_self (n : ℕ) (p : Fin 4) : PgAt e n p.val p = PgFree e (slot n) p := by
  unfold PgAt; rw [if_neg (lt_irrefl _)]
theorem PgAt_next (n : ℕ) (p : Fin 4) : PgAt e n (p.val + 1) p = PgRest e n p := by
  unfold PgAt; rw [if_pos (Nat.lt_succ_self _)]

/-- Of the four pages, the next one to start comes out free and goes back with its copies in flight. -/
theorem pages_next (n : ℕ) (p : Fin 4) :
    iprop(PgAt e n p.val 0 ∗ PgAt e n p.val 1 ∗ PgAt e n p.val 2 ∗ PgAt e n p.val 3)
      ⊢ iprop(PgFree e (slot n) p ∗ (PgRest e n p -∗
          iprop(PgAt e n (p.val + 1) 0 ∗ PgAt e n (p.val + 1) 1 ∗ PgAt e n (p.val + 1) 2 ∗ PgAt e n (p.val + 1) 3))) := by
  rw [← PgAt_self e n p, ← PgAt_next e n p]
  obtain rfl | rfl | rfl | rfl : p = 0 ∨ p = 1 ∨ p = 2 ∨ p = 3 := by omega
  · rw [PgAt_ne e n (0 : Fin 4).val 1 (by decide), PgAt_ne e n (0 : Fin 4).val 2 (by decide), PgAt_ne e n (0 : Fin 4).val 3 (by decide)]
    iintro ⟨H0, H1, H2, H3⟩
    isplitl [H0]; · iexact H0
    iintro H0
    isplitl [H0]; · iexact H0
    isplitl [H1]; · iexact H1
    isplitl [H2]; · iexact H2
    iexact H3
  · rw [PgAt_ne e n (1 : Fin 4).val 0 (by decide), PgAt_ne e n (1 : Fin 4).val 2 (by decide), PgAt_ne e n (1 : Fin 4).val 3 (by decide)]
    iintro ⟨H0, H1, H2, H3⟩
    isplitl [H1]; · iexact H1
    iintro H1
    isplitl [H0]; · iexact H0
    isplitl [H1]; · iexact H1
    isplitl [H2]; · iexact H2
    iexact H3
  · rw [PgAt_ne e n (2 : Fin 4).val 0 (by decide), PgAt_ne e n (2 : Fin 4).val 1 (by decide), PgAt_ne e n (2 : Fin 4).val 3 (by decide)]
    iintro ⟨H0, H1, H2, H3⟩
    isplitl [H2]; · iexact H2
    iintro H2
    isplitl [H0]; · iexact H0
    isplitl [H1]; · iexact H1
    isplitl [H2]; · iexact H2
    iexact H3
  · rw [PgAt_ne e n (3 : Fin 4).val 0 (by decide), PgAt_ne e n (3 : Fin 4).val 1 (by decide), PgAt_ne e n (3 : Fin 4).val 2 (by decide)]
    iintro ⟨H0, H1, H2, H3⟩
    isplitl [H3]; · iexact H3
    iintro H3
    isplitl [H0]; · iexact H0
    isplitl [H1]; · iexact H1
    isplitl [H2]; · iexact H2
    iexact H3

section
variable (harg5 : (Memref.whole main_arg2).IsWhole) (harg7 : (Memref.whole main_arg4).IsWhole)
  (harg15 : (Memref.whole cc0_scratch3).IsWhole) (harg16 : (Memref.whole cc0_scratch4).IsWhole)

/-- Starting the copies of the next page of the `n`th chunk, at any spelling of the offsets. -/
theorem issue_core {Q : PUnit → sProp 𝕄} (n : ℕ) (p : Fin 4) (hp : p.val < cnt e.L n) {oS : Fin 1 → ℕ} {oD oP : Fin 3 → ℕ}
    (eS : oS = ![(slot n).val]) (eD : oD = ![(slot n).val, 64 * p.val, 0]) (eP : oP = ![(e.pg n p.val).val, 0, 0]) (h : PageOk oS oD oP) :
    Flying e n p.val 0
      ⊢ iprop((Flying e n (p.val + 1) 0 -∗ Q ⟨⟩)
          -∗ wp frame (wpE (defs₀ (F := F)) Variants.nat (c : Thread nD τ) bd) Set.univ (issueTwo (F := F) cc0_scratch9 (Memref.whole cc0_scratch3) harg15 (Memref.whole main_arg2) harg5 cc0_scratch10
              (Memref.whole cc0_scratch4) harg16 (Memref.whole main_arg4) harg7 oS oD oP h) Q) := by
  obtain ⟨h1, h2, h3, h4, h5, h6, h7, h8, h9⟩ := h
  unfold issueTwo
  dsimp only
  subst eS eD eP
  unfold Flying
  iintro ⟨HK, HR, HP⟩ Hk
  ihave HP := (pages_next e n p) $$ HP
  icases HP with ⟨HF, Hback⟩
  unfold PgFree Pg
  icases HF with ⟨⟨%f, -, Hd⟩, ⟨%f', -, Hd'⟩, Hs, Hs'⟩
  ihave Hs := (pointsTo_split_subset (Finset.subset_univ (kvS (e.pg n p.val)).view.set)).1 $$ Hs
  icases Hs with ⟨Hs, Hr⟩
  ihave Hs' := (pointsTo_split_subset (Finset.subset_univ (rpS (e.pg n p.val)).view.set)).1 $$ Hs'
  icases Hs' with ⟨Hs', Hr'⟩
  iapply (Transfers.wp_dmaBatch EC Variants.nat (c : Thread nD τ) bd (D := fun t : Fin (cnt e.L n) => DK e n t.val (t.isLt.trans_le (cnt_le e.L n)))
    (src := kvS (e.pg n p.val)) (via := .same) (dst := kvD (slot n) p) (sm := .dma (kvC (slot n))) (fs := e.PK) (fd := f) (q := tk (slot n) p) (u := NK * 0)
    () NK rfl (Finset.Subset.refl _) hp (by rw [Nat.mul_zero]; exact Nat.zero_le _) ?_) $$ [Hs Hd HK]
  · show _ ⊢ DK e n p.val p.isLt
    unfold DK
    iintro ⟨H1, H2⟩
    isplitl [H1]
    · iexists (kvD (slot n) p).view.write (Elt F) f ((kvS (e.pg n p.val)).view.read (Elt F) e.PK) Finset.univ
      isplitr
      · ipureintro; exact View.read_write_univ _ _
      iexact H1
    iexact H2
  · isplitl [Hs]; · iexact Hs
    isplitl [Hd]; · iexact Hd
    iexact HK
  iintro HK
  iapply (Transfers.wp_dmaBatch EC Variants.nat (c : Thread nD τ) bd (D := fun t : Fin (cnt e.L n) => DR e n t.val (t.isLt.trans_le (cnt_le e.L n)))
    (src := rpS (e.pg n p.val)) (via := .same) (dst := rpD (slot n) p) (sm := .dma (rpC (slot n))) (fs := e.PR) (fd := f') (q := tk (slot n) p) (u := NR * 0)
    () NR rfl (Finset.Subset.refl _) hp (by rw [Nat.mul_zero]; exact Nat.zero_le _) ?_) $$ [Hs' Hd' HR]
  · show _ ⊢ DR e n p.val p.isLt
    unfold DR
    iintro ⟨H1, H2⟩
    isplitl [H1]
    · iexists (rpD (slot n) p).view.write (Elt F) f' ((rpS (e.pg n p.val)).view.read (Elt F) e.PR) Finset.univ
      isplitr
      · ipureintro; exact View.read_write_univ _ _
      iexact H1
    iexact H2
  · isplitl [Hs']; · iexact Hs'
    isplitl [Hd']; · iexact Hd'
    iexact HR
  iintro HR
  rw [show ((Prog.ret PUnit.unit).bind fun _ => Pure.pure PUnit.unit : Prog (TpuEff nD τ sig (Elt F) (Λ₀ F) .tc) PUnit) = Prog.ret ⟨⟩ from rfl, wp_ret]
  imodintro
  iapply Hk
  isplitl [HK]; · iexact HK
  isplitl [HR]; · iexact HR
  iapply Hback
  unfold PgRest
  isplitl [Hr] <;> iassumption

/-- Waiting for the copies of the next page of the `n`th chunk, all of whose copies have been started. -/
theorem wait_core {Q : PUnit → sProp 𝕄} (n : ℕ) (p : Fin 4) (hp : p.val < cnt e.L n) {oS : Fin 1 → ℕ} {oD oP : Fin 3 → ℕ}
    (eS : oS = ![(slot n).val]) (eD : oD = ![(slot n).val, 64 * p.val, 0]) (eP : oP = ![(e.pg n p.val).val, 0, 0]) (h : PageOk oS oD oP) :
    iprop(Flying e n (cnt e.L n) p.val ∗ Ow c)
      ⊢ iprop((iprop(Flying e n (cnt e.L n) (p.val + 1) ∗ Ow c) -∗ Q ⟨⟩)
          -∗ wp frame (wpE (defs₀ (F := F)) Variants.nat (c : Thread nD τ) bd) Set.univ (waitTwo (F := F) cc0_scratch9 (Memref.whole cc0_scratch3) harg15 (Memref.whole main_arg2) harg5 cc0_scratch10
              (Memref.whole cc0_scratch4) harg16 (Memref.whole main_arg4) harg7 oS oD oP h) Q) := by
  obtain ⟨h1, h2, h3, h4, h5, h6, h7, h8, h9⟩ := h
  unfold waitTwo
  dsimp only
  subst eS eD eP
  unfold Flying Ow
  iintro ⟨⟨HK, HR, HP⟩, ⟨%W, HO⟩⟩ Hk
  iapply (Transfers.wp_waitBatchMul EC Variants.nat (c : Thread nD τ) bd (D := fun t : Fin (cnt e.L n) => DK e n t.val (t.isLt.trans_le (cnt_le e.L n)))
    (srcw := kvS (e.pg n p.val)) (dstw := kvD (slot n) p) (sem := kvC (slot n)) (j := cnt e.L n) (u := NK * p.val) () (N := NK) 1 ((Nat.one_mul _).symm)
    (by rw [Nat.one_mul, ← Nat.mul_succ]; exact Nat.mul_le_mul_left _ hp)) $$ [HK HO]
  · isplitl [HK]; · iexact HK
    iexact HO
  iintro ⟨HK, HO⟩
  iapply (Transfers.wp_waitBatchMul EC Variants.nat (c : Thread nD τ) bd (D := fun t : Fin (cnt e.L n) => DR e n t.val (t.isLt.trans_le (cnt_le e.L n)))
    (srcw := rpS (e.pg n p.val)) (dstw := rpD (slot n) p) (sem := rpC (slot n)) (j := cnt e.L n) (u := NR * p.val) () (N := NR) 1 ((Nat.one_mul _).symm)
    (by rw [Nat.one_mul, ← Nat.mul_succ]; exact Nat.mul_le_mul_left _ hp)) $$ [HR HO]
  · isplitl [HR]; · iexact HR
    iexact HO
  iintro ⟨HR, HO⟩
  rw [show ((Prog.ret PUnit.unit).bind fun _ => Pure.pure PUnit.unit : Prog (TpuEff nD τ sig (Elt F) (Λ₀ F) .tc) PUnit) = Prog.ret ⟨⟩ from rfl, wp_ret]
  imodintro
  iapply Hk
  rw [Nat.one_mul, Nat.one_mul, ← Nat.mul_succ, ← Nat.mul_succ]
  isplitr [HO]
  · isplitl [HK]; · iexact HK
    isplitl [HR]; · iexact HR
    iexact HP
  · iexists _; iexact HO

section
variable (arg1 : Mref .smem S64 .i32) (harg1 : arg1.IsWhole) (arg0 : Mref .smem S64x32 .i32) (harg0 : arg0.IsWhole)
  (fL : Buf (Elt F) (arg1.view.loc (c : Thread nD τ))) (fT : Buf (Elt F) (arg0.view.loc (c : Thread nD τ)))

/-- A word read from scalar memory, held whole. -/
theorem wp_smem {sh : Shape} {et : EltTy} (m : Mref .smem sh et) (r : Rect sh) (h1 : r.shape.numel = 1) (hp : et.packing = 1)
    (f : Buf (Elt F) (m.view.loc (c : Thread nD τ))) {α : Type} (k : Elt F et → Prog (TpuEff nD τ sig (Elt F) (Λ₀ F) .tc) α) {Q : α → sProp 𝕄}
    (v : Elt F et) (hv : ∀ x, (m.access r).read (Elt F) f x = v) :
    (m.view.loc (c : Thread nD τ) ↦[Finset.univ]{fullShare} f)
      ⊢ iprop(((m.view.loc (c : Thread nD τ) ↦[Finset.univ]{fullShare} f) -∗ wp frame (wpE (defs₀ (F := F)) Variants.nat (c : Thread nD τ) bd) Set.univ (k v) Q) -∗ wp frame (wpE (defs₀ (F := F)) Variants.nat (c : Thread nD τ) bd) Set.univ (smemLoad m r h1 hp >>= k) Q) := by
  rw [← hv (Shape.Idx.first (h1.symm ▸ Nat.one_pos))]
  exact wp_smemLoadElt Variants.nat (c : Thread nD τ) bd Set.univ (m := m) (r := r) (hw := View.loads_smem_one hp h1) (k := k) (Finset.subset_univ _)

/-- An assumed side condition that holds. -/
theorem wp_assumed {P : Prop} (d : Decidable P) (h : P) {α : Type} (k : PLift P → Prog (TpuEff nD τ sig (Elt F) (Λ₀ F) .tc) α) {Q : α → sProp 𝕄} :
    wp frame (wpE (defs₀ (F := F)) Variants.nat (c : Thread nD τ) bd) Set.univ (k ⟨h⟩) Q ⊢ wp frame (wpE (defs₀ (F := F)) Variants.nat (c : Thread nD τ) bd) Set.univ (Prog.lift (TpuEff.assume P d) >>= k) Q :=
  wp_assume Variants.nat (c : Thread nD τ) bd Set.univ h

/-- One page's site: whatever `two` does to `R` when its condition holds, the site does, and where the condition fails `R` is already as wanted. -/
theorem site_wp (two : (oS : Fin 1 → ℕ) → (oD oP : Fin 3 → ℕ) → PageOk oS oD oP → Prog (TpuEff nD τ sig (Elt F) (Λ₀ F) .tc) PUnit)
    (it b k : BitVec 32) (p : ℕ) (inbL : ∀ a, lOff b a + S1.size a ≤ S64.size a)
    (A : BitVec 32 → Prop) (dA : ∀ v, Decidable (A v))
    (inbT : ∀ v, A v → pcond it k p v = 1#1 → ∀ a, tOff b k p a + S1x1.size a ≤ S64x32.size a)
    (B : BitVec 32 → BitVec 32 → Prop) (dB : ∀ v w, Decidable (B v w))
    (ok : ∀ v w, A v → B v w → pcond it k p v = 1#1 → PageOk ![(Scalar.remsi it 32#32).toNat] (dOff (Scalar.remsi it 32#32) p) (pOff w))
    {α : Type} (K : PUnit → Prog (TpuEff nD τ sig (Elt F) (Λ₀ F) .tc) α) {Q : α → sProp 𝕄} {R R' : sProp 𝕄} (v w : BitVec 32)
    (hL : ∀ x, (arg1.access (Rect.unit (s := S64) (lOff b) S1.size inbL)).read (Elt F) fL x = v)
    (hT : ∀ i x, (arg0.access (Rect.unit (s := S64x32) (tOff b k p) S1x1.size i)).read (Elt F) fT x = w)
    (hA : A v) (hB : pcond it k p v = 1#1 → B v w)
    (hyes : pcond it k p v = 1#1 → ∀ o (Q' : PUnit → sProp 𝕄), R ⊢ iprop((R' -∗ Q' ⟨⟩) -∗ wp frame (wpE (defs₀ (F := F)) Variants.nat (c : Thread nD τ) bd) Set.univ (two ![(Scalar.remsi it 32#32).toNat] (dOff (Scalar.remsi it 32#32) p) (pOff w) o) Q'))
    (hno : ¬ pcond it k p v = 1#1 → R ⊢ R') :
    iprop((arg1.view.loc (c : Thread nD τ) ↦[Finset.univ]{fullShare} fL) ∗ (arg0.view.loc (c : Thread nD τ) ↦[Finset.univ]{fullShare} fT) ∗ R)
      ⊢ iprop((iprop((arg1.view.loc (c : Thread nD τ) ↦[Finset.univ]{fullShare} fL) ∗ (arg0.view.loc (c : Thread nD τ) ↦[Finset.univ]{fullShare} fT) ∗ R') -∗ wp frame (wpE (defs₀ (F := F)) Variants.nat (c : Thread nD τ) bd) Set.univ (K ⟨⟩) Q)
          -∗ wp frame (wpE (defs₀ (F := F)) Variants.nat (c : Thread nD τ) bd) Set.univ (pageSite (F := F) arg1 arg0 two it b k p inbL A dA inbT B dB ok K) Q) := by
  unfold pageSite
  iintro ⟨H1, H0, HR⟩ Hk
  iapply (wp_smem bd arg1 _ _ _ fL _ v hL) $$ H1
  iintro H1
  iapply (wp_assumed bd _ hA _)
  by_cases h : pcond it k p v = 1#1
  · rw [dif_pos h]
    iapply (wp_smem bd arg0 _ _ _ fT _ w (hT _)) $$ H0
    iintro H0
    iapply (wp_assumed bd _ (hB h) _)
    rw [wp_bind]
    iapply (hyes h _ _) $$ HR
    iintro HR
    iapply Hk
    isplitl [H1]; · iexact H1
    isplitl [H0]; · iexact H0
    iexact HR
  · rw [dif_neg h]
    iapply Hk
    isplitl [H1]; · iexact H1
    isplitl [H0]; · iexact H0
    iapply (hno h) $$ HR
end

end

end Cert.Kernel.Hand

end
-- ==== Proof.KB.Pages4.lean ====
/-
  A page site's side conditions, and what a site does to the slot's resources.
-/
module

public import proofs.«01_k».proof.Proof.KB.Sites

@[expose] public section

set_option maxRecDepth 16384

noncomputable section

namespace Cert.Kernel.Hand

open Cert.Kernel Cert.Kernel.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {c : Dev nD} (e : Env F c) (bd : Option Variants.nat.V)

/-! ## Side conditions -/

theorem W_idx {n : ℕ} (h : n < 2 ^ 31) : (Scalar.indexCast (W n)).toNat = n := by
  unfold Scalar.indexCast
  exact W_toNat (by omega)

theorem lOff_inb {b : BitVec 32} {m : ℕ} (hb : b = W m) (h : m < 64) : ∀ a, lOff b a + S1.size a ≤ S64.size a := by
  subst hb
  intro a; fin_cases a
  show (Scalar.indexCast (W m)).toNat + 1 ≤ 64
  rw [W_idx (by omega)]; omega

/-- The word of page `p` of chunk `k`. -/
theorem W_page {k p : ℕ} : Scalar.addi (Scalar.muli (W k) 4#32) (BitVec.ofNat 32 p) = W (k * 4 + p) := by
  rw [show (4#32 : BitVec 32) = W 4 from rfl, show BitVec.ofNat 32 p = W p from rfl, W_mul, W_add]

theorem tOff_inb {b k : BitVec 32} {m j : ℕ} (hb : b = W m) (hk : k = W j) (h : m < 64) (hj : j ≤ 7) (p : ℕ) (hp : p < 4) :
    ∀ a, tOff b k p a + S1x1.size a ≤ S64x32.size a := by
  subst hb hk
  intro a; fin_cases a
  · show (Scalar.indexCast (W m)).toNat + 1 ≤ 64
    rw [W_idx (by omega)]; omega
  · show (Scalar.indexCast (Scalar.addi (Scalar.muli (W j) 4#32) (BitVec.ofNat 32 p))).toNat + 1 ≤ 32
    rw [W_page, W_idx (by omega)]; omega

theorem sem_inb {it : BitVec 32} {n : ℕ} (h : it = W n) (hn : n < 2 ^ 20) : ∀ a, ![(Scalar.remsi it 32#32).toNat] a + S1.size a ≤ S32.size a := by
  subst h
  intro a; fin_cases a
  show (Scalar.remsi (W n) 32#32).toNat + 1 ≤ 32
  rw [slot_toNat (by omega)]; omega

theorem kD_inb {it : BitVec 32} {n : ℕ} (h : it = W n) (hn : n < 2 ^ 20) (p : ℕ) (hp : p < 4) :
    ∀ a, dOff (Scalar.remsi it 32#32) p a + S1x64x512.size a ≤ S32x256x512.size a := by
  subst h
  intro a; fin_cases a
  · show (Scalar.remsi (W n) 32#32).toNat + 1 ≤ 32
    rw [slot_toNat (by omega)]; omega
  · show 64 * p + 64 ≤ 256
    omega
  · show 0 + 512 ≤ 512
    omega
theorem rD_inb {it : BitVec 32} {n : ℕ} (h : it = W n) (hn : n < 2 ^ 20) (p : ℕ) (hp : p < 4) :
    ∀ a, dOff (Scalar.remsi it 32#32) p a + S1x64x64.size a ≤ S32x256x64.size a := by
  subst h
  intro a; fin_cases a
  · show (Scalar.remsi (W n) 32#32).toNat + 1 ≤ 32
    rw [slot_toNat (by omega)]; omega
  · show 64 * p + 64 ≤ 256
    omega
  · show 0 + 64 ≤ 64
    omega
theorem kD_words {s : BitVec 32} {p : ℕ} (i : ∀ a, dOff s p a + S1x64x512.size a ≤ S32x256x512.size a) :
    (Rect.unit (s := S32x256x512) (dOff s p) S1x64x512.size i).WholeWords (EltTy.packing .fp8e4m3) :=
  Or.inl (Or.inr ⟨Nat.le_succ 2, rfl, Or.inl ⟨show 4 ∣ 64 * p from ⟨16 * p, by omega⟩, show 4 ∣ 64 from ⟨16, rfl⟩⟩⟩)
theorem rD_words {s : BitVec 32} {p : ℕ} (i : ∀ a, dOff s p a + S1x64x64.size a ≤ S32x256x64.size a) :
    (Rect.unit (s := S32x256x64) (dOff s p) S1x64x64.size i).WholeWords (EltTy.packing .bf16) :=
  Or.inl (Or.inr ⟨Nat.le_succ 2, rfl, Or.inl ⟨show 2 ∣ 64 * p from ⟨32 * p, by omega⟩, show 2 ∣ 64 from ⟨32, rfl⟩⟩⟩)
theorem kS_inb {w : BitVec 32} (h : w.toNat < 2560) : ∀ a, pOff w a + S1x64x512.size a ≤ S2560x64x512.size a := by
  intro a; fin_cases a
  · show w.toNat + 1 ≤ 2560
    omega
  · show 0 + 64 ≤ 64
    omega
  · show 0 + 512 ≤ 512
    omega
theorem rS_inb {w : BitVec 32} (h : w.toNat < 2560) : ∀ a, pOff w a + S1x64x64.size a ≤ S2560x64x64.size a := by
  intro a; fin_cases a
  · show w.toNat + 1 ≤ 2560
    omega
  · show 0 + 64 ≤ 64
    omega
  · show 0 + 64 ≤ 64
    omega
theorem kS_words {w : BitVec 32} (i : ∀ a, pOff w a + S1x64x512.size a ≤ S2560x64x512.size a) :
    (Rect.unit (s := S2560x64x512) (pOff w) S1x64x512.size i).WholeWords (EltTy.packing .fp8e4m3) :=
  Or.inl (Or.inr ⟨Nat.le_succ 2, rfl, Or.inl ⟨show 4 ∣ 0 from ⟨0, rfl⟩, show 4 ∣ 64 from ⟨16, rfl⟩⟩⟩)
theorem rS_words {w : BitVec 32} (i : ∀ a, pOff w a + S1x64x64.size a ≤ S2560x64x64.size a) :
    (Rect.unit (s := S2560x64x64) (pOff w) S1x64x64.size i).WholeWords (EltTy.packing .bf16) :=
  Or.inl (Or.inr ⟨Nat.le_succ 2, rfl, Or.inl ⟨show 2 ∣ 0 from ⟨0, rfl⟩, show 2 ∣ 64 from ⟨32, rfl⟩⟩⟩)

/-! ## The sites -/

/-- What the scalar memories say: the lengths and the page table, each in range. -/
structure Env.Reads (arg1 : Mref .smem S64 .i32) (arg0 : Mref .smem S64x32 .i32)
    (fL : Buf (Elt F) (arg1.view.loc (c : Thread nD τ))) (fT : Buf (Elt F) (arg0.view.loc (c : Thread nD τ))) : Prop where
  hL : ∀ (b : BitVec 32) (m : ℕ) (_ : b = W m) (_ : m < 64) (i : ∀ a, lOff b a + S1.size a ≤ S64.size a) (x),
    (arg1.access (Rect.unit (s := S64) (lOff b) S1.size i)).read (Elt F) fL x = e.L m
  hT : ∀ (b k : BitVec 32) (m j p : ℕ) (_ : b = W m) (_ : k = W j) (_ : m < 64) (_ : j ≤ 7) (_ : p < 4) (i : ∀ a, tOff b k p a + S1x1.size a ≤ S64x32.size a) (x),
    (arg0.access (Rect.unit (s := S64x32) (tOff b k p) S1x1.size i)).read (Elt F) fT x = e.PT m (j * 4 + p)
  lens : ∀ m, m < 64 → (e.L m).toInt ≤ 2048
  pages : ∀ m j, m < 64 → j < 32 → (e.PT m j).toNat < 2560

section
variable {arg1 : Mref .smem S64 .i32} {arg0 : Mref .smem S64x32 .i32}
  {fL : Buf (Elt F) (arg1.view.loc (c : Thread nD τ))} {fT : Buf (Elt F) (arg0.view.loc (c : Thread nD τ))}
  (h : e.Reads arg1 arg0 fL fT)
  {harg5 : (Memref.whole main_arg2).IsWhole} {harg7 : (Memref.whole main_arg4).IsWhole} {harg15 : (Memref.whole cc0_scratch3).IsWhole} {harg16 : (Memref.whole cc0_scratch4).IsWhole}

/-- The scalar memories. -/
abbrev Sc (arg1 : Mref .smem S64 .i32) (arg0 : Mref .smem S64x32 .i32)
    (fL : Buf (Elt F) (arg1.view.loc (c : Thread nD τ))) (fT : Buf (Elt F) (arg0.view.loc (c : Thread nD τ))) (R : sProp 𝕄) : sProp 𝕄 :=
  iprop((arg1.view.loc (c : Thread nD τ) ↦[Finset.univ]{fullShare} fL) ∗ (arg0.view.loc (c : Thread nD τ) ↦[Finset.univ]{fullShare} fT) ∗ R)

include h in
/-- A site that starts page `p` of the `n`th chunk. -/
theorem issue_site (n : ℕ) (hn : n < 2 ^ 20) (hb : (sch e.L n).1 < 64) (p : ℕ) (hp : p < 4)
    {it b k : BitVec 32} (eit : it = W n) (eb : b = W (sch e.L n).1) (ek : k = W (sch e.L n).2) (inbL)
    {A : BitVec 32 → Prop} {dA : ∀ v, Decidable (A v)} {inbT} {B : BitVec 32 → BitVec 32 → Prop} {dB : ∀ v w, Decidable (B v w)} {ok}
    {α : Type} {K : PUnit → Prog (TpuEff nD τ sig (Elt F) (Λ₀ F) .tc) α} {Q : α → sProp 𝕄}
    (hA : ∀ v, A v) (hB : ∀ v w, w.toNat < 2560 → B v w) :
    Sc arg1 arg0 fL fT (Flying e n (min p (cnt e.L n)) 0)
      ⊢ iprop((Sc arg1 arg0 fL fT (Flying e n (min (p + 1) (cnt e.L n)) 0) -∗ wp frame (wpE (defs₀ (F := F)) Variants.nat (c : Thread nD τ) bd) Set.univ (K ⟨⟩) Q)
          -∗ wp frame (wpE (defs₀ (F := F)) Variants.nat (c : Thread nD τ) bd) Set.univ (pageSite (F := F) arg1 arg0 (issueTwo (F := F) cc0_scratch9 (Memref.whole cc0_scratch3) harg15 (Memref.whole main_arg2) harg5 cc0_scratch10
              (Memref.whole cc0_scratch4) harg16 (Memref.whole main_arg4) harg7) it b k p inbL A dA inbT B dB ok K) Q) := by
  have hc7 : (sch e.L n).2 ≤ 7 := sch_c7 h.lens n
  have hpg : (e.PT (sch e.L n).1 ((sch e.L n).2 * 4 + p)).toNat < 2560 := h.pages _ _ hb (by omega)
  have hc : pcond it k p (e.L (sch e.L n).1) = 1#1 ↔ p < cnt e.L n := by
    rw [eit, ek, pcond_iff hn hc7 hp, lt_cnt _ _ _ hp, Nat.min_eq_left (by omega)]
  refine site_wp bd arg1 arg0 fL fT _ it b k p inbL A dA inbT B dB ok K (e.L (sch e.L n).1) (e.PT (sch e.L n).1 ((sch e.L n).2 * 4 + p))
    (fun x => h.hL b _ eb hb inbL x) (fun i x => h.hT b k _ _ p eb ek hb hc7 hp i x) (hA _) (fun _ => hB _ _ hpg) ?_ ?_
  · intro hy o Q'
    have hlt := hc.mp hy
    rw [Nat.min_eq_left hlt.le, Nat.min_eq_left hlt]
    refine issue_core (e := e) (bd := bd) (harg5 := harg5) (harg7 := harg7) (harg15 := harg15) (harg16 := harg16) n ⟨p, hp⟩ hlt ?_ ?_ ?_ o
    · rw [eit, slot_toNat (by omega)]; rfl
    · unfold dOff; rw [eit, slot_toNat (by omega)]; rfl
    · unfold pOff Env.pg; simp only [Nat.mod_eq_of_lt hpg]
  · intro hy
    have hge : cnt e.L n ≤ p := Nat.le_of_not_lt fun hlt => hy (hc.mpr hlt)
    rw [Nat.min_eq_right hge, Nat.min_eq_right (by omega)]

include h in
/-- A site that waits for page `p` of the `n`th chunk. -/
theorem wait_site (n : ℕ) (hn : n < 2 ^ 20) (hb : (sch e.L n).1 < 64) (p : ℕ) (hp : p < 4)
    {it b k : BitVec 32} (eit : it = W n) (eb : b = W (sch e.L n).1) (ek : k = W (sch e.L n).2) (inbL)
    {A : BitVec 32 → Prop} {dA : ∀ v, Decidable (A v)} {inbT} {B : BitVec 32 → BitVec 32 → Prop} {dB : ∀ v w, Decidable (B v w)} {ok}
    {α : Type} {K : PUnit → Prog (TpuEff nD τ sig (Elt F) (Λ₀ F) .tc) α} {Q : α → sProp 𝕄}
    (hA : ∀ v, A v) (hB : ∀ v w, w.toNat < 2560 → B v w) :
    Sc arg1 arg0 fL fT iprop(Flying e n (cnt e.L n) (min p (cnt e.L n)) ∗ Ow c)
      ⊢ iprop((Sc arg1 arg0 fL fT iprop(Flying e n (cnt e.L n) (min (p + 1) (cnt e.L n)) ∗ Ow c) -∗ wp frame (wpE (defs₀ (F := F)) Variants.nat (c : Thread nD τ) bd) Set.univ (K ⟨⟩) Q)
          -∗ wp frame (wpE (defs₀ (F := F)) Variants.nat (c : Thread nD τ) bd) Set.univ (pageSite (F := F) arg1 arg0 (waitTwo (F := F) cc0_scratch9 (Memref.whole cc0_scratch3) harg15 (Memref.whole main_arg2) harg5 cc0_scratch10
              (Memref.whole cc0_scratch4) harg16 (Memref.whole main_arg4) harg7) it b k p inbL A dA inbT B dB ok K) Q) := by
  have hc7 : (sch e.L n).2 ≤ 7 := sch_c7 h.lens n
  have hpg : (e.PT (sch e.L n).1 ((sch e.L n).2 * 4 + p)).toNat < 2560 := h.pages _ _ hb (by omega)
  have hc : pcond it k p (e.L (sch e.L n).1) = 1#1 ↔ p < cnt e.L n := by
    rw [eit, ek, pcond_iff hn hc7 hp, lt_cnt _ _ _ hp, Nat.min_eq_left (by omega)]
  refine site_wp bd arg1 arg0 fL fT _ it b k p inbL A dA inbT B dB ok K (e.L (sch e.L n).1) (e.PT (sch e.L n).1 ((sch e.L n).2 * 4 + p))
    (fun x => h.hL b _ eb hb inbL x) (fun i x => h.hT b k _ _ p eb ek hb hc7 hp i x) (hA _) (fun _ => hB _ _ hpg) ?_ ?_
  · intro hy o Q'
    have hlt := hc.mp hy
    rw [Nat.min_eq_left hlt.le, Nat.min_eq_left hlt]
    refine wait_core (e := e) (bd := bd) (harg5 := harg5) (harg7 := harg7) (harg15 := harg15) (harg16 := harg16) n ⟨p, hp⟩ hlt ?_ ?_ ?_ o
    · rw [eit, slot_toNat (by omega)]; rfl
    · unfold dOff; rw [eit, slot_toNat (by omega)]; rfl
    · unfold pOff Env.pg; simp only [Nat.mod_eq_of_lt hpg]
  · intro hy
    have hge : cnt e.L n ≤ p := Nat.le_of_not_lt fun hlt => hy (hc.mpr hlt)
    rw [Nat.min_eq_right hge, Nat.min_eq_right (by omega)]

end

end Cert.Kernel.Hand

end
-- ==== Proof.KB.Slot.lean ====
/-
  A landed slot, read as one buffer.
-/
module

public import proofs.«01_k».proof.Proof.KB.Pages4

@[expose] public section

set_option maxRecDepth 16384

noncomputable section

namespace Cert.Kernel.Hand

open Cert.Kernel Cert.Kernel.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {c : Dev nD}

/-- Four disjoint pieces of one buffer, each with a property of the piece alone, are one piece with all four properties. -/
theorem join4 {ℓ : Loc nD τ sig} (K : Fin 4 → Finset (Idx ℓ)) (P : Fin 4 → Buf (Elt F) ℓ → Prop)
    (hd : ∀ p q, p ≠ q → Disjoint (K p) (K q)) (hP : ∀ p f g, (∀ i ∈ K p, g i = f i) → P p f → P p g) :
    iprop((∃ f, ⌜P 0 f⌝ ∗ (ℓ ↦[K 0]{fullShare} f)) ∗ (∃ f, ⌜P 1 f⌝ ∗ (ℓ ↦[K 1]{fullShare} f))
        ∗ (∃ f, ⌜P 2 f⌝ ∗ (ℓ ↦[K 2]{fullShare} f)) ∗ (∃ f, ⌜P 3 f⌝ ∗ (ℓ ↦[K 3]{fullShare} f)))
      ⊢ (iprop(∃ g, ⌜∀ p, P p g⌝ ∗ (ℓ ↦[Finset.univ.biUnion K]{fullShare} g)) : sProp 𝕄) := by
  have key (f0 f1 f2 f3 : Buf (Elt F) ℓ) : (bigSep (Finset.univ : Finset (Fin 4)) (fun t => (ℓ ↦[K t]{fullShare} (![f0, f1, f2, f3] : Fin 4 → Buf (Elt F) ℓ) t : sProp 𝕄)))
      = iprop((ℓ ↦[K 0]{fullShare} f0) ∗ (ℓ ↦[K 1]{fullShare} f1) ∗ (ℓ ↦[K 2]{fullShare} f2) ∗ (ℓ ↦[K 3]{fullShare} f3)) := by
    rw [show (Finset.univ : Finset (Fin 4)) = {0, 1, 2, 3} by decide, bigSep_insert (by decide), bigSep_insert (by decide), bigSep_insert (by decide), bigSep_singleton]
    rfl
  iintro ⟨⟨%f0, %h0, H0⟩, ⟨%f1, %h1, H1⟩, ⟨%f2, %h2, H2⟩, ⟨%f3, %h3, H3⟩⟩
  ihave H := (pointsTo_biUnion_join (q := fullShare) (Finset.univ : Finset (Fin 4)) K ![f0, f1, f2, f3] f0 (fun t _ t' _ h => hd t t' h)) $$ [H0 H1 H2 H3]
  · rw [key f0 f1 f2 f3]
    isplitl [H0]; · iexact H0
    isplitl [H1]; · iexact H1
    isplitl [H2]; · iexact H2
    iexact H3
  icases H with ⟨%g, %hg, H⟩
  iexists g
  isplitr
  · ipureintro
    intro p
    have hp := hg p (Finset.mem_univ p)
    fin_cases p
    · exact hP 0 f0 g hp h0
    · exact hP 1 f1 g hp h1
    · exact hP 2 f2 g hp h2
    · exact hP 3 f3 g hp h3
  iexact H

/-- And back. -/
theorem split4 {ℓ : Loc nD τ sig} (K : Fin 4 → Finset (Idx ℓ)) (hd : ∀ p q, p ≠ q → Disjoint (K p) (K q)) (g : Buf (Elt F) ℓ) :
    (ℓ ↦[Finset.univ.biUnion K]{fullShare} g)
      ⊢ (iprop((ℓ ↦[K 0]{fullShare} g) ∗ (ℓ ↦[K 1]{fullShare} g) ∗ (ℓ ↦[K 2]{fullShare} g) ∗ (ℓ ↦[K 3]{fullShare} g)) : sProp 𝕄) := by
  rw [pointsTo_biUnion _ _ (fun t _ t' _ h => hd t t' h), show (Finset.univ : Finset (Fin 4)) = {0, 1, 2, 3} by decide,
    bigSep_insert (by decide), bigSep_insert (by decide), bigSep_insert (by decide), bigSep_singleton]
  exact .rfl

/-- A piece with a property under a condition that fails. -/
theorem forget1 {ℓ : Loc nD τ sig} (K : Finset (Idx ℓ)) (P : Buf (Elt F) ℓ → Prop) (g : Buf (Elt F) ℓ) :
    (ℓ ↦[K]{fullShare} g) ⊢ (iprop(∃ f, ⌜False → P f⌝ ∗ (ℓ ↦[K]{fullShare} f)) : sProp 𝕄) := by
  iintro H
  iexists g
  isplitr; · ipureintro; exact False.elim
  iexact H

theorem mem_kvD (s : Fin 32) (p : Fin 4) (i : S32x256x512.Idx) :
    i ∈ ((kvD s p).view.set : Finset S32x256x512.Idx) ↔ (i 0).val = s.val ∧ 64 * p.val ≤ (i 1).val ∧ (i 1).val < 64 * p.val + 64 := by
  rw [show ((kvD s p).view.set : Finset S32x256x512.Idx) = (Rect.unit (s := S32x256x512) ![s.val, 64 * p.val, 0] S1x64x512.size (kvInb s p)).set from
    (View.set_reshape _ _).trans (View.set_slice_whole _ _), Rect.mem_set_unit]
  have h2 : (i 2).val < 512 := (i 2).isLt
  constructor
  · intro h
    have h0 := h 0; have h1 := h 1
    change s.val ≤ (i 0).val ∧ (i 0).val < s.val + 1 at h0
    change 64 * p.val ≤ (i 1).val ∧ (i 1).val < 64 * p.val + 64 at h1
    omega
  · rintro ⟨h0, h1⟩ a
    fin_cases a
    · change s.val ≤ (i 0).val ∧ (i 0).val < s.val + 1
      omega
    · exact h1
    · change 0 ≤ (i 2).val ∧ (i 2).val < 0 + 512
      omega

theorem mem_rpD (s : Fin 32) (p : Fin 4) (i : S32x256x64.Idx) :
    i ∈ ((rpD s p).view.set : Finset S32x256x64.Idx) ↔ (i 0).val = s.val ∧ 64 * p.val ≤ (i 1).val ∧ (i 1).val < 64 * p.val + 64 := by
  rw [show ((rpD s p).view.set : Finset S32x256x64.Idx) = (Rect.unit (s := S32x256x64) ![s.val, 64 * p.val, 0] S1x64x64.size (rpInb s p)).set from
    (View.set_reshape _ _).trans (View.set_slice_whole _ _), Rect.mem_set_unit]
  have h2 : (i 2).val < 64 := (i 2).isLt
  constructor
  · intro h
    have h0 := h 0; have h1 := h 1
    change s.val ≤ (i 0).val ∧ (i 0).val < s.val + 1 at h0
    change 64 * p.val ≤ (i 1).val ∧ (i 1).val < 64 * p.val + 64 at h1
    omega
  · rintro ⟨h0, h1⟩ a
    fin_cases a
    · change s.val ≤ (i 0).val ∧ (i 0).val < s.val + 1
      omega
    · exact h1
    · change 0 ≤ (i 2).val ∧ (i 2).val < 0 + 64
      omega

variable (e : Env F c)

/-- Slot `s` of the key/value ring, all four pages. -/
def kvSlot (s : Fin 32) : Finset S32x256x512.Idx := Finset.univ.biUnion fun p : Fin 4 => ((kvD s p).view.set : Finset S32x256x512.Idx)
def rpSlot (s : Fin 32) : Finset S32x256x64.Idx := Finset.univ.biUnion fun p : Fin 4 => ((rpD s p).view.set : Finset S32x256x64.Idx)

theorem mem_kvSlot (s : Fin 32) (i : S32x256x512.Idx) (h : (i 0).val = s.val) : i ∈ kvSlot s := by
  have h1 : (i 1).val < 256 := (i 1).isLt
  have hp : (i 1).val / 64 < 4 := by omega
  refine Finset.mem_biUnion.mpr ⟨⟨(i 1).val / 64, hp⟩, Finset.mem_univ _, (mem_kvD s ⟨(i 1).val / 64, hp⟩ i).mpr ⟨h, ?_, ?_⟩⟩
  · show 64 * ((i 1).val / 64) ≤ (i 1).val
    omega
  · show (i 1).val < 64 * ((i 1).val / 64) + 64
    omega
theorem mem_rpSlot (s : Fin 32) (i : S32x256x64.Idx) (h : (i 0).val = s.val) : i ∈ rpSlot s := by
  have h1 : (i 1).val < 256 := (i 1).isLt
  have hp : (i 1).val / 64 < 4 := by omega
  refine Finset.mem_biUnion.mpr ⟨⟨(i 1).val / 64, hp⟩, Finset.mem_univ _, (mem_rpD s ⟨(i 1).val / 64, hp⟩ i).mpr ⟨h, ?_, ?_⟩⟩
  · show 64 * ((i 1).val / 64) ≤ (i 1).val
    omega
  · show (i 1).val < 64 * ((i 1).val / 64) + 64
    omega

theorem kvD_disj (s : Fin 32) (p q : Fin 4) (h : p ≠ q) : Disjoint ((kvD s p).view.set : Finset S32x256x512.Idx) ((kvD s q).view.set : Finset S32x256x512.Idx) := by
  rw [Finset.disjoint_left]
  intro i hi hj
  have h1 := (mem_kvD s p i).mp hi
  have h2 := (mem_kvD s q i).mp hj
  exact h (Fin.ext (by omega))
theorem rpD_disj (s : Fin 32) (p q : Fin 4) (h : p ≠ q) : Disjoint ((rpD s p).view.set : Finset S32x256x64.Idx) ((rpD s q).view.set : Finset S32x256x64.Idx) := by
  rw [Finset.disjoint_left]
  intro i hi hj
  have h1 := (mem_rpD s p i).mp hi
  have h2 := (mem_rpD s q i).mp hj
  exact h (Fin.ext (by omega))

theorem AgK_congr {s : Fin 32} {p : Fin 4} {g : Fin 2560} {f f' : Buf (Elt F) ((kvD s p).view.loc (c : Thread nD τ))}
    (h : ∀ i ∈ (kvD s p).view.set, f' i = f i) (hf : AgK e s p g f) : AgK e s p g f' := by
  unfold AgK at hf ⊢
  rw [← hf]
  exact View.read_congr h
theorem AgR_congr {s : Fin 32} {p : Fin 4} {g : Fin 2560} {f f' : Buf (Elt F) ((rpD s p).view.loc (c : Thread nD τ))}
    (h : ∀ i ∈ (rpD s p).view.set, f' i = f i) (hf : AgR e s p g f) : AgR e s p g f' := by
  unfold AgR at hf ⊢
  rw [← hf]
  exact View.read_congr h

/-- A landed slot is one piece of each ring whose needed pages hold their pool pages; given back, it is free. -/
theorem Landed_open (n : ℕ) :
    Landed e n ⊢ iprop(∃ (fK : Buf (Elt F) ((Memref.whole cc0_scratch3).view.loc (c : Thread nD τ))) (fR : Buf (Elt F) ((Memref.whole cc0_scratch4).view.loc (c : Thread nD τ))),
      ⌜∀ p : Fin 4, p.val < cnt e.L n → AgK e (slot n) p (e.pg n p.val) fK ∧ AgR e (slot n) p (e.pg n p.val) fR⌝
      ∗ ((Memref.whole cc0_scratch3).view.loc (c : Thread nD τ) ↦[kvSlot (slot n)]{fullShare} fK)
      ∗ ((Memref.whole cc0_scratch4).view.loc (c : Thread nD τ) ↦[rpSlot (slot n)]{fullShare} fR)
      ∗ (((Memref.whole cc0_scratch3).view.loc (c : Thread nD τ) ↦[kvSlot (slot n)]{fullShare} fK)
        -∗ ((Memref.whole cc0_scratch4).view.loc (c : Thread nD τ) ↦[rpSlot (slot n)]{fullShare} fR) -∗ Free e (slot n))) := by
  unfold Landed Free PgFree Pg
  iintro ⟨Hs, Hs', ⟨K0, R0, A0, B0⟩, ⟨K1, R1, A1, B1⟩, ⟨K2, R2, A2, B2⟩, ⟨K3, R3, A3, B3⟩⟩
  ihave HK := (join4 (F := F) (ℓ := (Memref.whole cc0_scratch3).view.loc (c : Thread nD τ)) (fun p => ((kvD (slot n) p).view.set : Finset S32x256x512.Idx))
    (fun p f => p.val < cnt e.L n → AgK e (slot n) p (e.pg n p.val) f) (kvD_disj _) (fun p f g h hf hp => AgK_congr e h (hf hp))) $$ [K0 K1 K2 K3]
  · isplitl [K0]; · iexact K0
    isplitl [K1]; · iexact K1
    isplitl [K2]; · iexact K2
    iexact K3
  ihave HR := (join4 (F := F) (ℓ := (Memref.whole cc0_scratch4).view.loc (c : Thread nD τ)) (fun p => ((rpD (slot n) p).view.set : Finset S32x256x64.Idx))
    (fun p f => p.val < cnt e.L n → AgR e (slot n) p (e.pg n p.val) f) (rpD_disj _) (fun p f g h hf hp => AgR_congr e h (hf hp))) $$ [R0 R1 R2 R3]
  · isplitl [R0]; · iexact R0
    isplitl [R1]; · iexact R1
    isplitl [R2]; · iexact R2
    iexact R3
  icases HK with ⟨%fK, %hK, HK⟩
  icases HR with ⟨%fR, %hR, HR⟩
  iexists fK, fR
  isplitr; · ipureintro; exact fun p hp => ⟨hK p hp, hR p hp⟩
  isplitl [HK]; · iexact HK
  isplitl [HR]; · iexact HR
  iintro HK HR
  ihave HK := (split4 (F := F) (ℓ := (Memref.whole cc0_scratch3).view.loc (c : Thread nD τ)) (fun p => ((kvD (slot n) p).view.set : Finset S32x256x512.Idx)) (kvD_disj _) fK) $$ [HK]
  · iexact HK
  ihave HR := (split4 (F := F) (ℓ := (Memref.whole cc0_scratch4).view.loc (c : Thread nD τ)) (fun p => ((rpD (slot n) p).view.set : Finset S32x256x64.Idx)) (rpD_disj _) fR) $$ [HR]
  · iexact HR
  icases HK with ⟨K0, K1, K2, K3⟩
  icases HR with ⟨R0, R1, R2, R3⟩
  isplitl [Hs]; · iexact Hs
  isplitl [Hs']; · iexact Hs'
  isplitl [K0 R0 A0 B0]
  · isplitl [K0]; · iapply (forget1 (F := F) _ _ _) $$ K0
    isplitl [R0]; · iapply (forget1 (F := F) _ _ _) $$ R0
    isplitl [A0]; · iexact A0
    iexact B0
  isplitl [K1 R1 A1 B1]
  · isplitl [K1]; · iapply (forget1 (F := F) _ _ _) $$ K1
    isplitl [R1]; · iapply (forget1 (F := F) _ _ _) $$ R1
    isplitl [A1]; · iexact A1
    iexact B1
  isplitl [K2 R2 A2 B2]
  · isplitl [K2]; · iapply (forget1 (F := F) _ _ _) $$ K2
    isplitl [R2]; · iapply (forget1 (F := F) _ _ _) $$ R2
    isplitl [A2]; · iexact A2
    iexact B2
  isplitl [K3]; · iapply (forget1 (F := F) _ _ _) $$ K3
  isplitl [R3]; · iapply (forget1 (F := F) _ _ _) $$ R3
  isplitl [A3]; · iexact A3
  iexact B3

end Cert.Kernel.Hand

end
-- ==== Proof.KB.Step.lean ====
/-
  Loads and stores on what a memref holds, and what one chunk does to the running state.
-/
module

public import proofs.«01_k».proof.Proof.KB.Slot
public import Idealize.ShloMosaic.Lib.VecWindow

@[expose] public section

set_option maxRecDepth 16384

noncomputable section

namespace Cert.Kernel.Hand

open Cert.Kernel Cert.Kernel.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {c : Dev nD} (bd : Option Variants.nat.V)

/-! ## Loads and stores -/

/-- The memref's buffer, held whole, reads `v`. -/
def Hv {sp : Space} {sh : Shape} {et : EltTy} (m : Mref sp sh et) (v : sh.Idx → Elt F et) : sProp 𝕄 :=
  iprop(∃ f, ⌜m.view.read (Elt F) f = v⌝ ∗ (m.view.loc (c : Thread nD τ) ↦[Finset.univ]{fullShare} f))

section
variable {sh : Shape} {et : EltTy} {cs : CoreSpace} (m : Mref cs sh et) (v : sh.Idx → Elt F et) {α : Type}

theorem Hv_load {Q : α → sProp 𝕄} {off off' size : Fin sh.rank → ℕ} {inb : ∀ a, off a + size a ≤ sh.size a} (h : off = off') (inb' : ∀ a, off' a + size a ≤ sh.size a)
    {hl : m.view.LoadsAt (Rect.unit off size inb).toLoadRect} (k : ((Rect.unit off size inb).shape.Idx → Elt F et) → Prog (TpuEff nD τ sig (Elt F) (Λ₀ F) .tc) α) :
    (Hv (c := c) m v)
      ⊢ iprop(((Hv (c := c) m v) -∗ wp frame (wpE (defs₀ (F := F)) Variants.nat (c : Thread nD τ) bd) Set.univ (k (VecWindow.window v off' size inb')) Q) -∗ wp frame (wpE (defs₀ (F := F)) Variants.nat (c : Thread nD τ) bd) Set.univ ((Prog.lift (TpuEff.load m (Rect.unit off size inb).toLoadRect hl) : Prog (TpuEff nD τ sig (Elt F) (Λ₀ F) .tc) _) >>= k) Q) := by
  subst h
  unfold Hv
  iintro ⟨%f, %hf, H⟩ Hk
  iapply (wp_load_rect Variants.nat (c : Thread nD τ) bd Set.univ (m := m) (r := Rect.unit off size inb) (hl := hl) (k := k) (f := f) (Finset.subset_univ _)) $$ H
  iintro H
  rw [show (m.access (Rect.unit off size inb)).read (Elt F) f = VecWindow.window v off size inb' from by rw [← hf]; rfl]
  iapply Hk
  iexists f
  isplitr; · ipureintro; exact hf
  iexact H

theorem Hv_load_full {Q : α → sProp 𝕄} {off : Fin sh.rank → ℕ} {inb : ∀ a, off a + sh.size a ≤ sh.size a}
    {hl : m.view.LoadsAt (Rect.unit off sh.size inb).toLoadRect} (k : ((Rect.unit off sh.size inb).shape.Idx → Elt F et) → Prog (TpuEff nD τ sig (Elt F) (Λ₀ F) .tc) α) :
    (Hv (c := c) m v)
      ⊢ iprop(((Hv (c := c) m v) -∗ wp frame (wpE (defs₀ (F := F)) Variants.nat (c : Thread nD τ) bd) Set.univ (k v) Q) -∗ wp frame (wpE (defs₀ (F := F)) Variants.nat (c : Thread nD τ) bd) Set.univ ((Prog.lift (TpuEff.load m (Rect.unit off sh.size inb).toLoadRect hl) : Prog (TpuEff nD τ sig (Elt F) (Λ₀ F) .tc) _) >>= k) Q) := by
  have e : VecWindow.window v off sh.size inb = v := by
    funext y
    exact congrArg v (funext fun a => Fin.ext (by
      show off a + 1 * (y a).val = (y a).val
      have := inb a; omega))
  have := Hv_load (c := c) bd m v (Q := Q) (rfl : off = off) inb (hl := hl) k
  rwa [e] at this

theorem Hv_store {Q : α → sProp 𝕄} {off off' size : Fin sh.rank → ℕ} {inb : ∀ a, off a + size a ≤ sh.size a} (h : off = off')
    {w : (Rect.unit off size inb).shape.Idx → Elt F et} {hx : (m.access (Rect.unit off size inb)).Stores Finset.univ}
    {hm : Finset.univ = Finset.univ ∨ ∀ a, (Rect.unit off size inb).stride a = 1} (k : PUnit → Prog (TpuEff nD τ sig (Elt F) (Λ₀ F) .tc) α) :
    (Hv (c := c) m v)
      ⊢ iprop(((Hv (c := c) m (VecWindow.put v off' size w)) -∗ wp frame (wpE (defs₀ (F := F)) Variants.nat (c : Thread nD τ) bd) Set.univ (k ⟨⟩) Q) -∗ wp frame (wpE (defs₀ (F := F)) Variants.nat (c : Thread nD τ) bd) Set.univ ((Prog.lift (TpuEff.store m (Rect.unit off size inb) w Finset.univ hx hm) : Prog (TpuEff nD τ sig (Elt F) (Λ₀ F) .tc) _) >>= k) Q) := by
  subst h
  unfold Hv
  iintro ⟨%f, %hf, H⟩ Hk
  iapply (wp_store Variants.nat (c : Thread nD τ) bd Set.univ (m := m) (r := Rect.unit off size inb) (w := w) (Mk := Finset.univ) (hx := hx) (hm := hm) (k := k) (f := f) (Finset.subset_univ _)) $$ H
  iintro H
  iapply Hk
  iexists _
  isplitr
  swap; · iexact H
  ipureintro
  rw [← hf]
  exact View.read_writes_cons_put m.view f inb w [] rfl

theorem Hv_store_full {Q : α → sProp 𝕄} {off : Fin sh.rank → ℕ} {inb : ∀ a, off a + sh.size a ≤ sh.size a}
    {w : (Rect.unit off sh.size inb).shape.Idx → Elt F et} {hx : (m.access (Rect.unit off sh.size inb)).Stores Finset.univ}
    {hm : Finset.univ = Finset.univ ∨ ∀ a, (Rect.unit off sh.size inb).stride a = 1} (k : PUnit → Prog (TpuEff nD τ sig (Elt F) (Λ₀ F) .tc) α) :
    (Hv (c := c) m v)
      ⊢ iprop(((Hv (c := c) m w) -∗ wp frame (wpE (defs₀ (F := F)) Variants.nat (c : Thread nD τ) bd) Set.univ (k ⟨⟩) Q) -∗ wp frame (wpE (defs₀ (F := F)) Variants.nat (c : Thread nD τ) bd) Set.univ ((Prog.lift (TpuEff.store m (Rect.unit off sh.size inb) w Finset.univ hx hm) : Prog (TpuEff nD τ sig (Elt F) (Λ₀ F) .tc) _) >>= k) Q) := by
  unfold Hv
  iintro ⟨%f, %hf, H⟩ Hk
  iapply (wp_store Variants.nat (c : Thread nD τ) bd Set.univ (m := m) (r := Rect.unit off sh.size inb) (w := w) (Mk := Finset.univ) (hx := hx) (hm := hm) (k := k) (f := f) (Finset.subset_univ _)) $$ H
  iintro H
  iapply Hk
  iexists _
  isplitr
  swap; · iexact H
  ipureintro
  exact View.read_writes_full m.view f inb w []
end

/-- A scalar load. -/
theorem Hv_smem {sh : Shape} {et : EltTy} (m : Mref .smem sh et) (v : sh.Idx → Elt F et) {off off' size : Fin sh.rank → ℕ} {inb : ∀ a, off a + size a ≤ sh.size a}
    (h : off = off') (inb' : ∀ a, off' a + size a ≤ sh.size a) (h1 : (Rect.unit off size inb).shape.numel = 1) (hp : et.packing = 1) {α : Type}
    (k : Elt F et → Prog (TpuEff nD τ sig (Elt F) (Λ₀ F) .tc) α) {Q : α → sProp 𝕄} (y : Elt F et) (hy : ∀ x, VecWindow.window v off' size inb' x = y) :
    (Hv (c := c) m v)
      ⊢ iprop(((Hv (c := c) m v) -∗ wp frame (wpE (defs₀ (F := F)) Variants.nat (c : Thread nD τ) bd) Set.univ (k y) Q) -∗ wp frame (wpE (defs₀ (F := F)) Variants.nat (c : Thread nD τ) bd) Set.univ (smemLoad m (Rect.unit off size inb) h1 hp >>= k) Q) := by
  subst h
  unfold Hv
  iintro ⟨%f, %hf, H⟩ Hk
  iapply (wp_smem bd m _ h1 hp f k y (fun x => (hy x ▸ (by rw [← hf]; rfl)))) $$ H
  iintro H
  iapply Hk
  iexists f
  isplitr; · ipureintro; exact hf
  iexact H

/-! ## The state and the step -/

/-- What the computation reads besides the rings: the queries, the page scales, and the fresh token. -/
structure Ins (F : FTy → Type) [FloatOps F] where
  x : Vec F S64x32x512 .bf16
  q : Vec F S64x32x64 .bf16
  sc : Vec F S2560x64 .f32
  cn : Vec F S64x1x512 .fp8e4m3
  cs : Vec F S64x1 .f32
  kr : Vec F S64x1x64 .bf16

/-- What it keeps: the running maximum, the running sum, the running output, and the two results. -/
structure St (F : FTy → Type) [FloatOps F] where
  m : Vec F S32x128 .f32
  l : Vec F S32x128 .f32
  a : Vec F S32x512 .f32
  o : Vec F S64x32x512 .bf16
  s : Vec F S64x1x32 .f32

theorem inb_x (b : Fin 64) : ∀ a, (![b.val, 0, 0] : Fin 3 → ℕ) a + S1x32x512.size a ≤ S64x32x512.size a := by
  intro a; have := b.isLt; fin_cases a <;> simp <;> omega
theorem inb_q (b : Fin 64) : ∀ a, (![b.val, 0, 0] : Fin 3 → ℕ) a + S1x32x64.size a ≤ S64x32x64.size a := by
  intro a; have := b.isLt; fin_cases a <;> simp <;> omega
theorem inb_cn (b : Fin 64) : ∀ a, (![b.val, 0, 0] : Fin 3 → ℕ) a + S1x1x512.size a ≤ S64x1x512.size a := by
  intro a; have := b.isLt; fin_cases a <;> simp <;> omega
theorem inb_cs (b : Fin 64) : ∀ a, (![b.val, 0] : Fin 2 → ℕ) a + S1x1.size a ≤ S64x1.size a := by
  intro a; have := b.isLt; fin_cases a <;> simp <;> omega
theorem inb_kr (b : Fin 64) : ∀ a, (![b.val, 0, 0] : Fin 3 → ℕ) a + S1x1x64.size a ≤ S64x1x64.size a := by
  intro a; have := b.isLt; fin_cases a <;> simp <;> omega
theorem inb_ls (b : Fin 64) : ∀ a, (![b.val, 0, 0] : Fin 3 → ℕ) a + S1x1x32.size a ≤ S64x1x32.size a := by
  intro a; have := b.isLt; fin_cases a <;> simp <;> omega
theorem inb_sc (g : Fin 2560) : ∀ a, (![g.val, 0] : Fin 2 → ℕ) a + S1x64.size a ≤ S2560x64.size a := by
  intro a; have := g.isLt; fin_cases a <;> simp <;> omega
theorem inb_vk (s : Fin 32) : ∀ a, (![s.val, 0, 0] : Fin 3 → ℕ) a + S1x256x512.size a ≤ S32x256x512.size a := by
  intro a; have := s.isLt; fin_cases a <;> simp <;> omega
theorem inb_vr (s : Fin 32) : ∀ a, (![s.val, 0, 0] : Fin 3 → ℕ) a + S1x256x64.size a ≤ S32x256x64.size a := by
  intro a; have := s.isLt; fin_cases a <;> simp <;> omega

namespace Ins
variable (I : Ins F) (b : Fin 64)
/-- Sequence `b`'s queries, fresh latent, fresh scale, fresh position key; and page `g`'s scales. -/
def xb : Vec F S1x32x512 .bf16 := VecWindow.window I.x ![b.val, 0, 0] S1x32x512.size (inb_x b)
def qb : Vec F S1x32x64 .bf16 := VecWindow.window I.q ![b.val, 0, 0] S1x32x64.size (inb_q b)
def cnb : Vec F S1x1x512 .fp8e4m3 := VecWindow.window I.cn ![b.val, 0, 0] S1x1x512.size (inb_cn b)
def csb : Elt F .f32 := VecWindow.window I.cs ![b.val, 0] S1x1.size (inb_cs b) (show S1x1.Idx from fun a => ⟨0, by fin_cases a <;> decide⟩)
theorem csb_eq (x : S1x1.Idx) : VecWindow.window I.cs ![b.val, 0] S1x1.size (inb_cs b) x = I.csb b := by
  unfold csb
  congr 1
  funext a
  have h : (x a).val < 1 := by have := (x a).isLt; fin_cases a <;> exact this
  exact Fin.ext (by dsimp only; omega)
def krb : Vec F S1x1x64 .bf16 := VecWindow.window I.kr ![b.val, 0, 0] S1x1x64.size (inb_kr b)
def scg (g : Fin 2560) : Vec F S1x64 .f32 := VecWindow.window I.sc ![g.val, 0] S1x64.size (inb_sc g)
end Ins

/-- On a sequence's first chunk the state starts from the fresh token. -/
def start (I : Ins F) (b : Fin 64) (k : ℕ) (S : St F) : St F :=
  if k = 0 then
    { S with m := k0_pay2 (k0_pay5 (I.xb b)) (k0_pay6 (I.qb b)) (I.cnb b) (I.csb b) (I.krb b)
             l := k0_pay3 (F := F)
             a := k0_pay7 (k0_pay4 (I.cnb b) (I.csb b)) }
  else S

/-- A chunk's keys `vk`, position keys `vr` and page scales folded into the state. -/
def fold (I : Ins F) (b : Fin 64) (k : ℕ) (Lw : BitVec 32) (g : Fin 4 → Fin 2560) (vk : Vec F S1x256x512 .fp8e4m3) (vr : Vec F S1x256x64 .bf16) (S : St F) : St F :=
  { S with
    m := k0_pay18 (k0_pay13 (W k) (k0_pay9 (I.xb b) vk) (k0_pay10 (I.qb b) vr) (I.scg (g 0)) (I.scg (g 1)) (I.scg (g 2)) (I.scg (g 3)) Lw S.m)
    l := k0_pay17 (k0_pay12 (W k) (k0_pay9 (I.xb b) vk) (k0_pay10 (I.qb b) vr) (I.scg (g 0)) (I.scg (g 1)) (I.scg (g 2)) (I.scg (g 3)) Lw)
        (k0_pay14 (W k) (k0_pay9 (I.xb b) vk) (k0_pay10 (I.qb b) vr) (I.scg (g 0)) (I.scg (g 1)) (I.scg (g 2)) (I.scg (g 3)) Lw S.m)
        (k0_pay15 (W k) (k0_pay9 (I.xb b) vk) (k0_pay10 (I.qb b) vr) (I.scg (g 0)) (I.scg (g 1)) (I.scg (g 2)) (I.scg (g 3)) Lw S.m) S.l
    a := k0_pay19 (k0_pay8 vk) (k0_pay11 (I.scg (g 0)) (I.scg (g 1)) (I.scg (g 2)) (I.scg (g 3)))
        (k0_pay12 (W k) (k0_pay9 (I.xb b) vk) (k0_pay10 (I.qb b) vr) (I.scg (g 0)) (I.scg (g 1)) (I.scg (g 2)) (I.scg (g 3)) Lw)
        (k0_pay14 (W k) (k0_pay9 (I.xb b) vk) (k0_pay10 (I.qb b) vr) (I.scg (g 0)) (I.scg (g 1)) (I.scg (g 2)) (I.scg (g 3)) Lw S.m)
        (k0_pay15 (W k) (k0_pay9 (I.xb b) vk) (k0_pay10 (I.qb b) vr) (I.scg (g 0)) (I.scg (g 1)) (I.scg (g 2)) (I.scg (g 3)) Lw S.m) S.a }

/-- After a sequence's last chunk its results are written. -/
def finish (b : Fin 64) (k : ℕ) (Lw : BitVec 32) (S : St F) : St F :=
  if k0_cond11 (W k) Lw = 1#1 then
    { S with o := VecWindow.put S.o ![b.val, 0, 0] S1x32x512.size (k0_pay20 S.l S.a)
             s := VecWindow.put S.s ![b.val, 0, 0] S1x1x32.size (k0_pay21 S.l S.m) }
  else S

/-- One chunk. -/
def step (I : Ins F) (b : Fin 64) (k : ℕ) (Lw : BitVec 32) (g : Fin 4 → Fin 2560) (vk : Vec F S1x256x512 .fp8e4m3) (vr : Vec F S1x256x64 .bf16) (S : St F) : St F :=
  finish b k Lw (fold I b k Lw g vk vr (start I b k S))

end Cert.Kernel.Hand

end
-- ==== Proof.KB.Match.lean ====
/-
  The printed parts of the kernel's body are sequences of page sites.
-/
module

public import proofs.«01_k».proof.Proof.KB.Prog

@[expose] public section

set_option maxRecDepth 65536

noncomputable section

namespace Cert.Kernel.Hand

open Cert.Kernel Cert.Kernel.Gen Decode
open Idealize.ShloMosaic Idealize.ShloMosaic.TcCoe
open Idealize.SL Idealize.SL.Sem

variable {F : FTy → Type} [FloatOps F]

section
variable (arg0 : Mref .smem S64x32 .i32) (harg0 : arg0.IsWhole) (arg1 : Mref .smem S64 .i32) (harg1 : arg1.IsWhole) (arg2 : Mref .smem S64x1 .f32) (harg2 : arg2.IsWhole) (arg3 : Mref .hbm S64x32x512 .bf16) (harg3 : arg3.IsWhole) (arg4 : Mref .hbm S64x32x64 .bf16) (harg4 : arg4.IsWhole) (arg5 : Mref .hbm S2560x64x512 .fp8e4m3) (harg5 : arg5.IsWhole) (arg6 : Mref .hbm S2560x64 .f32) (harg6 : arg6.IsWhole) (arg7 : Mref .hbm S2560x64x64 .bf16) (harg7 : arg7.IsWhole) (arg8 : Mref .vmem S64x1x512 .fp8e4m3) (harg8 : arg8.IsWhole) (arg9 : Mref .vmem S64x1x64 .bf16) (harg9 : arg9.IsWhole) (arg10 : Mref .hbm S64x1x32x512 .bf16) (harg10 : arg10.IsWhole) (arg11 : Mref .vmem S64x1x32 .f32) (harg11 : arg11.IsWhole) (arg12 : Mref .vmem S64x32x512 .bf16) (harg12 : arg12.IsWhole) (arg13 : Mref .vmem S64x32x64 .bf16) (harg13 : arg13.IsWhole) (arg14 : Mref .vmem S2560x64 .f32) (harg14 : arg14.IsWhole) (arg15 : Mref .vmem S32x256x512 .fp8e4m3) (harg15 : arg15.IsWhole) (arg16 : Mref .vmem S32x256x64 .bf16) (harg16 : arg16.IsWhole) (arg17 : Mref .vmem S64x32x512 .bf16) (harg17 : arg17.IsWhole) (arg18 : Mref .vmem S32x128 .f32) (harg18 : arg18.IsWhole) (arg19 : Mref .vmem S32x128 .f32) (harg19 : arg19.IsWhole) (arg20 : Mref .vmem S32x512 .f32) (harg20 : arg20.IsWhole) (arg21 : DmaSems sig S32) (arg22 : DmaSems sig S32) (arg23 : DmaSems sig S3) (arg24 : DmaSems sig S_)

/-- The first three pages of trip `k0_t1`. -/
def pro3 (arg0 : Mref .smem S64x32 .i32) (harg0 : arg0.IsWhole) (arg1 : Mref .smem S64 .i32) (harg1 : arg1.IsWhole) (arg2 : Mref .smem S64x1 .f32) (harg2 : arg2.IsWhole) (arg3 : Mref .hbm S64x32x512 .bf16) (harg3 : arg3.IsWhole) (arg4 : Mref .hbm S64x32x64 .bf16) (harg4 : arg4.IsWhole) (arg5 : Mref .hbm S2560x64x512 .fp8e4m3) (harg5 : arg5.IsWhole) (arg6 : Mref .hbm S2560x64 .f32) (harg6 : arg6.IsWhole) (arg7 : Mref .hbm S2560x64x64 .bf16) (harg7 : arg7.IsWhole) (arg8 : Mref .vmem S64x1x512 .fp8e4m3) (harg8 : arg8.IsWhole) (arg9 : Mref .vmem S64x1x64 .bf16) (harg9 : arg9.IsWhole) (arg10 : Mref .hbm S64x1x32x512 .bf16) (harg10 : arg10.IsWhole) (arg11 : Mref .vmem S64x1x32 .f32) (harg11 : arg11.IsWhole) (arg12 : Mref .vmem S64x32x512 .bf16) (harg12 : arg12.IsWhole) (arg13 : Mref .vmem S64x32x64 .bf16) (harg13 : arg13.IsWhole) (arg14 : Mref .vmem S2560x64 .f32) (harg14 : arg14.IsWhole) (arg15 : Mref .vmem S32x256x512 .fp8e4m3) (harg15 : arg15.IsWhole) (arg16 : Mref .vmem S32x256x64 .bf16) (harg16 : arg16.IsWhole) (arg17 : Mref .vmem S64x32x512 .bf16) (harg17 : arg17.IsWhole) (arg18 : Mref .vmem S32x128 .f32) (harg18 : arg18.IsWhole) (arg19 : Mref .vmem S32x128 .f32) (harg19 : arg19.IsWhole) (arg20 : Mref .vmem S32x512 .f32) (harg20 : arg20.IsWhole) (arg21 : DmaSems sig S32) (arg22 : DmaSems sig S32) (arg23 : DmaSems sig S3) (arg24 : DmaSems sig S_) (k0_t1 : Fin k0_t1_loop.trips) (arg26 arg27 : BitVec 32) (k0_hw1 : k0_chk1 arg26) (k0_h1 : k0_cond1 arg26 = 1#1) : Prog (TpuEff nD τ sig (Elt F) (Λ₀ F) .tc) (BitVec 32) :=
  pageSite (F := F) arg1 arg0 (issueTwo (F := F) arg21 arg15 harg15 arg5 harg5 arg22 arg16 harg16 arg7 harg7) (Scf.iv 0#32 1#32 k0_t1) arg26 arg27 0 (k0_off1_inb arg26 k0_hw1 k0_h1)
      (k0_chk2 k0_t1 arg26 arg27) (k0_chk2.dec k0_t1 arg26 arg27) (fun v hA h => k0_off2_inb k0_t1 arg26 arg27 v hA k0_h1 h)
      (k0_chk3 k0_t1 arg26 arg27) (k0_chk3.dec k0_t1 arg26 arg27)
      (fun v w hA hB h => ⟨k0_off3_inb k0_t1, k0_off4_inb k0_t1, k0_off4_wordsfp8e4m3 k0_t1, k0_off5_inb k0_t1 arg26 arg27 v w hB k0_h1 h, k0_off5_wordsfp8e4m3 k0_t1 arg26 arg27 v w hB k0_h1 h,
        k0_off7_inb k0_t1, k0_off7_wordsbf16 k0_t1, k0_off8_inb k0_t1 arg26 arg27 v w hB k0_h1 h, k0_off8_wordsbf16 k0_t1 arg26 arg27 v w hB k0_h1 h⟩) fun _ =>
  pageSite (F := F) arg1 arg0 (issueTwo (F := F) arg21 arg15 harg15 arg5 harg5 arg22 arg16 harg16 arg7 harg7) (Scf.iv 0#32 1#32 k0_t1) arg26 arg27 1 (k0_off9_inb arg26 k0_hw1 k0_h1)
      (k0_chk4 k0_t1 arg26 arg27) (k0_chk4.dec k0_t1 arg26 arg27) (fun v hA h => k0_off10_inb k0_t1 arg26 arg27 v hA k0_h1 h)
      (k0_chk5 k0_t1 arg26 arg27) (k0_chk5.dec k0_t1 arg26 arg27)
      (fun v w hA hB h => ⟨k0_off11_inb k0_t1, k0_off12_inb k0_t1, k0_off12_wordsfp8e4m3 k0_t1, k0_off13_inb k0_t1 arg26 arg27 v w hB k0_h1 h, k0_off13_wordsfp8e4m3 k0_t1 arg26 arg27 v w hB k0_h1 h,
        k0_off15_inb k0_t1, k0_off15_wordsbf16 k0_t1, k0_off16_inb k0_t1 arg26 arg27 v w hB k0_h1 h, k0_off16_wordsbf16 k0_t1 arg26 arg27 v w hB k0_h1 h⟩) fun _ =>
  pageSite (F := F) arg1 arg0 (issueTwo (F := F) arg21 arg15 harg15 arg5 harg5 arg22 arg16 harg16 arg7 harg7) (Scf.iv 0#32 1#32 k0_t1) arg26 arg27 2 (k0_off17_inb arg26 k0_hw1 k0_h1)
      (k0_chk6 k0_t1 arg26 arg27) (k0_chk6.dec k0_t1 arg26 arg27) (fun v hA h => k0_off18_inb k0_t1 arg26 arg27 v hA k0_h1 h)
      (k0_chk7 k0_t1 arg26 arg27) (k0_chk7.dec k0_t1 arg26 arg27)
      (fun v w hA hB h => ⟨k0_off19_inb k0_t1, k0_off20_inb k0_t1, k0_off20_wordsfp8e4m3 k0_t1, k0_off21_inb k0_t1 arg26 arg27 v w hB k0_h1 h, k0_off21_wordsfp8e4m3 k0_t1 arg26 arg27 v w hB k0_h1 h,
        k0_off23_inb k0_t1, k0_off23_wordsbf16 k0_t1, k0_off24_inb k0_t1 arg26 arg27 v w hB k0_h1 h, k0_off24_wordsbf16 k0_t1 arg26 arg27 v w hB k0_h1 h⟩) fun _ =>
  pure (Scalar.muli (Scalar.addi (Scalar.muli arg27 4#32) 3#32) 64#32)

/-- What ends a trip of the first loop: the pointer's step. -/
def proRest (arg0 : Mref .smem S64x32 .i32) (harg0 : arg0.IsWhole) (arg1 : Mref .smem S64 .i32) (harg1 : arg1.IsWhole) (arg2 : Mref .smem S64x1 .f32) (harg2 : arg2.IsWhole) (arg3 : Mref .hbm S64x32x512 .bf16) (harg3 : arg3.IsWhole) (arg4 : Mref .hbm S64x32x64 .bf16) (harg4 : arg4.IsWhole) (arg5 : Mref .hbm S2560x64x512 .fp8e4m3) (harg5 : arg5.IsWhole) (arg6 : Mref .hbm S2560x64 .f32) (harg6 : arg6.IsWhole) (arg7 : Mref .hbm S2560x64x64 .bf16) (harg7 : arg7.IsWhole) (arg8 : Mref .vmem S64x1x512 .fp8e4m3) (harg8 : arg8.IsWhole) (arg9 : Mref .vmem S64x1x64 .bf16) (harg9 : arg9.IsWhole) (arg10 : Mref .hbm S64x1x32x512 .bf16) (harg10 : arg10.IsWhole) (arg11 : Mref .vmem S64x1x32 .f32) (harg11 : arg11.IsWhole) (arg12 : Mref .vmem S64x32x512 .bf16) (harg12 : arg12.IsWhole) (arg13 : Mref .vmem S64x32x64 .bf16) (harg13 : arg13.IsWhole) (arg14 : Mref .vmem S2560x64 .f32) (harg14 : arg14.IsWhole) (arg15 : Mref .vmem S32x256x512 .fp8e4m3) (harg15 : arg15.IsWhole) (arg16 : Mref .vmem S32x256x64 .bf16) (harg16 : arg16.IsWhole) (arg17 : Mref .vmem S64x32x512 .bf16) (harg17 : arg17.IsWhole) (arg18 : Mref .vmem S32x128 .f32) (harg18 : arg18.IsWhole) (arg19 : Mref .vmem S32x128 .f32) (harg19 : arg19.IsWhole) (arg20 : Mref .vmem S32x512 .f32) (harg20 : arg20.IsWhole) (arg21 : DmaSems sig S32) (arg22 : DmaSems sig S32) (arg23 : DmaSems sig S3) (arg24 : DmaSems sig S_) (arg26 arg27 : BitVec 32) (k0_hw1 : k0_chk1 arg26) : Prog (TpuEff nD τ sig (Elt F) (Λ₀ F) .tc) (BitVec 32 × BitVec 32) :=
  (smemLoad arg1 (Rect.unit (s := S64) (k0_off33 arg26) S1.size (k0_off33_inb arg26 k0_hw1)) numel1_S1 rfl : Prog (TpuEff nD τ sig (Elt F) (Λ₀ F) .tc) (Elt F .i32)) >>= fun v25 =>
  pure (Scalar.select (lastW arg27 v25) (Scalar.addi arg26 1#32) arg26, Scalar.select (lastW arg27 v25) 0#32 (Scalar.addi arg27 1#32))

/-- What a trip of the first loop does: start the pages, step the pointer. -/
def proBody (arg0 : Mref .smem S64x32 .i32) (harg0 : arg0.IsWhole) (arg1 : Mref .smem S64 .i32) (harg1 : arg1.IsWhole) (arg2 : Mref .smem S64x1 .f32) (harg2 : arg2.IsWhole) (arg3 : Mref .hbm S64x32x512 .bf16) (harg3 : arg3.IsWhole) (arg4 : Mref .hbm S64x32x64 .bf16) (harg4 : arg4.IsWhole) (arg5 : Mref .hbm S2560x64x512 .fp8e4m3) (harg5 : arg5.IsWhole) (arg6 : Mref .hbm S2560x64 .f32) (harg6 : arg6.IsWhole) (arg7 : Mref .hbm S2560x64x64 .bf16) (harg7 : arg7.IsWhole) (arg8 : Mref .vmem S64x1x512 .fp8e4m3) (harg8 : arg8.IsWhole) (arg9 : Mref .vmem S64x1x64 .bf16) (harg9 : arg9.IsWhole) (arg10 : Mref .hbm S64x1x32x512 .bf16) (harg10 : arg10.IsWhole) (arg11 : Mref .vmem S64x1x32 .f32) (harg11 : arg11.IsWhole) (arg12 : Mref .vmem S64x32x512 .bf16) (harg12 : arg12.IsWhole) (arg13 : Mref .vmem S64x32x64 .bf16) (harg13 : arg13.IsWhole) (arg14 : Mref .vmem S2560x64 .f32) (harg14 : arg14.IsWhole) (arg15 : Mref .vmem S32x256x512 .fp8e4m3) (harg15 : arg15.IsWhole) (arg16 : Mref .vmem S32x256x64 .bf16) (harg16 : arg16.IsWhole) (arg17 : Mref .vmem S64x32x512 .bf16) (harg17 : arg17.IsWhole) (arg18 : Mref .vmem S32x128 .f32) (harg18 : arg18.IsWhole) (arg19 : Mref .vmem S32x128 .f32) (harg19 : arg19.IsWhole) (arg20 : Mref .vmem S32x512 .f32) (harg20 : arg20.IsWhole) (arg21 : DmaSems sig S32) (arg22 : DmaSems sig S32) (arg23 : DmaSems sig S3) (arg24 : DmaSems sig S_) (k0_t1 : Fin k0_t1_loop.trips) (arg26 arg27 : BitVec 32) : Prog (TpuEff nD τ sig (Elt F) (Λ₀ F) .tc) (BitVec 32 × BitVec 32) :=
  Prog.lift (TpuEff.assume (k0_chk1 arg26) (k0_chk1.dec arg26)) >>= fun k0_hw =>
  have k0_hw1 := k0_hw.down
  if k0_h1 : k0_cond1 arg26 = 1#1 then
    pro3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 k0_t1 arg26 arg27 k0_hw1 k0_h1 >>= fun _ =>
    pageSite (F := F) arg1 arg0 (issueTwo (F := F) arg21 arg15 harg15 arg5 harg5 arg22 arg16 harg16 arg7 harg7) (Scf.iv 0#32 1#32 k0_t1) arg26 arg27 3 (k0_off25_inb arg26 k0_hw1 k0_h1)
      (k0_chk8 k0_t1 arg26 arg27) (k0_chk8.dec k0_t1 arg26 arg27) (fun v hA h => k0_off26_inb k0_t1 arg26 arg27 v hA k0_h1 h)
      (k0_chk9 k0_t1 arg26 arg27) (k0_chk9.dec k0_t1 arg26 arg27)
      (fun v w hA hB h => ⟨k0_off27_inb k0_t1, k0_off28_inb k0_t1, k0_off28_wordsfp8e4m3 k0_t1, k0_off29_inb k0_t1 arg26 arg27 v w hB k0_h1 h, k0_off29_wordsfp8e4m3 k0_t1 arg26 arg27 v w hB k0_h1 h,
        k0_off31_inb k0_t1, k0_off31_wordsbf16 k0_t1, k0_off32_inb k0_t1 arg26 arg27 v w hB k0_h1 h, k0_off32_wordsbf16 k0_t1 arg26 arg27 v w hB k0_h1 h⟩) fun _ =>
    proRest arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg26 arg27 k0_hw1
  else proRest arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg26 arg27 k0_hw1

theorem proBody_eq (k0_t1 : Fin k0_t1_loop.trips) (arg26 arg27 : BitVec 32) :
    k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 k0_t1 (arg26, arg27) = proBody arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 k0_t1 arg26 arg27 := rfl
end

section
variable (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 arg28 arg29 : BitVec 32)

/-- The first three waits of one chunk. -/
def wait3 (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 : BitVec 32) (k0_hw10 : k0_chk10 arg26) {α : Type} (r : α) : Prog (TpuEff nD τ sig (Elt F) (Λ₀ F) .tc) α :=
  pageSite (F := F) arg1 arg0 (waitTwo (F := F) arg21 arg15 harg15 arg5 harg5 arg22 arg16 harg16 arg7 harg7) arg25 arg26 arg27 0 (k0_off34_inb arg26 k0_hw10)
      (k0_chk11 arg25 arg26 arg27) (k0_chk11.dec arg25 arg26 arg27) (fun v hA h => k0_off35_inb arg25 arg26 arg27 v hA h)
      (k0_chk12 arg25 arg27) (k0_chk12.dec arg25 arg27)
      (fun v w hA hB h => ⟨k0_off36_inb arg25 arg26 arg27 v hA h, k0_off37_inb arg25 arg26 arg27 v hA h, k0_off37_wordsfp8e4m3 arg25 arg26 arg27 v hA h, k0_off38_inb arg25 arg27 v w hB h, k0_off38_wordsfp8e4m3 arg25 arg27 v w hB h,
        k0_off40_inb arg25 arg26 arg27 v hA h, k0_off40_wordsbf16 arg25 arg26 arg27 v hA h, k0_off41_inb arg25 arg27 v w hB h, k0_off41_wordsbf16 arg25 arg27 v w hB h⟩) fun _ =>
  pageSite (F := F) arg1 arg0 (waitTwo (F := F) arg21 arg15 harg15 arg5 harg5 arg22 arg16 harg16 arg7 harg7) arg25 arg26 arg27 1 (k0_off42_inb arg26 k0_hw10)
      (k0_chk13 arg25 arg26 arg27) (k0_chk13.dec arg25 arg26 arg27) (fun v hA h => k0_off43_inb arg25 arg26 arg27 v hA h)
      (k0_chk14 arg25 arg27) (k0_chk14.dec arg25 arg27)
      (fun v w hA hB h => ⟨k0_off44_inb arg25 arg26 arg27 v hA h, k0_off45_inb arg25 arg26 arg27 v hA h, k0_off45_wordsfp8e4m3 arg25 arg26 arg27 v hA h, k0_off46_inb arg25 arg27 v w hB h, k0_off46_wordsfp8e4m3 arg25 arg27 v w hB h,
        k0_off48_inb arg25 arg26 arg27 v hA h, k0_off48_wordsbf16 arg25 arg26 arg27 v hA h, k0_off49_inb arg25 arg27 v w hB h, k0_off49_wordsbf16 arg25 arg27 v w hB h⟩) fun _ =>
  pageSite (F := F) arg1 arg0 (waitTwo (F := F) arg21 arg15 harg15 arg5 harg5 arg22 arg16 harg16 arg7 harg7) arg25 arg26 arg27 2 (k0_off50_inb arg26 k0_hw10)
      (k0_chk15 arg25 arg26 arg27) (k0_chk15.dec arg25 arg26 arg27) (fun v hA h => k0_off51_inb arg25 arg26 arg27 v hA h)
      (k0_chk16 arg25 arg27) (k0_chk16.dec arg25 arg27)
      (fun v w hA hB h => ⟨k0_off52_inb arg25 arg26 arg27 v hA h, k0_off53_inb arg25 arg26 arg27 v hA h, k0_off53_wordsfp8e4m3 arg25 arg26 arg27 v hA h, k0_off54_inb arg25 arg27 v w hB h, k0_off54_wordsfp8e4m3 arg25 arg27 v w hB h,
        k0_off56_inb arg25 arg26 arg27 v hA h, k0_off56_wordsbf16 arg25 arg26 arg27 v hA h, k0_off57_inb arg25 arg27 v w hB h, k0_off57_wordsbf16 arg25 arg27 v w hB h⟩) fun _ =>
  pure r

/-- What follows a chunk's last wait: the queries, on a sequence's first chunk the fresh token's state, and the chunk's keys. -/
def rest5 (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 arg28 arg29 : BitVec 32) (k0_hw20 : k0_chk20 arg25) (k0_hw19 : k0_chk19 arg26 arg27) (k0_hw10 : k0_chk10 arg26) : Prog (TpuEff nD τ sig (Elt F) (Λ₀ F) .tc) (Σ' (v72 : FVec F S256x512 .fp8e4m3) (v73 : FVec F S32x256 .f32) (v77 : FVec F S32x256 .f32) (v84 : Vec F S1x64 .f32) (v85 : BitVec 32), BitVec 32) := do
  let v62 : Vec F S1x32x512 .bf16 ← Prog.lift (.load arg12 (Rect.unit (s := S64x32x512) (k0_off66 arg26) S1x32x512.size (k0_off66_inb arg26 k0_hw10)).toLoadRect (View.loadsAt_vmem h_S1x32x512)) -- %62 = vector.load %arg12[%61, %c0, %c0_38] : memref<64x32x512xbf16, #tpu.memory_space<vmem>>, vector<1x32x512xbf16>  @ test_k:71
  -- %64 = arith.index_cast %arg26 : i32 to index  @ test_k:72  — not in the skeleton
  let v65 : Vec F S1x32x64 .bf16 ← Prog.lift (.load arg13 (Rect.unit (s := S64x32x64) (k0_off67 arg26) S1x32x64.size (k0_off67_inb arg26 k0_hw10)).toLoadRect (View.loadsAt_vmem h_S1x32x64)) -- %65 = vector.load %arg13[%64, %c0_39, %c0_40] : memref<64x32x64xbf16, #tpu.memory_space<vmem>>, vector<1x32x64xbf16>  @ test_k:72
  -- %67 = arith.cmpi eq, %arg27, %c0_i32_41 : i32  @ test_k:74  — not in the skeleton
  -- %68 = arith.extui %67 : i1 to i32  @ test_k:49  — not in the skeleton
  -- %69 = arith.cmpi ne, %68, %c0_i32_42 : i32  @ test_k:74  — not in the skeleton
  if k0_h10 : k0_cond10 arg27 = 1#1 then do
    let v232 : FVec F S32x512 .f32 ← k0_part2 arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw19 (k0_pay5 v62) (k0_pay6 v65) k0_h10 -- statements 1–60 of 65: their part
    let v233 : Vec F S32x512 .f32 ← Prog.lift (.load arg20 (Rect.unit (s := S32x512) ![0, 0] S32x512.size inb_S32x512_S32x512_0_0).toLoadRect (View.loadsAt_vmem h_S32x512)) -- %233 = vector.load %arg20[%c0_112, %c0_113] : memref<32x512xf32, #tpu.memory_space<vmem>>, vector<32x512xf32>  @ test_k:82
    -- %234 = vector.shape_cast %233 : vector<32x512xf32> to vector<32x512xf32>  @ test_k:82  — not in the skeleton
    Prog.lift (.store arg20 (Rect.unit (s := S32x512) ![0, 0] S32x512.size inb_S32x512_S32x512_0_0) (k0_pay7 v232) Finset.univ (View.stores_vmem_bits_univ h_S32x512 rfl) (.inl rfl)) -- tpu.vector_store %arg20[%c0_112, %c0_113], %235 {strides = array<i32>} : memref<32x512xf32, #tpu.memory_space<vmem>>, vector<32x512xf32>,  @ test_k:82
    pure ⟨⟩
  else do
    pure ⟨⟩
  -- %70 = arith.index_cast %19 : i32 to index  @ test_k:84  — not in the skeleton
  let v71 : Vec F S1x256x512 .fp8e4m3 ← Prog.lift (.load arg15 (Rect.unit (s := S32x256x512) (k0_off71 arg25) S1x256x512.size (k0_off71_inb arg25 k0_hw20)).toLoadRect (View.loadsAt_vmem h_S1x256x512)) -- %71 = vector.load %arg15[%70, %c0_43, %c0_44] : memref<32x256x512xf8E4M3FN, #tpu.memory_space<vmem>>, vector<1x256x512xf8E4M3FN>  @ test_k:84
  -- %74 = arith.index_cast %19 : i32 to index  @ test_k:86  — not in the skeleton
  let v75 : Vec F S1x256x64 .bf16 ← Prog.lift (.load arg16 (Rect.unit (s := S32x256x64) (k0_off72 arg25) S1x256x64.size (k0_off72_inb arg25 k0_hw20)).toLoadRect (View.loadsAt_vmem h_S1x256x64)) -- %75 = vector.load %arg16[%74, %c0_45, %c0_46] : memref<32x256x64xbf16, #tpu.memory_space<vmem>>, vector<1x256x64xbf16>  @ test_k:86
  -- %78 = arith.muli %arg27, %c4_i32_48 : i32  @ test_k:87  — not in the skeleton
  -- %79 = arith.addi %78, %c0_i32_49 : i32  @ test_k:87  — not in the skeleton
  -- %80 = arith.index_cast %arg26 : i32 to index  @ test_k:29  — not in the skeleton
  -- %81 = arith.index_cast %79 : i32 to index  @ test_k:29  — not in the skeleton
  let v82 : Elt F .i32 ← smemLoad arg0 (Rect.unit (s := S64x32) (k0_off73 arg26 arg27) S1x1.size (k0_off73_inb arg26 arg27 k0_hw19)) numel1_S1x1 rfl -- %82 = memref.load %arg0[%80, %81] : memref<64x32xi32, #tpu.memory_space<smem>>  @ test_k:29
  have k0_hw21 : k0_chk21 v82 := (← Prog.lift (TpuEff.assume (k0_chk21 v82) (k0_chk21.dec v82))).down -- ASSUME the side condition of the facts computed from v82 (the machine's `assume` effect: the proof owes it here and the machine has no step past a false one; not an operation of the kernel)
  -- %83 = arith.index_cast %82 : i32 to index  @ test_k:87  — not in the skeleton
  let v84 : Vec F S1x64 .f32 ← Prog.lift (.load arg14 (Rect.unit (s := S2560x64) (k0_off74 v82) S1x64.size (k0_off74_inb v82 k0_hw21)).toLoadRect (View.loadsAt_vmem h_S1x64)) -- %84 = vector.load %arg14[%83, %c0_50] : memref<2560x64xf32, #tpu.memory_space<vmem>>, vector<1x64xf32>  @ test_k:87
  let v85 : BitVec 32 := Scalar.muli arg27 4#32
  pure ⟨k0_pay8 v71, k0_pay9 v62 v71, k0_pay10 v65 v75, v84, v85, 1#32⟩

/-- The copies started for the chunk 32 ahead, the first three pages. -/
def fetch3 (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg28 arg29 : BitVec 32) (k0_hw26 : k0_chk26 arg28) (k0_h12 : k0_cond12 arg28 = 1#1) : Prog (TpuEff nD τ sig (Elt F) (Λ₀ F) .tc) (BitVec 32) :=
  pageSite (F := F) arg1 arg0 (issueTwo (F := F) arg21 arg15 harg15 arg5 harg5 arg22 arg16 harg16 arg7 harg7) (Scalar.addi arg25 32#32) arg28 arg29 0 (k0_off85_inb arg28 k0_hw26 k0_h12)
      (k0_chk27 arg25 arg28 arg29) (k0_chk27.dec arg25 arg28 arg29) (fun v hA h => k0_off86_inb arg25 arg28 arg29 v hA k0_h12 h)
      (k0_chk28 arg25 arg28 arg29) (k0_chk28.dec arg25 arg28 arg29)
      (fun v w hA hB h => ⟨k0_off87_inb arg25 arg28 arg29 v hA k0_h12 h, k0_off88_inb arg25 arg28 arg29 v hA k0_h12 h, k0_off88_wordsfp8e4m3 arg25 arg28 arg29 v hA k0_h12 h, k0_off89_inb arg25 arg28 arg29 v w hB k0_h12 h, k0_off89_wordsfp8e4m3 arg25 arg28 arg29 v w hB k0_h12 h,
        k0_off91_inb arg25 arg28 arg29 v hA k0_h12 h, k0_off91_wordsbf16 arg25 arg28 arg29 v hA k0_h12 h, k0_off92_inb arg25 arg28 arg29 v w hB k0_h12 h, k0_off92_wordsbf16 arg25 arg28 arg29 v w hB k0_h12 h⟩) fun _ =>
  pageSite (F := F) arg1 arg0 (issueTwo (F := F) arg21 arg15 harg15 arg5 harg5 arg22 arg16 harg16 arg7 harg7) (Scalar.addi arg25 32#32) arg28 arg29 1 (k0_off93_inb arg28 k0_hw26 k0_h12)
      (k0_chk29 arg25 arg28 arg29) (k0_chk29.dec arg25 arg28 arg29) (fun v hA h => k0_off94_inb arg25 arg28 arg29 v hA k0_h12 h)
      (k0_chk30 arg25 arg28 arg29) (k0_chk30.dec arg25 arg28 arg29)
      (fun v w hA hB h => ⟨k0_off95_inb arg25 arg28 arg29 v hA k0_h12 h, k0_off96_inb arg25 arg28 arg29 v hA k0_h12 h, k0_off96_wordsfp8e4m3 arg25 arg28 arg29 v hA k0_h12 h, k0_off97_inb arg25 arg28 arg29 v w hB k0_h12 h, k0_off97_wordsfp8e4m3 arg25 arg28 arg29 v w hB k0_h12 h,
        k0_off99_inb arg25 arg28 arg29 v hA k0_h12 h, k0_off99_wordsbf16 arg25 arg28 arg29 v hA k0_h12 h, k0_off100_inb arg25 arg28 arg29 v w hB k0_h12 h, k0_off100_wordsbf16 arg25 arg28 arg29 v w hB k0_h12 h⟩) fun _ =>
  pageSite (F := F) arg1 arg0 (issueTwo (F := F) arg21 arg15 harg15 arg5 harg5 arg22 arg16 harg16 arg7 harg7) (Scalar.addi arg25 32#32) arg28 arg29 2 (k0_off101_inb arg28 k0_hw26 k0_h12)
      (k0_chk31 arg25 arg28 arg29) (k0_chk31.dec arg25 arg28 arg29) (fun v hA h => k0_off102_inb arg25 arg28 arg29 v hA k0_h12 h)
      (k0_chk32 arg25 arg28 arg29) (k0_chk32.dec arg25 arg28 arg29)
      (fun v w hA hB h => ⟨k0_off103_inb arg25 arg28 arg29 v hA k0_h12 h, k0_off104_inb arg25 arg28 arg29 v hA k0_h12 h, k0_off104_wordsfp8e4m3 arg25 arg28 arg29 v hA k0_h12 h, k0_off105_inb arg25 arg28 arg29 v w hB k0_h12 h, k0_off105_wordsfp8e4m3 arg25 arg28 arg29 v w hB k0_h12 h,
        k0_off107_inb arg25 arg28 arg29 v hA k0_h12 h, k0_off107_wordsbf16 arg25 arg28 arg29 v hA k0_h12 h, k0_off108_inb arg25 arg28 arg29 v w hB k0_h12 h, k0_off108_wordsbf16 arg25 arg28 arg29 v w hB k0_h12 h⟩) fun _ =>
  pure (Scalar.muli (Scalar.addi (Scalar.muli arg29 4#32) 3#32) 64#32)

/-- A chunk's side conditions and its first three waits. -/
def part4' (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 arg28 arg29 : BitVec 32) : Prog (TpuEff nD τ sig (Elt F) (Λ₀ F) .tc) (Σ' (k0_hw26 : k0_chk26 arg28) (k0_hw20 : k0_chk20 arg25) (k0_hw19 : k0_chk19 arg26 arg27) (k0_hw10 : k0_chk10 arg26) (v19 : BitVec 32), BitVec 32) := do
  have k0_hw26 : k0_chk26 arg28 := (← Prog.lift (TpuEff.assume (k0_chk26 arg28) (k0_chk26.dec arg28))).down
  have k0_hw20 : k0_chk20 arg25 := (← Prog.lift (TpuEff.assume (k0_chk20 arg25) (k0_chk20.dec arg25))).down
  have k0_hw19 : k0_chk19 arg26 arg27 := (← Prog.lift (TpuEff.assume (k0_chk19 arg26 arg27) (k0_chk19.dec arg26 arg27))).down
  have k0_hw10 : k0_chk10 arg26 := (← Prog.lift (TpuEff.assume (k0_chk10 arg26) (k0_chk10.dec arg26))).down
  wait3 arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 k0_hw10 ⟨k0_hw26, k0_hw20, k0_hw19, k0_hw10, Scalar.remsi arg25 32#32, 4#32⟩

/-- A chunk's last wait and the start of its computation. -/
def part5' (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 arg28 arg29 : BitVec 32) (k0_hw20 : k0_chk20 arg25) (k0_hw19 : k0_chk19 arg26 arg27) (k0_hw10 : k0_chk10 arg26) : Prog (TpuEff nD τ sig (Elt F) (Λ₀ F) .tc) (Σ' (v72 : FVec F S256x512 .fp8e4m3) (v73 : FVec F S32x256 .f32) (v77 : FVec F S32x256 .f32) (v84 : Vec F S1x64 .f32) (v85 : BitVec 32), BitVec 32) :=
  pageSite (F := F) arg1 arg0 (waitTwo (F := F) arg21 arg15 harg15 arg5 harg5 arg22 arg16 harg16 arg7 harg7) arg25 arg26 arg27 3 (k0_off58_inb arg26 k0_hw10)
      (k0_chk17 arg25 arg26 arg27) (k0_chk17.dec arg25 arg26 arg27) (fun v hA h => k0_off59_inb arg25 arg26 arg27 v hA h)
      (k0_chk18 arg25 arg27) (k0_chk18.dec arg25 arg27)
      (fun v w hA hB h => ⟨k0_off60_inb arg25 arg26 arg27 v hA h, k0_off61_inb arg25 arg26 arg27 v hA h, k0_off61_wordsfp8e4m3 arg25 arg26 arg27 v hA h, k0_off62_inb arg25 arg27 v w hB h, k0_off62_wordsfp8e4m3 arg25 arg27 v w hB h,
        k0_off64_inb arg25 arg26 arg27 v hA h, k0_off64_wordsbf16 arg25 arg26 arg27 v hA h, k0_off65_inb arg25 arg27 v w hB h, k0_off65_wordsbf16 arg25 arg27 v w hB h⟩) fun _ =>
  rest5 arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw20 k0_hw19 k0_hw10

/-- The step of both pointers and the next trip. -/
def tail (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 arg28 arg29 : BitVec 32) (k0_hw26 : k0_chk26 arg28) (k0_hw10 : k0_chk10 arg26) : Prog (TpuEff nD τ sig (Elt F) (Λ₀ F) .tc) (BitVec 32 × BitVec 32 × BitVec 32 × BitVec 32 × BitVec 32) := do
  let v171 : Elt F .i32 ← smemLoad arg1 (Rect.unit (s := S64) (k0_off117 arg28) S1.size (k0_off117_inb arg28 k0_hw26)) numel1_S1 rfl
  let v182 : Elt F .i32 ← smemLoad arg1 (Rect.unit (s := S64) (k0_off118 arg26) S1.size (k0_off118_inb arg26 k0_hw10)) numel1_S1 rfl
  Prog.lift (.call (1 : (Λ₀ F).Label) ⟨arg1, harg1, arg0, harg0, arg21, arg15, harg15, arg5, harg5, arg22, arg16, harg16, arg7, harg7, arg12, harg12, arg13, harg13, arg8, harg8, arg2, harg2, arg9, harg9, arg18, harg18, arg19, harg19, arg20, harg20, arg14, harg14, arg17, harg17, arg11, harg11, Scalar.addi arg25 1#32,
    Scalar.select (lastW arg27 v182) (Scalar.addi arg26 1#32) arg26, Scalar.select (lastW arg27 v182) 0#32 (Scalar.addi arg27 1#32),
    Scalar.select (lastW arg29 v171) (Scalar.addi arg28 1#32) arg28, Scalar.select (lastW arg29 v171) 0#32 (Scalar.addi arg29 1#32)⟩)

/-- The copies started for the chunk 32 ahead, then the step. -/
def fetchTail (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 arg28 arg29 : BitVec 32) (k0_hw26 : k0_chk26 arg28) (k0_hw10 : k0_chk10 arg26) : Prog (TpuEff nD τ sig (Elt F) (Λ₀ F) .tc) (BitVec 32 × BitVec 32 × BitVec 32 × BitVec 32 × BitVec 32) :=
  if k0_h12 : k0_cond12 arg28 = 1#1 then
    fetch3 arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg28 arg29 k0_hw26 k0_h12 >>= fun _ =>
    pageSite (F := F) arg1 arg0 (issueTwo (F := F) arg21 arg15 harg15 arg5 harg5 arg22 arg16 harg16 arg7 harg7) (Scalar.addi arg25 32#32) arg28 arg29 3 (k0_off109_inb arg28 k0_hw26 k0_h12)
      (k0_chk33 arg25 arg28 arg29) (k0_chk33.dec arg25 arg28 arg29) (fun v hA h => k0_off110_inb arg25 arg28 arg29 v hA k0_h12 h)
      (k0_chk34 arg25 arg28 arg29) (k0_chk34.dec arg25 arg28 arg29)
      (fun v w hA hB h => ⟨k0_off111_inb arg25 arg28 arg29 v hA k0_h12 h, k0_off112_inb arg25 arg28 arg29 v hA k0_h12 h, k0_off112_wordsfp8e4m3 arg25 arg28 arg29 v hA k0_h12 h, k0_off113_inb arg25 arg28 arg29 v w hB k0_h12 h, k0_off113_wordsfp8e4m3 arg25 arg28 arg29 v w hB k0_h12 h,
        k0_off115_inb arg25 arg28 arg29 v hA k0_h12 h, k0_off115_wordsbf16 arg25 arg28 arg29 v hA k0_h12 h, k0_off116_inb arg25 arg28 arg29 v w hB k0_h12 h, k0_off116_wordsbf16 arg25 arg28 arg29 v w hB k0_h12 h⟩) fun _ =>
    tail arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw26 k0_hw10
  else tail arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw26 k0_hw10

/-- One trip of the main loop. -/
def whileBody (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 arg28 arg29 : BitVec 32) : Prog (TpuEff nD τ sig (Elt F) (Λ₀ F) .tc) (BitVec 32 × BitVec 32 × BitVec 32 × BitVec 32 × BitVec 32) :=
  if Scalar.cmpi .slt arg26 64#32 = 1#1 then do
    let ⟨k0_hw26, k0_hw20, k0_hw19, k0_hw10, _, _⟩ ← part4' arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29
    let ⟨v72, v73, v77, v84, v85, c1⟩ ← part5' arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw20 k0_hw19 k0_hw10
    let ⟨v106, v121, v126, v128, v129⟩ ← k0_part6_skel (F := F) arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw19 k0_hw10 v73 v77 v84 v85 c1
    let ⟨_, _⟩ ← k0_part7_skel (F := F) arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw10 v72 v106 v121 v126 v128 v129
    fetchTail arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw26 k0_hw10
  else pure (arg25, arg26, arg27, arg28, arg29)

end

end Cert.Kernel.Hand

end
-- ==== Proof.KB.Compute.lean ====
/-
  What the computing parts of one chunk do to the running state.
-/
module

public import proofs.«01_k».proof.Proof.KB.Step
public import proofs.«01_k».proof.Proof.KB.Match

@[expose] public section

set_option maxRecDepth 16384

noncomputable section

namespace Cert.Kernel.Hand

open Cert.Kernel Cert.Kernel.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {c : Dev nD} (e : Env F c) (bd : Option Variants.nat.V)

theorem off3_eq {w : BitVec 32} {n : ℕ} (h : (Scalar.indexCast w).toNat = n) : (![(Scalar.indexCast w).toNat, 0, 0] : Fin 3 → ℕ) = ![n, 0, 0] := by rw [h]
theorem off2_eq {w : BitVec 32} {n : ℕ} (h : (Scalar.indexCast w).toNat = n) : (![(Scalar.indexCast w).toNat, 0] : Fin 2 → ℕ) = ![n, 0] := by rw [h]

theorem idx_word {w : BitVec 32} (h : w.toNat < 2 ^ 31) : (Scalar.indexCast w).toNat = w.toNat := by
  have e := W_idx h
  rwa [show W w.toNat = w from BitVec.eq_of_toNat_eq (by rw [W_toNat]; omega)] at e

theorem slot_idx {n : ℕ} (hn : n < 2 ^ 20) : (Scalar.indexCast (Scalar.remsi (W n) 32#32)).toNat = (slot n).val := by
  have e : (Scalar.remsi (W n) 32#32).toNat = n % 32 := slot_toNat (by omega)
  rw [idx_word (by omega), e]; rfl

theorem sc_inb {w : BitVec 32} (h : w.toNat < 2560) : ∀ a, (![(Scalar.indexCast w).toNat, 0] : Fin 2 → ℕ) a + S1x64.size a ≤ S2560x64.size a := by
  intro a; fin_cases a
  · show (Scalar.indexCast w).toNat + 1 ≤ 2560
    rw [idx_word (by omega)]; omega
  · show 0 + 64 ≤ 64
    omega

theorem cond10_iff {k : ℕ} (hk : k ≤ 7) : k0_cond10 (W k) = 1#1 ↔ k = 0 := by
  interval_cases k <;> decide

/-- Slot `s` of the rings, as one vector each. -/
def vK (s : Fin 32) (fK : S32x256x512.Idx → Elt F .fp8e4m3) : Vec F S1x256x512 .fp8e4m3 := VecWindow.window fK ![s.val, 0, 0] S1x256x512.size (inb_vk s)
def vR (s : Fin 32) (fR : S32x256x64.Idx → Elt F .bf16) : Vec F S1x256x64 .bf16 := VecWindow.window fR ![s.val, 0, 0] S1x256x64.size (inb_vr s)

/-- A load whose value has a name. -/
theorem Hv_load' {sh : Shape} {et : EltTy} {cs : CoreSpace} (m : Mref cs sh et) (v : sh.Idx → Elt F et) {α : Type} {Q : α → sProp 𝕄} {off off' size : Fin sh.rank → ℕ} {inb : ∀ a, off a + size a ≤ sh.size a} (h : off = off') (inb' : ∀ a, off' a + size a ≤ sh.size a)
    {hl : m.view.LoadsAt (Rect.unit off size inb).toLoadRect} (k : ((Rect.unit off size inb).shape.Idx → Elt F et) → Prog (TpuEff nD τ sig (Elt F) (Λ₀ F) .tc) α)
    (w : (Rect.unit off size inb).shape.Idx → Elt F et) (hw : VecWindow.window v off' size inb' = w) :
    (Hv (c := c) m v)
      ⊢ iprop(((Hv (c := c) m v) -∗ wp frame (wpE (defs₀ (F := F)) Variants.nat (c : Thread nD τ) bd) Set.univ (k w) Q) -∗ wp frame (wpE (defs₀ (F := F)) Variants.nat (c : Thread nD τ) bd) Set.univ ((Prog.lift (TpuEff.load m (Rect.unit off size inb).toLoadRect hl) : Prog (TpuEff nD τ sig (Elt F) (Λ₀ F) .tc) _) >>= k) Q) :=
  hw ▸ Hv_load bd m v h inb' k

theorem kv_load (s : Fin 32) (fK : Buf (Elt F) ((Memref.whole cc0_scratch3).view.loc (c : Thread nD τ))) {α : Type} {Q : α → sProp 𝕄}
    {off : Fin 3 → ℕ} {inb : ∀ a, off a + S1x256x512.size a ≤ S32x256x512.size a} (h : off = ![s.val, 0, 0])
    {hl : (Memref.whole cc0_scratch3).view.LoadsAt (Rect.unit (s := S32x256x512) off S1x256x512.size inb).toLoadRect}
    (k : (S1x256x512.Idx → Elt F .fp8e4m3) → Prog (TpuEff nD τ sig (Elt F) (Λ₀ F) .tc) α) :
    ((Memref.whole cc0_scratch3).view.loc (c : Thread nD τ) ↦[kvSlot s]{fullShare} fK)
      ⊢ iprop((((Memref.whole cc0_scratch3).view.loc (c : Thread nD τ) ↦[kvSlot s]{fullShare} fK) -∗ wp frame (wpE (defs₀ (F := F)) Variants.nat (c : Thread nD τ) bd) Set.univ (k (vK s fK)) Q)
        -∗ wp frame (wpE (defs₀ (F := F)) Variants.nat (c : Thread nD τ) bd) Set.univ ((Prog.lift (TpuEff.load (Memref.whole cc0_scratch3) (Rect.unit (s := S32x256x512) off S1x256x512.size inb).toLoadRect hl) : Prog (TpuEff nD τ sig (Elt F) (Λ₀ F) .tc) _) >>= k) Q) := by
  subst h
  refine wp_load_rect Variants.nat (c : Thread nD τ) bd Set.univ (m := Memref.whole cc0_scratch3) (r := Rect.unit (s := S32x256x512) ![s.val, 0, 0] S1x256x512.size inb) (hl := hl) (k := k) (f := fK) ?_
  intro i hi
  have hi' : i ∈ (Rect.unit (s := S32x256x512) ![s.val, 0, 0] S1x256x512.size inb).set := (View.set_slice_whole cc0_scratch3 _) ▸ hi
  rw [Rect.mem_set_unit] at hi'
  have h0 := hi' 0
  change s.val ≤ (i 0).val ∧ (i 0).val < s.val + 1 at h0
  exact mem_kvSlot s i (by omega)

theorem rp_load (s : Fin 32) (fR : Buf (Elt F) ((Memref.whole cc0_scratch4).view.loc (c : Thread nD τ))) {α : Type} {Q : α → sProp 𝕄}
    {off : Fin 3 → ℕ} {inb : ∀ a, off a + S1x256x64.size a ≤ S32x256x64.size a} (h : off = ![s.val, 0, 0])
    {hl : (Memref.whole cc0_scratch4).view.LoadsAt (Rect.unit (s := S32x256x64) off S1x256x64.size inb).toLoadRect}
    (k : (S1x256x64.Idx → Elt F .bf16) → Prog (TpuEff nD τ sig (Elt F) (Λ₀ F) .tc) α) :
    ((Memref.whole cc0_scratch4).view.loc (c : Thread nD τ) ↦[rpSlot s]{fullShare} fR)
      ⊢ iprop((((Memref.whole cc0_scratch4).view.loc (c : Thread nD τ) ↦[rpSlot s]{fullShare} fR) -∗ wp frame (wpE (defs₀ (F := F)) Variants.nat (c : Thread nD τ) bd) Set.univ (k (vR s fR)) Q)
        -∗ wp frame (wpE (defs₀ (F := F)) Variants.nat (c : Thread nD τ) bd) Set.univ ((Prog.lift (TpuEff.load (Memref.whole cc0_scratch4) (Rect.unit (s := S32x256x64) off S1x256x64.size inb).toLoadRect hl) : Prog (TpuEff nD τ sig (Elt F) (Λ₀ F) .tc) _) >>= k) Q) := by
  subst h
  refine wp_load_rect Variants.nat (c : Thread nD τ) bd Set.univ (m := Memref.whole cc0_scratch4) (r := Rect.unit (s := S32x256x64) ![s.val, 0, 0] S1x256x64.size inb) (hl := hl) (k := k) (f := fR) ?_
  intro i hi
  have hi' : i ∈ (Rect.unit (s := S32x256x64) ![s.val, 0, 0] S1x256x64.size inb).set := (View.set_slice_whole cc0_scratch4 _) ▸ hi
  rw [Rect.mem_set_unit] at hi'
  have h0 := hi' 0
  change s.val ≤ (i 0).val ∧ (i 0).val < s.val + 1 at h0
  exact mem_rpSlot s i (by omega)

/-- The end of the start of a chunk's computation: the chunk's keys. -/
def rest5b (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 arg28 arg29 : BitVec 32) (k0_hw20 : k0_chk20 arg25) (k0_hw19 : k0_chk19 arg26 arg27) (k0_hw10 : k0_chk10 arg26) (v62 : Vec F S1x32x512 .bf16) (v65 : Vec F S1x32x64 .bf16) : Prog (TpuEff nD τ sig (Elt F) (Λ₀ F) .tc) (Σ' (v72 : FVec F S256x512 .fp8e4m3) (v73 : FVec F S32x256 .f32) (v77 : FVec F S32x256 .f32) (v84 : Vec F S1x64 .f32) (v85 : BitVec 32), BitVec 32) := do
  let v71 : Vec F S1x256x512 .fp8e4m3 ← Prog.lift (.load arg15 (Rect.unit (s := S32x256x512) (k0_off71 arg25) S1x256x512.size (k0_off71_inb arg25 k0_hw20)).toLoadRect (View.loadsAt_vmem h_S1x256x512))
  let v75 : Vec F S1x256x64 .bf16 ← Prog.lift (.load arg16 (Rect.unit (s := S32x256x64) (k0_off72 arg25) S1x256x64.size (k0_off72_inb arg25 k0_hw20)).toLoadRect (View.loadsAt_vmem h_S1x256x64))
  let v82 : Elt F .i32 ← smemLoad arg0 (Rect.unit (s := S64x32) (k0_off73 arg26 arg27) S1x1.size (k0_off73_inb arg26 arg27 k0_hw19)) numel1_S1x1 rfl
  have k0_hw21 : k0_chk21 v82 := (← Prog.lift (TpuEff.assume (k0_chk21 v82) (k0_chk21.dec v82))).down
  let v84 : Vec F S1x64 .f32 ← Prog.lift (.load arg14 (Rect.unit (s := S2560x64) (k0_off74 v82) S1x64.size (k0_off74_inb v82 k0_hw21)).toLoadRect (View.loadsAt_vmem h_S1x64))
  let v85 : BitVec 32 := Scalar.muli arg27 4#32
  pure ⟨k0_pay8 v71, k0_pay9 v62 v71, k0_pay10 v65 v75, v84, v85, 1#32⟩

/-- The start of a chunk's computation, its one branch continued on both sides. -/
theorem rest5_eq (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 arg28 arg29 : BitVec 32) (k0_hw20 : k0_chk20 arg25) (k0_hw19 : k0_chk19 arg26 arg27) (k0_hw10 : k0_chk10 arg26) :
    rest5 (F := F) arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw20 k0_hw19 k0_hw10 =
      (((Prog.lift (.load arg12 (Rect.unit (s := S64x32x512) (k0_off66 arg26) S1x32x512.size (k0_off66_inb arg26 k0_hw10)).toLoadRect (View.loadsAt_vmem h_S1x32x512)) : Prog (TpuEff nD τ sig (Elt F) (Λ₀ F) .tc) (Vec F S1x32x512 .bf16)) >>= fun v62 =>
       (Prog.lift (.load arg13 (Rect.unit (s := S64x32x64) (k0_off67 arg26) S1x32x64.size (k0_off67_inb arg26 k0_hw10)).toLoadRect (View.loadsAt_vmem h_S1x32x64)) : Prog (TpuEff nD τ sig (Elt F) (Λ₀ F) .tc) (Vec F S1x32x64 .bf16)) >>= fun v65 =>
       if k0_h10 : k0_cond10 arg27 = 1#1 then
         k0_part2 arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw19 (k0_pay5 v62) (k0_pay6 v65) k0_h10 >>= fun v232 =>
         (Prog.lift (.load arg20 (Rect.unit (s := S32x512) ![0, 0] S32x512.size inb_S32x512_S32x512_0_0).toLoadRect (View.loadsAt_vmem h_S32x512)) : Prog (TpuEff nD τ sig (Elt F) (Λ₀ F) .tc) (Vec F S32x512 .f32)) >>= fun _ =>
         Prog.lift (.store arg20 (Rect.unit (s := S32x512) ![0, 0] S32x512.size inb_S32x512_S32x512_0_0) (k0_pay7 v232) Finset.univ (View.stores_vmem_bits_univ h_S32x512 rfl) (.inl rfl)) >>= fun _ =>
         rest5b arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw20 k0_hw19 k0_hw10 v62 v65
       else rest5b arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw20 k0_hw19 k0_hw10 v62 v65) : Prog (TpuEff nD τ sig (Elt F) (Λ₀ F) .tc) (Σ' (v72 : FVec F S256x512 .fp8e4m3) (v73 : FVec F S32x256 .f32) (v77 : FVec F S32x256 .f32) (v84 : Vec F S1x64 .f32) (v85 : BitVec 32), BitVec 32)) := rfl

section
variable {arg1 : Mref .smem S64 .i32} {harg1 : arg1.IsWhole} {arg0 : Mref .smem S64x32 .i32} {harg0 : arg0.IsWhole} {harg15 : (Memref.whole cc0_scratch3).IsWhole} {harg5 : (Memref.whole main_arg2).IsWhole} {harg16 : (Memref.whole cc0_scratch4).IsWhole} {harg7 : (Memref.whole main_arg4).IsWhole} {arg12 : Mref .vmem S64x32x512 .bf16} {harg12 : arg12.IsWhole} {arg13 : Mref .vmem S64x32x64 .bf16} {harg13 : arg13.IsWhole} {arg8 : Mref .vmem S64x1x512 .fp8e4m3} {harg8 : arg8.IsWhole} {arg2 : Mref .smem S64x1 .f32} {harg2 : arg2.IsWhole} {arg9 : Mref .vmem S64x1x64 .bf16} {harg9 : arg9.IsWhole} {arg18 : Mref .vmem S32x128 .f32} {harg18 : arg18.IsWhole} {arg19 : Mref .vmem S32x128 .f32} {harg19 : arg19.IsWhole} {arg20 : Mref .vmem S32x512 .f32} {harg20 : arg20.IsWhole} {arg14 : Mref .vmem S2560x64 .f32} {harg14 : arg14.IsWhole} {arg17 : Mref .vmem S64x32x512 .bf16} {harg17 : arg17.IsWhole} {arg11 : Mref .vmem S64x1x32 .f32} {harg11 : arg11.IsWhole}

/-- What the computation reads. -/
def Cst (arg12 : Mref .vmem S64x32x512 .bf16) (arg13 : Mref .vmem S64x32x64 .bf16) (arg14 : Mref .vmem S2560x64 .f32)
    (arg8 : Mref .vmem S64x1x512 .fp8e4m3) (arg2 : Mref .smem S64x1 .f32) (arg9 : Mref .vmem S64x1x64 .bf16) (I : Ins F) : sProp 𝕄 :=
  iprop(Hv (c := c) arg12 I.x ∗ Hv (c := c) arg13 I.q ∗ Hv (c := c) arg14 I.sc ∗ Hv (c := c) arg8 I.cn ∗ Hv (c := c) arg2 I.cs ∗ Hv (c := c) arg9 I.kr)
/-- What it keeps. -/
def Stt (arg18 : Mref .vmem S32x128 .f32) (arg19 : Mref .vmem S32x128 .f32) (arg20 : Mref .vmem S32x512 .f32)
    (arg17 : Mref .vmem S64x32x512 .bf16) (arg11 : Mref .vmem S64x1x32 .f32) (S : St F) : sProp 𝕄 :=
  iprop(Hv (c := c) arg18 S.m ∗ Hv (c := c) arg19 S.l ∗ Hv (c := c) arg20 S.a ∗ Hv (c := c) arg17 S.o ∗ Hv (c := c) arg11 S.s)

variable {fL : Buf (Elt F) (arg1.view.loc (c : Thread nD τ))} {fT : Buf (Elt F) (arg0.view.loc (c : Thread nD τ))}
  (h : e.Reads arg1 arg0 fL fT) (I : Ins F)

/-- The fresh token's part. -/
theorem part2_wp (n : ℕ) (b : Fin 64) (k : ℕ) (w28 w29 : BitVec 32) (hw19 : k0_chk19 (W b.val) (W k)) (hk : k0_cond10 (W k) = 1#1) (S : St F)
    {Q : FVec F S32x512 .f32 → sProp 𝕄} :
    iprop((Cst (c := c) arg12 arg13 arg14 arg8 arg2 arg9 I) ∗ (Stt (c := c) arg18 arg19 arg20 arg17 arg11) S)
      ⊢ iprop((iprop((Cst (c := c) arg12 arg13 arg14 arg8 arg2 arg9 I) ∗ (Stt (c := c) arg18 arg19 arg20 arg17 arg11) { S with m := k0_pay2 (k0_pay5 (I.xb b)) (k0_pay6 (I.qb b)) (I.cnb b) (I.csb b) (I.krb b), l := k0_pay3 (F := F) })
            -∗ Q (k0_pay4 (I.cnb b) (I.csb b)))
        -∗ wp frame (wpE (defs₀ (F := F)) Variants.nat (c : Thread nD τ) bd) Set.univ (k0_part2 (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 (W n) (W b.val) (W k) w28 w29 hw19 (k0_pay5 (I.xb b)) (k0_pay6 (I.qb b)) hk) Q) := by
  rw [k0_part2_eq_skeleton]
  unfold k0_part2_skel Cst Stt
  have hb : (Scalar.indexCast (W b.val)).toNat = b.val := W_idx (by have := b.isLt; omega)
  iintro ⟨⟨Hx, Hq, Hsc, Hcn, Hcs, Hkr⟩, ⟨Hm, Hl, Ha, Ho, Hs⟩⟩ Hk
  iapply (Hv_load' bd arg8 I.cn (off3_eq hb) (inb_cn b) _ (I.cnb b) rfl) $$ Hcn
  iintro Hcn
  iapply (Hv_smem bd arg2 I.cs (off2_eq hb) (inb_cs b) _ _ _ (I.csb b) (I.csb_eq b)) $$ Hcs
  iintro Hcs
  iapply (Hv_load' bd arg9 I.kr (off3_eq hb) (inb_kr b) _ (I.krb b) rfl) $$ Hkr
  iintro Hkr
  iapply (Hv_load_full bd arg18 S.m _) $$ Hm
  iintro Hm
  iapply (Hv_store_full bd arg18 S.m _) $$ Hm
  iintro Hm
  iapply (Hv_load_full bd arg19 S.l _) $$ Hl
  iintro Hl
  iapply (Hv_store_full bd arg19 S.l _) $$ Hl
  iintro Hl
  iapply (Hv_smem bd arg2 I.cs (off2_eq hb) (inb_cs b) _ _ _ (I.csb b) (I.csb_eq b)) $$ Hcs
  iintro Hcs
  rw [show (pure (k0_pay4 (I.cnb b) (I.csb b)) : Prog (TpuEff nD τ sig (Elt F) (Λ₀ F) .tc) _) = Prog.ret _ from rfl, wp_ret]
  imodintro
  iapply Hk
  isplitl [Hx Hq Hsc Hcn Hcs Hkr]
  · isplitl [Hx]; · iexact Hx
    isplitl [Hq]; · iexact Hq
    isplitl [Hsc]; · iexact Hsc
    isplitl [Hcn]; · iexact Hcn
    isplitl [Hcs]; · iexact Hcs
    iexact Hkr
  isplitl [Hm]; · iexact Hm
  isplitl [Hl]; · iexact Hl
  isplitl [Ha]; · iexact Ha
  isplitl [Ho]; · iexact Ho
  iexact Hs

/-- The rings' slot. -/
def Rg (s : Fin 32) (fK : Buf (Elt F) ((Memref.whole cc0_scratch3).view.loc (c : Thread nD τ))) (fR : Buf (Elt F) ((Memref.whole cc0_scratch4).view.loc (c : Thread nD τ))) : sProp 𝕄 :=
  iprop(((Memref.whole cc0_scratch3).view.loc (c : Thread nD τ) ↦[kvSlot s]{fullShare} fK) ∗ ((Memref.whole cc0_scratch4).view.loc (c : Thread nD τ) ↦[rpSlot s]{fullShare} fR))

include h in
/-- The start of the computation. -/
theorem rest5_wp (n : ℕ) (hn : n < 2 ^ 20) (b : Fin 64) (k : ℕ) (hk : k ≤ 7) (w28 w29 : BitVec 32) (hw20 : k0_chk20 (W n)) (hw19 : k0_chk19 (W b.val) (W k)) (hw10 : k0_chk10 (W b.val)) (S : St F)
    (g : Fin 4 → Fin 2560) (hg : ∀ p : Fin 4, (e.PT b.val (k * 4 + p.val)).toNat = (g p).val) (fK fR) {Q : (Σ' (v72 : FVec F S256x512 .fp8e4m3) (v73 : FVec F S32x256 .f32) (v77 : FVec F S32x256 .f32) (v84 : Vec F S1x64 .f32) (v85 : BitVec 32), BitVec 32) → sProp 𝕄} :
    Sc arg1 arg0 fL fT iprop((Cst (c := c) arg12 arg13 arg14 arg8 arg2 arg9 I) ∗ (Stt (c := c) arg18 arg19 arg20 arg17 arg11) S ∗ (Rg (c := c)) (slot n) fK fR)
      ⊢ iprop((Sc arg1 arg0 fL fT iprop((Cst (c := c) arg12 arg13 arg14 arg8 arg2 arg9 I) ∗ (Stt (c := c) arg18 arg19 arg20 arg17 arg11) (start I b k S) ∗ (Rg (c := c)) (slot n) fK fR)
            -∗ Q ⟨k0_pay8 (vK (slot n) fK), k0_pay9 (I.xb b) (vK (slot n) fK), k0_pay10 (I.qb b) (vR (slot n) fR), I.scg (g 0), Scalar.muli (W k) 4#32, 1#32⟩)
        -∗ wp frame (wpE (defs₀ (F := F)) Variants.nat (c : Thread nD τ) bd) Set.univ (rest5 (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 (W n) (W b.val) (W k) w28 w29 hw20 hw19 hw10) Q) := by
  have hb : (Scalar.indexCast (W b.val)).toNat = b.val := W_idx (by have := b.isLt; omega)
  have main (S' : St F) {Q : (Σ' (v72 : FVec F S256x512 .fp8e4m3) (v73 : FVec F S32x256 .f32) (v77 : FVec F S32x256 .f32) (v84 : Vec F S1x64 .f32) (v85 : BitVec 32), BitVec 32) → sProp 𝕄} (hx : Vec F S1x32x512 .bf16) (hq : Vec F S1x32x64 .bf16) :
      Sc arg1 arg0 fL fT iprop((Cst (c := c) arg12 arg13 arg14 arg8 arg2 arg9 I) ∗ (Stt (c := c) arg18 arg19 arg20 arg17 arg11) S' ∗ (Rg (c := c)) (slot n) fK fR)
      ⊢ iprop((Sc arg1 arg0 fL fT iprop((Cst (c := c) arg12 arg13 arg14 arg8 arg2 arg9 I) ∗ (Stt (c := c) arg18 arg19 arg20 arg17 arg11) S' ∗ (Rg (c := c)) (slot n) fK fR)
            -∗ Q ⟨k0_pay8 (vK (slot n) fK), k0_pay9 hx (vK (slot n) fK), k0_pay10 hq (vR (slot n) fR), I.scg (g 0), Scalar.muli (W k) 4#32, 1#32⟩)
        -∗ wp frame (wpE (defs₀ (F := F)) Variants.nat (c : Thread nD τ) bd) Set.univ (rest5b (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 (W n) (W b.val) (W k) w28 w29 hw20 hw19 hw10 hx hq) Q) := by
    unfold rest5b Cst Rg
    have hp := h.pages b.val (k * 4 + 0) b.isLt (by omega)
    iintro ⟨H1, H0, ⟨Hx, Hq, Hsc, Hcn, Hcs, Hkr⟩, HS, HK, HR⟩ Hk
    iapply (kv_load bd (slot n) fK (off3_eq (slot_idx hn)) _) $$ HK
    iintro HK
    iapply (rp_load bd (slot n) fR (off3_eq (slot_idx hn)) _) $$ HR
    iintro HR
    iapply (wp_smem bd arg0 _ _ _ fT _ _ (h.hT (W b.val) (W k) b.val k 0 rfl rfl b.isLt hk (by omega) _)) $$ H0
    iintro H0
    iapply (wp_assumed bd _ (sc_inb hp) _)
    iapply (Hv_load' bd arg14 I.sc (off2_eq ((idx_word (Nat.lt_trans hp (by norm_num))).trans (hg 0))) (inb_sc (g 0)) _ (I.scg (g 0)) rfl) $$ Hsc
    iintro Hsc
    rw [show ∀ x, (pure x : Prog (TpuEff nD τ sig (Elt F) (Λ₀ F) .tc) (Σ' (v72 : FVec F S256x512 .fp8e4m3) (v73 : FVec F S32x256 .f32) (v77 : FVec F S32x256 .f32) (v84 : Vec F S1x64 .f32) (v85 : BitVec 32), BitVec 32)) = Prog.ret x from fun _ => rfl, wp_ret]
    imodintro
    iapply Hk
    isplitl [H1]; · iexact H1
    isplitl [H0]; · iexact H0
    isplitl [Hx Hq Hsc Hcn Hcs Hkr]
    · isplitl [Hx]; · iexact Hx
      isplitl [Hq]; · iexact Hq
      isplitl [Hsc]; · iexact Hsc
      isplitl [Hcn]; · iexact Hcn
      isplitl [Hcs]; · iexact Hcs
      iexact Hkr
    isplitl [HS]; · iexact HS
    isplitl [HK]; · iexact HK
    iexact HR
  rw [rest5_eq]
  unfold Cst
  iintro ⟨H1, H0, ⟨Hx, Hq, Hsc, Hcn, Hcs, Hkr⟩, HS, HG⟩ Hk
  iapply (Hv_load' bd arg12 I.x (off3_eq hb) (inb_x b) _ (I.xb b) rfl) $$ Hx
  iintro Hx
  iapply (Hv_load' bd arg13 I.q (off3_eq hb) (inb_q b) _ (I.qb b) rfl) $$ Hq
  iintro Hq
  by_cases h0 : k = 0
  · rw [dif_pos ((cond10_iff hk).mpr h0), wp_bind]
    iapply (part2_wp bd I n b k w28 w29 hw19 ((cond10_iff hk).mpr h0) S) $$ [Hx Hq Hsc Hcn Hcs Hkr HS]
    · unfold Cst
      isplitr [HS]
      · isplitl [Hx]; · iexact Hx
        isplitl [Hq]; · iexact Hq
        isplitl [Hsc]; · iexact Hsc
        isplitl [Hcn]; · iexact Hcn
        isplitl [Hcs]; · iexact Hcs
        iexact Hkr
      iexact HS
    unfold Stt
    iintro ⟨HC, ⟨Hm, Hl, Ha, Ho, Hs⟩⟩
    iapply (Hv_load_full bd arg20 S.a _) $$ Ha
    iintro Ha
    iapply (Hv_store_full bd arg20 S.a _) $$ Ha
    iintro Ha
    iapply (main (start I b k S) (I.xb b) (I.qb b)) $$ [H1 H0 HC Hm Hl Ha Ho Hs HG]
    · unfold Stt start
      rw [if_pos h0]
      isplitl [H1]; · iexact H1
      isplitl [H0]; · iexact H0
      isplitl [HC]; · iexact HC
      isplitr [HG]
      · isplitl [Hm]; · iexact Hm
        isplitl [Hl]; · iexact Hl
        isplitl [Ha]; · iexact Ha
        isplitl [Ho]; · iexact Ho
        iexact Hs
      iexact HG
    unfold Stt
    iexact Hk
  · rw [dif_neg (fun h' => h0 ((cond10_iff hk).mp h'))]
    iapply (main S (I.xb b) (I.qb b)) $$ [H1 H0 Hx Hq Hsc Hcn Hcs Hkr HS HG]
    · unfold Cst
      isplitl [H1]; · iexact H1
      isplitl [H0]; · iexact H0
      isplitr [HS HG]
      · isplitl [Hx]; · iexact Hx
        isplitl [Hq]; · iexact Hq
        isplitl [Hsc]; · iexact Hsc
        isplitl [Hcn]; · iexact Hcn
        isplitl [Hcs]; · iexact Hcs
        iexact Hkr
      isplitl [HS]; · iexact HS
      iexact HG
    unfold Cst start
    rw [if_neg h0]
    iexact Hk

end

end Cert.Kernel.Hand

end
-- ==== Proof.KB.Compute2.lean ====
/-
  What folding a chunk into the running state does, operation by operation.
-/
module

public import proofs.«01_k».proof.Proof.KB.Compute

@[expose] public section

set_option maxRecDepth 16384

noncomputable section

namespace Cert.Kernel.Hand

open Cert.Kernel Cert.Kernel.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The end of a chunk's computation: the last chunk of a sequence writes its results. -/
def part7b (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 arg26 arg27 arg28 : BitVec 32) (v158 : BitVec 32) (k0_hw25 : k0_chk25 arg26 arg27 v158) : Prog (TpuEff nD τ sig (Elt F) (Λ₀ F) .tc) (Σ' (v164 : BitVec 32), BitVec 1) :=
  if k0_h11 : k0_cond11 arg27 v158 = 1#1 then
    (Prog.lift (.load arg19 (Rect.unit (s := S32x128) ![0, 0] S32x128.size inb_S32x128_S32x128_0_0).toLoadRect (View.loadsAt_vmem h_S32x128)) : Prog (TpuEff nD τ sig (Elt F) (Λ₀ F) .tc) (Vec F S32x128 .f32)) >>= fun v191 =>
    (Prog.lift (.load arg20 (Rect.unit (s := S32x512) ![0, 0] S32x512.size inb_S32x512_S32x512_0_0).toLoadRect (View.loadsAt_vmem h_S32x512)) : Prog (TpuEff nD τ sig (Elt F) (Λ₀ F) .tc) (Vec F S32x512 .f32)) >>= fun v192 =>
    (Prog.lift (.load arg17 (Rect.unit (s := S64x32x512) (k0_off83 arg26) S1x32x512.size (k0_off83_inb arg26 arg27 v158 k0_hw25 k0_h11)).toLoadRect (View.loadsAt_vmem h_S1x32x512)) : Prog (TpuEff nD τ sig (Elt F) (Λ₀ F) .tc) (Vec F S1x32x512 .bf16)) >>= fun v197 =>
    Prog.lift (.store arg17 (Rect.unit (s := S64x32x512) (k0_off83 arg26) S1x32x512.size (k0_off83_inb arg26 arg27 v158 k0_hw25 k0_h11)) (k0_pay20 v191 v192) Finset.univ (View.stores_vmem h_S1x32x512 (harg17.storeExact_slice rfl _ (k0_off83_packedbf16 arg26 arg27 v158 k0_hw25 k0_h11)) (fun _ => rfl)) (.inl rfl)) >>= fun _ =>
    (Prog.lift (.load arg18 (Rect.unit (s := S32x128) ![0, 0] S32x128.size inb_S32x128_S32x128_0_0).toLoadRect (View.loadsAt_vmem h_S32x128)) : Prog (TpuEff nD τ sig (Elt F) (Λ₀ F) .tc) (Vec F S32x128 .f32)) >>= fun v200 =>
    (Prog.lift (.load arg11 (Rect.unit (s := S64x1x32) (k0_off84 arg26) S1x1x32.size (k0_off84_inb arg26 arg27 v158 k0_hw25 k0_h11)).toLoadRect (View.loadsAt_vmem h_S1x1x32)) : Prog (TpuEff nD τ sig (Elt F) (Λ₀ F) .tc) (Vec F S1x1x32 .f32)) >>= fun v207 =>
    Prog.lift (.store arg11 (Rect.unit (s := S64x1x32) (k0_off84 arg26) S1x1x32.size (k0_off84_inb arg26 arg27 v158 k0_hw25 k0_h11)) (k0_pay21 v191 v200) Finset.univ (View.stores_vmem_bits_univ h_S1x1x32 rfl) (.inl rfl)) >>= fun _ =>
    pure ⟨Scalar.addi arg25 32#32, Scalar.cmpi .slt arg28 64#32⟩
  else pure ⟨Scalar.addi arg25 32#32, Scalar.cmpi .slt arg28 64#32⟩

theorem part7_eq (arg1 : Mref .smem S64 .i32) (harg1 : arg1.IsWhole) (arg0 : Mref .smem S64x32 .i32) (harg0 : arg0.IsWhole) (arg21 : DmaSems sig S32) (arg15 : Mref .vmem S32x256x512 .fp8e4m3) (harg15 : arg15.IsWhole) (arg5 : Mref .hbm S2560x64x512 .fp8e4m3) (harg5 : arg5.IsWhole) (arg22 : DmaSems sig S32) (arg16 : Mref .vmem S32x256x64 .bf16) (harg16 : arg16.IsWhole) (arg7 : Mref .hbm S2560x64x64 .bf16) (harg7 : arg7.IsWhole) (arg12 : Mref .vmem S64x32x512 .bf16) (harg12 : arg12.IsWhole) (arg13 : Mref .vmem S64x32x64 .bf16) (harg13 : arg13.IsWhole) (arg8 : Mref .vmem S64x1x512 .fp8e4m3) (harg8 : arg8.IsWhole) (arg2 : Mref .smem S64x1 .f32) (harg2 : arg2.IsWhole) (arg9 : Mref .vmem S64x1x64 .bf16) (harg9 : arg9.IsWhole) (arg18 : Mref .vmem S32x128 .f32) (harg18 : arg18.IsWhole) (arg19 : Mref .vmem S32x128 .f32) (harg19 : arg19.IsWhole) (arg20 : Mref .vmem S32x512 .f32) (harg20 : arg20.IsWhole) (arg14 : Mref .vmem S2560x64 .f32) (harg14 : arg14.IsWhole) (arg17 : Mref .vmem S64x32x512 .bf16) (harg17 : arg17.IsWhole) (arg11 : Mref .vmem S64x1x32 .f32) (harg11 : arg11.IsWhole) (arg25 : BitVec 32) (arg26 : BitVec 32) (arg27 : BitVec 32) (arg28 : BitVec 32) (arg29 : BitVec 32) (k0_hw10 : k0_chk10 arg26) (v72 : FVec F S256x512 .fp8e4m3) (v106 : FVec F S1x256 .f32) (v121 : FVec F S32x256 .f32) (v126 : FVec F S32x128 .f32) (v128 : FVec F S32x128 .f32) (v129 : FVec F S32x256 .f32) :
    k0_part7 (F := F) arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 arg29 k0_hw10 v72 v106 v121 v126 v128 v129 = ((
    (Prog.lift (.load arg19 (Rect.unit (s := S32x128) ![0, 0] S32x128.size inb_S32x128_S32x128_0_0).toLoadRect (View.loadsAt_vmem h_S32x128)) : Prog (TpuEff nD τ sig (Elt F) (Λ₀ F) .tc) (Vec F S32x128 .f32)) >>= fun v132 =>
    (Prog.lift (.load arg19 (Rect.unit (s := S32x128) ![0, 0] S32x128.size inb_S32x128_S32x128_0_0).toLoadRect (View.loadsAt_vmem h_S32x128)) : Prog (TpuEff nD τ sig (Elt F) (Λ₀ F) .tc) (Vec F S32x128 .f32)) >>= fun v138 =>
    Prog.lift (.store arg19 (Rect.unit (s := S32x128) ![0, 0] S32x128.size inb_S32x128_S32x128_0_0) (k0_pay17 v121 v128 v129 v132) Finset.univ (View.stores_vmem_bits_univ h_S32x128 rfl) (.inl rfl)) >>= fun _ =>
    (Prog.lift (.load arg18 (Rect.unit (s := S32x128) ![0, 0] S32x128.size inb_S32x128_S32x128_0_0).toLoadRect (View.loadsAt_vmem h_S32x128)) : Prog (TpuEff nD τ sig (Elt F) (Λ₀ F) .tc) (Vec F S32x128 .f32)) >>= fun v141 =>
    Prog.lift (.store arg18 (Rect.unit (s := S32x128) ![0, 0] S32x128.size inb_S32x128_S32x128_0_0) (k0_pay18 v126) Finset.univ (View.stores_vmem_bits_univ h_S32x128 rfl) (.inl rfl)) >>= fun _ =>
    (Prog.lift (.load arg20 (Rect.unit (s := S32x512) ![0, 0] S32x512.size inb_S32x512_S32x512_0_0).toLoadRect (View.loadsAt_vmem h_S32x512)) : Prog (TpuEff nD τ sig (Elt F) (Λ₀ F) .tc) (Vec F S32x512 .f32)) >>= fun v148 =>
    (Prog.lift (.load arg20 (Rect.unit (s := S32x512) ![0, 0] S32x512.size inb_S32x512_S32x512_0_0).toLoadRect (View.loadsAt_vmem h_S32x512)) : Prog (TpuEff nD τ sig (Elt F) (Λ₀ F) .tc) (Vec F S32x512 .f32)) >>= fun v152 =>
    Prog.lift (.store arg20 (Rect.unit (s := S32x512) ![0, 0] S32x512.size inb_S32x512_S32x512_0_0) (k0_pay19 v72 v106 v121 v128 v129 v148) Finset.univ (View.stores_vmem_bits_univ h_S32x512 rfl) (.inl rfl)) >>= fun _ =>
    (smemLoad arg1 (Rect.unit (s := S64) (k0_off82 arg26) S1.size (k0_off82_inb arg26 k0_hw10)) numel1_S1 rfl : Prog (TpuEff nD τ sig (Elt F) (Λ₀ F) .tc) (Elt F .i32)) >>= fun v158 =>
    Prog.lift (TpuEff.assume (k0_chk25 arg26 arg27 v158) (k0_chk25.dec arg26 arg27 v158)) >>= fun k0_hw =>
    part7b arg1 harg1 arg0 harg0 arg21 arg15 harg15 arg5 harg5 arg22 arg16 harg16 arg7 harg7 arg12 harg12 arg13 harg13 arg8 harg8 arg2 harg2 arg9 harg9 arg18 harg18 arg19 harg19 arg20 harg20 arg14 harg14 arg17 harg17 arg11 harg11 arg25 arg26 arg27 arg28 v158 k0_hw.down) : Prog (TpuEff nD τ sig (Elt F) (Λ₀ F) .tc) (Σ' (v164 : BitVec 32), BitVec 1)) := rfl

variable {c : Dev nD} (e : Env F c) (bd : Option Variants.nat.V)

theorem off83_packed (b : Fin 64) (i : ∀ a, (![b.val, 0, 0] : Fin 3 → ℕ) a + S1x32x512.size a ≤ S64x32x512.size a) :
    (Rect.unit (s := S64x32x512) ![b.val, 0, 0] S1x32x512.size i).PackedRows (EltTy.packing .bf16) :=
  Or.inr ⟨Nat.le_succ 2, rfl, Or.inl ⟨show 2 ∣ 0 from ⟨0, rfl⟩, show 2 ∣ 32 from ⟨16, rfl⟩⟩⟩

theorem chk25 (b : Fin 64) (k v : BitVec 32) : k0_chk25 (W b.val) k v := by
  have hb : (Scalar.indexCast (W b.val)).toNat = b.val := W_idx (by have := b.isLt; omega)
  have h3 : k0_off83 (W b.val) = ![b.val, 0, 0] := off3_eq hb
  have h4 : k0_off84 (W b.val) = ![b.val, 0, 0] := off3_eq hb
  unfold k0_chk25
  rw [h3, h4]
  exact ⟨fun _ => fun a => inb_x b a, fun _ i => off83_packed b i, fun _ => inb_ls b⟩

section
variable {arg1 : Mref .smem S64 .i32} {harg1 : arg1.IsWhole} {arg0 : Mref .smem S64x32 .i32} {harg0 : arg0.IsWhole} {harg15 : (Memref.whole cc0_scratch3).IsWhole} {harg5 : (Memref.whole main_arg2).IsWhole} {harg16 : (Memref.whole cc0_scratch4).IsWhole} {harg7 : (Memref.whole main_arg4).IsWhole} {arg12 : Mref .vmem S64x32x512 .bf16} {harg12 : arg12.IsWhole} {arg13 : Mref .vmem S64x32x64 .bf16} {harg13 : arg13.IsWhole} {arg8 : Mref .vmem S64x1x512 .fp8e4m3} {harg8 : arg8.IsWhole} {arg2 : Mref .smem S64x1 .f32} {harg2 : arg2.IsWhole} {arg9 : Mref .vmem S64x1x64 .bf16} {harg9 : arg9.IsWhole} {arg18 : Mref .vmem S32x128 .f32} {harg18 : arg18.IsWhole} {arg19 : Mref .vmem S32x128 .f32} {harg19 : arg19.IsWhole} {arg20 : Mref .vmem S32x512 .f32} {harg20 : arg20.IsWhole} {arg14 : Mref .vmem S2560x64 .f32} {harg14 : arg14.IsWhole} {arg17 : Mref .vmem S64x32x512 .bf16} {harg17 : arg17.IsWhole} {arg11 : Mref .vmem S64x1x32 .f32} {harg11 : arg11.IsWhole}
variable {fL : Buf (Elt F) (arg1.view.loc (c : Thread nD τ))} {fT : Buf (Elt F) (arg0.view.loc (c : Thread nD τ))}
  (h : e.Reads arg1 arg0 fL fT) (I : Ins F)

theorem lastIndex (b : Fin 64) : Scalar.minsi (W b.val) 63#32 = W b.val := by
  have hb := b.isLt
  apply BitVec.eq_of_toNat_eq
  have e : (Scalar.minsi (W b.val) 63#32).toNat = min b.val 63 := min63_toNat (by omega)
  rw [e, W_toNat (by omega)]; omega

set_option maxHeartbeats 4000000 in
include h in
/-- The three further page scales, the sequence's length and the running maximum read, and the payloads of them. -/
theorem part6_wp (b : Fin 64) (k : ℕ) (hk : k ≤ 7) (w25 w28 w29 : BitVec 32) (hw19 : k0_chk19 (W b.val) (W k)) (hw10 : k0_chk10 (W b.val)) (S : St F)
    (g : Fin 4 → Fin 2560) (hg : ∀ p : Fin 4, (e.PT b.val (k * 4 + p.val)).toNat = (g p).val)
    (v73 v77 : FVec F S32x256 .f32) (v84 : Vec F S1x64 .f32) (v85 v1 : BitVec 32) {R : sProp 𝕄} {Q : (Σ' (v106 : FVec F S1x256 .f32) (v121 : FVec F S32x256 .f32) (v126 : FVec F S32x128 .f32) (v128 : FVec F S32x128 .f32), FVec F S32x256 .f32) → sProp 𝕄} :
    Sc arg1 arg0 fL fT iprop((Cst (c := c) arg12 arg13 arg14 arg8 arg2 arg9 I) ∗ (Stt (c := c) arg18 arg19 arg20 arg17 arg11) S ∗ R)
      ⊢ iprop((Sc arg1 arg0 fL fT iprop((Cst (c := c) arg12 arg13 arg14 arg8 arg2 arg9 I) ∗ (Stt (c := c) arg18 arg19 arg20 arg17 arg11) S ∗ R)
            -∗ Q ⟨k0_pay11 v84 (I.scg (g 1)) (I.scg (g 2)) (I.scg (g 3)), k0_pay12 (W k) v73 v77 v84 (I.scg (g 1)) (I.scg (g 2)) (I.scg (g 3)) (e.L b.val),
                k0_pay13 (W k) v73 v77 v84 (I.scg (g 1)) (I.scg (g 2)) (I.scg (g 3)) (e.L b.val) S.m, k0_pay14 (W k) v73 v77 v84 (I.scg (g 1)) (I.scg (g 2)) (I.scg (g 3)) (e.L b.val) S.m,
                k0_pay15 (W k) v73 v77 v84 (I.scg (g 1)) (I.scg (g 2)) (I.scg (g 3)) (e.L b.val) S.m⟩)
        -∗ wp frame (wpE (defs₀ (F := F)) Variants.nat (c : Thread nD τ) bd) Set.univ (k0_part6 (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 w25 (W b.val) (W k) w28 w29 hw19 hw10 v73 v77 v84 v85 v1) Q) := by
  rw [k0_part6_eq_skeleton]
  unfold k0_part6_skel Cst Stt
  have hp (p : ℕ) (hp : p < 4) := h.pages b.val (k * 4 + p) b.isLt (by omega)
  iintro ⟨H1, H0, ⟨Hx, Hq, Hsc, Hcn, Hcs, Hkr⟩, ⟨Hm, Hl, Ha, Ho, Hs⟩, HR⟩ Hk
  iapply (wp_smem bd arg0 _ _ _ fT _ _ (h.hT (W b.val) (W k) b.val k 1 rfl rfl b.isLt hk (by omega) _)) $$ H0
  iintro H0
  iapply (wp_assumed bd _ (sc_inb (hp 1 (by omega))) _)
  iapply (Hv_load' bd arg14 I.sc (off2_eq ((idx_word (Nat.lt_trans (hp 1 (by omega)) (by norm_num))).trans (hg 1))) (inb_sc (g 1)) _ (I.scg (g 1)) rfl) $$ Hsc
  iintro Hsc
  iapply (wp_smem bd arg0 _ _ _ fT _ _ (h.hT (W b.val) (W k) b.val k 2 rfl rfl b.isLt hk (by omega) _)) $$ H0
  iintro H0
  iapply (wp_assumed bd _ (sc_inb (hp 2 (by omega))) _)
  iapply (Hv_load' bd arg14 I.sc (off2_eq ((idx_word (Nat.lt_trans (hp 2 (by omega)) (by norm_num))).trans (hg 2))) (inb_sc (g 2)) _ (I.scg (g 2)) rfl) $$ Hsc
  iintro Hsc
  iapply (wp_smem bd arg0 _ _ _ fT _ _ (h.hT (W b.val) (W k) b.val k 3 rfl rfl b.isLt hk (by omega) _)) $$ H0
  iintro H0
  iapply (wp_assumed bd _ (sc_inb (hp 3 (by omega))) _)
  iapply (Hv_load' bd arg14 I.sc (off2_eq ((idx_word (Nat.lt_trans (hp 3 (by omega)) (by norm_num))).trans (hg 3))) (inb_sc (g 3)) _ (I.scg (g 3)) rfl) $$ Hsc
  iintro Hsc
  iapply (wp_smem bd arg1 _ _ _ fL _ _ (h.hL (W b.val) b.val rfl b.isLt _)) $$ H1
  iintro H1
  iapply (Hv_load_full bd arg18 S.m _) $$ Hm
  iintro Hm
  rw [show ∀ x, (pure x : Prog (TpuEff nD τ sig (Elt F) (Λ₀ F) .tc) (Σ' (v106 : FVec F S1x256 .f32) (v121 : FVec F S32x256 .f32) (v126 : FVec F S32x128 .f32) (v128 : FVec F S32x128 .f32), FVec F S32x256 .f32)) = Prog.ret x from fun _ => rfl, wp_ret]
  imodintro
  iapply Hk
  isplitl [H1]; · iexact H1
  isplitl [H0]; · iexact H0
  isplitr [Hm Hl Ha Ho Hs HR]
  · isplitl [Hx]; · iexact Hx
    isplitl [Hq]; · iexact Hq
    isplitl [Hsc]; · iexact Hsc
    isplitl [Hcn]; · iexact Hcn
    isplitl [Hcs]; · iexact Hcs
    iexact Hkr
  isplitr [HR]
  · isplitl [Hm]; · iexact Hm
    isplitl [Hl]; · iexact Hl
    isplitl [Ha]; · iexact Ha
    isplitl [Ho]; · iexact Ho
    iexact Hs
  iexact HR

set_option maxHeartbeats 4000000 in
include h in
/-- The state after the chunk. -/
theorem part7_wp (b : Fin 64) (k : ℕ) (w25 w28 w29 : BitVec 32) (hw10 : k0_chk10 (W b.val)) (S : St F)
    (v72 : FVec F S256x512 .fp8e4m3) (v106 : FVec F S1x256 .f32) (v121 : FVec F S32x256 .f32) (v126 v128 : FVec F S32x128 .f32) (v129 : FVec F S32x256 .f32) {R : sProp 𝕄} {Q : (Σ' (v164 : BitVec 32), BitVec 1) → sProp 𝕄} :
    Sc arg1 arg0 fL fT iprop((Cst (c := c) arg12 arg13 arg14 arg8 arg2 arg9 I) ∗ (Stt (c := c) arg18 arg19 arg20 arg17 arg11) S ∗ R)
      ⊢ iprop((Sc arg1 arg0 fL fT iprop((Cst (c := c) arg12 arg13 arg14 arg8 arg2 arg9 I) ∗ (Stt (c := c) arg18 arg19 arg20 arg17 arg11) (finish b k (e.L b.val) { S with m := k0_pay18 v126, l := k0_pay17 v121 v128 v129 S.l, a := k0_pay19 v72 v106 v121 v128 v129 S.a }) ∗ R)
            -∗ Q ⟨Scalar.addi w25 32#32, Scalar.cmpi .slt w28 64#32⟩)
        -∗ wp frame (wpE (defs₀ (F := F)) Variants.nat (c : Thread nD τ) bd) Set.univ (k0_part7 (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 w25 (W b.val) (W k) w28 w29 hw10 v72 v106 v121 v126 v128 v129) Q) := by
  have hb : (Scalar.indexCast (W b.val)).toNat = b.val := W_idx (by have := b.isLt; omega)
  have h3 : k0_off83 (W b.val) = ![b.val, 0, 0] := off3_eq hb
  have h4 : k0_off84 (W b.val) = ![b.val, 0, 0] := off3_eq hb
  rw [part7_eq]
  unfold Stt
  iintro ⟨H1, H0, HC, ⟨Hm, Hl, Ha, Ho, Hs⟩, HR⟩ Hk
  iapply (Hv_load_full bd arg19 S.l _) $$ Hl
  iintro Hl
  iapply (Hv_load_full bd arg19 S.l _) $$ Hl
  iintro Hl
  iapply (Hv_store_full bd arg19 S.l _) $$ Hl
  iintro Hl
  iapply (Hv_load_full bd arg18 S.m _) $$ Hm
  iintro Hm
  iapply (Hv_store_full bd arg18 S.m _) $$ Hm
  iintro Hm
  iapply (Hv_load_full bd arg20 S.a _) $$ Ha
  iintro Ha
  iapply (Hv_load_full bd arg20 S.a _) $$ Ha
  iintro Ha
  iapply (Hv_store_full bd arg20 S.a _) $$ Ha
  iintro Ha
  iapply (wp_smem bd arg1 _ _ _ fL _ _ (h.hL (Scalar.minsi (W b.val) 63#32) b.val (lastIndex b) b.isLt _)) $$ H1
  iintro H1
  iapply (wp_assumed bd _ (chk25 b (W k) (e.L b.val)) _)
  unfold part7b finish
  by_cases hl : k0_cond11 (W k) (e.L b.val) = 1#1
  · rw [dif_pos hl, if_pos hl]
    iapply (Hv_load_full bd arg19 _ _) $$ Hl
    iintro Hl
    iapply (Hv_load_full bd arg20 _ _) $$ Ha
    iintro Ha
    iapply (Hv_load bd arg17 S.o h3 (inb_x b) _) $$ Ho
    iintro Ho
    iapply (Hv_store bd arg17 S.o h3 _) $$ Ho
    iintro Ho
    iapply (Hv_load_full bd arg18 _ _) $$ Hm
    iintro Hm
    iapply (Hv_load bd arg11 S.s h4 (inb_ls b) _) $$ Hs
    iintro Hs
    iapply (Hv_store bd arg11 S.s h4 _) $$ Hs
    iintro Hs
    rw [show ∀ x, (pure x : Prog (TpuEff nD τ sig (Elt F) (Λ₀ F) .tc) (Σ' (v164 : BitVec 32), BitVec 1)) = Prog.ret x from fun _ => rfl, wp_ret]
    imodintro
    iapply Hk
    isplitl [H1]; · iexact H1
    isplitl [H0]; · iexact H0
    isplitl [HC]; · iexact HC
    isplitr [HR]
    · isplitl [Hm]; · iexact Hm
      isplitl [Hl]; · iexact Hl
      isplitl [Ha]; · iexact Ha
      isplitl [Ho]; · iexact Ho
      iexact Hs
    iexact HR
  · rw [dif_neg hl, if_neg hl]
    rw [show ∀ x, (pure x : Prog (TpuEff nD τ sig (Elt F) (Λ₀ F) .tc) (Σ' (v164 : BitVec 32), BitVec 1)) = Prog.ret x from fun _ => rfl, wp_ret]
    imodintro
    iapply Hk
    isplitl [H1]; · iexact H1
    isplitl [H0]; · iexact H0
    isplitl [HC]; · iexact HC
    isplitr [HR]
    · isplitl [Hm]; · iexact Hm
      isplitl [Hl]; · iexact Hl
      isplitl [Ha]; · iexact Ha
      isplitl [Ho]; · iexact Ho
      iexact Hs
    iexact HR

end

end Cert.Kernel.Hand

end
-- ==== Proof.KB.Checks.lean ====
/-
  The side conditions of every site, from the state words being small numbers.
-/
module

public import proofs.«01_k».proof.Proof.KB.Compute2

@[expose] public section

set_option maxRecDepth 16384

noncomputable section

namespace Cert.Kernel.Hand

open Cert.Kernel Cert.Kernel.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem minW (m : ℕ) (hm : m < 2 ^ 20) : Scalar.minsi (W m) 63#32 = W (min m 63) := by
  apply BitVec.eq_of_toNat_eq
  have e : (Scalar.minsi (W m) 63#32).toNat = min m 63 := min63_toNat (by omega)
  rw [e, W_toNat (by omega)]

/-! ## The sites' -/

section
variable {it b k : BitVec 32} {n m j : ℕ} (eit : it = W n) (hn : n < 2 ^ 20) (eb : b = W m) (h : m < 64) (ek : k = W j) (hj : j ≤ 7)

include eit hn eb h ek hj in
theorem wA0 (v : BitVec 32) : k0_chk11 it b k v := ⟨fun _ => tOff_inb eb ek h hj 0 (by omega), fun _ => sem_inb eit hn, fun _ => kD_inb eit hn 0 (by omega), fun _ i => kD_words (p := 0) i, fun _ => sem_inb eit hn, fun _ => rD_inb eit hn 0 (by omega), fun _ i => rD_words (p := 0) i⟩
theorem wB0 (v w : BitVec 32) (hw : w.toNat < 2560) : k0_chk12 it k v w := ⟨fun _ => kS_inb hw, fun _ i => kS_words i, fun _ => rS_inb hw, fun _ i => rS_words i⟩
include eit hn eb h ek hj in
theorem wA1 (v : BitVec 32) : k0_chk13 it b k v := ⟨fun _ => tOff_inb eb ek h hj 1 (by omega), fun _ => sem_inb eit hn, fun _ => kD_inb eit hn 1 (by omega), fun _ i => kD_words (p := 1) i, fun _ => sem_inb eit hn, fun _ => rD_inb eit hn 1 (by omega), fun _ i => rD_words (p := 1) i⟩
theorem wB1 (v w : BitVec 32) (hw : w.toNat < 2560) : k0_chk14 it k v w := ⟨fun _ => kS_inb hw, fun _ i => kS_words i, fun _ => rS_inb hw, fun _ i => rS_words i⟩
include eit hn eb h ek hj in
theorem wA2 (v : BitVec 32) : k0_chk15 it b k v := ⟨fun _ => tOff_inb eb ek h hj 2 (by omega), fun _ => sem_inb eit hn, fun _ => kD_inb eit hn 2 (by omega), fun _ i => kD_words (p := 2) i, fun _ => sem_inb eit hn, fun _ => rD_inb eit hn 2 (by omega), fun _ i => rD_words (p := 2) i⟩
theorem wB2 (v w : BitVec 32) (hw : w.toNat < 2560) : k0_chk16 it k v w := ⟨fun _ => kS_inb hw, fun _ i => kS_words i, fun _ => rS_inb hw, fun _ i => rS_words i⟩
include eit hn eb h ek hj in
theorem wA3 (v : BitVec 32) : k0_chk17 it b k v := ⟨fun _ => tOff_inb eb ek h hj 3 (by omega), fun _ => sem_inb eit hn, fun _ => kD_inb eit hn 3 (by omega), fun _ i => kD_words (p := 3) i, fun _ => sem_inb eit hn, fun _ => rD_inb eit hn 3 (by omega), fun _ i => rD_words (p := 3) i⟩
theorem wB3 (v w : BitVec 32) (hw : w.toNat < 2560) : k0_chk18 it k v w := ⟨fun _ => kS_inb hw, fun _ i => kS_words i, fun _ => rS_inb hw, fun _ i => rS_words i⟩
end

section
variable {it b k : BitVec 32} {n m j : ℕ} (eit : Scalar.addi it 32#32 = W n) (hn : n < 2 ^ 20) (eb : b = W m) (h : m < 64) (ek : k = W j) (hj : j ≤ 7)

include eit hn eb h ek hj in
theorem fA0 (v : BitVec 32) : k0_chk27 it b k v := ⟨fun _ _ => tOff_inb eb ek h hj 0 (by omega), fun _ _ => sem_inb eit hn, fun _ _ => kD_inb eit hn 0 (by omega), fun _ _ i => kD_words (p := 0) i, fun _ _ => sem_inb eit hn, fun _ _ => rD_inb eit hn 0 (by omega), fun _ _ i => rD_words (p := 0) i⟩
theorem fB0 (v w : BitVec 32) (hw : w.toNat < 2560) : k0_chk28 it b k v w := ⟨fun _ _ => kS_inb hw, fun _ _ i => kS_words i, fun _ _ => rS_inb hw, fun _ _ i => rS_words i⟩
include eit hn eb h ek hj in
theorem fA1 (v : BitVec 32) : k0_chk29 it b k v := ⟨fun _ _ => tOff_inb eb ek h hj 1 (by omega), fun _ _ => sem_inb eit hn, fun _ _ => kD_inb eit hn 1 (by omega), fun _ _ i => kD_words (p := 1) i, fun _ _ => sem_inb eit hn, fun _ _ => rD_inb eit hn 1 (by omega), fun _ _ i => rD_words (p := 1) i⟩
theorem fB1 (v w : BitVec 32) (hw : w.toNat < 2560) : k0_chk30 it b k v w := ⟨fun _ _ => kS_inb hw, fun _ _ i => kS_words i, fun _ _ => rS_inb hw, fun _ _ i => rS_words i⟩
include eit hn eb h ek hj in
theorem fA2 (v : BitVec 32) : k0_chk31 it b k v := ⟨fun _ _ => tOff_inb eb ek h hj 2 (by omega), fun _ _ => sem_inb eit hn, fun _ _ => kD_inb eit hn 2 (by omega), fun _ _ i => kD_words (p := 2) i, fun _ _ => sem_inb eit hn, fun _ _ => rD_inb eit hn 2 (by omega), fun _ _ i => rD_words (p := 2) i⟩
theorem fB2 (v w : BitVec 32) (hw : w.toNat < 2560) : k0_chk32 it b k v w := ⟨fun _ _ => kS_inb hw, fun _ _ i => kS_words i, fun _ _ => rS_inb hw, fun _ _ i => rS_words i⟩
include eit hn eb h ek hj in
theorem fA3 (v : BitVec 32) : k0_chk33 it b k v := ⟨fun _ _ => tOff_inb eb ek h hj 3 (by omega), fun _ _ => sem_inb eit hn, fun _ _ => kD_inb eit hn 3 (by omega), fun _ _ i => kD_words (p := 3) i, fun _ _ => sem_inb eit hn, fun _ _ => rD_inb eit hn 3 (by omega), fun _ _ i => rD_words (p := 3) i⟩
theorem fB3 (v w : BitVec 32) (hw : w.toNat < 2560) : k0_chk34 it b k v w := ⟨fun _ _ => kS_inb hw, fun _ _ i => kS_words i, fun _ _ => rS_inb hw, fun _ _ i => rS_words i⟩
include eb h ek hj in
theorem pA0 (t : Fin k0_t1_loop.trips) (v : BitVec 32) : k0_chk2 t b k v := fun _ _ => tOff_inb eb ek h hj 0 (by omega)
theorem pB0 (t : Fin k0_t1_loop.trips) (v w : BitVec 32) (hw : w.toNat < 2560) : k0_chk3 t b k v w := ⟨fun _ _ => kS_inb hw, fun _ _ i => kS_words i, fun _ _ => rS_inb hw, fun _ _ i => rS_words i⟩
include eb h ek hj in
theorem pA1 (t : Fin k0_t1_loop.trips) (v : BitVec 32) : k0_chk4 t b k v := fun _ _ => tOff_inb eb ek h hj 1 (by omega)
theorem pB1 (t : Fin k0_t1_loop.trips) (v w : BitVec 32) (hw : w.toNat < 2560) : k0_chk5 t b k v w := ⟨fun _ _ => kS_inb hw, fun _ _ i => kS_words i, fun _ _ => rS_inb hw, fun _ _ i => rS_words i⟩
include eb h ek hj in
theorem pA2 (t : Fin k0_t1_loop.trips) (v : BitVec 32) : k0_chk6 t b k v := fun _ _ => tOff_inb eb ek h hj 2 (by omega)
theorem pB2 (t : Fin k0_t1_loop.trips) (v w : BitVec 32) (hw : w.toNat < 2560) : k0_chk7 t b k v w := ⟨fun _ _ => kS_inb hw, fun _ _ i => kS_words i, fun _ _ => rS_inb hw, fun _ _ i => rS_words i⟩
include eb h ek hj in
theorem pA3 (t : Fin k0_t1_loop.trips) (v : BitVec 32) : k0_chk8 t b k v := fun _ _ => tOff_inb eb ek h hj 3 (by omega)
theorem pB3 (t : Fin k0_t1_loop.trips) (v w : BitVec 32) (hw : w.toNat < 2560) : k0_chk9 t b k v w := ⟨fun _ _ => kS_inb hw, fun _ _ i => kS_words i, fun _ _ => rS_inb hw, fun _ _ i => rS_words i⟩
end

/-! ## A trip's -/

theorem cond12_iff {m : ℕ} (hm : m < 2 ^ 20) : k0_cond12 (W m) = 1#1 ↔ m < 64 := by
  rw [← lt64_iff (by omega)]
  exact wide_iff _

theorem cond1_iff {m : ℕ} (hm : m < 2 ^ 20) : k0_cond1 (W m) = 1#1 ↔ m < 64 := cond12_iff hm

theorem lmin_inb {m : ℕ} (hm : m < 2 ^ 20) : ∀ a, lOff (Scalar.minsi (W m) 63#32) a + S1.size a ≤ S64.size a :=
  lOff_inb (minW m hm) (by omega)

theorem chk26 {m : ℕ} (hm : m < 2 ^ 20) : k0_chk26 (W m) :=
  ⟨fun h => lOff_inb rfl ((cond12_iff hm).mp h), fun h => lOff_inb rfl ((cond12_iff hm).mp h), fun h => lOff_inb rfl ((cond12_iff hm).mp h), fun h => lOff_inb rfl ((cond12_iff hm).mp h), lmin_inb hm⟩

theorem chk1 {m : ℕ} (hm : m < 2 ^ 20) : k0_chk1 (W m) :=
  ⟨fun h => lOff_inb rfl ((cond1_iff hm).mp h), fun h => lOff_inb rfl ((cond1_iff hm).mp h), fun h => lOff_inb rfl ((cond1_iff hm).mp h), fun h => lOff_inb rfl ((cond1_iff hm).mp h), lmin_inb hm⟩

theorem chk20 {n : ℕ} (hn : n < 2 ^ 20) : k0_chk20 (W n) := by
  have h1 : k0_off71 (W n) = ![(slot n).val, 0, 0] := off3_eq (slot_idx hn)
  have h2 : k0_off72 (W n) = ![(slot n).val, 0, 0] := off3_eq (slot_idx hn)
  unfold k0_chk20
  rw [h1, h2]
  exact ⟨inb_vk _, inb_vr _⟩

theorem chk10 (b : Fin 64) : k0_chk10 (W b.val) := by
  have hb : (Scalar.indexCast (W b.val)).toNat = b.val := W_idx (by have := b.isLt; omega)
  have h1 : k0_off66 (W b.val) = ![b.val, 0, 0] := off3_eq hb
  have h2 : k0_off67 (W b.val) = ![b.val, 0, 0] := off3_eq hb
  have hl := lOff_inb (b := W b.val) rfl b.isLt
  have hm := lmin_inb (m := b.val) (by have := b.isLt; omega)
  unfold k0_chk10
  rw [h1, h2]
  exact ⟨hl, hl, hl, hl, inb_x b, inb_q b, hl, hm, hm⟩

theorem chk19 (b : Fin 64) {k : ℕ} (hk : k ≤ 7) : k0_chk19 (W b.val) (W k) := by
  have hb : (Scalar.indexCast (W b.val)).toNat = b.val := W_idx (by have := b.isLt; omega)
  have h1 : k0_off68 (W b.val) = ![b.val, 0, 0] := off3_eq hb
  have h2 : k0_off69 (W b.val) = ![b.val, 0] := off2_eq hb
  have h3 : k0_off70 (W b.val) = ![b.val, 0, 0] := off3_eq hb
  have ht (p : ℕ) (hp : p < 4) := tOff_inb (b := W b.val) (k := W k) rfl rfl b.isLt hk p hp
  unfold k0_chk19
  rw [h1, h2, h3]
  exact ⟨fun _ => inb_cn b, fun _ => inb_cs b, fun _ => inb_kr b, ht 0 (by omega), ht 1 (by omega), ht 2 (by omega), ht 3 (by omega)⟩

end Cert.Kernel.Hand

end
-- ==== Proof.KB.Trip.lean ====
/-
  One trip of the main loop: wait for the chunk's pages, fold them, start the pages of the chunk 32 ahead.
-/
module

public import proofs.«01_k».proof.Proof.KB.Checks
public import Idealize.SL.BI.BigOpNat

@[expose] public section

set_option maxRecDepth 16384

noncomputable section

namespace Cert.Kernel.Hand

open Cert.Kernel Cert.Kernel.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {c : Dev nD} (e : Env F c) (bd : Option Variants.nat.V)

/-- An update before a program. -/
theorem upd {α : Type} {Q : α → sProp 𝕄} {P R : sProp 𝕄} (p : Prog (TpuEff nD τ sig (Elt F) (Λ₀ F) .tc) α) (h : P ⊢ iprop(|={Set.univ}=> R : sProp 𝕄)) : P ⊢ iprop((R -∗ wp frame (wpE (defs₀ (F := F)) Variants.nat (c : Thread nD τ) bd) Set.univ p Q) -∗ wp frame (wpE (defs₀ (F := F)) Variants.nat (c : Thread nD τ) bd) Set.univ p Q) := by
  iintro HP Hk
  iapply (fupd_wp frame (wpE (defs₀ (F := F)) Variants.nat (c : Thread nD τ) bd) Set.univ _ _)
  imod h $$ HP with HR
  imodintro
  iapply Hk $$ HR

/-- What the ring holds of the `k`th chunk before its trip: its pages under way, or a free slot past the last chunk. -/
def Ready (k : ℕ) : sProp 𝕄 := if (sch e.L k).1 < 64 then Flying e k (cnt e.L k) 0 else Free e (slot k)

theorem slot_add (n : ℕ) : slot (n + 32) = slot n := Fin.ext (Nat.add_mod_right n 32)

section
variable {arg1 : Mref .smem S64 .i32} {harg1 : arg1.IsWhole} {arg0 : Mref .smem S64x32 .i32} {harg0 : arg0.IsWhole} {harg15 : (Memref.whole cc0_scratch3).IsWhole} {harg5 : (Memref.whole main_arg2).IsWhole} {harg16 : (Memref.whole cc0_scratch4).IsWhole} {harg7 : (Memref.whole main_arg4).IsWhole} {arg12 : Mref .vmem S64x32x512 .bf16} {harg12 : arg12.IsWhole} {arg13 : Mref .vmem S64x32x64 .bf16} {harg13 : arg13.IsWhole} {arg8 : Mref .vmem S64x1x512 .fp8e4m3} {harg8 : arg8.IsWhole} {arg2 : Mref .smem S64x1 .f32} {harg2 : arg2.IsWhole} {arg9 : Mref .vmem S64x1x64 .bf16} {harg9 : arg9.IsWhole} {arg18 : Mref .vmem S32x128 .f32} {harg18 : arg18.IsWhole} {arg19 : Mref .vmem S32x128 .f32} {harg19 : arg19.IsWhole} {arg20 : Mref .vmem S32x512 .f32} {harg20 : arg20.IsWhole} {arg14 : Mref .vmem S2560x64 .f32} {harg14 : arg14.IsWhole} {arg17 : Mref .vmem S64x32x512 .bf16} {harg17 : arg17.IsWhole} {arg11 : Mref .vmem S64x1x32 .f32} {harg11 : arg11.IsWhole}
variable {fL : Buf (Elt F) (arg1.view.loc (c : Thread nD τ))} {fT : Buf (Elt F) (arg0.view.loc (c : Thread nD τ))}
  (h : e.Reads arg1 arg0 fL fT) (I : Ins F)

/-- A free slot given to a later chunk. -/
theorem free_upd (n : ℕ) : Free e (slot n) ⊢ iprop(|={Set.univ}=> Flying e n (min 0 (cnt e.L n)) 0 : sProp 𝕄) := by
  rw [Nat.zero_min]; exact Free_flying e n

theorem min4 (n : ℕ) : min 4 (cnt e.L n) = cnt e.L n := Nat.min_eq_right (cnt_le _ _)

include h in
/-- The first three waits. -/
theorem part4_wp (n : ℕ) (hn : n < 2 ^ 20) (hb : (sch e.L n).1 < 64) (w28 w29 : BitVec 32) (h28 : k0_chk26 w28) {Q : (Σ' (_ : k0_chk26 w28) (_ : k0_chk20 (W n)) (_ : k0_chk19 (W (sch e.L n).1) (W (sch e.L n).2)) (_ : k0_chk10 (W (sch e.L n).1)) (v19 : BitVec 32), BitVec 32) → sProp 𝕄} :
    Sc arg1 arg0 fL fT iprop(Flying e n (cnt e.L n) 0 ∗ Ow c)
      ⊢ iprop((Sc arg1 arg0 fL fT iprop(Flying e n (cnt e.L n) (min 3 (cnt e.L n)) ∗ Ow c)
          -∗ Q ⟨h28, chk20 hn, chk19 ⟨_, hb⟩ (sch_c7 h.lens n), chk10 ⟨_, hb⟩, Scalar.remsi (W n) 32#32, 4#32⟩)
        -∗ wp frame (wpE (defs₀ (F := F)) Variants.nat (c : Thread nD τ) bd) Set.univ (part4' (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 (W n) (W (sch e.L n).1) (W (sch e.L n).2) w28 w29) Q) := by
  have hc7 : (sch e.L n).2 ≤ 7 := sch_c7 h.lens n
  unfold part4'
  iintro ⟨H1, H0, HF, HO⟩ Hk
  iapply (wp_assumed bd _ h28 _)
  iapply (wp_assumed bd _ (chk20 hn) _)
  iapply (wp_assumed bd _ (chk19 ⟨_, hb⟩ hc7) _)
  iapply (wp_assumed bd _ (chk10 ⟨_, hb⟩) _)
  unfold wait3
  ihave HF := (show Flying e n (cnt e.L n) 0 ⊢ Flying e n (cnt e.L n) (min 0 (cnt e.L n)) from by rw [Nat.zero_min]) $$ HF
  iapply (wait_site e bd h n hn hb 0 (by omega) rfl rfl rfl _ (wA0 rfl hn rfl hb rfl hc7) (wB0 (it := W n) (k := W (sch e.L n).2))) $$ [H1 H0 HF HO]
  · isplitl [H1]; · iexact H1
    isplitl [H0]; · iexact H0
    isplitl [HF]; · iexact HF
    iexact HO
  iintro ⟨H1, H0, HF, HO⟩
  iapply (wait_site e bd h n hn hb 1 (by omega) rfl rfl rfl _ (wA1 rfl hn rfl hb rfl hc7) (wB1 (it := W n) (k := W (sch e.L n).2))) $$ [H1 H0 HF HO]
  · isplitl [H1]; · iexact H1
    isplitl [H0]; · iexact H0
    isplitl [HF]; · iexact HF
    iexact HO
  iintro ⟨H1, H0, HF, HO⟩
  iapply (wait_site e bd h n hn hb 2 (by omega) rfl rfl rfl _ (wA2 rfl hn rfl hb rfl hc7) (wB2 (it := W n) (k := W (sch e.L n).2))) $$ [H1 H0 HF HO]
  · isplitl [H1]; · iexact H1
    isplitl [H0]; · iexact H0
    isplitl [HF]; · iexact HF
    iexact HO
  iintro ⟨H1, H0, HF, HO⟩
  rw [show ∀ x, (pure x : Prog (TpuEff nD τ sig (Elt F) (Λ₀ F) .tc) (Σ' (_ : k0_chk26 w28) (_ : k0_chk20 (W n)) (_ : k0_chk19 (W (sch e.L n).1) (W (sch e.L n).2)) (_ : k0_chk10 (W (sch e.L n).1)) (v19 : BitVec 32), BitVec 32)) = Prog.ret x from fun _ => rfl, wp_ret]
  imodintro
  iapply Hk
  isplitl [H1]; · iexact H1
  isplitl [H0]; · iexact H0
  isplitl [HF]; · iexact HF
  iexact HO

/-- A chunk's keys are what its pages hold. -/
def Agrees (n : ℕ) (fK : Buf (Elt F) ((Memref.whole cc0_scratch3).view.loc (c : Thread nD τ))) (fR : Buf (Elt F) ((Memref.whole cc0_scratch4).view.loc (c : Thread nD τ))) : Prop :=
  ∀ p : Fin 4, p.val < cnt e.L n → AgK e (slot n) p (e.pg n p.val) fK ∧ AgR e (slot n) p (e.pg n p.val) fR

include h in
/-- A trip up to the fetch: the state steps, the slot is free. -/
theorem trip_wp (n : ℕ) (hn : n < 2 ^ 20) (hb : (sch e.L n).1 < 64) (w28 w29 : BitVec 32) (h28 : k0_chk26 w28) (S : St F) {Q : (BitVec 32 × BitVec 32 × BitVec 32 × BitVec 32 × BitVec 32) → sProp 𝕄} :
    Sc arg1 arg0 fL fT iprop((Cst (c := c) arg12 arg13 arg14 arg8 arg2 arg9 I) ∗ (Stt (c := c) arg18 arg19 arg20 arg17 arg11) S ∗ Flying e n (cnt e.L n) 0 ∗ Ow c)
      ⊢ iprop((∀ fK fR, ⌜Agrees e n fK fR⌝ -∗ Sc arg1 arg0 fL fT iprop((Cst (c := c) arg12 arg13 arg14 arg8 arg2 arg9 I) ∗ (Stt (c := c) arg18 arg19 arg20 arg17 arg11) (step I ⟨_, hb⟩ (sch e.L n).2 (e.L (sch e.L n).1) (fun p => e.pg n p.val) (vK (slot n) fK) (vR (slot n) fR) S) ∗ Free e (slot n) ∗ Ow c)
          -∗ wp frame (wpE (defs₀ (F := F)) Variants.nat (c : Thread nD τ) bd) Set.univ (fetchTail (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 (W n) (W (sch e.L n).1) (W (sch e.L n).2) w28 w29 h28 (chk10 ⟨_, hb⟩)) Q)
        -∗ wp frame (wpE (defs₀ (F := F)) Variants.nat (c : Thread nD τ) bd) Set.univ (whileBody (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 (W n) (W (sch e.L n).1) (W (sch e.L n).2) w28 w29) Q) := by
  have hc7 : (sch e.L n).2 ≤ 7 := sch_c7 h.lens n
  have hg : ∀ p : Fin 4, (e.PT (sch e.L n).1 ((sch e.L n).2 * 4 + p.val)).toNat = (e.pg n p.val).val := fun p =>
    (Nat.mod_eq_of_lt (h.pages _ _ hb (by have := p.isLt; omega))).symm
  unfold whileBody
  rw [if_pos ((lt64_iff (by omega)).mpr hb)]
  iintro ⟨H1, H0, HC, HS, HF, HO⟩ Hk
  rw [wp_bind]
  iapply (part4_wp e bd h n hn hb w28 w29 h28) $$ [H1 H0 HF HO]
  · isplitl [H1]; · iexact H1
    isplitl [H0]; · iexact H0
    isplitl [HF]; · iexact HF
    iexact HO
  iintro ⟨H1, H0, HF, HO⟩
  dsimp only
  rw [wp_bind]
  unfold part5'
  iapply (wait_site e bd h n hn hb 3 (by omega) rfl rfl rfl _ (wA3 rfl hn rfl hb rfl hc7) (wB3 (it := W n) (k := W (sch e.L n).2))) $$ [H1 H0 HF HO]
  · isplitl [H1]; · iexact H1
    isplitl [H0]; · iexact H0
    isplitl [HF]; · iexact HF
    iexact HO
  iintro ⟨H1, H0, HF, HO⟩
  rw [min4]
  iapply (upd bd _ (Flying_landed e n)) $$ HF
  iintro HL
  ihave HL := (Landed_open e n) $$ HL
  icases HL with ⟨%fK, %fR, %hag, HK, HR, Hfree⟩
  iapply (rest5_wp e bd h I n hn ⟨_, hb⟩ (sch e.L n).2 hc7 w28 w29 _ _ _ S (fun p => e.pg n p.val) hg fK fR) $$ [H1 H0 HC HS HK HR]
  · isplitl [H1]; · iexact H1
    isplitl [H0]; · iexact H0
    isplitl [HC]; · iexact HC
    isplitl [HS]; · iexact HS
    unfold Rg
    isplitl [HK]; · iexact HK
    iexact HR
  iintro HH
  dsimp only
  rw [wp_bind, ← k0_part6_eq_skeleton]
  iapply (part6_wp e bd h I ⟨_, hb⟩ (sch e.L n).2 hc7 (W n) w28 w29 _ _ (start I ⟨_, hb⟩ (sch e.L n).2 S) (fun p => e.pg n p.val) hg) $$ HH
  iintro HH
  dsimp only
  rw [wp_bind, ← k0_part7_eq_skeleton]
  iapply (part7_wp e bd h I ⟨_, hb⟩ (sch e.L n).2 (W n) w28 w29 _ (start I ⟨_, hb⟩ (sch e.L n).2 S)) $$ HH
  unfold Rg
  iintro ⟨H1, H0, HC, HS, HK, HR⟩
  dsimp only
  iapply Hk $$ %fK %fR %hag
  isplitl [H1]; · iexact H1
  isplitl [H0]; · iexact H0
  isplitl [HC]; · iexact HC
  isplitl [HS]; · iexact HS
  isplitr [HO]
  · ihave Hfree := Hfree $$ HK
    iapply Hfree $$ HR
  iexact HO

include h in
/-- The pages of the chunk 32 ahead are started into the slot just freed. -/
theorem fetch_wp (n n' : ℕ) (hN : n + 32 = n') (hn : n < 512) (w26 w27 : BitVec 32) (h26 h10) {Q : (BitVec 32 × BitVec 32 × BitVec 32 × BitVec 32 × BitVec 32) → sProp 𝕄} :
    Sc arg1 arg0 fL fT (Free e (slot n))
      ⊢ iprop((Sc arg1 arg0 fL fT (Ready e n') -∗ wp frame (wpE (defs₀ (F := F)) Variants.nat (c : Thread nD τ) bd) Set.univ (tail (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 (W n) w26 w27 (W (sch e.L n').1) (W (sch e.L n').2) h26 h10) Q)
        -∗ wp frame (wpE (defs₀ (F := F)) Variants.nat (c : Thread nD τ) bd) Set.univ (fetchTail (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 (W n) w26 w27 (W (sch e.L n').1) (W (sch e.L n').2) h26 h10) Q) := by
  have hn' : n' < 2 ^ 20 := by omega
  have hlt : (sch e.L n').1 < 2 ^ 20 := lt_of_le_of_lt (sch_le n') hn'
  have hc7 : (sch e.L n').2 ≤ 7 := sch_c7 h.lens n'
  have eit : Scalar.addi (W n) 32#32 = W n' := by
    rw [← hN]; exact W_add n 32
  rw [show slot n = slot n' from by rw [← hN, slot_add]]
  unfold fetchTail Ready
  by_cases hb' : (sch e.L n').1 < 64
  · rw [dif_pos ((cond12_iff hlt).mpr hb'), if_pos hb']
    iintro ⟨H1, H0, HF⟩ Hk
    iapply (upd bd _ (free_upd e n')) $$ HF
    iintro HF
    rw [wp_bind]
    unfold fetch3
    iapply (issue_site e bd h n' hn' hb' 0 (by omega) eit rfl rfl _ (fA0 eit hn' rfl hb' rfl hc7) (fB0 (it := W n) (b := W (sch e.L n').1) (k := W (sch e.L n').2))) $$ [H1 H0 HF]
    · isplitl [H1]; · iexact H1
      isplitl [H0]; · iexact H0
      iexact HF
    iintro ⟨H1, H0, HF⟩
    iapply (issue_site e bd h n' hn' hb' 1 (by omega) eit rfl rfl _ (fA1 eit hn' rfl hb' rfl hc7) (fB1 (it := W n) (b := W (sch e.L n').1) (k := W (sch e.L n').2))) $$ [H1 H0 HF]
    · isplitl [H1]; · iexact H1
      isplitl [H0]; · iexact H0
      iexact HF
    iintro ⟨H1, H0, HF⟩
    iapply (issue_site e bd h n' hn' hb' 2 (by omega) eit rfl rfl _ (fA2 eit hn' rfl hb' rfl hc7) (fB2 (it := W n) (b := W (sch e.L n').1) (k := W (sch e.L n').2))) $$ [H1 H0 HF]
    · isplitl [H1]; · iexact H1
      isplitl [H0]; · iexact H0
      iexact HF
    iintro ⟨H1, H0, HF⟩
    rw [show ∀ x, (pure x : Prog (TpuEff nD τ sig (Elt F) (Λ₀ F) .tc) (BitVec 32)) = Prog.ret x from fun _ => rfl, wp_ret]
    imodintro
    iapply (issue_site e bd h n' hn' hb' 3 (by omega) eit rfl rfl _ (fA3 eit hn' rfl hb' rfl hc7) (fB3 (it := W n) (b := W (sch e.L n').1) (k := W (sch e.L n').2))) $$ [H1 H0 HF]
    · isplitl [H1]; · iexact H1
      isplitl [H0]; · iexact H0
      iexact HF
    iintro ⟨H1, H0, HF⟩
    rw [min4]
    iapply Hk
    isplitl [H1]; · iexact H1
    isplitl [H0]; · iexact H0
    iexact HF
  · rw [dif_neg (fun h' => hb' ((cond12_iff hlt).mp h')), if_neg hb']
    iintro HH Hk
    iapply Hk $$ HH

/-- The states a run may be in before its `n`th trip: each trip folds keys that are what the chunk's pages hold. -/
inductive Reach : ℕ → St F → Prop
  | zero (S : St F) : Reach 0 S
  | succ (n : ℕ) (S : St F) (hb : (sch e.L n).1 < 64) (fK fR) (hag : Agrees e n fK fR) (hr : Reach n S) :
      Reach (n + 1) (step I ⟨_, hb⟩ (sch e.L n).2 (e.L (sch e.L n).1) (fun p => e.pg n p.val) (vK (slot n) fK) (vR (slot n) fR) S)

/-- What the loop holds before its `n`th trip. -/
def LoopInv (arg1 : Mref .smem S64 .i32) (arg0 : Mref .smem S64x32 .i32) (fL : Buf (Elt F) (arg1.view.loc (c : Thread nD τ))) (fT : Buf (Elt F) (arg0.view.loc (c : Thread nD τ))) (C T : sProp 𝕄) (n : ℕ) : sProp 𝕄 :=
  Sc arg1 arg0 fL fT iprop(C ∗ T ∗ bigSep (Finset.Ico n (n + 32)) (Ready e) ∗ Ow c)

include h in
/-- The main loop, from its `n`th trip, at a variant that bounds the trips left. -/
theorem loop_wp (v : ℕ) : ∀ (n : ℕ) (S : St F), 512 ≤ n + v → n ≤ 512 → Reach e I n S → ∀ {Q : (BitVec 32 × BitVec 32 × BitVec 32 × BitVec 32 × BitVec 32) → sProp 𝕄},
    LoopInv e arg1 arg0 fL fT (Cst (c := c) arg12 arg13 arg14 arg8 arg2 arg9 I) ((Stt (c := c) arg18 arg19 arg20 arg17 arg11) S) n
      ⊢ iprop((∀ N S' r, ⌜Reach e I N S' ∧ N ≤ 512 ∧ 64 ≤ (sch e.L N).1⌝ -∗ LoopInv e arg1 arg0 fL fT (Cst (c := c) arg12 arg13 arg14 arg8 arg2 arg9 I) ((Stt (c := c) arg18 arg19 arg20 arg17 arg11) S') N -∗ Q r)
        -∗ wp frame (wpE (defs₀ (F := F)) Variants.nat (c : Thread nD τ) (some v)) Set.univ
            (whileBody (F := F) arg1 harg1 arg0 harg0 cc0_scratch9 (Memref.whole cc0_scratch3) harg15 (Memref.whole main_arg2) harg5 cc0_scratch10 (Memref.whole cc0_scratch4) harg16 (Memref.whole main_arg4) harg7 arg12 harg12 arg13 harg13 arg8 harg8 arg2 harg2 arg9 harg9 arg18 harg18 arg19 harg19 arg20 harg20 arg14 harg14 arg17 harg17 arg11 harg11 (W n) (W (sch e.L n).1) (W (sch e.L n).2) (W (sch e.L (n + 32)).1) (W (sch e.L (n + 32)).2)) Q) := by
  induction v with
  | zero => ?_
  | succ v ih => ?_
  all_goals
    intro n S hnv hn hr Q
    by_cases hb : (sch e.L n).1 < 64
    swap
    · unfold whileBody
      rw [if_neg (fun h' => hb ((lt64_iff (lt_of_le_of_lt (sch_le n) (by omega))).mp h'))]
      iintro HH Hk
      rw [show ∀ x, (pure x : Prog (TpuEff nD τ sig (Elt F) (Λ₀ F) .tc) (BitVec 32 × BitVec 32 × BitVec 32 × BitVec 32 × BitVec 32)) = Prog.ret x from fun _ => rfl, wp_ret]
      imodintro
      iapply Hk $$ %n %S %_ %⟨hr, hn, Nat.le_of_not_lt hb⟩ HH
  · exact absurd (lt_512 h.lens hb) (by omega)
  have hlt := lt_512 h.lens hb
  have hn20 : n < 2 ^ 20 := by omega
  have h32 : (sch e.L (n + 32)).1 < 2 ^ 20 := lt_of_le_of_lt (sch_le _) (by omega)
  unfold LoopInv
  rw [show bigSep (Finset.Ico n (n + 32)) (Ready e) = iprop(Flying e n (cnt e.L n) 0 ∗ bigSep (Finset.Ico (n + 1) (n + 32)) (Ready e)) from by
    rw [bigSep_Ico_succ_bot (by omega), show Ready e n = Flying e n (cnt e.L n) 0 from if_pos hb]]
  iintro ⟨H1, H0, HC, HS, ⟨HF, Hring⟩, HO⟩ Hk
  iapply (trip_wp e (some (v + 1)) h I n hn20 hb _ _ (chk26 h32) S) $$ [H1 H0 HC HS HF HO]
  · isplitl [H1]; · iexact H1
    isplitl [H0]; · iexact H0
    isplitl [HC]; · iexact HC
    isplitl [HS]; · iexact HS
    isplitl [HF]; · iexact HF
    iexact HO
  iintro %fK %fR %hag ⟨H1, H0, HC, HS, HF, HO⟩
  iapply (fetch_wp e (some (v + 1)) h n (n + 32) rfl hlt _ _ _ _) $$ [H1 H0 HF]
  · isplitl [H1]; · iexact H1
    isplitl [H0]; · iexact H0
    iexact HF
  iintro ⟨H1, H0, HF⟩
  unfold tail
  have hl1 := adv_words e.L (b := (sch e.L n).1) (c := (sch e.L n).2) (sch_c7 h.lens n) (h.lens _ (by omega))
  have hl2 := adv_words e.L (b := (sch e.L (n + 32)).1) (c := (sch e.L (n + 32)).2) (sch_c7 h.lens (n + 32)) (h.lens _ (by omega))
  iapply (wp_smem (some (v + 1)) arg1 _ _ _ fL _ _ (h.hL (Scalar.minsi (W (sch e.L (n + 32)).1) 63#32) (min (sch e.L (n + 32)).1 63) (minW _ h32) (by omega) _)) $$ H1
  iintro H1
  iapply (wp_smem (some (v + 1)) arg1 _ _ _ fL _ _ (h.hL (Scalar.minsi (W (sch e.L n).1) 63#32) (min (sch e.L n).1 63) (minW _ (by omega)) (by omega) _)) $$ H1
  iintro H1
  rw [hl1.1, hl1.2, hl2.1, hl2.2, show Scalar.addi (W n) 1#32 = W (n + 1) from W_add n 1]
  iapply (wp_call Variants.nat (c : Thread nD τ) _ Set.univ v (fun u hu => by cases hu; exact Nat.lt_succ_self v))
  iapply (ih (n + 1) _ (by omega) (by omega) (Reach.succ n S hb fK fR hag hr)) $$ [H1 H0 HC HS HF HO Hring]
  · unfold LoopInv
    rw [show bigSep (Finset.Ico (n + 1) (n + 1 + 32)) (Ready e) = iprop(Ready e (n + 32) ∗ bigSep (Finset.Ico (n + 1) (n + 32)) (Ready e)) from by
      rw [show n + 1 + 32 = n + 32 + 1 from by omega, bigSep_Ico_succ_top (by omega)]]
    isplitl [H1]; · iexact H1
    isplitl [H0]; · iexact H0
    isplitl [HC]; · iexact HC
    isplitl [HS]; · iexact HS
    isplitr [HO]
    · isplitl [HF]; · iexact HF
      iexact Hring
    iexact HO
  unfold LoopInv
  iintro %N %S' %r %hN HH
  rw [wp_ret]
  imodintro
  iapply Hk $$ %N %S' %r %hN HH

end

end Cert.Kernel.Hand

end
-- ==== Proof.KB.Ring.lean ====
/-
  The ring taken apart from the two scratch buffers and the two pools, and put together again.
-/
module

public import proofs.«01_k».proof.Proof.KB.Slot
public import Idealize.SL.ProofMode.BigOp

@[expose] public section

set_option maxRecDepth 16384

noncomputable section

namespace Cert.Kernel.Hand

open Cert.Kernel Cert.Kernel.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {c : Dev nD}

/-- The ring's pages do not overlap. -/
theorem kvPages_disj (x y : Fin 32 × Fin 4) (h : x ≠ y) : Disjoint ((kvD x.1 x.2).view.set : Finset S32x256x512.Idx) (kvD y.1 y.2).view.set := by
  rw [Finset.disjoint_left]
  intro i hi hj
  have h1 := (mem_kvD x.1 x.2 i).mp hi
  have h2 := (mem_kvD y.1 y.2 i).mp hj
  exact h (Prod.ext (Fin.ext (by omega)) (Fin.ext (by omega)))
theorem rpPages_disj (x y : Fin 32 × Fin 4) (h : x ≠ y) : Disjoint ((rpD x.1 x.2).view.set : Finset S32x256x64.Idx) (rpD y.1 y.2).view.set := by
  rw [Finset.disjoint_left]
  intro i hi hj
  have h1 := (mem_rpD x.1 x.2 i).mp hi
  have h2 := (mem_rpD y.1 y.2 i).mp hj
  exact h (Prod.ext (Fin.ext (by omega)) (Fin.ext (by omega)))

/-- The ring's pages are the whole buffer. -/
theorem kvD_cover : (Finset.univ : Finset S32x256x512.Idx) = (Finset.univ : Finset (Fin 32 × Fin 4)).biUnion fun x => ((kvD x.1 x.2).view.set : Finset S32x256x512.Idx) := by
  refine (Finset.eq_univ_iff_forall.mpr fun i => ?_).symm
  have h0 : (i 0).val < 32 := (i 0).isLt
  have hm := mem_kvSlot ⟨(i 0).val, h0⟩ i rfl
  obtain ⟨p, -, hp⟩ := Finset.mem_biUnion.mp hm
  exact Finset.mem_biUnion.mpr ⟨(⟨(i 0).val, h0⟩, p), Finset.mem_univ _, hp⟩
theorem rpD_cover : (Finset.univ : Finset S32x256x64.Idx) = (Finset.univ : Finset (Fin 32 × Fin 4)).biUnion fun x => ((rpD x.1 x.2).view.set : Finset S32x256x64.Idx) := by
  refine (Finset.eq_univ_iff_forall.mpr fun i => ?_).symm
  have h0 : (i 0).val < 32 := (i 0).isLt
  have hm := mem_rpSlot ⟨(i 0).val, h0⟩ i rfl
  obtain ⟨p, -, hp⟩ := Finset.mem_biUnion.mp hm
  exact Finset.mem_biUnion.mpr ⟨(⟨(i 0).val, h0⟩, p), Finset.mem_univ _, hp⟩

/-- A buffer cut into disjoint pieces that cover it. -/
theorem cut_all {T : Type} [Fintype T] {ℓ : Loc nD τ sig} (K : T → Finset (Idx ℓ)) (hd : ∀ x y, x ≠ y → Disjoint (K x) (K y))
    (hc : (Finset.univ : Finset (Idx ℓ)) = Finset.univ.biUnion K) (P : T → Buf (Elt F) ℓ → Prop) (f : Buf (Elt F) ℓ) :
    (ℓ ↦[Finset.univ]{fullShare} f) ⊢ (bigSep Finset.univ fun x => iprop(∃ f, ⌜False → P x f⌝ ∗ (ℓ ↦[K x]{fullShare} f)) : sProp 𝕄) := by
  rw [hc, pointsTo_biUnion _ _ (fun t _ t' _ h => hd t t' h)]
  exact bigSep_mono fun x _ => forget1 (K x) (P x) f

/-- The pieces put together again. -/
theorem glue_all {T : Type} [Fintype T] [DecidableEq T] {ℓ : Loc nD τ sig} [Nonempty (Buf (Elt F) ℓ)] (K : T → Finset (Idx ℓ)) (hd : ∀ x y, x ≠ y → Disjoint (K x) (K y))
    (hc : (Finset.univ : Finset (Idx ℓ)) = Finset.univ.biUnion K) (P : T → Buf (Elt F) ℓ → Prop) (f₀ : Buf (Elt F) ℓ) :
    (bigSep Finset.univ fun x => iprop(∃ f, ⌜False → P x f⌝ ∗ (ℓ ↦[K x]{fullShare} f)) : sProp 𝕄) ⊢ iprop(∃ f, (ℓ ↦[Finset.univ]{fullShare} f)) := by
  refine BIBase.Entails.trans (bigSep_mono (Ψ := fun x => iprop(∃ f, (ℓ ↦[K x]{fullShare} f))) fun x _ => ?_) ?_
  · show iprop(∃ f, ⌜False → P x f⌝ ∗ (ℓ ↦[K x]{fullShare} f)) ⊢ (iprop(∃ f, (ℓ ↦[K x]{fullShare} f)) : sProp 𝕄)
    iintro ⟨%f, -, H⟩
    iexists f
    iexact H
  refine BIBase.Entails.trans (bigSep_exists_pi Finset.univ fun x (f : Buf (Elt F) ℓ) => (iprop(ℓ ↦[K x]{fullShare} f) : sProp 𝕄)) ?_
  iintro ⟨%fs, H⟩
  ihave H := (pointsTo_biUnion_join Finset.univ K fs f₀ (fun t _ t' _ h => hd t t' h)) $$ H
  icases H with ⟨%g, -, H⟩
  iexists g
  rw [hc]
  iexact H

/-- The 128 read tokens, by slot and page. -/
theorem toks_pages (A : ℕ → sProp 𝕄) :
    bigSep (Finset.range 128) A = bigSep (Finset.univ : Finset (Fin 32 × Fin 4)) fun x => A (4 * x.1.val + x.2.val) := by
  have hr : Finset.range 128 = (Finset.univ : Finset (Fin 32 × Fin 4)).image fun x => 4 * x.1.val + x.2.val := by
    ext i
    rw [Finset.mem_range, Finset.mem_image]
    constructor
    · intro h
      exact ⟨(⟨i / 4, by omega⟩, ⟨i % 4, by omega⟩), Finset.mem_univ _, by show 4 * (i / 4) + i % 4 = i; omega⟩
    · rintro ⟨x, -, rfl⟩
      have := x.1.isLt; have := x.2.isLt; omega
  rw [hr, Idealize.SL.BI.bigSep_image_of_injOn]
  intro x _ y _ h
  have hx := x.2.isLt; have hy := y.2.isLt
  have h' : 4 * x.1.val + x.2.val = 4 * y.1.val + y.2.val := h
  exact Prod.ext (Fin.ext (by omega)) (Fin.ext (by omega))

variable (e : Env F c)

/-- The slots, by the turn each is used in. -/
theorem slots_turns (A : Fin 32 → sProp 𝕄) (n : ℕ) : bigSep (Finset.univ : Finset (Fin 32)) A = bigSep (Finset.Ico n (n + 32)) fun k => A (slot k) := by
  have hr : (Finset.univ : Finset (Fin 32)) = (Finset.Ico n (n + 32)).image slot := by
    refine (Finset.eq_univ_iff_forall.mpr fun i => ?_).symm
    refine Finset.mem_image.mpr ⟨n + (i.val + 32 - n % 32) % 32, Finset.mem_Ico.mpr ⟨by omega, ?_⟩, Fin.ext ?_⟩
    · have := Nat.mod_lt (i.val + 32 - n % 32) (show 0 < 32 by norm_num); omega
    · show (n + (i.val + 32 - n % 32) % 32) % 32 = i.val
      have := i.isLt; omega
  rw [hr, Idealize.SL.BI.bigSep_image_of_injOn]
  intro x hx y hy h
  have hx := Finset.mem_Ico.mp (Finset.mem_coe.mp hx); have hy := Finset.mem_Ico.mp (Finset.mem_coe.mp hy)
  have h' : x % 32 = y % 32 := congrArg Fin.val h
  omega

/-- The pages' pieces, apart. -/
def Pages : sProp 𝕄 :=
  iprop((bigSep (Finset.univ : Finset (Fin 32 × Fin 4)) fun x => iprop(∃ f, ⌜False → AgK e x.1 x.2 0 f⌝ ∗ ((kvD x.1 x.2).view.loc (c : Thread nD τ) ↦[(kvD x.1 x.2).view.set]{fullShare} f)))
    ∗ (bigSep (Finset.univ : Finset (Fin 32 × Fin 4)) fun x => iprop(∃ f, ⌜False → AgR e x.1 x.2 0 f⌝ ∗ ((rpD x.1 x.2).view.loc (c : Thread nD τ) ↦[(rpD x.1 x.2).view.set]{fullShare} f)))
    ∗ (bigSep (Finset.univ : Finset (Fin 32 × Fin 4)) fun x => iprop((Memref.whole main_arg2).view.loc (c : Thread nD τ) ↦[Finset.univ]{tk x.1 x.2} e.PK))
    ∗ (bigSep (Finset.univ : Finset (Fin 32 × Fin 4)) fun x => iprop((Memref.whole main_arg4).view.loc (c : Thread nD τ) ↦[Finset.univ]{tk x.1 x.2} e.PR)))

theorem pages_eq : (bigSep (Finset.univ : Finset (Fin 32 × Fin 4)) fun x => PgFree e x.1 x.2 : sProp 𝕄) = Pages e := by
  unfold Pages PgFree Pg
  rw [bigSep_sep', bigSep_sep', bigSep_sep']

/-- The free slots are the cells and the pages. -/
theorem free_all : (bigSep (Finset.univ : Finset (Fin 32)) (Free e) : sProp 𝕄)
    = iprop((bigSep (Finset.univ : Finset (Fin 32)) fun s => semVal ((c : Thread nD τ), SemLoc.dma (kvC s)) 0)
      ∗ (bigSep (Finset.univ : Finset (Fin 32)) fun s => semVal ((c : Thread nD τ), SemLoc.dma (rpC s)) 0) ∗ Pages e) := by
  rw [← pages_eq, bigSep_univ_prod, ← bigSep_sep', ← bigSep_sep']
  refine bigSep_congr fun s _ => ?_
  unfold Free
  rw [show (Finset.univ : Finset (Fin 4)) = {0, 1, 2, 3} by decide, bigSep_insert (by decide), bigSep_insert (by decide), bigSep_insert (by decide), bigSep_singleton]
  rfl

/-- What is left of the two pools while the ring holds its read tokens. -/
def Pools : sProp 𝕄 :=
  iprop(((Memref.whole main_arg2).view.loc (c : Thread nD τ) ↦[Finset.univ]{Transfers.shareDrop fullShare 128} e.PK)
    ∗ ((Memref.whole main_arg4).view.loc (c : Thread nD τ) ↦[Finset.univ]{Transfers.shareDrop fullShare 128} e.PR))

/-- The ring from the scratch buffers, the pools and the cells. -/
theorem ring_open :
    iprop((∃ f, ((Memref.whole cc0_scratch3).view.loc (c : Thread nD τ) ↦[Finset.univ]{fullShare} f)) ∗ (∃ f, ((Memref.whole cc0_scratch4).view.loc (c : Thread nD τ) ↦[Finset.univ]{fullShare} f))
      ∗ ((Memref.whole main_arg2).view.loc (c : Thread nD τ) ↦[Finset.univ]{fullShare} e.PK) ∗ ((Memref.whole main_arg4).view.loc (c : Thread nD τ) ↦[Finset.univ]{fullShare} e.PR)
      ∗ (bigSep (Finset.univ : Finset (Fin 32)) fun s => semVal ((c : Thread nD τ), SemLoc.dma (kvC s)) 0)
      ∗ (bigSep (Finset.univ : Finset (Fin 32)) fun s => semVal ((c : Thread nD τ), SemLoc.dma (rpC s)) 0))
      ⊢ (iprop(Pools e ∗ bigSep (Finset.univ : Finset (Fin 32)) (Free e)) : sProp 𝕄) := by
  rw [free_all]
  unfold Pools Pages
  iintro ⟨⟨%f3, H3⟩, ⟨%f4, H4⟩, HK, HR, HA, HB⟩
  ihave HK := (Transfers.pointsTo_toks_range fullShare 128).1 $$ HK
  ihave HR := (Transfers.pointsTo_toks_range fullShare 128).1 $$ HR
  icases HK with ⟨HK, HKs⟩
  icases HR with ⟨HR, HRs⟩
  isplitl [HK HR]; · isplitl [HK] <;> iassumption
  isplitl [HA]; · iexact HA
  isplitl [HB]; · iexact HB
  isplitl [H3]; · iapply (cut_all (ℓ := (Memref.whole cc0_scratch3).view.loc (c : Thread nD τ)) (fun x : Fin 32 × Fin 4 => (kvD x.1 x.2).view.set) kvPages_disj kvD_cover (fun x f => AgK e x.1 x.2 0 f) f3) $$ H3
  isplitl [H4]; · iapply (cut_all (ℓ := (Memref.whole cc0_scratch4).view.loc (c : Thread nD τ)) (fun x : Fin 32 × Fin 4 => (rpD x.1 x.2).view.set) rpPages_disj rpD_cover (fun x f => AgR e x.1 x.2 0 f) f4) $$ H4
  isplitl [HKs]
  · iapply (show _ ⊢ _ from BIBase.Entails.of_eq (toks_pages (F := F) fun i => iprop((Memref.whole main_arg2).view.loc (c : Thread nD τ) ↦[Finset.univ]{Transfers.shareTokN fullShare i} e.PK))) $$ HKs
  · iapply (show _ ⊢ _ from BIBase.Entails.of_eq (toks_pages (F := F) fun i => iprop((Memref.whole main_arg4).view.loc (c : Thread nD τ) ↦[Finset.univ]{Transfers.shareTokN fullShare i} e.PR))) $$ HRs

/-- And back. -/
theorem ring_close (f3 : Buf (Elt F) ((Memref.whole cc0_scratch3).view.loc (c : Thread nD τ))) (f4 : Buf (Elt F) ((Memref.whole cc0_scratch4).view.loc (c : Thread nD τ))) :
    iprop(Pools e ∗ bigSep (Finset.univ : Finset (Fin 32)) (Free e))
      ⊢ (iprop((∃ f, ((Memref.whole cc0_scratch3).view.loc (c : Thread nD τ) ↦[Finset.univ]{fullShare} f)) ∗ (∃ f, ((Memref.whole cc0_scratch4).view.loc (c : Thread nD τ) ↦[Finset.univ]{fullShare} f))
      ∗ ((Memref.whole main_arg2).view.loc (c : Thread nD τ) ↦[Finset.univ]{fullShare} e.PK) ∗ ((Memref.whole main_arg4).view.loc (c : Thread nD τ) ↦[Finset.univ]{fullShare} e.PR)
      ∗ (bigSep (Finset.univ : Finset (Fin 32)) fun s => semVal ((c : Thread nD τ), SemLoc.dma (kvC s)) 0)
      ∗ (bigSep (Finset.univ : Finset (Fin 32)) fun s => semVal ((c : Thread nD τ), SemLoc.dma (rpC s)) 0)) : sProp 𝕄) := by
  rw [free_all]
  unfold Pools Pages
  haveI : Nonempty (Buf (Elt F) ((Memref.whole cc0_scratch3).view.loc (c : Thread nD τ))) := ⟨f3⟩
  haveI : Nonempty (Buf (Elt F) ((Memref.whole cc0_scratch4).view.loc (c : Thread nD τ))) := ⟨f4⟩
  iintro ⟨⟨HK, HR⟩, HA, HB, H3, H4, HKs, HRs⟩
  isplitl [H3]; · iapply (glue_all (ℓ := (Memref.whole cc0_scratch3).view.loc (c : Thread nD τ)) (fun x : Fin 32 × Fin 4 => (kvD x.1 x.2).view.set) kvPages_disj kvD_cover (fun x f => AgK e x.1 x.2 0 f) f3) $$ H3
  isplitl [H4]; · iapply (glue_all (ℓ := (Memref.whole cc0_scratch4).view.loc (c : Thread nD τ)) (fun x : Fin 32 × Fin 4 => (rpD x.1 x.2).view.set) rpPages_disj rpD_cover (fun x f => AgR e x.1 x.2 0 f) f4) $$ H4
  isplitl [HK HKs]
  · iapply (Transfers.pointsTo_toks_range fullShare 128).2
    isplitl [HK]; · iexact HK
    iapply (show _ ⊢ _ from BIBase.Entails.of_eq (toks_pages (F := F) fun i => iprop((Memref.whole main_arg2).view.loc (c : Thread nD τ) ↦[Finset.univ]{Transfers.shareTokN fullShare i} e.PK)).symm) $$ HKs
  isplitl [HR HRs]
  · iapply (Transfers.pointsTo_toks_range fullShare 128).2
    isplitl [HR]; · iexact HR
    iapply (show _ ⊢ _ from BIBase.Entails.of_eq (toks_pages (F := F) fun i => iprop((Memref.whole main_arg4).view.loc (c : Thread nD τ) ↦[Finset.univ]{Transfers.shareTokN fullShare i} e.PR)).symm) $$ HRs
  isplitl [HA] <;> iassumption

end Cert.Kernel.Hand
-- ==== Proof.KB.Prologue.lean ====
/-
  The first loop: start the pages of the first 32 chunks.
-/
module

public import proofs.«01_k».proof.Proof.KB.Trip
public import proofs.«01_k».proof.Proof.KB.Ring

@[expose] public section

set_option maxRecDepth 16384

noncomputable section

namespace Cert.Kernel.Hand

open Cert.Kernel Cert.Kernel.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {c : Dev nD} (e : Env F c) (bd : Option ℕ)

theorem iv_word (k : ℕ) : Scf.iv 0#32 1#32 k = W k := by
  unfold Scf.iv W
  simp

section
variable {arg0 : Mref .smem S64x32 .i32} {harg0 : arg0.IsWhole} {arg1 : Mref .smem S64 .i32} {harg1 : arg1.IsWhole} {arg2 : Mref .smem S64x1 .f32} {harg2 : arg2.IsWhole} {arg3 : Mref .hbm S64x32x512 .bf16} {harg3 : arg3.IsWhole} {arg4 : Mref .hbm S64x32x64 .bf16} {harg4 : arg4.IsWhole} {harg5 : (Memref.whole main_arg2).IsWhole} {arg6 : Mref .hbm S2560x64 .f32} {harg6 : arg6.IsWhole} {harg7 : (Memref.whole main_arg4).IsWhole} {arg8 : Mref .vmem S64x1x512 .fp8e4m3} {harg8 : arg8.IsWhole} {arg9 : Mref .vmem S64x1x64 .bf16} {harg9 : arg9.IsWhole} {arg10 : Mref .hbm S64x1x32x512 .bf16} {harg10 : arg10.IsWhole} {arg11 : Mref .vmem S64x1x32 .f32} {harg11 : arg11.IsWhole} {arg12 : Mref .vmem S64x32x512 .bf16} {harg12 : arg12.IsWhole} {arg13 : Mref .vmem S64x32x64 .bf16} {harg13 : arg13.IsWhole} {arg14 : Mref .vmem S2560x64 .f32} {harg14 : arg14.IsWhole} {harg15 : (Memref.whole cc0_scratch3).IsWhole} {harg16 : (Memref.whole cc0_scratch4).IsWhole} {arg17 : Mref .vmem S64x32x512 .bf16} {harg17 : arg17.IsWhole} {arg18 : Mref .vmem S32x128 .f32} {harg18 : arg18.IsWhole} {arg19 : Mref .vmem S32x128 .f32} {harg19 : arg19.IsWhole} {arg20 : Mref .vmem S32x512 .f32} {harg20 : arg20.IsWhole} {arg23 : DmaSems sig S3} {arg24 : DmaSems sig S_}
variable {fL : Buf (Elt F) (arg1.view.loc (c : Thread nD τ))} {fT : Buf (Elt F) (arg0.view.loc (c : Thread nD τ))}
  (h : e.Reads arg1 arg0 fL fT)

include h in
/-- The pointer's step at the end of a trip. -/
theorem proRest_wp (n : ℕ) (hn : n < 2 ^ 20) (hw) {Q : BitVec 32 × BitVec 32 → sProp 𝕄} (R : sProp 𝕄) :
    Sc arg1 arg0 fL fT R ⊢ iprop((Sc arg1 arg0 fL fT R -∗ Q (W (sch e.L (n + 1)).1, W (sch e.L (n + 1)).2)) -∗ wp frame (wpE (defs₀ (F := F)) Variants.nat (c : Thread nD τ) bd) Set.univ (proRest (F := F) arg0 harg0 arg1 harg1 arg2 harg2 arg3 harg3 arg4 harg4 (Memref.whole main_arg2) harg5 arg6 harg6 (Memref.whole main_arg4) harg7 arg8 harg8 arg9 harg9 arg10 harg10 arg11 harg11 arg12 harg12 arg13 harg13 arg14 harg14 (Memref.whole cc0_scratch3) harg15 (Memref.whole cc0_scratch4) harg16 arg17 harg17 arg18 harg18 arg19 harg19 arg20 harg20 cc0_scratch9 cc0_scratch10 arg23 arg24 (W (sch e.L n).1) (W (sch e.L n).2) hw) Q) := by
  have hlt : (sch e.L n).1 < 2 ^ 20 := lt_of_le_of_lt (sch_le n) hn
  obtain ⟨ha, hb⟩ := adv_words e.L (b := (sch e.L n).1) (c := (sch e.L n).2) (sch_c7 h.lens n) (h.lens _ (by omega))
  have ha : _ = W (sch e.L (n + 1)).1 := ha
  have hb : _ = W (sch e.L (n + 1)).2 := hb
  unfold proRest
  iintro ⟨H1, H0, HR⟩ Hk
  iapply (wp_smem bd arg1 _ _ _ fL _ _ (h.hL (Scalar.minsi (W (sch e.L n).1) 63#32) (min (sch e.L n).1 63) (minW _ hlt) (by omega) _)) $$ H1
  iintro H1
  rw [ha, hb, show ∀ x, (pure x : Prog (TpuEff nD τ sig (Elt F) (Λ₀ F) .tc) (BitVec 32 × BitVec 32)) = Prog.ret x from fun _ => rfl, wp_ret]
  imodintro
  iapply Hk
  isplitl [H1]; · iexact H1
  isplitl [H0]; · iexact H0
  iexact HR

include h in
/-- A trip starts one chunk's pages and steps the pointer. -/
theorem pro_wp (t : Fin k0_t1_loop.trips) (n : ℕ) (htn : t.val = n) (hn : n < 32) :
    Sc arg1 arg0 fL fT (Free e (slot n))
      ⊢ wp frame (wpE (defs₀ (F := F)) Variants.nat (c : Thread nD τ) bd) Set.univ (k0_t1_body (F := F) arg0 harg0 arg1 harg1 arg2 harg2 arg3 harg3 arg4 harg4 (Memref.whole main_arg2) harg5 arg6 harg6 (Memref.whole main_arg4) harg7 arg8 harg8 arg9 harg9 arg10 harg10 arg11 harg11 arg12 harg12 arg13 harg13 arg14 harg14 (Memref.whole cc0_scratch3) harg15 (Memref.whole cc0_scratch4) harg16 arg17 harg17 arg18 harg18 arg19 harg19 arg20 harg20 cc0_scratch9 cc0_scratch10 arg23 arg24 t (W (sch e.L n).1, W (sch e.L n).2))
          fun acc => iprop(⌜acc = (W (sch e.L (n + 1)).1, W (sch e.L (n + 1)).2)⌝ ∗ Sc arg1 arg0 fL fT (Ready e n)) := by
  have hn' : n < 2 ^ 20 := by omega
  have hlt : (sch e.L n).1 < 2 ^ 20 := lt_of_le_of_lt (sch_le n) hn'
  have hb' : (sch e.L n).1 < 64 := lt_of_le_of_lt (sch_le n) (by omega)
  have hc7 : (sch e.L n).2 ≤ 7 := sch_c7 h.lens n
  have eit : Scf.iv 0#32 1#32 t.val = W n := by rw [iv_word, htn]
  rw [proBody_eq]
  unfold proBody
  refine BIBase.Entails.trans ?_ (wp_assumed bd _ (chk1 hlt) _)
  dsimp only
  rw [dif_pos ((cond1_iff hlt).mpr hb')]
  iintro ⟨H1, H0, HF⟩
  iapply (upd bd _ (free_upd e n)) $$ HF
  iintro HF
  rw [wp_bind]
  unfold pro3
  iapply (issue_site e bd h n hn' hb' 0 (by omega) eit rfl rfl _ (pA0 rfl hb' rfl hc7 t) (pB0 (b := W (sch e.L n).1) (k := W (sch e.L n).2) t)) $$ [H1 H0 HF]
  · isplitl [H1]; · iexact H1
    isplitl [H0]; · iexact H0
    iexact HF
  iintro ⟨H1, H0, HF⟩
  iapply (issue_site e bd h n hn' hb' 1 (by omega) eit rfl rfl _ (pA1 rfl hb' rfl hc7 t) (pB1 (b := W (sch e.L n).1) (k := W (sch e.L n).2) t)) $$ [H1 H0 HF]
  · isplitl [H1]; · iexact H1
    isplitl [H0]; · iexact H0
    iexact HF
  iintro ⟨H1, H0, HF⟩
  iapply (issue_site e bd h n hn' hb' 2 (by omega) eit rfl rfl _ (pA2 rfl hb' rfl hc7 t) (pB2 (b := W (sch e.L n).1) (k := W (sch e.L n).2) t)) $$ [H1 H0 HF]
  · isplitl [H1]; · iexact H1
    isplitl [H0]; · iexact H0
    iexact HF
  iintro ⟨H1, H0, HF⟩
  rw [show ∀ x, (pure x : Prog (TpuEff nD τ sig (Elt F) (Λ₀ F) .tc) (BitVec 32)) = Prog.ret x from fun _ => rfl, wp_ret]
  imodintro
  iapply (issue_site e bd h n hn' hb' 3 (by omega) eit rfl rfl _ (pA3 rfl hb' rfl hc7 t) (pB3 (b := W (sch e.L n).1) (k := W (sch e.L n).2) t)) $$ [H1 H0 HF]
  · isplitl [H1]; · iexact H1
    isplitl [H0]; · iexact H0
    iexact HF
  iintro ⟨H1, H0, HF⟩
  rw [min4]
  iapply (proRest_wp e bd h n hn' _ (Ready e n)) $$ [H1 H0 HF]
  · unfold Ready
    rw [if_pos hb']
    isplitl [H1]; · iexact H1
    isplitl [H0]; · iexact H0
    iexact HF
  iintro HH
  isplitr; · ipureintro; rfl
  iexact HH

/-- The ring part way through the first loop. -/
def Filling (t : ℕ) : sProp 𝕄 := iprop(bigSep (Finset.Ico 0 t) (Ready e) ∗ bigSep (Finset.Ico t 32) fun k => Free e (slot k))

include h in
/-- The whole first loop. -/
theorem prologue_wp {β : Type} {kk : BitVec 32 × BitVec 32 → Prog (TpuEff nD τ sig (Elt F) (Λ₀ F) .tc) β} {Q : β → sProp 𝕄} :
    Sc arg1 arg0 fL fT (bigSep (Finset.univ : Finset (Fin 32)) (Free e))
      ⊢ iprop((Sc arg1 arg0 fL fT (bigSep (Finset.Ico 0 (0 + 32)) (Ready e)) -∗ wp frame (wpE (defs₀ (F := F)) Variants.nat (c : Thread nD τ) bd) Set.univ (kk (W (sch e.L (0 + 32)).1, W (sch e.L (0 + 32)).2)) Q)
        -∗ wp frame (wpE (defs₀ (F := F)) Variants.nat (c : Thread nD τ) bd) Set.univ (Scf.Loop.for k0_t1_loop k0_t1_ok (0#32, 0#32) (k0_t1_body (F := F) arg0 harg0 arg1 harg1 arg2 harg2 arg3 harg3 arg4 harg4 (Memref.whole main_arg2) harg5 arg6 harg6 (Memref.whole main_arg4) harg7 arg8 harg8 arg9 harg9 arg10 harg10 arg11 harg11 arg12 harg12 arg13 harg13 arg14 harg14 (Memref.whole cc0_scratch3) harg15 (Memref.whole cc0_scratch4) harg16 arg17 harg17 arg18 harg18 arg19 harg19 arg20 harg20 cc0_scratch9 cc0_scratch10 arg23 arg24) >>= kk) Q) := by
  have htr : k0_t1_loop.trips = 32 := by decide
  have body (t : Fin k0_t1_loop.trips) (acc : BitVec 32 × BitVec 32) :
      iprop(⌜acc = (W (sch e.L t.val).1, W (sch e.L t.val).2)⌝ ∗ Sc arg1 arg0 fL fT (Filling e t.val))
        ⊢ wp frame (wpE (defs₀ (F := F)) Variants.nat (c : Thread nD τ) bd) Set.univ (k0_t1_body (F := F) arg0 harg0 arg1 harg1 arg2 harg2 arg3 harg3 arg4 harg4 (Memref.whole main_arg2) harg5 arg6 harg6 (Memref.whole main_arg4) harg7 arg8 harg8 arg9 harg9 arg10 harg10 arg11 harg11 arg12 harg12 arg13 harg13 arg14 harg14 (Memref.whole cc0_scratch3) harg15 (Memref.whole cc0_scratch4) harg16 arg17 harg17 arg18 harg18 arg19 harg19 arg20 harg20 cc0_scratch9 cc0_scratch10 arg23 arg24 t acc)
            fun acc => iprop(⌜acc = (W (sch e.L (t.val + 1)).1, W (sch e.L (t.val + 1)).2)⌝ ∗ Sc arg1 arg0 fL fT (Filling e (t.val + 1))) := by
    have ht : t.val < 32 := lt_of_lt_of_eq t.isLt htr
    unfold Filling
    rw [bigSep_Ico_succ_bot ht, bigSep_Ico_succ_top (Nat.zero_le _)]
    iintro ⟨%hacc, H1, H0, HR, HF, HFs⟩
    subst hacc
    iapply (wp_wand_r frame (wpE (defs₀ (F := F)) Variants.nat (c : Thread nD τ) bd) Set.univ)
    isplitl [H1 H0 HF]
    · iapply (pro_wp e bd h t t.val rfl ht) $$ [H1 H0 HF]
      isplitl [H1]; · iexact H1
      isplitl [H0]; · iexact H0
      iexact HF
    iintro %acc ⟨%hacc, H1, H0, HF⟩
    isplitr; · ipureintro; exact hacc
    isplitl [H1]; · iexact H1
    isplitl [H0]; · iexact H0
    isplitl [HF HR]
    · isplitl [HF]; · iexact HF
      iexact HR
    iexact HFs
  have hw := Scf.wp_for_bind frame (wpE (defs₀ (F := F)) Variants.nat (c : Thread nD τ) bd) Set.univ k0_t1_loop.lb k0_t1_loop.ub k0_t1_loop.st k0_t1_ok (0#32, 0#32)
    (k0_t1_body (F := F) arg0 harg0 arg1 harg1 arg2 harg2 arg3 harg3 arg4 harg4 (Memref.whole main_arg2) harg5 arg6 harg6 (Memref.whole main_arg4) harg7 arg8 harg8 arg9 harg9 arg10 harg10 arg11 harg11 arg12 harg12 arg13 harg13 arg14 harg14 (Memref.whole cc0_scratch3) harg15 (Memref.whole cc0_scratch4) harg16 arg17 harg17 arg18 harg18 arg19 harg19 arg20 harg20 cc0_scratch9 cc0_scratch10 arg23 arg24) (fun t acc => iprop(⌜acc = (W (sch e.L t).1, W (sch e.L t).2)⌝ ∗ Sc arg1 arg0 fL fT (Filling e t))) body (kk := kk) (Q := Q)
  rw [slots_turns (Free e) 0]
  refine BIBase.Entails.trans ?_ (BIBase.Entails.trans hw ?_)
  · unfold Filling
    rw [Finset.Ico_self, bigSep_empty]
    iintro ⟨H1, H0, HF⟩
    isplitr; · ipureintro; rfl
    isplitl [H1]; · iexact H1
    isplitl [H0]; · iexact H0
    isplitr; · iempintro
    iexact HF
  · rw [show Scf.trips k0_t1_loop.lb k0_t1_loop.ub k0_t1_loop.st = 32 from htr]
    unfold Filling
    rw [Finset.Ico_self, bigSep_empty]
    iintro Hw Hk
    iapply Hw
    iintro %acc ⟨%hacc, H1, H0, HF, -⟩
    subst hacc
    iapply Hk
    isplitl [H1]; · iexact H1
    isplitl [H0]; · iexact H0
    iexact HF
end

end Cert.Kernel.Hand

end
-- ==== Proof.KB.Body.lean ====
/-
  The kernel's body: load the queries and the scales, fill the ring, run the loop, write the output out.
-/
module

public import proofs.«01_k».proof.Proof.KB.Prologue

@[expose] public section

set_option maxRecDepth 16384

noncomputable section

namespace Cert.Kernel.Hand

open Cert.Kernel Cert.Kernel.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {c : Dev nD} (e : Env F c) (bd : Option ℕ)

section
variable {sp sp' : Space} {sh : Shape} {et : EltTy}

/-- What a whole copy delivers: the destination written and the source back. -/
def DL (src : Mref sp sh et) (dst : Mref sp' sh et) (fs : Buf (Elt F) (src.view.loc (c : Thread nD τ))) (fd : Buf (Elt F) (dst.view.loc (c : Thread nD τ))) : sProp 𝕄 :=
  iprop((dst.view.loc (c : Thread nD τ) ↦[Finset.univ]{fullShare} (dst.view.write (Elt F) fd (src.view.read (Elt F) fs) Finset.univ)) ∗ (src.view.loc (c : Thread nD τ) ↦[Finset.univ]{fullShare} fs))

/-- A whole copy started. -/
theorem start_wp (src : Mref sp sh et) (dst : Mref sp' sh et) (sm : DmaSem sig) (hs : src.view.set = Finset.univ) (hN0 : 0 < dst.view.dmaCredit)
    (h1 h2 h3) (fs : Buf (Elt F) (src.view.loc (c : Thread nD τ))) (fd : Buf (Elt F) (dst.view.loc (c : Thread nD τ))) {α : Type} (k : PUnit → Prog (TpuEff nD τ sig (Elt F) (Λ₀ F) .tc) α) {Q : α → sProp 𝕄} :
    iprop((src.view.loc (c : Thread nD τ) ↦[Finset.univ]{fullShare} fs) ∗ (dst.view.loc (c : Thread nD τ) ↦[Finset.univ]{fullShare} fd) ∗ semVal ((c : Thread nD τ), SemLoc.dma sm) 0)
      ⊢ iprop((Transfers.Flight EC (c : Thread nD τ) (.dma sm) () dst.view.dmaCredit (DL src dst fs fd) -∗ wp frame (wpE (defs₀ (F := F)) Variants.nat (c : Thread nD τ) bd) Set.univ (k ⟨⟩) Q)
        -∗ wp frame (wpE (defs₀ (F := F)) Variants.nat (c : Thread nD τ) bd) Set.univ ((Prog.lift (TpuEff.enqueueDma (nD := nD) src (.here dst) (.dma sm) h1 h2 h3) : Prog (TpuEff nD τ sig (Elt F) (Λ₀ F) .tc) _) >>= k) Q) := by
  have key := Transfers.wp_dmaLocal EC (defs := defs₀ (F := F)) Variants.nat (c : Thread nD τ) bd (Q := Q) (via := .same) (sm := SemLoc.dma sm) (hsrc := h1) (hdst := h2) (hsem := h3) (k := k) (q := fullShare) (fs := fs) (fd := fd)
    () dst.view.dmaCredit rfl hN0 (Finset.subset_univ _)
  rw [hs] at key
  exact key

/-- A whole copy waited for. -/
theorem land_wp {sp'' : Space} (src : Mref sp sh et) (srcw : Mref sp'' sh et) (dst : Mref sp' sh et) (sm : DmaSem sig)
    (h1 h2) (fs : Buf (Elt F) (src.view.loc (c : Thread nD τ))) (fd : Buf (Elt F) (dst.view.loc (c : Thread nD τ))) {α : Type} (k : PUnit → Prog (TpuEff nD τ sig (Elt F) (Λ₀ F) .tc) α) {Q : α → sProp 𝕄} :
    iprop(Transfers.Flight EC (c : Thread nD τ) (.dma sm) () dst.view.dmaCredit (DL src dst fs fd) ∗ Ow c)
      ⊢ iprop((iprop(Hv (c := c) dst (src.view.read (Elt F) fs) ∗ (src.view.loc (c : Thread nD τ) ↦[Finset.univ]{fullShare} fs) ∗ semVal ((c : Thread nD τ), SemLoc.dma sm) 0 ∗ Ow c) -∗ wp frame (wpE (defs₀ (F := F)) Variants.nat (c : Thread nD τ) bd) Set.univ (k ⟨⟩) Q)
        -∗ wp frame (wpE (defs₀ (F := F)) Variants.nat (c : Thread nD τ) bd) Set.univ ((Prog.lift (TpuEff.waitDma2 sm srcw dst h1 h2) : Prog (TpuEff nD τ sig (Elt F) (Λ₀ F) .tc) _) >>= k) Q) := by
  unfold Ow Hv
  iintro ⟨HF, %Wt, HO⟩ Hk
  iapply (Transfers.wp_waitLocal EC Variants.nat (c : Thread nD τ) bd () (hN := rfl) (W := Wt)) $$ [HF HO]
  · isplitl [HF]; · iexact HF
    iexact HO
  unfold DL
  iintro ⟨⟨Hd, Hs⟩, Hsem, HO⟩
  iapply Hk
  isplitl [Hd]
  · iexists _
    isplitr; swap; · iexact Hd
    ipureintro; exact View.read_write_univ _ _
  isplitl [Hs]; · iexact Hs
  isplitl [Hsem]; · iexact Hsem
  iexists _
  iexact HO
end

/-- A buffer whole at some contents is held at what is read of it. -/
theorem Hv_intro {sp : Space} {sh : Shape} {et : EltTy} (m : Mref sp sh et) (f : Buf (Elt F) (m.view.loc (c : Thread nD τ))) :
    (m.view.loc (c : Thread nD τ) ↦[Finset.univ]{fullShare} f) ⊢ (Hv (c := c) m (m.view.read (Elt F) f) : sProp 𝕄) := by
  unfold Hv
  iintro H
  iexists f
  isplitr; · ipureintro; rfl
  iexact H
theorem Hv_open {sp : Space} {sh : Shape} {et : EltTy} (m : Mref sp sh et) (v : sh.Idx → Elt F et) :
    (Hv (c := c) m v : sProp 𝕄) ⊢ iprop(∃ f, ⌜m.view.read (Elt F) f = v⌝ ∗ (m.view.loc (c : Thread nD τ) ↦[Finset.univ]{fullShare} f)) := .rfl
theorem Hv_elim {sp : Space} {sh : Shape} {et : EltTy} (m : Mref sp sh et) (v : sh.Idx → Elt F et) :
    (Hv (c := c) m v : sProp 𝕄) ⊢ iprop(∃ f, (m.view.loc (c : Thread nD τ) ↦[Finset.univ]{fullShare} f)) := by
  unfold Hv
  iintro ⟨%f, -, H⟩
  iexists f
  iexact H

/-- The result the kernel writes itself, as it is written. -/
abbrev outM : Mref .hbm S64x32x512 .bf16 := (((Memref.whole main_v2_0).slice (Rect.unit (s := S64x1x32x512) ![0, 0, 0, 0] S64x1x32x512.size inb_S64x1x32x512_S64x1x32x512_0_0_0_0) (fun _ => rfl)).squeeze S64x32x512 squeezes_S64x1x32x512_S64x32x512)
/-- The cells of the three loads. -/
abbrev ldC0 : DmaSem sig := ((cc0_scratch11.slice (Rect.unit (s := S3) ![0] S1.size inb_S3_S1_0)).squeeze S_ squeezes_S1_S_).sem
abbrev ldC1 : DmaSem sig := ((cc0_scratch11.slice (Rect.unit (s := S3) ![1] S1.size inb_S3_S1_1)).squeeze S_ squeezes_S1_S_).sem
abbrev ldC2 : DmaSem sig := ((cc0_scratch11.slice (Rect.unit (s := S3) ![2] S1.size inb_S3_S1_2)).squeeze S_ squeezes_S1_S_).sem

/-- The scratch buffers, at some contents. -/
def Scr (c : Dev nD) : sProp 𝕄 := iprop((∃ f, ((Memref.whole cc0_scratch0).view.loc (c : Thread nD τ) ↦[Finset.univ]{fullShare} f)) ∗ (∃ f, ((Memref.whole cc0_scratch1).view.loc (c : Thread nD τ) ↦[Finset.univ]{fullShare} f)) ∗ (∃ f, ((Memref.whole cc0_scratch2).view.loc (c : Thread nD τ) ↦[Finset.univ]{fullShare} f)) ∗ (∃ f, ((Memref.whole cc0_scratch3).view.loc (c : Thread nD τ) ↦[Finset.univ]{fullShare} f)) ∗ (∃ f, ((Memref.whole cc0_scratch4).view.loc (c : Thread nD τ) ↦[Finset.univ]{fullShare} f)) ∗ (∃ f, ((Memref.whole cc0_scratch5).view.loc (c : Thread nD τ) ↦[Finset.univ]{fullShare} f)) ∗ (∃ f, ((Memref.whole cc0_scratch6).view.loc (c : Thread nD τ) ↦[Finset.univ]{fullShare} f)) ∗ (∃ f, ((Memref.whole cc0_scratch7).view.loc (c : Thread nD τ) ↦[Finset.univ]{fullShare} f)) ∗ (∃ f, ((Memref.whole cc0_scratch8).view.loc (c : Thread nD τ) ↦[Finset.univ]{fullShare} f)))
/-- The cells, at zero. -/
def Sems (c : Dev nD) : sProp 𝕄 := iprop((bigSep (Finset.univ : Finset (Fin 32)) fun s => semVal ((c : Thread nD τ), SemLoc.dma (kvC s)) 0) ∗ (bigSep (Finset.univ : Finset (Fin 32)) fun s => semVal ((c : Thread nD τ), SemLoc.dma (rpC s)) 0) ∗ semVal ((c : Thread nD τ), SemLoc.dma ldC0) 0 ∗ semVal ((c : Thread nD τ), SemLoc.dma ldC1) 0 ∗ semVal ((c : Thread nD τ), SemLoc.dma ldC2) 0 ∗ semVal ((c : Thread nD τ), SemLoc.dma cc0_scratch12.sem) 0)
/-- The operands the kernel reads itself. -/
def Hbm (fx : Vec F S64x32x512 .bf16) (fq : Vec F S64x32x64 .bf16) (fsc : Vec F S2560x64 .f32) : sProp 𝕄 :=
  iprop(((Memref.whole main_v0).view.loc (c : Thread nD τ) ↦[Finset.univ]{fullShare} fx) ∗ ((Memref.whole main_v1).view.loc (c : Thread nD τ) ↦[Finset.univ]{fullShare} fq) ∗ ((Memref.whole main_arg2).view.loc (c : Thread nD τ) ↦[Finset.univ]{fullShare} e.PK) ∗ ((Memref.whole main_arg3).view.loc (c : Thread nD τ) ↦[Finset.univ]{fullShare} fsc) ∗ ((Memref.whole main_arg4).view.loc (c : Thread nD τ) ↦[Finset.univ]{fullShare} e.PR))

section
variable {arg0 : Mref .smem S64x32 .i32} {harg0 : arg0.IsWhole} {arg1 : Mref .smem S64 .i32} {harg1 : arg1.IsWhole} {arg2 : Mref .smem S64x1 .f32} {harg2 : arg2.IsWhole} {harg3 : (Memref.whole main_v0).IsWhole} {harg4 : (Memref.whole main_v1).IsWhole} {harg5 : (Memref.whole main_arg2).IsWhole} {harg6 : (Memref.whole main_arg3).IsWhole} {harg7 : (Memref.whole main_arg4).IsWhole} {arg8 : Mref .vmem S64x1x512 .fp8e4m3} {harg8 : arg8.IsWhole} {arg9 : Mref .vmem S64x1x64 .bf16} {harg9 : arg9.IsWhole} {harg10 : (Memref.whole main_v2_0).IsWhole} {arg11 : Mref .vmem S64x1x32 .f32} {harg11 : arg11.IsWhole} {harg12 : (Memref.whole cc0_scratch0).IsWhole} {harg13 : (Memref.whole cc0_scratch1).IsWhole} {harg14 : (Memref.whole cc0_scratch2).IsWhole} {harg15 : (Memref.whole cc0_scratch3).IsWhole} {harg16 : (Memref.whole cc0_scratch4).IsWhole} {harg17 : (Memref.whole cc0_scratch5).IsWhole} {harg18 : (Memref.whole cc0_scratch6).IsWhole} {harg19 : (Memref.whole cc0_scratch7).IsWhole} {harg20 : (Memref.whole cc0_scratch8).IsWhole}
variable {fL : Buf (Elt F) (arg1.view.loc (c : Thread nD τ))} {fT : Buf (Elt F) (arg0.view.loc (c : Thread nD τ))}
  (h : e.Reads arg1 arg0 fL fT)

set_option maxHeartbeats 1000000 in
include h in
/-- The body, from its operands: some run of the schedule ends past the last request, and the results are that run's. -/
theorem decode_wp (fx : Vec F S64x32x512 .bf16) (fq : Vec F S64x32x64 .bf16) (fsc : Vec F S2560x64 .f32) (cn : Vec F S64x1x512 .fp8e4m3) (cs : Vec F S64x1 .f32) (kr : Vec F S64x1x64 .bf16)
    {Q : PUnit → sProp 𝕄} :
    Sc arg1 arg0 fL fT iprop(Hbm e fx fq fsc ∗ (∃ f, ((Memref.whole main_v2_0).view.loc (c : Thread nD τ) ↦[Finset.univ]{fullShare} f)) ∗ Hv (c := c) arg2 cs ∗ Hv (c := c) arg8 cn ∗ Hv (c := c) arg9 kr ∗ (∃ f, (arg11.view.loc (c : Thread nD τ) ↦[Finset.univ]{fullShare} f)) ∗ Scr c ∗ Sems c ∗ Ow c)
      ⊢ iprop((∀ N S', ⌜Reach e ⟨fx, fq, fsc, cn, cs, kr⟩ N S' ∧ 64 ≤ (sch e.L N).1⌝
          -∗ Sc arg1 arg0 fL fT iprop(Hbm e fx fq fsc ∗ Hv (c := c) outM S'.o ∗ Hv (c := c) arg2 cs ∗ Hv (c := c) arg8 cn ∗ Hv (c := c) arg9 kr ∗ Hv (c := c) arg11 S'.s ∗ Scr c ∗ Sems c ∗ Ow c) -∗ Q ⟨⟩)
        -∗ wp frame (wpE (defs₀ (F := F)) Variants.nat (c : Thread nD τ) none) Set.univ (cc0_mla_decode (F := F) arg0 harg0 arg1 harg1 arg2 harg2 (Memref.whole main_v0) harg3 (Memref.whole main_v1) harg4 (Memref.whole main_arg2) harg5 (Memref.whole main_arg3) harg6 (Memref.whole main_arg4) harg7 arg8 harg8 arg9 harg9 (Memref.whole main_v2_0) harg10 arg11 harg11 (Memref.whole cc0_scratch0) harg12 (Memref.whole cc0_scratch1) harg13 (Memref.whole cc0_scratch2) harg14 (Memref.whole cc0_scratch3) harg15 (Memref.whole cc0_scratch4) harg16 (Memref.whole cc0_scratch5) harg17 (Memref.whole cc0_scratch6) harg18 (Memref.whole cc0_scratch7) harg19 (Memref.whole cc0_scratch8) harg20 cc0_scratch9 cc0_scratch10 cc0_scratch11 cc0_scratch12) Q) := by
  unfold Scr Sems Hbm
  rw [cc0_mla_decode_eq_skeleton]
  unfold cc0_mla_decode_skel
  iintro ⟨H1, H0, ⟨Hx, Hq, HK, Hsc, HR⟩, ⟨%fo, Ho⟩, H2, H8, H9, ⟨%f11, H11⟩, ⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩, ⟨CA, CB, C0, C1, C2, C3⟩, HO⟩ Hk
  iapply (start_wp none (Memref.whole main_v0) (Memref.whole cc0_scratch0) ldC0 (View.set_whole _) (View.dmaCredit_pos _ (by decide)) _ _ _ fx s0) $$ [Hx S0 C0]
  · isplitl [Hx]; · iexact Hx
    isplitl [S0] <;> iassumption
  iintro F0
  iapply (start_wp none (Memref.whole main_v1) (Memref.whole cc0_scratch1) ldC1 (View.set_whole _) (View.dmaCredit_pos _ (by decide)) _ _ _ fq s1) $$ [Hq S1 C1]
  · isplitl [Hq]; · iexact Hq
    isplitl [S1] <;> iassumption
  iintro F1
  iapply (start_wp none (Memref.whole main_arg3) (Memref.whole cc0_scratch2) ldC2 (View.set_whole _) (View.dmaCredit_pos _ (by decide)) _ _ _ fsc s2) $$ [Hsc S2 C2]
  · isplitl [Hsc]; · iexact Hsc
    isplitl [S2] <;> iassumption
  iintro F2
  ihave HP := (ring_open e) $$ [S3 S4 HK HR CA CB]
  · isplitl [S3]; · iexists s3; iexact S3
    isplitl [S4]; · iexists s4; iexact S4
    isplitl [HK]; · iexact HK
    isplitl [HR]; · iexact HR
    isplitl [CA] <;> iassumption
  icases HP with ⟨HP, HF⟩
  iapply (prologue_wp e none h) $$ [H1 H0 HF]
  · isplitl [H1]; · iexact H1
    isplitl [H0]; · iexact H0
    iexact HF
  iintro ⟨H1, H0, HF⟩
  dsimp only
  iapply (land_wp none (Memref.whole main_v0) (Memref.whole main_v0) (Memref.whole cc0_scratch0) ldC0 _ _ fx s0) $$ [F0 HO]
  · isplitl [F0] <;> iassumption
  iintro ⟨S0, Hx, C0, HO⟩
  iapply (land_wp none (Memref.whole main_v1) (Memref.whole main_v1) (Memref.whole cc0_scratch1) ldC1 _ _ fq s1) $$ [F1 HO]
  · isplitl [F1] <;> iassumption
  iintro ⟨S1, Hq, C1, HO⟩
  iapply (land_wp none (Memref.whole main_arg3) (Memref.whole main_arg3) (Memref.whole cc0_scratch2) ldC2 _ _ fsc s2) $$ [F2 HO]
  · isplitl [F2] <;> iassumption
  iintro ⟨S2, Hsc, C2, HO⟩
  rw [wp_bind]
  iapply (wp_call Variants.nat (c : Thread nD τ) _ Set.univ 512 (fun u hu => by cases hu))
  ihave S5 := (Hv_intro (c := c) (Memref.whole cc0_scratch5) s5) $$ S5
  ihave S6 := (Hv_intro (c := c) (Memref.whole cc0_scratch6) s6) $$ S6
  ihave S7 := (Hv_intro (c := c) (Memref.whole cc0_scratch7) s7) $$ S7
  ihave S8 := (Hv_intro (c := c) (Memref.whole cc0_scratch8) s8) $$ S8
  ihave H11 := (Hv_intro (c := c) arg11 f11) $$ H11
  iapply (loop_wp e h ⟨fx, fq, fsc, cn, cs, kr⟩ 512 0 ⟨s6, s7, s8, s5, arg11.view.read (Elt F) f11⟩ (by omega) (by omega) (Reach.zero _)) $$ [H1 H0 S0 S1 S2 H8 H2 H9 S6 S7 S8 S5 H11 HF HO]
  · unfold LoopInv Cst Stt
    isplitl [H1]; · iexact H1
    isplitl [H0]; · iexact H0
    isplitl [S0 S1 S2 H8 H2 H9]
    · isplitl [S0]; · iexact S0
      isplitl [S1]; · iexact S1
      isplitl [S2]; · iexact S2
      isplitl [H8]; · iexact H8
      isplitl [H2]; · iexact H2
      iexact H9
    isplitl [S6 S7 S8 S5 H11]
    · isplitl [S6]; · iexact S6
      isplitl [S7]; · iexact S7
      isplitl [S8]; · iexact S8
      isplitl [S5]; · iexact S5
      iexact H11
    isplitl [HF]; · iexact HF
    iexact HO
  unfold LoopInv Cst Stt
  iintro %N %S' %r %hN ⟨H1, H0, ⟨S0, S1, S2, H8, H2, H9⟩, ⟨S6, S7, S8, S5, H11⟩, HF, HO⟩
  obtain ⟨hr, hN512, h64⟩ := hN
  rw [wp_ret]
  imodintro
  ihave S5 := (Hv_open (c := c) (Memref.whole cc0_scratch5) S'.o) $$ S5
  icases S5 with ⟨%f5, %h5, S5⟩
  obtain ⟨r0, r1, r2, r3, r4⟩ := r
  dsimp only
  iapply (start_wp none (Memref.whole cc0_scratch5) outM cc0_scratch12.sem (View.set_whole _) (View.dmaCredit_pos _ (by decide)) _ _ _ f5 fo) $$ [S5 Ho C3]
  · isplitl [S5]; · iexact S5
    isplitl [Ho] <;> iassumption
  iintro F3
  iapply (land_wp none (Memref.whole cc0_scratch5) (Memref.whole cc0_scratch5) outM cc0_scratch12.sem _ _ f5 fo) $$ [F3 HO]
  · isplitl [F3] <;> iassumption
  rw [h5]
  iintro ⟨Ho, S5, C3, HO⟩
  rw [show ∀ x, (pure x : Prog (TpuEff nD τ sig (Elt F) (Λ₀ F) .tc) PUnit) = Prog.ret x from fun _ => rfl, wp_ret]
  imodintro
  have hfree : bigSep (Finset.Ico N (N + 32)) (Ready e) = bigSep (Finset.univ : Finset (Fin 32)) (Free e) := by
    rw [slots_turns (Free e) N]
    refine bigSep_congr fun k hk => ?_
    unfold Ready
    exact if_neg (by have := sch_mono (L := e.L) (Finset.mem_Ico.mp hk).1; omega)
  ihave HF := (show _ ⊢ _ from BIBase.Entails.of_eq hfree) $$ HF
  ihave HP := (ring_close e s3 s4) $$ [HP HF]
  · isplitl [HP] <;> iassumption
  icases HP with ⟨S3, S4, HK, HR, CA, CB⟩
  iapply Hk $$ %N %S' %⟨hr, h64⟩
  isplitl [H1]; · iexact H1
  isplitl [H0]; · iexact H0
  isplitl [Hx Hq HK Hsc HR]
  · isplitl [Hx]; · iexact Hx
    isplitl [Hq]; · iexact Hq
    isplitl [HK]; · iexact HK
    isplitl [Hsc]; · iexact Hsc
    iexact HR
  isplitl [Ho]; · iexact Ho
  isplitl [H2]; · iexact H2
  isplitl [H8]; · iexact H8
  isplitl [H9]; · iexact H9
  isplitl [H11]; · iexact H11
  isplitl [S0 S1 S2 S3 S4 S5 S6 S7 S8]
  · isplitl [S0]; · iapply (Hv_elim (c := c) (Memref.whole cc0_scratch0) fx) $$ S0
    isplitl [S1]; · iapply (Hv_elim (c := c) (Memref.whole cc0_scratch1) fq) $$ S1
    isplitl [S2]; · iapply (Hv_elim (c := c) (Memref.whole cc0_scratch2) fsc) $$ S2
    isplitl [S3]; · iexact S3
    isplitl [S4]; · iexact S4
    isplitl [S5]; · iexists f5; iexact S5
    isplitl [S6]; · iapply (Hv_elim (c := c) (Memref.whole cc0_scratch6) S'.m) $$ S6
    isplitl [S7]; · iapply (Hv_elim (c := c) (Memref.whole cc0_scratch7) S'.l) $$ S7
    iapply (Hv_elim (c := c) (Memref.whole cc0_scratch8) S'.a) $$ S8
  isplitl [CA CB C0 C1 C2 C3]
  · isplitl [CA]; · iexact CA
    isplitl [CB]; · iexact CB
    isplitl [C0]; · iexact C0
    isplitl [C1]; · iexact C1
    isplitl [C2]; · iexact C2
    iexact C3
  iexact HO
end

end Cert.Kernel.Hand

end
-- ==== Proof.KB.Setup.lean ====
/-
  What the kernel is launched with: the buffers' contents after the two reshapes, the cells, and what of them the body reads.
-/
module

public import proofs.«01_k».proof.Proof.KB.Body
public import proofs.«01_k».proof.Proof.Gen.Kernel.Points
public import Idealize.ShloMosaic.Lib.Pipeline.FrameBody
public import Idealize.ShloMosaic.Lib.ValueIdxCore

@[expose] public section

set_option maxRecDepth 16384

noncomputable section

namespace Cert.Kernel.Hand

open Cert.Kernel Cert.Kernel.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents at the launch -/

/-- The unscoped buffers when the kernel starts: the two reshapes are done. -/
abbrev V (c : Dev nD) (b : Ref sig .tc) : Buf (Elt F) ((c : Thread nD τ).loc b) := StableHlo.after hostOps0 (fun b => m (c, b)) b

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub (by exact ⟨rfl, rfl⟩) main_chain

/-! ## The words the schedule is made of -/

/-- Word `i` of the cache lengths. -/
def lensW (f : Vec F S64 .i32) (i : ℕ) : BitVec 32 := if h : i < 64 then f (ValueIdx.ix1 ⟨i, h⟩) else 0#32
/-- Word `j` of row `i` of the page table. -/
def pageW (f : Vec F S64x32 .i32) (i j : ℕ) : BitVec 32 := if h : i < 64 ∧ j < 32 then f (ValueIdx.ix2 ⟨i, h.1⟩ ⟨j, h.2⟩) else 0#32

/-- The schedule's data on core `c`. -/
def envOf (c : Dev nD) : Env F c where
  L := lensW (F := F) (V m c main_arg6)
  PT := pageW (F := F) (V m c main_arg5)
  PK := V m c main_arg2
  PR := V m c main_arg4

/-- What the launch asks of the words: the pages lie in the pool and no length exceeds the table. -/
structure Addressable (m : (ℓ : Loc nD τ sig) → Buf (Elt F) ℓ) (c : Dev nD) : Prop where
  lens : ∀ i, i < 64 → (lensW (F := F) (m ((c.tc : Thread nD τ).loc main_arg6)) i).toInt ≤ 2048
  pages : ∀ i j, i < 64 → j < 32 → (pageW (F := F) (m ((c.tc : Thread nD τ).loc main_arg5)) i j).toNat < 2560

/-- What the body reads of the two tables, as the schedule's data. -/
theorem reads_of {c : Dev nD} (ha : Addressable m c) {arg1 : Mref .smem S64 .i32} {arg0 : Mref .smem S64x32 .i32}
    {fL : Buf (Elt F) (arg1.view.loc (c : Thread nD τ))} {fT : Buf (Elt F) (arg0.view.loc (c : Thread nD τ))}
    (h1 : arg1.view.read (Elt F) fL = (V m c main_arg6 : Vec F S64 .i32)) (h0 : arg0.view.read (Elt F) fT = (V m c main_arg5 : Vec F S64x32 .i32)) :
    (envOf m c).Reads arg1 arg0 fL fT where
  hL b k hb hk i x := by
    subst hb
    have hx : arg1.view.read (Elt F) fL ((Rect.unit (s := S64) (lOff (W k)) S1.size i).idx x) = lensW (F := F) (V m c main_arg6) k := by
      rw [h1]
      unfold lensW
      rw [dif_pos hk]
      refine congrArg (V m c main_arg6 : Vec F S64 .i32) (funext fun a => Fin.ext ?_)
      match a with
      | ⟨0, _⟩ =>
        have hx0 : (x 0).val < 1 := (x 0).isLt
        show (Scalar.indexCast (W k)).toNat + 1 * (x 0).val = k
        rw [W_idx (by omega)]; omega
    exact hx
  hT b k i j p hb hk hi hj hp inb x := by
    subst hb hk
    have hx : arg0.view.read (Elt F) fT ((Rect.unit (s := S64x32) (tOff (W i) (W j) p) S1x1.size inb).idx x) = pageW (F := F) (V m c main_arg5) i (j * 4 + p) := by
      rw [h0]
      unfold pageW
      rw [dif_pos ⟨hi, by omega⟩]
      refine congrArg (V m c main_arg5 : Vec F S64x32 .i32) (funext fun a => Fin.ext ?_)
      match a with
      | ⟨0, _⟩ =>
        have hx0 : (x 0).val < 1 := (x 0).isLt
        show (Scalar.indexCast (W i)).toNat + 1 * (x 0).val = i
        rw [W_idx (by omega)]; omega
      | ⟨1, _⟩ =>
        have hx0 : (x 1).val < 1 := (x 1).isLt
        show (Scalar.indexCast (Scalar.addi (Scalar.muli (W j) 4#32) (BitVec.ofNat 32 p))).toNat + 1 * (x 1).val = j * 4 + p
        rw [W_page, W_idx (by omega)]; omega
    exact hx
  lens i hi := ha.lens i hi
  pages i j hi hj := ha.pages i j hi hj

/-! ## The cells and the buffers the body takes itself -/

/-- The body's own cells: the two rings' and the four literal ones. -/
def osem0 : Fin 32 ⊕ (Fin 32 ⊕ Fin 4) → SemLoc sig :=
  Sum.elim (fun s => .dma (kvC s)) (Sum.elim (fun s => .dma (rpC s)) ![.dma ldC0, .dma ldC1, .dma ldC2, .dma cc0_scratch12.sem])
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄) = Sems c := by
  unfold Pipeline.ownSems0 Sems
  rw [bigSep_univ_sum, bigSep_univ_sum, bigSep_univ_eq_bigSepL [(0 : Fin 4), 1, 2, 3] (by decide) (by decide)]
  rfl

/-- The operands the body's transfers read. -/
def H0 : Finset (Ref sig .tc) := {main_v0, main_v1, main_arg2, main_arg3, main_arg4}
/-- The result the body's transfer writes. -/
def R0 : Finset (Ref sig .tc) := {main_v2_0}
theorem H0_sub : H0 ⊆ Pipeline.restRefs sig spec0 := by decide
theorem R0_sub : R0 ⊆ Pipeline.restRefs sig spec0 \ H0 := by decide

theorem hbmPts0_eq (c : Dev nD) :
    (bigSep H0 (fun b => ((c : Thread nD τ).loc b) ↦{fullShare} V m c b) : sProp 𝕄)
      = Hbm (envOf m c) (V m c main_v0) (V m c main_v1) (V m c main_arg3) := by
  rw [BI.bigSep_eq_bigSepL_of_eq [main_v0, main_v1, main_arg2, main_arg3, main_arg4] (by decide) (by decide)]; rfl

theorem ownedPts0_eq (c : Dev nD) :
    (Pipeline.owned R0 c : sProp 𝕄) = iprop(∃ f, ((Memref.whole main_v2_0).view.loc (c : Thread nD τ) ↦[Finset.univ]{fullShare} f)) := by
  unfold Pipeline.owned; rw [BI.bigSep_eq_bigSepL_of_eq [main_v2_0] (by decide) (by decide)]; rfl

theorem scoped0_eq (c : Dev nD) :
    (Pipeline.scopedRest (Ix := Unit) (Name := ℕ) (U := Pipeline.UD sig nD τ) (Lvl := ℕ) (Val := Elt F) spec0 c : sProp 𝕄) = Scr c := by
  rw [scopedRest0_eq]; rfl

/-- What the body is entered with, beside the windows. -/
theorem PhiDR0_eq (c : Dev nD) :
    (Pipeline.ΦDR osem0 spec0 H0 R0 (V m) c : sProp 𝕄)
      = iprop(Scr c ∗ (∃ r, prngReg c r) ∗ Sems c ∗ Hbm (envOf m c) (V m c main_v0) (V m c main_v1) (V m c main_arg3)
          ∗ (∃ f, ((Memref.whole main_v2_0).view.loc (c : Thread nD τ) ↦[Finset.univ]{fullShare} f))) := by
  rw [Pipeline.ΦDR_eq, scoped0_eq, ownSems00_eq, hbmPts0_eq, ownedPts0_eq]

end Cert.Kernel.Hand

end
-- ==== Proof.Pre.lean ====
/-
  The precondition, read: the predicate's two arrays all ones say that every page lies in the pool and no length exceeds 2048.
-/
module

public import proofs.«01_k».proof.Defs
public import proofs.«01_k».proof.Proof.KI.Setup
public import proofs.«01_k».proof.Proof.KB.Setup

@[expose] public section

noncomputable section

namespace Decode

open Idealize.ShloMosaic Idealize.ShloMosaic.TcCoe

/-- The predicate's shape facts. -/
theorem preFacts : Cert.Pre_addressable.Facts where
  bcast_S_S64x32 := by decide
  bcast_S_S64 := by decide

theorem ofBool_one {b : Bool} (h : BitVec.ofBool b = 1#1) : b = true := by
  cases b
  · exact absurd h (by decide)
  · rfl

/-- A word at least 0 and below 2560, as a number. -/
theorem page_word {x : BitVec 32} (h : IntOp.andi (IntOp.cmpi .sge x 0#32) (IntOp.cmpi .slt x 2560#32) = 1#1) : x.toNat < 2560 := by
  have h1 : IntOp.cmpi .sge x 0#32 = 1#1 ∧ IntOp.cmpi .slt x 2560#32 = 1#1 := by
    revert h; unfold IntOp.andi
    generalize IntOp.cmpi .sge x 0#32 = p; generalize IntOp.cmpi .slt x 2560#32 = q
    revert p q; decide
  have h2 : (0#32).sle x = true := ofBool_one h1.1
  have h3 : x.slt 2560#32 = true := ofBool_one h1.2
  have e0 : (0#32 : BitVec 32).toInt = 0 := by decide
  have e1 : (2560#32 : BitVec 32).toInt = 2560 := by decide
  rw [BitVec.sle_iff_toInt_le, e0] at h2
  rw [BitVec.slt_iff_toInt_lt, e1] at h3
  have h4 := BitVec.toInt_eq_toNat_cond x
  have := x.isLt
  split at h4 <;> omega

/-- A word at most 2048. -/
theorem len_word {x : BitVec 32} (h : IntOp.cmpi .sle x 2048#32 = 1#1) : x.toInt ≤ 2048 := by
  have h2 : x.sle 2048#32 = true := ofBool_one h
  have e1 : (2048#32 : BitVec 32).toInt = 2048 := by decide
  rw [BitVec.sle_iff_toInt_le, e1] at h2
  exact h2

section
variable [Cert.Pre_addressable.Facts] {F : FTy → Type} [FloatOps F]

/-- The precondition of a kernel over the reals's memory. -/
theorem addressable_ki [Named F] (m : (ℓ : Loc Cert.KernelIdeal.nD Cert.KernelIdeal.τ Cert.KernelIdeal.sig) → Buf (Elt F) ℓ) (c : Dev Cert.KernelIdeal.nD)
    (h : (Cert.Pre_addressable.fn (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1) ∧ (Cert.Pre_addressable.fn (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 = (fun _ => 1#1)) :
    Cert.KernelIdeal.Hand.Addressable m c where
  lens i hi := by
    unfold Cert.KernelIdeal.Hand.lensW
    rw [dif_pos hi]
    exact len_word (congrFun h.2 (ValueIdx.ix1 ⟨i, hi⟩))
  pages i j hi hj := by
    unfold Cert.KernelIdeal.Hand.pageW
    rw [dif_pos ⟨hi, hj⟩]
    exact page_word (congrFun h.1 (ValueIdx.ix2 ⟨i, hi⟩ ⟨j, hj⟩))

/-- The precondition of a kernel's memory. -/
theorem addressable_kb (m : (ℓ : Loc Cert.Kernel.nD Cert.Kernel.τ Cert.Kernel.sig) → Buf (Elt F) ℓ) (c : Dev Cert.Kernel.nD)
    (h : (Cert.Pre_addressable.fn (F := F) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).1 = (fun _ => 1#1) ∧ (Cert.Pre_addressable.fn (F := F) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2 = (fun _ => 1#1)) :
    Cert.Kernel.Hand.Addressable m c where
  lens i hi := by
    unfold Cert.Kernel.Hand.lensW
    rw [dif_pos hi]
    exact len_word (congrFun h.2 (ValueIdx.ix1 ⟨i, hi⟩))
  pages i j hi hj := by
    unfold Cert.Kernel.Hand.pageW
    rw [dif_pos ⟨hi, hj⟩]
    exact page_word (congrFun h.1 (ValueIdx.ix2 ⟨i, hi⟩ ⟨j, hj⟩))
end

end Decode

end
-- ==== Proof.KI.Run.lean ====
/-
  The body's obligation to the pipeline: the windows' contents, and the body run between them.
-/
module

public import proofs.«01_k».proof.Proof.KI.Setup

@[expose] public section

set_option maxRecDepth 16384

noncomputable section

namespace Cert.KernelIdeal.Hand

open Cert.KernelIdeal Cert.KernelIdeal.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The pipeline's data: each input window holds its array, the one output window holds `lse` after the body, and
    `Ph` is what the body is entered and left with. -/
def dats (lse : Dev nD → Vec F S64x1x32 .f32) (Ph : Dev nD → Fin ((cfg0 (F := F)).N + 1) → sProp 𝕄) (_ : Fin 1) (c : Dev nD) : Dat τ (Elt F) Unit ℕ (Pipeline.UD sig nD τ) ℕ (cfg0 (F := F)) c where
  A w := V m c (Pipeline.arrRef spec0 w)
  after w t := match w with
    | ⟨0, _⟩ => (V m c main_arg5 : Vec F S64x32 .i32)
    | ⟨1, _⟩ => (V m c main_arg6 : Vec F S64 .i32)
    | ⟨2, _⟩ => (V m c main_arg8 : Vec F S64x1 .f32)
    | ⟨3, _⟩ => (V m c main_arg7 : Vec F S64x1x512 .fp8e4m3)
    | ⟨4, _⟩ => (V m c main_arg9 : Vec F S64x1x64 .bf16)
    | ⟨5, _⟩ => lse c
  Φ := Ph c
  q _ := fullShare
  owed _ := 0

theorem A_eq (lse : Dev nD → Vec F S64x1x32 .f32) (Ph : Dev nD → Fin ((cfg0 (F := F)).N + 1) → sProp 𝕄) (c : Dev nD) (w : Fin (cfg0 (F := F)).W) : (dats m lse Ph 0 c).A w = V m c (Pipeline.arrRef spec0 w) := by
  dsimp only [dats]

theorem before0_0 (lse : Dev nD → Vec F S64x1x32 .f32) (Ph : Dev nD → Fin ((cfg0 (F := F)).N + 1) → sProp 𝕄) (c : Dev nD) (t : Fin (cfg0 (F := F)).N) (d) : (dats m lse Ph 0 c).before 0 t d = (V m c main_arg5 : Vec F S64x32 .i32) := by
  unfold Dat.before; rw [if_pos (fetch0_0 t)]
  unfold Dat.fetched Dat.blockOf
  refine funext fun i => ?_
  refine congrArg (V m c main_arg5 : Vec F S64x32 .i32) (funext fun a => Fin.ext ?_)
  match a with
  | ⟨0, _⟩ => show 0 * 64 + 1 * (i (0 : Fin 2)).val = (i (0 : Fin 2)).val; omega
  | ⟨1, _⟩ => show 0 * 32 + 1 * (i (1 : Fin 2)).val = (i (1 : Fin 2)).val; omega

theorem before0_1 (lse : Dev nD → Vec F S64x1x32 .f32) (Ph : Dev nD → Fin ((cfg0 (F := F)).N + 1) → sProp 𝕄) (c : Dev nD) (t : Fin (cfg0 (F := F)).N) (d) : (dats m lse Ph 0 c).before 1 t d = (V m c main_arg6 : Vec F S64 .i32) := by
  unfold Dat.before; rw [if_pos (fetch0_1 t)]
  unfold Dat.fetched Dat.blockOf
  refine funext fun i => ?_
  refine congrArg (V m c main_arg6 : Vec F S64 .i32) (funext fun a => Fin.ext ?_)
  match a with
  | ⟨0, _⟩ => show 0 * 64 + 1 * (i (0 : Fin 1)).val = (i (0 : Fin 1)).val; omega

theorem before0_2 (lse : Dev nD → Vec F S64x1x32 .f32) (Ph : Dev nD → Fin ((cfg0 (F := F)).N + 1) → sProp 𝕄) (c : Dev nD) (t : Fin (cfg0 (F := F)).N) (d) : (dats m lse Ph 0 c).before 2 t d = (V m c main_arg8 : Vec F S64x1 .f32) := by
  unfold Dat.before; rw [if_pos (fetch0_2 t)]
  unfold Dat.fetched Dat.blockOf
  refine funext fun i => ?_
  refine congrArg (V m c main_arg8 : Vec F S64x1 .f32) (funext fun a => Fin.ext ?_)
  match a with
  | ⟨0, _⟩ => show 0 * 64 + 1 * (i (0 : Fin 2)).val = (i (0 : Fin 2)).val; omega
  | ⟨1, _⟩ => show 0 * 1 + 1 * (i (1 : Fin 2)).val = (i (1 : Fin 2)).val; omega

theorem before0_3 (lse : Dev nD → Vec F S64x1x32 .f32) (Ph : Dev nD → Fin ((cfg0 (F := F)).N + 1) → sProp 𝕄) (c : Dev nD) (t : Fin (cfg0 (F := F)).N) (d) : (dats m lse Ph 0 c).before 3 t d = (V m c main_arg7 : Vec F S64x1x512 .fp8e4m3) := by
  unfold Dat.before; rw [if_pos (fetch0_3 t)]
  unfold Dat.fetched Dat.blockOf
  refine funext fun i => ?_
  refine congrArg (V m c main_arg7 : Vec F S64x1x512 .fp8e4m3) (funext fun a => Fin.ext ?_)
  match a with
  | ⟨0, _⟩ => show 0 * 64 + 1 * (i (0 : Fin 3)).val = (i (0 : Fin 3)).val; omega
  | ⟨1, _⟩ => show 0 * 1 + 1 * (i (1 : Fin 3)).val = (i (1 : Fin 3)).val; omega
  | ⟨2, _⟩ => show 0 * 512 + 1 * (i (2 : Fin 3)).val = (i (2 : Fin 3)).val; omega

theorem before0_4 (lse : Dev nD → Vec F S64x1x32 .f32) (Ph : Dev nD → Fin ((cfg0 (F := F)).N + 1) → sProp 𝕄) (c : Dev nD) (t : Fin (cfg0 (F := F)).N) (d) : (dats m lse Ph 0 c).before 4 t d = (V m c main_arg9 : Vec F S64x1x64 .bf16) := by
  unfold Dat.before; rw [if_pos (fetch0_4 t)]
  unfold Dat.fetched Dat.blockOf
  refine funext fun i => ?_
  refine congrArg (V m c main_arg9 : Vec F S64x1x64 .bf16) (funext fun a => Fin.ext ?_)
  match a with
  | ⟨0, _⟩ => show 0 * 64 + 1 * (i (0 : Fin 3)).val = (i (0 : Fin 3)).val; omega
  | ⟨1, _⟩ => show 0 * 1 + 1 * (i (1 : Fin 3)).val = (i (1 : Fin 3)).val; omega
  | ⟨2, _⟩ => show 0 * 64 + 1 * (i (2 : Fin 3)).val = (i (2 : Fin 3)).val; omega

/-- A whole memref owned is its contents read. -/
theorem owns_Hv {c : Dev nD} {sp : Space} {sh : Shape} {et : EltTy} (M : Mref sp sh et) (hM : M.view.set = Finset.univ) (v : sh.Idx → Elt F et) :
    (owns (c : Thread nD τ) M fullShare v : sProp 𝕄) = Hv (c := c) M v := by
  unfold owns Hv; rw [hM]

/-- The body run at the point, from what it is entered with: some run of the schedule ends past the last request, and the
    two results are that run's. -/
theorem body_run (c : Dev nD) (ha : Addressable m c) (t : Fin (cfg0 (F := F)).N) {Q : PUnit → sProp 𝕄} :
    iprop(Scr c ∗ Sems c ∗ Hbm (envOf m c) (V m c main_v0) (V m c main_v1) (V m c main_arg3)
        ∗ (∃ f, ((Memref.whole main_v2_0).view.loc (c : Thread nD τ) ↦[Finset.univ]{fullShare} f)) ∗ Ow c
        ∗ owns (c : Thread nD τ) (win0_0.stage ((cfg0 (F := F)).slots t 0)) fullShare (V m c main_arg5 : Vec F S64x32 .i32)
        ∗ owns (c : Thread nD τ) (win0_1.stage ((cfg0 (F := F)).slots t 1)) fullShare (V m c main_arg6 : Vec F S64 .i32)
        ∗ owns (c : Thread nD τ) (win0_2.stage ((cfg0 (F := F)).slots t 2)) fullShare (V m c main_arg8 : Vec F S64x1 .f32)
        ∗ owns (c : Thread nD τ) (win0_3.stage ((cfg0 (F := F)).slots t 3)) fullShare (V m c main_arg7 : Vec F S64x1x512 .fp8e4m3)
        ∗ owns (c : Thread nD τ) (win0_4.stage ((cfg0 (F := F)).slots t 4)) fullShare (V m c main_arg9 : Vec F S64x1x64 .bf16)
        ∗ (∃ X, owns (c : Thread nD τ) (win0_5.stage ((cfg0 (F := F)).slots t 5)) fullShare X))
      ⊢ iprop((∀ N S', ⌜Reach (envOf m c) ⟨V m c main_v0, V m c main_v1, V m c main_arg3, V m c main_arg7, V m c main_arg8, V m c main_arg9⟩ N S' ∧ 64 ≤ (sch (envOf m c).L N).1⌝
          -∗ iprop(Scr c ∗ Sems c ∗ Hbm (envOf m c) (V m c main_v0) (V m c main_v1) (V m c main_arg3) ∗ Hv (c := c) outM S'.o ∗ Ow c
              ∗ owns (c : Thread nD τ) (win0_0.stage ((cfg0 (F := F)).slots t 0)) fullShare (V m c main_arg5 : Vec F S64x32 .i32)
              ∗ owns (c : Thread nD τ) (win0_1.stage ((cfg0 (F := F)).slots t 1)) fullShare (V m c main_arg6 : Vec F S64 .i32)
              ∗ owns (c : Thread nD τ) (win0_2.stage ((cfg0 (F := F)).slots t 2)) fullShare (V m c main_arg8 : Vec F S64x1 .f32)
              ∗ owns (c : Thread nD τ) (win0_3.stage ((cfg0 (F := F)).slots t 3)) fullShare (V m c main_arg7 : Vec F S64x1x512 .fp8e4m3)
              ∗ owns (c : Thread nD τ) (win0_4.stage ((cfg0 (F := F)).slots t 4)) fullShare (V m c main_arg9 : Vec F S64x1x64 .bf16)
              ∗ owns (c : Thread nD τ) (win0_5.stage ((cfg0 (F := F)).slots t 5)) fullShare S'.s) -∗ Q ⟨⟩)
        -∗ wp frame (wpE (defs₀ (F := F)) Variants.nat (c : Thread nD τ) none) Set.univ (bodyAt0 t) Q) := by
  have hs0 : (win0_0.stage ((cfg0 (F := F)).slots t 0)).view.set = Finset.univ := View.set_whole _
  have hs1 : (win0_1.stage ((cfg0 (F := F)).slots t 1)).view.set = Finset.univ := View.set_whole _
  have hs2 : (win0_2.stage ((cfg0 (F := F)).slots t 2)).view.set = Finset.univ := View.set_whole _
  have hs3 : (win0_3.stage ((cfg0 (F := F)).slots t 3)).view.set = Finset.univ := View.set_whole _
  have hs4 : (win0_4.stage ((cfg0 (F := F)).slots t 4)).view.set = Finset.univ := View.set_whole _
  have hs5 : (win0_5.stage ((cfg0 (F := F)).slots t 5)).view.set = Finset.univ := View.set_whole _
  have ho := fun v => owns_Hv (c := c) (F := F) (win0_5.stage ((cfg0 (F := F)).slots t 5)) hs5 v
  rw [owns_Hv (c := c) (win0_2.stage ((cfg0 (F := F)).slots t 2)) hs2]
  rw [owns_Hv (c := c) (win0_3.stage ((cfg0 (F := F)).slots t 3)) hs3]
  rw [owns_Hv (c := c) (win0_4.stage ((cfg0 (F := F)).slots t 4)) hs4]
  simp only [ho]
  unfold owns
  rw [hs0, hs1]
  iintro ⟨HS, HC, HB, HO, HW, ⟨%fT, %hT, H0⟩, ⟨%fL, %hL, H1⟩, H2, H3, H4, ⟨%X, H5⟩⟩ Hk
  ihave H5 := (Hv_elim (c := c) _ X) $$ H5
  unfold bodyAt0
  iapply (decode_wp (envOf m c) (reads_of m ha hL hT) (V m c main_v0) (V m c main_v1) (V m c main_arg3) (V m c main_arg7) (V m c main_arg8) (V m c main_arg9)) $$ [HS HC HB HO HW H0 H1 H2 H3 H4 H5]
  · unfold Sc
    isplitl [H1]; · iexact H1
    isplitl [H0]; · iexact H0
    isplitl [HB]; · iexact HB
    isplitl [HO]; · iexact HO
    isplitl [H2]; · iexact H2
    isplitl [H3]; · iexact H3
    isplitl [H4]; · iexact H4
    isplitl [H5]; · iexact H5
    isplitl [HS]; · iexact HS
    isplitl [HC]; · iexact HC
    iexact HW
  unfold Sc
  iintro %N %S' %hN ⟨H1, H0, HB, HO, H2, H3, H4, H5, HS, HC, HW⟩
  iapply Hk $$ %N %S' %hN
  isplitl [HS]; · iexact HS
  isplitl [HC]; · iexact HC
  isplitl [HB]; · iexact HB
  isplitl [HO]; · iexact HO
  isplitl [HW]; · iexact HW
  isplitl [H0]
  · iexists fT; isplitr; · ipureintro; exact hT
    iexact H0
  isplitl [H1]
  · iexists fL; isplitr; · ipureintro; exact hL
    iexact H1
  isplitl [H2]; · iexact H2
  isplitl [H3]; · iexact H3
  isplitl [H4]; · iexact H4
  iexact H5

/-- The first result's buffer, its contents forgotten. -/
theorem Hv_out {c : Dev nD} (v : S64x32x512.Idx → Elt F .bf16) :
    (Hv (c := c) outM v : sProp 𝕄) ⊢ iprop(∃ f, ((Memref.whole main_v2_0).view.loc (c : Thread nD τ) ↦[Finset.univ]{fullShare} f)) :=
  Hv_elim (c := c) outM v

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

end Cert.KernelIdeal.Hand

end
-- ==== Proof.KI.Frame.lean ====
/-
  The frame: from addressable arguments the program ends, its arguments unchanged and every semaphore at zero.
-/
module

public import proofs.«01_k».proof.Proof.KI.Run

@[expose] public section

set_option maxRecDepth 16384

noncomputable section

namespace Cert.KernelIdeal.Hand

open Cert.KernelIdeal Cert.KernelIdeal.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The data of the frame: nothing is said of the results. -/
abbrev datsF := dats m (fun c => (V m c main_v2_1 : Vec F S64x1x32 .f32)) (fun c _ => (Pipeline.ΦDR osem0 spec0 H0 R0 (V m) c : sProp 𝕄))

/-- The window whose contents the frame does not name: the second result's. -/
def forget5 : Fin (cfg0 (F := F)).W → Bool := ![false, false, false, false, false, true]

def bodyPreF (c : Dev nD) (t : Fin (cfg0 (F := F)).N) : sProp 𝕄 :=
  iprop((datsF m 0 c).Φ t.castSucc ∗ (datsF m 0 c).owesAt () t.castSucc
    ∗ (∃ d, owns (c : Thread nD τ) (win0_0.stage ((cfg0 (F := F)).slots t 0)) fullShare ((datsF m 0 c).before 0 t d))
    ∗ (∃ d, owns (c : Thread nD τ) (win0_1.stage ((cfg0 (F := F)).slots t 1)) fullShare ((datsF m 0 c).before 1 t d))
    ∗ (∃ d, owns (c : Thread nD τ) (win0_2.stage ((cfg0 (F := F)).slots t 2)) fullShare ((datsF m 0 c).before 2 t d))
    ∗ (∃ d, owns (c : Thread nD τ) (win0_3.stage ((cfg0 (F := F)).slots t 3)) fullShare ((datsF m 0 c).before 3 t d))
    ∗ (∃ d, owns (c : Thread nD τ) (win0_4.stage ((cfg0 (F := F)).slots t 4)) fullShare ((datsF m 0 c).before 4 t d))
    ∗ (∃ X, owns (c : Thread nD τ) (win0_5.stage ((cfg0 (F := F)).slots t 5)) fullShare X))
def bodyPostF (c : Dev nD) (t : Fin (cfg0 (F := F)).N) : sProp 𝕄 :=
  iprop((datsF m 0 c).Φ t.succ ∗ (datsF m 0 c).owesAt () t.succ
    ∗ owns (c : Thread nD τ) (win0_0.stage ((cfg0 (F := F)).slots t 0)) fullShare ((datsF m 0 c).after 0 t)
    ∗ owns (c : Thread nD τ) (win0_1.stage ((cfg0 (F := F)).slots t 1)) fullShare ((datsF m 0 c).after 1 t)
    ∗ owns (c : Thread nD τ) (win0_2.stage ((cfg0 (F := F)).slots t 2)) fullShare ((datsF m 0 c).after 2 t)
    ∗ owns (c : Thread nD τ) (win0_3.stage ((cfg0 (F := F)).slots t 3)) fullShare ((datsF m 0 c).after 3 t)
    ∗ owns (c : Thread nD τ) (win0_4.stage ((cfg0 (F := F)).slots t 4)) fullShare ((datsF m 0 c).after 4 t)
    ∗ (∃ X, owns (c : Thread nD τ) (win0_5.stage ((cfg0 (F := F)).slots t 5)) fullShare X))

theorem sound_bodyF (c : Dev nD) (ha : Addressable m c) (t : Fin (cfg0 (F := F)).N) :
    bodyPreF m c t ⊢ wp frame (wpE (defs₀ (F := F)) Variants.nat (c : Thread nD τ) none) Set.univ (bodyAt0 t) (fun _ => bodyPostF m c t) := by
  unfold bodyPreF bodyPostF
  rw [show (datsF m 0 c).Φ t.succ = Pipeline.ΦDR osem0 spec0 H0 R0 (V m) c from rfl, show (datsF m 0 c).Φ t.castSucc = Pipeline.ΦDR osem0 spec0 H0 R0 (V m) c from rfl, PhiDR0_eq]
  unfold Dat.owesAt Pipeline.owesWithin
  rw [show (datsF m 0 c).owed t.castSucc = 0 from rfl, show (datsF m 0 c).owed t.succ = 0 from rfl]
  rw [show (datsF m 0 c).after 0 t = (V m c main_arg5 : Vec F S64x32 .i32) from rfl]
  simp only [before0_0 m _ _ c t]
  rw [show (datsF m 0 c).after 1 t = (V m c main_arg6 : Vec F S64 .i32) from rfl]
  simp only [before0_1 m _ _ c t]
  rw [show (datsF m 0 c).after 2 t = (V m c main_arg8 : Vec F S64x1 .f32) from rfl]
  simp only [before0_2 m _ _ c t]
  rw [show (datsF m 0 c).after 3 t = (V m c main_arg7 : Vec F S64x1x512 .fp8e4m3) from rfl]
  simp only [before0_3 m _ _ c t]
  rw [show (datsF m 0 c).after 4 t = (V m c main_arg9 : Vec F S64x1x64 .bf16) from rfl]
  simp only [before0_4 m _ _ c t]
  iintro ⟨⟨HS, HG, HC, HB, HO⟩, ⟨%W', -, HW⟩, ⟨%d0, H0⟩, ⟨%d1, H1⟩, ⟨%d2, H2⟩, ⟨%d3, H3⟩, ⟨%d4, H4⟩, H5⟩
  iapply (body_run m c ha t) $$ [HS HC HB HO HW H0 H1 H2 H3 H4 H5]
  · isplitl [HS]; · iexact HS
    isplitl [HC]; · iexact HC
    isplitl [HB]; · iexact HB
    isplitl [HO]; · iexact HO
    isplitl [HW]
    · unfold Ow; iexists W'; iexact HW
    isplitl [H0]; · iexact H0
    isplitl [H1]; · iexact H1
    isplitl [H2]; · iexact H2
    isplitl [H3]; · iexact H3
    isplitl [H4]; · iexact H4
    iexact H5
  iintro %N %S' %hN ⟨HS, HC, HB, HO, HW, H0, H1, H2, H3, H4, H5⟩
  unfold Ow
  icases HW with ⟨%W'', HW⟩
  ihave HO := (Hv_out (c := c) S'.o) $$ HO
  isplitl [HS HG HC HB HO]
  · isplitl [HS]; · iexact HS
    isplitl [HG]; · iexact HG
    isplitl [HC]; · iexact HC
    isplitl [HB]; · iexact HB
    iexact HO
  isplitl [HW]
  · iexists W''; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexists _; iexact H5

theorem body_obligationF (c : Dev nD) (ha : Addressable m c) : BodyObligation (datsF m 0 c) (defs₀ (F := F)) Variants.nat () Set.univ forget5 := fun t => by
  rw [bigSep_W0, bigSep_W0, defs₀_row]
  exact triple_restated (sound_bodyF m c ha t) rfl .rfl fun _ => .rfl

set_option backward.isDefEq.respectTransparency.types false in
theorem run_mainF (ha : ∀ c, Addressable m c) :
    θ_run defs (onTc (τ := τ) (main (F := F))) (s₀ m ρ) (fun r => Pipeline.RDat.FramePostR (cfg0 (F := F)) (fun c => (datsF m 0 c).toRForget forget5) R0 (V m) r ∧ r.2.sem = fun _ => 0) :=
  Pipeline.θ_run_frame_dmaR_forget (Q' := _) cfgs (datsF m) (0 : Fin 1) launch0 osem0 defs₀ Variants.nat forget5 ownSemFacts0 H0 R0 H0_sub R0_sub m ρ main
    (hbody := fun c => (body_obligationF m c (ha c)).loose) (hshare := fun c => (datsF m 0 c).share_full fun _ => rfl)
    (howed := fun _ _ => rfl) (V := V m) (hmain := hmain m Variants.nat) (hA := A_eq m _ _)
    (hin := fun _ => .rfl) (hout := fun _ => .rfl)

theorem rest_of {r : PUnit × MemSt nD τ sig (Elt F)} (h : Pipeline.RDat.FramePostR (cfg0 (F := F)) (fun c => (datsF m 0 c).toRForget forget5) R0 (V m) r) (c : Dev nD)
    (b : Ref sig .tc) (hb : b ∈ Pipeline.restRefs sig spec0 \ R0) : r.2.mem ((c.tc : Thread nD τ).loc b) = V m c b := (h c).2 b hb

/-- The frame, over any float operations: from addressable arguments the program terminates without a fault, leaves its ten
    arguments as they were, and leaves every semaphore at zero. -/
theorem frame (ha : ∀ c, Addressable m c) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨
      rest_of m h.1 c main_arg0 (Finset.mem_sdiff.mpr ⟨Pipeline.mem_restRefs_of main_arg0 (by decide) (by decide), by decide⟩),
      rest_of m h.1 c main_arg1 (Finset.mem_sdiff.mpr ⟨Pipeline.mem_restRefs_of main_arg1 (by decide) (by decide), by decide⟩),
      rest_of m h.1 c main_arg2 (Finset.mem_sdiff.mpr ⟨Pipeline.mem_restRefs_of main_arg2 (by decide) (by decide), by decide⟩),
      rest_of m h.1 c main_arg3 (Finset.mem_sdiff.mpr ⟨Pipeline.mem_restRefs_of main_arg3 (by decide) (by decide), by decide⟩),
      rest_of m h.1 c main_arg4 (Finset.mem_sdiff.mpr ⟨Pipeline.mem_restRefs_of main_arg4 (by decide) (by decide), by decide⟩),
      Pipeline.RDat.FramePostR.arr_in h.1 c 0 rfl,
      Pipeline.RDat.FramePostR.arr_in h.1 c 1 rfl,
      Pipeline.RDat.FramePostR.arr_in h.1 c 3 rfl,
      Pipeline.RDat.FramePostR.arr_in h.1 c 2 rfl,
      Pipeline.RDat.FramePostR.arr_in h.1 c 4 rfl⟩, h.2⟩) (run_mainF m ρ ha)

end Cert.KernelIdeal.Hand

end
-- ==== Proof.KB.Run.lean ====
/-
  The body's obligation to the pipeline: the windows' contents, and the body run between them.
-/
module

public import proofs.«01_k».proof.Proof.KB.Setup

@[expose] public section

set_option maxRecDepth 16384

noncomputable section

namespace Cert.Kernel.Hand

open Cert.Kernel Cert.Kernel.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The pipeline's data: each input window holds its array, the one output window holds `lse` after the body, and
    `Ph` is what the body is entered and left with. -/
def dats (lse : Dev nD → Vec F S64x1x32 .f32) (Ph : Dev nD → Fin ((cfg0 (F := F)).N + 1) → sProp 𝕄) (_ : Fin 1) (c : Dev nD) : Dat τ (Elt F) Unit ℕ (Pipeline.UD sig nD τ) ℕ (cfg0 (F := F)) c where
  A w := V m c (Pipeline.arrRef spec0 w)
  after w t := match w with
    | ⟨0, _⟩ => (V m c main_arg5 : Vec F S64x32 .i32)
    | ⟨1, _⟩ => (V m c main_arg6 : Vec F S64 .i32)
    | ⟨2, _⟩ => (V m c main_arg8 : Vec F S64x1 .f32)
    | ⟨3, _⟩ => (V m c main_arg7 : Vec F S64x1x512 .fp8e4m3)
    | ⟨4, _⟩ => (V m c main_arg9 : Vec F S64x1x64 .bf16)
    | ⟨5, _⟩ => lse c
  Φ := Ph c
  q _ := fullShare
  owed _ := 0

theorem A_eq (lse : Dev nD → Vec F S64x1x32 .f32) (Ph : Dev nD → Fin ((cfg0 (F := F)).N + 1) → sProp 𝕄) (c : Dev nD) (w : Fin (cfg0 (F := F)).W) : (dats m lse Ph 0 c).A w = V m c (Pipeline.arrRef spec0 w) := by
  dsimp only [dats]

theorem before0_0 (lse : Dev nD → Vec F S64x1x32 .f32) (Ph : Dev nD → Fin ((cfg0 (F := F)).N + 1) → sProp 𝕄) (c : Dev nD) (t : Fin (cfg0 (F := F)).N) (d) : (dats m lse Ph 0 c).before 0 t d = (V m c main_arg5 : Vec F S64x32 .i32) := by
  unfold Dat.before; rw [if_pos (fetch0_0 t)]
  unfold Dat.fetched Dat.blockOf
  refine funext fun i => ?_
  refine congrArg (V m c main_arg5 : Vec F S64x32 .i32) (funext fun a => Fin.ext ?_)
  match a with
  | ⟨0, _⟩ => show 0 * 64 + 1 * (i (0 : Fin 2)).val = (i (0 : Fin 2)).val; omega
  | ⟨1, _⟩ => show 0 * 32 + 1 * (i (1 : Fin 2)).val = (i (1 : Fin 2)).val; omega

theorem before0_1 (lse : Dev nD → Vec F S64x1x32 .f32) (Ph : Dev nD → Fin ((cfg0 (F := F)).N + 1) → sProp 𝕄) (c : Dev nD) (t : Fin (cfg0 (F := F)).N) (d) : (dats m lse Ph 0 c).before 1 t d = (V m c main_arg6 : Vec F S64 .i32) := by
  unfold Dat.before; rw [if_pos (fetch0_1 t)]
  unfold Dat.fetched Dat.blockOf
  refine funext fun i => ?_
  refine congrArg (V m c main_arg6 : Vec F S64 .i32) (funext fun a => Fin.ext ?_)
  match a with
  | ⟨0, _⟩ => show 0 * 64 + 1 * (i (0 : Fin 1)).val = (i (0 : Fin 1)).val; omega

theorem before0_2 (lse : Dev nD → Vec F S64x1x32 .f32) (Ph : Dev nD → Fin ((cfg0 (F := F)).N + 1) → sProp 𝕄) (c : Dev nD) (t : Fin (cfg0 (F := F)).N) (d) : (dats m lse Ph 0 c).before 2 t d = (V m c main_arg8 : Vec F S64x1 .f32) := by
  unfold Dat.before; rw [if_pos (fetch0_2 t)]
  unfold Dat.fetched Dat.blockOf
  refine funext fun i => ?_
  refine congrArg (V m c main_arg8 : Vec F S64x1 .f32) (funext fun a => Fin.ext ?_)
  match a with
  | ⟨0, _⟩ => show 0 * 64 + 1 * (i (0 : Fin 2)).val = (i (0 : Fin 2)).val; omega
  | ⟨1, _⟩ => show 0 * 1 + 1 * (i (1 : Fin 2)).val = (i (1 : Fin 2)).val; omega

theorem before0_3 (lse : Dev nD → Vec F S64x1x32 .f32) (Ph : Dev nD → Fin ((cfg0 (F := F)).N + 1) → sProp 𝕄) (c : Dev nD) (t : Fin (cfg0 (F := F)).N) (d) : (dats m lse Ph 0 c).before 3 t d = (V m c main_arg7 : Vec F S64x1x512 .fp8e4m3) := by
  unfold Dat.before; rw [if_pos (fetch0_3 t)]
  unfold Dat.fetched Dat.blockOf
  refine funext fun i => ?_
  refine congrArg (V m c main_arg7 : Vec F S64x1x512 .fp8e4m3) (funext fun a => Fin.ext ?_)
  match a with
  | ⟨0, _⟩ => show 0 * 64 + 1 * (i (0 : Fin 3)).val = (i (0 : Fin 3)).val; omega
  | ⟨1, _⟩ => show 0 * 1 + 1 * (i (1 : Fin 3)).val = (i (1 : Fin 3)).val; omega
  | ⟨2, _⟩ => show 0 * 512 + 1 * (i (2 : Fin 3)).val = (i (2 : Fin 3)).val; omega

theorem before0_4 (lse : Dev nD → Vec F S64x1x32 .f32) (Ph : Dev nD → Fin ((cfg0 (F := F)).N + 1) → sProp 𝕄) (c : Dev nD) (t : Fin (cfg0 (F := F)).N) (d) : (dats m lse Ph 0 c).before 4 t d = (V m c main_arg9 : Vec F S64x1x64 .bf16) := by
  unfold Dat.before; rw [if_pos (fetch0_4 t)]
  unfold Dat.fetched Dat.blockOf
  refine funext fun i => ?_
  refine congrArg (V m c main_arg9 : Vec F S64x1x64 .bf16) (funext fun a => Fin.ext ?_)
  match a with
  | ⟨0, _⟩ => show 0 * 64 + 1 * (i (0 : Fin 3)).val = (i (0 : Fin 3)).val; omega
  | ⟨1, _⟩ => show 0 * 1 + 1 * (i (1 : Fin 3)).val = (i (1 : Fin 3)).val; omega
  | ⟨2, _⟩ => show 0 * 64 + 1 * (i (2 : Fin 3)).val = (i (2 : Fin 3)).val; omega

/-- A whole memref owned is its contents read. -/
theorem owns_Hv {c : Dev nD} {sp : Space} {sh : Shape} {et : EltTy} (M : Mref sp sh et) (hM : M.view.set = Finset.univ) (v : sh.Idx → Elt F et) :
    (owns (c : Thread nD τ) M fullShare v : sProp 𝕄) = Hv (c := c) M v := by
  unfold owns Hv; rw [hM]

/-- The body run at the point, from what it is entered with: some run of the schedule ends past the last request, and the
    two results are that run's. -/
theorem body_run (c : Dev nD) (ha : Addressable m c) (t : Fin (cfg0 (F := F)).N) {Q : PUnit → sProp 𝕄} :
    iprop(Scr c ∗ Sems c ∗ Hbm (envOf m c) (V m c main_v0) (V m c main_v1) (V m c main_arg3)
        ∗ (∃ f, ((Memref.whole main_v2_0).view.loc (c : Thread nD τ) ↦[Finset.univ]{fullShare} f)) ∗ Ow c
        ∗ owns (c : Thread nD τ) (win0_0.stage ((cfg0 (F := F)).slots t 0)) fullShare (V m c main_arg5 : Vec F S64x32 .i32)
        ∗ owns (c : Thread nD τ) (win0_1.stage ((cfg0 (F := F)).slots t 1)) fullShare (V m c main_arg6 : Vec F S64 .i32)
        ∗ owns (c : Thread nD τ) (win0_2.stage ((cfg0 (F := F)).slots t 2)) fullShare (V m c main_arg8 : Vec F S64x1 .f32)
        ∗ owns (c : Thread nD τ) (win0_3.stage ((cfg0 (F := F)).slots t 3)) fullShare (V m c main_arg7 : Vec F S64x1x512 .fp8e4m3)
        ∗ owns (c : Thread nD τ) (win0_4.stage ((cfg0 (F := F)).slots t 4)) fullShare (V m c main_arg9 : Vec F S64x1x64 .bf16)
        ∗ (∃ X, owns (c : Thread nD τ) (win0_5.stage ((cfg0 (F := F)).slots t 5)) fullShare X))
      ⊢ iprop((∀ N S', ⌜Reach (envOf m c) ⟨V m c main_v0, V m c main_v1, V m c main_arg3, V m c main_arg7, V m c main_arg8, V m c main_arg9⟩ N S' ∧ 64 ≤ (sch (envOf m c).L N).1⌝
          -∗ iprop(Scr c ∗ Sems c ∗ Hbm (envOf m c) (V m c main_v0) (V m c main_v1) (V m c main_arg3) ∗ Hv (c := c) outM S'.o ∗ Ow c
              ∗ owns (c : Thread nD τ) (win0_0.stage ((cfg0 (F := F)).slots t 0)) fullShare (V m c main_arg5 : Vec F S64x32 .i32)
              ∗ owns (c : Thread nD τ) (win0_1.stage ((cfg0 (F := F)).slots t 1)) fullShare (V m c main_arg6 : Vec F S64 .i32)
              ∗ owns (c : Thread nD τ) (win0_2.stage ((cfg0 (F := F)).slots t 2)) fullShare (V m c main_arg8 : Vec F S64x1 .f32)
              ∗ owns (c : Thread nD τ) (win0_3.stage ((cfg0 (F := F)).slots t 3)) fullShare (V m c main_arg7 : Vec F S64x1x512 .fp8e4m3)
              ∗ owns (c : Thread nD τ) (win0_4.stage ((cfg0 (F := F)).slots t 4)) fullShare (V m c main_arg9 : Vec F S64x1x64 .bf16)
              ∗ owns (c : Thread nD τ) (win0_5.stage ((cfg0 (F := F)).slots t 5)) fullShare S'.s) -∗ Q ⟨⟩)
        -∗ wp frame (wpE (defs₀ (F := F)) Variants.nat (c : Thread nD τ) none) Set.univ (bodyAt0 t) Q) := by
  have hs0 : (win0_0.stage ((cfg0 (F := F)).slots t 0)).view.set = Finset.univ := View.set_whole _
  have hs1 : (win0_1.stage ((cfg0 (F := F)).slots t 1)).view.set = Finset.univ := View.set_whole _
  have hs2 : (win0_2.stage ((cfg0 (F := F)).slots t 2)).view.set = Finset.univ := View.set_whole _
  have hs3 : (win0_3.stage ((cfg0 (F := F)).slots t 3)).view.set = Finset.univ := View.set_whole _
  have hs4 : (win0_4.stage ((cfg0 (F := F)).slots t 4)).view.set = Finset.univ := View.set_whole _
  have hs5 : (win0_5.stage ((cfg0 (F := F)).slots t 5)).view.set = Finset.univ := View.set_whole _
  have ho := fun v => owns_Hv (c := c) (F := F) (win0_5.stage ((cfg0 (F := F)).slots t 5)) hs5 v
  rw [owns_Hv (c := c) (win0_2.stage ((cfg0 (F := F)).slots t 2)) hs2]
  rw [owns_Hv (c := c) (win0_3.stage ((cfg0 (F := F)).slots t 3)) hs3]
  rw [owns_Hv (c := c) (win0_4.stage ((cfg0 (F := F)).slots t 4)) hs4]
  simp only [ho]
  unfold owns
  rw [hs0, hs1]
  iintro ⟨HS, HC, HB, HO, HW, ⟨%fT, %hT, H0⟩, ⟨%fL, %hL, H1⟩, H2, H3, H4, ⟨%X, H5⟩⟩ Hk
  ihave H5 := (Hv_elim (c := c) _ X) $$ H5
  unfold bodyAt0
  iapply (decode_wp (envOf m c) (reads_of m ha hL hT) (V m c main_v0) (V m c main_v1) (V m c main_arg3) (V m c main_arg7) (V m c main_arg8) (V m c main_arg9)) $$ [HS HC HB HO HW H0 H1 H2 H3 H4 H5]
  · unfold Sc
    isplitl [H1]; · iexact H1
    isplitl [H0]; · iexact H0
    isplitl [HB]; · iexact HB
    isplitl [HO]; · iexact HO
    isplitl [H2]; · iexact H2
    isplitl [H3]; · iexact H3
    isplitl [H4]; · iexact H4
    isplitl [H5]; · iexact H5
    isplitl [HS]; · iexact HS
    isplitl [HC]; · iexact HC
    iexact HW
  unfold Sc
  iintro %N %S' %hN ⟨H1, H0, HB, HO, H2, H3, H4, H5, HS, HC, HW⟩
  iapply Hk $$ %N %S' %hN
  isplitl [HS]; · iexact HS
  isplitl [HC]; · iexact HC
  isplitl [HB]; · iexact HB
  isplitl [HO]; · iexact HO
  isplitl [HW]; · iexact HW
  isplitl [H0]
  · iexists fT; isplitr; · ipureintro; exact hT
    iexact H0
  isplitl [H1]
  · iexists fL; isplitr; · ipureintro; exact hL
    iexact H1
  isplitl [H2]; · iexact H2
  isplitl [H3]; · iexact H3
  isplitl [H4]; · iexact H4
  iexact H5

/-- The first result's buffer, its contents forgotten. -/
theorem Hv_out {c : Dev nD} (v : S64x32x512.Idx → Elt F .bf16) :
    (Hv (c := c) outM v : sProp 𝕄) ⊢ iprop(∃ f, ((Memref.whole main_v2_0).view.loc (c : Thread nD τ) ↦[Finset.univ]{fullShare} f)) :=
  Hv_elim (c := c) outM v

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

end Cert.Kernel.Hand

end
-- ==== Proof.KB.Frame.lean ====
/-
  The frame: from addressable arguments the program ends, its arguments unchanged and every semaphore at zero.
-/
module

public import proofs.«01_k».proof.Proof.KB.Run

@[expose] public section

set_option maxRecDepth 16384

noncomputable section

namespace Cert.Kernel.Hand

open Cert.Kernel Cert.Kernel.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The data of the frame: nothing is said of the results. -/
abbrev datsF := dats m (fun c => (V m c main_v2_1 : Vec F S64x1x32 .f32)) (fun c _ => (Pipeline.ΦDR osem0 spec0 H0 R0 (V m) c : sProp 𝕄))

/-- The window whose contents the frame does not name: the second result's. -/
def forget5 : Fin (cfg0 (F := F)).W → Bool := ![false, false, false, false, false, true]

def bodyPreF (c : Dev nD) (t : Fin (cfg0 (F := F)).N) : sProp 𝕄 :=
  iprop((datsF m 0 c).Φ t.castSucc ∗ (datsF m 0 c).owesAt () t.castSucc
    ∗ (∃ d, owns (c : Thread nD τ) (win0_0.stage ((cfg0 (F := F)).slots t 0)) fullShare ((datsF m 0 c).before 0 t d))
    ∗ (∃ d, owns (c : Thread nD τ) (win0_1.stage ((cfg0 (F := F)).slots t 1)) fullShare ((datsF m 0 c).before 1 t d))
    ∗ (∃ d, owns (c : Thread nD τ) (win0_2.stage ((cfg0 (F := F)).slots t 2)) fullShare ((datsF m 0 c).before 2 t d))
    ∗ (∃ d, owns (c : Thread nD τ) (win0_3.stage ((cfg0 (F := F)).slots t 3)) fullShare ((datsF m 0 c).before 3 t d))
    ∗ (∃ d, owns (c : Thread nD τ) (win0_4.stage ((cfg0 (F := F)).slots t 4)) fullShare ((datsF m 0 c).before 4 t d))
    ∗ (∃ X, owns (c : Thread nD τ) (win0_5.stage ((cfg0 (F := F)).slots t 5)) fullShare X))
def bodyPostF (c : Dev nD) (t : Fin (cfg0 (F := F)).N) : sProp 𝕄 :=
  iprop((datsF m 0 c).Φ t.succ ∗ (datsF m 0 c).owesAt () t.succ
    ∗ owns (c : Thread nD τ) (win0_0.stage ((cfg0 (F := F)).slots t 0)) fullShare ((datsF m 0 c).after 0 t)
    ∗ owns (c : Thread nD τ) (win0_1.stage ((cfg0 (F := F)).slots t 1)) fullShare ((datsF m 0 c).after 1 t)
    ∗ owns (c : Thread nD τ) (win0_2.stage ((cfg0 (F := F)).slots t 2)) fullShare ((datsF m 0 c).after 2 t)
    ∗ owns (c : Thread nD τ) (win0_3.stage ((cfg0 (F := F)).slots t 3)) fullShare ((datsF m 0 c).after 3 t)
    ∗ owns (c : Thread nD τ) (win0_4.stage ((cfg0 (F := F)).slots t 4)) fullShare ((datsF m 0 c).after 4 t)
    ∗ (∃ X, owns (c : Thread nD τ) (win0_5.stage ((cfg0 (F := F)).slots t 5)) fullShare X))

theorem sound_bodyF (c : Dev nD) (ha : Addressable m c) (t : Fin (cfg0 (F := F)).N) :
    bodyPreF m c t ⊢ wp frame (wpE (defs₀ (F := F)) Variants.nat (c : Thread nD τ) none) Set.univ (bodyAt0 t) (fun _ => bodyPostF m c t) := by
  unfold bodyPreF bodyPostF
  rw [show (datsF m 0 c).Φ t.succ = Pipeline.ΦDR osem0 spec0 H0 R0 (V m) c from rfl, show (datsF m 0 c).Φ t.castSucc = Pipeline.ΦDR osem0 spec0 H0 R0 (V m) c from rfl, PhiDR0_eq]
  unfold Dat.owesAt Pipeline.owesWithin
  rw [show (datsF m 0 c).owed t.castSucc = 0 from rfl, show (datsF m 0 c).owed t.succ = 0 from rfl]
  rw [show (datsF m 0 c).after 0 t = (V m c main_arg5 : Vec F S64x32 .i32) from rfl]
  simp only [before0_0 m _ _ c t]
  rw [show (datsF m 0 c).after 1 t = (V m c main_arg6 : Vec F S64 .i32) from rfl]
  simp only [before0_1 m _ _ c t]
  rw [show (datsF m 0 c).after 2 t = (V m c main_arg8 : Vec F S64x1 .f32) from rfl]
  simp only [before0_2 m _ _ c t]
  rw [show (datsF m 0 c).after 3 t = (V m c main_arg7 : Vec F S64x1x512 .fp8e4m3) from rfl]
  simp only [before0_3 m _ _ c t]
  rw [show (datsF m 0 c).after 4 t = (V m c main_arg9 : Vec F S64x1x64 .bf16) from rfl]
  simp only [before0_4 m _ _ c t]
  iintro ⟨⟨HS, HG, HC, HB, HO⟩, ⟨%W', -, HW⟩, ⟨%d0, H0⟩, ⟨%d1, H1⟩, ⟨%d2, H2⟩, ⟨%d3, H3⟩, ⟨%d4, H4⟩, H5⟩
  iapply (body_run m c ha t) $$ [HS HC HB HO HW H0 H1 H2 H3 H4 H5]
  · isplitl [HS]; · iexact HS
    isplitl [HC]; · iexact HC
    isplitl [HB]; · iexact HB
    isplitl [HO]; · iexact HO
    isplitl [HW]
    · unfold Ow; iexists W'; iexact HW
    isplitl [H0]; · iexact H0
    isplitl [H1]; · iexact H1
    isplitl [H2]; · iexact H2
    isplitl [H3]; · iexact H3
    isplitl [H4]; · iexact H4
    iexact H5
  iintro %N %S' %hN ⟨HS, HC, HB, HO, HW, H0, H1, H2, H3, H4, H5⟩
  unfold Ow
  icases HW with ⟨%W'', HW⟩
  ihave HO := (Hv_out (c := c) S'.o) $$ HO
  isplitl [HS HG HC HB HO]
  · isplitl [HS]; · iexact HS
    isplitl [HG]; · iexact HG
    isplitl [HC]; · iexact HC
    isplitl [HB]; · iexact HB
    iexact HO
  isplitl [HW]
  · iexists W''; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexists _; iexact H5

theorem body_obligationF (c : Dev nD) (ha : Addressable m c) : BodyObligation (datsF m 0 c) (defs₀ (F := F)) Variants.nat () Set.univ forget5 := fun t => by
  rw [bigSep_W0, bigSep_W0, defs₀_row]
  exact triple_restated (sound_bodyF m c ha t) rfl .rfl fun _ => .rfl

set_option backward.isDefEq.respectTransparency.types false in
theorem run_mainF (ha : ∀ c, Addressable m c) :
    θ_run defs (onTc (τ := τ) (main (F := F))) (s₀ m ρ) (fun r => Pipeline.RDat.FramePostR (cfg0 (F := F)) (fun c => (datsF m 0 c).toRForget forget5) R0 (V m) r ∧ r.2.sem = fun _ => 0) :=
  Pipeline.θ_run_frame_dmaR_forget (Q' := _) cfgs (datsF m) (0 : Fin 1) launch0 osem0 defs₀ Variants.nat forget5 ownSemFacts0 H0 R0 H0_sub R0_sub m ρ main
    (hbody := fun c => (body_obligationF m c (ha c)).loose) (hshare := fun c => (datsF m 0 c).share_full fun _ => rfl)
    (howed := fun _ _ => rfl) (V := V m) (hmain := hmain m Variants.nat) (hA := A_eq m _ _)
    (hin := fun _ => .rfl) (hout := fun _ => .rfl)

theorem rest_of {r : PUnit × MemSt nD τ sig (Elt F)} (h : Pipeline.RDat.FramePostR (cfg0 (F := F)) (fun c => (datsF m 0 c).toRForget forget5) R0 (V m) r) (c : Dev nD)
    (b : Ref sig .tc) (hb : b ∈ Pipeline.restRefs sig spec0 \ R0) : r.2.mem ((c.tc : Thread nD τ).loc b) = V m c b := (h c).2 b hb

/-- The frame, over any float operations: from addressable arguments the program terminates without a fault, leaves its ten
    arguments as they were, and leaves every semaphore at zero. -/
theorem frame (ha : ∀ c, Addressable m c) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨
      rest_of m h.1 c main_arg0 (Finset.mem_sdiff.mpr ⟨Pipeline.mem_restRefs_of main_arg0 (by decide) (by decide), by decide⟩),
      rest_of m h.1 c main_arg1 (Finset.mem_sdiff.mpr ⟨Pipeline.mem_restRefs_of main_arg1 (by decide) (by decide), by decide⟩),
      rest_of m h.1 c main_arg2 (Finset.mem_sdiff.mpr ⟨Pipeline.mem_restRefs_of main_arg2 (by decide) (by decide), by decide⟩),
      rest_of m h.1 c main_arg3 (Finset.mem_sdiff.mpr ⟨Pipeline.mem_restRefs_of main_arg3 (by decide) (by decide), by decide⟩),
      rest_of m h.1 c main_arg4 (Finset.mem_sdiff.mpr ⟨Pipeline.mem_restRefs_of main_arg4 (by decide) (by decide), by decide⟩),
      Pipeline.RDat.FramePostR.arr_in h.1 c 0 rfl,
      Pipeline.RDat.FramePostR.arr_in h.1 c 1 rfl,
      Pipeline.RDat.FramePostR.arr_in h.1 c 3 rfl,
      Pipeline.RDat.FramePostR.arr_in h.1 c 2 rfl,
      Pipeline.RDat.FramePostR.arr_in h.1 c 4 rfl⟩, h.2⟩) (run_mainF m ρ ha)

end Cert.Kernel.Hand

end
-- ==== Proof.Val.Online.lean ====
/-
  The running softmax over the extended reals: a maximum, a sum and a weighted sum kept chunk by chunk are those of all the
  tokens folded so far, whatever the scores are.
-/
module

public import Idealize.ShloMosaic.PureOps.Ideal.Laws

@[expose] public section

noncomputable section

namespace Decode

open Idealize.ShloMosaic

/-- A token's weight against the maximum `m`. -/
def wt (s m : EReal) : EReal := Ideal.exp (s - m)

theorem exp_nonneg (x : EReal) : 0 ≤ Ideal.exp x := by
  induction x with
  | bot => exact le_rfl
  | top => exact le_top
  | coe r => exact EReal.coe_nonneg.mpr (Real.exp_pos r).le

theorem wt_nonneg (s m : EReal) : 0 ≤ wt s m := exp_nonneg _

theorem wt_bot (m : EReal) : wt ⊥ m = 0 := by
  unfold wt; rw [EReal.bot_sub]; rfl

theorem wt_ne_top {s m : EReal} (h : s ≤ m) : wt s m ≠ ⊤ := by
  unfold wt
  induction m with
  | bot => rw [le_bot_iff.mp h, EReal.bot_sub]; exact EReal.zero_ne_top
  | top => rw [EReal.sub_top]; exact EReal.zero_ne_top
  | coe r =>
    induction s with
    | bot => rw [EReal.bot_sub]; exact EReal.zero_ne_top
    | top => exact absurd h (not_le.mpr (EReal.coe_lt_top r))
    | coe q => rw [← EReal.coe_sub]; exact EReal.coe_ne_top _

/-- Weights against one maximum become weights against a greater one. -/
theorem wt_shift {s m m' : EReal} (h : s ≤ m) (h' : m ≤ m') : wt s m * wt m m' = wt s m' := by
  unfold wt
  induction m' with
  | bot =>
    have hm := le_bot_iff.mp h'; subst hm
    have hs := le_bot_iff.mp h; subst hs
    rw [EReal.bot_sub]; exact mul_zero _
  | top => rw [EReal.sub_top, EReal.sub_top]; exact mul_zero _
  | coe r =>
    induction m with
    | bot =>
      have hs := le_bot_iff.mp h; subst hs
      rw [EReal.bot_sub, EReal.bot_sub]; exact mul_zero _
    | top => exact absurd h' (not_le.mpr (EReal.coe_lt_top r))
    | coe q =>
      induction s with
      | bot => rw [EReal.bot_sub, EReal.bot_sub]; exact zero_mul _
      | top => exact absurd h (not_le.mpr (EReal.coe_lt_top q))
      | coe p =>
        rw [← EReal.coe_sub, ← EReal.coe_sub, ← EReal.coe_sub]
        show ((Real.exp (p - q) : ℝ) : EReal) * ((Real.exp (q - r) : ℝ) : EReal) = ((Real.exp (p - r) : ℝ) : EReal)
        rw [← EReal.coe_mul, ← Real.exp_add, sub_add_sub_cancel]

/-- A factor that is nonnegative and not infinite goes into a sum. -/
theorem sum_mul_of {ι : Type} (S : Finset ι) (f : ι → EReal) {α : EReal} (h0 : 0 ≤ α) (h1 : α ≠ ⊤) :
    (∑ i ∈ S, f i) * α = ∑ i ∈ S, f i * α := by
  classical
  induction S using Finset.induction_on with
  | empty => simp
  | insert i S hi ih => rw [Finset.sum_insert hi, Finset.sum_insert hi, EReal.right_distrib_of_nonneg_of_ne_top h0 h1, ih]

/-- The greatest of the fresh score and the first `n` scores. -/
def mx (sn : EReal) (s : ℕ → EReal) (n : ℕ) : EReal := max sn ((Finset.range n).sup s)
/-- The sum of the first `n` tokens' weights and the fresh one's, each times its factor. -/
def ws (sn un : EReal) (s u : ℕ → EReal) (n : ℕ) (m : EReal) : EReal := wt sn m * un + ∑ t ∈ Finset.range n, wt (s t) m * u t

theorem le_mx {sn : EReal} {s : ℕ → EReal} {n t : ℕ} (h : t < n) : s t ≤ mx sn s n :=
  (Finset.le_sup (f := s) (Finset.mem_range.mpr h)).trans (le_max_right _ _)

theorem ws_shift {sn un : EReal} {s u : ℕ → EReal} {n : ℕ} {m m' : EReal} (h : mx sn s n ≤ m) (h' : m ≤ m') :
    ws sn un s u n m * wt m m' = ws sn un s u n m' := by
  have h1 := wt_nonneg m m'
  have h2 := wt_ne_top h'
  unfold ws
  rw [EReal.right_distrib_of_nonneg_of_ne_top h1 h2, sum_mul_of _ _ h1 h2, mul_right_comm, wt_shift ((le_max_left _ _).trans h) h']
  congr 1
  refine Finset.sum_congr rfl fun t ht => ?_
  rw [mul_right_comm, wt_shift ((le_mx (Finset.mem_range.mp ht)).trans h) h']

/-- What a running weighted sum `a` kept against the running maximum is after `n` tokens. -/
def Kept (sn un : EReal) (s u : ℕ → EReal) (n : ℕ) (a : EReal) : Prop :=
  ∀ m', mx sn s n ≤ m' → a * wt (mx sn s n) m' = ws sn un s u n m'

theorem mx_zero (sn : EReal) (s : ℕ → EReal) : mx sn s 0 = sn := by simp [mx]

theorem kept_zero (sn un : EReal) (s u : ℕ → EReal) : Kept sn un s u 0 un := by
  intro m' h
  rw [mx_zero]; simp [ws, mul_comm]

theorem mx_add (sn : EReal) (s : ℕ → EReal) (n k : ℕ) :
    mx sn s (n + k) = max (mx sn s n) (Finset.univ.sup fun i : Fin k => s (n + i.val)) := by
  unfold mx
  rw [max_assoc]
  congr 1
  refine le_antisymm (Finset.sup_le fun t ht => ?_) (max_le (Finset.sup_mono (Finset.range_mono (by omega))) (Finset.sup_le fun i _ => ?_))
  · have ht := Finset.mem_range.mp ht
    by_cases h : t < n
    · exact (Finset.le_sup (f := s) (Finset.mem_range.mpr h)).trans (le_max_left _ _)
    · have e : t = n + (⟨t - n, by omega⟩ : Fin k).val := by simp only; omega
      rw [e]
      exact (Finset.le_sup (f := fun i : Fin k => s (n + i.val)) (Finset.mem_univ _)).trans (le_max_right _ _)
  · exact Finset.le_sup (f := s) (Finset.mem_range.mpr (by have := i.isLt; omega))

theorem ws_add (sn un : EReal) (s u : ℕ → EReal) (n k : ℕ) (m : EReal) :
    ws sn un s u (n + k) m = ws sn un s u n m + ∑ i : Fin k, wt (s (n + i.val)) m * u (n + i.val) := by
  unfold ws
  rw [Finset.sum_range_add, add_assoc, Finset.sum_range (fun x => wt (s (n + x)) m * u (n + x))]

/-- One chunk: the rescaled sum plus the chunk's weights is the sum of all the tokens so far, against their maximum. -/
theorem kept_step {sn un : EReal} {s u : ℕ → EReal} {n k : ℕ} {a : EReal} (h : Kept sn un s u n a) :
    a * wt (mx sn s n) (mx sn s (n + k)) + (∑ i : Fin k, wt (s (n + i.val)) (mx sn s (n + k)) * u (n + i.val))
      = ws sn un s u (n + k) (mx sn s (n + k)) := by
  rw [h _ (by rw [mx_add]; exact le_max_left _ _), ws_add]

/-- A sum of all the tokens so far, against their maximum, is kept. -/
theorem kept_of {sn un : EReal} {s u : ℕ → EReal} {n : ℕ} : Kept sn un s u n (ws sn un s u n (mx sn s n)) :=
  fun _ h => ws_shift le_rfl h

/-- Tokens whose score is the bottom count for nothing. -/
theorem mx_tail {sn : EReal} {s : ℕ → EReal} {n k : ℕ} (hs : ∀ t, n ≤ t → s t = ⊥) : mx sn s (n + k) = mx sn s n := by
  rw [mx_add]
  refine max_eq_left (Finset.sup_le fun i _ => ?_)
  rw [hs _ (by omega)]; exact bot_le

theorem ws_tail {sn un : EReal} {s u : ℕ → EReal} {n k : ℕ} (hs : ∀ t, n ≤ t → s t = ⊥) (m : EReal) :
    ws sn un s u (n + k) m = ws sn un s u n m := by
  rw [ws_add]
  have : (∑ i : Fin k, wt (s (n + i.val)) m * u (n + i.val)) = 0 :=
    Finset.sum_eq_zero fun i _ => by rw [hs _ (by omega), wt_bot, zero_mul]
  rw [this, add_zero]

end Decode

end
-- ==== Proof.Val.Spec.lean ====
/-
  Attention of one fresh token over a paged cache, as plain sums: what both programs are shown to compute.
-/
module

public import proofs.«01_k».proof.Proof.Val.Online

@[expose] public section

noncomputable section

namespace Decode

open Idealize.ShloMosaic

/-- The inputs, entry by entry: the two halves of the queries (`X` for the latent, `Q` for the position keys), the pools
    with their scales, the page table, the lengths, and the fresh token's latent, scale and position key. -/
structure Data where
  X : Fin 64 → Fin 32 → Fin 512 → EReal
  Q : Fin 64 → Fin 32 → Fin 64 → EReal
  KV : Fin 2560 → Fin 64 → Fin 512 → EReal
  SC : Fin 2560 → Fin 64 → EReal
  KR : Fin 2560 → Fin 64 → Fin 64 → EReal
  PT : Fin 64 → Fin 32 → BitVec 32
  L : Fin 64 → BitVec 32
  CN : Fin 64 → Fin 512 → EReal
  CS : Fin 64 → EReal
  KN : Fin 64 → Fin 64 → EReal

/-- The scale of the scores. -/
def cst : EReal := Ideal.ofBits .f32 0x3D93CD3A#32

namespace Data
variable (D : Data) (b : Fin 64) (h : Fin 32) (t : ℕ)

/-- The pool page and the row in it that position `t` of sequence `b` lies in. -/
def page : Fin 2560 := ⟨(D.PT b ⟨t / 64 % 32, Nat.mod_lt _ (by norm_num)⟩).toNat % 2560, Nat.mod_lt _ (by norm_num)⟩
def row : Fin 64 := ⟨t % 64, Nat.mod_lt _ (by norm_num)⟩

/-- A cached token's score, positions at or past the length masked. -/
def sc : EReal :=
  if (t : ℤ) < (D.L b).toInt then
    ((∑ x, D.X b h x * D.KV (D.page b t) (row t) x) * D.SC (D.page b t) (row t) + ∑ y, D.Q b h y * D.KR (D.page b t) (row t) y) * cst
  else ⊥

/-- The fresh token's score. -/
def sn : EReal := ((∑ x, D.X b h x * D.CN b x) * D.CS b + ∑ y, D.Q b h y * D.KN b y) * cst

/-- The largest score, and the sum of the weights. -/
def top : EReal := mx (D.sn b h) (D.sc b h) 2048
def tot : EReal := ws (D.sn b h) 1 (D.sc b h) (fun _ => 1) 2048 (D.top b h)

/-- A cached token's value. -/
def val (j : Fin 512) (t : ℕ) : EReal := D.SC (D.page b t) (row t) * D.KV (D.page b t) (row t) j

/-- The attention output, and the logarithm of the sum of the exponentials. -/
def out (j : Fin 512) : EReal := Ideal.div (ws (D.sn b h) (D.CS b * D.CN b j) (D.sc b h) (D.val b j) 2048 (D.top b h)) (D.tot b h)
def lse : EReal := D.top b h + Ideal.log (D.tot b h)

theorem sc_bot {D : Data} {b : Fin 64} {h : Fin 32} {t : ℕ} (ht : (D.L b).toInt ≤ t) : D.sc b h t = ⊥ := if_neg (by omega)

end Data
end Decode

end
-- ==== Proof.Val.Pay.lean ====
/-
  The kernel's vector computations, entry by entry.
-/
module

public import proofs.«01_k».proof.Proof.KI.Trip
public import proofs.«01_k».proof.Proof.Val.Spec
public import Idealize.ShloMosaic.Lib.Pointwise

@[expose] public section

set_option maxRecDepth 16384

noncomputable section

namespace Cert.KernelIdeal.Hand

open Cert.KernelIdeal Cert.KernelIdeal.Gen Decode
open Idealize.ShloMosaic Idealize.ShloMosaic.TcCoe

theorem mask_eq : (Named.named κ "mask" 0xF149F2CA#32 : Ideal .f32) = ⊥ := rfl
theorem ninf : Ideal.ofBits .f32 0xFF800000#32 = ⊥ := by simp [Ideal.ofBits, Ideal.ieee]

theorem cond11_iff {k : ℕ} (hk : k ≤ 7) {v : BitVec 32} (hv : v.toInt ≤ 2048) : k0_cond11 (W k) v = 1#1 ↔ v.toInt ≤ 256 * ((k : ℤ) + 1) :=
  (wide_iff _).trans (lastW_iff hk hv)

/-- A position's test against the length. -/
theorem pos_iff {k i : ℕ} (hk : k ≤ 7) (hi : i < 256) (v : BitVec 32) :
    IntOp.cmpi .slt (IntOp.addi (Scalar.muli (W k) 256#32) (BitVec.ofNat 32 i)) v = 1#1 ↔ ((256 * k + i : ℕ) : ℤ) < v.toInt := by
  have e : IntOp.addi (Scalar.muli (W k) 256#32) (BitVec.ofNat 32 i) = W (256 * k + i) := by
    rw [show (256#32 : BitVec 32) = W 256 from rfl, W_mul, mul_comm]; exact W_add _ _
  rw [e]
  exact (slt_iff _ _).trans (by rw [W_toInt (by omega)])

variable (I : Ins Ideal) (b : Fin 64)

theorem xb_at (z : Fin 1) (h : Fin 32) (x : Fin 512) : I.xb b (ix3 z h x) = I.x (ix3 b h x) :=
  congrArg I.x (funext fun a => Fin.ext (by
    match a with
    | ⟨0, _⟩ => show b.val + 1 * z.val = b.val; omega
    | ⟨1, _⟩ => show 0 + 1 * h.val = h.val; omega
    | ⟨2, _⟩ => show 0 + 1 * x.val = x.val; omega))
theorem qb_at (z : Fin 1) (h : Fin 32) (x : Fin 64) : I.qb b (ix3 z h x) = I.q (ix3 b h x) :=
  congrArg I.q (funext fun a => Fin.ext (by
    match a with
    | ⟨0, _⟩ => show b.val + 1 * z.val = b.val; omega
    | ⟨1, _⟩ => show 0 + 1 * h.val = h.val; omega
    | ⟨2, _⟩ => show 0 + 1 * x.val = x.val; omega))
theorem cnb_at (z y : Fin 1) (x : Fin 512) : I.cnb b (ix3 z y x) = I.cn (ix3 b 0 x) :=
  congrArg I.cn (funext fun a => Fin.ext (by
    match a with
    | ⟨0, _⟩ => show b.val + 1 * z.val = b.val; omega
    | ⟨1, _⟩ => show 0 + 1 * y.val = 0; omega
    | ⟨2, _⟩ => show 0 + 1 * x.val = x.val; omega))
theorem krb_at (z y : Fin 1) (x : Fin 64) : I.krb b (ix3 z y x) = I.kr (ix3 b 0 x) :=
  congrArg I.kr (funext fun a => Fin.ext (by
    match a with
    | ⟨0, _⟩ => show b.val + 1 * z.val = b.val; omega
    | ⟨1, _⟩ => show 0 + 1 * y.val = 0; omega
    | ⟨2, _⟩ => show 0 + 1 * x.val = x.val; omega))
theorem csb_at : I.csb b = I.cs (ix2 b 0) :=
  congrArg I.cs (funext fun a => Fin.ext (by
    match a with
    | ⟨0, _⟩ => show b.val + 1 * 0 = b.val; omega
    | ⟨1, _⟩ => rfl))
theorem scg_at (g : Fin 2560) (z : Fin 1) (r : Fin 64) : I.scg g (ix2 z r) = I.sc (ix2 g r) :=
  congrArg I.sc (funext fun a => Fin.ext (by
    match a with
    | ⟨0, _⟩ => show g.val + 1 * z.val = g.val; omega
    | ⟨1, _⟩ => show 0 + 1 * r.val = r.val; omega))

/-- The page of a chunk that its position `i` lies in. -/
def pgOf (i : Fin 256) : Fin 4 := ⟨i.val / 64, by omega⟩

theorem pay11_at (g : Fin 4 → Fin 2560) (z : Fin 1) (i : Fin 256) :
    k0_pay11 (I.scg (g 0)) (I.scg (g 1)) (I.scg (g 2)) (I.scg (g 3)) (ix2 z i) = I.sc (ix2 (g (pgOf i)) (Data.row i.val)) := by
  pointwise [k0_pay11]
  have hi := i.isLt
  split_ifs with h1 h2 h3
  all_goals
    rw [scg_at]
    congr 2
    · congr 1; exact Fin.ext (by first | (show 0 = i.val / 64; omega) | (show 1 = i.val / 64; omega) | (show 2 = i.val / 64; omega) | (show 3 = i.val / 64; omega))
    · exact Fin.ext (by show _ = i.val % 64; dsimp only; omega)

/-- The scores of a chunk. -/
theorem pay12_at {k : ℕ} (hk : k ≤ 7) (g : Fin 4 → Fin 2560) (vk : Vec Ideal S1x256x512 .fp8e4m3) (vr : Vec Ideal S1x256x64 .bf16) (v : BitVec 32) (h : Fin 32) (i : Fin 256) :
    k0_pay12 (W k) (k0_pay9 (I.xb b) vk) (k0_pay10 (I.qb b) vr) (I.scg (g 0)) (I.scg (g 1)) (I.scg (g 2)) (I.scg (g 3)) v (ix2 h i)
      = if ((256 * k + i.val : ℕ) : ℤ) < v.toInt then
          ((∑ x, I.x (ix3 b h x) * vk (ix3 0 i x)) * I.sc (ix2 (g (pgOf i)) (Data.row i.val)) + ∑ y, I.q (ix3 b h y) * vr (ix3 0 i y)) * cst
        else ⊥ := by
  have h11 := pay11_at I g 0 i
  unfold k0_pay12
  generalize k0_pay11 (F := Ideal) (I.scg (g 0)) (I.scg (g 1)) (I.scg (g 2)) (I.scg (g 3)) = P at h11 ⊢
  pointwise [k0_pay9, k0_pay10, k0_pay5, k0_pay6, k0_pay8]
  simp only [xb_at, qb_at, mask_eq]
  rw [h11]
  unfold Scalar.select cst
  exact if_congr (pos_iff hk i.isLt v) rfl rfl

theorem pay2_at (h : Fin 32) (t : Fin 128) :
    k0_pay2 (k0_pay5 (I.xb b)) (k0_pay6 (I.qb b)) (I.cnb b) (I.csb b) (I.krb b) (ix2 h t)
      = ((∑ x, I.x (ix3 b h x) * I.cn (ix3 b 0 x)) * I.cs (ix2 b 0) + ∑ y, I.q (ix3 b h y) * I.kr (ix3 b 0 y)) * cst := by
  pointwise [k0_pay2, k0_pay1, k0_pay5, k0_pay6]
  simp only [xb_at, qb_at, cnb_at, krb_at, csb_at]
  rfl

theorem pay7_at (h : Fin 32) (t : Fin 512) :
    k0_pay7 (k0_pay4 (I.cnb b) (I.csb b)) (ix2 h t) = I.cs (ix2 b 0) * I.cn (ix3 b 0 t) := by
  pointwise [k0_pay7, k0_pay4, k0_pay1]
  simp only [cnb_at, csb_at]

theorem pay3_at (h : Fin 32) (t : Fin 128) : k0_pay3 (F := Ideal) (ix2 h t) = 1 := by
  pointwise [k0_pay3]

section
variable (w : BitVec 32) (v73 : FVec Ideal S32x256 .f32) (v77 : FVec Ideal S32x256 .f32) (p q r s : Vec Ideal S1x64 .f32) (v : BitVec 32) (M : Vec Ideal S32x128 .f32)

theorem pay13_at (h : Fin 32) (t : Fin 128) :
    k0_pay13 w v73 v77 p q r s v M (ix2 h t) = max (M (ix2 h t)) (Finset.univ.sup fun i : Fin 256 => k0_pay12 w v73 v77 p q r s v (ix2 h i)) := by
  pointwise [k0_pay13]
  rw [ninf]
  rfl

theorem pay18_at (u : FVec Ideal S32x128 .f32) (h : Fin 32) (t : Fin 128) : k0_pay18 u (ix2 h t) = u (ix2 h t) := by
  pointwise [k0_pay18]

theorem pay14_at (h : Fin 32) (t : Fin 128) :
    k0_pay14 w v73 v77 p q r s v M (ix2 h t) = wt (M (ix2 h t)) (k0_pay13 w v73 v77 p q r s v M (ix2 h t)) := by
  pointwise [k0_pay14]
  rfl

theorem pay15_at {T : Fin 32 → EReal} (hT : ∀ h t, k0_pay13 w v73 v77 p q r s v M (ix2 h t) = T h) (h : Fin 32) (i : Fin 256) :
    k0_pay15 w v73 v77 p q r s v M (ix2 h i) = T h := by
  pointwise [k0_pay15]
  split_ifs <;> exact hT _ _

end

theorem pay17_at (P v129 : FVec Ideal S32x256 .f32) (v128 l : FVec Ideal S32x128 .f32) (h : Fin 32) (t : Fin 128) :
    k0_pay17 (F := Ideal) P v128 v129 l (ix2 h t) = l (ix2 h t) * v128 (ix2 h t) + ∑ i, wt (P (ix2 h i)) (v129 (ix2 h i)) := by
  pointwise [k0_pay17, k0_pay16]
  rfl

theorem pay19_at (vk : Vec Ideal S1x256x512 .fp8e4m3) (v106 : FVec Ideal S1x256 .f32) (P v129 : FVec Ideal S32x256 .f32) (v128 : FVec Ideal S32x128 .f32) (a : FVec Ideal S32x512 .f32)
    {A : Fin 32 → EReal} (hA : ∀ h t, v128 (ix2 h t) = A h) (h : Fin 32) (j : Fin 512) :
    k0_pay19 (F := Ideal) (k0_pay8 vk) v106 P v128 v129 a (ix2 h j)
      = a (ix2 h j) * A h + ∑ i, wt (P (ix2 h i)) (v129 (ix2 h i)) * (v106 (ix2 0 i) * vk (ix3 0 i j)) := by
  pointwise [k0_pay19, k0_pay16, k0_pay8]
  simp only [hA, dite_eq_ite, ite_self, mul_assoc]
  rfl

theorem pay20_at (l : FVec Ideal S32x128 .f32) (a : FVec Ideal S32x512 .f32) {A : Fin 32 → EReal} (hA : ∀ h t, l (ix2 h t) = A h) (z : Fin 1) (h : Fin 32) (j : Fin 512) :
    k0_pay20 (F := Ideal) l a (ix3 z h j) = Ideal.div (a (ix2 h j)) (A h) := by
  pointwise [k0_pay20]
  simp only [hA, dite_eq_ite, ite_self]

theorem pay21_at (l m : FVec Ideal S32x128 .f32) (z y : Fin 1) (h : Fin 32) :
    k0_pay21 (F := Ideal) l m (ix3 z y h) = m (ix2 h 0) + Ideal.log (l (ix2 h 0)) := by
  pointwise [k0_pay21]

end Cert.KernelIdeal.Hand

end
-- ==== Proof.Val.Chunk.lean ====
/-
  One chunk of the decode loop advances the running maximum, sum and output by 256 positions.
-/
module

public import proofs.«01_k».proof.Proof.Val.Pay

@[expose] public section

set_option maxRecDepth 16384

noncomputable section

namespace Cert.KernelIdeal.Hand

open Cert.KernelIdeal Cert.KernelIdeal.Gen Decode
open Idealize.ShloMosaic Idealize.ShloMosaic.TcCoe

variable {c : Dev nD} (e : Env Ideal c) (I : Ins Ideal)

/-- The inputs entry by entry, as the kernel holds them. -/
def datOf : Data where
  X b h x := I.x (ix3 b h x)
  Q b h y := I.q (ix3 b h y)
  KV g r x := (e.PK : S2560x64x512.Idx → EReal) (ix3 g r x)
  SC g r := I.sc (ix2 g r)
  KR g r y := (e.PR : S2560x64x64.Idx → EReal) (ix3 g r y)
  PT b j := e.PT b.val j.val
  L b := e.L b.val
  CN b x := I.cn (ix3 b 0 x)
  CS b := I.cs (ix2 b 0)
  KN b y := I.kr (ix3 b 0 y)

variable {e}

/-! ## The rings -/

theorem agK_at {s : Fin 32} {p : Fin 4} {g : Fin 2560} {f} (h : AgK e s p g f) (r : Fin 64) (x : Fin 512) :
    (f : S32x256x512.Idx → EReal) (ix3 s ⟨64 * p.val + r.val, by omega⟩ x) = (e.PK : S2560x64x512.Idx → EReal) (ix3 g r x) := by
  have h1 := congrFun h (ix2 r x)
  have e1 : Shape.reshapeEquiv squeezes_S1x64x512_S64x512.numel_eq (ix2 r x) = (ix3 0 r x : S1x64x512.Idx) := by pointwise
  have e2 : (kvD s p).view.emb (ix2 r x) = (ix3 s ⟨64 * p.val + r.val, by omega⟩ x : S32x256x512.Idx) := by
    show (Rect.unit (s := S32x256x512) ![s.val, 64 * p.val, 0] S1x64x512.size (kvInb s p)).emb (Shape.reshapeEquiv squeezes_S1x64x512_S64x512.numel_eq (ix2 r x)) = _
    rw [e1]
    refine funext fun a => Fin.ext ?_
    match a with
    | ⟨0, _⟩ => show s.val + 1 * 0 = s.val; omega
    | ⟨1, _⟩ => show 64 * p.val + 1 * r.val = 64 * p.val + r.val; omega
    | ⟨2, _⟩ => show 0 + 1 * x.val = x.val; omega
  have e3 : (kvS g).view.emb (ix2 r x) = (ix3 g r x : S2560x64x512.Idx) := by
    show (Rect.unit (s := S2560x64x512) ![g.val, 0, 0] S1x64x512.size (kvSInb g)).emb (Shape.reshapeEquiv squeezes_S1x64x512_S64x512.numel_eq (ix2 r x)) = _
    rw [e1]
    refine funext fun a => Fin.ext ?_
    match a with
    | ⟨0, _⟩ => show g.val + 1 * 0 = g.val; omega
    | ⟨1, _⟩ => show 0 + 1 * r.val = r.val; omega
    | ⟨2, _⟩ => show 0 + 1 * x.val = x.val; omega
  have h2 : (f : S32x256x512.Idx → EReal) ((kvD s p).view.emb (ix2 r x)) = (e.PK : S2560x64x512.Idx → EReal) ((kvS g).view.emb (ix2 r x)) := h1
  rwa [e2, e3] at h2

theorem agR_at {s : Fin 32} {p : Fin 4} {g : Fin 2560} {f} (h : AgR e s p g f) (r : Fin 64) (x : Fin 64) :
    (f : S32x256x64.Idx → EReal) (ix3 s ⟨64 * p.val + r.val, by omega⟩ x) = (e.PR : S2560x64x64.Idx → EReal) (ix3 g r x) := by
  have h1 := congrFun h (ix2 r x)
  have e1 : Shape.reshapeEquiv squeezes_S1x64x64_S64x64.numel_eq (ix2 r x) = (ix3 0 r x : S1x64x64.Idx) := by pointwise
  have e2 : (rpD s p).view.emb (ix2 r x) = (ix3 s ⟨64 * p.val + r.val, by omega⟩ x : S32x256x64.Idx) := by
    show (Rect.unit (s := S32x256x64) ![s.val, 64 * p.val, 0] S1x64x64.size (rpInb s p)).emb (Shape.reshapeEquiv squeezes_S1x64x64_S64x64.numel_eq (ix2 r x)) = _
    rw [e1]
    refine funext fun a => Fin.ext ?_
    match a with
    | ⟨0, _⟩ => show s.val + 1 * 0 = s.val; omega
    | ⟨1, _⟩ => show 64 * p.val + 1 * r.val = 64 * p.val + r.val; omega
    | ⟨2, _⟩ => show 0 + 1 * x.val = x.val; omega
  have e3 : (rpS g).view.emb (ix2 r x) = (ix3 g r x : S2560x64x64.Idx) := by
    show (Rect.unit (s := S2560x64x64) ![g.val, 0, 0] S1x64x64.size (rpSInb g)).emb (Shape.reshapeEquiv squeezes_S1x64x64_S64x64.numel_eq (ix2 r x)) = _
    rw [e1]
    refine funext fun a => Fin.ext ?_
    match a with
    | ⟨0, _⟩ => show g.val + 1 * 0 = g.val; omega
    | ⟨1, _⟩ => show 0 + 1 * r.val = r.val; omega
    | ⟨2, _⟩ => show 0 + 1 * x.val = x.val; omega
  have h2 : (f : S32x256x64.Idx → EReal) ((rpD s p).view.emb (ix2 r x)) = (e.PR : S2560x64x64.Idx → EReal) ((rpS g).view.emb (ix2 r x)) := h1
  rwa [e2, e3] at h2

theorem vK_at (s : Fin 32) (f) (z : Fin 1) (i : Fin 256) (x : Fin 512) : vK (F := Ideal) s f (ix3 z i x) = f (ix3 s i x) :=
  congrArg f (funext fun a => Fin.ext (by
    match a with
    | ⟨0, _⟩ => show s.val + 1 * z.val = s.val; omega
    | ⟨1, _⟩ => show 0 + 1 * i.val = i.val; omega
    | ⟨2, _⟩ => show 0 + 1 * x.val = x.val; omega))
theorem vR_at (s : Fin 32) (f) (z : Fin 1) (i : Fin 256) (x : Fin 64) : vR (F := Ideal) s f (ix3 z i x) = f (ix3 s i x) :=
  congrArg f (funext fun a => Fin.ext (by
    match a with
    | ⟨0, _⟩ => show s.val + 1 * z.val = s.val; omega
    | ⟨1, _⟩ => show 0 + 1 * i.val = i.val; omega
    | ⟨2, _⟩ => show 0 + 1 * x.val = x.val; omega))

/-! ## A chunk's scores and values -/

section
variable {I} {n : ℕ} (hb : (sch e.L n).1 < 64) (hk : (sch e.L n).2 ≤ 7) {fK : S32x256x512.Idx → Ideal .fp8e4m3} {fR : S32x256x64.Idx → Ideal .bf16} (hag : Agrees e n fK fR)
include hb hk hag

omit hag in
theorem page_eq (i : Fin 256) : (datOf e I).page ⟨(sch e.L n).1, hb⟩ (256 * (sch e.L n).2 + i.val) = e.pg n (pgOf i).val := by
  refine Fin.ext ?_
  show (e.PT (sch e.L n).1 ((256 * (sch e.L n).2 + i.val) / 64 % 32)).toNat % 2560 = (e.PT (sch e.L n).1 ((sch e.L n).2 * 4 + i.val / 64)).toNat % 2560
  rw [show (256 * (sch e.L n).2 + i.val) / 64 % 32 = (sch e.L n).2 * 4 + i.val / 64 from by omega]

omit hag hk in
theorem row_eq (i : Fin 256) : Data.row (256 * (sch e.L n).2 + i.val) = Data.row i.val :=
  Fin.ext (by show (256 * (sch e.L n).2 + i.val) % 64 = i.val % 64; omega)

/-- Below the length the ring holds the pool's rows. -/
theorem ring_at (i : Fin 256) (hv : ((256 * (sch e.L n).2 + i.val : ℕ) : ℤ) < (e.L (sch e.L n).1).toInt) :
    (∀ x, vK (F := Ideal) (slot n) fK (ix3 0 i x) = (e.PK : S2560x64x512.Idx → EReal) (ix3 (e.pg n (pgOf i).val) (Data.row i.val) x))
    ∧ (∀ y, vR (F := Ideal) (slot n) fR (ix3 0 i y) = (e.PR : S2560x64x64.Idx → EReal) (ix3 (e.pg n (pgOf i).val) (Data.row i.val) y)) := by
  have hp : (pgOf i).val < cnt e.L n := (lt_cnt e.L n _ (pgOf i).isLt).2 (.inl (by
    rw [show min (sch e.L n).1 63 = (sch e.L n).1 from by omega]
    show ((((sch e.L n).2 * 4 + i.val / 64) * 64 : ℕ) : ℤ) < _
    omega))
  obtain ⟨h1, h2⟩ := hag (pgOf i) hp
  have hi : (⟨64 * (pgOf i).val + (Data.row i.val).val, by have := (pgOf i).isLt; have := (Data.row i.val).isLt; omega⟩ : Fin 256) = i :=
    Fin.ext (by show 64 * (i.val / 64) + i.val % 64 = i.val; omega)
  refine ⟨fun x => ?_, fun y => ?_⟩
  · rw [vK_at, ← agK_at h1, hi]
  · rw [vR_at, ← agR_at h2, hi]

theorem score_at (h : Fin 32) (i : Fin 256) :
    k0_pay12 (W (sch e.L n).2) (k0_pay9 (I.xb ⟨(sch e.L n).1, hb⟩) (vK (F := Ideal) (slot n) fK)) (k0_pay10 (I.qb ⟨(sch e.L n).1, hb⟩) (vR (F := Ideal) (slot n) fR))
      (I.scg (e.pg n 0)) (I.scg (e.pg n 1)) (I.scg (e.pg n 2)) (I.scg (e.pg n 3)) (e.L (sch e.L n).1) (ix2 h i)
      = (datOf e I).sc ⟨(sch e.L n).1, hb⟩ h (256 * (sch e.L n).2 + i.val) := by
  refine (pay12_at I ⟨(sch e.L n).1, hb⟩ hk (fun p => e.pg n p.val) _ _ _ h i).trans ?_
  unfold Data.sc
  refine if_ctx_congr Iff.rfl (fun hv => ?_) fun _ => rfl
  obtain ⟨h1, h2⟩ := ring_at hb hk hag i hv
  rw [page_eq hb hk, row_eq hb]
  simp only [h1, h2]
  rfl

/-- A weight times the value it weighs: past the length the weight is zero, whatever the ring holds. -/
theorem value_at (h : Fin 32) (j : Fin 512) (i : Fin 256) (M : EReal) :
    wt ((datOf e I).sc ⟨(sch e.L n).1, hb⟩ h (256 * (sch e.L n).2 + i.val)) M
        * (k0_pay11 (I.scg (e.pg n 0)) (I.scg (e.pg n 1)) (I.scg (e.pg n 2)) (I.scg (e.pg n 3)) (ix2 0 i) * vK (F := Ideal) (slot n) fK (ix3 0 i j))
      = wt ((datOf e I).sc ⟨(sch e.L n).1, hb⟩ h (256 * (sch e.L n).2 + i.val)) M * (datOf e I).val ⟨(sch e.L n).1, hb⟩ j (256 * (sch e.L n).2 + i.val) := by
  by_cases hv : ((256 * (sch e.L n).2 + i.val : ℕ) : ℤ) < (e.L (sch e.L n).1).toInt
  · obtain ⟨h1, -⟩ := ring_at hb hk hag i hv
    rw [show k0_pay11 (I.scg (e.pg n 0)) (I.scg (e.pg n 1)) (I.scg (e.pg n 2)) (I.scg (e.pg n 3)) (ix2 0 i) = _ from pay11_at I (fun p => e.pg n p.val) 0 i, h1]
    unfold Data.val
    rw [page_eq hb hk, row_eq hb]
    rfl
  · rw [show (datOf e I).sc ⟨(sch e.L n).1, hb⟩ h (256 * (sch e.L n).2 + i.val) = ⊥ from if_neg hv, wt_bot, zero_mul, zero_mul]
end

/-! ## The running state -/

/-- The running state after the first `n` positions of sequence `b`. -/
structure At (D : Data) (b : Fin 64) (n : ℕ) (S : St Ideal) : Prop where
  m : ∀ h t, S.m (ix2 h t) = mx (D.sn b h) (D.sc b h) n
  l : ∀ h t, S.l (ix2 h t) = ws (D.sn b h) 1 (D.sc b h) (fun _ => 1) n (mx (D.sn b h) (D.sc b h) n)
  a : ∀ h j, S.a (ix2 h j) = ws (D.sn b h) (D.CS b * D.CN b j) (D.sc b h) (D.val b j) n (mx (D.sn b h) (D.sc b h) n)

/-- The running state a chunk may be folded into: what is asked of the sums is how they rescale. -/
structure Near (D : Data) (b : Fin 64) (n : ℕ) (S : St Ideal) : Prop where
  m : ∀ h t, S.m (ix2 h t) = mx (D.sn b h) (D.sc b h) n
  l : ∀ h t, Kept (D.sn b h) 1 (D.sc b h) (fun _ => 1) n (S.l (ix2 h t))
  a : ∀ h j, Kept (D.sn b h) (D.CS b * D.CN b j) (D.sc b h) (D.val b j) n (S.a (ix2 h j))

theorem At.near {D : Data} {b : Fin 64} {n : ℕ} {S : St Ideal} (h : At D b n S) : Near D b n S :=
  ⟨h.m, fun i t => h.l i t ▸ kept_of, fun i j => h.a i j ▸ kept_of⟩

/-- Started: the fresh token alone. -/
theorem at_start {b : Fin 64} {k : ℕ} {S : St Ideal} (hS : k ≠ 0 → At (datOf e I) b (256 * k) S) : Near (datOf e I) b (256 * k) (start I b k S) := by
  unfold start
  split
  · next h =>
    subst h
    refine ⟨fun h t => ?_, fun h t => ?_, fun h j => ?_⟩
    · rw [mul_zero, mx_zero]; exact pay2_at I b h t
    · dsimp only
      rw [mul_zero, show k0_pay3 (F := Ideal) (ix2 h t) = 1 from pay3_at h t]; exact kept_zero _ _ _ _
    · dsimp only
      rw [mul_zero, show k0_pay7 (k0_pay4 (I.cnb b) (I.csb b)) (ix2 h j) = _ from pay7_at I b h j]; exact kept_zero _ _ _ _
  · next h => exact (hS h).near

/-- Folded: 256 positions more. -/
theorem at_fold {n : ℕ} (hb : (sch e.L n).1 < 64) (hk : (sch e.L n).2 ≤ 7) {fK : S32x256x512.Idx → Ideal .fp8e4m3} {fR : S32x256x64.Idx → Ideal .bf16} (hag : Agrees e n fK fR) {S : St Ideal}
    (hS : Near (datOf e I) ⟨_, hb⟩ (256 * (sch e.L n).2) S) :
    At (datOf e I) ⟨_, hb⟩ (256 * (sch e.L n).2 + 256)
      (fold I ⟨_, hb⟩ (sch e.L n).2 (e.L (sch e.L n).1) (fun p => e.pg n p.val) (vK (F := Ideal) (slot n) fK) (vR (F := Ideal) (slot n) fR) S) := by
  have hs := score_at (I := I) hb hk hag
  have hv := value_at (I := I) hb hk hag
  have h13 : ∀ h t, k0_pay13 (W (sch e.L n).2) (k0_pay9 (I.xb ⟨_, hb⟩) (vK (F := Ideal) (slot n) fK)) (k0_pay10 (I.qb ⟨_, hb⟩) (vR (F := Ideal) (slot n) fR))
      (I.scg (e.pg n 0)) (I.scg (e.pg n 1)) (I.scg (e.pg n 2)) (I.scg (e.pg n 3)) (e.L (sch e.L n).1) S.m (ix2 h t)
      = mx ((datOf e I).sn ⟨_, hb⟩ h) ((datOf e I).sc ⟨_, hb⟩ h) (256 * (sch e.L n).2 + 256) := fun h t => by
    rw [pay13_at, hS.m, mx_add]
    simp only [hs]
  have h14 := fun h t => (pay14_at (W (sch e.L n).2) (k0_pay9 (I.xb ⟨_, hb⟩) (vK (F := Ideal) (slot n) fK)) (k0_pay10 (I.qb ⟨_, hb⟩) (vR (F := Ideal) (slot n) fR))
      (I.scg (e.pg n 0)) (I.scg (e.pg n 1)) (I.scg (e.pg n 2)) (I.scg (e.pg n 3)) (e.L (sch e.L n).1) S.m h t).trans
      (congrArg₂ wt (hS.m h t) (h13 h t))
  have h15 := pay15_at _ _ _ _ _ _ _ _ _ h13
  refine ⟨fun h t => ?_, fun h t => ?_, fun h j => ?_⟩
  · exact (pay18_at _ h t).trans (h13 h t)
  · refine (pay17_at _ _ _ _ h t).trans ?_
    rw [← kept_step (hS.l h t)]
    refine congrArg₂ (· + ·) (congrArg (_ * ·) (h14 h t)) (Finset.sum_congr rfl fun i _ => ?_)
    rw [mul_one]
    exact congrArg₂ wt (hs h i) (h15 h i)
  · refine (pay19_at _ _ _ _ _ _ h14 h j).trans ?_
    rw [← kept_step (hS.a h j)]
    refine congrArg₂ (· + ·) rfl (Finset.sum_congr rfl fun i _ => ?_)
    rw [← hv h j i]
    exact congrArg (· * _) (congrArg₂ wt (hs h i) (h15 h i))

end Cert.KernelIdeal.Hand

end
-- ==== Proof.Val.Reach.lean ====
/-
  What the decode loop has computed when it ends.
-/
module

public import proofs.«01_k».proof.Proof.Val.Chunk

@[expose] public section

set_option maxRecDepth 16384

noncomputable section

namespace Cert.KernelIdeal.Hand

open Cert.KernelIdeal Cert.KernelIdeal.Gen Decode
open Idealize.ShloMosaic Idealize.ShloMosaic.TcCoe

theorem put_o (b b' : Fin 64) (w : S1x32x512.Idx → EReal) (x : S64x32x512.Idx → EReal) (h : Fin 32) (j : Fin 512) :
    VecWindow.put x ![b.val, 0, 0] S1x32x512.size w (ix3 b' h j) = if b' = b then w (ix3 0 h j) else x (ix3 b' h j) := by
  unfold VecWindow.put
  split
  · next hc =>
    have h0 := hc 0
    change b.val ≤ b'.val ∧ b'.val < b.val + 1 at h0
    rw [if_pos (Fin.ext (by omega))]
    refine congrArg w (funext fun a => Fin.ext ?_)
    match a with
    | ⟨0, _⟩ => show b'.val - b.val = 0; omega
    | ⟨1, _⟩ => show h.val - 0 = h.val; omega
    | ⟨2, _⟩ => show j.val - 0 = j.val; omega
  · next hc =>
    refine (if_neg fun he => hc fun a => ?_).symm
    subst he
    match a with
    | ⟨0, _⟩ => show b'.val ≤ b'.val ∧ b'.val < b'.val + 1; omega
    | ⟨1, _⟩ => show 0 ≤ h.val ∧ h.val < 0 + 32; omega
    | ⟨2, _⟩ => show 0 ≤ j.val ∧ j.val < 0 + 512; omega

theorem put_s (b b' : Fin 64) (w : S1x1x32.Idx → EReal) (x : S64x1x32.Idx → EReal) (h : Fin 32) :
    VecWindow.put x ![b.val, 0, 0] S1x1x32.size w (ix3 b' 0 h) = if b' = b then w (ix3 0 0 h) else x (ix3 b' 0 h) := by
  unfold VecWindow.put
  split
  · next hc =>
    have h0 := hc 0
    change b.val ≤ b'.val ∧ b'.val < b.val + 1 at h0
    rw [if_pos (Fin.ext (by omega))]
    refine congrArg w (funext fun a => Fin.ext ?_)
    match a with
    | ⟨0, _⟩ => show b'.val - b.val = 0; omega
    | ⟨1, _⟩ => rfl
    | ⟨2, _⟩ => show h.val - 0 = h.val; omega
  · next hc =>
    refine (if_neg fun he => hc fun a => ?_).symm
    subst he
    match a with
    | ⟨0, _⟩ => show b'.val ≤ b'.val ∧ b'.val < b'.val + 1; omega
    | ⟨1, _⟩ => show 0 ≤ 0 ∧ 0 < 0 + 1; omega
    | ⟨2, _⟩ => show 0 ≤ h.val ∧ h.val < 0 + 32; omega

/-- Sequence `b`'s two results stand. -/
def Done (D : Data) (b : Fin 64) (S : St Ideal) : Prop := (∀ h j, S.o (ix3 b h j) = D.out b h j) ∧ ∀ h, S.s (ix3 b 0 h) = D.lse b h

variable {c : Dev nD} {e : Env Ideal c} {I : Ins Ideal}

theorem start_o (b : Fin 64) (k : ℕ) (S : St Ideal) : (start I b k S).o = S.o := by unfold start; split <;> rfl
theorem start_s (b : Fin 64) (k : ℕ) (S : St Ideal) : (start I b k S).s = S.s := by unfold start; split <;> rfl

/-- A state that covers the sequence's length covers its whole table. -/
theorem at_all {D : Data} {b : Fin 64} {n : ℕ} {S : St Ideal} (hS : At D b n S) (hn : (D.L b).toInt ≤ n) (hn' : n ≤ 2048) : At D b 2048 S := by
  have hs : ∀ h t, n ≤ t → D.sc b h t = ⊥ := fun h t ht => Data.sc_bot (by omega)
  obtain ⟨r, hr⟩ : ∃ r, n + r = 2048 := ⟨2048 - n, by omega⟩
  rw [← hr]
  refine ⟨fun h t => ?_, fun h t => ?_, fun h j => ?_⟩
  · rw [mx_tail (hs h)]; exact hS.m h t
  · rw [mx_tail (hs h), ws_tail (hs h)]; exact hS.l h t
  · rw [mx_tail (hs h), ws_tail (hs h)]; exact hS.a h j

/-- Every trip keeps this: the running state covers the chunks of the current sequence already visited, and every earlier
    sequence's results stand. -/
theorem reach_inv (hL : ∀ i, i < 64 → (e.L i).toInt ≤ 2048) {n : ℕ} {S : St Ideal} (hr : Reach e I n S) :
    (∀ hb : (sch e.L n).1 < 64, (sch e.L n).2 ≠ 0 → At (datOf e I) ⟨_, hb⟩ (256 * (sch e.L n).2) S)
    ∧ ∀ b : Fin 64, b.val < (sch e.L n).1 → Done (datOf e I) b S := by
  induction hr with
  | zero S => exact ⟨fun _ h => absurd rfl h, fun b h => absurd h (Nat.not_lt_zero _)⟩
  | succ n S hb fK fR hag hr ih =>
    obtain ⟨ih1, ih2⟩ := ih
    have hk := sch_c7 hL n
    have hf := at_fold (I := I) hb hk hag (at_start I (ih1 hb))
    have hmin : min (sch e.L n).1 63 = (sch e.L n).1 := by omega
    have hadv : sch e.L (n + 1) = adv e.L (sch e.L n) := rfl
    unfold adv at hadv
    rw [hmin] at hadv
    unfold step finish
    have hc := cond11_iff hk (hL _ hb)
    by_cases hl : (e.L (sch e.L n).1).toInt ≤ 256 * (((sch e.L n).2 : ℤ) + 1)
    · rw [if_pos hl] at hadv
      rw [if_pos (hc.2 hl), hadv]
      refine ⟨fun _ h => absurd rfl h, fun b hlt => ?_⟩
      have hall := at_all hf (by show (e.L (sch e.L n).1).toInt ≤ _; push_cast; omega) (by omega)
      by_cases hbb : b = ⟨_, hb⟩
      · subst hbb
        refine ⟨fun h j => ?_, fun h => ?_⟩
        · refine (put_o _ _ _ _ h j).trans ((if_pos rfl).trans ((pay20_at _ _ hall.l 0 h j).trans ?_))
          rw [hall.a]; rfl
        · refine (put_s _ _ _ _ h).trans ((if_pos rfl).trans ((pay21_at _ _ 0 0 h).trans ?_))
          rw [hall.m, hall.l]; rfl
      · have hlt' : b.val < (sch e.L n).1 := by
          have : b.val ≠ (sch e.L n).1 := fun h => hbb (Fin.ext h)
          dsimp only at hlt; omega
        obtain ⟨ho, hs⟩ := ih2 b hlt'
        refine ⟨fun h j => ?_, fun h => ?_⟩
        · refine (put_o _ _ _ _ h j).trans ((if_neg hbb).trans ?_)
          exact (congrFun (start_o _ _ S) _).trans (ho h j)
        · refine (put_s _ _ _ _ h).trans ((if_neg hbb).trans ?_)
          exact (congrFun (start_s _ _ S) _).trans (hs h)
    · rw [if_neg hl] at hadv
      rw [if_neg (fun h => hl (hc.1 h)), hadv]
      refine ⟨fun hb' _ => ?_, fun b hlt => ?_⟩
      · exact hf
      · obtain ⟨ho, hs⟩ := ih2 b hlt
        exact ⟨fun h j => (congrFun (start_o _ _ S) _).trans (ho h j), fun h => (congrFun (start_s _ _ S) _).trans (hs h)⟩

/-- At the loop's end every sequence's results stand. -/
theorem reach_done (hL : ∀ i, i < 64 → (e.L i).toInt ≤ 2048) {n : ℕ} {S : St Ideal} (hr : Reach e I n S) (hn : 64 ≤ (sch e.L n).1) (b : Fin 64) :
    Done (datOf e I) b S := (reach_inv hL hr).2 b (by have := b.isLt; omega)

end Cert.KernelIdeal.Hand

end
-- ==== Proof.Val.Launch.lean ====
/-
  The kernel's two results: from addressable arguments the program ends with the attention output and the logarithm of the
  sum of the exponentials in its two result buffers, its arguments unchanged.
-/
module

public import proofs.«01_k».proof.Proof.KI.Run
public import proofs.«01_k».proof.Proof.Val.Reach
public import Idealize.ShloMosaic.Lib.Pipeline.FrameValue
public import Idealize.ShloMosaic.Lib.Pipeline.ValueKit.Geometry

@[expose] public section

set_option maxRecDepth 16384

noncomputable section

namespace Cert.KernelIdeal.Hand

open Cert.KernelIdeal Cert.KernelIdeal.Gen Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-- What the body reads, and the same entry by entry. -/
def insOf (c : Dev nD) : Ins Ideal := ⟨V m c main_v0, V m c main_v1, V m c main_arg3, V m c main_arg7, V m c main_arg8, V m c main_arg9⟩
def datK (c : Dev nD) : Data := datOf (envOf m c) (insOf m c)

/-- The two results. -/
def outG (c : Dev nD) : S64x1x32x512.Idx → EReal := fun i => (datK m c).out (i 0) (i 2) (i 3)
def lseG (c : Dev nD) : S64x1x32.Idx → EReal := fun i => (datK m c).lse (i 0) (i 2)

theorem outM_at {f : S64x1x32x512.Idx → EReal} {o : S64x32x512.Idx → EReal} (h : outM.view.read (Elt Ideal) f = o) (b : Fin 64) (i : Fin 32) (j : Fin 512) :
    f (ix4 b 0 i j) = o (ix3 b i j) := by
  rw [← h]
  have e1 : Shape.reshapeEquiv squeezes_S64x1x32x512_S64x32x512.numel_eq (ix3 b i j) = (ix4 b 0 i j : S64x1x32x512.Idx) := by pointwise
  show _ = f ((Rect.unit (s := S64x1x32x512) ![0, 0, 0, 0] S64x1x32x512.size inb_S64x1x32x512_S64x1x32x512_0_0_0_0).emb
    (Shape.reshapeEquiv squeezes_S64x1x32x512_S64x32x512.numel_eq (ix3 b i j)))
  rw [e1]
  refine congrArg f (funext fun a => Fin.ext ?_)
  match a with
  | ⟨0, _⟩ => show b.val = 0 + 1 * b.val; omega
  | ⟨1, _⟩ => show 0 = 0 + 1 * 0; omega
  | ⟨2, _⟩ => show i.val = 0 + 1 * i.val; omega
  | ⟨3, _⟩ => show j.val = 0 + 1 * j.val; omega

theorem out_eq {c : Dev nD} {f : S64x1x32x512.Idx → EReal} {S : St Ideal} (h : outM.view.read (Elt Ideal) f = S.o) (hd : ∀ b, Done (datK m c) b S) : f = outG m c := by
  funext i
  have h1 : (i 1).val < 1 := (i 1).isLt
  have hi : i = ix4 (i 0) 0 (i 2) (i 3) := by
    refine funext fun a => ?_
    match a with
    | ⟨0, _⟩ => rfl
    | ⟨1, _⟩ => exact Fin.ext (by show (i 1).val = 0; omega)
    | ⟨2, _⟩ => rfl
    | ⟨3, _⟩ => rfl
  rw [hi]
  exact (outM_at h _ _ _).trans ((hd (i 0)).1 _ _)

theorem lse_eq {c : Dev nD} {S : St Ideal} (hd : ∀ b, Done (datK m c) b S) : S.s = lseG m c := by
  funext i
  have h1 : (i 1).val < 1 := (i 1).isLt
  have hi : i = ix3 (i 0) 0 (i 2) := by
    refine funext fun a => ?_
    match a with
    | ⟨0, _⟩ => rfl
    | ⟨1, _⟩ => exact Fin.ext (by show (i 1).val = 0; omega)
    | ⟨2, _⟩ => rfl
  rw [hi]
  exact (hd (i 0)).2 _

/-- The memory after the run, at the buffer the body writes by copies. -/
def GV (c : Dev nD) : (b : Ref sig .tc) → Buf (Elt Ideal) ((c.tc : Thread nD τ).loc b) := Function.update (V m c) main_v2_0 (outG m c)

theorem PhiDRG0_eq (G : (c : Dev nD) → (b : Ref sig .tc) → Buf (Elt Ideal) ((c.tc : Thread nD τ).loc b)) (c : Dev nD) :
    (Pipeline.ΦDRG osem0 spec0 H0 R0 (V m) G c : sProp 𝕄)
      = iprop(Scr c ∗ (∃ r, prngReg c r) ∗ Sems c ∗ Hbm (envOf m c) (V m c main_v0) (V m c main_v1) (V m c main_arg3)
          ∗ ((Memref.whole main_v2_0).view.loc (c : Thread nD τ) ↦[Finset.univ]{fullShare} G c main_v2_0)) := by
  rw [Pipeline.ΦDRG_eq, scoped0_eq, ownSems00_eq, hbmPts0_eq]
  unfold Pipeline.routed; rw [BI.bigSep_eq_bigSepL_of_eq [main_v2_0] (by decide) (by decide)]; rfl

/-- What the body is entered and left with, beside the windows. -/
def PhV (c : Dev nD) (t : Fin ((cfg0 (F := Ideal)).N + 1)) : sProp 𝕄 :=
  if t.val = 0 then Pipeline.ΦDRG osem0 spec0 H0 R0 (V m) (V m) c else Pipeline.ΦDRG osem0 spec0 H0 R0 (V m) (GV m) c

theorem PhV_first (c : Dev nD) (t : Fin ((cfg0 (F := Ideal)).N + 1)) (h : t.val = 0) : PhV m c t = Pipeline.ΦDRG osem0 spec0 H0 R0 (V m) (V m) c := by
  unfold PhV; rw [if_pos h]
theorem PhV_last (c : Dev nD) (t : Fin ((cfg0 (F := Ideal)).N + 1)) (h : t.val ≠ 0) : PhV m c t = Pipeline.ΦDRG osem0 spec0 H0 R0 (V m) (GV m) c := by
  unfold PhV; rw [if_neg h]
theorem PhV_in (c : Dev nD) : Pipeline.ΦDRG osem0 spec0 H0 R0 (V m) (V m) c ⊢ PhV m c 0 := by
  rw [PhV_first m c 0 rfl]
theorem PhV_out (c : Dev nD) : PhV m c (Fin.last _) ⊢ Pipeline.ΦDRG osem0 spec0 H0 R0 (V m) (GV m) c := by
  rw [PhV_last m c (Fin.last _) (by decide)]

abbrev datsV := dats (F := Ideal) m (lseG m) (PhV m)

def bodyPreV (c : Dev nD) (t : Fin (cfg0 (F := Ideal)).N) : sProp 𝕄 :=
  iprop((datsV m 0 c).Φ t.castSucc ∗ (datsV m 0 c).owesAt () t.castSucc
    ∗ (∃ d, owns (c : Thread nD τ) (win0_0.stage ((cfg0 (F := Ideal)).slots t 0)) fullShare ((datsV m 0 c).before 0 t d))
    ∗ (∃ d, owns (c : Thread nD τ) (win0_1.stage ((cfg0 (F := Ideal)).slots t 1)) fullShare ((datsV m 0 c).before 1 t d))
    ∗ (∃ d, owns (c : Thread nD τ) (win0_2.stage ((cfg0 (F := Ideal)).slots t 2)) fullShare ((datsV m 0 c).before 2 t d))
    ∗ (∃ d, owns (c : Thread nD τ) (win0_3.stage ((cfg0 (F := Ideal)).slots t 3)) fullShare ((datsV m 0 c).before 3 t d))
    ∗ (∃ d, owns (c : Thread nD τ) (win0_4.stage ((cfg0 (F := Ideal)).slots t 4)) fullShare ((datsV m 0 c).before 4 t d))
    ∗ (∃ d, owns (c : Thread nD τ) (win0_5.stage ((cfg0 (F := Ideal)).slots t 5)) fullShare ((datsV m 0 c).before 5 t d)))
def bodyPostV (c : Dev nD) (t : Fin (cfg0 (F := Ideal)).N) : sProp 𝕄 :=
  iprop((datsV m 0 c).Φ t.succ ∗ (datsV m 0 c).owesAt () t.succ
    ∗ owns (c : Thread nD τ) (win0_0.stage ((cfg0 (F := Ideal)).slots t 0)) fullShare ((datsV m 0 c).after 0 t)
    ∗ owns (c : Thread nD τ) (win0_1.stage ((cfg0 (F := Ideal)).slots t 1)) fullShare ((datsV m 0 c).after 1 t)
    ∗ owns (c : Thread nD τ) (win0_2.stage ((cfg0 (F := Ideal)).slots t 2)) fullShare ((datsV m 0 c).after 2 t)
    ∗ owns (c : Thread nD τ) (win0_3.stage ((cfg0 (F := Ideal)).slots t 3)) fullShare ((datsV m 0 c).after 3 t)
    ∗ owns (c : Thread nD τ) (win0_4.stage ((cfg0 (F := Ideal)).slots t 4)) fullShare ((datsV m 0 c).after 4 t)
    ∗ owns (c : Thread nD τ) (win0_5.stage ((cfg0 (F := Ideal)).slots t 5)) fullShare ((datsV m 0 c).after 5 t))

theorem sound_bodyV (c : Dev nD) (ha : Addressable m c) (t : Fin (cfg0 (F := Ideal)).N) :
    bodyPreV m c t ⊢ wp frame (wpE (defs₀ (F := Ideal)) Variants.nat (c : Thread nD τ) none) Set.univ (bodyAt0 t) (fun _ => bodyPostV m c t) := by
  unfold bodyPreV bodyPostV
  have ht : t.val = 0 := by have h1 : t.val < 1 := t.isLt; omega
  rw [show (datsV m 0 c).Φ t.castSucc = Pipeline.ΦDRG osem0 spec0 H0 R0 (V m) (V m) c from PhV_first m c _ ht,
    show (datsV m 0 c).Φ t.succ = Pipeline.ΦDRG osem0 spec0 H0 R0 (V m) (GV m) c from PhV_last m c t.succ (by rw [Fin.val_succ]; omega), PhiDRG0_eq, PhiDRG0_eq]
  unfold Dat.owesAt Pipeline.owesWithin
  rw [show (datsV m 0 c).owed t.castSucc = 0 from rfl, show (datsV m 0 c).owed t.succ = 0 from rfl]
  rw [show (datsV m 0 c).after 0 t = (V m c main_arg5 : Vec Ideal S64x32 .i32) from rfl]
  simp only [before0_0 m _ _ c t]
  rw [show (datsV m 0 c).after 1 t = (V m c main_arg6 : Vec Ideal S64 .i32) from rfl]
  simp only [before0_1 m _ _ c t]
  rw [show (datsV m 0 c).after 2 t = (V m c main_arg8 : Vec Ideal S64x1 .f32) from rfl]
  simp only [before0_2 m _ _ c t]
  rw [show (datsV m 0 c).after 3 t = (V m c main_arg7 : Vec Ideal S64x1x512 .fp8e4m3) from rfl]
  simp only [before0_3 m _ _ c t]
  rw [show (datsV m 0 c).after 4 t = (V m c main_arg9 : Vec Ideal S64x1x64 .bf16) from rfl]
  simp only [before0_4 m _ _ c t]
  rw [show (datsV m 0 c).after 5 t = lseG m c from rfl]
  rw [show GV m c main_v2_0 = outG m c from Function.update_self _ _ _]
  iintro ⟨⟨HS, HG, HC, HB, HO⟩, ⟨%W', -, HW⟩, ⟨%d0, H0⟩, ⟨%d1, H1⟩, ⟨%d2, H2⟩, ⟨%d3, H3⟩, ⟨%d4, H4⟩, ⟨%d5, H5⟩⟩
  iapply (body_run m c ha t) $$ [HS HC HB HO HW H0 H1 H2 H3 H4 H5]
  · isplitl [HS]; · iexact HS
    isplitl [HC]; · iexact HC
    isplitl [HB]; · iexact HB
    isplitl [HO]; · iexists _; iexact HO
    isplitl [HW]
    · unfold Ow; iexists W'; iexact HW
    isplitl [H0]; · iexact H0
    isplitl [H1]; · iexact H1
    isplitl [H2]; · iexact H2
    isplitl [H3]; · iexact H3
    isplitl [H4]; · iexact H4
    iexists _; iexact H5
  iintro %N %S' %hN ⟨HS, HC, HB, HO, HW, H0, H1, H2, H3, H4, H5⟩
  have hd : ∀ b, Done (datK m c) b S' := reach_done (e := envOf m c) (I := insOf m c) ha.lens hN.1 hN.2
  rw [lse_eq m hd]
  unfold Ow Hv
  icases HW with ⟨%W'', HW⟩
  icases HO with ⟨%f, %hf, HO⟩
  rw [show f = outG m c from out_eq m hf hd]
  isplitl [HS HG HC HB HO]
  · isplitl [HS]; · iexact HS
    isplitl [HG]; · iexact HG
    isplitl [HC]; · iexact HC
    isplitl [HB]; · iexact HB
    iexact HO
  isplitl [HW]
  · iexists W''; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

theorem body_obligationV (c : Dev nD) (ha : Addressable m c) : BodyObligation (datsV m 0 c) (defs₀ (F := Ideal)) Variants.nat () Set.univ := fun t => by
  rw [bigSep_W0, bigSep_W0, defs₀_row]
  exact triple_restated (sound_bodyV m c ha t) rfl .rfl fun _ => .rfl

set_option backward.isDefEq.respectTransparency.types false in
theorem run_mainV (ha : ∀ c, Addressable m c) :
    θ_run defs (onTc (τ := τ) (main (F := Ideal))) (s₀ m ρ) (Pipeline.FramePostRG cfgs (datsV m) 0 R0 (V m) (GV m)) :=
  Pipeline.θ_run_frame_dmaRG (Q' := _) cfgs (datsV m) (0 : Fin 1) launch0 osem0 defs₀ Variants.nat ownSemFacts0 H0 R0 H0_sub R0_sub m ρ main
    (hbody := fun c => (body_obligationV m c (ha c)).loose) (hshare := fun c => (datsV m 0 c).share_full fun _ => rfl)
    (howed := fun _ _ => rfl) (V := V m) (hmain := hmain m Variants.nat) (hA := A_eq m _ _) (G := GV m)
    (hin := PhV_in m) (hout := PhV_out m)

theorem final5 (c : Dev nD) : (datsV m 0 c).arrAt 5 (cfg0 (F := Ideal)).N = lseG m c := by
  refine (datsV m 0 c).arrAt_eq_of_after_last 5 ⟨0, by decide⟩ (by decide +kernel) _ fun j => ?_
  rfl

theorem rest_V {r : PUnit × MemSt nD τ sig (Elt Ideal)} (h : Pipeline.FramePostRG cfgs (datsV m) 0 R0 (V m) (GV m) r) (c : Dev nD)
    (b : Ref sig .tc) (hb : b ∈ Pipeline.restRefs sig spec0 \ R0) : r.2.mem ((c.tc : Thread nD τ).loc b) = V m c b := (h.1 c).2 b hb

/-- The kernel's value: the two results, and the arguments unchanged. -/
theorem value (ha : ∀ c, Addressable m c) :
    θ_run defs (onTc (τ := τ) (main (F := Ideal))) ⟨m, fun _ => 0, ρ⟩ (fun r => ∀ c : Dev nD,
      r.2.mem ((c.tc : Thread nD τ).loc main_v2_0) = outG m c
      ∧ r.2.mem ((c.tc : Thread nD τ).loc main_v2_1) = lseG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
      (h.2 c main_v2_0 (by decide)).trans (Function.update_self _ _ _),
      ((h.1 c).1 5).trans (final5 m c),
      rest_V m h c main_arg0 (Finset.mem_sdiff.mpr ⟨Pipeline.mem_restRefs_of main_arg0 (by decide) (by decide), by decide⟩),
      rest_V m h c main_arg1 (Finset.mem_sdiff.mpr ⟨Pipeline.mem_restRefs_of main_arg1 (by decide) (by decide), by decide⟩),
      rest_V m h c main_arg2 (Finset.mem_sdiff.mpr ⟨Pipeline.mem_restRefs_of main_arg2 (by decide) (by decide), by decide⟩),
      rest_V m h c main_arg3 (Finset.mem_sdiff.mpr ⟨Pipeline.mem_restRefs_of main_arg3 (by decide) (by decide), by decide⟩),
      rest_V m h c main_arg4 (Finset.mem_sdiff.mpr ⟨Pipeline.mem_restRefs_of main_arg4 (by decide) (by decide), by decide⟩),
      ((h.1 c).1 0).trans ((datsV m 0 c).arrAt_in 0 rfl _),
      ((h.1 c).1 1).trans ((datsV m 0 c).arrAt_in 1 rfl _),
      ((h.1 c).1 3).trans ((datsV m 0 c).arrAt_in 3 rfl _),
      ((h.1 c).1 2).trans ((datsV m 0 c).arrAt_in 2 rfl _),
      ((h.1 c).1 4).trans ((datsV m 0 c).arrAt_in 4 rfl _)⟩) (run_mainV m ρ ha)

end Cert.KernelIdeal.Hand

end
-- ==== Proof.Val.RefIn.lean ====
/-
  What the reference computes on: the pools widened by its one kernel, and the pages gathered for each sequence.
-/
module

public import proofs.«01_k».proof.Proof.Val.Spec
public import proofs.«01_k».proof.Proof.Gen.ReferenceIdeal.Run
public import Idealize.ShloMosaic.Lib.Pointwise
public import Idealize.ShloMosaic.Lib.Tactic.CleanTypes
public import Idealize.ShloMosaic.Lib.ValueIdxCore
public import Idealize.ShloMosaic.Lib.Pipeline.ValueKit.Geometry

@[expose] public section

set_option maxRecDepth 16384

noncomputable section

namespace Cert.ReferenceIdeal.Hand

open Cert.ReferenceIdeal Cert.ReferenceIdeal.Gen Cert.ReferenceIdeal.Value Decode
open Idealize.ShloMosaic Idealize.ShloMosaic.TcCoe Idealize.ShloMosaic.StableHlo

/-! ## The widened pools -/

section
variable (m : (ℓ : Loc nD τ sig) → Buf (Elt Ideal) ℓ) (c : Dev nD)

theorem emb_pool (y : S2560x64x512.Idx) : r0_0.emb y = y :=
  funext fun a => Fin.ext (by
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _))

theorem emb_new (y : S64x1x512.Idx) : r0_1.emb y = y :=
  funext fun a => Fin.ext (by
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _))

/-- Over the reals widening changes no number. -/
theorem out_pool (x0 : Vec Ideal S2560x64x512 .fp8e4m3) (x1 : Vec Ideal S64x1x512 .fp8e4m3) (y : S2560x64x512.Idx) :
    (out0_2 x0 x1 y : EReal) = x0 y := by
  have h := View.canon_cons_emb (Val := Elt Ideal) (e := .bf16) r0_0 (k0_pay1 (View.ld x0 r0_0)) [] y
  rw [emb_pool] at h
  refine h.trans ?_
  show x0 (r0_0.emb y) = x0 y
  rw [emb_pool]

theorem out_new (x0 : Vec Ideal S2560x64x512 .fp8e4m3) (x1 : Vec Ideal S64x1x512 .fp8e4m3) (y : S64x1x512.Idx) :
    (out0_3 x0 x1 y : EReal) = x1 y := by
  have h := View.canon_cons_emb (Val := Elt Ideal) (e := .bf16) r0_1 (k0_pay2 (View.ld x1 r0_1)) [] y
  rw [emb_new] at h
  refine h.trans ?_
  show x1 (r0_1.emb y) = x1 y
  rw [emb_new]

theorem emb_win0 (j : S2560x64x512.Idx) : (cfg0.win 0).arr.view.emb (((cfg0.win 0).rect ⟨0, by decide⟩).emb j) = j := by
  funext a
  refine Fin.ext ?_
  exact Pipeline.Window.rect_emb_val_of_index_zero (cfg0.win 0) ⟨0, by decide⟩ a (by revert a; decide +kernel) j

theorem emb_win1 (j : S64x1x512.Idx) : (cfg0.win 1).arr.view.emb (((cfg0.win 1).rect ⟨0, by decide⟩).emb j) = j := by
  funext a
  refine Fin.ext ?_
  exact Pipeline.Window.rect_emb_val_of_index_zero (cfg0.win 1) ⟨0, by decide⟩ a (by revert a; decide +kernel) j

theorem after_pool (t : Fin cfg0.N) (ht : t = ⟨0, by decide⟩) (j : S2560x64x512.Idx) :
    ((Gen.dats m 0 c).after 2 t j : EReal) = (m ((c.tc : Thread nD τ).loc main_arg2) : S2560x64x512.Idx → EReal) j := by
  subst ht
  rw [after0_2]
  refine (out_pool (iblk m c 0 ⟨0, by decide⟩) (iblk m c 1 ⟨0, by decide⟩) j).trans ?_
  exact congrArg (m ((c.tc : Thread nD τ).loc main_arg2) : S2560x64x512.Idx → EReal) (emb_win0 j)

/-- The widened pool is the pool. -/
theorem reg_pool : reg_main_v0_0 m c = fun i => (m ((c.tc : Thread nD τ).loc main_arg2) : S2560x64x512.Idx → EReal) i := by
  unfold reg_main_v0_0
  refine (Gen.dats m 0 c).arrAt_eq_of_after_last 2 ⟨0, by decide⟩ (by decide +kernel) _ fun j => ?_
  exact after_pool m c _ rfl j

theorem after_new (t : Fin cfg0.N) (ht : t = ⟨0, by decide⟩) (j : S64x1x512.Idx) :
    ((Gen.dats m 0 c).after 3 t j : EReal) = (m ((c.tc : Thread nD τ).loc main_arg7) : S64x1x512.Idx → EReal) j := by
  subst ht
  rw [after0_3]
  refine (out_new (iblk m c 0 ⟨0, by decide⟩) (iblk m c 1 ⟨0, by decide⟩) j).trans ?_
  exact congrArg (m ((c.tc : Thread nD τ).loc main_arg7) : S64x1x512.Idx → EReal) (emb_win1 j)

/-- The widened fresh latents are the fresh latents. -/
theorem reg_new : reg_main_v0_1 m c = fun i => (m ((c.tc : Thread nD τ).loc main_arg7) : S64x1x512.Idx → EReal) i := by
  unfold reg_main_v0_1
  refine (Gen.dats m 0 c).arrAt_eq_of_after_last 3 ⟨0, by decide⟩ (by decide +kernel) _ fun j => ?_
  exact after_new m c _ rfl j

end

/-! ## Gathering pages -/

/-- The dimension numbers of a gather of whole pages. -/
abbrev pageDims (C : Nat) (wf : GatherDims.WF ⟨3, ![2560, 64, C]⟩ ⟨3, ![64, 32, 1]⟩ ⟨4, ![64, 32, 64, C]⟩ [2, 3] [0] [] [0] [] 2 ![1, 64, C]) :
    GatherDims ⟨3, ![2560, 64, C]⟩ ⟨3, ![64, 32, 1]⟩ ⟨4, ![64, 32, 64, C]⟩ := ⟨[2, 3], [0], [], [], [0], 2, ![1, 64, C], wf⟩

/-- Whole pages gathered by a table of page numbers: entry `(b, j, r, k)` is the pool's at page `j` of sequence `b`. -/
theorem gather_pages {α : Type} (C : Nat) (wf) (x : (⟨3, ![2560, 64, C]⟩ : Shape).Idx → α) (idx : IVec ⟨3, ![64, 32, 1]⟩ 32) (b : Fin 64) (j : Fin 32)
    (r : Fin 64) (k : Fin C) (hp : (idx (ix3 b j 0)).toNat < 2560) :
    Host.gather (pageDims C wf) x idx (ix4 b j r k) = x (ix3 ⟨(idx (ix3 b j 0)).toNat, hp⟩ r k) := by
  unfold Host.gather
  congr 1
  funext a
  refine Fin.ext ?_
  show (pageDims C wf).start (ix4 b j r k) idx a + (pageDims C wf).batchCoord (ix4 b j r k) a + (pageDims C wf).offCoord (ix4 b j r k) a = _
  rw [(pageDims C wf).batchCoord_eq_zero _ _ List.not_mem_nil]
  have ht : (idx (ix3 b j 0)).toInt.toNat = (idx (ix3 b j 0)).toNat := by
    rw [BitVec.toInt_eq_toNat_of_lt (by omega)]; rfl
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [(pageDims C wf).offCoord_eq_zero _ _ (fun h => (((pageDims C wf).mem_sKept _).mp h).1 (List.mem_singleton.mpr rfl))]
    unfold GatherDims.start
    rw [dif_pos (show (0 : Fin 3) ∈ (pageDims C wf).startIndexMap from List.mem_singleton.mpr rfl)]
    have hsi : (pageDims C wf).siIdx (ix4 b j r k) ⟨List.idxOf (0 : Fin 3) (pageDims C wf).startIndexMap,
        List.idxOf_lt_length_iff.2 (List.mem_singleton.mpr rfl)⟩ = ix3 b j 0 := by
      funext q; refine Fin.ext ?_
      match q with
      | ⟨0, _⟩ => rfl
      | ⟨1, _⟩ => rfl
      | ⟨2, _⟩ => rfl
    rw [hsi, ht]
    show min _ (2560 - 1) + 0 + 0 = (idx (ix3 b j 0)).toNat
    omega
  · unfold GatherDims.start GatherDims.offCoord
    rw [dif_neg (show (1 : Fin 3) ∉ (pageDims C wf).startIndexMap from fun h => absurd (List.mem_singleton.mp h) (by decide : ¬(1 : Fin 3) = 0)),
      dif_pos (((pageDims C wf).mem_sKept (1 : Fin 3)).mpr ⟨fun h => absurd (List.mem_singleton.mp h) (by decide : ¬(1 : Fin 3) = 0), List.not_mem_nil⟩)]
    exact (Nat.zero_add _).trans rfl
  · unfold GatherDims.start GatherDims.offCoord
    rw [dif_neg (show (2 : Fin 3) ∉ (pageDims C wf).startIndexMap from fun h => absurd (List.mem_singleton.mp h) (by decide : ¬(2 : Fin 3) = 0)),
      dif_pos (((pageDims C wf).mem_sKept (2 : Fin 3)).mpr ⟨fun h => absurd (List.mem_singleton.mp h) (by decide : ¬(2 : Fin 3) = 0), List.not_mem_nil⟩)]
    exact (Nat.zero_add _).trans rfl

/-- The dimension numbers of a gather of rows of scales. -/
abbrev scaleDims (wf : GatherDims.WF ⟨2, ![2560, 64]⟩ ⟨3, ![64, 32, 1]⟩ ⟨3, ![64, 32, 64]⟩ [2] [0] [] [0] [] 2 ![1, 64]) :
    GatherDims ⟨2, ![2560, 64]⟩ ⟨3, ![64, 32, 1]⟩ ⟨3, ![64, 32, 64]⟩ := ⟨[2], [0], [], [], [0], 2, ![1, 64], wf⟩

/-- So for the pool of scales, one number to a row. -/
theorem gather_scales {α : Type} (wf) (x : (⟨2, ![2560, 64]⟩ : Shape).Idx → α) (idx : IVec ⟨3, ![64, 32, 1]⟩ 32) (b : Fin 64) (j : Fin 32)
    (r : Fin 64) (hp : (idx (ix3 b j 0)).toNat < 2560) :
    Host.gather (scaleDims wf) x idx (ix3 b j r) = x (ix2 ⟨(idx (ix3 b j 0)).toNat, hp⟩ r) := by
  unfold Host.gather
  congr 1
  funext a
  refine Fin.ext ?_
  show (scaleDims wf).start (ix3 b j r) idx a + (scaleDims wf).batchCoord (ix3 b j r) a + (scaleDims wf).offCoord (ix3 b j r) a = _
  rw [(scaleDims wf).batchCoord_eq_zero _ _ List.not_mem_nil]
  have ht : (idx (ix3 b j 0)).toInt.toNat = (idx (ix3 b j 0)).toNat := by
    rw [BitVec.toInt_eq_toNat_of_lt (by omega)]; rfl
  have h01 : a = 0 ∨ a = 1 := by
    match a with
    | ⟨0, _⟩ => exact Or.inl rfl
    | ⟨1, _⟩ => exact Or.inr rfl
  rcases h01 with rfl | rfl
  · rw [(scaleDims wf).offCoord_eq_zero _ _ (fun h => (((scaleDims wf).mem_sKept _).mp h).1 (List.mem_singleton.mpr rfl))]
    unfold GatherDims.start
    rw [dif_pos (show (0 : Fin 2) ∈ (scaleDims wf).startIndexMap from List.mem_singleton.mpr rfl)]
    have hsi : (scaleDims wf).siIdx (ix3 b j r) ⟨List.idxOf (0 : Fin 2) (scaleDims wf).startIndexMap,
        List.idxOf_lt_length_iff.2 (List.mem_singleton.mpr rfl)⟩ = ix3 b j 0 := by
      funext q; refine Fin.ext ?_
      match q with
      | ⟨0, _⟩ => rfl
      | ⟨1, _⟩ => rfl
      | ⟨2, _⟩ => rfl
    rw [hsi, ht]
    show min _ (2560 - 1) + 0 + 0 = (idx (ix3 b j 0)).toNat
    omega
  · unfold GatherDims.start GatherDims.offCoord
    rw [dif_neg (show (1 : Fin 2) ∉ (scaleDims wf).startIndexMap from fun h => absurd (List.mem_singleton.mp h) (by decide : ¬(1 : Fin 2) = 0)),
      dif_pos (((scaleDims wf).mem_sKept (1 : Fin 2)).mpr ⟨fun h => absurd (List.mem_singleton.mp h) (by decide : ¬(1 : Fin 2) = 0), List.not_mem_nil⟩)]
    exact (Nat.zero_add _).trans rfl

/-! ## The table the pages are gathered by -/

section
variable (V0 : Valuation τ sig (Elt Ideal))

/-- The table of page numbers, a negative one counted from the end of the pool. -/
abbrev tableV : IVec S64x32x1 32 :=
  broadcastInDim S64x32x1 ![0, 1] bcast_S64x32_S64x32x1_0_1 (select (cmpi .slt (V0 (Proc.devRef .tc main_arg5)) (broadcastInDim S64x32 ![] bcast_S_S64x32 (constantI S_ 32 0#32))) (addi (V0 (Proc.devRef .tc main_arg5)) (broadcastInDim S64x32 ![] bcast_S_S64x32 (constantI S_ 32 2560#32))) (V0 (Proc.devRef .tc main_arg5)))

theorem select_page {x : BitVec 32} (h : x.toNat < 2560) : Scalar.select (IntOp.cmpi .slt x 0#32) (IntOp.addi x 2560#32) x = x := by
  have h2 : BitVec.slt x 0#32 = false := by
    have e0 : (0#32 : BitVec 32).toInt = 0 := by decide
    rw [Bool.eq_false_iff, Ne, BitVec.slt_iff_toInt_lt, e0, BitVec.toInt_eq_toNat_of_lt (by omega)]
    omega
  show (if BitVec.ofBool (BitVec.slt x 0#32) = 1#1 then _ else x) = x
  rw [h2]
  exact if_neg (by decide)

/-- A page in the pool is not negative, so it is itself. -/
theorem table_at (hp : ∀ b j, ((V0 (Proc.devRef .tc main_arg5) : S64x32.Idx → BitVec 32) (ix2 b j)).toNat < 2560) (b : Fin 64) (j : Fin 32) :
    tableV V0 (ix3 b j 0) = (V0 (Proc.devRef .tc main_arg5) : S64x32.Idx → BitVec 32) (ix2 b j) := by
  have h1 : tableV V0 (ix3 b j 0) = Scalar.select (IntOp.cmpi .slt ((V0 (Proc.devRef .tc main_arg5) : S64x32.Idx → BitVec 32) (ix2 b j)) 0#32)
      (IntOp.addi ((V0 (Proc.devRef .tc main_arg5) : S64x32.Idx → BitVec 32) (ix2 b j)) 2560#32) ((V0 (Proc.devRef .tc main_arg5) : S64x32.Idx → BitVec 32) (ix2 b j)) := by
    clean_types
    pointwise
  exact h1.trans (select_page (hp b j))

/-- The place of position `t`, in pages and rows. -/
abbrev pageOf (t : Fin 2048) : Fin 32 := ⟨t.val / 64, by omega⟩
abbrev rowOf (t : Fin 2048) : Fin 64 := ⟨t.val % 64, by omega⟩

/-- The gathered latents, scales and position keys, at position `t` of sequence `b`. -/
theorem kv_at (hp : ∀ b j, ((V0 (Proc.devRef .tc main_arg5) : S64x32.Idx → BitVec 32) (ix2 b j)).toNat < 2560) (b : Fin 64) (t : Fin 2048) (x : Fin 512) :
    (res_main_v8 V0 : S64x2048x512.Idx → EReal) (ix3 b t x)
      = (V0 (Proc.devRef .tc main_v0_0) : S2560x64x512.Idx → EReal) (ix3 ⟨_, hp b (pageOf t)⟩ (rowOf t) x) := by
  have e : Shape.reshapeEquiv shapeCasts_S64x32x64x512_S64x2048x512 (ix3 b t x) = (ix4 b (pageOf t) (rowOf t) x : S64x32x64x512.Idx) := by pointwise
  have ht := table_at V0 hp b (pageOf t)
  have h2 : (tableV V0 (ix3 b (pageOf t) 0)).toNat < 2560 := by rw [ht]; exact hp b _
  show Host.gather (pageDims 512 _) (V0 (Proc.devRef .tc main_v0_0) : S2560x64x512.Idx → EReal) (tableV V0) (Shape.reshapeEquiv shapeCasts_S64x32x64x512_S64x2048x512 (ix3 b t x)) = _
  rw [e, gather_pages 512 _ _ _ _ _ _ _ h2]
  simp only [ht]

theorem sc_at (hp : ∀ b j, ((V0 (Proc.devRef .tc main_arg5) : S64x32.Idx → BitVec 32) (ix2 b j)).toNat < 2560) (b : Fin 64) (t : Fin 2048) :
    (res_main_v16 V0 : S64x2048.Idx → EReal) (ix2 b t)
      = (V0 (Proc.devRef .tc main_arg3) : S2560x64.Idx → EReal) (ix2 ⟨_, hp b (pageOf t)⟩ (rowOf t)) := by
  have e : Shape.reshapeEquiv shapeCasts_S64x32x64_S64x2048 (ix2 b t) = (ix3 b (pageOf t) (rowOf t) : S64x32x64.Idx) := by pointwise
  have ht := table_at V0 hp b (pageOf t)
  have h2 : (tableV V0 (ix3 b (pageOf t) 0)).toNat < 2560 := by rw [ht]; exact hp b _
  show Host.gather (scaleDims _) (V0 (Proc.devRef .tc main_arg3) : S2560x64.Idx → EReal) (tableV V0) (Shape.reshapeEquiv shapeCasts_S64x32x64_S64x2048 (ix2 b t)) = _
  rw [e, gather_scales _ _ _ _ _ _ h2]
  simp only [ht]

/-- The position keys gathered. -/
abbrev ropeV : S64x2048x64.Idx → EReal :=
  shapeCast S64x2048x64 (Host.gather gather_S2560x64x64_S64x32x1_S64x32x64x64_23_0_n_n_0_2_16464 (V0 (Proc.devRef .tc main_arg4) : S2560x64x64.Idx → EReal) (tableV V0)) shapeCasts_S64x32x64x64_S64x2048x64

theorem kr_at (hp : ∀ b j, ((V0 (Proc.devRef .tc main_arg5) : S64x32.Idx → BitVec 32) (ix2 b j)).toNat < 2560) (b : Fin 64) (t : Fin 2048) (y : Fin 64) :
    ropeV V0 (ix3 b t y) = (V0 (Proc.devRef .tc main_arg4) : S2560x64x64.Idx → EReal) (ix3 ⟨_, hp b (pageOf t)⟩ (rowOf t) y) := by
  have e : Shape.reshapeEquiv shapeCasts_S64x32x64x64_S64x2048x64 (ix3 b t y) = (ix4 b (pageOf t) (rowOf t) y : S64x32x64x64.Idx) := by pointwise
  have ht := table_at V0 hp b (pageOf t)
  have h2 : (tableV V0 (ix3 b (pageOf t) 0)).toNat < 2560 := by rw [ht]; exact hp b _
  show Host.gather (pageDims 64 _) (V0 (Proc.devRef .tc main_arg4) : S2560x64x64.Idx → EReal) (tableV V0) (Shape.reshapeEquiv shapeCasts_S64x32x64x64_S64x2048x64 (ix3 b t y)) = _
  rw [e, gather_pages 64 _ _ _ _ _ _ _ h2]
  simp only [ht]
end

end Cert.ReferenceIdeal.Hand

end
-- ==== Proof.Val.Ref.lean ====
/-
  The reference's two results, entry by entry, are the attention output and the logarithm of the sum of the exponentials.
-/
module

public import proofs.«01_k».proof.Proof.Val.RefIn
public import proofs.«01_k».proof.Proof.Val.Pay

@[expose] public section

set_option maxRecDepth 16384
set_option maxHeartbeats 1000000

noncomputable section

namespace Cert.ReferenceIdeal.Hand

open Cert.ReferenceIdeal Cert.ReferenceIdeal.Gen Cert.ReferenceIdeal.Value Decode
open Idealize.ShloMosaic Idealize.ShloMosaic.TcCoe Idealize.ShloMosaic.StableHlo

/-! ## The reference's lines, over the arrays they read -/

section
variable (x : FVec Ideal S64x1x32x512 .bf16) (q : FVec Ideal S64x1x32x64 .bf16) (kv : FVec Ideal S64x2048x512 .bf16) (sc : FVec Ideal S64x2048 .f32)
  (kr : FVec Ideal S64x2048x64 .bf16) (l : IVec S64 32) (cn : FVec Ideal S64x1x512 .bf16) (cs : FVec Ideal S64x1 .f32) (kn : FVec Ideal S64x1x64 .bf16)
  (s : FVec Ideal S64x1x32x2048 .f32) (n : FVec Ideal S64x1x32x1 .f32) (top tot : FVec Ideal S64x1x32 .f32)

/-- The cached tokens' scores, and the fresh ones'. -/
def scoresT : FVec Ideal S64x1x32x2048 .f32 :=
  select (broadcastInDim S64x1x32x2048 ![0, 1, 2, 3] bcast_S64x1x1x2048_S64x1x32x2048_0_1_2_3 (broadcastInDim S64x1x1x2048 ![0, 3] bcast_S64x2048_S64x1x1x2048_0_3 (cmpi .slt (broadcastInDim S64x2048 ![0, 1] bcast_S1x2048_S64x2048_0_1 (broadcastInDim S1x2048 ![1] bcast_S2048_S1x2048_1 (iotaInDim S2048 32 0))) (broadcastInDim S64x2048 ![0, 1] bcast_S64x1_S64x2048_0_1 (broadcastInDim S64x1 ![0] bcast_S64_S64x1_0 l))))) (mulf (addf (mulf (Host.dotGeneral dot_S64x1x32x512_S64x2048x512_S64x1x32x2048_3_2_12_1_0_0 none x kv) (broadcastInDim S64x1x32x2048 ![0, 1, 2, 3] bcast_S64x1x1x2048_S64x1x32x2048_0_1_2_3 (broadcastInDim S64x1x1x2048 ![0, 3] bcast_S64x2048_S64x1x1x2048_0_3 sc))) (Host.dotGeneral dot_S64x1x32x64_S64x2048x64_S64x1x32x2048_3_2_12_1_0_0 none q kr)) (broadcastInDim S64x1x32x2048 ![] bcast_S_S64x1x32x2048 (constant S_ .f32 0x3D93CD3A#32))) (broadcastInDim S64x1x32x2048 ![] bcast_S_S64x1x32x2048 (id (constant S_ .f32 0xFF800000#32)))
def scoreT : FVec Ideal S64x1x32x1 .f32 :=
  select (broadcastInDim S64x1x32x1 ![0, 1, 2, 3] bcast_S1x1x1x1_S64x1x32x1_0_1_2_3 (broadcastInDim S1x1x1x1 ![1, 3] bcast_S1x1_S1x1x1x1_1_3 (cmpi .sge (broadcastInDim S1x1 ![0] bcast_S1_S1x1_0 (iotaInDim S1 32 0)) (broadcastInDim S1x1 ![1] bcast_S1_S1x1_1 (iotaInDim S1 32 0))))) (mulf (addf (mulf (Host.dotGeneral dot_S64x1x32x512_S64x1x512_S64x1x32x1_3_2_12_1_0_0 none x cn) (broadcastInDim S64x1x32x1 ![0, 1, 2, 3] bcast_S64x1x1x1_S64x1x32x1_0_1_2_3 (broadcastInDim S64x1x1x1 ![0, 3] bcast_S64x1_S64x1x1x1_0_3 cs))) (Host.dotGeneral dot_S64x1x32x64_S64x1x64_S64x1x32x1_3_2_12_1_0_0 none q kn)) (broadcastInDim S64x1x32x1 ![] bcast_S_S64x1x32x1 (constant S_ .f32 0x3D93CD3A#32))) (broadcastInDim S64x1x32x1 ![] bcast_S_S64x1x32x1 (id (constant S_ .f32 0xFF800000#32)))
/-- The largest score, the sum of the weights, and the output. -/
def topT : FVec Ideal S64x1x32 .f32 :=
  maximumf (Host.reduce FloatOps.maximumf s (constant S_ .f32 0xFF800000#32) reducesTo_S64x1x32x2048_S64x1x32_d3 h_S_) (Host.reduce FloatOps.maximumf n (constant S_ .f32 0xFF800000#32) reducesTo_S64x1x32x1_S64x1x32_d3 h_S_)
def totT : FVec Ideal S64x1x32 .f32 :=
  addf (Host.reduceAdd (Host.exp (subf s (broadcastInDim S64x1x32x2048 ![0, 1, 2, 3] bcast_S64x1x32x1_S64x1x32x2048_0_1_2_3 (broadcastInDim S64x1x32x1 ![0, 1, 2] bcast_S64x1x32_S64x1x32x1_0_1_2 top)))) (constant S_ .f32 0x00000000#32) reducesTo_S64x1x32x2048_S64x1x32_d3 h_S_) (Host.reduceAdd (Host.exp (subf n (broadcastInDim S64x1x32x1 ![0, 1, 2] bcast_S64x1x32_S64x1x32x1_0_1_2 top))) (constant S_ .f32 0x00000000#32) reducesTo_S64x1x32x1_S64x1x32_d3 h_S_)
def outT : FVec Ideal S64x1x32x512 .bf16 :=
  truncf .bf16 (Host.divf (addf (Host.dotGeneral dot_S64x1x32x2048_S64x2048x512_S64x1x32x512_3_1_12_2_0_0 none (truncf .bf16 (mulf (Host.exp (subf s (broadcastInDim S64x1x32x2048 ![0, 1, 2, 3] bcast_S64x1x32x1_S64x1x32x2048_0_1_2_3 (broadcastInDim S64x1x32x1 ![0, 1, 2] bcast_S64x1x32_S64x1x32x1_0_1_2 top)))) (broadcastInDim S64x1x32x2048 ![0, 1, 2, 3] bcast_S64x1x1x2048_S64x1x32x2048_0_1_2_3 (broadcastInDim S64x1x1x2048 ![0, 3] bcast_S64x2048_S64x1x1x2048_0_3 sc))) bitsLt_bf16_f32) kv) (Host.dotGeneral dot_S64x1x32x1_S64x1x512_S64x1x32x512_3_1_12_2_0_0 none (truncf .bf16 (mulf (Host.exp (subf n (broadcastInDim S64x1x32x1 ![0, 1, 2] bcast_S64x1x32_S64x1x32x1_0_1_2 top))) (broadcastInDim S64x1x32x1 ![0, 1, 2, 3] bcast_S64x1x1x1_S64x1x32x1_0_1_2_3 (broadcastInDim S64x1x1x1 ![0, 3] bcast_S64x1_S64x1x1x1_0_3 cs))) bitsLt_bf16_f32) cn)) (broadcastInDim S64x1x32x512 ![0, 1, 2, 3] bcast_S64x1x32x1_S64x1x32x512_0_1_2_3 (broadcastInDim S64x1x32x1 ![0, 1, 2] bcast_S64x1x32_S64x1x32x1_0_1_2 tot))) bitsLt_bf16_f32

theorem scores_at (b : Fin 64) (h : Fin 32) (t : Fin 2048) : scoresT x q kv sc kr l (ix4 b 0 h t)
    = Scalar.select (IntOp.cmpi .slt (BitVec.ofNat 32 t.val) (l (ix1 b)))
        (((∑ i, x (ix4 b 0 h i) * kv (ix3 b t i)) * sc (ix2 b t) + ∑ i, q (ix4 b 0 h i) * kr (ix3 b t i)) * cst) (Ideal.ofBits .f32 0xFF800000#32) := by
  pointwise [scoresT]
  rfl

theorem score_at (b : Fin 64) (h : Fin 32) : scoreT x q cn cs kn (ix4 b 0 h 0)
    = ((∑ i, x (ix4 b 0 h i) * cn (ix3 b 0 i)) * cs (ix2 b 0) + ∑ i, q (ix4 b 0 h i) * kn (ix3 b 0 i)) * cst := by
  pointwise [scoreT]
  exact if_pos (by decide)

/-- A row's maximum as a supremum. -/
theorem max_row {N : Nat} (v : (⟨4, ![64, 1, 32, N]⟩ : Shape).Idx → EReal) (hr : (⟨4, ![64, 1, 32, N]⟩ : Shape).ReducesTo [3] S64x1x32)
    (hu : 0 < S_.numel) (b : Fin 64) (h : Fin 32) :
    Host.reduce (FloatOps.maximumf : Ideal .f32 → Ideal .f32 → Ideal .f32) v (constant S_ .f32 0xFF800000#32) hr hu (ix3 b 0 h)
      = Finset.univ.sup fun t : Fin N => v (ix4 b 0 h t) := by
  refine (Host.reduce_eq_fold (FloatOps.maximumf : Ideal .f32 → Ideal .f32 → Ideal .f32) v _ hr hu (ix3 b 0 h)).trans ?_
  refine (hr.fold_fiber_r4_a3 (ix3 b 0 h) (FloatOps.maximumf : Ideal .f32 → Ideal .f32 → Ideal .f32) _ v).trans ?_
  rw [show (constant (F := Ideal) S_ .f32 0xFF800000#32) (Shape.Idx.first hu) = (⊥ : EReal) from Cert.KernelIdeal.Hand.ninf]
  rfl

theorem maximumf_at (u v : FVec Ideal S64x1x32 .f32) (i : S64x1x32.Idx) : maximumf u v i = max (u i) (v i) := rfl

theorem sup_one (f : Fin 1 → EReal) : Finset.univ.sup f = f 0 := by
  rw [Finset.univ_unique, Finset.sup_singleton]; rfl

theorem top_at (b : Fin 64) (h : Fin 32) : topT s n (ix3 b 0 h) = max (Finset.univ.sup fun t : Fin 2048 => s (ix4 b 0 h t)) (n (ix4 b 0 h 0)) := by
  unfold topT
  exact (maximumf_at _ _ _).trans (congrArg₂ max (max_row s _ _ b h) ((max_row n _ _ b h).trans (sup_one _)))

theorem tot_at (b : Fin 64) (h : Fin 32) :
    totT s n top (ix3 b 0 h) = ∑ t, wt (s (ix4 b 0 h t)) (top (ix3 b 0 h)) + wt (n (ix4 b 0 h 0)) (top (ix3 b 0 h)) := by
  pointwise [totT]
  rw [Fin.sum_univ_one]
  rfl

theorem out_at (b : Fin 64) (h : Fin 32) (j : Fin 512) : outT kv sc cn cs s n top tot (ix4 b 0 h j)
    = Ideal.div (∑ t, wt (s (ix4 b 0 h t)) (top (ix3 b 0 h)) * sc (ix2 b t) * kv (ix3 b t j)
        + wt (n (ix4 b 0 h 0)) (top (ix3 b 0 h)) * cs (ix2 b 0) * cn (ix3 b 0 j)) (tot (ix3 b 0 h)) := by
  pointwise [outT]
  rw [Fin.sum_univ_one]
  rfl
end

theorem sup_fin (n : ℕ) (f : ℕ → EReal) : (Finset.univ.sup fun t : Fin n => f t.val) = (Finset.range n).sup f :=
  le_antisymm (Finset.sup_le fun t _ => Finset.le_sup (f := f) (Finset.mem_range.mpr t.isLt))
    (Finset.sup_le fun t ht => Finset.le_sup (f := fun t : Fin n => f t.val) (Finset.mem_univ (⟨t, Finset.mem_range.mp ht⟩ : Fin n)))

/-- The logarithm of the sum of the exponentials. -/
def lseT (top tot : FVec Ideal S64x1x32 .f32) : FVec Ideal S64x1x32 .f32 := addf top (Host.log tot)

theorem lse_at (top tot : FVec Ideal S64x1x32 .f32) (i : S64x1x32.Idx) : lseT top tot i = top i + Ideal.log (tot i) := rfl

/-! ## The results -/

section
variable (V0 : Valuation τ sig (Elt Ideal))

/-- The inputs entry by entry, as the reference holds them. -/
def datV : Data where
  X b h x := (V0 (Proc.devRef .tc main_arg0) : S64x1x32x512.Idx → EReal) (ix4 b 0 h x)
  Q b h y := (V0 (Proc.devRef .tc main_arg1) : S64x1x32x64.Idx → EReal) (ix4 b 0 h y)
  KV g r x := (V0 (Proc.devRef .tc main_v0_0) : S2560x64x512.Idx → EReal) (ix3 g r x)
  SC g r := (V0 (Proc.devRef .tc main_arg3) : S2560x64.Idx → EReal) (ix2 g r)
  KR g r y := (V0 (Proc.devRef .tc main_arg4) : S2560x64x64.Idx → EReal) (ix3 g r y)
  PT b j := (V0 (Proc.devRef .tc main_arg5) : S64x32.Idx → BitVec 32) (ix2 b j)
  L b := (V0 (Proc.devRef .tc main_arg6) : S64.Idx → BitVec 32) (ix1 b)
  CN b x := (V0 (Proc.devRef .tc main_v0_1) : S64x1x512.Idx → EReal) (ix3 b 0 x)
  CS b := (V0 (Proc.devRef .tc main_arg8) : S64x1.Idx → EReal) (ix2 b 0)
  KN b y := (V0 (Proc.devRef .tc main_arg9) : S64x1x64.Idx → EReal) (ix3 b 0 y)

variable (hp : ∀ b j, ((V0 (Proc.devRef .tc main_arg5) : S64x32.Idx → BitVec 32) (ix2 b j)).toNat < 2560)
include hp

theorem page_at (b : Fin 64) (t : Fin 2048) : (datV V0).page b t.val = ⟨_, hp b (pageOf t)⟩ := by
  have e : (⟨t.val / 64 % 32, Nat.mod_lt _ (by norm_num)⟩ : Fin 32) = pageOf t := Fin.ext (by show t.val / 64 % 32 = t.val / 64; omega)
  refine Fin.ext ?_
  show ((datV V0).PT b ⟨t.val / 64 % 32, _⟩).toNat % 2560 = _
  rw [e]
  exact Nat.mod_eq_of_lt (hp b (pageOf t))

theorem kv_dat (b : Fin 64) (t : Fin 2048) (x : Fin 512) :
    (res_main_v8 V0 : S64x2048x512.Idx → EReal) (ix3 b t x) = (datV V0).KV ((datV V0).page b t.val) (Data.row t.val) x := by
  rw [page_at V0 hp]; exact kv_at V0 hp b t x
theorem sc_dat (b : Fin 64) (t : Fin 2048) :
    (res_main_v16 V0 : S64x2048.Idx → EReal) (ix2 b t) = (datV V0).SC ((datV V0).page b t.val) (Data.row t.val) := by
  rw [page_at V0 hp]; exact sc_at V0 hp b t
theorem kr_dat (b : Fin 64) (t : Fin 2048) (y : Fin 64) : ropeV V0 (ix3 b t y) = (datV V0).KR ((datV V0).page b t.val) (Data.row t.val) y := by
  rw [page_at V0 hp]; exact kr_at V0 hp b t y

/-- The scores, the largest and the sum of the weights are those of the inputs. -/
theorem scores_dat (b : Fin 64) (h : Fin 32) (t : Fin 2048) : (res_main_v40 V0 : S64x1x32x2048.Idx → EReal) (ix4 b 0 h t) = (datV V0).sc b h t.val := by
  refine (scores_at (V0 (Proc.devRef .tc main_arg0)) (V0 (Proc.devRef .tc main_arg1)) (res_main_v8 V0) (res_main_v16 V0) (ropeV V0) (V0 (Proc.devRef .tc main_arg6)) b h t).trans ?_
  simp only [kv_dat V0 hp, sc_dat V0 hp, kr_dat V0 hp]
  rw [Cert.KernelIdeal.Hand.ninf]
  exact if_congr ((slt_iff _ _).trans (by rw [W_toInt (show t.val < 2 ^ 31 by omega)]; rfl)) rfl rfl

omit hp in
theorem score_dat (b : Fin 64) (h : Fin 32) : (res_main_v55 V0 : S64x1x32x1.Idx → EReal) (ix4 b 0 h 0) = (datV V0).sn b h :=
  score_at (V0 (Proc.devRef .tc main_arg0)) (V0 (Proc.devRef .tc main_arg1)) (V0 (Proc.devRef .tc main_v0_1)) (V0 (Proc.devRef .tc main_arg8)) (V0 (Proc.devRef .tc main_arg9)) b h

theorem top_dat (b : Fin 64) (h : Fin 32) : (res_main_v58 V0 : S64x1x32.Idx → EReal) (ix3 b 0 h) = (datV V0).top b h := by
  refine (top_at (res_main_v40 V0) (res_main_v55 V0) b h).trans ?_
  rw [show (fun t : Fin 2048 => (res_main_v40 V0 : S64x1x32x2048.Idx → EReal) (ix4 b 0 h t)) = fun t => (datV V0).sc b h t.val from
    funext fun t => scores_dat V0 hp b h t, sup_fin, show (res_main_v55 V0 : S64x1x32x1.Idx → EReal) (ix4 b 0 h 0) = _ from score_dat V0 b h]
  exact max_comm _ _

theorem tot_dat (b : Fin 64) (h : Fin 32) : (res_main_v68 V0 : S64x1x32.Idx → EReal) (ix3 b 0 h) = (datV V0).tot b h := by
  refine (tot_at (res_main_v40 V0) (res_main_v55 V0) (res_main_v58 V0) b h).trans ?_
  rw [show (res_main_v58 V0 : S64x1x32.Idx → EReal) (ix3 b 0 h) = _ from top_dat V0 hp b h,
    show (res_main_v55 V0 : S64x1x32x1.Idx → EReal) (ix4 b 0 h 0) = _ from score_dat V0 b h, add_comm]
  refine congrArg₂ (· + ·) (mul_one _).symm ?_
  rw [Finset.sum_range]
  exact Finset.sum_congr rfl fun t _ => by rw [scores_dat V0 hp b h t, mul_one]

/-- The reference's logarithm of the sum of the exponentials. -/
theorem lse_dat (b : Fin 64) (h : Fin 32) :
    lseT (res_main_v58 V0) (res_main_v68 V0) (ix3 b 0 h) = (datV V0).lse b h := by
  refine (lse_at (res_main_v58 V0) (res_main_v68 V0) (ix3 b 0 h)).trans ?_
  exact congrArg₂ (fun a c => a + Ideal.log c) (top_dat V0 hp b h) (tot_dat V0 hp b h)

/-- The reference's attention output. -/
theorem out_dat (b : Fin 64) (h : Fin 32) (j : Fin 512) :
    outT (res_main_v8 V0) (res_main_v16 V0) (V0 (Proc.devRef .tc main_v0_1)) (V0 (Proc.devRef .tc main_arg8)) (res_main_v40 V0) (res_main_v55 V0) (res_main_v58 V0)
      (res_main_v68 V0) (ix4 b 0 h j) = (datV V0).out b h j := by
  refine (out_at _ _ _ _ _ _ _ _ b h j).trans ?_
  rw [show (res_main_v58 V0 : S64x1x32.Idx → EReal) (ix3 b 0 h) = _ from top_dat V0 hp b h,
    show (res_main_v68 V0 : S64x1x32.Idx → EReal) (ix3 b 0 h) = _ from tot_dat V0 hp b h,
    show (res_main_v55 V0 : S64x1x32x1.Idx → EReal) (ix4 b 0 h 0) = _ from score_dat V0 b h, add_comm]
  refine congrArg (Ideal.div · _) (congrArg₂ (· + ·) (mul_assoc _ _ _) ?_)
  rw [Finset.sum_range]
  refine Finset.sum_congr rfl fun t _ => ?_
  rw [scores_dat V0 hp b h t, sc_dat V0 hp, kv_dat V0 hp]
  exact mul_assoc _ _ _
end

end Cert.ReferenceIdeal.Hand

end
-- ==== Proof.Val.Both.lean ====
/-
  The reference's two results are the kernel's: from equal arguments the two programs compute the same attention data, and both
  results of both are that data's output and logarithm of the sum of the exponentials.
-/
module

public import proofs.«01_k».proof.Proof.Val.Launch
public import proofs.«01_k».proof.Proof.Val.Ref
public import proofs.«01_k».proof.Proof.Gen.ReferenceIdeal.Run

@[expose] public section

set_option maxRecDepth 16384

noncomputable section

namespace Decode

open Cert.ReferenceIdeal Cert.ReferenceIdeal.Gen Cert.ReferenceIdeal.Value
open Idealize.ShloMosaic Idealize.ShloMosaic.TcCoe Idealize.ShloMosaic.StableHlo

/-- The attention data of the ten arguments. -/
def dat10 (x : S64x1x32x512.Idx → EReal) (q : S64x1x32x64.Idx → EReal) (kv : S2560x64x512.Idx → EReal) (sc : S2560x64.Idx → EReal)
    (kr : S2560x64x64.Idx → EReal) (pt : S64x32.Idx → BitVec 32) (l : S64.Idx → BitVec 32) (cn : S64x1x512.Idx → EReal) (cs : S64x1.Idx → EReal)
    (kn : S64x1x64.Idx → EReal) : Data where
  X b h x' := x (ix4 b 0 h x')
  Q b h y := q (ix4 b 0 h y)
  KV g r x' := kv (ix3 g r x')
  SC g r := sc (ix2 g r)
  KR g r y := kr (ix3 g r y)
  PT b j := pt (ix2 b j)
  L b := l (ix1 b)
  CN b x' := cn (ix3 b 0 x')
  CS b := cs (ix2 b 0)
  KN b y := kn (ix3 b 0 y)

/-- Two data are equal if their ten fields are. -/
theorem Data.of_fields {D E : Data} (h0 : D.X = E.X) (h1 : D.Q = E.Q) (h2 : D.KV = E.KV) (h3 : D.SC = E.SC) (h4 : D.KR = E.KR) (h5 : D.PT = E.PT)
    (h6 : D.L = E.L) (h7 : D.CN = E.CN) (h8 : D.CS = E.CS) (h9 : D.KN = E.KN) : D = E := by
  cases D; cases E
  dsimp only at h0 h1 h2 h3 h4 h5 h6 h7 h8 h9
  subst h0 h1 h2 h3 h4 h5 h6 h7 h8 h9
  rfl

section
variable (m : (ℓ : Loc nD τ sig) → Buf (Elt Ideal) ℓ) (c : Dev nD)

/-- The reference's data is that of its arguments. -/
theorem datV_eq : Cert.ReferenceIdeal.Hand.datV (exitV m c)
    = dat10 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) :=
  Data.of_fields
    (funext fun b => funext fun h => funext fun x => congrFun (exit_main_arg0 m c) (ix4 b 0 h x))
    (funext fun b => funext fun h => funext fun y => congrFun (exit_main_arg1 m c) (ix4 b 0 h y))
    (funext fun g => funext fun r => funext fun x => congrFun ((exit_main_v0_0 m c).trans (Cert.ReferenceIdeal.Hand.reg_pool m c)) (ix3 g r x))
    (funext fun g => funext fun r => congrFun (exit_main_arg3 m c) (ix2 g r))
    (funext fun g => funext fun r => funext fun y => congrFun (exit_main_arg4 m c) (ix3 g r y))
    (funext fun b => funext fun j => congrFun (exit_main_arg5 m c) (ix2 b j))
    (funext fun b => congrFun (exit_main_arg6 m c) (ix1 b))
    (funext fun b => funext fun x => congrFun ((exit_main_v0_1 m c).trans (Cert.ReferenceIdeal.Hand.reg_new m c)) (ix3 b 0 x))
    (funext fun b => congrFun (exit_main_arg8 m c) (ix2 b 0))
    (funext fun b => funext fun y => congrFun (exit_main_arg9 m c) (ix3 b 0 y))

/-- The reference ends with its data's output and logarithm, if its page words lie in the pool. -/
theorem ref_value (ρ : Dev nD → PrngReg) (hp : ∀ c : Dev nD, ∀ b j, ((m ((c.tc : Thread nD τ).loc main_arg5) : S64x32.Idx → BitVec 32) (ix2 b j)).toNat < 2560) :
    θ_run defs (onTc (τ := τ) (main (F := Ideal))) ⟨m, fun _ => 0, ρ⟩ fun r => ∀ c : Dev nD,
      r.2.mem ((c.tc : Thread nD τ).loc main_v92) = (fun i : S64x1x32x512.Idx => (Cert.ReferenceIdeal.Hand.datV (exitV m c)).out (i 0) (i 2) (i 3))
      ∧ r.2.mem ((c.tc : Thread nD τ).loc main_v70) = (fun i : S64x1x32.Idx => (Cert.ReferenceIdeal.Hand.datV (exitV m c)).lse (i 0) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ⟨(h c).1.trans (funext fun i => ?_), (h c).2.1.trans (funext fun i => ?_), (h c).2.2⟩) (run m ρ)
  · have e : i = (ix4 (i 0) 0 (i 2) (i 3) : S64x1x32x512.Idx) := by
      funext a
      match a with
      | ⟨0, _⟩ => rfl
      | ⟨1, _⟩ => exact Subsingleton.elim (α := Fin 1) _ _
      | ⟨2, _⟩ => rfl
      | ⟨3, _⟩ => rfl
    have hx : ∀ b j, ((exitV m c (Proc.devRef .tc main_arg5) : S64x32.Idx → BitVec 32) (ix2 b j)).toNat < 2560 := fun b j => by
      rw [exit_main_arg5 m c]; exact hp c b j
    have k := Cert.ReferenceIdeal.Hand.out_dat (exitV m c) hx (i 0) (i 2) (i 3)
    rw [← e] at k
    unfold Cert.ReferenceIdeal.Hand.outT at k
    exact k
  · have e : i = (ix3 (i 0) 0 (i 2) : S64x1x32.Idx) := by
      funext a
      match a with
      | ⟨0, _⟩ => rfl
      | ⟨1, _⟩ => exact Subsingleton.elim (α := Fin 1) _ _
      | ⟨2, _⟩ => rfl
    have hx : ∀ b j, ((exitV m c (Proc.devRef .tc main_arg5) : S64x32.Idx → BitVec 32) (ix2 b j)).toNat < 2560 := fun b j => by
      rw [exit_main_arg5 m c]; exact hp c b j
    have k := Cert.ReferenceIdeal.Hand.lse_dat (exitV m c) hx (i 0) (i 2)
    rw [← e] at k
    unfold Cert.ReferenceIdeal.Hand.lseT at k
    exact k
end

section
variable (m : (ℓ : Loc Cert.KernelIdeal.nD Cert.KernelIdeal.τ Cert.KernelIdeal.sig) → Buf (Elt Ideal) ℓ) (c : Dev Cert.KernelIdeal.nD)

/-- The kernel's data is that of its arguments. -/
theorem datK_eq : Cert.KernelIdeal.Hand.datK m c
    = dat10 (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  refine Data.of_fields ?_ ?_ rfl rfl rfl ?_ ?_ rfl rfl rfl
  · funext b h x
    have e : Shape.reshapeEquiv Cert.KernelIdeal.Gen.facts.shapeCasts_S64x1x32x512_S64x32x512 (ix3 b h x) = (ix4 b 0 h x : S64x1x32x512.Idx) := by pointwise
    exact congrArg (m ((c.tc : Thread Cert.KernelIdeal.nD Cert.KernelIdeal.τ).loc Cert.KernelIdeal.main_arg0) : S64x1x32x512.Idx → EReal) e
  · funext b h y
    have e : Shape.reshapeEquiv Cert.KernelIdeal.Gen.facts.shapeCasts_S64x1x32x64_S64x32x64 (ix3 b h y) = (ix4 b 0 h y : S64x1x32x64.Idx) := by pointwise
    exact congrArg (m ((c.tc : Thread Cert.KernelIdeal.nD Cert.KernelIdeal.τ).loc Cert.KernelIdeal.main_arg1) : S64x1x32x64.Idx → EReal) e
  · funext b j
    exact dif_pos ⟨b.isLt, j.isLt⟩
  · funext b
    exact dif_pos b.isLt
end

end Decode

end
-- ==== Proof.lean ====
/-
  The proof of the certificate's claim. The two kernels' frames are in Proof/KB/ (the kernel as it is) and Proof/KI/ (the kernel
  over the reals), the precondition is read in Proof/Pre.lean, the reference's frame is the generated one, and the two programs' results
  are compared in Proof/Val/.
-/
module

public import proofs.«01_k».proof.Defs
public import proofs.«01_k».proof.Proof.Pre
public import proofs.«01_k».proof.Proof.KI.Frame
public import proofs.«01_k».proof.Proof.KB.Frame
public import proofs.«01_k».proof.Proof.Gen.ReferenceIdeal.Frame
public import proofs.«01_k».proof.Proof.Val.Both

@[expose] public section

noncomputable section

namespace Cert.Proof

open Idealize.ShloMosaic Idealize.SL.Sem

/-- The kernel ends, its arguments unchanged, its semaphores at zero. -/
theorem frame_Kernel : @quiescent_Kernel Cert.Kernel.Gen.facts Decode.preFacts :=
  letI := Cert.Kernel.Gen.facts; letI := Decode.preFacts
  fun m g h => Cert.Kernel.Hand.frame m g fun c => Decode.addressable_kb m c (h c)

/-- So does the kernel over the reals. -/
theorem frame_KernelIdeal : @quiescent_KernelIdeal Cert.KernelIdeal.Gen.facts Decode.preFacts :=
  letI := Cert.KernelIdeal.Gen.facts; letI := Decode.preFacts
  fun m g h => Cert.KernelIdeal.Hand.frame m g fun c => Decode.addressable_ki m c (h c)

/-- So does the reference, from any memory. -/
theorem frame_ReferenceIdeal : @quiescent_ReferenceIdeal Cert.ReferenceIdeal.Gen.facts :=
  letI := Cert.ReferenceIdeal.Gen.facts
  fun m g _ => Cert.ReferenceIdeal.Gen.frame m g

/-- In particular from one that satisfies the precondition. -/
theorem frame_ReferenceIdeal_pre : @quiescent_ReferenceIdeal_pre_addressable Cert.ReferenceIdeal.Gen.facts Decode.preFacts :=
  letI := Cert.ReferenceIdeal.Gen.facts; letI := Decode.preFacts
  fun m g _ => Cert.ReferenceIdeal.Gen.frame m g

/-- From equal arguments the kernel over the reals and the reference end with the same two results. -/
theorem algebraic : @algebraic_KernelIdeal_ReferenceIdeal Cert.KernelIdeal.Gen.facts Cert.ReferenceIdeal.Gen.facts Decode.preFacts := by
  letI := Cert.KernelIdeal.Gen.facts; letI := Cert.ReferenceIdeal.Gen.facts; letI := Decode.preFacts
  intro m g m' g' hpre hargs
  have ha : ∀ c, Cert.KernelIdeal.Hand.Addressable m c := fun c => Decode.addressable_ki m c (hpre c)
  have hd : ∀ c : Dev Cert.KernelIdeal.nD, Cert.ReferenceIdeal.Hand.datV (Cert.ReferenceIdeal.Value.exitV m' c) = Cert.KernelIdeal.Hand.datK m c := fun c => by
    obtain ⟨h0, h1, h2, h3, h4, h5, h6, h7, h8, h9⟩ := hargs c
    rw [Decode.datV_eq, Decode.datK_eq, h0, h1, h2, h3, h4, h5, h6, h7, h8, h9]
  have hp : ∀ c : Dev Cert.ReferenceIdeal.nD, ∀ b j,
      ((m' ((c.tc : Thread Cert.ReferenceIdeal.nD Cert.ReferenceIdeal.τ).loc Cert.ReferenceIdeal.main_arg5) : Cert.ReferenceIdeal.S64x32.Idx → BitVec 32) (ValueIdx.ix2 b j)).toNat < 2560 := fun c b j => by
    have h := (ha c).pages b.val j.val b.isLt j.isLt
    unfold Cert.KernelIdeal.Hand.pageW at h
    rw [dif_pos ⟨b.isLt, j.isLt⟩] at h
    rw [(hargs c).2.2.2.2.2.1]
    exact h
  refine ⟨Cert.KernelIdeal.Hand.outG m, Cert.KernelIdeal.Hand.lseG m, Cert.KernelIdeal.Hand.value m g ha, ?_⟩
  refine (θ_run _ _ _).mono (fun r h c => ⟨(h c).1.trans ?_, (h c).2.1.trans ?_, (h c).2.2⟩) (Decode.ref_value m' g' hp)
  · rw [hd c]; rfl
  · rw [hd c]; rfl

theorem claim : Cert.Claim :=
  ⟨Cert.Kernel.Gen.facts, Cert.KernelIdeal.Gen.facts, Cert.ReferenceIdeal.Gen.facts, Decode.preFacts,
    frame_Kernel, frame_KernelIdeal, frame_ReferenceIdeal, frame_ReferenceIdeal_pre,
    IdealRules.named_const.statement Cert.KernelIdeal.κ "mask" .f32 0xF149F2CA#32 ⊥ rfl, algebraic⟩

end Cert.Proof

end
